-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_routed : Cert.Pre_routed.Facts] (m : (ℓ : Loc Cert.Reference.nD Cert.Reference.τ Cert.Reference.sig) → Buf (Elt Bits) ℓ) : Prop :=
  ∀ c : Dev Cert.Reference.nD,
    (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Kernel2 [hPre_tiled : Cert.Pre_tiled.Facts] (m : (ℓ : Loc Cert.Kernel2.nD Cert.Kernel2.τ Cert.Kernel2.sig) → Buf (Elt Bits) ℓ) : Prop :=
  ∀ c : Dev Cert.Kernel2.nD,
    (Cert.Pre_tiled.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_tiled : Cert.Pre_tiled.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiled.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiled [hPre_tiled : Cert.Pre_tiled.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiled.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 [hPre_in_slots : Cert.Pre_in_slots.Facts] (m : (ℓ : Loc Cert.Kernel3.nD Cert.Kernel3.τ Cert.Kernel3.sig) → Buf (Elt Bits) ℓ) : Prop :=
  ∀ c : Dev Cert.Kernel3.nD,
    (Cert.Pre_in_slots.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_in_slots : Cert.Pre_in_slots.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_in_slots.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_in_slots [hPre_in_slots : Cert.Pre_in_slots.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_in_slots.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_routed : Cert.Pre_routed.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] [hPre_tiled : Cert.Pre_tiled.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_tiled : Cert.Pre_tiled.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_tiled [hReference2Ideal : Cert.Reference2Ideal.Facts] [hPre_tiled : Cert.Pre_tiled.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiled m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] [hPre_in_slots : Cert.Pre_in_slots.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_in_slots : Cert.Pre_in_slots.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_in_slots [hReference3Ideal : Cert.Reference3Ideal.Facts] [hPre_in_slots : Cert.Pre_in_slots.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_in_slots m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def bitexact_Kernel_Reference [hKernel : Cert.Kernel.Facts] [hReference : Cert.Reference.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_tiled : Cert.Pre_tiled.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "alpha" .f32 0x3F9837F0#32 ((Real.sqrt (Real.sqrt 2) : ℝ) : EReal)

def algebraic_Kernel3Ideal_Reference3Ideal [hKernel3Ideal : Cert.Kernel3Ideal.Facts] [hReference3Ideal : Cert.Reference3Ideal.Facts] [hPre_in_slots : Cert.Pre_in_slots.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  IdealRules.named_const.Statement Cert.Kernel4Ideal.κ "alpha" .f32 0x3F9837F0#32 ((Real.sqrt (Real.sqrt 2) : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v3_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v55_2)) (v1 : (c : Dev Cert.Kernel5Ideal.nD) → Buf (Elt Ideal) ((c.tc : Thread Cert.Kernel5Ideal.nD Cert.Kernel5Ideal.τ).loc Cert.Kernel5Ideal.main_v55_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v55_2) = v0 c
          ∧ r.2.mem ((c.tc : Thread Cert.Kernel5Ideal.nD Cert.Kernel5Ideal.τ).loc Cert.Kernel5Ideal.main_v55_3) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v10) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_routed : Cert.Pre_routed.Facts) (hPre_tiled : Cert.Pre_tiled.Facts) (hPre_in_slots : Cert.Pre_in_slots.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Reference (hReference := hReference) (hPre_routed := hPre_routed)
    ∧ quiescent_Kernel2 (hKernel2 := hKernel2) (hPre_tiled := hPre_tiled)
    ∧ quiescent_Kernel2Ideal (hKernel2Ideal := hKernel2Ideal) (hPre_tiled := hPre_tiled)
    ∧ quiescent_Reference2Ideal (hReference2Ideal := hReference2Ideal)
    ∧ quiescent_Reference2Ideal_pre_tiled (hReference2Ideal := hReference2Ideal) (hPre_tiled := hPre_tiled)
    ∧ quiescent_Kernel3 (hKernel3 := hKernel3) (hPre_in_slots := hPre_in_slots)
    ∧ quiescent_Kernel3Ideal (hKernel3Ideal := hKernel3Ideal) (hPre_in_slots := hPre_in_slots)
    ∧ quiescent_Reference3Ideal (hReference3Ideal := hReference3Ideal)
    ∧ quiescent_Reference3Ideal_pre_in_slots (hReference3Ideal := hReference3Ideal) (hPre_in_slots := hPre_in_slots)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ bitexact_Kernel_Reference (hKernel := hKernel) (hReference := hReference) (hPre_routed := hPre_routed)
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal) (hPre_tiled := hPre_tiled)
    ∧ preserves_Kernel3_Kernel3Ideal
    ∧ algebraic_Kernel3Ideal_Reference3Ideal (hKernel3Ideal := hKernel3Ideal) (hReference3Ideal := hReference3Ideal) (hPre_in_slots := hPre_in_slots)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_in_slots.lean ====
abbrev S32768 : Shape := ⟨1, ![32768]⟩
abbrev S69120x2048 : Shape := ⟨2, ![69120, 2048]⟩
abbrev S262144x128 : Shape := ⟨2, ![262144, 128]⟩
abbrev S32768x128 : Shape := ⟨2, ![32768, 128]⟩
abbrev S1024 : Shape := ⟨1, ![1024]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : IVec S32768 32) (main_arg1 : FVec F S69120x2048 .f32) (main_arg2 : FVec F S262144x128 .f32) (main_arg3 : FVec F S32768x128 .f32) (main_arg4 : FVec F S1024 .f32) (main_arg5 : FVec F S1024 .f32) : IVec S_ 1 :=
  let main_c : IVec S_ 32 := constantI S_ 32 0#32
  let main_v0 : IVec S32768 32 := broadcastInDim S32768 ![] bcast_S_S32768 main_c
  let main_v1 : IVec S32768 1 := cmpi .sge main_arg0 main_v0
  let main_c_0 : IVec S_ 32 := constantI S_ 32 69120#32
  let main_v2 : IVec S32768 32 := broadcastInDim S32768 ![] bcast_S_S32768 main_c_0
  let main_v3 : IVec S32768 1 := cmpi .slt main_arg0 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  main_v5
-- ==== Pre_routed.lean ====
abbrev S32768 : Shape := ⟨1, ![32768]⟩
abbrev S216 : Shape := ⟨1, ![216]⟩
abbrev S262144x128 : Shape := ⟨2, ![262144, 128]⟩
abbrev S69120 : Shape := ⟨1, ![69120]⟩
abbrev S216x320 : Shape := ⟨2, ![216, 320]⟩
abbrev S216x1 : Shape := ⟨2, ![216, 1]⟩
abbrev S_ : Shape := ⟨0, ![]⟩
abbrev S32768x1 : Shape := ⟨2, ![32768, 1]⟩
abbrev S69120x1 : Shape := ⟨2, ![69120, 1]⟩

class Facts : Prop where
  bcast_S216_S216x1_0 : S216.BroadcastsInDim S216x1 (![0] : Fin 1 → Fin S216x1.rank)
  bcast_S216x1_S216x320_0_1 : S216x1.BroadcastsInDim S216x320 (![0, 1] : Fin 2 → Fin S216x320.rank)
  shapeCasts_S216x320_S69120 : S216x320.ShapeCasts S69120
  bcast_S_S69120 : S_.BroadcastsInDim S69120 (![] : Fin 0 → Fin S69120.rank)
  bcast_S_S32768 : S_.BroadcastsInDim S32768 (![] : Fin 0 → Fin S32768.rank)
  bcast_S32768_S32768x1_0 : S32768.BroadcastsInDim S32768x1 (![0] : Fin 1 → Fin S32768x1.rank)
  reducesTo_S32768_S_d0 : S32768.ReducesTo [0] S_
  h_S_ : 0 < S_.numel
  bcast_S_S216 : S_.BroadcastsInDim S216 (![] : Fin 0 → Fin S216.rank)
  reducesTo_S216_S_d0 : S216.ReducesTo [0] S_
  bcast_S69120_S69120x1_0 : S69120.BroadcastsInDim S69120x1 (![0] : Fin 1 → Fin S69120x1.rank)
  reducesTo_S69120_S_d0 : S69120.ReducesTo [0] S_
  scatter_S69120_S32768x1_S32768_n_0_0_1_wf : ScatterDims.WF S69120 S32768x1 S32768 [] [0] [0] 1
  gather_S69120_S32768x1_S32768_n_0_n_n_0_1_1_wf : GatherDims.WF S69120 S32768x1 S32768 [] [0] [] [0] [] 1 ![1]
  gather_S32768_S69120x1_S69120_n_0_n_n_0_1_1_wf : GatherDims.WF S32768 S69120x1 S69120 [] [0] [] [0] [] 1 ![1]

variable [Facts]

def scatter_S69120_S32768x1_S32768_n_0_0_1 : ScatterDims S69120 S32768x1 S32768 where
  updateWindowDims := []
  insertedWindowDims := [0]
  scatterDimsToOperandDims := [0]
  indexVectorDim := 1
  wf := scatter_S69120_S32768x1_S32768_n_0_0_1_wf
def gather_S69120_S32768x1_S32768_n_0_n_n_0_1_1 : GatherDims S69120 S32768x1 S32768 where
  offsetDims := []
  collapsedSliceDims := [0]
  operandBatchingDims := []
  startIndicesBatchingDims := []
  startIndexMap := [0]
  indexVectorDim := 1
  sliceSizes := ![1]
  wf := gather_S69120_S32768x1_S32768_n_0_n_n_0_1_1_wf
def gather_S32768_S69120x1_S69120_n_0_n_n_0_1_1 : GatherDims S32768 S69120x1 S69120 where
  offsetDims := []
  collapsedSliceDims := [0]
  operandBatchingDims := []
  startIndicesBatchingDims := []
  startIndexMap := [0]
  indexVectorDim := 1
  sliceSizes := ![1]
  wf := gather_S32768_S69120x1_S69120_n_0_n_n_0_1_1_wf
def fn_part3 {F : FTy → Type} [FloatOps F] (main_v42 : IVec S32768 1) (main_v52 : IVec S69120 1) (main_v54 : IVec S_ 1) (main_c_15 : IVec S_ 1) : IVec S_ 1 :=
  let main_v55 : IVec S_ 1 := (fun x v => Host.reduce IntOp.andi x v reducesTo_S32768_S_d0 h_S_) main_v42 main_c_15
  let main_v56 : IVec S_ 1 := andi main_v54 main_v55
  let main_c_16 : IVec S_ 1 := constantI S_ 1 1#1
  let main_v57 : IVec S_ 1 := (fun x v => Host.reduce IntOp.andi x v reducesTo_S69120_S_d0 h_S_) main_v52 main_c_16
  let main_v58 : IVec S_ 1 := andi main_v56 main_v57
  main_v58

def fn_part2 {F : FTy → Type} [FloatOps F] (main_arg0 : IVec S32768 32) (main_v0 : IVec S69120 32) (main_v6 : IVec S69120 1) (main_v14 : IVec S69120 32) (main_v27 : IVec S_ 1) (main_v35 : IVec S32768 1) (main_c_10 : IVec S_ 32) : IVec S_ 1 :=
  let main_v36 : IVec S32768 32 := broadcastInDim S32768 ![] bcast_S_S32768 main_c_10
  let main_v37 : IVec S32768 1 := cmpi .slt main_arg0 main_v36
  let main_c_11 : IVec S_ 32 := constantI S_ 32 69120#32
  let main_v38 : IVec S32768 32 := broadcastInDim S32768 ![] bcast_S_S32768 main_c_11
  let main_v39 : IVec S32768 32 := addi main_arg0 main_v38
  let main_v40 : IVec S32768 32 := select main_v37 main_v39 main_arg0
  let main_v41 : IVec S32768x1 32 := broadcastInDim S32768x1 ![0] bcast_S32768_S32768x1_0 main_v40
  let main_v42 : IVec S32768 1 := (fun x i => Host.gather gather_S69120_S32768x1_S32768_n_0_n_n_0_1_1 x i) main_v6 main_v41
  let main_v43 : IVec S69120 1 := noti main_v6
  let main_c_12 : IVec S_ 32 := constantI S_ 32 0#32
  let main_v44 : IVec S69120 32 := broadcastInDim S69120 ![] bcast_S_S69120 main_c_12
  let main_v45 : IVec S69120 1 := cmpi .slt main_v14 main_v44
  let main_c_13 : IVec S_ 32 := constantI S_ 32 32768#32
  let main_v46 : IVec S69120 32 := broadcastInDim S69120 ![] bcast_S_S69120 main_c_13
  let main_v47 : IVec S69120 32 := addi main_v14 main_v46
  let main_v48 : IVec S69120 32 := select main_v45 main_v47 main_v14
  let main_v49 : IVec S69120x1 32 := broadcastInDim S69120x1 ![0] bcast_S69120_S69120x1_0 main_v48
  let main_v50 : IVec S69120 32 := (fun x i => Host.gather gather_S32768_S69120x1_S69120_n_0_n_n_0_1_1 x i) main_arg0 main_v49
  let main_v51 : IVec S69120 1 := cmpi .eq main_v50 main_v0
  let main_v52 : IVec S69120 1 := ori main_v43 main_v51
  let main_c_14 : IVec S_ 1 := constantI S_ 1 1#1
  let main_v53 : IVec S_ 1 := (fun x v => Host.reduce IntOp.andi x v reducesTo_S32768_S_d0 h_S_) main_v35 main_c_14
  let main_v54 : IVec S_ 1 := andi main_v27 main_v53
  let main_c_15 : IVec S_ 1 := constantI S_ 1 1#1
  fn_part3 (F := F) main_v42 main_v52 main_v54 main_c_15

def fn_part1 {F : FTy → Type} [FloatOps F] (main_arg0 : IVec S32768 32) (main_arg1 : IVec S216 32) (main_v0 : IVec S69120 32) (main_v1 : IVec S32768 32) (main_v6 : IVec S69120 1) (main_v14 : IVec S69120 32) (main_v16 : IVec S32768 1) (main_v18 : IVec S32768 1) : IVec S_ 1 :=
  let main_v19 : IVec S32768 1 := andi main_v16 main_v18
  let main_c_4 : IVec S_ 1 := constantI S_ 1 1#1
  let main_v20 : IVec S_ 1 := (fun x v => Host.reduce IntOp.andi x v reducesTo_S32768_S_d0 h_S_) main_v19 main_c_4
  let main_c_5 : IVec S_ 32 := constantI S_ 32 0#32
  let main_v21 : IVec S216 32 := broadcastInDim S216 ![] bcast_S_S216 main_c_5
  let main_v22 : IVec S216 1 := cmpi .sge main_arg1 main_v21
  let main_c_6 : IVec S_ 32 := constantI S_ 32 320#32
  let main_v23 : IVec S216 32 := broadcastInDim S216 ![] bcast_S_S216 main_c_6
  let main_v24 : IVec S216 1 := cmpi .sle main_arg1 main_v23
  let main_v25 : IVec S216 1 := andi main_v22 main_v24
  let main_c_7 : IVec S_ 1 := constantI S_ 1 1#1
  let main_v26 : IVec S_ 1 := (fun x v => Host.reduce IntOp.andi x v reducesTo_S216_S_d0 h_S_) main_v25 main_c_7
  let main_v27 : IVec S_ 1 := andi main_v20 main_v26
  let main_c_8 : IVec S_ 32 := constantI S_ 32 0#32
  let main_v28 : IVec S32768 32 := broadcastInDim S32768 ![] bcast_S_S32768 main_c_8
  let main_v29 : IVec S32768 1 := cmpi .slt main_arg0 main_v28
  let main_c_9 : IVec S_ 32 := constantI S_ 32 69120#32
  let main_v30 : IVec S32768 32 := broadcastInDim S32768 ![] bcast_S_S32768 main_c_9
  let main_v31 : IVec S32768 32 := addi main_arg0 main_v30
  let main_v32 : IVec S32768 32 := select main_v29 main_v31 main_arg0
  let main_v33 : IVec S32768x1 32 := broadcastInDim S32768x1 ![0] bcast_S32768_S32768x1_0 main_v32
  let main_v34 : IVec S32768 32 := (fun x i => Host.gather gather_S69120_S32768x1_S32768_n_0_n_n_0_1_1 x i) main_v14 main_v33
  let main_v35 : IVec S32768 1 := cmpi .eq main_v34 main_v1
  let main_c_10 : IVec S_ 32 := constantI S_ 32 0#32
  fn_part2 (F := F) main_arg0 main_v0 main_v6 main_v14 main_v27 main_v35 main_c_10

def fn {F : FTy → Type} [FloatOps F] (main_arg0 : IVec S32768 32) (main_arg1 : IVec S216 32) (main_arg2 : FVec F S262144x128 .f32) : IVec S_ 1 :=
  let main_v0 : IVec S69120 32 := iotaInDim S69120 32 0
  let main_v1 : IVec S32768 32 := iotaInDim S32768 32 0
  let main_v2 : IVec S216x320 32 := iotaInDim S216x320 32 1
  let main_v3 : IVec S216x1 32 := broadcastInDim S216x1 ![0] bcast_S216_S216x1_0 main_arg1
  let main_v4 : IVec S216x320 32 := broadcastInDim S216x320 ![0, 1] bcast_S216x1_S216x320_0_1 main_v3
  let main_v5 : IVec S216x320 1 := cmpi .slt main_v2 main_v4
  let main_v6 : IVec S69120 1 := shapeCast S69120 main_v5 shapeCasts_S216x320_S69120
  let main_c : IVec S_ 32 := constantI S_ 32 0#32
  let main_v7 : IVec S69120 32 := broadcastInDim S69120 ![] bcast_S_S69120 main_c
  let main_c_0 : IVec S_ 32 := constantI S_ 32 0#32
  let main_v8 : IVec S32768 32 := broadcastInDim S32768 ![] bcast_S_S32768 main_c_0
  let main_v9 : IVec S32768 1 := cmpi .slt main_arg0 main_v8
  let main_c_1 : IVec S_ 32 := constantI S_ 32 69120#32
  let main_v10 : IVec S32768 32 := broadcastInDim S32768 ![] bcast_S_S32768 main_c_1
  let main_v11 : IVec S32768 32 := addi main_arg0 main_v10
  let main_v12 : IVec S32768 32 := select main_v9 main_v11 main_arg0
  let main_v13 : IVec S32768x1 32 := broadcastInDim S32768x1 ![0] bcast_S32768_S32768x1_0 main_v12
  let main_v14 : IVec S69120 32 := (fun x i u => Host.scatter scatter_S69120_S32768x1_S32768_n_0_0_1 (fun _ b => b) x i u) main_v7 main_v13 main_v1
  let main_c_2 : IVec S_ 32 := constantI S_ 32 0#32
  let main_v15 : IVec S32768 32 := broadcastInDim S32768 ![] bcast_S_S32768 main_c_2
  let main_v16 : IVec S32768 1 := cmpi .sge main_arg0 main_v15
  let main_c_3 : IVec S_ 32 := constantI S_ 32 69120#32
  let main_v17 : IVec S32768 32 := broadcastInDim S32768 ![] bcast_S_S32768 main_c_3
  let main_v18 : IVec S32768 1 := cmpi .slt main_arg0 main_v17
  fn_part1 (F := F) main_arg0 main_arg1 main_v0 main_v1 main_v6 main_v14 main_v16 main_v18
-- ==== Pre_tiled.lean ====
abbrev S216 : Shape := ⟨1, ![216]⟩
abbrev S1 : Shape := ⟨1, ![1]⟩
abbrev S552960x128 : Shape := ⟨2, ![552960, 128]⟩
abbrev S32x1024x256 : Shape := ⟨3, ![32, 1024, 256]⟩
abbrev S32x256x1024 : Shape := ⟨3, ![32, 256, 1024]⟩
abbrev S_ : Shape := ⟨0, ![]⟩

class Facts : Prop where
  bcast_S_S216 : S_.BroadcastsInDim S216 (![] : Fin 0 → Fin S216.rank)
  reducesTo_S216_S_d0 : S216.ReducesTo [0] S_
  h_S_ : 0 < S_.numel
  shapeCasts_S1_S_ : S1.ShapeCasts S_

variable [Facts]

def fn_part1 {F : FTy → Type} [FloatOps F] (main_v12 : IVec S_ 1) (main_v14 : IVec S216 1) (main_v15 : IVec S216 32) (main_v16 : IVec S_ 32) : IVec S_ 1 :=
  let main_v17 : IVec S216 32 := broadcastInDim S216 ![] bcast_S_S216 main_v16
  let main_v18 : IVec S216 1 := cmpi .slt main_v15 main_v17
  let main_v19 : IVec S216 1 := ori main_v14 main_v18
  let main_c_6 : IVec S_ 1 := constantI S_ 1 1#1
  let main_v20 : IVec S_ 1 := (fun x v => Host.reduce IntOp.andi x v reducesTo_S216_S_d0 h_S_) main_v19 main_c_6
  let main_v21 : IVec S_ 1 := andi main_v12 main_v20
  main_v21

def fn {F : FTy → Type} [FloatOps F] (main_arg0 : IVec S216 32) (main_arg1 : IVec S216 32) (main_arg2 : IVec S216 32) (main_arg3 : IVec S1 32) (main_arg4 : FVec F S552960x128 .f32) (main_arg5 : FVec F S32x1024x256 .f32) (main_arg6 : FVec F S32x1024x256 .f32) (main_arg7 : FVec F S32x256x1024 .f32) : IVec S_ 1 :=
  let main_c : IVec S_ 32 := constantI S_ 32 0#32
  let main_v0 : IVec S216 32 := broadcastInDim S216 ![] bcast_S_S216 main_c
  let main_v1 : IVec S216 1 := cmpi .sge main_arg1 main_v0
  let main_c_0 : IVec S_ 32 := constantI S_ 32 32#32
  let main_v2 : IVec S216 32 := broadcastInDim S216 ![] bcast_S_S216 main_c_0
  let main_v3 : IVec S216 1 := cmpi .slt main_arg1 main_v2
  let main_v4 : IVec S216 1 := andi main_v1 main_v3
  let main_c_1 : IVec S_ 1 := constantI S_ 1 1#1
  let main_v5 : IVec S_ 1 := (fun x v => Host.reduce IntOp.andi x v reducesTo_S216_S_d0 h_S_) main_v4 main_c_1
  let main_c_2 : IVec S_ 32 := constantI S_ 32 0#32
  let main_v6 : IVec S216 32 := broadcastInDim S216 ![] bcast_S_S216 main_c_2
  let main_v7 : IVec S216 1 := cmpi .sge main_arg2 main_v6
  let main_c_3 : IVec S_ 32 := constantI S_ 32 32#32
  let main_v8 : IVec S216 32 := broadcastInDim S216 ![] bcast_S_S216 main_c_3
  let main_v9 : IVec S216 1 := cmpi .slt main_arg2 main_v8
  let main_v10 : IVec S216 1 := andi main_v7 main_v9
  let main_c_4 : IVec S_ 1 := constantI S_ 1 1#1
  let main_v11 : IVec S_ 1 := (fun x v => Host.reduce IntOp.andi x v reducesTo_S216_S_d0 h_S_) main_v10 main_c_4
  let main_v12 : IVec S_ 1 := andi main_v5 main_v11
  let main_c_5 : IVec S_ 32 := constantI S_ 32 0#32
  let main_v13 : IVec S216 32 := broadcastInDim S216 ![] bcast_S_S216 main_c_5
  let main_v14 : IVec S216 1 := cmpi .sle main_arg0 main_v13
  let main_v15 : IVec S216 32 := iotaInDim S216 32 0
  let main_v16 : IVec S_ 32 := shapeCast S_ main_arg3 shapeCasts_S1_S_
  fn_part1 (F := F) main_v12 main_v14 main_v15 main_v16
-- ==== Kernel.lean ====
abbrev S32768 : Shape := ⟨1, ![32768]⟩
abbrev S216 : Shape := ⟨1, ![216]⟩
abbrev S262144x128 : Shape := ⟨2, ![262144, 128]⟩
abbrev S552960x128 : Shape := ⟨2, ![552960, 128]⟩
abbrev S32768x128 : Shape := ⟨2, ![32768, 128]⟩
abbrev S2048x128 : Shape := ⟨2, ![2048, 128]⟩
abbrev S2 : Shape := ⟨1, ![2]⟩
abbrev S1 : Shape := ⟨1, ![1]⟩
abbrev S_ : Shape := ⟨0, ![]⟩
abbrev S1024x128 : Shape := ⟨2, ![1024, 128]⟩
abbrev S512x128 : Shape := ⟨2, ![512, 128]⟩
abbrev S256x128 : Shape := ⟨2, ![256, 128]⟩
abbrev S128x128 : Shape := ⟨2, ![128, 128]⟩
abbrev S64x128 : Shape := ⟨2, ![64, 128]⟩
abbrev S32x128 : Shape := ⟨2, ![32, 128]⟩
abbrev S16x128 : Shape := ⟨2, ![16, 128]⟩
abbrev S8x128 : Shape := ⟨2, ![8, 128]⟩

abbrev nBuf : Space → Nat
  | .hbm => 2
  | .vmem => 3
  | .smem => 2
  | _ => 0

abbrev bufTy : (tb : Table) → Fin (tcTables nBuf tb) → BufTy
  | .hbm, ⟨0, _⟩ => ⟨S262144x128, .f32⟩
  | .hbm, ⟨1, _⟩ => ⟨S552960x128, .f32⟩
  | .local _ .vmem, ⟨0, _⟩ => ⟨S32768x128, .f32⟩
  | .local _ .vmem, ⟨1, _⟩ => ⟨S32768x128, .f32⟩
  | .local _ .vmem, ⟨2, _⟩ => ⟨S2048x128, .f32⟩
  | .local _ .smem, ⟨0, _⟩ => ⟨S32768, .i32⟩
  | .local _ .smem, ⟨1, _⟩ => ⟨S216, .i32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg2 : Ref sig .tc := ⟨.hbm, 0, rfl⟩
abbrev main_v0 : Ref sig .tc := ⟨.hbm, 1, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![8], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_8 : BitVec 32 := 0#32
  let c216_i32 : BitVec 32 := 216#32
  let v15 : BitVec 32 := Scalar.addi c0_i32_8 c216_i32
  let c1_i32_9 : BitVec 32 := 1#32
  ⟨c0_i32_8, v15, c1_i32_9⟩
def k0_off1 (k0_t1 : Fin k0_t1_loop.trips) : Fin 1 → Nat :=
  let c0_i32_8 : BitVec 32 := 0#32
  let c1_i32_9 : BitVec 32 := 1#32
  let arg7 : BitVec 32 := Scf.iv c0_i32_8 c1_i32_9 k0_t1
  let v16 : Index := Scalar.indexCast arg7
  ![v16.toNat]
def k0_mult1 (k0_t1 : Fin k0_t1_loop.trips) (v17 : BitVec 32) : BitVec 32 :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c8_i32_47 : BitVec 32 := 8#32
  let v73 : BitVec 32 := Scalar.muli v20 c8_i32_47
  v73
def k0_cond2 (v17 : BitVec 32) : BitVec 1 :=
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let v23 : BitVec 32 := Scalar.extui v22
  let c0_i32_13 : BitVec 32 := 0#32
  let v24 : BitVec 1 := Scalar.cmpi .ne v23 c0_i32_13
  v24

def k0_off2 (k0_t1 : Fin k0_t1_loop.trips) (v17 : BitVec 32) : Fin 2 → Nat :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c8_i32_47 : BitVec 32 := 8#32
  let v73 : BitVec 32 := Scalar.muli v20 c8_i32_47
  let v74 : BitVec 32 := v73
  let c0_i32_49 : BitVec 32 := 0#32
  ![v74.toNat, 0]
def k0_mult2 (k0_t1 : Fin k0_t1_loop.trips) (v17 : BitVec 32) : BitVec 32 :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let c256_i32_14 : BitVec 32 := 256#32
  let c0_i32_15 : BitVec 32 := 0#32
  let v25 : BitVec 32 := Scalar.select v22 c256_i32_14 c0_i32_15
  let v26 : BitVec 32 := Scalar.addi v20 v25
  let c8_i32_47 : BitVec 32 := 8#32
  let v73 : BitVec 32 := Scalar.muli v26 c8_i32_47
  v73
def k0_cond3 (v17 : BitVec 32) : BitVec 1 :=
  let c320_i32 : BitVec 32 := 320#32
  let v18 : BitVec 32 := Scalar.subi c320_i32 v17
  let c128_i32 : BitVec 32 := 128#32
  let v27 : BitVec 32 := Scalar.andi v18 c128_i32
  let c0_i32_16 : BitVec 32 := 0#32
  let v28 : BitVec 1 := Scalar.cmpi .ne v27 c0_i32_16
  let v29 : BitVec 32 := Scalar.extui v28
  let c0_i32_17 : BitVec 32 := 0#32
  let v30 : BitVec 1 := Scalar.cmpi .ne v29 c0_i32_17
  v30

def k0_off3 (k0_t1 : Fin k0_t1_loop.trips) (v17 : BitVec 32) : Fin 2 → Nat :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let c256_i32_14 : BitVec 32 := 256#32
  let c0_i32_15 : BitVec 32 := 0#32
  let v25 : BitVec 32 := Scalar.select v22 c256_i32_14 c0_i32_15
  let v26 : BitVec 32 := Scalar.addi v20 v25
  let c8_i32_47 : BitVec 32 := 8#32
  let v73 : BitVec 32 := Scalar.muli v26 c8_i32_47
  let v74 : BitVec 32 := v73
  let c0_i32_49 : BitVec 32 := 0#32
  ![v74.toNat, 0]
def k0_mult3 (k0_t1 : Fin k0_t1_loop.trips) (v17 : BitVec 32) : BitVec 32 :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let c256_i32_14 : BitVec 32 := 256#32
  let c0_i32_15 : BitVec 32 := 0#32
  let v25 : BitVec 32 := Scalar.select v22 c256_i32_14 c0_i32_15
  let v26 : BitVec 32 := Scalar.addi v20 v25
  let c128_i32 : BitVec 32 := 128#32
  let v27 : BitVec 32 := Scalar.andi v18 c128_i32
  let c0_i32_16 : BitVec 32 := 0#32
  let v28 : BitVec 1 := Scalar.cmpi .ne v27 c0_i32_16
  let c128_i32_18 : BitVec 32 := 128#32
  let c0_i32_19 : BitVec 32 := 0#32
  let v31 : BitVec 32 := Scalar.select v28 c128_i32_18 c0_i32_19
  let v32 : BitVec 32 := Scalar.addi v26 v31
  let c8_i32_47 : BitVec 32 := 8#32
  let v73 : BitVec 32 := Scalar.muli v32 c8_i32_47
  v73
def k0_cond4 (v17 : BitVec 32) : BitVec 1 :=
  let c320_i32 : BitVec 32 := 320#32
  let v18 : BitVec 32 := Scalar.subi c320_i32 v17
  let c64_i32 : BitVec 32 := 64#32
  let v33 : BitVec 32 := Scalar.andi v18 c64_i32
  let c0_i32_20 : BitVec 32 := 0#32
  let v34 : BitVec 1 := Scalar.cmpi .ne v33 c0_i32_20
  let v35 : BitVec 32 := Scalar.extui v34
  let c0_i32_21 : BitVec 32 := 0#32
  let v36 : BitVec 1 := Scalar.cmpi .ne v35 c0_i32_21
  v36

def k0_off4 (k0_t1 : Fin k0_t1_loop.trips) (v17 : BitVec 32) : Fin 2 → Nat :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let c256_i32_14 : BitVec 32 := 256#32
  let c0_i32_15 : BitVec 32 := 0#32
  let v25 : BitVec 32 := Scalar.select v22 c256_i32_14 c0_i32_15
  let v26 : BitVec 32 := Scalar.addi v20 v25
  let c128_i32 : BitVec 32 := 128#32
  let v27 : BitVec 32 := Scalar.andi v18 c128_i32
  let c0_i32_16 : BitVec 32 := 0#32
  let v28 : BitVec 1 := Scalar.cmpi .ne v27 c0_i32_16
  let c128_i32_18 : BitVec 32 := 128#32
  let c0_i32_19 : BitVec 32 := 0#32
  let v31 : BitVec 32 := Scalar.select v28 c128_i32_18 c0_i32_19
  let v32 : BitVec 32 := Scalar.addi v26 v31
  let c8_i32_47 : BitVec 32 := 8#32
  let v73 : BitVec 32 := Scalar.muli v32 c8_i32_47
  let v74 : BitVec 32 := v73
  let c0_i32_49 : BitVec 32 := 0#32
  ![v74.toNat, 0]
def k0_mult4 (k0_t1 : Fin k0_t1_loop.trips) (v17 : BitVec 32) : BitVec 32 :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let c256_i32_14 : BitVec 32 := 256#32
  let c0_i32_15 : BitVec 32 := 0#32
  let v25 : BitVec 32 := Scalar.select v22 c256_i32_14 c0_i32_15
  let v26 : BitVec 32 := Scalar.addi v20 v25
  let c128_i32 : BitVec 32 := 128#32
  let v27 : BitVec 32 := Scalar.andi v18 c128_i32
  let c0_i32_16 : BitVec 32 := 0#32
  let v28 : BitVec 1 := Scalar.cmpi .ne v27 c0_i32_16
  let c128_i32_18 : BitVec 32 := 128#32
  let c0_i32_19 : BitVec 32 := 0#32
  let v31 : BitVec 32 := Scalar.select v28 c128_i32_18 c0_i32_19
  let v32 : BitVec 32 := Scalar.addi v26 v31
  let c64_i32 : BitVec 32 := 64#32
  let v33 : BitVec 32 := Scalar.andi v18 c64_i32
  let c0_i32_20 : BitVec 32 := 0#32
  let v34 : BitVec 1 := Scalar.cmpi .ne v33 c0_i32_20
  let c64_i32_22 : BitVec 32 := 64#32
  let c0_i32_23 : BitVec 32 := 0#32
  let v37 : BitVec 32 := Scalar.select v34 c64_i32_22 c0_i32_23
  let v38 : BitVec 32 := Scalar.addi v32 v37
  let c8_i32_47 : BitVec 32 := 8#32
  let v73 : BitVec 32 := Scalar.muli v38 c8_i32_47
  v73
def k0_cond5 (v17 : BitVec 32) : BitVec 1 :=
  let c320_i32 : BitVec 32 := 320#32
  let v18 : BitVec 32 := Scalar.subi c320_i32 v17
  let c32_i32 : BitVec 32 := 32#32
  let v39 : BitVec 32 := Scalar.andi v18 c32_i32
  let c0_i32_24 : BitVec 32 := 0#32
  let v40 : BitVec 1 := Scalar.cmpi .ne v39 c0_i32_24
  let v41 : BitVec 32 := Scalar.extui v40
  let c0_i32_25 : BitVec 32 := 0#32
  let v42 : BitVec 1 := Scalar.cmpi .ne v41 c0_i32_25
  v42

def k0_off5 (k0_t1 : Fin k0_t1_loop.trips) (v17 : BitVec 32) : Fin 2 → Nat :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let c256_i32_14 : BitVec 32 := 256#32
  let c0_i32_15 : BitVec 32 := 0#32
  let v25 : BitVec 32 := Scalar.select v22 c256_i32_14 c0_i32_15
  let v26 : BitVec 32 := Scalar.addi v20 v25
  let c128_i32 : BitVec 32 := 128#32
  let v27 : BitVec 32 := Scalar.andi v18 c128_i32
  let c0_i32_16 : BitVec 32 := 0#32
  let v28 : BitVec 1 := Scalar.cmpi .ne v27 c0_i32_16
  let c128_i32_18 : BitVec 32 := 128#32
  let c0_i32_19 : BitVec 32 := 0#32
  let v31 : BitVec 32 := Scalar.select v28 c128_i32_18 c0_i32_19
  let v32 : BitVec 32 := Scalar.addi v26 v31
  let c64_i32 : BitVec 32 := 64#32
  let v33 : BitVec 32 := Scalar.andi v18 c64_i32
  let c0_i32_20 : BitVec 32 := 0#32
  let v34 : BitVec 1 := Scalar.cmpi .ne v33 c0_i32_20
  let c64_i32_22 : BitVec 32 := 64#32
  let c0_i32_23 : BitVec 32 := 0#32
  let v37 : BitVec 32 := Scalar.select v34 c64_i32_22 c0_i32_23
  let v38 : BitVec 32 := Scalar.addi v32 v37
  let c8_i32_47 : BitVec 32 := 8#32
  let v73 : BitVec 32 := Scalar.muli v38 c8_i32_47
  let v74 : BitVec 32 := v73
  let c0_i32_49 : BitVec 32 := 0#32
  ![v74.toNat, 0]
def k0_mult5 (k0_t1 : Fin k0_t1_loop.trips) (v17 : BitVec 32) : BitVec 32 :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let c256_i32_14 : BitVec 32 := 256#32
  let c0_i32_15 : BitVec 32 := 0#32
  let v25 : BitVec 32 := Scalar.select v22 c256_i32_14 c0_i32_15
  let v26 : BitVec 32 := Scalar.addi v20 v25
  let c128_i32 : BitVec 32 := 128#32
  let v27 : BitVec 32 := Scalar.andi v18 c128_i32
  let c0_i32_16 : BitVec 32 := 0#32
  let v28 : BitVec 1 := Scalar.cmpi .ne v27 c0_i32_16
  let c128_i32_18 : BitVec 32 := 128#32
  let c0_i32_19 : BitVec 32 := 0#32
  let v31 : BitVec 32 := Scalar.select v28 c128_i32_18 c0_i32_19
  let v32 : BitVec 32 := Scalar.addi v26 v31
  let c64_i32 : BitVec 32 := 64#32
  let v33 : BitVec 32 := Scalar.andi v18 c64_i32
  let c0_i32_20 : BitVec 32 := 0#32
  let v34 : BitVec 1 := Scalar.cmpi .ne v33 c0_i32_20
  let c64_i32_22 : BitVec 32 := 64#32
  let c0_i32_23 : BitVec 32 := 0#32
  let v37 : BitVec 32 := Scalar.select v34 c64_i32_22 c0_i32_23
  let v38 : BitVec 32 := Scalar.addi v32 v37
  let c32_i32 : BitVec 32 := 32#32
  let v39 : BitVec 32 := Scalar.andi v18 c32_i32
  let c0_i32_24 : BitVec 32 := 0#32
  let v40 : BitVec 1 := Scalar.cmpi .ne v39 c0_i32_24
  let c32_i32_26 : BitVec 32 := 32#32
  let c0_i32_27 : BitVec 32 := 0#32
  let v43 : BitVec 32 := Scalar.select v40 c32_i32_26 c0_i32_27
  let v44 : BitVec 32 := Scalar.addi v38 v43
  let c8_i32_47 : BitVec 32 := 8#32
  let v73 : BitVec 32 := Scalar.muli v44 c8_i32_47
  v73
def k0_cond6 (v17 : BitVec 32) : BitVec 1 :=
  let c320_i32 : BitVec 32 := 320#32
  let v18 : BitVec 32 := Scalar.subi c320_i32 v17
  let c16_i32 : BitVec 32 := 16#32
  let v45 : BitVec 32 := Scalar.andi v18 c16_i32
  let c0_i32_28 : BitVec 32 := 0#32
  let v46 : BitVec 1 := Scalar.cmpi .ne v45 c0_i32_28
  let v47 : BitVec 32 := Scalar.extui v46
  let c0_i32_29 : BitVec 32 := 0#32
  let v48 : BitVec 1 := Scalar.cmpi .ne v47 c0_i32_29
  v48

def k0_off6 (k0_t1 : Fin k0_t1_loop.trips) (v17 : BitVec 32) : Fin 2 → Nat :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let c256_i32_14 : BitVec 32 := 256#32
  let c0_i32_15 : BitVec 32 := 0#32
  let v25 : BitVec 32 := Scalar.select v22 c256_i32_14 c0_i32_15
  let v26 : BitVec 32 := Scalar.addi v20 v25
  let c128_i32 : BitVec 32 := 128#32
  let v27 : BitVec 32 := Scalar.andi v18 c128_i32
  let c0_i32_16 : BitVec 32 := 0#32
  let v28 : BitVec 1 := Scalar.cmpi .ne v27 c0_i32_16
  let c128_i32_18 : BitVec 32 := 128#32
  let c0_i32_19 : BitVec 32 := 0#32
  let v31 : BitVec 32 := Scalar.select v28 c128_i32_18 c0_i32_19
  let v32 : BitVec 32 := Scalar.addi v26 v31
  let c64_i32 : BitVec 32 := 64#32
  let v33 : BitVec 32 := Scalar.andi v18 c64_i32
  let c0_i32_20 : BitVec 32 := 0#32
  let v34 : BitVec 1 := Scalar.cmpi .ne v33 c0_i32_20
  let c64_i32_22 : BitVec 32 := 64#32
  let c0_i32_23 : BitVec 32 := 0#32
  let v37 : BitVec 32 := Scalar.select v34 c64_i32_22 c0_i32_23
  let v38 : BitVec 32 := Scalar.addi v32 v37
  let c32_i32 : BitVec 32 := 32#32
  let v39 : BitVec 32 := Scalar.andi v18 c32_i32
  let c0_i32_24 : BitVec 32 := 0#32
  let v40 : BitVec 1 := Scalar.cmpi .ne v39 c0_i32_24
  let c32_i32_26 : BitVec 32 := 32#32
  let c0_i32_27 : BitVec 32 := 0#32
  let v43 : BitVec 32 := Scalar.select v40 c32_i32_26 c0_i32_27
  let v44 : BitVec 32 := Scalar.addi v38 v43
  let c8_i32_47 : BitVec 32 := 8#32
  let v73 : BitVec 32 := Scalar.muli v44 c8_i32_47
  let v74 : BitVec 32 := v73
  let c0_i32_49 : BitVec 32 := 0#32
  ![v74.toNat, 0]
def k0_mult6 (k0_t1 : Fin k0_t1_loop.trips) (v17 : BitVec 32) : BitVec 32 :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let c256_i32_14 : BitVec 32 := 256#32
  let c0_i32_15 : BitVec 32 := 0#32
  let v25 : BitVec 32 := Scalar.select v22 c256_i32_14 c0_i32_15
  let v26 : BitVec 32 := Scalar.addi v20 v25
  let c128_i32 : BitVec 32 := 128#32
  let v27 : BitVec 32 := Scalar.andi v18 c128_i32
  let c0_i32_16 : BitVec 32 := 0#32
  let v28 : BitVec 1 := Scalar.cmpi .ne v27 c0_i32_16
  let c128_i32_18 : BitVec 32 := 128#32
  let c0_i32_19 : BitVec 32 := 0#32
  let v31 : BitVec 32 := Scalar.select v28 c128_i32_18 c0_i32_19
  let v32 : BitVec 32 := Scalar.addi v26 v31
  let c64_i32 : BitVec 32 := 64#32
  let v33 : BitVec 32 := Scalar.andi v18 c64_i32
  let c0_i32_20 : BitVec 32 := 0#32
  let v34 : BitVec 1 := Scalar.cmpi .ne v33 c0_i32_20
  let c64_i32_22 : BitVec 32 := 64#32
  let c0_i32_23 : BitVec 32 := 0#32
  let v37 : BitVec 32 := Scalar.select v34 c64_i32_22 c0_i32_23
  let v38 : BitVec 32 := Scalar.addi v32 v37
  let c32_i32 : BitVec 32 := 32#32
  let v39 : BitVec 32 := Scalar.andi v18 c32_i32
  let c0_i32_24 : BitVec 32 := 0#32
  let v40 : BitVec 1 := Scalar.cmpi .ne v39 c0_i32_24
  let c32_i32_26 : BitVec 32 := 32#32
  let c0_i32_27 : BitVec 32 := 0#32
  let v43 : BitVec 32 := Scalar.select v40 c32_i32_26 c0_i32_27
  let v44 : BitVec 32 := Scalar.addi v38 v43
  let c16_i32 : BitVec 32 := 16#32
  let v45 : BitVec 32 := Scalar.andi v18 c16_i32
  let c0_i32_28 : BitVec 32 := 0#32
  let v46 : BitVec 1 := Scalar.cmpi .ne v45 c0_i32_28
  let c16_i32_30 : BitVec 32 := 16#32
  let c0_i32_31 : BitVec 32 := 0#32
  let v49 : BitVec 32 := Scalar.select v46 c16_i32_30 c0_i32_31
  let v50 : BitVec 32 := Scalar.addi v44 v49
  let c8_i32_47 : BitVec 32 := 8#32
  let v73 : BitVec 32 := Scalar.muli v50 c8_i32_47
  v73
def k0_cond7 (v17 : BitVec 32) : BitVec 1 :=
  let c320_i32 : BitVec 32 := 320#32
  let v18 : BitVec 32 := Scalar.subi c320_i32 v17
  let c8_i32 : BitVec 32 := 8#32
  let v51 : BitVec 32 := Scalar.andi v18 c8_i32
  let c0_i32_32 : BitVec 32 := 0#32
  let v52 : BitVec 1 := Scalar.cmpi .ne v51 c0_i32_32
  let v53 : BitVec 32 := Scalar.extui v52
  let c0_i32_33 : BitVec 32 := 0#32
  let v54 : BitVec 1 := Scalar.cmpi .ne v53 c0_i32_33
  v54

def k0_off7 (k0_t1 : Fin k0_t1_loop.trips) (v17 : BitVec 32) : Fin 2 → Nat :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let c256_i32_14 : BitVec 32 := 256#32
  let c0_i32_15 : BitVec 32 := 0#32
  let v25 : BitVec 32 := Scalar.select v22 c256_i32_14 c0_i32_15
  let v26 : BitVec 32 := Scalar.addi v20 v25
  let c128_i32 : BitVec 32 := 128#32
  let v27 : BitVec 32 := Scalar.andi v18 c128_i32
  let c0_i32_16 : BitVec 32 := 0#32
  let v28 : BitVec 1 := Scalar.cmpi .ne v27 c0_i32_16
  let c128_i32_18 : BitVec 32 := 128#32
  let c0_i32_19 : BitVec 32 := 0#32
  let v31 : BitVec 32 := Scalar.select v28 c128_i32_18 c0_i32_19
  let v32 : BitVec 32 := Scalar.addi v26 v31
  let c64_i32 : BitVec 32 := 64#32
  let v33 : BitVec 32 := Scalar.andi v18 c64_i32
  let c0_i32_20 : BitVec 32 := 0#32
  let v34 : BitVec 1 := Scalar.cmpi .ne v33 c0_i32_20
  let c64_i32_22 : BitVec 32 := 64#32
  let c0_i32_23 : BitVec 32 := 0#32
  let v37 : BitVec 32 := Scalar.select v34 c64_i32_22 c0_i32_23
  let v38 : BitVec 32 := Scalar.addi v32 v37
  let c32_i32 : BitVec 32 := 32#32
  let v39 : BitVec 32 := Scalar.andi v18 c32_i32
  let c0_i32_24 : BitVec 32 := 0#32
  let v40 : BitVec 1 := Scalar.cmpi .ne v39 c0_i32_24
  let c32_i32_26 : BitVec 32 := 32#32
  let c0_i32_27 : BitVec 32 := 0#32
  let v43 : BitVec 32 := Scalar.select v40 c32_i32_26 c0_i32_27
  let v44 : BitVec 32 := Scalar.addi v38 v43
  let c16_i32 : BitVec 32 := 16#32
  let v45 : BitVec 32 := Scalar.andi v18 c16_i32
  let c0_i32_28 : BitVec 32 := 0#32
  let v46 : BitVec 1 := Scalar.cmpi .ne v45 c0_i32_28
  let c16_i32_30 : BitVec 32 := 16#32
  let c0_i32_31 : BitVec 32 := 0#32
  let v49 : BitVec 32 := Scalar.select v46 c16_i32_30 c0_i32_31
  let v50 : BitVec 32 := Scalar.addi v44 v49
  let c8_i32_47 : BitVec 32 := 8#32
  let v73 : BitVec 32 := Scalar.muli v50 c8_i32_47
  let v74 : BitVec 32 := v73
  let c0_i32_49 : BitVec 32 := 0#32
  ![v74.toNat, 0]
def k0_mult7 (k0_t1 : Fin k0_t1_loop.trips) (v17 : BitVec 32) : BitVec 32 :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let c256_i32_14 : BitVec 32 := 256#32
  let c0_i32_15 : BitVec 32 := 0#32
  let v25 : BitVec 32 := Scalar.select v22 c256_i32_14 c0_i32_15
  let v26 : BitVec 32 := Scalar.addi v20 v25
  let c128_i32 : BitVec 32 := 128#32
  let v27 : BitVec 32 := Scalar.andi v18 c128_i32
  let c0_i32_16 : BitVec 32 := 0#32
  let v28 : BitVec 1 := Scalar.cmpi .ne v27 c0_i32_16
  let c128_i32_18 : BitVec 32 := 128#32
  let c0_i32_19 : BitVec 32 := 0#32
  let v31 : BitVec 32 := Scalar.select v28 c128_i32_18 c0_i32_19
  let v32 : BitVec 32 := Scalar.addi v26 v31
  let c64_i32 : BitVec 32 := 64#32
  let v33 : BitVec 32 := Scalar.andi v18 c64_i32
  let c0_i32_20 : BitVec 32 := 0#32
  let v34 : BitVec 1 := Scalar.cmpi .ne v33 c0_i32_20
  let c64_i32_22 : BitVec 32 := 64#32
  let c0_i32_23 : BitVec 32 := 0#32
  let v37 : BitVec 32 := Scalar.select v34 c64_i32_22 c0_i32_23
  let v38 : BitVec 32 := Scalar.addi v32 v37
  let c32_i32 : BitVec 32 := 32#32
  let v39 : BitVec 32 := Scalar.andi v18 c32_i32
  let c0_i32_24 : BitVec 32 := 0#32
  let v40 : BitVec 1 := Scalar.cmpi .ne v39 c0_i32_24
  let c32_i32_26 : BitVec 32 := 32#32
  let c0_i32_27 : BitVec 32 := 0#32
  let v43 : BitVec 32 := Scalar.select v40 c32_i32_26 c0_i32_27
  let v44 : BitVec 32 := Scalar.addi v38 v43
  let c16_i32 : BitVec 32 := 16#32
  let v45 : BitVec 32 := Scalar.andi v18 c16_i32
  let c0_i32_28 : BitVec 32 := 0#32
  let v46 : BitVec 1 := Scalar.cmpi .ne v45 c0_i32_28
  let c16_i32_30 : BitVec 32 := 16#32
  let c0_i32_31 : BitVec 32 := 0#32
  let v49 : BitVec 32 := Scalar.select v46 c16_i32_30 c0_i32_31
  let v50 : BitVec 32 := Scalar.addi v44 v49
  let c8_i32 : BitVec 32 := 8#32
  let v51 : BitVec 32 := Scalar.andi v18 c8_i32
  let c0_i32_32 : BitVec 32 := 0#32
  let v52 : BitVec 1 := Scalar.cmpi .ne v51 c0_i32_32
  let c8_i32_34 : BitVec 32 := 8#32
  let c0_i32_35 : BitVec 32 := 0#32
  let v55 : BitVec 32 := Scalar.select v52 c8_i32_34 c0_i32_35
  let v56 : BitVec 32 := Scalar.addi v50 v55
  let c8_i32_47 : BitVec 32 := 8#32
  let v73 : BitVec 32 := Scalar.muli v56 c8_i32_47
  v73
def k0_cond8 (v17 : BitVec 32) : BitVec 1 :=
  let c320_i32 : BitVec 32 := 320#32
  let v18 : BitVec 32 := Scalar.subi c320_i32 v17
  let c4_i32 : BitVec 32 := 4#32
  let v57 : BitVec 32 := Scalar.andi v18 c4_i32
  let c0_i32_36 : BitVec 32 := 0#32
  let v58 : BitVec 1 := Scalar.cmpi .ne v57 c0_i32_36
  let v59 : BitVec 32 := Scalar.extui v58
  let c0_i32_37 : BitVec 32 := 0#32
  let v60 : BitVec 1 := Scalar.cmpi .ne v59 c0_i32_37
  v60

def k0_off8 (k0_t1 : Fin k0_t1_loop.trips) (v17 : BitVec 32) : Fin 2 → Nat :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let c256_i32_14 : BitVec 32 := 256#32
  let c0_i32_15 : BitVec 32 := 0#32
  let v25 : BitVec 32 := Scalar.select v22 c256_i32_14 c0_i32_15
  let v26 : BitVec 32 := Scalar.addi v20 v25
  let c128_i32 : BitVec 32 := 128#32
  let v27 : BitVec 32 := Scalar.andi v18 c128_i32
  let c0_i32_16 : BitVec 32 := 0#32
  let v28 : BitVec 1 := Scalar.cmpi .ne v27 c0_i32_16
  let c128_i32_18 : BitVec 32 := 128#32
  let c0_i32_19 : BitVec 32 := 0#32
  let v31 : BitVec 32 := Scalar.select v28 c128_i32_18 c0_i32_19
  let v32 : BitVec 32 := Scalar.addi v26 v31
  let c64_i32 : BitVec 32 := 64#32
  let v33 : BitVec 32 := Scalar.andi v18 c64_i32
  let c0_i32_20 : BitVec 32 := 0#32
  let v34 : BitVec 1 := Scalar.cmpi .ne v33 c0_i32_20
  let c64_i32_22 : BitVec 32 := 64#32
  let c0_i32_23 : BitVec 32 := 0#32
  let v37 : BitVec 32 := Scalar.select v34 c64_i32_22 c0_i32_23
  let v38 : BitVec 32 := Scalar.addi v32 v37
  let c32_i32 : BitVec 32 := 32#32
  let v39 : BitVec 32 := Scalar.andi v18 c32_i32
  let c0_i32_24 : BitVec 32 := 0#32
  let v40 : BitVec 1 := Scalar.cmpi .ne v39 c0_i32_24
  let c32_i32_26 : BitVec 32 := 32#32
  let c0_i32_27 : BitVec 32 := 0#32
  let v43 : BitVec 32 := Scalar.select v40 c32_i32_26 c0_i32_27
  let v44 : BitVec 32 := Scalar.addi v38 v43
  let c16_i32 : BitVec 32 := 16#32
  let v45 : BitVec 32 := Scalar.andi v18 c16_i32
  let c0_i32_28 : BitVec 32 := 0#32
  let v46 : BitVec 1 := Scalar.cmpi .ne v45 c0_i32_28
  let c16_i32_30 : BitVec 32 := 16#32
  let c0_i32_31 : BitVec 32 := 0#32
  let v49 : BitVec 32 := Scalar.select v46 c16_i32_30 c0_i32_31
  let v50 : BitVec 32 := Scalar.addi v44 v49
  let c8_i32 : BitVec 32 := 8#32
  let v51 : BitVec 32 := Scalar.andi v18 c8_i32
  let c0_i32_32 : BitVec 32 := 0#32
  let v52 : BitVec 1 := Scalar.cmpi .ne v51 c0_i32_32
  let c8_i32_34 : BitVec 32 := 8#32
  let c0_i32_35 : BitVec 32 := 0#32
  let v55 : BitVec 32 := Scalar.select v52 c8_i32_34 c0_i32_35
  let v56 : BitVec 32 := Scalar.addi v50 v55
  let c8_i32_47 : BitVec 32 := 8#32
  let v73 : BitVec 32 := Scalar.muli v56 c8_i32_47
  let v74 : BitVec 32 := v73
  let c0_i32_49 : BitVec 32 := 0#32
  ![v74.toNat, 0]
def k0_mult8 (k0_t1 : Fin k0_t1_loop.trips) (v17 : BitVec 32) : BitVec 32 :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let c256_i32_14 : BitVec 32 := 256#32
  let c0_i32_15 : BitVec 32 := 0#32
  let v25 : BitVec 32 := Scalar.select v22 c256_i32_14 c0_i32_15
  let v26 : BitVec 32 := Scalar.addi v20 v25
  let c128_i32 : BitVec 32 := 128#32
  let v27 : BitVec 32 := Scalar.andi v18 c128_i32
  let c0_i32_16 : BitVec 32 := 0#32
  let v28 : BitVec 1 := Scalar.cmpi .ne v27 c0_i32_16
  let c128_i32_18 : BitVec 32 := 128#32
  let c0_i32_19 : BitVec 32 := 0#32
  let v31 : BitVec 32 := Scalar.select v28 c128_i32_18 c0_i32_19
  let v32 : BitVec 32 := Scalar.addi v26 v31
  let c64_i32 : BitVec 32 := 64#32
  let v33 : BitVec 32 := Scalar.andi v18 c64_i32
  let c0_i32_20 : BitVec 32 := 0#32
  let v34 : BitVec 1 := Scalar.cmpi .ne v33 c0_i32_20
  let c64_i32_22 : BitVec 32 := 64#32
  let c0_i32_23 : BitVec 32 := 0#32
  let v37 : BitVec 32 := Scalar.select v34 c64_i32_22 c0_i32_23
  let v38 : BitVec 32 := Scalar.addi v32 v37
  let c32_i32 : BitVec 32 := 32#32
  let v39 : BitVec 32 := Scalar.andi v18 c32_i32
  let c0_i32_24 : BitVec 32 := 0#32
  let v40 : BitVec 1 := Scalar.cmpi .ne v39 c0_i32_24
  let c32_i32_26 : BitVec 32 := 32#32
  let c0_i32_27 : BitVec 32 := 0#32
  let v43 : BitVec 32 := Scalar.select v40 c32_i32_26 c0_i32_27
  let v44 : BitVec 32 := Scalar.addi v38 v43
  let c16_i32 : BitVec 32 := 16#32
  let v45 : BitVec 32 := Scalar.andi v18 c16_i32
  let c0_i32_28 : BitVec 32 := 0#32
  let v46 : BitVec 1 := Scalar.cmpi .ne v45 c0_i32_28
  let c16_i32_30 : BitVec 32 := 16#32
  let c0_i32_31 : BitVec 32 := 0#32
  let v49 : BitVec 32 := Scalar.select v46 c16_i32_30 c0_i32_31
  let v50 : BitVec 32 := Scalar.addi v44 v49
  let c8_i32 : BitVec 32 := 8#32
  let v51 : BitVec 32 := Scalar.andi v18 c8_i32
  let c0_i32_32 : BitVec 32 := 0#32
  let v52 : BitVec 1 := Scalar.cmpi .ne v51 c0_i32_32
  let c8_i32_34 : BitVec 32 := 8#32
  let c0_i32_35 : BitVec 32 := 0#32
  let v55 : BitVec 32 := Scalar.select v52 c8_i32_34 c0_i32_35
  let v56 : BitVec 32 := Scalar.addi v50 v55
  let c4_i32 : BitVec 32 := 4#32
  let v57 : BitVec 32 := Scalar.andi v18 c4_i32
  let c0_i32_36 : BitVec 32 := 0#32
  let v58 : BitVec 1 := Scalar.cmpi .ne v57 c0_i32_36
  let c4_i32_38 : BitVec 32 := 4#32
  let c0_i32_39 : BitVec 32 := 0#32
  let v61 : BitVec 32 := Scalar.select v58 c4_i32_38 c0_i32_39
  let v62 : BitVec 32 := Scalar.addi v56 v61
  let c8_i32_47 : BitVec 32 := 8#32
  let v73 : BitVec 32 := Scalar.muli v62 c8_i32_47
  v73
def k0_cond9 (v17 : BitVec 32) : BitVec 1 :=
  let c320_i32 : BitVec 32 := 320#32
  let v18 : BitVec 32 := Scalar.subi c320_i32 v17
  let c2_i32 : BitVec 32 := 2#32
  let v63 : BitVec 32 := Scalar.andi v18 c2_i32
  let c0_i32_40 : BitVec 32 := 0#32
  let v64 : BitVec 1 := Scalar.cmpi .ne v63 c0_i32_40
  let v65 : BitVec 32 := Scalar.extui v64
  let c0_i32_41 : BitVec 32 := 0#32
  let v66 : BitVec 1 := Scalar.cmpi .ne v65 c0_i32_41
  v66

def k0_off9 (k0_t1 : Fin k0_t1_loop.trips) (v17 : BitVec 32) : Fin 2 → Nat :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let c256_i32_14 : BitVec 32 := 256#32
  let c0_i32_15 : BitVec 32 := 0#32
  let v25 : BitVec 32 := Scalar.select v22 c256_i32_14 c0_i32_15
  let v26 : BitVec 32 := Scalar.addi v20 v25
  let c128_i32 : BitVec 32 := 128#32
  let v27 : BitVec 32 := Scalar.andi v18 c128_i32
  let c0_i32_16 : BitVec 32 := 0#32
  let v28 : BitVec 1 := Scalar.cmpi .ne v27 c0_i32_16
  let c128_i32_18 : BitVec 32 := 128#32
  let c0_i32_19 : BitVec 32 := 0#32
  let v31 : BitVec 32 := Scalar.select v28 c128_i32_18 c0_i32_19
  let v32 : BitVec 32 := Scalar.addi v26 v31
  let c64_i32 : BitVec 32 := 64#32
  let v33 : BitVec 32 := Scalar.andi v18 c64_i32
  let c0_i32_20 : BitVec 32 := 0#32
  let v34 : BitVec 1 := Scalar.cmpi .ne v33 c0_i32_20
  let c64_i32_22 : BitVec 32 := 64#32
  let c0_i32_23 : BitVec 32 := 0#32
  let v37 : BitVec 32 := Scalar.select v34 c64_i32_22 c0_i32_23
  let v38 : BitVec 32 := Scalar.addi v32 v37
  let c32_i32 : BitVec 32 := 32#32
  let v39 : BitVec 32 := Scalar.andi v18 c32_i32
  let c0_i32_24 : BitVec 32 := 0#32
  let v40 : BitVec 1 := Scalar.cmpi .ne v39 c0_i32_24
  let c32_i32_26 : BitVec 32 := 32#32
  let c0_i32_27 : BitVec 32 := 0#32
  let v43 : BitVec 32 := Scalar.select v40 c32_i32_26 c0_i32_27
  let v44 : BitVec 32 := Scalar.addi v38 v43
  let c16_i32 : BitVec 32 := 16#32
  let v45 : BitVec 32 := Scalar.andi v18 c16_i32
  let c0_i32_28 : BitVec 32 := 0#32
  let v46 : BitVec 1 := Scalar.cmpi .ne v45 c0_i32_28
  let c16_i32_30 : BitVec 32 := 16#32
  let c0_i32_31 : BitVec 32 := 0#32
  let v49 : BitVec 32 := Scalar.select v46 c16_i32_30 c0_i32_31
  let v50 : BitVec 32 := Scalar.addi v44 v49
  let c8_i32 : BitVec 32 := 8#32
  let v51 : BitVec 32 := Scalar.andi v18 c8_i32
  let c0_i32_32 : BitVec 32 := 0#32
  let v52 : BitVec 1 := Scalar.cmpi .ne v51 c0_i32_32
  let c8_i32_34 : BitVec 32 := 8#32
  let c0_i32_35 : BitVec 32 := 0#32
  let v55 : BitVec 32 := Scalar.select v52 c8_i32_34 c0_i32_35
  let v56 : BitVec 32 := Scalar.addi v50 v55
  let c4_i32 : BitVec 32 := 4#32
  let v57 : BitVec 32 := Scalar.andi v18 c4_i32
  let c0_i32_36 : BitVec 32 := 0#32
  let v58 : BitVec 1 := Scalar.cmpi .ne v57 c0_i32_36
  let c4_i32_38 : BitVec 32 := 4#32
  let c0_i32_39 : BitVec 32 := 0#32
  let v61 : BitVec 32 := Scalar.select v58 c4_i32_38 c0_i32_39
  let v62 : BitVec 32 := Scalar.addi v56 v61
  let c8_i32_47 : BitVec 32 := 8#32
  let v73 : BitVec 32 := Scalar.muli v62 c8_i32_47
  let v74 : BitVec 32 := v73
  let c0_i32_49 : BitVec 32 := 0#32
  ![v74.toNat, 0]
def k0_mult9 (k0_t1 : Fin k0_t1_loop.trips) (v17 : BitVec 32) : BitVec 32 :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let c256_i32_14 : BitVec 32 := 256#32
  let c0_i32_15 : BitVec 32 := 0#32
  let v25 : BitVec 32 := Scalar.select v22 c256_i32_14 c0_i32_15
  let v26 : BitVec 32 := Scalar.addi v20 v25
  let c128_i32 : BitVec 32 := 128#32
  let v27 : BitVec 32 := Scalar.andi v18 c128_i32
  let c0_i32_16 : BitVec 32 := 0#32
  let v28 : BitVec 1 := Scalar.cmpi .ne v27 c0_i32_16
  let c128_i32_18 : BitVec 32 := 128#32
  let c0_i32_19 : BitVec 32 := 0#32
  let v31 : BitVec 32 := Scalar.select v28 c128_i32_18 c0_i32_19
  let v32 : BitVec 32 := Scalar.addi v26 v31
  let c64_i32 : BitVec 32 := 64#32
  let v33 : BitVec 32 := Scalar.andi v18 c64_i32
  let c0_i32_20 : BitVec 32 := 0#32
  let v34 : BitVec 1 := Scalar.cmpi .ne v33 c0_i32_20
  let c64_i32_22 : BitVec 32 := 64#32
  let c0_i32_23 : BitVec 32 := 0#32
  let v37 : BitVec 32 := Scalar.select v34 c64_i32_22 c0_i32_23
  let v38 : BitVec 32 := Scalar.addi v32 v37
  let c32_i32 : BitVec 32 := 32#32
  let v39 : BitVec 32 := Scalar.andi v18 c32_i32
  let c0_i32_24 : BitVec 32 := 0#32
  let v40 : BitVec 1 := Scalar.cmpi .ne v39 c0_i32_24
  let c32_i32_26 : BitVec 32 := 32#32
  let c0_i32_27 : BitVec 32 := 0#32
  let v43 : BitVec 32 := Scalar.select v40 c32_i32_26 c0_i32_27
  let v44 : BitVec 32 := Scalar.addi v38 v43
  let c16_i32 : BitVec 32 := 16#32
  let v45 : BitVec 32 := Scalar.andi v18 c16_i32
  let c0_i32_28 : BitVec 32 := 0#32
  let v46 : BitVec 1 := Scalar.cmpi .ne v45 c0_i32_28
  let c16_i32_30 : BitVec 32 := 16#32
  let c0_i32_31 : BitVec 32 := 0#32
  let v49 : BitVec 32 := Scalar.select v46 c16_i32_30 c0_i32_31
  let v50 : BitVec 32 := Scalar.addi v44 v49
  let c8_i32 : BitVec 32 := 8#32
  let v51 : BitVec 32 := Scalar.andi v18 c8_i32
  let c0_i32_32 : BitVec 32 := 0#32
  let v52 : BitVec 1 := Scalar.cmpi .ne v51 c0_i32_32
  let c8_i32_34 : BitVec 32 := 8#32
  let c0_i32_35 : BitVec 32 := 0#32
  let v55 : BitVec 32 := Scalar.select v52 c8_i32_34 c0_i32_35
  let v56 : BitVec 32 := Scalar.addi v50 v55
  let c4_i32 : BitVec 32 := 4#32
  let v57 : BitVec 32 := Scalar.andi v18 c4_i32
  let c0_i32_36 : BitVec 32 := 0#32
  let v58 : BitVec 1 := Scalar.cmpi .ne v57 c0_i32_36
  let c4_i32_38 : BitVec 32 := 4#32
  let c0_i32_39 : BitVec 32 := 0#32
  let v61 : BitVec 32 := Scalar.select v58 c4_i32_38 c0_i32_39
  let v62 : BitVec 32 := Scalar.addi v56 v61
  let c2_i32 : BitVec 32 := 2#32
  let v63 : BitVec 32 := Scalar.andi v18 c2_i32
  let c0_i32_40 : BitVec 32 := 0#32
  let v64 : BitVec 1 := Scalar.cmpi .ne v63 c0_i32_40
  let c2_i32_42 : BitVec 32 := 2#32
  let c0_i32_43 : BitVec 32 := 0#32
  let v67 : BitVec 32 := Scalar.select v64 c2_i32_42 c0_i32_43
  let v68 : BitVec 32 := Scalar.addi v62 v67
  let c8_i32_47 : BitVec 32 := 8#32
  let v73 : BitVec 32 := Scalar.muli v68 c8_i32_47
  v73
def k0_cond10 (v17 : BitVec 32) : BitVec 1 :=
  let c320_i32 : BitVec 32 := 320#32
  let v18 : BitVec 32 := Scalar.subi c320_i32 v17
  let c1_i32_44 : BitVec 32 := 1#32
  let v69 : BitVec 32 := Scalar.andi v18 c1_i32_44
  let c0_i32_45 : BitVec 32 := 0#32
  let v70 : BitVec 1 := Scalar.cmpi .ne v69 c0_i32_45
  let v71 : BitVec 32 := Scalar.extui v70
  let c0_i32_46 : BitVec 32 := 0#32
  let v72 : BitVec 1 := Scalar.cmpi .ne v71 c0_i32_46
  v72

def k0_off10 (k0_t1 : Fin k0_t1_loop.trips) (v17 : BitVec 32) : Fin 2 → Nat :=
  let c0_i32_8 : BitVec 32 := 0#32
  let c1_i32_9 : BitVec 32 := 1#32
  let arg7 : BitVec 32 := Scf.iv c0_i32_8 c1_i32_9 k0_t1
  let c320_i32_11 : BitVec 32 := 320#32
  let v19 : BitVec 32 := Scalar.muli arg7 c320_i32_11
  let v20 : BitVec 32 := Scalar.addi v19 v17
  let c320_i32 : BitVec 32 := 320#32
  let v18 : BitVec 32 := Scalar.subi c320_i32 v17
  let c256_i32 : BitVec 32 := 256#32
  let v21 : BitVec 32 := Scalar.andi v18 c256_i32
  let c0_i32_12 : BitVec 32 := 0#32
  let v22 : BitVec 1 := Scalar.cmpi .ne v21 c0_i32_12
  let c256_i32_14 : BitVec 32 := 256#32
  let c0_i32_15 : BitVec 32 := 0#32
  let v25 : BitVec 32 := Scalar.select v22 c256_i32_14 c0_i32_15
  let v26 : BitVec 32 := Scalar.addi v20 v25
  let c128_i32 : BitVec 32 := 128#32
  let v27 : BitVec 32 := Scalar.andi v18 c128_i32
  let c0_i32_16 : BitVec 32 := 0#32
  let v28 : BitVec 1 := Scalar.cmpi .ne v27 c0_i32_16
  let c128_i32_18 : BitVec 32 := 128#32
  let c0_i32_19 : BitVec 32 := 0#32
  let v31 : BitVec 32 := Scalar.select v28 c128_i32_18 c0_i32_19
  let v32 : BitVec 32 := Scalar.addi v26 v31
  let c64_i32 : BitVec 32 := 64#32
  let v33 : BitVec 32 := Scalar.andi v18 c64_i32
  let c0_i32_20 : BitVec 32 := 0#32
  let v34 : BitVec 1 := Scalar.cmpi .ne v33 c0_i32_20
  let c64_i32_22 : BitVec 32 := 64#32
  let c0_i32_23 : BitVec 32 := 0#32
  let v37 : BitVec 32 := Scalar.select v34 c64_i32_22 c0_i32_23
  let v38 : BitVec 32 := Scalar.addi v32 v37
  let c32_i32 : BitVec 32 := 32#32
  let v39 : BitVec 32 := Scalar.andi v18 c32_i32
  let c0_i32_24 : BitVec 32 := 0#32
  let v40 : BitVec 1 := Scalar.cmpi .ne v39 c0_i32_24
  let c32_i32_26 : BitVec 32 := 32#32
  let c0_i32_27 : BitVec 32 := 0#32
  let v43 : BitVec 32 := Scalar.select v40 c32_i32_26 c0_i32_27
  let v44 : BitVec 32 := Scalar.addi v38 v43
  let c16_i32 : BitVec 32 := 16#32
  let v45 : BitVec 32 := Scalar.andi v18 c16_i32
  let c0_i32_28 : BitVec 32 := 0#32
  let v46 : BitVec 1 := Scalar.cmpi .ne v45 c0_i32_28
  let c16_i32_30 : BitVec 32 := 16#32
  let c0_i32_31 : BitVec 32 := 0#32
  let v49 : BitVec 32 := Scalar.select v46 c16_i32_30 c0_i32_31
  let v50 : BitVec 32 := Scalar.addi v44 v49
  let c8_i32 : BitVec 32 := 8#32
  let v51 : BitVec 32 := Scalar.andi v18 c8_i32
  let c0_i32_32 : BitVec 32 := 0#32
  let v52 : BitVec 1 := Scalar.cmpi .ne v51 c0_i32_32
  let c8_i32_34 : BitVec 32 := 8#32
  let c0_i32_35 : BitVec 32 := 0#32
  let v55 : BitVec 32 := Scalar.select v52 c8_i32_34 c0_i32_35
  let v56 : BitVec 32 := Scalar.addi v50 v55
  let c4_i32 : BitVec 32 := 4#32
  let v57 : BitVec 32 := Scalar.andi v18 c4_i32
  let c0_i32_36 : BitVec 32 := 0#32
  let v58 : BitVec 1 := Scalar.cmpi .ne v57 c0_i32_36
  let c4_i32_38 : BitVec 32 := 4#32
  let c0_i32_39 : BitVec 32 := 0#32
  let v61 : BitVec 32 := Scalar.select v58 c4_i32_38 c0_i32_39
  let v62 : BitVec 32 := Scalar.addi v56 v61
  let c2_i32 : BitVec 32 := 2#32
  let v63 : BitVec 32 := Scalar.andi v18 c2_i32
  let c0_i32_40 : BitVec 32 := 0#32
  let v64 : BitVec 1 := Scalar.cmpi .ne v63 c0_i32_40
  let c2_i32_42 : BitVec 32 := 2#32
  let c0_i32_43 : BitVec 32 := 0#32
  let v67 : BitVec 32 := Scalar.select v64 c2_i32_42 c0_i32_43
  let v68 : BitVec 32 := Scalar.addi v62 v67
  let c8_i32_47 : BitVec 32 := 8#32
  let v73 : BitVec 32 := Scalar.muli v68 c8_i32_47
  let v74 : BitVec 32 := v73
  let c0_i32_49 : BitVec 32 := 0#32
  ![v74.toNat, 0]

def k0_chk1 (i : grid0.Coords) (k0_t1 : Fin k0_t1_loop.trips) (v17 : BitVec 32) : Prop :=
  (∀ (k0_h1 : k0_cond1 i = 1#1), ∀ (k0_h2 : k0_cond2 v17 = 1#1), 8 ∣ (k0_mult1 k0_t1 v17).toNat) ∧
  (∀ (k0_h1 : k0_cond1 i = 1#1), ∀ (k0_h2 : k0_cond2 v17 = 1#1), ∀ a, (k0_off2 k0_t1 v17) a + S2048x128.size a ≤ S552960x128.size a) ∧
  (∀ (k0_h1 : k0_cond1 i = 1#1), ∀ (k0_h3 : k0_cond3 v17 = 1#1), 8 ∣ (k0_mult2 k0_t1 v17).toNat) ∧
  (∀ (k0_h1 : k0_cond1 i = 1#1), ∀ (k0_h3 : k0_cond3 v17 = 1#1), ∀ a, (k0_off3 k0_t1 v17) a + S1024x128.size a ≤ S552960x128.size a) ∧
  (∀ (k0_h1 : k0_cond1 i = 1#1), ∀ (k0_h4 : k0_cond4 v17 = 1#1), 8 ∣ (k0_mult3 k0_t1 v17).toNat) ∧
  (∀ (k0_h1 : k0_cond1 i = 1#1), ∀ (k0_h4 : k0_cond4 v17 = 1#1), ∀ a, (k0_off4 k0_t1 v17) a + S512x128.size a ≤ S552960x128.size a) ∧
  (∀ (k0_h1 : k0_cond1 i = 1#1), ∀ (k0_h5 : k0_cond5 v17 = 1#1), 8 ∣ (k0_mult4 k0_t1 v17).toNat) ∧
  (∀ (k0_h1 : k0_cond1 i = 1#1), ∀ (k0_h5 : k0_cond5 v17 = 1#1), ∀ a, (k0_off5 k0_t1 v17) a + S256x128.size a ≤ S552960x128.size a) ∧
  (∀ (k0_h1 : k0_cond1 i = 1#1), ∀ (k0_h6 : k0_cond6 v17 = 1#1), 8 ∣ (k0_mult5 k0_t1 v17).toNat) ∧
  (∀ (k0_h1 : k0_cond1 i = 1#1), ∀ (k0_h6 : k0_cond6 v17 = 1#1), ∀ a, (k0_off6 k0_t1 v17) a + S128x128.size a ≤ S552960x128.size a) ∧
  (∀ (k0_h1 : k0_cond1 i = 1#1), ∀ (k0_h7 : k0_cond7 v17 = 1#1), 8 ∣ (k0_mult6 k0_t1 v17).toNat) ∧
  (∀ (k0_h1 : k0_cond1 i = 1#1), ∀ (k0_h7 : k0_cond7 v17 = 1#1), ∀ a, (k0_off7 k0_t1 v17) a + S64x128.size a ≤ S552960x128.size a) ∧
  (∀ (k0_h1 : k0_cond1 i = 1#1), ∀ (k0_h8 : k0_cond8 v17 = 1#1), 8 ∣ (k0_mult7 k0_t1 v17).toNat) ∧
  (∀ (k0_h1 : k0_cond1 i = 1#1), ∀ (k0_h8 : k0_cond8 v17 = 1#1), ∀ a, (k0_off8 k0_t1 v17) a + S32x128.size a ≤ S552960x128.size a) ∧
  (∀ (k0_h1 : k0_cond1 i = 1#1), ∀ (k0_h9 : k0_cond9 v17 = 1#1), 8 ∣ (k0_mult8 k0_t1 v17).toNat) ∧
  (∀ (k0_h1 : k0_cond1 i = 1#1), ∀ (k0_h9 : k0_cond9 v17 = 1#1), ∀ a, (k0_off9 k0_t1 v17) a + S16x128.size a ≤ S552960x128.size a) ∧
  (∀ (k0_h1 : k0_cond1 i = 1#1), ∀ (k0_h10 : k0_cond10 v17 = 1#1), 8 ∣ (k0_mult9 k0_t1 v17).toNat) ∧
  (∀ (k0_h1 : k0_cond1 i = 1#1), ∀ (k0_h10 : k0_cond10 v17 = 1#1), ∀ a, (k0_off10 k0_t1 v17) a + S8x128.size a ≤ S552960x128.size a)
theorem k0_mult1_dvd : ∀ (i : grid0.Coords) (k0_t1 : Fin k0_t1_loop.trips) (v17 : BitVec 32) (k0_hw1 : k0_chk1 i k0_t1 v17), ∀ (k0_h1 : k0_cond1 i = 1#1), ∀ (k0_h2 : k0_cond2 v17 = 1#1), 8 ∣ (k0_mult1 k0_t1 v17).toNat := fun i k0_t1 v17 k0_hw1 k0_h1 k0_h2 => k0_hw1.1 k0_h1 k0_h2
theorem k0_off2_inb : ∀ (i : grid0.Coords) (k0_t1 : Fin k0_t1_loop.trips) (v17 : BitVec 32) (k0_hw1 : k0_chk1 i k0_t1 v17), ∀ (k0_h1 : k0_cond1 i = 1#1), ∀ (k0_h2 : k0_cond2 v17 = 1#1), ∀ a, (k0_off2 k0_t1 v17) a + S2048x128.size a ≤ S552960x128.size a := fun i k0_t1 v17 k0_hw1 k0_h1 k0_h2 => k0_hw1.2.1 k0_h1 k0_h2
theorem k0_mult2_dvd : ∀ (i : grid0.Coords) (k0_t1 : Fin k0_t1_loop.trips) (v17 : BitVec 32) (k0_hw1 : k0_chk1 i k0_t1 v17), ∀ (k0_h1 : k0_cond1 i = 1#1), ∀ (k0_h3 : k0_cond3 v17 = 1#1), 8 ∣ (k0_mult2 k0_t1 v17).toNat := fun i k0_t1 v17 k0_hw1 k0_h1 k0_h3 => k0_hw1.2.2.1 k0_h1 k0_h3
theorem k0_off3_inb : ∀ (i : grid0.Coords) (k0_t1 : Fin k0_t1_loop.trips) (v17 : BitVec 32) (k0_hw1 : k0_chk1 i k0_t1 v17), ∀ (k0_h1 : k0_cond1 i = 1#1), ∀ (k0_h3 : k0_cond3 v17 = 1#1), ∀ a, (k0_off3 k0_t1 v17) a + S1024x128.size a ≤ S552960x128.size a := fun i k0_t1 v17 k0_hw1 k0_h1 k0_h3 => k0_hw1.2.2.2.1 k0_h1 k0_h3
theorem k0_mult3_dvd : ∀ (i : grid0.Coords) (k0_t1 : Fin k0_t1_loop.trips) (v17 : BitVec 32) (k0_hw1 : k0_chk1 i k0_t1 v17), ∀ (k0_h1 : k0_cond1 i = 1#1), ∀ (k0_h4 : k0_cond4 v17 = 1#1), 8 ∣ (k0_mult3 k0_t1 v17).toNat := fun i k0_t1 v17 k0_hw1 k0_h1 k0_h4 => k0_hw1.2.2.2.2.1 k0_h1 k0_h4
theorem k0_off4_inb : ∀ (i : grid0.Coords) (k0_t1 : Fin k0_t1_loop.trips) (v17 : BitVec 32) (k0_hw1 : k0_chk1 i k0_t1 v17), ∀ (k0_h1 : k0_cond1 i = 1#1), ∀ (k0_h4 : k0_cond4 v17 = 1#1), ∀ a, (k0_off4 k0_t1 v17) a + S512x128.size a ≤ S552960x128.size a := fun i k0_t1 v17 k0_hw1 k0_h1 k0_h4 => k0_hw1.2.2.2.2.2.1 k0_h1 k0_h4
theorem k0_mult4_dvd : ∀ (i : grid0.Coords) (k0_t1 : Fin k0_t1_loop.trips) (v17 : BitVec 32) (k0_hw1 : k0_chk1 i k0_t1 v17), ∀ (k0_h1 : k0_cond1 i = 1#1), ∀ (k0_h5 : k0_cond5 v17 = 1#1), 8 ∣ (k0_mult4 k0_t1 v17).toNat := fun i k0_t1 v17 k0_hw1 k0_h1 k0_h5 => k0_hw1.2.2.2.2.2.2.1 k0_h1 k0_h5
theorem k0_off5_inb : ∀ (i : grid0.Coords) (k0_t1 : Fin k0_t1_loop.trips) (v17 : BitVec 32) (k0_hw1 : k0_chk1 i k0_t1 v17), ∀ (k0_h1 : k0_cond1 i = 1#1), ∀ (k0_h5 : k0_cond5 v17 = 1#1), ∀ a, (k0_off5 k0_t1 v17) a + S256x128.size a ≤ S552960x128.size a := fun i k0_t1 v17 k0_hw1 k0_h1 k0_h5 => k0_hw1.2.2.2.2.2.2.2.1 k0_h1 k0_h5
theorem k0_mult5_dvd : ∀ (i : grid0.Coords) (k0_t1 : Fin k0_t1_loop.trips) (v17 : BitVec 32) (k0_hw1 : k0_chk1 i k0_t1 v17), ∀ (k0_h1 : k0_cond1 i = 1#1), ∀ (k0_h6 : k0_cond6 v17 = 1#1), 8 ∣ (k0_mult5 k0_t1 v17).toNat := fun i k0_t1 v17 k0_hw1 k0_h1 k0_h6 => k0_hw1.2.2.2.2.2.2.2.2.1 k0_h1 k0_h6
theorem k0_off6_inb : ∀ (i : grid0.Coords) (k0_t1 : Fin k0_t1_loop.trips) (v17 : BitVec 32) (k0_hw1 : k0_chk1 i k0_t1 v17), ∀ (k0_h1 : k0_cond1 i = 1#1), ∀ (k0_h6 : k0_cond6 v17 = 1#1), ∀ a, (k0_off6 k0_t1 v17) a + S128x128.size a ≤ S552960x128.size a := fun i k0_t1 v17 k0_hw1 k0_h1 k0_h6 => k0_hw1.2.2.2.2.2.2.2.2.2.1 k0_h1 k0_h6
theorem k0_mult6_dvd : ∀ (i : grid0.Coords) (k0_t1 : Fin k0_t1_loop.trips) (v17 : BitVec 32) (k0_hw1 : k0_chk1 i k0_t1 v17), ∀ (k0_h1 : k0_cond1 i = 1#1), ∀ (k0_h7 : k0_cond7 v17 = 1#1), 8 ∣ (k0_mult6 k0_t1 v17).toNat := fun i k0_t1 v17 k0_hw1 k0_h1 k0_h7 => k0_hw1.2.2.2.2.2.2.2.2.2.2.1 k0_h1 k0_h7
theorem k0_off7_inb : ∀ (i : grid0.Coords) (k0_t1 : Fin k0_t1_loop.trips) (v17 : BitVec 32) (k0_hw1 : k0_chk1 i k0_t1 v17), ∀ (k0_h1 : k0_cond1 i = 1#1), ∀ (k0_h7 : k0_cond7 v17 = 1#1), ∀ a, (k0_off7 k0_t1 v17) a + S64x128.size a ≤ S552960x128.size a := fun i k0_t1 v17 k0_hw1 k0_h1 k0_h7 => k0_hw1.2.2.2.2.2.2.2.2.2.2.2.1 k0_h1 k0_h7
theorem k0_mult7_dvd : ∀ (i : grid0.Coords) (k0_t1 : Fin k0_t1_loop.trips) (v17 : BitVec 32) (k0_hw1 : k0_chk1 i k0_t1 v17), ∀ (k0_h1 : k0_cond1 i = 1#1), ∀ (k0_h8 : k0_cond8 v17 = 1#1), 8 ∣ (k0_mult7 k0_t1 v17).toNat := fun i k0_t1 v17 k0_hw1 k0_h1 k0_h8 => k0_hw1.2.2.2.2.2.2.2.2.2.2.2.2.1 k0_h1 k0_h8
theorem k0_off8_inb : ∀ (i : grid0.Coords) (k0_t1 : Fin k0_t1_loop.trips) (v17 : BitVec 32) (k0_hw1 : k0_chk1 i k0_t1 v17), ∀ (k0_h1 : k0_cond1 i = 1#1), ∀ (k0_h8 : k0_cond8 v17 = 1#1), ∀ a, (k0_off8 k0_t1 v17) a + S32x128.size a ≤ S552960x128.size a := fun i k0_t1 v17 k0_hw1 k0_h1 k0_h8 => k0_hw1.2.2.2.2.2.2.2.2.2.2.2.2.2.1 k0_h1 k0_h8
theorem k0_mult8_dvd : ∀ (i : grid0.Coords) (k0_t1 : Fin k0_t1_loop.trips) (v17 : BitVec 32) (k0_hw1 : k0_chk1 i k0_t1 v17), ∀ (k0_h1 : k0_cond1 i = 1#1), ∀ (k0_h9 : k0_cond9 v17 = 1#1), 8 ∣ (k0_mult8 k0_t1 v17).toNat := fun i k0_t1 v17 k0_hw1 k0_h1 k0_h9 => k0_hw1.2.2.2.2.2.2.2.2.2.2.2.2.2.2.1 k0_h1 k0_h9
theorem k0_off9_inb : ∀ (i : grid0.Coords) (k0_t1 : Fin k0_t1_loop.trips) (v17 : BitVec 32) (k0_hw1 : k0_chk1 i k0_t1 v17), ∀ (k0_h1 : k0_cond1 i = 1#1), ∀ (k0_h9 : k0_cond9 v17 = 1#1), ∀ a, (k0_off9 k0_t1 v17) a + S16x128.size a ≤ S552960x128.size a := fun i k0_t1 v17 k0_hw1 k0_h1 k0_h9 => k0_hw1.2.2.2.2.2.2.2.2.2.2.2.2.2.2.2.1 k0_h1 k0_h9
theorem k0_mult9_dvd : ∀ (i : grid0.Coords) (k0_t1 : Fin k0_t1_loop.trips) (v17 : BitVec 32) (k0_hw1 : k0_chk1 i k0_t1 v17), ∀ (k0_h1 : k0_cond1 i = 1#1), ∀ (k0_h10 : k0_cond10 v17 = 1#1), 8 ∣ (k0_mult9 k0_t1 v17).toNat := fun i k0_t1 v17 k0_hw1 k0_h1 k0_h10 => k0_hw1.2.2.2.2.2.2.2.2.2.2.2.2.2.2.2.2.1 k0_h1 k0_h10
theorem k0_off10_inb : ∀ (i : grid0.Coords) (k0_t1 : Fin k0_t1_loop.trips) (v17 : BitVec 32) (k0_hw1 : k0_chk1 i k0_t1 v17), ∀ (k0_h1 : k0_cond1 i = 1#1), ∀ (k0_h10 : k0_cond10 v17 = 1#1), ∀ a, (k0_off10 k0_t1 v17) a + S8x128.size a ≤ S552960x128.size a := fun i k0_t1 v17 k0_hw1 k0_h1 k0_h10 => k0_hw1.2.2.2.2.2.2.2.2.2.2.2.2.2.2.2.2.2 k0_h1 k0_h10

@[reducible] def k0_t2_loop : Scf.Loop 32 :=
  let c0_i32_1 : BitVec 32 := 0#32
  let c512_i32 : BitVec 32 := 512#32
  let v4 : BitVec 32 := Scalar.addi c0_i32_1 c512_i32
  let c1_i32 : BitVec 32 := 1#32
  ⟨c0_i32_1, v4, c1_i32⟩
def k0_mult10 (k0_t2 : Fin k0_t2_loop.trips) : BitVec 32 :=
  let c0_i32_1 : BitVec 32 := 0#32
  let c1_i32 : BitVec 32 := 1#32
  let arg7 : BitVec 32 := Scf.iv c0_i32_1 c1_i32 k0_t2
  let c8_i32 : BitVec 32 := 8#32
  let v11 : BitVec 32 := Scalar.muli arg7 c8_i32
  let c0_i32_7 : BitVec 32 := 0#32
  let v12 : BitVec 32 := Scalar.addi v11 c0_i32_7
  let c8_i32_8 : BitVec 32 := 8#32
  let v13 : BitVec 32 := Scalar.muli v12 c8_i32_8
  v13
def k0_off11 (i : grid0.Coords) (k0_t2 : Fin k0_t2_loop.trips) : Fin 1 → Nat :=
  let arg0 : BitVec 32 := BitVec.ofNat 32 (i 0).val
  let c4096_i32 : BitVec 32 := 4096#32
  let v0 : BitVec 32 := Scalar.muli arg0 c4096_i32
  let c0_i32_1 : BitVec 32 := 0#32
  let c1_i32 : BitVec 32 := 1#32
  let arg7 : BitVec 32 := Scf.iv c0_i32_1 c1_i32 k0_t2
  let c8_i32 : BitVec 32 := 8#32
  let v11 : BitVec 32 := Scalar.muli arg7 c8_i32
  let c0_i32_7 : BitVec 32 := 0#32
  let v12 : BitVec 32 := Scalar.addi v11 c0_i32_7
  let v15 : BitVec 32 := Scalar.addi v0 v12
  let v16 : Index := Scalar.indexCast v15
  ![v16.toNat]
def k0_mult11 (v17 : BitVec 32) : BitVec 32 :=
  let c8_i32_9 : BitVec 32 := 8#32
  let v18 : BitVec 32 := Scalar.muli v17 c8_i32_9
  v18

def k0_off12 (v17 : BitVec 32) : Fin 2 → Nat :=
  let c8_i32_9 : BitVec 32 := 8#32
  let v18 : BitVec 32 := Scalar.muli v17 c8_i32_9
  let v19 : BitVec 32 := v18
  let c0_i32_11 : BitVec 32 := 0#32
  ![v19.toNat, 0]

def k0_chk2 (v17 : BitVec 32) : Prop :=
  (8 ∣ (k0_mult11 v17).toNat) ∧
  (∀ a, (k0_off12 v17) a + S8x128.size a ≤ S552960x128.size a)
theorem k0_mult11_dvd : ∀ (v17 : BitVec 32) (k0_hw2 : k0_chk2 v17), 8 ∣ (k0_mult11 v17).toNat := fun v17 k0_hw2 => k0_hw2.1
theorem k0_off12_inb : ∀ (v17 : BitVec 32) (k0_hw2 : k0_chk2 v17), ∀ a, (k0_off12 v17) a + S8x128.size a ≤ S552960x128.size a := fun v17 k0_hw2 => k0_hw2.2

def k0_off13 (k0_t2 : Fin k0_t2_loop.trips) : Fin 2 → Nat :=
  let c0_i32_1 : BitVec 32 := 0#32
  let c1_i32 : BitVec 32 := 1#32
  let arg7 : BitVec 32 := Scf.iv c0_i32_1 c1_i32 k0_t2
  let c8_i32 : BitVec 32 := 8#32
  let v11 : BitVec 32 := Scalar.muli arg7 c8_i32
  let c0_i32_7 : BitVec 32 := 0#32
  let v12 : BitVec 32 := Scalar.addi v11 c0_i32_7
  let c8_i32_8 : BitVec 32 := 8#32
  let v13 : BitVec 32 := Scalar.muli v12 c8_i32_8
  let v14 : BitVec 32 := v13
  let c0_i32_12 : BitVec 32 := 0#32
  ![v14.toNat, 0]
def k0_mult12 (k0_t2 : Fin k0_t2_loop.trips) : BitVec 32 :=
  let c0_i32_1 : BitVec 32 := 0#32
  let c1_i32 : BitVec 32 := 1#32
  let arg7 : BitVec 32 := Scf.iv c0_i32_1 c1_i32 k0_t2
  let c8_i32_13 : BitVec 32 := 8#32
  let v24 : BitVec 32 := Scalar.muli arg7 c8_i32_13
  let c1_i32_14 : BitVec 32 := 1#32
  let v25 : BitVec 32 := Scalar.addi v24 c1_i32_14
  let c8_i32_15 : BitVec 32 := 8#32
  let v26 : BitVec 32 := Scalar.muli v25 c8_i32_15
  v26
def k0_off14 (i : grid0.Coords) (k0_t2 : Fin k0_t2_loop.trips) : Fin 1 → Nat :=
  let arg0 : BitVec 32 := BitVec.ofNat 32 (i 0).val
  let c4096_i32 : BitVec 32 := 4096#32
  let v0 : BitVec 32 := Scalar.muli arg0 c4096_i32
  let c0_i32_1 : BitVec 32 := 0#32
  let c1_i32 : BitVec 32 := 1#32
  let arg7 : BitVec 32 := Scf.iv c0_i32_1 c1_i32 k0_t2
  let c8_i32_13 : BitVec 32 := 8#32
  let v24 : BitVec 32 := Scalar.muli arg7 c8_i32_13
  let c1_i32_14 : BitVec 32 := 1#32
  let v25 : BitVec 32 := Scalar.addi v24 c1_i32_14
  let v28 : BitVec 32 := Scalar.addi v0 v25
  let v29 : Index := Scalar.indexCast v28
  ![v29.toNat]
def k0_mult13 (v30 : BitVec 32) : BitVec 32 :=
  let c8_i32_16 : BitVec 32 := 8#32
  let v31 : BitVec 32 := Scalar.muli v30 c8_i32_16
  v31

def k0_off15 (v30 : BitVec 32) : Fin 2 → Nat :=
  let c8_i32_16 : BitVec 32 := 8#32
  let v31 : BitVec 32 := Scalar.muli v30 c8_i32_16
  let v32 : BitVec 32 := v31
  let c0_i32_18 : BitVec 32 := 0#32
  ![v32.toNat, 0]

def k0_chk3 (v30 : BitVec 32) : Prop :=
  (8 ∣ (k0_mult13 v30).toNat) ∧
  (∀ a, (k0_off15 v30) a + S8x128.size a ≤ S552960x128.size a)
theorem k0_mult13_dvd : ∀ (v30 : BitVec 32) (k0_hw3 : k0_chk3 v30), 8 ∣ (k0_mult13 v30).toNat := fun v30 k0_hw3 => k0_hw3.1
theorem k0_off15_inb : ∀ (v30 : BitVec 32) (k0_hw3 : k0_chk3 v30), ∀ a, (k0_off15 v30) a + S8x128.size a ≤ S552960x128.size a := fun v30 k0_hw3 => k0_hw3.2

def k0_off16 (k0_t2 : Fin k0_t2_loop.trips) : Fin 2 → Nat :=
  let c0_i32_1 : BitVec 32 := 0#32
  let c1_i32 : BitVec 32 := 1#32
  let arg7 : BitVec 32 := Scf.iv c0_i32_1 c1_i32 k0_t2
  let c8_i32_13 : BitVec 32 := 8#32
  let v24 : BitVec 32 := Scalar.muli arg7 c8_i32_13
  let c1_i32_14 : BitVec 32 := 1#32
  let v25 : BitVec 32 := Scalar.addi v24 c1_i32_14
  let c8_i32_15 : BitVec 32 := 8#32
  let v26 : BitVec 32 := Scalar.muli v25 c8_i32_15
  let v27 : BitVec 32 := v26
  let c0_i32_19 : BitVec 32 := 0#32
  ![v27.toNat, 0]
def k0_mult14 (k0_t2 : Fin k0_t2_loop.trips) : BitVec 32 :=
  let c0_i32_1 : BitVec 32 := 0#32
  let c1_i32 : BitVec 32 := 1#32
  let arg7 : BitVec 32 := Scf.iv c0_i32_1 c1_i32 k0_t2
  let c8_i32_20 : BitVec 32 := 8#32
  let v37 : BitVec 32 := Scalar.muli arg7 c8_i32_20
  let c2_i32 : BitVec 32 := 2#32
  let v38 : BitVec 32 := Scalar.addi v37 c2_i32
  let c8_i32_21 : BitVec 32 := 8#32
  let v39 : BitVec 32 := Scalar.muli v38 c8_i32_21
  v39
def k0_off17 (i : grid0.Coords) (k0_t2 : Fin k0_t2_loop.trips) : Fin 1 → Nat :=
  let arg0 : BitVec 32 := BitVec.ofNat 32 (i 0).val
  let c4096_i32 : BitVec 32 := 4096#32
  let v0 : BitVec 32 := Scalar.muli arg0 c4096_i32
  let c0_i32_1 : BitVec 32 := 0#32
  let c1_i32 : BitVec 32 := 1#32
  let arg7 : BitVec 32 := Scf.iv c0_i32_1 c1_i32 k0_t2
  let c8_i32_20 : BitVec 32 := 8#32
  let v37 : BitVec 32 := Scalar.muli arg7 c8_i32_20
  let c2_i32 : BitVec 32 := 2#32
  let v38 : BitVec 32 := Scalar.addi v37 c2_i32
  let v41 : BitVec 32 := Scalar.addi v0 v38
  let v42 : Index := Scalar.indexCast v41
  ![v42.toNat]
def k0_mult15 (v43 : BitVec 32) : BitVec 32 :=
  let c8_i32_22 : BitVec 32 := 8#32
  let v44 : BitVec 32 := Scalar.muli v43 c8_i32_22
  v44

def k0_off18 (v43 : BitVec 32) : Fin 2 → Nat :=
  let c8_i32_22 : BitVec 32 := 8#32
  let v44 : BitVec 32 := Scalar.muli v43 c8_i32_22
  let v45 : BitVec 32 := v44
  let c0_i32_24 : BitVec 32 := 0#32
  ![v45.toNat, 0]

def k0_chk4 (v43 : BitVec 32) : Prop :=
  (8 ∣ (k0_mult15 v43).toNat) ∧
  (∀ a, (k0_off18 v43) a + S8x128.size a ≤ S552960x128.size a)
theorem k0_mult15_dvd : ∀ (v43 : BitVec 32) (k0_hw4 : k0_chk4 v43), 8 ∣ (k0_mult15 v43).toNat := fun v43 k0_hw4 => k0_hw4.1
theorem k0_off18_inb : ∀ (v43 : BitVec 32) (k0_hw4 : k0_chk4 v43), ∀ a, (k0_off18 v43) a + S8x128.size a ≤ S552960x128.size a := fun v43 k0_hw4 => k0_hw4.2

def k0_off19 (k0_t2 : Fin k0_t2_loop.trips) : Fin 2 → Nat :=
  let c0_i32_1 : BitVec 32 := 0#32
  let c1_i32 : BitVec 32 := 1#32
  let arg7 : BitVec 32 := Scf.iv c0_i32_1 c1_i32 k0_t2
  let c8_i32_20 : BitVec 32 := 8#32
  let v37 : BitVec 32 := Scalar.muli arg7 c8_i32_20
  let c2_i32 : BitVec 32 := 2#32
  let v38 : BitVec 32 := Scalar.addi v37 c2_i32
  let c8_i32_21 : BitVec 32 := 8#32
  let v39 : BitVec 32 := Scalar.muli v38 c8_i32_21
  let v40 : BitVec 32 := v39
  let c0_i32_25 : BitVec 32 := 0#32
  ![v40.toNat, 0]
def k0_mult16 (k0_t2 : Fin k0_t2_loop.trips) : BitVec 32 :=
  let c0_i32_1 : BitVec 32 := 0#32
  let c1_i32 : BitVec 32 := 1#32
  let arg7 : BitVec 32 := Scf.iv c0_i32_1 c1_i32 k0_t2
  let c8_i32_26 : BitVec 32 := 8#32
  let v50 : BitVec 32 := Scalar.muli arg7 c8_i32_26
  let c3_i32 : BitVec 32 := 3#32
  let v51 : BitVec 32 := Scalar.addi v50 c3_i32
  let c8_i32_27 : BitVec 32 := 8#32
  let v52 : BitVec 32 := Scalar.muli v51 c8_i32_27
  v52
def k0_off20 (i : grid0.Coords) (k0_t2 : Fin k0_t2_loop.trips) : Fin 1 → Nat :=
  let arg0 : BitVec 32 := BitVec.ofNat 32 (i 0).val
  let c4096_i32 : BitVec 32 := 4096#32
  let v0 : BitVec 32 := Scalar.muli arg0 c4096_i32
  let c0_i32_1 : BitVec 32 := 0#32
  let c1_i32 : BitVec 32 := 1#32
  let arg7 : BitVec 32 := Scf.iv c0_i32_1 c1_i32 k0_t2
  let c8_i32_26 : BitVec 32 := 8#32
  let v50 : BitVec 32 := Scalar.muli arg7 c8_i32_26
  let c3_i32 : BitVec 32 := 3#32
  let v51 : BitVec 32 := Scalar.addi v50 c3_i32
  let v54 : BitVec 32 := Scalar.addi v0 v51
  let v55 : Index := Scalar.indexCast v54
  ![v55.toNat]
def k0_mult17 (v56 : BitVec 32) : BitVec 32 :=
  let c8_i32_28 : BitVec 32 := 8#32
  let v57 : BitVec 32 := Scalar.muli v56 c8_i32_28
  v57

def k0_off21 (v56 : BitVec 32) : Fin 2 → Nat :=
  let c8_i32_28 : BitVec 32 := 8#32
  let v57 : BitVec 32 := Scalar.muli v56 c8_i32_28
  let v58 : BitVec 32 := v57
  let c0_i32_30 : BitVec 32 := 0#32
  ![v58.toNat, 0]

def k0_chk5 (v56 : BitVec 32) : Prop :=
  (8 ∣ (k0_mult17 v56).toNat) ∧
  (∀ a, (k0_off21 v56) a + S8x128.size a ≤ S552960x128.size a)
theorem k0_mult17_dvd : ∀ (v56 : BitVec 32) (k0_hw5 : k0_chk5 v56), 8 ∣ (k0_mult17 v56).toNat := fun v56 k0_hw5 => k0_hw5.1
theorem k0_off21_inb : ∀ (v56 : BitVec 32) (k0_hw5 : k0_chk5 v56), ∀ a, (k0_off21 v56) a + S8x128.size a ≤ S552960x128.size a := fun v56 k0_hw5 => k0_hw5.2

def k0_off22 (k0_t2 : Fin k0_t2_loop.trips) : Fin 2 → Nat :=
  let c0_i32_1 : BitVec 32 := 0#32
  let c1_i32 : BitVec 32 := 1#32
  let arg7 : BitVec 32 := Scf.iv c0_i32_1 c1_i32 k0_t2
  let c8_i32_26 : BitVec 32 := 8#32
  let v50 : BitVec 32 := Scalar.muli arg7 c8_i32_26
  let c3_i32 : BitVec 32 := 3#32
  let v51 : BitVec 32 := Scalar.addi v50 c3_i32
  let c8_i32_27 : BitVec 32 := 8#32
  let v52 : BitVec 32 := Scalar.muli v51 c8_i32_27
  let v53 : BitVec 32 := v52
  let c0_i32_31 : BitVec 32 := 0#32
  ![v53.toNat, 0]
def k0_mult18 (k0_t2 : Fin k0_t2_loop.trips) : BitVec 32 :=
  let c0_i32_1 : BitVec 32 := 0#32
  let c1_i32 : BitVec 32 := 1#32
  let arg7 : BitVec 32 := Scf.iv c0_i32_1 c1_i32 k0_t2
  let c8_i32_32 : BitVec 32 := 8#32
  let v63 : BitVec 32 := Scalar.muli arg7 c8_i32_32
  let c4_i32 : BitVec 32 := 4#32
  let v64 : BitVec 32 := Scalar.addi v63 c4_i32
  let c8_i32_33 : BitVec 32 := 8#32
  let v65 : BitVec 32 := Scalar.muli v64 c8_i32_33
  v65
def k0_off23 (i : grid0.Coords) (k0_t2 : Fin k0_t2_loop.trips) : Fin 1 → Nat :=
  let arg0 : BitVec 32 := BitVec.ofNat 32 (i 0).val
  let c4096_i32 : BitVec 32 := 4096#32
  let v0 : BitVec 32 := Scalar.muli arg0 c4096_i32
  let c0_i32_1 : BitVec 32 := 0#32
  let c1_i32 : BitVec 32 := 1#32
  let arg7 : BitVec 32 := Scf.iv c0_i32_1 c1_i32 k0_t2
  let c8_i32_32 : BitVec 32 := 8#32
  let v63 : BitVec 32 := Scalar.muli arg7 c8_i32_32
  let c4_i32 : BitVec 32 := 4#32
  let v64 : BitVec 32 := Scalar.addi v63 c4_i32
  let v67 : BitVec 32 := Scalar.addi v0 v64
  let v68 : Index := Scalar.indexCast v67
  ![v68.toNat]
def k0_mult19 (v69 : BitVec 32) : BitVec 32 :=
  let c8_i32_34 : BitVec 32 := 8#32
  let v70 : BitVec 32 := Scalar.muli v69 c8_i32_34
  v70

def k0_off24 (v69 : BitVec 32) : Fin 2 → Nat :=
  let c8_i32_34 : BitVec 32 := 8#32
  let v70 : BitVec 32 := Scalar.muli v69 c8_i32_34
  let v71 : BitVec 32 := v70
  let c0_i32_36 : BitVec 32 := 0#32
  ![v71.toNat, 0]

def k0_chk6 (v69 : BitVec 32) : Prop :=
  (8 ∣ (k0_mult19 v69).toNat) ∧
  (∀ a, (k0_off24 v69) a + S8x128.size a ≤ S552960x128.size a)
theorem k0_mult19_dvd : ∀ (v69 : BitVec 32) (k0_hw6 : k0_chk6 v69), 8 ∣ (k0_mult19 v69).toNat := fun v69 k0_hw6 => k0_hw6.1
theorem k0_off24_inb : ∀ (v69 : BitVec 32) (k0_hw6 : k0_chk6 v69), ∀ a, (k0_off24 v69) a + S8x128.size a ≤ S552960x128.size a := fun v69 k0_hw6 => k0_hw6.2

def k0_off25 (k0_t2 : Fin k0_t2_loop.trips) : Fin 2 → Nat :=
  let c0_i32_1 : BitVec 32 := 0#32
  let c1_i32 : BitVec 32 := 1#32
  let arg7 : BitVec 32 := Scf.iv c0_i32_1 c1_i32 k0_t2
  let c8_i32_32 : BitVec 32 := 8#32
  let v63 : BitVec 32 := Scalar.muli arg7 c8_i32_32
  let c4_i32 : BitVec 32 := 4#32
  let v64 : BitVec 32 := Scalar.addi v63 c4_i32
  let c8_i32_33 : BitVec 32 := 8#32
  let v65 : BitVec 32 := Scalar.muli v64 c8_i32_33
  let v66 : BitVec 32 := v65
  let c0_i32_37 : BitVec 32 := 0#32
  ![v66.toNat, 0]
def k0_mult20 (k0_t2 : Fin k0_t2_loop.trips) : BitVec 32 :=
  let c0_i32_1 : BitVec 32 := 0#32
  let c1_i32 : BitVec 32 := 1#32
  let arg7 : BitVec 32 := Scf.iv c0_i32_1 c1_i32 k0_t2
  let c8_i32_38 : BitVec 32 := 8#32
  let v76 : BitVec 32 := Scalar.muli arg7 c8_i32_38
  let c5_i32 : BitVec 32 := 5#32
  let v77 : BitVec 32 := Scalar.addi v76 c5_i32
  let c8_i32_39 : BitVec 32 := 8#32
  let v78 : BitVec 32 := Scalar.muli v77 c8_i32_39
  v78
def k0_off26 (i : grid0.Coords) (k0_t2 : Fin k0_t2_loop.trips) : Fin 1 → Nat :=
  let arg0 : BitVec 32 := BitVec.ofNat 32 (i 0).val
  let c4096_i32 : BitVec 32 := 4096#32
  let v0 : BitVec 32 := Scalar.muli arg0 c4096_i32
  let c0_i32_1 : BitVec 32 := 0#32
  let c1_i32 : BitVec 32 := 1#32
  let arg7 : BitVec 32 := Scf.iv c0_i32_1 c1_i32 k0_t2
  let c8_i32_38 : BitVec 32 := 8#32
  let v76 : BitVec 32 := Scalar.muli arg7 c8_i32_38
  let c5_i32 : BitVec 32 := 5#32
  let v77 : BitVec 32 := Scalar.addi v76 c5_i32
  let v80 : BitVec 32 := Scalar.addi v0 v77
  let v81 : Index := Scalar.indexCast v80
  ![v81.toNat]
def k0_mult21 (v82 : BitVec 32) : BitVec 32 :=
  let c8_i32_40 : BitVec 32 := 8#32
  let v83 : BitVec 32 := Scalar.muli v82 c8_i32_40
  v83

def k0_off27 (v82 : BitVec 32) : Fin 2 → Nat :=
  let c8_i32_40 : BitVec 32 := 8#32
  let v83 : BitVec 32 := Scalar.muli v82 c8_i32_40
  let v84 : BitVec 32 := v83
  let c0_i32_42 : BitVec 32 := 0#32
  ![v84.toNat, 0]

def k0_chk7 (v82 : BitVec 32) : Prop :=
  (8 ∣ (k0_mult21 v82).toNat) ∧
  (∀ a, (k0_off27 v82) a + S8x128.size a ≤ S552960x128.size a)
theorem k0_mult21_dvd : ∀ (v82 : BitVec 32) (k0_hw7 : k0_chk7 v82), 8 ∣ (k0_mult21 v82).toNat := fun v82 k0_hw7 => k0_hw7.1
theorem k0_off27_inb : ∀ (v82 : BitVec 32) (k0_hw7 : k0_chk7 v82), ∀ a, (k0_off27 v82) a + S8x128.size a ≤ S552960x128.size a := fun v82 k0_hw7 => k0_hw7.2

def k0_off28 (k0_t2 : Fin k0_t2_loop.trips) : Fin 2 → Nat :=
  let c0_i32_1 : BitVec 32 := 0#32
  let c1_i32 : BitVec 32 := 1#32
  let arg7 : BitVec 32 := Scf.iv c0_i32_1 c1_i32 k0_t2
  let c8_i32_38 : BitVec 32 := 8#32
  let v76 : BitVec 32 := Scalar.muli arg7 c8_i32_38
  let c5_i32 : BitVec 32 := 5#32
  let v77 : BitVec 32 := Scalar.addi v76 c5_i32
  let c8_i32_39 : BitVec 32 := 8#32
  let v78 : BitVec 32 := Scalar.muli v77 c8_i32_39
  let v79 : BitVec 32 := v78
  let c0_i32_43 : BitVec 32 := 0#32
  ![v79.toNat, 0]
def k0_mult22 (k0_t2 : Fin k0_t2_loop.trips) : BitVec 32 :=
  let c0_i32_1 : BitVec 32 := 0#32
  let c1_i32 : BitVec 32 := 1#32
  let arg7 : BitVec 32 := Scf.iv c0_i32_1 c1_i32 k0_t2
  let c8_i32_44 : BitVec 32 := 8#32
  let v89 : BitVec 32 := Scalar.muli arg7 c8_i32_44
  let c6_i32 : BitVec 32 := 6#32
  let v90 : BitVec 32 := Scalar.addi v89 c6_i32
  let c8_i32_45 : BitVec 32 := 8#32
  let v91 : BitVec 32 := Scalar.muli v90 c8_i32_45
  v91
def k0_off29 (i : grid0.Coords) (k0_t2 : Fin k0_t2_loop.trips) : Fin 1 → Nat :=
  let arg0 : BitVec 32 := BitVec.ofNat 32 (i 0).val
  let c4096_i32 : BitVec 32 := 4096#32
  let v0 : BitVec 32 := Scalar.muli arg0 c4096_i32
  let c0_i32_1 : BitVec 32 := 0#32
  let c1_i32 : BitVec 32 := 1#32
  let arg7 : BitVec 32 := Scf.iv c0_i32_1 c1_i32 k0_t2
  let c8_i32_44 : BitVec 32 := 8#32
  let v89 : BitVec 32 := Scalar.muli arg7 c8_i32_44
  let c6_i32 : BitVec 32 := 6#32
  let v90 : BitVec 32 := Scalar.addi v89 c6_i32
  let v93 : BitVec 32 := Scalar.addi v0 v90
  let v94 : Index := Scalar.indexCast v93
  ![v94.toNat]
def k0_mult23 (v95 : BitVec 32) : BitVec 32 :=
  let c8_i32_46 : BitVec 32 := 8#32
  let v96 : BitVec 32 := Scalar.muli v95 c8_i32_46
  v96

def k0_off30 (v95 : BitVec 32) : Fin 2 → Nat :=
  let c8_i32_46 : BitVec 32 := 8#32
  let v96 : BitVec 32 := Scalar.muli v95 c8_i32_46
  let v97 : BitVec 32 := v96
  let c0_i32_48 : BitVec 32 := 0#32
  ![v97.toNat, 0]

def k0_chk8 (v95 : BitVec 32) : Prop :=
  (8 ∣ (k0_mult23 v95).toNat) ∧
  (∀ a, (k0_off30 v95) a + S8x128.size a ≤ S552960x128.size a)
theorem k0_mult23_dvd : ∀ (v95 : BitVec 32) (k0_hw8 : k0_chk8 v95), 8 ∣ (k0_mult23 v95).toNat := fun v95 k0_hw8 => k0_hw8.1
theorem k0_off30_inb : ∀ (v95 : BitVec 32) (k0_hw8 : k0_chk8 v95), ∀ a, (k0_off30 v95) a + S8x128.size a ≤ S552960x128.size a := fun v95 k0_hw8 => k0_hw8.2

def k0_off31 (k0_t2 : Fin k0_t2_loop.trips) : Fin 2 → Nat :=
  let c0_i32_1 : BitVec 32 := 0#32
  let c1_i32 : BitVec 32 := 1#32
  let arg7 : BitVec 32 := Scf.iv c0_i32_1 c1_i32 k0_t2
  let c8_i32_44 : BitVec 32 := 8#32
  let v89 : BitVec 32 := Scalar.muli arg7 c8_i32_44
  let c6_i32 : BitVec 32 := 6#32
  let v90 : BitVec 32 := Scalar.addi v89 c6_i32
  let c8_i32_45 : BitVec 32 := 8#32
  let v91 : BitVec 32 := Scalar.muli v90 c8_i32_45
  let v92 : BitVec 32 := v91
  let c0_i32_49 : BitVec 32 := 0#32
  ![v92.toNat, 0]
def k0_mult24 (k0_t2 : Fin k0_t2_loop.trips) : BitVec 32 :=
  let c0_i32_1 : BitVec 32 := 0#32
  let c1_i32 : BitVec 32 := 1#32
  let arg7 : BitVec 32 := Scf.iv c0_i32_1 c1_i32 k0_t2
  let c8_i32_50 : BitVec 32 := 8#32
  let v102 : BitVec 32 := Scalar.muli arg7 c8_i32_50
  let c7_i32_51 : BitVec 32 := 7#32
  let v103 : BitVec 32 := Scalar.addi v102 c7_i32_51
  let c8_i32_52 : BitVec 32 := 8#32
  let v104 : BitVec 32 := Scalar.muli v103 c8_i32_52
  v104
def k0_off32 (i : grid0.Coords) (k0_t2 : Fin k0_t2_loop.trips) : Fin 1 → Nat :=
  let arg0 : BitVec 32 := BitVec.ofNat 32 (i 0).val
  let c4096_i32 : BitVec 32 := 4096#32
  let v0 : BitVec 32 := Scalar.muli arg0 c4096_i32
  let c0_i32_1 : BitVec 32 := 0#32
  let c1_i32 : BitVec 32 := 1#32
  let arg7 : BitVec 32 := Scf.iv c0_i32_1 c1_i32 k0_t2
  let c8_i32_50 : BitVec 32 := 8#32
  let v102 : BitVec 32 := Scalar.muli arg7 c8_i32_50
  let c7_i32_51 : BitVec 32 := 7#32
  let v103 : BitVec 32 := Scalar.addi v102 c7_i32_51
  let v106 : BitVec 32 := Scalar.addi v0 v103
  let v107 : Index := Scalar.indexCast v106
  ![v107.toNat]
def k0_mult25 (v108 : BitVec 32) : BitVec 32 :=
  let c8_i32_53 : BitVec 32 := 8#32
  let v109 : BitVec 32 := Scalar.muli v108 c8_i32_53
  v109

def k0_off33 (v108 : BitVec 32) : Fin 2 → Nat :=
  let c8_i32_53 : BitVec 32 := 8#32
  let v109 : BitVec 32 := Scalar.muli v108 c8_i32_53
  let v110 : BitVec 32 := v109
  let c0_i32_55 : BitVec 32 := 0#32
  ![v110.toNat, 0]

def k0_chk9 (v108 : BitVec 32) : Prop :=
  (8 ∣ (k0_mult25 v108).toNat) ∧
  (∀ a, (k0_off33 v108) a + S8x128.size a ≤ S552960x128.size a)
theorem k0_mult25_dvd : ∀ (v108 : BitVec 32) (k0_hw9 : k0_chk9 v108), 8 ∣ (k0_mult25 v108).toNat := fun v108 k0_hw9 => k0_hw9.1
theorem k0_off33_inb : ∀ (v108 : BitVec 32) (k0_hw9 : k0_chk9 v108), ∀ a, (k0_off33 v108) a + S8x128.size a ≤ S552960x128.size a := fun v108 k0_hw9 => k0_hw9.2

def k0_off34 (k0_t2 : Fin k0_t2_loop.trips) : Fin 2 → Nat :=
  let c0_i32_1 : BitVec 32 := 0#32
  let c1_i32 : BitVec 32 := 1#32
  let arg7 : BitVec 32 := Scf.iv c0_i32_1 c1_i32 k0_t2
  let c8_i32_50 : BitVec 32 := 8#32
  let v102 : BitVec 32 := Scalar.muli arg7 c8_i32_50
  let c7_i32_51 : BitVec 32 := 7#32
  let v103 : BitVec 32 := Scalar.addi v102 c7_i32_51
  let c8_i32_52 : BitVec 32 := 8#32
  let v104 : BitVec 32 := Scalar.muli v103 c8_i32_52
  let v105 : BitVec 32 := v104
  let c0_i32_56 : BitVec 32 := 0#32
  ![v105.toNat, 0]
def k0_cond11 (i : grid0.Coords) : BitVec 1 :=
  let arg0 : BitVec 32 := BitVec.ofNat 32 (i 0).val
  let c7_i32 : BitVec 32 := 7#32
  let v8 : BitVec 1 := Scalar.cmpi .eq arg0 c7_i32
  let v9 : BitVec 32 := Scalar.extui v8
  let c0_i32_6 : BitVec 32 := 0#32
  let v10 : BitVec 1 := Scalar.cmpi .ne v9 c0_i32_6
  v10

@[reducible] def k0_t3_loop : Scf.Loop 32 :=
  let c0_i32_7 : BitVec 32 := 0#32
  let c216_i32 : BitVec 32 := 216#32
  let v11 : BitVec 32 := Scalar.addi c0_i32_7 c216_i32
  let c1_i32_8 : BitVec 32 := 1#32
  ⟨c0_i32_7, v11, c1_i32_8⟩
def k0_off35 (k0_t3 : Fin k0_t3_loop.trips) : Fin 1 → Nat :=
  let c0_i32_7 : BitVec 32 := 0#32
  let c1_i32_8 : BitVec 32 := 1#32
  let arg7 : BitVec 32 := Scf.iv c0_i32_7 c1_i32_8 k0_t3
  let v12 : Index := Scalar.indexCast arg7
  ![v12.toNat]
def k0_mult26 (k0_t3 : Fin k0_t3_loop.trips) (v13 : BitVec 32) : BitVec 32 :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c8_i32_46 : BitVec 32 := 8#32
  let v69 : BitVec 32 := Scalar.muli v16 c8_i32_46
  v69
def k0_cond12 (v13 : BitVec 32) : BitVec 1 :=
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let v19 : BitVec 32 := Scalar.extui v18
  let c0_i32_12 : BitVec 32 := 0#32
  let v20 : BitVec 1 := Scalar.cmpi .ne v19 c0_i32_12
  v20

def k0_off36 (k0_t3 : Fin k0_t3_loop.trips) (v13 : BitVec 32) : Fin 2 → Nat :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c8_i32_46 : BitVec 32 := 8#32
  let v69 : BitVec 32 := Scalar.muli v16 c8_i32_46
  let v70 : BitVec 32 := v69
  let c0_i32_48 : BitVec 32 := 0#32
  ![v70.toNat, 0]
def k0_mult27 (k0_t3 : Fin k0_t3_loop.trips) (v13 : BitVec 32) : BitVec 32 :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let c256_i32_13 : BitVec 32 := 256#32
  let c0_i32_14 : BitVec 32 := 0#32
  let v21 : BitVec 32 := Scalar.select v18 c256_i32_13 c0_i32_14
  let v22 : BitVec 32 := Scalar.addi v16 v21
  let c8_i32_46 : BitVec 32 := 8#32
  let v69 : BitVec 32 := Scalar.muli v22 c8_i32_46
  v69
def k0_cond13 (v13 : BitVec 32) : BitVec 1 :=
  let c320_i32 : BitVec 32 := 320#32
  let v14 : BitVec 32 := Scalar.subi c320_i32 v13
  let c128_i32 : BitVec 32 := 128#32
  let v23 : BitVec 32 := Scalar.andi v14 c128_i32
  let c0_i32_15 : BitVec 32 := 0#32
  let v24 : BitVec 1 := Scalar.cmpi .ne v23 c0_i32_15
  let v25 : BitVec 32 := Scalar.extui v24
  let c0_i32_16 : BitVec 32 := 0#32
  let v26 : BitVec 1 := Scalar.cmpi .ne v25 c0_i32_16
  v26

def k0_off37 (k0_t3 : Fin k0_t3_loop.trips) (v13 : BitVec 32) : Fin 2 → Nat :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let c256_i32_13 : BitVec 32 := 256#32
  let c0_i32_14 : BitVec 32 := 0#32
  let v21 : BitVec 32 := Scalar.select v18 c256_i32_13 c0_i32_14
  let v22 : BitVec 32 := Scalar.addi v16 v21
  let c8_i32_46 : BitVec 32 := 8#32
  let v69 : BitVec 32 := Scalar.muli v22 c8_i32_46
  let v70 : BitVec 32 := v69
  let c0_i32_48 : BitVec 32 := 0#32
  ![v70.toNat, 0]
def k0_mult28 (k0_t3 : Fin k0_t3_loop.trips) (v13 : BitVec 32) : BitVec 32 :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let c256_i32_13 : BitVec 32 := 256#32
  let c0_i32_14 : BitVec 32 := 0#32
  let v21 : BitVec 32 := Scalar.select v18 c256_i32_13 c0_i32_14
  let v22 : BitVec 32 := Scalar.addi v16 v21
  let c128_i32 : BitVec 32 := 128#32
  let v23 : BitVec 32 := Scalar.andi v14 c128_i32
  let c0_i32_15 : BitVec 32 := 0#32
  let v24 : BitVec 1 := Scalar.cmpi .ne v23 c0_i32_15
  let c128_i32_17 : BitVec 32 := 128#32
  let c0_i32_18 : BitVec 32 := 0#32
  let v27 : BitVec 32 := Scalar.select v24 c128_i32_17 c0_i32_18
  let v28 : BitVec 32 := Scalar.addi v22 v27
  let c8_i32_46 : BitVec 32 := 8#32
  let v69 : BitVec 32 := Scalar.muli v28 c8_i32_46
  v69
def k0_cond14 (v13 : BitVec 32) : BitVec 1 :=
  let c320_i32 : BitVec 32 := 320#32
  let v14 : BitVec 32 := Scalar.subi c320_i32 v13
  let c64_i32 : BitVec 32 := 64#32
  let v29 : BitVec 32 := Scalar.andi v14 c64_i32
  let c0_i32_19 : BitVec 32 := 0#32
  let v30 : BitVec 1 := Scalar.cmpi .ne v29 c0_i32_19
  let v31 : BitVec 32 := Scalar.extui v30
  let c0_i32_20 : BitVec 32 := 0#32
  let v32 : BitVec 1 := Scalar.cmpi .ne v31 c0_i32_20
  v32

def k0_off38 (k0_t3 : Fin k0_t3_loop.trips) (v13 : BitVec 32) : Fin 2 → Nat :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let c256_i32_13 : BitVec 32 := 256#32
  let c0_i32_14 : BitVec 32 := 0#32
  let v21 : BitVec 32 := Scalar.select v18 c256_i32_13 c0_i32_14
  let v22 : BitVec 32 := Scalar.addi v16 v21
  let c128_i32 : BitVec 32 := 128#32
  let v23 : BitVec 32 := Scalar.andi v14 c128_i32
  let c0_i32_15 : BitVec 32 := 0#32
  let v24 : BitVec 1 := Scalar.cmpi .ne v23 c0_i32_15
  let c128_i32_17 : BitVec 32 := 128#32
  let c0_i32_18 : BitVec 32 := 0#32
  let v27 : BitVec 32 := Scalar.select v24 c128_i32_17 c0_i32_18
  let v28 : BitVec 32 := Scalar.addi v22 v27
  let c8_i32_46 : BitVec 32 := 8#32
  let v69 : BitVec 32 := Scalar.muli v28 c8_i32_46
  let v70 : BitVec 32 := v69
  let c0_i32_48 : BitVec 32 := 0#32
  ![v70.toNat, 0]
def k0_mult29 (k0_t3 : Fin k0_t3_loop.trips) (v13 : BitVec 32) : BitVec 32 :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let c256_i32_13 : BitVec 32 := 256#32
  let c0_i32_14 : BitVec 32 := 0#32
  let v21 : BitVec 32 := Scalar.select v18 c256_i32_13 c0_i32_14
  let v22 : BitVec 32 := Scalar.addi v16 v21
  let c128_i32 : BitVec 32 := 128#32
  let v23 : BitVec 32 := Scalar.andi v14 c128_i32
  let c0_i32_15 : BitVec 32 := 0#32
  let v24 : BitVec 1 := Scalar.cmpi .ne v23 c0_i32_15
  let c128_i32_17 : BitVec 32 := 128#32
  let c0_i32_18 : BitVec 32 := 0#32
  let v27 : BitVec 32 := Scalar.select v24 c128_i32_17 c0_i32_18
  let v28 : BitVec 32 := Scalar.addi v22 v27
  let c64_i32 : BitVec 32 := 64#32
  let v29 : BitVec 32 := Scalar.andi v14 c64_i32
  let c0_i32_19 : BitVec 32 := 0#32
  let v30 : BitVec 1 := Scalar.cmpi .ne v29 c0_i32_19
  let c64_i32_21 : BitVec 32 := 64#32
  let c0_i32_22 : BitVec 32 := 0#32
  let v33 : BitVec 32 := Scalar.select v30 c64_i32_21 c0_i32_22
  let v34 : BitVec 32 := Scalar.addi v28 v33
  let c8_i32_46 : BitVec 32 := 8#32
  let v69 : BitVec 32 := Scalar.muli v34 c8_i32_46
  v69
def k0_cond15 (v13 : BitVec 32) : BitVec 1 :=
  let c320_i32 : BitVec 32 := 320#32
  let v14 : BitVec 32 := Scalar.subi c320_i32 v13
  let c32_i32 : BitVec 32 := 32#32
  let v35 : BitVec 32 := Scalar.andi v14 c32_i32
  let c0_i32_23 : BitVec 32 := 0#32
  let v36 : BitVec 1 := Scalar.cmpi .ne v35 c0_i32_23
  let v37 : BitVec 32 := Scalar.extui v36
  let c0_i32_24 : BitVec 32 := 0#32
  let v38 : BitVec 1 := Scalar.cmpi .ne v37 c0_i32_24
  v38

def k0_off39 (k0_t3 : Fin k0_t3_loop.trips) (v13 : BitVec 32) : Fin 2 → Nat :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let c256_i32_13 : BitVec 32 := 256#32
  let c0_i32_14 : BitVec 32 := 0#32
  let v21 : BitVec 32 := Scalar.select v18 c256_i32_13 c0_i32_14
  let v22 : BitVec 32 := Scalar.addi v16 v21
  let c128_i32 : BitVec 32 := 128#32
  let v23 : BitVec 32 := Scalar.andi v14 c128_i32
  let c0_i32_15 : BitVec 32 := 0#32
  let v24 : BitVec 1 := Scalar.cmpi .ne v23 c0_i32_15
  let c128_i32_17 : BitVec 32 := 128#32
  let c0_i32_18 : BitVec 32 := 0#32
  let v27 : BitVec 32 := Scalar.select v24 c128_i32_17 c0_i32_18
  let v28 : BitVec 32 := Scalar.addi v22 v27
  let c64_i32 : BitVec 32 := 64#32
  let v29 : BitVec 32 := Scalar.andi v14 c64_i32
  let c0_i32_19 : BitVec 32 := 0#32
  let v30 : BitVec 1 := Scalar.cmpi .ne v29 c0_i32_19
  let c64_i32_21 : BitVec 32 := 64#32
  let c0_i32_22 : BitVec 32 := 0#32
  let v33 : BitVec 32 := Scalar.select v30 c64_i32_21 c0_i32_22
  let v34 : BitVec 32 := Scalar.addi v28 v33
  let c8_i32_46 : BitVec 32 := 8#32
  let v69 : BitVec 32 := Scalar.muli v34 c8_i32_46
  let v70 : BitVec 32 := v69
  let c0_i32_48 : BitVec 32 := 0#32
  ![v70.toNat, 0]
def k0_mult30 (k0_t3 : Fin k0_t3_loop.trips) (v13 : BitVec 32) : BitVec 32 :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let c256_i32_13 : BitVec 32 := 256#32
  let c0_i32_14 : BitVec 32 := 0#32
  let v21 : BitVec 32 := Scalar.select v18 c256_i32_13 c0_i32_14
  let v22 : BitVec 32 := Scalar.addi v16 v21
  let c128_i32 : BitVec 32 := 128#32
  let v23 : BitVec 32 := Scalar.andi v14 c128_i32
  let c0_i32_15 : BitVec 32 := 0#32
  let v24 : BitVec 1 := Scalar.cmpi .ne v23 c0_i32_15
  let c128_i32_17 : BitVec 32 := 128#32
  let c0_i32_18 : BitVec 32 := 0#32
  let v27 : BitVec 32 := Scalar.select v24 c128_i32_17 c0_i32_18
  let v28 : BitVec 32 := Scalar.addi v22 v27
  let c64_i32 : BitVec 32 := 64#32
  let v29 : BitVec 32 := Scalar.andi v14 c64_i32
  let c0_i32_19 : BitVec 32 := 0#32
  let v30 : BitVec 1 := Scalar.cmpi .ne v29 c0_i32_19
  let c64_i32_21 : BitVec 32 := 64#32
  let c0_i32_22 : BitVec 32 := 0#32
  let v33 : BitVec 32 := Scalar.select v30 c64_i32_21 c0_i32_22
  let v34 : BitVec 32 := Scalar.addi v28 v33
  let c32_i32 : BitVec 32 := 32#32
  let v35 : BitVec 32 := Scalar.andi v14 c32_i32
  let c0_i32_23 : BitVec 32 := 0#32
  let v36 : BitVec 1 := Scalar.cmpi .ne v35 c0_i32_23
  let c32_i32_25 : BitVec 32 := 32#32
  let c0_i32_26 : BitVec 32 := 0#32
  let v39 : BitVec 32 := Scalar.select v36 c32_i32_25 c0_i32_26
  let v40 : BitVec 32 := Scalar.addi v34 v39
  let c8_i32_46 : BitVec 32 := 8#32
  let v69 : BitVec 32 := Scalar.muli v40 c8_i32_46
  v69
def k0_cond16 (v13 : BitVec 32) : BitVec 1 :=
  let c320_i32 : BitVec 32 := 320#32
  let v14 : BitVec 32 := Scalar.subi c320_i32 v13
  let c16_i32 : BitVec 32 := 16#32
  let v41 : BitVec 32 := Scalar.andi v14 c16_i32
  let c0_i32_27 : BitVec 32 := 0#32
  let v42 : BitVec 1 := Scalar.cmpi .ne v41 c0_i32_27
  let v43 : BitVec 32 := Scalar.extui v42
  let c0_i32_28 : BitVec 32 := 0#32
  let v44 : BitVec 1 := Scalar.cmpi .ne v43 c0_i32_28
  v44

def k0_off40 (k0_t3 : Fin k0_t3_loop.trips) (v13 : BitVec 32) : Fin 2 → Nat :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let c256_i32_13 : BitVec 32 := 256#32
  let c0_i32_14 : BitVec 32 := 0#32
  let v21 : BitVec 32 := Scalar.select v18 c256_i32_13 c0_i32_14
  let v22 : BitVec 32 := Scalar.addi v16 v21
  let c128_i32 : BitVec 32 := 128#32
  let v23 : BitVec 32 := Scalar.andi v14 c128_i32
  let c0_i32_15 : BitVec 32 := 0#32
  let v24 : BitVec 1 := Scalar.cmpi .ne v23 c0_i32_15
  let c128_i32_17 : BitVec 32 := 128#32
  let c0_i32_18 : BitVec 32 := 0#32
  let v27 : BitVec 32 := Scalar.select v24 c128_i32_17 c0_i32_18
  let v28 : BitVec 32 := Scalar.addi v22 v27
  let c64_i32 : BitVec 32 := 64#32
  let v29 : BitVec 32 := Scalar.andi v14 c64_i32
  let c0_i32_19 : BitVec 32 := 0#32
  let v30 : BitVec 1 := Scalar.cmpi .ne v29 c0_i32_19
  let c64_i32_21 : BitVec 32 := 64#32
  let c0_i32_22 : BitVec 32 := 0#32
  let v33 : BitVec 32 := Scalar.select v30 c64_i32_21 c0_i32_22
  let v34 : BitVec 32 := Scalar.addi v28 v33
  let c32_i32 : BitVec 32 := 32#32
  let v35 : BitVec 32 := Scalar.andi v14 c32_i32
  let c0_i32_23 : BitVec 32 := 0#32
  let v36 : BitVec 1 := Scalar.cmpi .ne v35 c0_i32_23
  let c32_i32_25 : BitVec 32 := 32#32
  let c0_i32_26 : BitVec 32 := 0#32
  let v39 : BitVec 32 := Scalar.select v36 c32_i32_25 c0_i32_26
  let v40 : BitVec 32 := Scalar.addi v34 v39
  let c8_i32_46 : BitVec 32 := 8#32
  let v69 : BitVec 32 := Scalar.muli v40 c8_i32_46
  let v70 : BitVec 32 := v69
  let c0_i32_48 : BitVec 32 := 0#32
  ![v70.toNat, 0]
def k0_mult31 (k0_t3 : Fin k0_t3_loop.trips) (v13 : BitVec 32) : BitVec 32 :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let c256_i32_13 : BitVec 32 := 256#32
  let c0_i32_14 : BitVec 32 := 0#32
  let v21 : BitVec 32 := Scalar.select v18 c256_i32_13 c0_i32_14
  let v22 : BitVec 32 := Scalar.addi v16 v21
  let c128_i32 : BitVec 32 := 128#32
  let v23 : BitVec 32 := Scalar.andi v14 c128_i32
  let c0_i32_15 : BitVec 32 := 0#32
  let v24 : BitVec 1 := Scalar.cmpi .ne v23 c0_i32_15
  let c128_i32_17 : BitVec 32 := 128#32
  let c0_i32_18 : BitVec 32 := 0#32
  let v27 : BitVec 32 := Scalar.select v24 c128_i32_17 c0_i32_18
  let v28 : BitVec 32 := Scalar.addi v22 v27
  let c64_i32 : BitVec 32 := 64#32
  let v29 : BitVec 32 := Scalar.andi v14 c64_i32
  let c0_i32_19 : BitVec 32 := 0#32
  let v30 : BitVec 1 := Scalar.cmpi .ne v29 c0_i32_19
  let c64_i32_21 : BitVec 32 := 64#32
  let c0_i32_22 : BitVec 32 := 0#32
  let v33 : BitVec 32 := Scalar.select v30 c64_i32_21 c0_i32_22
  let v34 : BitVec 32 := Scalar.addi v28 v33
  let c32_i32 : BitVec 32 := 32#32
  let v35 : BitVec 32 := Scalar.andi v14 c32_i32
  let c0_i32_23 : BitVec 32 := 0#32
  let v36 : BitVec 1 := Scalar.cmpi .ne v35 c0_i32_23
  let c32_i32_25 : BitVec 32 := 32#32
  let c0_i32_26 : BitVec 32 := 0#32
  let v39 : BitVec 32 := Scalar.select v36 c32_i32_25 c0_i32_26
  let v40 : BitVec 32 := Scalar.addi v34 v39
  let c16_i32 : BitVec 32 := 16#32
  let v41 : BitVec 32 := Scalar.andi v14 c16_i32
  let c0_i32_27 : BitVec 32 := 0#32
  let v42 : BitVec 1 := Scalar.cmpi .ne v41 c0_i32_27
  let c16_i32_29 : BitVec 32 := 16#32
  let c0_i32_30 : BitVec 32 := 0#32
  let v45 : BitVec 32 := Scalar.select v42 c16_i32_29 c0_i32_30
  let v46 : BitVec 32 := Scalar.addi v40 v45
  let c8_i32_46 : BitVec 32 := 8#32
  let v69 : BitVec 32 := Scalar.muli v46 c8_i32_46
  v69
def k0_cond17 (v13 : BitVec 32) : BitVec 1 :=
  let c320_i32 : BitVec 32 := 320#32
  let v14 : BitVec 32 := Scalar.subi c320_i32 v13
  let c8_i32 : BitVec 32 := 8#32
  let v47 : BitVec 32 := Scalar.andi v14 c8_i32
  let c0_i32_31 : BitVec 32 := 0#32
  let v48 : BitVec 1 := Scalar.cmpi .ne v47 c0_i32_31
  let v49 : BitVec 32 := Scalar.extui v48
  let c0_i32_32 : BitVec 32 := 0#32
  let v50 : BitVec 1 := Scalar.cmpi .ne v49 c0_i32_32
  v50

def k0_off41 (k0_t3 : Fin k0_t3_loop.trips) (v13 : BitVec 32) : Fin 2 → Nat :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let c256_i32_13 : BitVec 32 := 256#32
  let c0_i32_14 : BitVec 32 := 0#32
  let v21 : BitVec 32 := Scalar.select v18 c256_i32_13 c0_i32_14
  let v22 : BitVec 32 := Scalar.addi v16 v21
  let c128_i32 : BitVec 32 := 128#32
  let v23 : BitVec 32 := Scalar.andi v14 c128_i32
  let c0_i32_15 : BitVec 32 := 0#32
  let v24 : BitVec 1 := Scalar.cmpi .ne v23 c0_i32_15
  let c128_i32_17 : BitVec 32 := 128#32
  let c0_i32_18 : BitVec 32 := 0#32
  let v27 : BitVec 32 := Scalar.select v24 c128_i32_17 c0_i32_18
  let v28 : BitVec 32 := Scalar.addi v22 v27
  let c64_i32 : BitVec 32 := 64#32
  let v29 : BitVec 32 := Scalar.andi v14 c64_i32
  let c0_i32_19 : BitVec 32 := 0#32
  let v30 : BitVec 1 := Scalar.cmpi .ne v29 c0_i32_19
  let c64_i32_21 : BitVec 32 := 64#32
  let c0_i32_22 : BitVec 32 := 0#32
  let v33 : BitVec 32 := Scalar.select v30 c64_i32_21 c0_i32_22
  let v34 : BitVec 32 := Scalar.addi v28 v33
  let c32_i32 : BitVec 32 := 32#32
  let v35 : BitVec 32 := Scalar.andi v14 c32_i32
  let c0_i32_23 : BitVec 32 := 0#32
  let v36 : BitVec 1 := Scalar.cmpi .ne v35 c0_i32_23
  let c32_i32_25 : BitVec 32 := 32#32
  let c0_i32_26 : BitVec 32 := 0#32
  let v39 : BitVec 32 := Scalar.select v36 c32_i32_25 c0_i32_26
  let v40 : BitVec 32 := Scalar.addi v34 v39
  let c16_i32 : BitVec 32 := 16#32
  let v41 : BitVec 32 := Scalar.andi v14 c16_i32
  let c0_i32_27 : BitVec 32 := 0#32
  let v42 : BitVec 1 := Scalar.cmpi .ne v41 c0_i32_27
  let c16_i32_29 : BitVec 32 := 16#32
  let c0_i32_30 : BitVec 32 := 0#32
  let v45 : BitVec 32 := Scalar.select v42 c16_i32_29 c0_i32_30
  let v46 : BitVec 32 := Scalar.addi v40 v45
  let c8_i32_46 : BitVec 32 := 8#32
  let v69 : BitVec 32 := Scalar.muli v46 c8_i32_46
  let v70 : BitVec 32 := v69
  let c0_i32_48 : BitVec 32 := 0#32
  ![v70.toNat, 0]
def k0_mult32 (k0_t3 : Fin k0_t3_loop.trips) (v13 : BitVec 32) : BitVec 32 :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let c256_i32_13 : BitVec 32 := 256#32
  let c0_i32_14 : BitVec 32 := 0#32
  let v21 : BitVec 32 := Scalar.select v18 c256_i32_13 c0_i32_14
  let v22 : BitVec 32 := Scalar.addi v16 v21
  let c128_i32 : BitVec 32 := 128#32
  let v23 : BitVec 32 := Scalar.andi v14 c128_i32
  let c0_i32_15 : BitVec 32 := 0#32
  let v24 : BitVec 1 := Scalar.cmpi .ne v23 c0_i32_15
  let c128_i32_17 : BitVec 32 := 128#32
  let c0_i32_18 : BitVec 32 := 0#32
  let v27 : BitVec 32 := Scalar.select v24 c128_i32_17 c0_i32_18
  let v28 : BitVec 32 := Scalar.addi v22 v27
  let c64_i32 : BitVec 32 := 64#32
  let v29 : BitVec 32 := Scalar.andi v14 c64_i32
  let c0_i32_19 : BitVec 32 := 0#32
  let v30 : BitVec 1 := Scalar.cmpi .ne v29 c0_i32_19
  let c64_i32_21 : BitVec 32 := 64#32
  let c0_i32_22 : BitVec 32 := 0#32
  let v33 : BitVec 32 := Scalar.select v30 c64_i32_21 c0_i32_22
  let v34 : BitVec 32 := Scalar.addi v28 v33
  let c32_i32 : BitVec 32 := 32#32
  let v35 : BitVec 32 := Scalar.andi v14 c32_i32
  let c0_i32_23 : BitVec 32 := 0#32
  let v36 : BitVec 1 := Scalar.cmpi .ne v35 c0_i32_23
  let c32_i32_25 : BitVec 32 := 32#32
  let c0_i32_26 : BitVec 32 := 0#32
  let v39 : BitVec 32 := Scalar.select v36 c32_i32_25 c0_i32_26
  let v40 : BitVec 32 := Scalar.addi v34 v39
  let c16_i32 : BitVec 32 := 16#32
  let v41 : BitVec 32 := Scalar.andi v14 c16_i32
  let c0_i32_27 : BitVec 32 := 0#32
  let v42 : BitVec 1 := Scalar.cmpi .ne v41 c0_i32_27
  let c16_i32_29 : BitVec 32 := 16#32
  let c0_i32_30 : BitVec 32 := 0#32
  let v45 : BitVec 32 := Scalar.select v42 c16_i32_29 c0_i32_30
  let v46 : BitVec 32 := Scalar.addi v40 v45
  let c8_i32 : BitVec 32 := 8#32
  let v47 : BitVec 32 := Scalar.andi v14 c8_i32
  let c0_i32_31 : BitVec 32 := 0#32
  let v48 : BitVec 1 := Scalar.cmpi .ne v47 c0_i32_31
  let c8_i32_33 : BitVec 32 := 8#32
  let c0_i32_34 : BitVec 32 := 0#32
  let v51 : BitVec 32 := Scalar.select v48 c8_i32_33 c0_i32_34
  let v52 : BitVec 32 := Scalar.addi v46 v51
  let c8_i32_46 : BitVec 32 := 8#32
  let v69 : BitVec 32 := Scalar.muli v52 c8_i32_46
  v69
def k0_cond18 (v13 : BitVec 32) : BitVec 1 :=
  let c320_i32 : BitVec 32 := 320#32
  let v14 : BitVec 32 := Scalar.subi c320_i32 v13
  let c4_i32 : BitVec 32 := 4#32
  let v53 : BitVec 32 := Scalar.andi v14 c4_i32
  let c0_i32_35 : BitVec 32 := 0#32
  let v54 : BitVec 1 := Scalar.cmpi .ne v53 c0_i32_35
  let v55 : BitVec 32 := Scalar.extui v54
  let c0_i32_36 : BitVec 32 := 0#32
  let v56 : BitVec 1 := Scalar.cmpi .ne v55 c0_i32_36
  v56

def k0_off42 (k0_t3 : Fin k0_t3_loop.trips) (v13 : BitVec 32) : Fin 2 → Nat :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let c256_i32_13 : BitVec 32 := 256#32
  let c0_i32_14 : BitVec 32 := 0#32
  let v21 : BitVec 32 := Scalar.select v18 c256_i32_13 c0_i32_14
  let v22 : BitVec 32 := Scalar.addi v16 v21
  let c128_i32 : BitVec 32 := 128#32
  let v23 : BitVec 32 := Scalar.andi v14 c128_i32
  let c0_i32_15 : BitVec 32 := 0#32
  let v24 : BitVec 1 := Scalar.cmpi .ne v23 c0_i32_15
  let c128_i32_17 : BitVec 32 := 128#32
  let c0_i32_18 : BitVec 32 := 0#32
  let v27 : BitVec 32 := Scalar.select v24 c128_i32_17 c0_i32_18
  let v28 : BitVec 32 := Scalar.addi v22 v27
  let c64_i32 : BitVec 32 := 64#32
  let v29 : BitVec 32 := Scalar.andi v14 c64_i32
  let c0_i32_19 : BitVec 32 := 0#32
  let v30 : BitVec 1 := Scalar.cmpi .ne v29 c0_i32_19
  let c64_i32_21 : BitVec 32 := 64#32
  let c0_i32_22 : BitVec 32 := 0#32
  let v33 : BitVec 32 := Scalar.select v30 c64_i32_21 c0_i32_22
  let v34 : BitVec 32 := Scalar.addi v28 v33
  let c32_i32 : BitVec 32 := 32#32
  let v35 : BitVec 32 := Scalar.andi v14 c32_i32
  let c0_i32_23 : BitVec 32 := 0#32
  let v36 : BitVec 1 := Scalar.cmpi .ne v35 c0_i32_23
  let c32_i32_25 : BitVec 32 := 32#32
  let c0_i32_26 : BitVec 32 := 0#32
  let v39 : BitVec 32 := Scalar.select v36 c32_i32_25 c0_i32_26
  let v40 : BitVec 32 := Scalar.addi v34 v39
  let c16_i32 : BitVec 32 := 16#32
  let v41 : BitVec 32 := Scalar.andi v14 c16_i32
  let c0_i32_27 : BitVec 32 := 0#32
  let v42 : BitVec 1 := Scalar.cmpi .ne v41 c0_i32_27
  let c16_i32_29 : BitVec 32 := 16#32
  let c0_i32_30 : BitVec 32 := 0#32
  let v45 : BitVec 32 := Scalar.select v42 c16_i32_29 c0_i32_30
  let v46 : BitVec 32 := Scalar.addi v40 v45
  let c8_i32 : BitVec 32 := 8#32
  let v47 : BitVec 32 := Scalar.andi v14 c8_i32
  let c0_i32_31 : BitVec 32 := 0#32
  let v48 : BitVec 1 := Scalar.cmpi .ne v47 c0_i32_31
  let c8_i32_33 : BitVec 32 := 8#32
  let c0_i32_34 : BitVec 32 := 0#32
  let v51 : BitVec 32 := Scalar.select v48 c8_i32_33 c0_i32_34
  let v52 : BitVec 32 := Scalar.addi v46 v51
  let c8_i32_46 : BitVec 32 := 8#32
  let v69 : BitVec 32 := Scalar.muli v52 c8_i32_46
  let v70 : BitVec 32 := v69
  let c0_i32_48 : BitVec 32 := 0#32
  ![v70.toNat, 0]
def k0_mult33 (k0_t3 : Fin k0_t3_loop.trips) (v13 : BitVec 32) : BitVec 32 :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let c256_i32_13 : BitVec 32 := 256#32
  let c0_i32_14 : BitVec 32 := 0#32
  let v21 : BitVec 32 := Scalar.select v18 c256_i32_13 c0_i32_14
  let v22 : BitVec 32 := Scalar.addi v16 v21
  let c128_i32 : BitVec 32 := 128#32
  let v23 : BitVec 32 := Scalar.andi v14 c128_i32
  let c0_i32_15 : BitVec 32 := 0#32
  let v24 : BitVec 1 := Scalar.cmpi .ne v23 c0_i32_15
  let c128_i32_17 : BitVec 32 := 128#32
  let c0_i32_18 : BitVec 32 := 0#32
  let v27 : BitVec 32 := Scalar.select v24 c128_i32_17 c0_i32_18
  let v28 : BitVec 32 := Scalar.addi v22 v27
  let c64_i32 : BitVec 32 := 64#32
  let v29 : BitVec 32 := Scalar.andi v14 c64_i32
  let c0_i32_19 : BitVec 32 := 0#32
  let v30 : BitVec 1 := Scalar.cmpi .ne v29 c0_i32_19
  let c64_i32_21 : BitVec 32 := 64#32
  let c0_i32_22 : BitVec 32 := 0#32
  let v33 : BitVec 32 := Scalar.select v30 c64_i32_21 c0_i32_22
  let v34 : BitVec 32 := Scalar.addi v28 v33
  let c32_i32 : BitVec 32 := 32#32
  let v35 : BitVec 32 := Scalar.andi v14 c32_i32
  let c0_i32_23 : BitVec 32 := 0#32
  let v36 : BitVec 1 := Scalar.cmpi .ne v35 c0_i32_23
  let c32_i32_25 : BitVec 32 := 32#32
  let c0_i32_26 : BitVec 32 := 0#32
  let v39 : BitVec 32 := Scalar.select v36 c32_i32_25 c0_i32_26
  let v40 : BitVec 32 := Scalar.addi v34 v39
  let c16_i32 : BitVec 32 := 16#32
  let v41 : BitVec 32 := Scalar.andi v14 c16_i32
  let c0_i32_27 : BitVec 32 := 0#32
  let v42 : BitVec 1 := Scalar.cmpi .ne v41 c0_i32_27
  let c16_i32_29 : BitVec 32 := 16#32
  let c0_i32_30 : BitVec 32 := 0#32
  let v45 : BitVec 32 := Scalar.select v42 c16_i32_29 c0_i32_30
  let v46 : BitVec 32 := Scalar.addi v40 v45
  let c8_i32 : BitVec 32 := 8#32
  let v47 : BitVec 32 := Scalar.andi v14 c8_i32
  let c0_i32_31 : BitVec 32 := 0#32
  let v48 : BitVec 1 := Scalar.cmpi .ne v47 c0_i32_31
  let c8_i32_33 : BitVec 32 := 8#32
  let c0_i32_34 : BitVec 32 := 0#32
  let v51 : BitVec 32 := Scalar.select v48 c8_i32_33 c0_i32_34
  let v52 : BitVec 32 := Scalar.addi v46 v51
  let c4_i32 : BitVec 32 := 4#32
  let v53 : BitVec 32 := Scalar.andi v14 c4_i32
  let c0_i32_35 : BitVec 32 := 0#32
  let v54 : BitVec 1 := Scalar.cmpi .ne v53 c0_i32_35
  let c4_i32_37 : BitVec 32 := 4#32
  let c0_i32_38 : BitVec 32 := 0#32
  let v57 : BitVec 32 := Scalar.select v54 c4_i32_37 c0_i32_38
  let v58 : BitVec 32 := Scalar.addi v52 v57
  let c8_i32_46 : BitVec 32 := 8#32
  let v69 : BitVec 32 := Scalar.muli v58 c8_i32_46
  v69
def k0_cond19 (v13 : BitVec 32) : BitVec 1 :=
  let c320_i32 : BitVec 32 := 320#32
  let v14 : BitVec 32 := Scalar.subi c320_i32 v13
  let c2_i32 : BitVec 32 := 2#32
  let v59 : BitVec 32 := Scalar.andi v14 c2_i32
  let c0_i32_39 : BitVec 32 := 0#32
  let v60 : BitVec 1 := Scalar.cmpi .ne v59 c0_i32_39
  let v61 : BitVec 32 := Scalar.extui v60
  let c0_i32_40 : BitVec 32 := 0#32
  let v62 : BitVec 1 := Scalar.cmpi .ne v61 c0_i32_40
  v62

def k0_off43 (k0_t3 : Fin k0_t3_loop.trips) (v13 : BitVec 32) : Fin 2 → Nat :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let c256_i32_13 : BitVec 32 := 256#32
  let c0_i32_14 : BitVec 32 := 0#32
  let v21 : BitVec 32 := Scalar.select v18 c256_i32_13 c0_i32_14
  let v22 : BitVec 32 := Scalar.addi v16 v21
  let c128_i32 : BitVec 32 := 128#32
  let v23 : BitVec 32 := Scalar.andi v14 c128_i32
  let c0_i32_15 : BitVec 32 := 0#32
  let v24 : BitVec 1 := Scalar.cmpi .ne v23 c0_i32_15
  let c128_i32_17 : BitVec 32 := 128#32
  let c0_i32_18 : BitVec 32 := 0#32
  let v27 : BitVec 32 := Scalar.select v24 c128_i32_17 c0_i32_18
  let v28 : BitVec 32 := Scalar.addi v22 v27
  let c64_i32 : BitVec 32 := 64#32
  let v29 : BitVec 32 := Scalar.andi v14 c64_i32
  let c0_i32_19 : BitVec 32 := 0#32
  let v30 : BitVec 1 := Scalar.cmpi .ne v29 c0_i32_19
  let c64_i32_21 : BitVec 32 := 64#32
  let c0_i32_22 : BitVec 32 := 0#32
  let v33 : BitVec 32 := Scalar.select v30 c64_i32_21 c0_i32_22
  let v34 : BitVec 32 := Scalar.addi v28 v33
  let c32_i32 : BitVec 32 := 32#32
  let v35 : BitVec 32 := Scalar.andi v14 c32_i32
  let c0_i32_23 : BitVec 32 := 0#32
  let v36 : BitVec 1 := Scalar.cmpi .ne v35 c0_i32_23
  let c32_i32_25 : BitVec 32 := 32#32
  let c0_i32_26 : BitVec 32 := 0#32
  let v39 : BitVec 32 := Scalar.select v36 c32_i32_25 c0_i32_26
  let v40 : BitVec 32 := Scalar.addi v34 v39
  let c16_i32 : BitVec 32 := 16#32
  let v41 : BitVec 32 := Scalar.andi v14 c16_i32
  let c0_i32_27 : BitVec 32 := 0#32
  let v42 : BitVec 1 := Scalar.cmpi .ne v41 c0_i32_27
  let c16_i32_29 : BitVec 32 := 16#32
  let c0_i32_30 : BitVec 32 := 0#32
  let v45 : BitVec 32 := Scalar.select v42 c16_i32_29 c0_i32_30
  let v46 : BitVec 32 := Scalar.addi v40 v45
  let c8_i32 : BitVec 32 := 8#32
  let v47 : BitVec 32 := Scalar.andi v14 c8_i32
  let c0_i32_31 : BitVec 32 := 0#32
  let v48 : BitVec 1 := Scalar.cmpi .ne v47 c0_i32_31
  let c8_i32_33 : BitVec 32 := 8#32
  let c0_i32_34 : BitVec 32 := 0#32
  let v51 : BitVec 32 := Scalar.select v48 c8_i32_33 c0_i32_34
  let v52 : BitVec 32 := Scalar.addi v46 v51
  let c4_i32 : BitVec 32 := 4#32
  let v53 : BitVec 32 := Scalar.andi v14 c4_i32
  let c0_i32_35 : BitVec 32 := 0#32
  let v54 : BitVec 1 := Scalar.cmpi .ne v53 c0_i32_35
  let c4_i32_37 : BitVec 32 := 4#32
  let c0_i32_38 : BitVec 32 := 0#32
  let v57 : BitVec 32 := Scalar.select v54 c4_i32_37 c0_i32_38
  let v58 : BitVec 32 := Scalar.addi v52 v57
  let c8_i32_46 : BitVec 32 := 8#32
  let v69 : BitVec 32 := Scalar.muli v58 c8_i32_46
  let v70 : BitVec 32 := v69
  let c0_i32_48 : BitVec 32 := 0#32
  ![v70.toNat, 0]
def k0_mult34 (k0_t3 : Fin k0_t3_loop.trips) (v13 : BitVec 32) : BitVec 32 :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let c256_i32_13 : BitVec 32 := 256#32
  let c0_i32_14 : BitVec 32 := 0#32
  let v21 : BitVec 32 := Scalar.select v18 c256_i32_13 c0_i32_14
  let v22 : BitVec 32 := Scalar.addi v16 v21
  let c128_i32 : BitVec 32 := 128#32
  let v23 : BitVec 32 := Scalar.andi v14 c128_i32
  let c0_i32_15 : BitVec 32 := 0#32
  let v24 : BitVec 1 := Scalar.cmpi .ne v23 c0_i32_15
  let c128_i32_17 : BitVec 32 := 128#32
  let c0_i32_18 : BitVec 32 := 0#32
  let v27 : BitVec 32 := Scalar.select v24 c128_i32_17 c0_i32_18
  let v28 : BitVec 32 := Scalar.addi v22 v27
  let c64_i32 : BitVec 32 := 64#32
  let v29 : BitVec 32 := Scalar.andi v14 c64_i32
  let c0_i32_19 : BitVec 32 := 0#32
  let v30 : BitVec 1 := Scalar.cmpi .ne v29 c0_i32_19
  let c64_i32_21 : BitVec 32 := 64#32
  let c0_i32_22 : BitVec 32 := 0#32
  let v33 : BitVec 32 := Scalar.select v30 c64_i32_21 c0_i32_22
  let v34 : BitVec 32 := Scalar.addi v28 v33
  let c32_i32 : BitVec 32 := 32#32
  let v35 : BitVec 32 := Scalar.andi v14 c32_i32
  let c0_i32_23 : BitVec 32 := 0#32
  let v36 : BitVec 1 := Scalar.cmpi .ne v35 c0_i32_23
  let c32_i32_25 : BitVec 32 := 32#32
  let c0_i32_26 : BitVec 32 := 0#32
  let v39 : BitVec 32 := Scalar.select v36 c32_i32_25 c0_i32_26
  let v40 : BitVec 32 := Scalar.addi v34 v39
  let c16_i32 : BitVec 32 := 16#32
  let v41 : BitVec 32 := Scalar.andi v14 c16_i32
  let c0_i32_27 : BitVec 32 := 0#32
  let v42 : BitVec 1 := Scalar.cmpi .ne v41 c0_i32_27
  let c16_i32_29 : BitVec 32 := 16#32
  let c0_i32_30 : BitVec 32 := 0#32
  let v45 : BitVec 32 := Scalar.select v42 c16_i32_29 c0_i32_30
  let v46 : BitVec 32 := Scalar.addi v40 v45
  let c8_i32 : BitVec 32 := 8#32
  let v47 : BitVec 32 := Scalar.andi v14 c8_i32
  let c0_i32_31 : BitVec 32 := 0#32
  let v48 : BitVec 1 := Scalar.cmpi .ne v47 c0_i32_31
  let c8_i32_33 : BitVec 32 := 8#32
  let c0_i32_34 : BitVec 32 := 0#32
  let v51 : BitVec 32 := Scalar.select v48 c8_i32_33 c0_i32_34
  let v52 : BitVec 32 := Scalar.addi v46 v51
  let c4_i32 : BitVec 32 := 4#32
  let v53 : BitVec 32 := Scalar.andi v14 c4_i32
  let c0_i32_35 : BitVec 32 := 0#32
  let v54 : BitVec 1 := Scalar.cmpi .ne v53 c0_i32_35
  let c4_i32_37 : BitVec 32 := 4#32
  let c0_i32_38 : BitVec 32 := 0#32
  let v57 : BitVec 32 := Scalar.select v54 c4_i32_37 c0_i32_38
  let v58 : BitVec 32 := Scalar.addi v52 v57
  let c2_i32 : BitVec 32 := 2#32
  let v59 : BitVec 32 := Scalar.andi v14 c2_i32
  let c0_i32_39 : BitVec 32 := 0#32
  let v60 : BitVec 1 := Scalar.cmpi .ne v59 c0_i32_39
  let c2_i32_41 : BitVec 32 := 2#32
  let c0_i32_42 : BitVec 32 := 0#32
  let v63 : BitVec 32 := Scalar.select v60 c2_i32_41 c0_i32_42
  let v64 : BitVec 32 := Scalar.addi v58 v63
  let c8_i32_46 : BitVec 32 := 8#32
  let v69 : BitVec 32 := Scalar.muli v64 c8_i32_46
  v69
def k0_cond20 (v13 : BitVec 32) : BitVec 1 :=
  let c320_i32 : BitVec 32 := 320#32
  let v14 : BitVec 32 := Scalar.subi c320_i32 v13
  let c1_i32_43 : BitVec 32 := 1#32
  let v65 : BitVec 32 := Scalar.andi v14 c1_i32_43
  let c0_i32_44 : BitVec 32 := 0#32
  let v66 : BitVec 1 := Scalar.cmpi .ne v65 c0_i32_44
  let v67 : BitVec 32 := Scalar.extui v66
  let c0_i32_45 : BitVec 32 := 0#32
  let v68 : BitVec 1 := Scalar.cmpi .ne v67 c0_i32_45
  v68

def k0_off44 (k0_t3 : Fin k0_t3_loop.trips) (v13 : BitVec 32) : Fin 2 → Nat :=
  let c0_i32_7 : BitVec 32 := 0#32
  let c1_i32_8 : BitVec 32 := 1#32
  let arg7 : BitVec 32 := Scf.iv c0_i32_7 c1_i32_8 k0_t3
  let c320_i32_10 : BitVec 32 := 320#32
  let v15 : BitVec 32 := Scalar.muli arg7 c320_i32_10
  let v16 : BitVec 32 := Scalar.addi v15 v13
  let c320_i32 : BitVec 32 := 320#32
  let v14 : BitVec 32 := Scalar.subi c320_i32 v13
  let c256_i32 : BitVec 32 := 256#32
  let v17 : BitVec 32 := Scalar.andi v14 c256_i32
  let c0_i32_11 : BitVec 32 := 0#32
  let v18 : BitVec 1 := Scalar.cmpi .ne v17 c0_i32_11
  let c256_i32_13 : BitVec 32 := 256#32
  let c0_i32_14 : BitVec 32 := 0#32
  let v21 : BitVec 32 := Scalar.select v18 c256_i32_13 c0_i32_14
  let v22 : BitVec 32 := Scalar.addi v16 v21
  let c128_i32 : BitVec 32 := 128#32
  let v23 : BitVec 32 := Scalar.andi v14 c128_i32
  let c0_i32_15 : BitVec 32 := 0#32
  let v24 : BitVec 1 := Scalar.cmpi .ne v23 c0_i32_15
  let c128_i32_17 : BitVec 32 := 128#32
  let c0_i32_18 : BitVec 32 := 0#32
  let v27 : BitVec 32 := Scalar.select v24 c128_i32_17 c0_i32_18
  let v28 : BitVec 32 := Scalar.addi v22 v27
  let c64_i32 : BitVec 32 := 64#32
  let v29 : BitVec 32 := Scalar.andi v14 c64_i32
  let c0_i32_19 : BitVec 32 := 0#32
  let v30 : BitVec 1 := Scalar.cmpi .ne v29 c0_i32_19
  let c64_i32_21 : BitVec 32 := 64#32
  let c0_i32_22 : BitVec 32 := 0#32
  let v33 : BitVec 32 := Scalar.select v30 c64_i32_21 c0_i32_22
  let v34 : BitVec 32 := Scalar.addi v28 v33
  let c32_i32 : BitVec 32 := 32#32
  let v35 : BitVec 32 := Scalar.andi v14 c32_i32
  let c0_i32_23 : BitVec 32 := 0#32
  let v36 : BitVec 1 := Scalar.cmpi .ne v35 c0_i32_23
  let c32_i32_25 : BitVec 32 := 32#32
  let c0_i32_26 : BitVec 32 := 0#32
  let v39 : BitVec 32 := Scalar.select v36 c32_i32_25 c0_i32_26
  let v40 : BitVec 32 := Scalar.addi v34 v39
  let c16_i32 : BitVec 32 := 16#32
  let v41 : BitVec 32 := Scalar.andi v14 c16_i32
  let c0_i32_27 : BitVec 32 := 0#32
  let v42 : BitVec 1 := Scalar.cmpi .ne v41 c0_i32_27
  let c16_i32_29 : BitVec 32 := 16#32
  let c0_i32_30 : BitVec 32 := 0#32
  let v45 : BitVec 32 := Scalar.select v42 c16_i32_29 c0_i32_30
  let v46 : BitVec 32 := Scalar.addi v40 v45
  let c8_i32 : BitVec 32 := 8#32
  let v47 : BitVec 32 := Scalar.andi v14 c8_i32
  let c0_i32_31 : BitVec 32 := 0#32
  let v48 : BitVec 1 := Scalar.cmpi .ne v47 c0_i32_31
  let c8_i32_33 : BitVec 32 := 8#32
  let c0_i32_34 : BitVec 32 := 0#32
  let v51 : BitVec 32 := Scalar.select v48 c8_i32_33 c0_i32_34
  let v52 : BitVec 32 := Scalar.addi v46 v51
  let c4_i32 : BitVec 32 := 4#32
  let v53 : BitVec 32 := Scalar.andi v14 c4_i32
  let c0_i32_35 : BitVec 32 := 0#32
  let v54 : BitVec 1 := Scalar.cmpi .ne v53 c0_i32_35
  let c4_i32_37 : BitVec 32 := 4#32
  let c0_i32_38 : BitVec 32 := 0#32
  let v57 : BitVec 32 := Scalar.select v54 c4_i32_37 c0_i32_38
  let v58 : BitVec 32 := Scalar.addi v52 v57
  let c2_i32 : BitVec 32 := 2#32
  let v59 : BitVec 32 := Scalar.andi v14 c2_i32
  let c0_i32_39 : BitVec 32 := 0#32
  let v60 : BitVec 1 := Scalar.cmpi .ne v59 c0_i32_39
  let c2_i32_41 : BitVec 32 := 2#32
  let c0_i32_42 : BitVec 32 := 0#32
  let v63 : BitVec 32 := Scalar.select v60 c2_i32_41 c0_i32_42
  let v64 : BitVec 32 := Scalar.addi v58 v63
  let c8_i32_46 : BitVec 32 := 8#32
  let v69 : BitVec 32 := Scalar.muli v64 c8_i32_46
  let v70 : BitVec 32 := v69
  let c0_i32_48 : BitVec 32 := 0#32
  ![v70.toNat, 0]

def k0_chk10 (i : grid0.Coords) (k0_t3 : Fin k0_t3_loop.trips) (v13 : BitVec 32) : Prop :=
  (∀ (k0_h11 : k0_cond11 i = 1#1), ∀ (k0_h12 : k0_cond12 v13 = 1#1), 8 ∣ (k0_mult26 k0_t3 v13).toNat) ∧
  (∀ (k0_h11 : k0_cond11 i = 1#1), ∀ (k0_h12 : k0_cond12 v13 = 1#1), ∀ a, (k0_off36 k0_t3 v13) a + S2048x128.size a ≤ S552960x128.size a) ∧
  (∀ (k0_h11 : k0_cond11 i = 1#1), ∀ (k0_h13 : k0_cond13 v13 = 1#1), 8 ∣ (k0_mult27 k0_t3 v13).toNat) ∧
  (∀ (k0_h11 : k0_cond11 i = 1#1), ∀ (k0_h13 : k0_cond13 v13 = 1#1), ∀ a, (k0_off37 k0_t3 v13) a + S1024x128.size a ≤ S552960x128.size a) ∧
  (∀ (k0_h11 : k0_cond11 i = 1#1), ∀ (k0_h14 : k0_cond14 v13 = 1#1), 8 ∣ (k0_mult28 k0_t3 v13).toNat) ∧
  (∀ (k0_h11 : k0_cond11 i = 1#1), ∀ (k0_h14 : k0_cond14 v13 = 1#1), ∀ a, (k0_off38 k0_t3 v13) a + S512x128.size a ≤ S552960x128.size a) ∧
  (∀ (k0_h11 : k0_cond11 i = 1#1), ∀ (k0_h15 : k0_cond15 v13 = 1#1), 8 ∣ (k0_mult29 k0_t3 v13).toNat) ∧
  (∀ (k0_h11 : k0_cond11 i = 1#1), ∀ (k0_h15 : k0_cond15 v13 = 1#1), ∀ a, (k0_off39 k0_t3 v13) a + S256x128.size a ≤ S552960x128.size a) ∧
  (∀ (k0_h11 : k0_cond11 i = 1#1), ∀ (k0_h16 : k0_cond16 v13 = 1#1), 8 ∣ (k0_mult30 k0_t3 v13).toNat) ∧
  (∀ (k0_h11 : k0_cond11 i = 1#1), ∀ (k0_h16 : k0_cond16 v13 = 1#1), ∀ a, (k0_off40 k0_t3 v13) a + S128x128.size a ≤ S552960x128.size a) ∧
  (∀ (k0_h11 : k0_cond11 i = 1#1), ∀ (k0_h17 : k0_cond17 v13 = 1#1), 8 ∣ (k0_mult31 k0_t3 v13).toNat) ∧
  (∀ (k0_h11 : k0_cond11 i = 1#1), ∀ (k0_h17 : k0_cond17 v13 = 1#1), ∀ a, (k0_off41 k0_t3 v13) a + S64x128.size a ≤ S552960x128.size a) ∧
  (∀ (k0_h11 : k0_cond11 i = 1#1), ∀ (k0_h18 : k0_cond18 v13 = 1#1), 8 ∣ (k0_mult32 k0_t3 v13).toNat) ∧
  (∀ (k0_h11 : k0_cond11 i = 1#1), ∀ (k0_h18 : k0_cond18 v13 = 1#1), ∀ a, (k0_off42 k0_t3 v13) a + S32x128.size a ≤ S552960x128.size a) ∧
  (∀ (k0_h11 : k0_cond11 i = 1#1), ∀ (k0_h19 : k0_cond19 v13 = 1#1), 8 ∣ (k0_mult33 k0_t3 v13).toNat) ∧
  (∀ (k0_h11 : k0_cond11 i = 1#1), ∀ (k0_h19 : k0_cond19 v13 = 1#1), ∀ a, (k0_off43 k0_t3 v13) a + S16x128.size a ≤ S552960x128.size a) ∧
  (∀ (k0_h11 : k0_cond11 i = 1#1), ∀ (k0_h20 : k0_cond20 v13 = 1#1), 8 ∣ (k0_mult34 k0_t3 v13).toNat) ∧
  (∀ (k0_h11 : k0_cond11 i = 1#1), ∀ (k0_h20 : k0_cond20 v13 = 1#1), ∀ a, (k0_off44 k0_t3 v13) a + S8x128.size a ≤ S552960x128.size a)
theorem k0_mult26_dvd : ∀ (i : grid0.Coords) (k0_t3 : Fin k0_t3_loop.trips) (v13 : BitVec 32) (k0_hw10 : k0_chk10 i k0_t3 v13), ∀ (k0_h11 : k0_cond11 i = 1#1), ∀ (k0_h12 : k0_cond12 v13 = 1#1), 8 ∣ (k0_mult26 k0_t3 v13).toNat := fun i k0_t3 v13 k0_hw10 k0_h11 k0_h12 => k0_hw10.1 k0_h11 k0_h12
theorem k0_off36_inb : ∀ (i : grid0.Coords) (k0_t3 : Fin k0_t3_loop.trips) (v13 : BitVec 32) (k0_hw10 : k0_chk10 i k0_t3 v13), ∀ (k0_h11 : k0_cond11 i = 1#1), ∀ (k0_h12 : k0_cond12 v13 = 1#1), ∀ a, (k0_off36 k0_t3 v13) a + S2048x128.size a ≤ S552960x128.size a := fun i k0_t3 v13 k0_hw10 k0_h11 k0_h12 => k0_hw10.2.1 k0_h11 k0_h12
theorem k0_mult27_dvd : ∀ (i : grid0.Coords) (k0_t3 : Fin k0_t3_loop.trips) (v13 : BitVec 32) (k0_hw10 : k0_chk10 i k0_t3 v13), ∀ (k0_h11 : k0_cond11 i = 1#1), ∀ (k0_h13 : k0_cond13 v13 = 1#1), 8 ∣ (k0_mult27 k0_t3 v13).toNat := fun i k0_t3 v13 k0_hw10 k0_h11 k0_h13 => k0_hw10.2.2.1 k0_h11 k0_h13
theorem k0_off37_inb : ∀ (i : grid0.Coords) (k0_t3 : Fin k0_t3_loop.trips) (v13 : BitVec 32) (k0_hw10 : k0_chk10 i k0_t3 v13), ∀ (k0_h11 : k0_cond11 i = 1#1), ∀ (k0_h13 : k0_cond13 v13 = 1#1), ∀ a, (k0_off37 k0_t3 v13) a + S1024x128.size a ≤ S552960x128.size a := fun i k0_t3 v13 k0_hw10 k0_h11 k0_h13 => k0_hw10.2.2.2.1 k0_h11 k0_h13
theorem k0_mult28_dvd : ∀ (i : grid0.Coords) (k0_t3 : Fin k0_t3_loop.trips) (v13 : BitVec 32) (k0_hw10 : k0_chk10 i k0_t3 v13), ∀ (k0_h11 : k0_cond11 i = 1#1), ∀ (k0_h14 : k0_cond14 v13 = 1#1), 8 ∣ (k0_mult28 k0_t3 v13).toNat := fun i k0_t3 v13 k0_hw10 k0_h11 k0_h14 => k0_hw10.2.2.2.2.1 k0_h11 k0_h14
theorem k0_off38_inb : ∀ (i : grid0.Coords) (k0_t3 : Fin k0_t3_loop.trips) (v13 : BitVec 32) (k0_hw10 : k0_chk10 i k0_t3 v13), ∀ (k0_h11 : k0_cond11 i = 1#1), ∀ (k0_h14 : k0_cond14 v13 = 1#1), ∀ a, (k0_off38 k0_t3 v13) a + S512x128.size a ≤ S552960x128.size a := fun i k0_t3 v13 k0_hw10 k0_h11 k0_h14 => k0_hw10.2.2.2.2.2.1 k0_h11 k0_h14
theorem k0_mult29_dvd : ∀ (i : grid0.Coords) (k0_t3 : Fin k0_t3_loop.trips) (v13 : BitVec 32) (k0_hw10 : k0_chk10 i k0_t3 v13), ∀ (k0_h11 : k0_cond11 i = 1#1), ∀ (k0_h15 : k0_cond15 v13 = 1#1), 8 ∣ (k0_mult29 k0_t3 v13).toNat := fun i k0_t3 v13 k0_hw10 k0_h11 k0_h15 => k0_hw10.2.2.2.2.2.2.1 k0_h11 k0_h15
theorem k0_off39_inb : ∀ (i : grid0.Coords) (k0_t3 : Fin k0_t3_loop.trips) (v13 : BitVec 32) (k0_hw10 : k0_chk10 i k0_t3 v13), ∀ (k0_h11 : k0_cond11 i = 1#1), ∀ (k0_h15 : k0_cond15 v13 = 1#1), ∀ a, (k0_off39 k0_t3 v13) a + S256x128.size a ≤ S552960x128.size a := fun i k0_t3 v13 k0_hw10 k0_h11 k0_h15 => k0_hw10.2.2.2.2.2.2.2.1 k0_h11 k0_h15
theorem k0_mult30_dvd : ∀ (i : grid0.Coords) (k0_t3 : Fin k0_t3_loop.trips) (v13 : BitVec 32) (k0_hw10 : k0_chk10 i k0_t3 v13), ∀ (k0_h11 : k0_cond11 i = 1#1), ∀ (k0_h16 : k0_cond16 v13 = 1#1), 8 ∣ (k0_mult30 k0_t3 v13).toNat := fun i k0_t3 v13 k0_hw10 k0_h11 k0_h16 => k0_hw10.2.2.2.2.2.2.2.2.1 k0_h11 k0_h16
theorem k0_off40_inb : ∀ (i : grid0.Coords) (k0_t3 : Fin k0_t3_loop.trips) (v13 : BitVec 32) (k0_hw10 : k0_chk10 i k0_t3 v13), ∀ (k0_h11 : k0_cond11 i = 1#1), ∀ (k0_h16 : k0_cond16 v13 = 1#1), ∀ a, (k0_off40 k0_t3 v13) a + S128x128.size a ≤ S552960x128.size a := fun i k0_t3 v13 k0_hw10 k0_h11 k0_h16 => k0_hw10.2.2.2.2.2.2.2.2.2.1 k0_h11 k0_h16
theorem k0_mult31_dvd : ∀ (i : grid0.Coords) (k0_t3 : Fin k0_t3_loop.trips) (v13 : BitVec 32) (k0_hw10 : k0_chk10 i k0_t3 v13), ∀ (k0_h11 : k0_cond11 i = 1#1), ∀ (k0_h17 : k0_cond17 v13 = 1#1), 8 ∣ (k0_mult31 k0_t3 v13).toNat := fun i k0_t3 v13 k0_hw10 k0_h11 k0_h17 => k0_hw10.2.2.2.2.2.2.2.2.2.2.1 k0_h11 k0_h17
theorem k0_off41_inb : ∀ (i : grid0.Coords) (k0_t3 : Fin k0_t3_loop.trips) (v13 : BitVec 32) (k0_hw10 : k0_chk10 i k0_t3 v13), ∀ (k0_h11 : k0_cond11 i = 1#1), ∀ (k0_h17 : k0_cond17 v13 = 1#1), ∀ a, (k0_off41 k0_t3 v13) a + S64x128.size a ≤ S552960x128.size a := fun i k0_t3 v13 k0_hw10 k0_h11 k0_h17 => k0_hw10.2.2.2.2.2.2.2.2.2.2.2.1 k0_h11 k0_h17
theorem k0_mult32_dvd : ∀ (i : grid0.Coords) (k0_t3 : Fin k0_t3_loop.trips) (v13 : BitVec 32) (k0_hw10 : k0_chk10 i k0_t3 v13), ∀ (k0_h11 : k0_cond11 i = 1#1), ∀ (k0_h18 : k0_cond18 v13 = 1#1), 8 ∣ (k0_mult32 k0_t3 v13).toNat := fun i k0_t3 v13 k0_hw10 k0_h11 k0_h18 => k0_hw10.2.2.2.2.2.2.2.2.2.2.2.2.1 k0_h11 k0_h18
theorem k0_off42_inb : ∀ (i : grid0.Coords) (k0_t3 : Fin k0_t3_loop.trips) (v13 : BitVec 32) (k0_hw10 : k0_chk10 i k0_t3 v13), ∀ (k0_h11 : k0_cond11 i = 1#1), ∀ (k0_h18 : k0_cond18 v13 = 1#1), ∀ a, (k0_off42 k0_t3 v13) a + S32x128.size a ≤ S552960x128.size a := fun i k0_t3 v13 k0_hw10 k0_h11 k0_h18 => k0_hw10.2.2.2.2.2.2.2.2.2.2.2.2.2.1 k0_h11 k0_h18
theorem k0_mult33_dvd : ∀ (i : grid0.Coords) (k0_t3 : Fin k0_t3_loop.trips) (v13 : BitVec 32) (k0_hw10 : k0_chk10 i k0_t3 v13), ∀ (k0_h11 : k0_cond11 i = 1#1), ∀ (k0_h19 : k0_cond19 v13 = 1#1), 8 ∣ (k0_mult33 k0_t3 v13).toNat := fun i k0_t3 v13 k0_hw10 k0_h11 k0_h19 => k0_hw10.2.2.2.2.2.2.2.2.2.2.2.2.2.2.1 k0_h11 k0_h19
theorem k0_off43_inb : ∀ (i : grid0.Coords) (k0_t3 : Fin k0_t3_loop.trips) (v13 : BitVec 32) (k0_hw10 : k0_chk10 i k0_t3 v13), ∀ (k0_h11 : k0_cond11 i = 1#1), ∀ (k0_h19 : k0_cond19 v13 = 1#1), ∀ a, (k0_off43 k0_t3 v13) a + S16x128.size a ≤ S552960x128.size a := fun i k0_t3 v13 k0_hw10 k0_h11 k0_h19 => k0_hw10.2.2.2.2.2.2.2.2.2.2.2.2.2.2.2.1 k0_h11 k0_h19
theorem k0_mult34_dvd : ∀ (i : grid0.Coords) (k0_t3 : Fin k0_t3_loop.trips) (v13 : BitVec 32) (k0_hw10 : k0_chk10 i k0_t3 v13), ∀ (k0_h11 : k0_cond11 i = 1#1), ∀ (k0_h20 : k0_cond20 v13 = 1#1), 8 ∣ (k0_mult34 k0_t3 v13).toNat := fun i k0_t3 v13 k0_hw10 k0_h11 k0_h20 => k0_hw10.2.2.2.2.2.2.2.2.2.2.2.2.2.2.2.2.1 k0_h11 k0_h20
theorem k0_off44_inb : ∀ (i : grid0.Coords) (k0_t3 : Fin k0_t3_loop.trips) (v13 : BitVec 32) (k0_hw10 : k0_chk10 i k0_t3 v13), ∀ (k0_h11 : k0_cond11 i = 1#1), ∀ (k0_h20 : k0_cond20 v13 = 1#1), ∀ a, (k0_off44 k0_t3 v13) a + S8x128.size a ≤ S552960x128.size a := fun i k0_t3 v13 k0_hw10 k0_h11 k0_h20 => k0_hw10.2.2.2.2.2.2.2.2.2.2.2.2.2.2.2.2.2 k0_h11 k0_h20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S32768 : Shape := ⟨1, ![32768]⟩
abbrev S216 : Shape := ⟨1, ![216]⟩
abbrev S262144x128 : Shape := ⟨2, ![262144, 128]⟩
abbrev S32768x8x128 : Shape := ⟨3, ![32768, 8, 128]⟩
abbrev S_ : Shape := ⟨0, ![]⟩
abbrev S69120x8x128 : Shape := ⟨3, ![69120, 8, 128]⟩
abbrev S32768x1 : Shape := ⟨2, ![32768, 1]⟩
abbrev S552960x128 : Shape := ⟨2, ![552960, 128]⟩

abbrev nBuf : Space → Nat
  | .hbm => 16
  | .vmem => 0
  | .smem => 0
  | _ => 0

abbrev bufTy : (tb : Table) → Fin (tcTables nBuf tb) → BufTy
  | .hbm, ⟨0, _⟩ => ⟨S32768, .i32⟩
  | .hbm, ⟨1, _⟩ => ⟨S216, .i32⟩
  | .hbm, ⟨2, _⟩ => ⟨S262144x128, .f32⟩
  | .hbm, ⟨3, _⟩ => ⟨S32768x8x128, .f32⟩
  | .hbm, ⟨4, _⟩ => ⟨S_, .f32⟩
  | .hbm, ⟨5, _⟩ => ⟨S69120x8x128, .f32⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S32768x1, .i32⟩
  | .hbm, ⟨14, _⟩ => ⟨S69120x8x128, .f32⟩
  | .hbm, ⟨15, _⟩ => ⟨S552960x128, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel2.lean ====
abbrev S216 : Shape := ⟨1, ![216]⟩
abbrev S1 : Shape := ⟨1, ![1]⟩
abbrev S552960x128 : Shape := ⟨2, ![552960, 128]⟩
abbrev S32x1024x256 : Shape := ⟨3, ![32, 1024, 256]⟩
abbrev S32x256x1024 : Shape := ⟨3, ![32, 256, 1024]⟩
abbrev S_ : Shape := ⟨0, ![]⟩
abbrev S216x1 : Shape := ⟨2, ![216, 1]⟩
abbrev S32x1024x512 : Shape := ⟨3, ![32, 1024, 512]⟩
abbrev S69120x2048 : Shape := ⟨2, ![69120, 2048]⟩
abbrev S2560x128 : Shape := ⟨2, ![2560, 128]⟩
abbrev S1x1024x512 : Shape := ⟨3, ![1, 1024, 512]⟩
abbrev S1x256x1024 : Shape := ⟨3, ![1, 256, 1024]⟩
abbrev S320x2048 : Shape := ⟨2, ![320, 2048]⟩
abbrev S320x128 : Shape := ⟨2, ![320, 128]⟩
abbrev S320x1024 : Shape := ⟨2, ![320, 1024]⟩
abbrev S1024x512 : Shape := ⟨2, ![1024, 512]⟩
abbrev S320x512 : Shape := ⟨2, ![320, 512]⟩
abbrev S320x256 : Shape := ⟨2, ![320, 256]⟩
abbrev S256x1024 : Shape := ⟨2, ![256, 1024]⟩

abbrev nBuf : Space → Nat
  | .hbm => 35
  | .vmem => 12
  | .smem => 4
  | _ => 0

abbrev bufTy : (tb : Table) → Fin (tcTables nBuf tb) → BufTy
  | .hbm, ⟨0, _⟩ => ⟨S216, .i32⟩
  | .hbm, ⟨1, _⟩ => ⟨S216, .i32⟩
  | .hbm, ⟨2, _⟩ => ⟨S552960x128, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S216, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S216, .i32⟩
  | .hbm, ⟨13, _⟩ => ⟨S216, .i32⟩
  | .hbm, ⟨14, _⟩ => ⟨S_, .i32⟩
  | .hbm, ⟨15, _⟩ => ⟨S216, .i32⟩
  | .hbm, ⟨16, _⟩ => ⟨S216, .i1⟩
  | .hbm, ⟨17, _⟩ => ⟨S_, .i32⟩
  | .hbm, ⟨18, _⟩ => ⟨S216, .i32⟩
  | .hbm, ⟨19, _⟩ => ⟨S216, .i32⟩
  | .hbm, ⟨20, _⟩ => ⟨S216, .i32⟩
  | .hbm, ⟨21, _⟩ => ⟨S216x1, .i32⟩
  | .hbm, ⟨22, _⟩ => ⟨S_, .i32⟩
  | .hbm, ⟨23, _⟩ => ⟨S216, .i32⟩
  | .hbm, ⟨24, _⟩ => ⟨S216, .i1⟩
  | .hbm, ⟨25, _⟩ => ⟨S_, .i32⟩
  | .hbm, ⟨26, _⟩ => ⟨S216, .i32⟩
  | .hbm, ⟨27, _⟩ => ⟨S216, .i32⟩
  | .hbm, ⟨28, _⟩ => ⟨S216, .i32⟩
  | .hbm, ⟨29, _⟩ => ⟨S216x1, .i32⟩
  | .hbm, ⟨30, _⟩ => ⟨S32x1024x256, .bf16⟩
  | .hbm, ⟨31, _⟩ => ⟨S32x1024x256, .bf16⟩
  | .hbm, ⟨32, _⟩ => ⟨S32x1024x512, .bf16⟩
  | .hbm, ⟨33, _⟩ => ⟨S32x256x1024, .bf16⟩
  | .hbm, ⟨34, _⟩ => ⟨S69120x2048, .f32⟩
  | .local _ .vmem, ⟨0, _⟩ => ⟨S2560x128, .f32⟩
  | .local _ .vmem, ⟨1, _⟩ => ⟨S2560x128, .f32⟩
  | .local _ .vmem, ⟨2, _⟩ => ⟨S1x1024x512, .bf16⟩
  | .local _ .vmem, ⟨3, _⟩ => ⟨S1x1024x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x256x1024, .bf16⟩
  | .local _ .vmem, ⟨9, _⟩ => ⟨S1x256x1024, .bf16⟩
  | .local _ .vmem, ⟨10, _⟩ => ⟨S320x2048, .f32⟩
  | .local _ .vmem, ⟨11, _⟩ => ⟨S320x2048, .f32⟩
  | .local _ .smem, ⟨0, _⟩ => ⟨S216, .i32⟩
  | .local _ .smem, ⟨1, _⟩ => ⟨S216, .i32⟩
  | .local _ .smem, ⟨2, _⟩ => ⟨S216, .i32⟩
  | .local _ .smem, ⟨3, _⟩ => ⟨S1, .i32⟩
  | _, _ => ⟨S216, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_arg0 : Ref sig .tc := ⟨.smem, 0, rfl⟩
abbrev main_v12 : Ref sig .tc := ⟨.smem, 1, rfl⟩
abbrev main_v19 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![216], ![false]⟩

abbrev pre0 : Pipeline.Prefetch sig := ⟨4, ![main_arg0.idx, main_v12.idx, main_v19.idx, main_arg3.idx], fun | 0 => main_arg0.names | 1 => main_v12.names | 2 => main_v19.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v2 : Index := Scalar.indexCast v1
  ![v2.toNat]
def k0_off2 (i : grid0.Coords) : Fin 1 → Nat :=
  let arg0 : BitVec 32 := BitVec.ofNat 32 (i 0).val
  let c1_i32 : BitVec 32 := 1#32
  let v0 : BitVec 32 := Scalar.muli arg0 c1_i32
  let v1 : Index := Scalar.indexCast v0
  ![v1.toNat]
def k0_off3 (i : grid0.Coords) : Fin 1 → Nat :=
  let arg0 : BitVec 32 := BitVec.ofNat 32 (i 0).val
  let c1_i32_1 : BitVec 32 := 1#32
  let v6 : BitVec 32 := Scalar.muli arg0 c1_i32_1
  let v7 : Index := Scalar.indexCast v6
  ![v7.toNat]
def k0_cond1 (v2 : BitVec 32) : BitVec 1 :=
  let c0_i32 : BitVec 32 := 0#32
  let v3 : BitVec 1 := Scalar.cmpi .sgt v2 c0_i32
  let v4 : BitVec 32 := Scalar.extui v3
  let c0_i32_0 : BitVec 32 := 0#32
  let v5 : BitVec 1 := Scalar.cmpi .ne v4 c0_i32_0
  v5

def k0_cond2 (v8 : BitVec 32) : BitVec 1 :=
  let c0_i32_2 : BitVec 32 := 0#32
  let v9 : BitVec 1 := Scalar.cmpi .sle v8 c0_i32_2
  let v10 : BitVec 32 := Scalar.extui v9
  let c0_i32_3 : BitVec 32 := 0#32
  let v11 : BitVec 1 := Scalar.cmpi .ne v10 c0_i32_3
  v11

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c1_i32 : BitVec 32 := 1#32
  let v0 : BitVec 32 := Scalar.muli arg0 c1_i32
  let c0 : Index := 0#32
  let v1 : BitVec 32 := pf.at 3 (Rect.unit (s := S1) ![0] S1.size inb_S1_S1_0) numel1_S1
  let c1_i32_0 : BitVec 32 := 1#32
  let v2 : BitVec 32 := Scalar.subi v1 c1_i32_0
  let c0_i32 : BitVec 32 := 0#32
  let v3 : BitVec 32 := Scalar.maxsi v2 c0_i32
  let v4 : BitVec 32 := Scalar.minsi v0 v3
  let c1_i32_1 : BitVec 32 := 1#32
  let v5 : BitVec 32 := Scalar.divsi v4 c1_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1_i32_1 c0_i32_4
  let v12 : BitVec 32 := Scalar.extui v11
  let c0_i32_5 : BitVec 32 := 0#32
  let v13 : BitVec 1 := Scalar.cmpi .slt c1_i32_1 c0_i32_5
  let v14 : BitVec 32 := Scalar.extui v13
  let v15 : BitVec 32 := Scalar.subi v12 v14
  let v16 : BitVec 1 := Scalar.cmpi .ne v10 v15
  let v17 : BitVec 32 := Scalar.remsi v4 c1_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c0_i32_8 : BitVec 32 := 0#32
  let c0_i32_9 : BitVec 32 := 0#32
  ![v21.toNat, c0_i32_8.toNat]

def cc0_transform_1 (k0_off1_inb : ∀ i : grid0.Coords, ∀ a, (k0_off1 i) a + S1.size a ≤ S216.size a) (numel1_S1 : S1.numel = 1) (pf : pre0.Contents (Elt F)) (i : grid0.Coords) : Fin 3 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v2 : Index := Scalar.indexCast v1
  let v3 : BitVec 32 := pf.at 1 (Rect.unit (s := S216) ![v2.toNat] S1.size (k0_off1_inb i)) numel1_S1
  let c0_i32_0 : BitVec 32 := 0#32
  let c0_i32_1 : BitVec 32 := 0#32
  let c0_i32_2 : BitVec 32 := 0#32
  ![v3.toNat, c0_i32_0.toNat, c0_i32_1.toNat]

def cc0_transform_2 (k0_off1_inb : ∀ i : grid0.Coords, ∀ a, (k0_off1 i) a + S1.size a ≤ S216.size a) (numel1_S1 : S1.numel = 1) (pf : pre0.Contents (Elt F)) (i : grid0.Coords) : Fin 3 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v2 : Index := Scalar.indexCast v1
  let v3 : BitVec 32 := pf.at 1 (Rect.unit (s := S216) ![v2.toNat] S1.size (k0_off1_inb i)) numel1_S1
  let c0_i32_0 : BitVec 32 := 0#32
  let c0_i32_1 : BitVec 32 := 0#32
  let c0_i32_2 : BitVec 32 := 0#32
  ![v3.toNat, c0_i32_0.toNat, c0_i32_1.toNat]

def cc0_transform_3 (k0_off1_inb : ∀ i : grid0.Coords, ∀ a, (k0_off1 i) a + S1.size a ≤ S216.size a) (numel1_S1 : S1.numel = 1) (pf : pre0.Contents (Elt F)) (i : grid0.Coords) : Fin 3 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v2 : Index := Scalar.indexCast v1
  let v3 : BitVec 32 := pf.at 2 (Rect.unit (s := S216) ![v2.toNat] S1.size (k0_off1_inb i)) numel1_S1
  let c0_i32_0 : BitVec 32 := 0#32
  let c0_i32_1 : BitVec 32 := 0#32
  let c0_i32_2 : BitVec 32 := 0#32
  ![v3.toNat, c0_i32_0.toNat, c0_i32_1.toNat]

def cc0_transform_4 (k0_off1_inb : ∀ i : grid0.Coords, ∀ a, (k0_off1 i) a + S1.size a ≤ S216.size a) (numel1_S1 : S1.numel = 1) (pf : pre0.Contents (Elt F)) (i : grid0.Coords) : Fin 3 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let v2 : Index := Scalar.indexCast v1
  let v3 : BitVec 32 := pf.at 2 (Rect.unit (s := S216) ![v2.toNat] S1.size (k0_off1_inb i)) numel1_S1
  let c0_i32_0 : BitVec 32 := 0#32
  let c0_i32_1 : BitVec 32 := 0#32
  let c0_i32_2 : BitVec 32 := 0#32
  ![v3.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S216 : Shape := ⟨1, ![216]⟩
abbrev S1 : Shape := ⟨1, ![1]⟩
abbrev S552960x128 : Shape := ⟨2, ![552960, 128]⟩
abbrev S32x1024x256 : Shape := ⟨3, ![32, 1024, 256]⟩
abbrev S32x256x1024 : Shape := ⟨3, ![32, 256, 1024]⟩
abbrev S216x320x1024 : Shape := ⟨3, ![216, 320, 1024]⟩
abbrev S_ : Shape := ⟨0, ![]⟩
abbrev S216x1 : Shape := ⟨2, ![216, 1]⟩
abbrev S216x1024x256 : Shape := ⟨3, ![216, 1024, 256]⟩
abbrev S216x256x1024 : Shape := ⟨3, ![216, 256, 1024]⟩
abbrev S216x320x256 : Shape := ⟨3, ![216, 320, 256]⟩
abbrev S216x320x2048 : Shape := ⟨3, ![216, 320, 2048]⟩
abbrev S216x1x1 : Shape := ⟨3, ![216, 1, 1]⟩
abbrev S69120x2048 : Shape := ⟨2, ![69120, 2048]⟩

abbrev nBuf : Space → Nat
  | .hbm => 100
  | .vmem => 0
  | .smem => 0
  | _ => 0

abbrev bufTy : (tb : Table) → Fin (tcTables nBuf tb) → BufTy
  | .hbm, ⟨0, _⟩ => ⟨S216, .i32⟩
  | .hbm, ⟨1, _⟩ => ⟨S216, .i32⟩
  | .hbm, ⟨2, _⟩ => ⟨S216, .i32⟩
  | .hbm, ⟨3, _⟩ => ⟨S1, .i32⟩
  | .hbm, ⟨4, _⟩ => ⟨S552960x128, .f32⟩
  | .hbm, ⟨5, _⟩ => ⟨S32x1024x256, .f32⟩
  | .hbm, ⟨6, _⟩ => ⟨S32x1024x256, .f32⟩
  | .hbm, ⟨7, _⟩ => ⟨S32x256x1024, .f32⟩
  | .hbm, ⟨8, _⟩ => ⟨S216x320x1024, .f32⟩
  | .hbm, ⟨9, _⟩ => ⟨S_, .i32⟩
  | .hbm, ⟨10, _⟩ => ⟨S216, .i32⟩
  | .hbm, ⟨11, _⟩ => ⟨S216, .i1⟩
  | .hbm, ⟨12, _⟩ => ⟨S_, .i32⟩
  | .hbm, ⟨13, _⟩ => ⟨S216, .i32⟩
  | .hbm, ⟨14, _⟩ => ⟨S216, .i32⟩
  | .hbm, ⟨15, _⟩ => ⟨S216, .i32⟩
  | .hbm, ⟨16, _⟩ => ⟨S216x1, .i32⟩
  | .hbm, ⟨17, _⟩ => ⟨S216x1024x256, .f32⟩
  | .hbm, ⟨18, _⟩ => ⟨S_, .i32⟩
  | .hbm, ⟨19, _⟩ => ⟨S216, .i32⟩
  | .hbm, ⟨20, _⟩ => ⟨S216, .i1⟩
  | .hbm, ⟨21, _⟩ => ⟨S_, .i32⟩
  | .hbm, ⟨22, _⟩ => ⟨S216, .i32⟩
  | .hbm, ⟨23, _⟩ => ⟨S216, .i32⟩
  | .hbm, ⟨24, _⟩ => ⟨S216, .i32⟩
  | .hbm, ⟨25, _⟩ => ⟨S216x1, .i32⟩
  | .hbm, ⟨26, _⟩ => ⟨S216x1024x256, .f32⟩
  | .hbm, ⟨27, _⟩ => ⟨S_, .i32⟩
  | .hbm, ⟨28, _⟩ => ⟨S216, .i32⟩
  | .hbm, ⟨29, _⟩ => ⟨S216, .i1⟩
  | .hbm, ⟨30, _⟩ => ⟨S_, .i32⟩
  | .hbm, ⟨31, _⟩ => ⟨S216, .i32⟩
  | .hbm, ⟨32, _⟩ => ⟨S216, .i32⟩
  | .hbm, ⟨33, _⟩ => ⟨S216, .i32⟩
  | .hbm, ⟨34, _⟩ => ⟨S216x1, .i32⟩
  | .hbm, ⟨35, _⟩ => ⟨S216x256x1024, .f32⟩
  | .hbm, ⟨36, _⟩ => ⟨S216x320x256, .f32⟩
  | .hbm, ⟨37, _⟩ => ⟨S216x320x256, .f32⟩
  | .hbm, ⟨38, _⟩ => ⟨S216x320x256, .f32⟩
  | .hbm, ⟨39, _⟩ => ⟨S_, .f32⟩
  | .hbm, ⟨40, _⟩ => ⟨S216x320x256, .f32⟩
  | .hbm, ⟨41, _⟩ => ⟨S216x320x256, .f32⟩
  | .hbm, ⟨42, _⟩ => ⟨S_, .f32⟩
  | .hbm, ⟨43, _⟩ => ⟨S216x320x256, .f32⟩
  | .hbm, ⟨44, _⟩ => ⟨S216x320x256, .f32⟩
  | .hbm, ⟨45, _⟩ => ⟨S216x320x256, .f32⟩
  | .hbm, ⟨46, _⟩ => ⟨S216x320x256, .f32⟩
  | .hbm, ⟨47, _⟩ => ⟨S216x320x256, .f32⟩
  | .hbm, ⟨48, _⟩ => ⟨S216x320x1024, .f32⟩
  | .hbm, ⟨49, _⟩ => ⟨S_, .i32⟩
  | .hbm, ⟨50, _⟩ => ⟨S216, .i32⟩
  | .hbm, ⟨51, _⟩ => ⟨S216, .i1⟩
  | .hbm, ⟨52, _⟩ => ⟨S_, .i32⟩
  | .hbm, ⟨53, _⟩ => ⟨S216, .i32⟩
  | .hbm, ⟨54, _⟩ => ⟨S216, .i32⟩
  | .hbm, ⟨55, _⟩ => ⟨S216, .i32⟩
  | .hbm, ⟨56, _⟩ => ⟨S216x1, .i32⟩
  | .hbm, ⟨57, _⟩ => ⟨S216x1024x256, .f32⟩
  | .hbm, ⟨58, _⟩ => ⟨S_, .i32⟩
  | .hbm, ⟨59, _⟩ => ⟨S216, .i32⟩
  | .hbm, ⟨60, _⟩ => ⟨S216, .i1⟩
  | .hbm, ⟨61, _⟩ => ⟨S_, .i32⟩
  | .hbm, ⟨62, _⟩ => ⟨S216, .i32⟩
  | .hbm, ⟨63, _⟩ => ⟨S216, .i32⟩
  | .hbm, ⟨64, _⟩ => ⟨S216, .i32⟩
  | .hbm, ⟨65, _⟩ => ⟨S216x1, .i32⟩
  | .hbm, ⟨66, _⟩ => ⟨S216x1024x256, .f32⟩
  | .hbm, ⟨67, _⟩ => ⟨S_, .i32⟩
  | .hbm, ⟨68, _⟩ => ⟨S216, .i32⟩
  | .hbm, ⟨69, _⟩ => ⟨S216, .i1⟩
  | .hbm, ⟨70, _⟩ => ⟨S_, .i32⟩
  | .hbm, ⟨71, _⟩ => ⟨S216, .i32⟩
  | .hbm, ⟨72, _⟩ => ⟨S216, .i32⟩
  | .hbm, ⟨73, _⟩ => ⟨S216, .i32⟩
  | .hbm, ⟨74, _⟩ => ⟨S216x1, .i32⟩
  | .hbm, ⟨75, _⟩ => ⟨S216x256x1024, .f32⟩
  | .hbm, ⟨76, _⟩ => ⟨S216x320x256, .f32⟩
  | .hbm, ⟨77, _⟩ => ⟨S216x320x256, .f32⟩
  | .hbm, ⟨78, _⟩ => ⟨S216x320x256, .f32⟩
  | .hbm, ⟨79, _⟩ => ⟨S_, .f32⟩
  | .hbm, ⟨80, _⟩ => ⟨S216x320x256, .f32⟩
  | .hbm, ⟨81, _⟩ => ⟨S216x320x256, .f32⟩
  | .hbm, ⟨82, _⟩ => ⟨S_, .f32⟩
  | .hbm, ⟨83, _⟩ => ⟨S216x320x256, .f32⟩
  | .hbm, ⟨84, _⟩ => ⟨S216x320x256, .f32⟩
  | .hbm, ⟨85, _⟩ => ⟨S216x320x256, .f32⟩
  | .hbm, ⟨86, _⟩ => ⟨S216x320x256, .f32⟩
  | .hbm, ⟨87, _⟩ => ⟨S216x320x256, .f32⟩
  | .hbm, ⟨88, _⟩ => ⟨S216x320x1024, .f32⟩
  | .hbm, ⟨89, _⟩ => ⟨S216x320x2048, .f32⟩
  | .hbm, ⟨90, _⟩ => ⟨S_, .i32⟩
  | .hbm, ⟨91, _⟩ => ⟨S216, .i32⟩
  | .hbm, ⟨92, _⟩ => ⟨S216, .i1⟩
  | .hbm, ⟨93, _⟩ => ⟨S216x1x1, .i1⟩
  | .hbm, ⟨94, _⟩ => ⟨S_, .f32⟩
  | .hbm, ⟨95, _⟩ => ⟨S_, .f32⟩
  | .hbm, ⟨96, _⟩ => ⟨S216x320x2048, .i1⟩
  | .hbm, ⟨97, _⟩ => ⟨S216x320x2048, .f32⟩
  | .hbm, ⟨98, _⟩ => ⟨S216x320x2048, .f32⟩
  | .hbm, ⟨99, _⟩ => ⟨S69120x2048, .f32⟩
  | _, _ => ⟨S216, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_c_11 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v57 : Ref sig .tc := ⟨.hbm, 98, rfl⟩
abbrev main_v58 : Ref sig .tc := ⟨.hbm, 99, rfl⟩

abbrev nD : Nat := 1
abbrev τ : Topo := Topo.v7x

variable {F : FTy → Type} [FloatOps F]
-- ==== Kernel3.lean ====
abbrev S32768 : Shape := ⟨1, ![32768]⟩
abbrev S69120x2048 : Shape := ⟨2, ![69120, 2048]⟩
abbrev S262144x128 : Shape := ⟨2, ![262144, 128]⟩
abbrev S32768x128 : Shape := ⟨2, ![32768, 128]⟩
abbrev S1024 : Shape := ⟨1, ![1024]⟩
abbrev S1x1024 : Shape := ⟨2, ![1, 1024]⟩
abbrev S32768x1024 : Shape := ⟨2, ![32768, 1024]⟩
abbrev S8192x128 : Shape := ⟨2, ![8192, 128]⟩
abbrev S1024x128 : Shape := ⟨2, ![1024, 128]⟩
abbrev S1024x1024 : Shape := ⟨2, ![1024, 1024]⟩
abbrev S2x1024x2048 : Shape := ⟨3, ![2, 1024, 2048]⟩
abbrev S2 : Shape := ⟨1, ![2]⟩
abbrev S1 : Shape := ⟨1, ![1]⟩
abbrev S_ : Shape := ⟨0, ![]⟩
abbrev S1x1x2048 : Shape := ⟨3, ![1, 1, 2048]⟩
abbrev S1x2048 : Shape := ⟨2, ![1, 2048]⟩
abbrev S1x1024x1024 : Shape := ⟨3, ![1, 1024, 1024]⟩
abbrev S1024x1 : Shape := ⟨2, ![1024, 1]⟩

abbrev nBuf : Space → Nat
  | .hbm => 8
  | .vmem => 9
  | .smem => 1
  | _ => 0

abbrev bufTy : (tb : Table) → Fin (tcTables nBuf tb) → BufTy
  | .hbm, ⟨0, _⟩ => ⟨S69120x2048, .f32⟩
  | .hbm, ⟨1, _⟩ => ⟨S262144x128, .f32⟩
  | .hbm, ⟨2, _⟩ => ⟨S32768x128, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S8192x128, .f32⟩
  | .local _ .vmem, ⟨1, _⟩ => ⟨S8192x128, .f32⟩
  | .local _ .vmem, ⟨2, _⟩ => ⟨S1024x128, .f32⟩
  | .local _ .vmem, ⟨3, _⟩ => ⟨S1024x128, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S2x1024x2048, .f32⟩
  | .local _ .smem, ⟨0, _⟩ => ⟨S32768, .i32⟩
  | _, _ => ⟨S69120x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_33 : BitVec 32 := 0#32
  let c128_i32 : BitVec 32 := 128#32
  let v69 : BitVec 32 := Scalar.addi c0_i32_33 c128_i32
  let c1_i32_34 : BitVec 32 := 1#32
  ⟨c0_i32_33, v69, c1_i32_34⟩
def k0_off1 (k0_t1 : Fin k0_t1_loop.trips) : Fin 1 → Nat :=
  let c0_i32_37 : BitVec 32 := 0#32
  let c0_i32_33 : BitVec 32 := 0#32
  let c1_i32_34 : BitVec 32 := 1#32
  let arg10 : BitVec 32 := Scf.iv c0_i32_33 c1_i32_34 k0_t1
  let c8_i32 : BitVec 32 := 8#32
  let v70 : BitVec 32 := Scalar.muli arg10 c8_i32
  let c0_i32_36 : BitVec 32 := 0#32
  let v71 : BitVec 32 := Scalar.addi v70 c0_i32_36
  let v72 : BitVec 32 := Scalar.addi c0_i32_37 v71
  let v73 : Index := Scalar.indexCast v72
  ![v73.toNat]
def k0_off2 (k0_t1 : Fin k0_t1_loop.trips) : Fin 3 → Nat :=
  let c0_i32_38 : BitVec 32 := 0#32
  let c0_i32_33 : BitVec 32 := 0#32
  let c1_i32_34 : BitVec 32 := 1#32
  let arg10 : BitVec 32 := Scf.iv c0_i32_33 c1_i32_34 k0_t1
  let c8_i32 : BitVec 32 := 8#32
  let v70 : BitVec 32 := Scalar.muli arg10 c8_i32
  let c0_i32_36 : BitVec 32 := 0#32
  let v71 : BitVec 32 := Scalar.addi v70 c0_i32_36
  let c0_i32_40 : BitVec 32 := 0#32
  ![0, v71.toNat, 0]
def k0_off3 (v74 : BitVec 32) : Fin 2 → Nat :=
  let c0_i32_41 : BitVec 32 := 0#32
  ![v74.toNat, 0]

def k0_chk1 (i : grid0.Coords) (v74 : BitVec 32) : Prop :=
  (∀ (k0_h1 : k0_cond1 i = 1#1), ∀ a, (k0_off3 v74) a + S1x2048.size a ≤ S69120x2048.size a)
theorem k0_off3_inb : ∀ (i : grid0.Coords) (v74 : BitVec 32) (k0_hw1 : k0_chk1 i v74), ∀ (k0_h1 : k0_cond1 i = 1#1), ∀ a, (k0_off3 v74) a + S1x2048.size a ≤ S69120x2048.size a := fun i v74 k0_hw1 k0_h1 => k0_hw1 k0_h1

def k0_off4 (k0_t1 : Fin k0_t1_loop.trips) : Fin 1 → Nat :=
  let c0_i32_44 : BitVec 32 := 0#32
  let c0_i32_33 : BitVec 32 := 0#32
  let c1_i32_34 : BitVec 32 := 1#32
  let arg10 : BitVec 32 := Scf.iv c0_i32_33 c1_i32_34 k0_t1
  let c8_i32_42 : BitVec 32 := 8#32
  let v80 : BitVec 32 := Scalar.muli arg10 c8_i32_42
  let c1_i32_43 : BitVec 32 := 1#32
  let v81 : BitVec 32 := Scalar.addi v80 c1_i32_43
  let v82 : BitVec 32 := Scalar.addi c0_i32_44 v81
  let v83 : Index := Scalar.indexCast v82
  ![v83.toNat]
def k0_off5 (k0_t1 : Fin k0_t1_loop.trips) : Fin 3 → Nat :=
  let c0_i32_45 : BitVec 32 := 0#32
  let c0_i32_33 : BitVec 32 := 0#32
  let c1_i32_34 : BitVec 32 := 1#32
  let arg10 : BitVec 32 := Scf.iv c0_i32_33 c1_i32_34 k0_t1
  let c8_i32_42 : BitVec 32 := 8#32
  let v80 : BitVec 32 := Scalar.muli arg10 c8_i32_42
  let c1_i32_43 : BitVec 32 := 1#32
  let v81 : BitVec 32 := Scalar.addi v80 c1_i32_43
  let c0_i32_47 : BitVec 32 := 0#32
  ![0, v81.toNat, 0]
def k0_off6 (v84 : BitVec 32) : Fin 2 → Nat :=
  let c0_i32_48 : BitVec 32 := 0#32
  ![v84.toNat, 0]

def k0_chk2 (i : grid0.Coords) (v84 : BitVec 32) : Prop :=
  (∀ (k0_h1 : k0_cond1 i = 1#1), ∀ a, (k0_off6 v84) a + S1x2048.size a ≤ S69120x2048.size a)
theorem k0_off6_inb : ∀ (i : grid0.Coords) (v84 : BitVec 32) (k0_hw2 : k0_chk2 i v84), ∀ (k0_h1 : k0_cond1 i = 1#1), ∀ a, (k0_off6 v84) a + S1x2048.size a ≤ S69120x2048.size a := fun i v84 k0_hw2 k0_h1 => k0_hw2 k0_h1

def k0_off7 (k0_t1 : Fin k0_t1_loop.trips) : Fin 1 → Nat :=
  let c0_i32_51 : BitVec 32 := 0#32
  let c0_i32_33 : BitVec 32 := 0#32
  let c1_i32_34 : BitVec 32 := 1#32
  let arg10 : BitVec 32 := Scf.iv c0_i32_33 c1_i32_34 k0_t1
  let c8_i32_49 : BitVec 32 := 8#32
  let v90 : BitVec 32 := Scalar.muli arg10 c8_i32_49
  let c2_i32_50 : BitVec 32 := 2#32
  let v91 : BitVec 32 := Scalar.addi v90 c2_i32_50
  let v92 : BitVec 32 := Scalar.addi c0_i32_51 v91
  let v93 : Index := Scalar.indexCast v92
  ![v93.toNat]
def k0_off8 (k0_t1 : Fin k0_t1_loop.trips) : Fin 3 → Nat :=
  let c0_i32_52 : BitVec 32 := 0#32
  let c0_i32_33 : BitVec 32 := 0#32
  let c1_i32_34 : BitVec 32 := 1#32
  let arg10 : BitVec 32 := Scf.iv c0_i32_33 c1_i32_34 k0_t1
  let c8_i32_49 : BitVec 32 := 8#32
  let v90 : BitVec 32 := Scalar.muli arg10 c8_i32_49
  let c2_i32_50 : BitVec 32 := 2#32
  let v91 : BitVec 32 := Scalar.addi v90 c2_i32_50
  let c0_i32_54 : BitVec 32 := 0#32
  ![0, v91.toNat, 0]
def k0_off9 (v94 : BitVec 32) : Fin 2 → Nat :=
  let c0_i32_55 : BitVec 32 := 0#32
  ![v94.toNat, 0]

def k0_chk3 (i : grid0.Coords) (v94 : BitVec 32) : Prop :=
  (∀ (k0_h1 : k0_cond1 i = 1#1), ∀ a, (k0_off9 v94) a + S1x2048.size a ≤ S69120x2048.size a)
theorem k0_off9_inb : ∀ (i : grid0.Coords) (v94 : BitVec 32) (k0_hw3 : k0_chk3 i v94), ∀ (k0_h1 : k0_cond1 i = 1#1), ∀ a, (k0_off9 v94) a + S1x2048.size a ≤ S69120x2048.size a := fun i v94 k0_hw3 k0_h1 => k0_hw3 k0_h1

def k0_off10 (k0_t1 : Fin k0_t1_loop.trips) : Fin 1 → Nat :=
  let c0_i32_57 : BitVec 32 := 0#32
  let c0_i32_33 : BitVec 32 := 0#32
  let c1_i32_34 : BitVec 32 := 1#32
  let arg10 : BitVec 32 := Scf.iv c0_i32_33 c1_i32_34 k0_t1
  let c8_i32_56 : BitVec 32 := 8#32
  let v100 : BitVec 32 := Scalar.muli arg10 c8_i32_56
  let c3_i32 : BitVec 32 := 3#32
  let v101 : BitVec 32 := Scalar.addi v100 c3_i32
  let v102 : BitVec 32 := Scalar.addi c0_i32_57 v101
  let v103 : Index := Scalar.indexCast v102
  ![v103.toNat]
def k0_off11 (k0_t1 : Fin k0_t1_loop.trips) : Fin 3 → Nat :=
  let c0_i32_58 : BitVec 32 := 0#32
  let c0_i32_33 : BitVec 32 := 0#32
  let c1_i32_34 : BitVec 32 := 1#32
  let arg10 : BitVec 32 := Scf.iv c0_i32_33 c1_i32_34 k0_t1
  let c8_i32_56 : BitVec 32 := 8#32
  let v100 : BitVec 32 := Scalar.muli arg10 c8_i32_56
  let c3_i32 : BitVec 32 := 3#32
  let v101 : BitVec 32 := Scalar.addi v100 c3_i32
  let c0_i32_60 : BitVec 32 := 0#32
  ![0, v101.toNat, 0]
def k0_off12 (v104 : BitVec 32) : Fin 2 → Nat :=
  let c0_i32_61 : BitVec 32 := 0#32
  ![v104.toNat, 0]

def k0_chk4 (i : grid0.Coords) (v104 : BitVec 32) : Prop :=
  (∀ (k0_h1 : k0_cond1 i = 1#1), ∀ a, (k0_off12 v104) a + S1x2048.size a ≤ S69120x2048.size a)
theorem k0_off12_inb : ∀ (i : grid0.Coords) (v104 : BitVec 32) (k0_hw4 : k0_chk4 i v104), ∀ (k0_h1 : k0_cond1 i = 1#1), ∀ a, (k0_off12 v104) a + S1x2048.size a ≤ S69120x2048.size a := fun i v104 k0_hw4 k0_h1 => k0_hw4 k0_h1

def k0_off13 (k0_t1 : Fin k0_t1_loop.trips) : Fin 1 → Nat :=
  let c0_i32_63 : BitVec 32 := 0#32
  let c0_i32_33 : BitVec 32 := 0#32
  let c1_i32_34 : BitVec 32 := 1#32
  let arg10 : BitVec 32 := Scf.iv c0_i32_33 c1_i32_34 k0_t1
  let c8_i32_62 : BitVec 32 := 8#32
  let v110 : BitVec 32 := Scalar.muli arg10 c8_i32_62
  let c4_i32 : BitVec 32 := 4#32
  let v111 : BitVec 32 := Scalar.addi v110 c4_i32
  let v112 : BitVec 32 := Scalar.addi c0_i32_63 v111
  let v113 : Index := Scalar.indexCast v112
  ![v113.toNat]
def k0_off14 (k0_t1 : Fin k0_t1_loop.trips) : Fin 3 → Nat :=
  let c0_i32_64 : BitVec 32 := 0#32
  let c0_i32_33 : BitVec 32 := 0#32
  let c1_i32_34 : BitVec 32 := 1#32
  let arg10 : BitVec 32 := Scf.iv c0_i32_33 c1_i32_34 k0_t1
  let c8_i32_62 : BitVec 32 := 8#32
  let v110 : BitVec 32 := Scalar.muli arg10 c8_i32_62
  let c4_i32 : BitVec 32 := 4#32
  let v111 : BitVec 32 := Scalar.addi v110 c4_i32
  let c0_i32_66 : BitVec 32 := 0#32
  ![0, v111.toNat, 0]
def k0_off15 (v114 : BitVec 32) : Fin 2 → Nat :=
  let c0_i32_67 : BitVec 32 := 0#32
  ![v114.toNat, 0]

def k0_chk5 (i : grid0.Coords) (v114 : BitVec 32) : Prop :=
  (∀ (k0_h1 : k0_cond1 i = 1#1), ∀ a, (k0_off15 v114) a + S1x2048.size a ≤ S69120x2048.size a)
theorem k0_off15_inb : ∀ (i : grid0.Coords) (v114 : BitVec 32) (k0_hw5 : k0_chk5 i v114), ∀ (k0_h1 : k0_cond1 i = 1#1), ∀ a, (k0_off15 v114) a + S1x2048.size a ≤ S69120x2048.size a := fun i v114 k0_hw5 k0_h1 => k0_hw5 k0_h1

def k0_off16 (k0_t1 : Fin k0_t1_loop.trips) : Fin 1 → Nat :=
  let c0_i32_69 : BitVec 32 := 0#32
  let c0_i32_33 : BitVec 32 := 0#32
  let c1_i32_34 : BitVec 32 := 1#32
  let arg10 : BitVec 32 := Scf.iv c0_i32_33 c1_i32_34 k0_t1
  let c8_i32_68 : BitVec 32 := 8#32
  let v120 : BitVec 32 := Scalar.muli arg10 c8_i32_68
  let c5_i32 : BitVec 32 := 5#32
  let v121 : BitVec 32 := Scalar.addi v120 c5_i32
  let v122 : BitVec 32 := Scalar.addi c0_i32_69 v121
  let v123 : Index := Scalar.indexCast v122
  ![v123.toNat]
def k0_off17 (k0_t1 : Fin k0_t1_loop.trips) : Fin 3 → Nat :=
  let c0_i32_70 : BitVec 32 := 0#32
  let c0_i32_33 : BitVec 32 := 0#32
  let c1_i32_34 : BitVec 32 := 1#32
  let arg10 : BitVec 32 := Scf.iv c0_i32_33 c1_i32_34 k0_t1
  let c8_i32_68 : BitVec 32 := 8#32
  let v120 : BitVec 32 := Scalar.muli arg10 c8_i32_68
  let c5_i32 : BitVec 32 := 5#32
  let v121 : BitVec 32 := Scalar.addi v120 c5_i32
  let c0_i32_72 : BitVec 32 := 0#32
  ![0, v121.toNat, 0]
def k0_off18 (v124 : BitVec 32) : Fin 2 → Nat :=
  let c0_i32_73 : BitVec 32 := 0#32
  ![v124.toNat, 0]

def k0_chk6 (i : grid0.Coords) (v124 : BitVec 32) : Prop :=
  (∀ (k0_h1 : k0_cond1 i = 1#1), ∀ a, (k0_off18 v124) a + S1x2048.size a ≤ S69120x2048.size a)
theorem k0_off18_inb : ∀ (i : grid0.Coords) (v124 : BitVec 32) (k0_hw6 : k0_chk6 i v124), ∀ (k0_h1 : k0_cond1 i = 1#1), ∀ a, (k0_off18 v124) a + S1x2048.size a ≤ S69120x2048.size a := fun i v124 k0_hw6 k0_h1 => k0_hw6 k0_h1

def k0_off19 (k0_t1 : Fin k0_t1_loop.trips) : Fin 1 → Nat :=
  let c0_i32_75 : BitVec 32 := 0#32
  let c0_i32_33 : BitVec 32 := 0#32
  let c1_i32_34 : BitVec 32 := 1#32
  let arg10 : BitVec 32 := Scf.iv c0_i32_33 c1_i32_34 k0_t1
  let c8_i32_74 : BitVec 32 := 8#32
  let v130 : BitVec 32 := Scalar.muli arg10 c8_i32_74
  let c6_i32 : BitVec 32 := 6#32
  let v131 : BitVec 32 := Scalar.addi v130 c6_i32
  let v132 : BitVec 32 := Scalar.addi c0_i32_75 v131
  let v133 : Index := Scalar.indexCast v132
  ![v133.toNat]
def k0_off20 (k0_t1 : Fin k0_t1_loop.trips) : Fin 3 → Nat :=
  let c0_i32_76 : BitVec 32 := 0#32
  let c0_i32_33 : BitVec 32 := 0#32
  let c1_i32_34 : BitVec 32 := 1#32
  let arg10 : BitVec 32 := Scf.iv c0_i32_33 c1_i32_34 k0_t1
  let c8_i32_74 : BitVec 32 := 8#32
  let v130 : BitVec 32 := Scalar.muli arg10 c8_i32_74
  let c6_i32 : BitVec 32 := 6#32
  let v131 : BitVec 32 := Scalar.addi v130 c6_i32
  let c0_i32_78 : BitVec 32 := 0#32
  ![0, v131.toNat, 0]
def k0_off21 (v134 : BitVec 32) : Fin 2 → Nat :=
  let c0_i32_79 : BitVec 32 := 0#32
  ![v134.toNat, 0]

def k0_chk7 (i : grid0.Coords) (v134 : BitVec 32) : Prop :=
  (∀ (k0_h1 : k0_cond1 i = 1#1), ∀ a, (k0_off21 v134) a + S1x2048.size a ≤ S69120x2048.size a)
theorem k0_off21_inb : ∀ (i : grid0.Coords) (v134 : BitVec 32) (k0_hw7 : k0_chk7 i v134), ∀ (k0_h1 : k0_cond1 i = 1#1), ∀ a, (k0_off21 v134) a + S1x2048.size a ≤ S69120x2048.size a := fun i v134 k0_hw7 k0_h1 => k0_hw7 k0_h1

def k0_off22 (k0_t1 : Fin k0_t1_loop.trips) : Fin 1 → Nat :=
  let c0_i32_81 : BitVec 32 := 0#32
  let c0_i32_33 : BitVec 32 := 0#32
  let c1_i32_34 : BitVec 32 := 1#32
  let arg10 : BitVec 32 := Scf.iv c0_i32_33 c1_i32_34 k0_t1
  let c8_i32_80 : BitVec 32 := 8#32
  let v140 : BitVec 32 := Scalar.muli arg10 c8_i32_80
  let c7_i32 : BitVec 32 := 7#32
  let v141 : BitVec 32 := Scalar.addi v140 c7_i32
  let v142 : BitVec 32 := Scalar.addi c0_i32_81 v141
  let v143 : Index := Scalar.indexCast v142
  ![v143.toNat]
def k0_off23 (k0_t1 : Fin k0_t1_loop.trips) : Fin 3 → Nat :=
  let c0_i32_82 : BitVec 32 := 0#32
  let c0_i32_33 : BitVec 32 := 0#32
  let c1_i32_34 : BitVec 32 := 1#32
  let arg10 : BitVec 32 := Scf.iv c0_i32_33 c1_i32_34 k0_t1
  let c8_i32_80 : BitVec 32 := 8#32
  let v140 : BitVec 32 := Scalar.muli arg10 c8_i32_80
  let c7_i32 : BitVec 32 := 7#32
  let v141 : BitVec 32 := Scalar.addi v140 c7_i32
  let c0_i32_84 : BitVec 32 := 0#32
  ![0, v141.toNat, 0]
def k0_off24 (v144 : BitVec 32) : Fin 2 → Nat :=
  let c0_i32_85 : BitVec 32 := 0#32
  ![v144.toNat, 0]

def k0_chk8 (i : grid0.Coords) (v144 : BitVec 32) : Prop :=
  (∀ (k0_h1 : k0_cond1 i = 1#1), ∀ a, (k0_off24 v144) a + S1x2048.size a ≤ S69120x2048.size a)
theorem k0_off24_inb : ∀ (i : grid0.Coords) (v144 : BitVec 32) (k0_hw8 : k0_chk8 i v144), ∀ (k0_h1 : k0_cond1 i = 1#1), ∀ a, (k0_off24 v144) a + S1x2048.size a ≤ S69120x2048.size a := fun i v144 k0_hw8 k0_h1 => k0_hw8 k0_h1

def k0_cond2 (i : grid0.Coords) : BitVec 1 :=
  let arg0 : BitVec 32 := BitVec.ofNat 32 (i 0).val
  let c1_i32 : BitVec 32 := 1#32
  let v3 : BitVec 32 := Scalar.addi arg0 c1_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

@[reducible] def k0_t2_loop : Scf.Loop 32 :=
  let c0_i32_42 : BitVec 32 := 0#32
  let c128_i32 : BitVec 32 := 128#32
  let v82 : BitVec 32 := Scalar.addi c0_i32_42 c128_i32
  let c1_i32_43 : BitVec 32 := 1#32
  ⟨c0_i32_42, v82, c1_i32_43⟩
def k0_off25 (i : grid0.Coords) (k0_t2 : Fin k0_t2_loop.trips) : Fin 1 → Nat :=
  let arg0 : BitVec 32 := BitVec.ofNat 32 (i 0).val
  let c1_i32_33 : BitVec 32 := 1#32
  let v69 : BitVec 32 := Scalar.addi arg0 c1_i32_33
  let c1024_i32_41 : BitVec 32 := 1024#32
  let v81 : BitVec 32 := Scalar.muli v69 c1024_i32_41
  let c0_i32_42 : BitVec 32 := 0#32
  let c1_i32_43 : BitVec 32 := 1#32
  let arg10 : BitVec 32 := Scf.iv c0_i32_42 c1_i32_43 k0_t2
  let c8_i32 : BitVec 32 := 8#32
  let v83 : BitVec 32 := Scalar.muli arg10 c8_i32
  let c0_i32_45 : BitVec 32 := 0#32
  let v84 : BitVec 32 := Scalar.addi v83 c0_i32_45
  let v85 : BitVec 32 := Scalar.addi v81 v84
  let v86 : Index := Scalar.indexCast v85
  ![v86.toNat]
def k0_off26 (i : grid0.Coords) : Fin 1 → Nat :=
  let arg0 : BitVec 32 := BitVec.ofNat 32 (i 0).val
  let c1_i32_34 : BitVec 32 := 1#32
  let v70 : BitVec 32 := Scalar.addi arg0 c1_i32_34
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  ![v80.toNat]
def k0_off27 (i : grid0.Coords) (k0_t2 : Fin k0_t2_loop.trips) : Fin 3 → Nat :=
  let arg0 : BitVec 32 := BitVec.ofNat 32 (i 0).val
  let c1_i32_34 : BitVec 32 := 1#32
  let v70 : BitVec 32 := Scalar.addi arg0 c1_i32_34
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  let c0_i32_42 : BitVec 32 := 0#32
  let c1_i32_43 : BitVec 32 := 1#32
  let arg10 : BitVec 32 := Scf.iv c0_i32_42 c1_i32_43 k0_t2
  let c8_i32 : BitVec 32 := 8#32
  let v83 : BitVec 32 := Scalar.muli arg10 c8_i32
  let c0_i32_45 : BitVec 32 := 0#32
  let v84 : BitVec 32 := Scalar.addi v83 c0_i32_45
  let c0_i32_46 : BitVec 32 := 0#32
  ![v80.toNat, v84.toNat, 0]
def k0_off28 (v87 : BitVec 32) : Fin 2 → Nat :=
  let c0_i32_47 : BitVec 32 := 0#32
  ![v87.toNat, 0]

def k0_chk9 (i : grid0.Coords) (v87 : BitVec 32) : Prop :=
  (∀ (k0_h2 : k0_cond2 i = 1#1), ∀ a, (k0_off28 v87) a + S1x2048.size a ≤ S69120x2048.size a)
theorem k0_off28_inb : ∀ (i : grid0.Coords) (v87 : BitVec 32) (k0_hw9 : k0_chk9 i v87), ∀ (k0_h2 : k0_cond2 i = 1#1), ∀ a, (k0_off28 v87) a + S1x2048.size a ≤ S69120x2048.size a := fun i v87 k0_hw9 k0_h2 => k0_hw9 k0_h2

def k0_off29 (i : grid0.Coords) (k0_t2 : Fin k0_t2_loop.trips) : Fin 1 → Nat :=
  let arg0 : BitVec 32 := BitVec.ofNat 32 (i 0).val
  let c1_i32_33 : BitVec 32 := 1#32
  let v69 : BitVec 32 := Scalar.addi arg0 c1_i32_33
  let c1024_i32_41 : BitVec 32 := 1024#32
  let v81 : BitVec 32 := Scalar.muli v69 c1024_i32_41
  let c0_i32_42 : BitVec 32 := 0#32
  let c1_i32_43 : BitVec 32 := 1#32
  let arg10 : BitVec 32 := Scf.iv c0_i32_42 c1_i32_43 k0_t2
  let c8_i32_48 : BitVec 32 := 8#32
  let v93 : BitVec 32 := Scalar.muli arg10 c8_i32_48
  let c1_i32_49 : BitVec 32 := 1#32
  let v94 : BitVec 32 := Scalar.addi v93 c1_i32_49
  let v95 : BitVec 32 := Scalar.addi v81 v94
  let v96 : Index := Scalar.indexCast v95
  ![v96.toNat]
def k0_off30 (i : grid0.Coords) : Fin 1 → Nat :=
  let arg0 : BitVec 32 := BitVec.ofNat 32 (i 0).val
  let c1_i32_34 : BitVec 32 := 1#32
  let v70 : BitVec 32 := Scalar.addi arg0 c1_i32_34
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  ![v80.toNat]
def k0_off31 (i : grid0.Coords) (k0_t2 : Fin k0_t2_loop.trips) : Fin 3 → Nat :=
  let arg0 : BitVec 32 := BitVec.ofNat 32 (i 0).val
  let c1_i32_34 : BitVec 32 := 1#32
  let v70 : BitVec 32 := Scalar.addi arg0 c1_i32_34
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  let c0_i32_42 : BitVec 32 := 0#32
  let c1_i32_43 : BitVec 32 := 1#32
  let arg10 : BitVec 32 := Scf.iv c0_i32_42 c1_i32_43 k0_t2
  let c8_i32_48 : BitVec 32 := 8#32
  let v93 : BitVec 32 := Scalar.muli arg10 c8_i32_48
  let c1_i32_49 : BitVec 32 := 1#32
  let v94 : BitVec 32 := Scalar.addi v93 c1_i32_49
  let c0_i32_50 : BitVec 32 := 0#32
  ![v80.toNat, v94.toNat, 0]
def k0_off32 (v97 : BitVec 32) : Fin 2 → Nat :=
  let c0_i32_51 : BitVec 32 := 0#32
  ![v97.toNat, 0]

def k0_chk10 (i : grid0.Coords) (v97 : BitVec 32) : Prop :=
  (∀ (k0_h2 : k0_cond2 i = 1#1), ∀ a, (k0_off32 v97) a + S1x2048.size a ≤ S69120x2048.size a)
theorem k0_off32_inb : ∀ (i : grid0.Coords) (v97 : BitVec 32) (k0_hw10 : k0_chk10 i v97), ∀ (k0_h2 : k0_cond2 i = 1#1), ∀ a, (k0_off32 v97) a + S1x2048.size a ≤ S69120x2048.size a := fun i v97 k0_hw10 k0_h2 => k0_hw10 k0_h2

def k0_off33 (i : grid0.Coords) (k0_t2 : Fin k0_t2_loop.trips) : Fin 1 → Nat :=
  let arg0 : BitVec 32 := BitVec.ofNat 32 (i 0).val
  let c1_i32_33 : BitVec 32 := 1#32
  let v69 : BitVec 32 := Scalar.addi arg0 c1_i32_33
  let c1024_i32_41 : BitVec 32 := 1024#32
  let v81 : BitVec 32 := Scalar.muli v69 c1024_i32_41
  let c0_i32_42 : BitVec 32 := 0#32
  let c1_i32_43 : BitVec 32 := 1#32
  let arg10 : BitVec 32 := Scf.iv c0_i32_42 c1_i32_43 k0_t2
  let c8_i32_52 : BitVec 32 := 8#32
  let v103 : BitVec 32 := Scalar.muli arg10 c8_i32_52
  let c2_i32_53 : BitVec 32 := 2#32
  let v104 : BitVec 32 := Scalar.addi v103 c2_i32_53
  let v105 : BitVec 32 := Scalar.addi v81 v104
  let v106 : Index := Scalar.indexCast v105
  ![v106.toNat]
def k0_off34 (i : grid0.Coords) : Fin 1 → Nat :=
  let arg0 : BitVec 32 := BitVec.ofNat 32 (i 0).val
  let c1_i32_34 : BitVec 32 := 1#32
  let v70 : BitVec 32 := Scalar.addi arg0 c1_i32_34
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  ![v80.toNat]
def k0_off35 (i : grid0.Coords) (k0_t2 : Fin k0_t2_loop.trips) : Fin 3 → Nat :=
  let arg0 : BitVec 32 := BitVec.ofNat 32 (i 0).val
  let c1_i32_34 : BitVec 32 := 1#32
  let v70 : BitVec 32 := Scalar.addi arg0 c1_i32_34
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  let c0_i32_42 : BitVec 32 := 0#32
  let c1_i32_43 : BitVec 32 := 1#32
  let arg10 : BitVec 32 := Scf.iv c0_i32_42 c1_i32_43 k0_t2
  let c8_i32_52 : BitVec 32 := 8#32
  let v103 : BitVec 32 := Scalar.muli arg10 c8_i32_52
  let c2_i32_53 : BitVec 32 := 2#32
  let v104 : BitVec 32 := Scalar.addi v103 c2_i32_53
  let c0_i32_54 : BitVec 32 := 0#32
  ![v80.toNat, v104.toNat, 0]
def k0_off36 (v107 : BitVec 32) : Fin 2 → Nat :=
  let c0_i32_55 : BitVec 32 := 0#32
  ![v107.toNat, 0]

def k0_chk11 (i : grid0.Coords) (v107 : BitVec 32) : Prop :=
  (∀ (k0_h2 : k0_cond2 i = 1#1), ∀ a, (k0_off36 v107) a + S1x2048.size a ≤ S69120x2048.size a)
theorem k0_off36_inb : ∀ (i : grid0.Coords) (v107 : BitVec 32) (k0_hw11 : k0_chk11 i v107), ∀ (k0_h2 : k0_cond2 i = 1#1), ∀ a, (k0_off36 v107) a + S1x2048.size a ≤ S69120x2048.size a := fun i v107 k0_hw11 k0_h2 => k0_hw11 k0_h2

def k0_off37 (i : grid0.Coords) (k0_t2 : Fin k0_t2_loop.trips) : Fin 1 → Nat :=
  let arg0 : BitVec 32 := BitVec.ofNat 32 (i 0).val
  let c1_i32_33 : BitVec 32 := 1#32
  let v69 : BitVec 32 := Scalar.addi arg0 c1_i32_33
  let c1024_i32_41 : BitVec 32 := 1024#32
  let v81 : BitVec 32 := Scalar.muli v69 c1024_i32_41
  let c0_i32_42 : BitVec 32 := 0#32
  let c1_i32_43 : BitVec 32 := 1#32
  let arg10 : BitVec 32 := Scf.iv c0_i32_42 c1_i32_43 k0_t2
  let c8_i32_56 : BitVec 32 := 8#32
  let v113 : BitVec 32 := Scalar.muli arg10 c8_i32_56
  let c3_i32 : BitVec 32 := 3#32
  let v114 : BitVec 32 := Scalar.addi v113 c3_i32
  let v115 : BitVec 32 := Scalar.addi v81 v114
  let v116 : Index := Scalar.indexCast v115
  ![v116.toNat]
def k0_off38 (i : grid0.Coords) : Fin 1 → Nat :=
  let arg0 : BitVec 32 := BitVec.ofNat 32 (i 0).val
  let c1_i32_34 : BitVec 32 := 1#32
  let v70 : BitVec 32 := Scalar.addi arg0 c1_i32_34
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  ![v80.toNat]
def k0_off39 (i : grid0.Coords) (k0_t2 : Fin k0_t2_loop.trips) : Fin 3 → Nat :=
  let arg0 : BitVec 32 := BitVec.ofNat 32 (i 0).val
  let c1_i32_34 : BitVec 32 := 1#32
  let v70 : BitVec 32 := Scalar.addi arg0 c1_i32_34
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  let c0_i32_42 : BitVec 32 := 0#32
  let c1_i32_43 : BitVec 32 := 1#32
  let arg10 : BitVec 32 := Scf.iv c0_i32_42 c1_i32_43 k0_t2
  let c8_i32_56 : BitVec 32 := 8#32
  let v113 : BitVec 32 := Scalar.muli arg10 c8_i32_56
  let c3_i32 : BitVec 32 := 3#32
  let v114 : BitVec 32 := Scalar.addi v113 c3_i32
  let c0_i32_57 : BitVec 32 := 0#32
  ![v80.toNat, v114.toNat, 0]
def k0_off40 (v117 : BitVec 32) : Fin 2 → Nat :=
  let c0_i32_58 : BitVec 32 := 0#32
  ![v117.toNat, 0]

def k0_chk12 (i : grid0.Coords) (v117 : BitVec 32) : Prop :=
  (∀ (k0_h2 : k0_cond2 i = 1#1), ∀ a, (k0_off40 v117) a + S1x2048.size a ≤ S69120x2048.size a)
theorem k0_off40_inb : ∀ (i : grid0.Coords) (v117 : BitVec 32) (k0_hw12 : k0_chk12 i v117), ∀ (k0_h2 : k0_cond2 i = 1#1), ∀ a, (k0_off40 v117) a + S1x2048.size a ≤ S69120x2048.size a := fun i v117 k0_hw12 k0_h2 => k0_hw12 k0_h2

def k0_off41 (i : grid0.Coords) (k0_t2 : Fin k0_t2_loop.trips) : Fin 1 → Nat :=
  let arg0 : BitVec 32 := BitVec.ofNat 32 (i 0).val
  let c1_i32_33 : BitVec 32 := 1#32
  let v69 : BitVec 32 := Scalar.addi arg0 c1_i32_33
  let c1024_i32_41 : BitVec 32 := 1024#32
  let v81 : BitVec 32 := Scalar.muli v69 c1024_i32_41
  let c0_i32_42 : BitVec 32 := 0#32
  let c1_i32_43 : BitVec 32 := 1#32
  let arg10 : BitVec 32 := Scf.iv c0_i32_42 c1_i32_43 k0_t2
  let c8_i32_59 : BitVec 32 := 8#32
  let v123 : BitVec 32 := Scalar.muli arg10 c8_i32_59
  let c4_i32 : BitVec 32 := 4#32
  let v124 : BitVec 32 := Scalar.addi v123 c4_i32
  let v125 : BitVec 32 := Scalar.addi v81 v124
  let v126 : Index := Scalar.indexCast v125
  ![v126.toNat]
def k0_off42 (i : grid0.Coords) : Fin 1 → Nat :=
  let arg0 : BitVec 32 := BitVec.ofNat 32 (i 0).val
  let c1_i32_34 : BitVec 32 := 1#32
  let v70 : BitVec 32 := Scalar.addi arg0 c1_i32_34
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  ![v80.toNat]
def k0_off43 (i : grid0.Coords) (k0_t2 : Fin k0_t2_loop.trips) : Fin 3 → Nat :=
  let arg0 : BitVec 32 := BitVec.ofNat 32 (i 0).val
  let c1_i32_34 : BitVec 32 := 1#32
  let v70 : BitVec 32 := Scalar.addi arg0 c1_i32_34
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  let c0_i32_42 : BitVec 32 := 0#32
  let c1_i32_43 : BitVec 32 := 1#32
  let arg10 : BitVec 32 := Scf.iv c0_i32_42 c1_i32_43 k0_t2
  let c8_i32_59 : BitVec 32 := 8#32
  let v123 : BitVec 32 := Scalar.muli arg10 c8_i32_59
  let c4_i32 : BitVec 32 := 4#32
  let v124 : BitVec 32 := Scalar.addi v123 c4_i32
  let c0_i32_60 : BitVec 32 := 0#32
  ![v80.toNat, v124.toNat, 0]
def k0_off44 (v127 : BitVec 32) : Fin 2 → Nat :=
  let c0_i32_61 : BitVec 32 := 0#32
  ![v127.toNat, 0]

def k0_chk13 (i : grid0.Coords) (v127 : BitVec 32) : Prop :=
  (∀ (k0_h2 : k0_cond2 i = 1#1), ∀ a, (k0_off44 v127) a + S1x2048.size a ≤ S69120x2048.size a)
theorem k0_off44_inb : ∀ (i : grid0.Coords) (v127 : BitVec 32) (k0_hw13 : k0_chk13 i v127), ∀ (k0_h2 : k0_cond2 i = 1#1), ∀ a, (k0_off44 v127) a + S1x2048.size a ≤ S69120x2048.size a := fun i v127 k0_hw13 k0_h2 => k0_hw13 k0_h2

def k0_off45 (i : grid0.Coords) (k0_t2 : Fin k0_t2_loop.trips) : Fin 1 → Nat :=
  let arg0 : BitVec 32 := BitVec.ofNat 32 (i 0).val
  let c1_i32_33 : BitVec 32 := 1#32
  let v69 : BitVec 32 := Scalar.addi arg0 c1_i32_33
  let c1024_i32_41 : BitVec 32 := 1024#32
  let v81 : BitVec 32 := Scalar.muli v69 c1024_i32_41
  let c0_i32_42 : BitVec 32 := 0#32
  let c1_i32_43 : BitVec 32 := 1#32
  let arg10 : BitVec 32 := Scf.iv c0_i32_42 c1_i32_43 k0_t2
  let c8_i32_62 : BitVec 32 := 8#32
  let v133 : BitVec 32 := Scalar.muli arg10 c8_i32_62
  let c5_i32 : BitVec 32 := 5#32
  let v134 : BitVec 32 := Scalar.addi v133 c5_i32
  let v135 : BitVec 32 := Scalar.addi v81 v134
  let v136 : Index := Scalar.indexCast v135
  ![v136.toNat]
def k0_off46 (i : grid0.Coords) : Fin 1 → Nat :=
  let arg0 : BitVec 32 := BitVec.ofNat 32 (i 0).val
  let c1_i32_34 : BitVec 32 := 1#32
  let v70 : BitVec 32 := Scalar.addi arg0 c1_i32_34
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  ![v80.toNat]
def k0_off47 (i : grid0.Coords) (k0_t2 : Fin k0_t2_loop.trips) : Fin 3 → Nat :=
  let arg0 : BitVec 32 := BitVec.ofNat 32 (i 0).val
  let c1_i32_34 : BitVec 32 := 1#32
  let v70 : BitVec 32 := Scalar.addi arg0 c1_i32_34
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  let c0_i32_42 : BitVec 32 := 0#32
  let c1_i32_43 : BitVec 32 := 1#32
  let arg10 : BitVec 32 := Scf.iv c0_i32_42 c1_i32_43 k0_t2
  let c8_i32_62 : BitVec 32 := 8#32
  let v133 : BitVec 32 := Scalar.muli arg10 c8_i32_62
  let c5_i32 : BitVec 32 := 5#32
  let v134 : BitVec 32 := Scalar.addi v133 c5_i32
  let c0_i32_63 : BitVec 32 := 0#32
  ![v80.toNat, v134.toNat, 0]
def k0_off48 (v137 : BitVec 32) : Fin 2 → Nat :=
  let c0_i32_64 : BitVec 32 := 0#32
  ![v137.toNat, 0]

def k0_chk14 (i : grid0.Coords) (v137 : BitVec 32) : Prop :=
  (∀ (k0_h2 : k0_cond2 i = 1#1), ∀ a, (k0_off48 v137) a + S1x2048.size a ≤ S69120x2048.size a)
theorem k0_off48_inb : ∀ (i : grid0.Coords) (v137 : BitVec 32) (k0_hw14 : k0_chk14 i v137), ∀ (k0_h2 : k0_cond2 i = 1#1), ∀ a, (k0_off48 v137) a + S1x2048.size a ≤ S69120x2048.size a := fun i v137 k0_hw14 k0_h2 => k0_hw14 k0_h2

def k0_off49 (i : grid0.Coords) (k0_t2 : Fin k0_t2_loop.trips) : Fin 1 → Nat :=
  let arg0 : BitVec 32 := BitVec.ofNat 32 (i 0).val
  let c1_i32_33 : BitVec 32 := 1#32
  let v69 : BitVec 32 := Scalar.addi arg0 c1_i32_33
  let c1024_i32_41 : BitVec 32 := 1024#32
  let v81 : BitVec 32 := Scalar.muli v69 c1024_i32_41
  let c0_i32_42 : BitVec 32 := 0#32
  let c1_i32_43 : BitVec 32 := 1#32
  let arg10 : BitVec 32 := Scf.iv c0_i32_42 c1_i32_43 k0_t2
  let c8_i32_65 : BitVec 32 := 8#32
  let v143 : BitVec 32 := Scalar.muli arg10 c8_i32_65
  let c6_i32 : BitVec 32 := 6#32
  let v144 : BitVec 32 := Scalar.addi v143 c6_i32
  let v145 : BitVec 32 := Scalar.addi v81 v144
  let v146 : Index := Scalar.indexCast v145
  ![v146.toNat]
def k0_off50 (i : grid0.Coords) : Fin 1 → Nat :=
  let arg0 : BitVec 32 := BitVec.ofNat 32 (i 0).val
  let c1_i32_34 : BitVec 32 := 1#32
  let v70 : BitVec 32 := Scalar.addi arg0 c1_i32_34
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  ![v80.toNat]
def k0_off51 (i : grid0.Coords) (k0_t2 : Fin k0_t2_loop.trips) : Fin 3 → Nat :=
  let arg0 : BitVec 32 := BitVec.ofNat 32 (i 0).val
  let c1_i32_34 : BitVec 32 := 1#32
  let v70 : BitVec 32 := Scalar.addi arg0 c1_i32_34
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  let c0_i32_42 : BitVec 32 := 0#32
  let c1_i32_43 : BitVec 32 := 1#32
  let arg10 : BitVec 32 := Scf.iv c0_i32_42 c1_i32_43 k0_t2
  let c8_i32_65 : BitVec 32 := 8#32
  let v143 : BitVec 32 := Scalar.muli arg10 c8_i32_65
  let c6_i32 : BitVec 32 := 6#32
  let v144 : BitVec 32 := Scalar.addi v143 c6_i32
  let c0_i32_66 : BitVec 32 := 0#32
  ![v80.toNat, v144.toNat, 0]
def k0_off52 (v147 : BitVec 32) : Fin 2 → Nat :=
  let c0_i32_67 : BitVec 32 := 0#32
  ![v147.toNat, 0]

def k0_chk15 (i : grid0.Coords) (v147 : BitVec 32) : Prop :=
  (∀ (k0_h2 : k0_cond2 i = 1#1), ∀ a, (k0_off52 v147) a + S1x2048.size a ≤ S69120x2048.size a)
theorem k0_off52_inb : ∀ (i : grid0.Coords) (v147 : BitVec 32) (k0_hw15 : k0_chk15 i v147), ∀ (k0_h2 : k0_cond2 i = 1#1), ∀ a, (k0_off52 v147) a + S1x2048.size a ≤ S69120x2048.size a := fun i v147 k0_hw15 k0_h2 => k0_hw15 k0_h2

def k0_off53 (i : grid0.Coords) (k0_t2 : Fin k0_t2_loop.trips) : Fin 1 → Nat :=
  let arg0 : BitVec 32 := BitVec.ofNat 32 (i 0).val
  let c1_i32_33 : BitVec 32 := 1#32
  let v69 : BitVec 32 := Scalar.addi arg0 c1_i32_33
  let c1024_i32_41 : BitVec 32 := 1024#32
  let v81 : BitVec 32 := Scalar.muli v69 c1024_i32_41
  let c0_i32_42 : BitVec 32 := 0#32
  let c1_i32_43 : BitVec 32 := 1#32
  let arg10 : BitVec 32 := Scf.iv c0_i32_42 c1_i32_43 k0_t2
  let c8_i32_68 : BitVec 32 := 8#32
  let v153 : BitVec 32 := Scalar.muli arg10 c8_i32_68
  let c7_i32 : BitVec 32 := 7#32
  let v154 : BitVec 32 := Scalar.addi v153 c7_i32
  let v155 : BitVec 32 := Scalar.addi v81 v154
  let v156 : Index := Scalar.indexCast v155
  ![v156.toNat]
def k0_off54 (i : grid0.Coords) : Fin 1 → Nat :=
  let arg0 : BitVec 32 := BitVec.ofNat 32 (i 0).val
  let c1_i32_34 : BitVec 32 := 1#32
  let v70 : BitVec 32 := Scalar.addi arg0 c1_i32_34
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  ![v80.toNat]
def k0_off55 (i : grid0.Coords) (k0_t2 : Fin k0_t2_loop.trips) : Fin 3 → Nat :=
  let arg0 : BitVec 32 := BitVec.ofNat 32 (i 0).val
  let c1_i32_34 : BitVec 32 := 1#32
  let v70 : BitVec 32 := Scalar.addi arg0 c1_i32_34
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  let c0_i32_42 : BitVec 32 := 0#32
  let c1_i32_43 : BitVec 32 := 1#32
  let arg10 : BitVec 32 := Scf.iv c0_i32_42 c1_i32_43 k0_t2
  let c8_i32_68 : BitVec 32 := 8#32
  let v153 : BitVec 32 := Scalar.muli arg10 c8_i32_68
  let c7_i32 : BitVec 32 := 7#32
  let v154 : BitVec 32 := Scalar.addi v153 c7_i32
  let c0_i32_69 : BitVec 32 := 0#32
  ![v80.toNat, v154.toNat, 0]
def k0_off56 (v157 : BitVec 32) : Fin 2 → Nat :=
  let c0_i32_70 : BitVec 32 := 0#32
  ![v157.toNat, 0]

def k0_chk16 (i : grid0.Coords) (v157 : BitVec 32) : Prop :=
  (∀ (k0_h2 : k0_cond2 i = 1#1), ∀ a, (k0_off56 v157) a + S1x2048.size a ≤ S69120x2048.size a)
theorem k0_off56_inb : ∀ (i : grid0.Coords) (v157 : BitVec 32) (k0_hw16 : k0_chk16 i v157), ∀ (k0_h2 : k0_cond2 i = 1#1), ∀ a, (k0_off56 v157) a + S1x2048.size a ≤ S69120x2048.size a := fun i v157 k0_hw16 k0_h2 => k0_hw16 k0_h2

@[reducible] def k0_t3_loop : Scf.Loop 32 :=
  let c0_i32_7 : BitVec 32 := 0#32
  let c1024_i32 : BitVec 32 := 1024#32
  let v17 : BitVec 32 := Scalar.addi c0_i32_7 c1024_i32
  let c1_i32_8 : BitVec 32 := 1#32
  ⟨c0_i32_7, v17, c1_i32_8⟩
def k0_off57 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off58 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_33 : BitVec 32 := 0#32
  let c0_i32_34 : BitVec 32 := 0#32
  ![v16.toNat, 0, 0]
def k0_off59 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v27 : Index := Scalar.indexCast v16
  let c0_17 : Index := 0#32
  let c0_18 : Index := 0#32
  ![v27.toNat, 0, 0]
def k0_off60 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v30 : Index := Scalar.indexCast v16
  let c0_19 : Index := 0#32
  let c1024 : Index := 1024#32
  ![v30.toNat, 0, 1024]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel3Ideal.lean ====
variable {F : FTy → Type} [FloatOps F] [Named F]
def κ : String → Option EReal := fun
  | "alpha" => some ((Real.sqrt (Real.sqrt 2) : ℝ) : EReal)
  | _ => none
-- ==== Reference3Ideal.lean ====
abbrev S32768 : Shape := ⟨1, ![32768]⟩
abbrev S69120x2048 : Shape := ⟨2, ![69120, 2048]⟩
abbrev S262144x128 : Shape := ⟨2, ![262144, 128]⟩
abbrev S32768x128 : Shape := ⟨2, ![32768, 128]⟩
abbrev S1024 : Shape := ⟨1, ![1024]⟩
abbrev S32768x1024 : Shape := ⟨2, ![32768, 1024]⟩
abbrev S_ : Shape := ⟨0, ![]⟩
abbrev S32768x1 : Shape := ⟨2, ![32768, 1]⟩
abbrev S32768x2048 : Shape := ⟨2, ![32768, 2048]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S32768, .i32⟩
  | .hbm, ⟨1, _⟩ => ⟨S69120x2048, .f32⟩
  | .hbm, ⟨2, _⟩ => ⟨S262144x128, .f32⟩
  | .hbm, ⟨3, _⟩ => ⟨S32768x128, .f32⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S32768x2048, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | .hbm, ⟨57, _⟩ => ⟨S1x1024, .f32⟩
  | .hbm, ⟨58, _⟩ => ⟨S32768x1024, .f32⟩
  | .hbm, ⟨59, _⟩ => ⟨S32768x1024, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S96x1024 : Shape := ⟨2, ![96, 1024]⟩
abbrev S48x128 : Shape := ⟨2, ![48, 128]⟩
abbrev S1x1024 : Shape := ⟨2, ![1, 1024]⟩
abbrev S262144x128 : Shape := ⟨2, ![262144, 128]⟩
abbrev S32768x128 : Shape := ⟨2, ![32768, 128]⟩
abbrev S8x128 : Shape := ⟨2, ![8, 128]⟩
abbrev S1024x512 : Shape := ⟨2, ![1024, 512]⟩
abbrev S8192x128 : Shape := ⟨2, ![8192, 128]⟩
abbrev S1024x128 : Shape := ⟨2, ![1024, 128]⟩
abbrev S8x1024 : Shape := ⟨2, ![8, 1024]⟩
abbrev S1x128 : Shape := ⟨2, ![1, 128]⟩
abbrev S512x1024 : Shape := ⟨2, ![512, 1024]⟩
abbrev S1024x1 : Shape := ⟨2, ![1024, 1]⟩
abbrev S48x1024 : Shape := ⟨2, ![48, 1024]⟩
abbrev S120x1024 : Shape := ⟨2, ![120, 1024]⟩
abbrev S128x1024 : Shape := ⟨2, ![128, 1024]⟩
abbrev S128 : Shape := ⟨1, ![128]⟩

abbrev nBuf : Space → Nat
  | .hbm => 14
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S96x1024, .bf16⟩
  | .hbm, ⟨7, _⟩ => ⟨S48x128, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S262144x128, .f32⟩
  | .hbm, ⟨12, _⟩ => ⟨S32768x128, .f32⟩
  | .hbm, ⟨13, _⟩ => ⟨S8x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S96x1024, .bf16⟩
  | .local _ .vmem, ⟨10, _⟩ => ⟨S48x128, .f32⟩
  | .local _ .vmem, ⟨11, _⟩ => ⟨S8192x128, .f32⟩
  | .local _ .vmem, ⟨12, _⟩ => ⟨S8192x128, .f32⟩
  | .local _ .vmem, ⟨13, _⟩ => ⟨S1024x128, .f32⟩
  | .local _ .vmem, ⟨14, _⟩ => ⟨S1024x128, .f32⟩
  | .local _ .vmem, ⟨15, _⟩ => ⟨S8x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel4Ideal.lean ====
variable {F : FTy → Type} [FloatOps F] [Named F]
def κ : String → Option EReal := fun
  | "alpha" => some ((Real.sqrt (Real.sqrt 2) : ℝ) : EReal)
  | _ => none
-- ==== Reference4Ideal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S96x1024 : Shape := ⟨2, ![96, 1024]⟩
abbrev S48x128 : Shape := ⟨2, ![48, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S262144x128 : Shape := ⟨2, ![262144, 128]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S96x1024, .bf16⟩
  | .hbm, ⟨7, _⟩ => ⟨S48x128, .f32⟩
  | .hbm, ⟨8, _⟩ => ⟨S32768x1024, .bf16⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S1x1024, .f32⟩
  | .hbm, ⟨44, _⟩ => ⟨S32768x1024, .f32⟩
  | .hbm, ⟨45, _⟩ => ⟨S32768x1024, .f32⟩
  | .hbm, ⟨46, _⟩ => ⟨S262144x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel5.lean ====
abbrev S32768x1024 : Shape := ⟨2, ![32768, 1024]⟩
abbrev S1024x2824 : Shape := ⟨2, ![1024, 2824]⟩
abbrev S4x1024 : Shape := ⟨2, ![4, 1024]⟩
abbrev S1024 : Shape := ⟨1, ![1024]⟩
abbrev S1024x1024 : Shape := ⟨2, ![1024, 1024]⟩
abbrev S1024x512 : Shape := ⟨2, ![1024, 512]⟩
abbrev S1024x4 : Shape := ⟨2, ![1024, 4]⟩
abbrev S1024x128 : Shape := ⟨2, ![1024, 128]⟩
abbrev S1024x64 : Shape := ⟨2, ![1024, 64]⟩
abbrev S1024x32 : Shape := ⟨2, ![1024, 32]⟩
abbrev S_ : Shape := ⟨0, ![]⟩
abbrev S1024x124 : Shape := ⟨2, ![1024, 124]⟩
abbrev S1024x2464 : Shape := ⟨2, ![1024, 2464]⟩
abbrev S1024x612 : Shape := ⟨2, ![1024, 612]⟩
abbrev S1024x252 : Shape := ⟨2, ![1024, 252]⟩
abbrev S1024x3328 : Shape := ⟨2, ![1024, 3328]⟩
abbrev S1x1024 : Shape := ⟨2, ![1, 1024]⟩
abbrev S32768x512 : Shape := ⟨2, ![32768, 512]⟩
abbrev S32768x256 : Shape := ⟨2, ![32768, 256]⟩
abbrev S1024x256 : Shape := ⟨2, ![1024, 256]⟩
abbrev S1032x256 : Shape := ⟨2, ![1032, 256]⟩
abbrev S8x256 : Shape := ⟨2, ![8, 256]⟩
abbrev S1x256 : Shape := ⟨2, ![1, 256]⟩
abbrev S128x256 : Shape := ⟨2, ![128, 256]⟩

abbrev nBuf : Space → Nat
  | .hbm => 68
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S1024x2824, .f32⟩
  | .hbm, ⟨2, _⟩ => ⟨S4x1024, .f32⟩
  | .hbm, ⟨3, _⟩ => ⟨S1024, .f32⟩
  | .hbm, ⟨4, _⟩ => ⟨S1024x1024, .f32⟩
  | .hbm, ⟨5, _⟩ => ⟨S1024x512, .f32⟩
  | .hbm, ⟨6, _⟩ => ⟨S1024x512, .f32⟩
  | .hbm, ⟨7, _⟩ => ⟨S1024x4, .f32⟩
  | .hbm, ⟨8, _⟩ => ⟨S1024x4, .f32⟩
  | .hbm, ⟨9, _⟩ => ⟨S1024x512, .f32⟩
  | .hbm, ⟨10, _⟩ => ⟨S1024x128, .f32⟩
  | .hbm, ⟨11, _⟩ => ⟨S1024x128, .f32⟩
  | .hbm, ⟨12, _⟩ => ⟨S1024x64, .f32⟩
  | .hbm, ⟨13, _⟩ => ⟨S1024x64, .f32⟩
  | .hbm, ⟨14, _⟩ => ⟨S1024x32, .f32⟩
  | .hbm, ⟨15, _⟩ => ⟨S1024x32, .f32⟩
  | .hbm, ⟨16, _⟩ => ⟨S1024x32, .f32⟩
  | .hbm, ⟨17, _⟩ => ⟨S1024x32, .f32⟩
  | .hbm, ⟨18, _⟩ => ⟨S1024x64, .f32⟩
  | .hbm, ⟨19, _⟩ => ⟨S1024x64, .f32⟩
  | .hbm, ⟨20, _⟩ => ⟨S1024x32, .f32⟩
  | .hbm, ⟨21, _⟩ => ⟨S1024x32, .f32⟩
  | .hbm, ⟨22, _⟩ => ⟨S1024x32, .f32⟩
  | .hbm, ⟨23, _⟩ => ⟨S1024x32, .f32⟩
  | .hbm, ⟨24, _⟩ => ⟨S1024x64, .f32⟩
  | .hbm, ⟨25, _⟩ => ⟨S1024x64, .f32⟩
  | .hbm, ⟨26, _⟩ => ⟨S1024x32, .f32⟩
  | .hbm, ⟨27, _⟩ => ⟨S1024x32, .f32⟩
  | .hbm, ⟨28, _⟩ => ⟨S1024x32, .f32⟩
  | .hbm, ⟨29, _⟩ => ⟨S1024x32, .f32⟩
  | .hbm, ⟨30, _⟩ => ⟨S1024x64, .f32⟩
  | .hbm, ⟨31, _⟩ => ⟨S1024x64, .f32⟩
  | .hbm, ⟨32, _⟩ => ⟨S1024x32, .f32⟩
  | .hbm, ⟨33, _⟩ => ⟨S1024x32, .f32⟩
  | .hbm, ⟨34, _⟩ => ⟨S1024x32, .f32⟩
  | .hbm, ⟨35, _⟩ => ⟨S1024x32, .f32⟩
  | .hbm, ⟨36, _⟩ => ⟨S1024x64, .f32⟩
  | .hbm, ⟨37, _⟩ => ⟨S1024x64, .f32⟩
  | .hbm, ⟨38, _⟩ => ⟨S1024x32, .f32⟩
  | .hbm, ⟨39, _⟩ => ⟨S1024x32, .f32⟩
  | .hbm, ⟨40, _⟩ => ⟨S1024x32, .f32⟩
  | .hbm, ⟨41, _⟩ => ⟨S1024x32, .f32⟩
  | .hbm, ⟨42, _⟩ => ⟨S1024x64, .f32⟩
  | .hbm, ⟨43, _⟩ => ⟨S1024x64, .f32⟩
  | .hbm, ⟨44, _⟩ => ⟨S1024x32, .f32⟩
  | .hbm, ⟨45, _⟩ => ⟨S1024x32, .f32⟩
  | .hbm, ⟨46, _⟩ => ⟨S1024x32, .f32⟩
  | .hbm, ⟨47, _⟩ => ⟨S1024x32, .f32⟩
  | .hbm, ⟨48, _⟩ => ⟨S1024x64, .f32⟩
  | .hbm, ⟨49, _⟩ => ⟨S1024x64, .f32⟩
  | .hbm, ⟨50, _⟩ => ⟨S1024x64, .f32⟩
  | .hbm, ⟨51, _⟩ => ⟨S1024x64, .f32⟩
  | .hbm, ⟨52, _⟩ => ⟨S_, .f32⟩
  | .hbm, ⟨53, _⟩ => ⟨S1024x124, .f32⟩
  | .hbm, ⟨54, _⟩ => ⟨S1024x2464, .f32⟩
  | .hbm, ⟨55, _⟩ => ⟨S1024x612, .f32⟩
  | .hbm, ⟨56, _⟩ => ⟨S1024x252, .f32⟩
  | .hbm, ⟨57, _⟩ => ⟨S1024x3328, .f32⟩
  | .hbm, ⟨58, _⟩ => ⟨S1024x3328, .bf16⟩
  | .hbm, ⟨59, _⟩ => ⟨S1x1024, .f32⟩
  | .hbm, ⟨60, _⟩ => ⟨S32768x512, .bf16⟩
  | .hbm, ⟨61, _⟩ => ⟨S32768x512, .bf16⟩
  | .hbm, ⟨62, _⟩ => ⟨S32768x512, .bf16⟩
  | .hbm, ⟨63, _⟩ => ⟨S32768x512, .bf16⟩
  | .hbm, ⟨64, _⟩ => ⟨S32768x512, .f32⟩
  | .hbm, ⟨65, _⟩ => ⟨S32768x256, .f32⟩
  | .hbm, ⟨66, _⟩ => ⟨S32768x256, .bf16⟩
  | .hbm, ⟨67, _⟩ => ⟨S32768x256, .f32⟩
  | .local _ .vmem, ⟨0, _⟩ => ⟨S1024x1024, .f32⟩
  | .local _ .vmem, ⟨1, _⟩ => ⟨S1024x1024, .f32⟩
  | .local _ .vmem, ⟨2, _⟩ => ⟨S1024x3328, .bf16⟩
  | .local _ .vmem, ⟨3, _⟩ => ⟨S4x1024, .f32⟩
  | .local _ .vmem, ⟨4, _⟩ => ⟨S1x1024, .f32⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .f32⟩
  | .local _ .vmem, ⟨14, _⟩ => ⟨S1024x512, .f32⟩
  | .local _ .vmem, ⟨15, _⟩ => ⟨S1024x256, .f32⟩
  | .local _ .vmem, ⟨16, _⟩ => ⟨S1024x256, .f32⟩
  | .local _ .vmem, ⟨17, _⟩ => ⟨S1024x256, .bf16⟩
  | .local _ .vmem, ⟨18, _⟩ => ⟨S1024x256, .bf16⟩
  | .local _ .vmem, ⟨19, _⟩ => ⟨S1024x256, .f32⟩
  | .local _ .vmem, ⟨20, _⟩ => ⟨S1024x256, .f32⟩
  | .local _ .vmem, ⟨21, _⟩ => ⟨S1032x256, .f32⟩
  | .local _ .vmem, ⟨22, _⟩ => ⟨S1032x256, .f32⟩
  | .local _ .vmem, ⟨23, _⟩ => ⟨S1032x256, .f32⟩
  | .local _ .vmem, ⟨24, _⟩ => ⟨S1032x256, .f32⟩
  | .local _ .vmem, ⟨25, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_cst : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55_0 : Ref sig .tc := ⟨.hbm, 60, rfl⟩
abbrev main_v55_1 : Ref sig .tc := ⟨.hbm, 61, rfl⟩
abbrev main_v55_2 : Ref sig .tc := ⟨.hbm, 62, rfl⟩
abbrev main_v55_3 : Ref sig .tc := ⟨.hbm, 63, rfl⟩
abbrev main_v55_4 : Ref sig .tc := ⟨.hbm, 64, rfl⟩
abbrev main_v55_5 : Ref sig .tc := ⟨.hbm, 65, rfl⟩
abbrev main_v55_6 : Ref sig .tc := ⟨.hbm, 66, rfl⟩
abbrev main_v55_7 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S32768x1024 : Shape := ⟨2, ![32768, 1024]⟩
abbrev S1024x2824 : Shape := ⟨2, ![1024, 2824]⟩
abbrev S4x1024 : Shape := ⟨2, ![4, 1024]⟩
abbrev S1024 : Shape := ⟨1, ![1024]⟩
abbrev S32768x2824 : Shape := ⟨2, ![32768, 2824]⟩
abbrev S32768x512 : Shape := ⟨2, ![32768, 512]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2824, .f32⟩
  | .hbm, ⟨2, _⟩ => ⟨S4x1024, .f32⟩
  | .hbm, ⟨3, _⟩ => ⟨S1024, .f32⟩
  | .hbm, ⟨4, _⟩ => ⟨S32768x2824, .f32⟩
  | .hbm, ⟨5, _⟩ => ⟨S32768x512, .f32⟩
  | .hbm, ⟨6, _⟩ => ⟨S32768x512, .bf16⟩
  | .hbm, ⟨7, _⟩ => ⟨S32768x512, .f32⟩
  | .hbm, ⟨8, _⟩ => ⟨S32768x512, .f32⟩
  | .hbm, ⟨9, _⟩ => ⟨S32768x512, .f32⟩
  | .hbm, ⟨10, _⟩ => ⟨S_, .f32⟩
  | .hbm, ⟨11, _⟩ => ⟨S32768x512, .f32⟩
  | .hbm, ⟨12, _⟩ => ⟨S32768x512, .f32⟩
  | .hbm, ⟨13, _⟩ => ⟨S_, .f32⟩
  | .hbm, ⟨14, _⟩ => ⟨S32768x512, .f32⟩
  | .hbm, ⟨15, _⟩ => ⟨S32768x512, .f32⟩
  | .hbm, ⟨16, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Words.lean ====
module

public import proofs.«01_k».proof.KernelIdeal
public import Idealize.ShloMosaic.Lib.WordCmp
public import Idealize.ShloMosaic.Lib.Tactic
public import Mathlib.Tactic.Ring
public import Mathlib.Tactic.IntervalCases
public import Mathlib.Tactic.FinCases

@[expose] public section

set_option maxRecDepth 65536

namespace Cert.KernelIdeal.Words

open Cert.KernelIdeal Idealize.ShloMosaic

/-! The integer chains of the kernel's body as natural numbers: which table word a trip reads, which rows of the result a
copy lands on, and which of the nine sizes of zero copies a tile's row count selects. -/

/-- The counted loops' induction variable, from zero by one, is the trip's number. -/
theorem iv_ofNat (k : ℕ) : Scf.iv 0#32 1#32 k = BitVec.ofNat 32 k := by
  simp [Scf.iv]

/-- A tile with `r` live rows needs a zero copy of `z` rows (`z` a power of two): bit `z` of its dead row count. -/
def Hit (z r : ℕ) : Prop := (320 - r) / z % 2 = 1

instance (z r : ℕ) : Decidable (Hit z r) := inferInstanceAs (Decidable (_ = _))

/-- The tile row at which the zero copy of `z` rows starts: after the live rows and the larger copies. -/
def start (z r : ℕ) : ℕ := r + (320 - r) / (2 * z) * (2 * z)

/-- The word `z` where the dead row count has bit `z`, else zero: what one copy adds to the next one's start. -/
def sel (z : BitVec 32) (v : BitVec 32) : BitVec 32 :=
  Scalar.select (Scalar.cmpi .ne (Scalar.andi (Scalar.subi 320#32 v) z) 0#32) z 0#32

/-- The guard of the zero copy of `z` rows, as the kernel computes it. -/
def cond (z : BitVec 32) (v : BitVec 32) : BitVec 1 :=
  Scalar.cmpi .ne (Scalar.extui (Scalar.cmpi .ne (Scalar.andi (Scalar.subi 320#32 v) z) 0#32) : BitVec 32) 0#32

theorem sel_fin : ∀ r : Fin 321, ∀ b : Fin 9, (sel (BitVec.ofNat 32 (2 ^ b.val)) (BitVec.ofNat 32 r.val)).toNat = (320 - r.val) / 2 ^ b.val % 2 * 2 ^ b.val := by
  decide +kernel

theorem cond_fin : ∀ r : Fin 321, ∀ b : Fin 9, cond (BitVec.ofNat 32 (2 ^ b.val)) (BitVec.ofNat 32 r.val) = 1#1 ↔ Hit (2 ^ b.val) r.val := by
  decide +kernel

/-- What bit `b` of the dead row count contributes to the starts after it. -/
theorem sel_toNat {v : BitVec 32} (hv : v.toNat ≤ 320) (b : Fin 9) :
    (sel (BitVec.ofNat 32 (2 ^ b.val)) v).toNat = (320 - v.toNat) / 2 ^ b.val % 2 * 2 ^ b.val := by
  have h := sel_fin ⟨v.toNat, by omega⟩ b
  simpa using h

/-- The guard of the copy of `2 ^ b` rows holds exactly where the dead row count has bit `b`. -/
theorem cond_iff {v : BitVec 32} (hv : v.toNat ≤ 320) (b : Fin 9) : cond (BitVec.ofNat 32 (2 ^ b.val)) v = 1#1 ↔ Hit (2 ^ b.val) v.toNat := by
  have h := cond_fin ⟨v.toNat, by omega⟩ b
  simpa using h

theorem trips1 : k0_t1_loop.trips = 216 := by decide +kernel
theorem trips2 : k0_t2_loop.trips = 512 := by decide +kernel
theorem trips3 : k0_t3_loop.trips = 216 := by decide +kernel

theorem lt1 (t : Fin k0_t1_loop.trips) : t.val < 216 := Nat.lt_of_lt_of_eq t.2 trips1
theorem lt2 (t : Fin k0_t2_loop.trips) : t.val < 512 := Nat.lt_of_lt_of_eq t.2 trips2

/-- A zero copy a tile needs stays inside the tile. -/
theorem start_le {r z : ℕ} (hr : r ≤ 320) (h : Hit z r) : start z r + z ≤ 320 := by
  unfold Hit at h; unfold start
  have h1 := Nat.div_add_mod (320 - r) z
  have h2 : (320 - r) / (2 * z) = (320 - r) / z / 2 := by rw [Nat.mul_comm, Nat.div_div_eq_div_mul]
  have h3 := Nat.div_add_mod ((320 - r) / z) 2
  rw [h2]; generalize (320 - r) / z / 2 = q at *
  have h4 : (320 - r) / z = 2 * q + 1 := by omega
  rw [h4] at h1
  have h5 : z * (2 * q + 1) = q * (2 * z) + z := by ring
  omega

section Pads
variable (t : Fin k0_t1_loop.trips) {v : BitVec 32} (hv : v.toNat ≤ 320)

/-- The tile's first dead row, as a word. -/
def base (t : Fin k0_t1_loop.trips) (v : BitVec 32) : BitVec 32 := Scalar.addi (Scalar.muli (Scf.iv 0#32 1#32 t) 320#32) v

include hv

theorem base_toNat : (base t v).toNat = 320 * t.val + v.toNat := by
  have := lt1 t
  unfold base; rw [iv_ofNat]
  simp only [Scalar.addi, Scalar.muli, IntOp.addi, IntOp.muli, BitVec.toNat_add, BitVec.toNat_mul, BitVec.toNat_ofNat]
  omega

/-- A copy's start is no later than its tile's end. -/
theorem start_bound {z : ℕ} : start z v.toNat ≤ 320 := by
  have := Nat.div_mul_le_self (320 - v.toNat) (2 * z)
  unfold start; omega

omit hv in
/-- A slot's first row of the result, eight rows to a slot. -/
theorem pad_row {s' : ℕ} (w : BitVec 32) (hw : w.toNat = 320 * t.val + s') (hs : s' ≤ 320) : (Scalar.muli w 8#32).toNat = (320 * t.val + s') * 8 := by
  have := lt1 t
  simp only [Scalar.muli, IntOp.muli, BitVec.toNat_mul, BitVec.toNat_ofNat, hw]
  omega

/-- Adding one copy's rows to its start gives the next copy's: the words of the chain stay the tile's first dead row plus
the larger copies. -/
theorem chain_step {w : BitVec 32} (b : Fin 9) (hw : w.toNat = 320 * t.val + start (2 ^ b.val) v.toNat) :
    (Scalar.addi w (sel (BitVec.ofNat 32 (2 ^ b.val)) v)).toNat = 320 * t.val + (v.toNat + (320 - v.toNat) / 2 ^ b.val * 2 ^ b.val) := by
  have := lt1 t
  have h1 : start (2 ^ b.val) v.toNat + (320 - v.toNat) / 2 ^ b.val % 2 * 2 ^ b.val = v.toNat + (320 - v.toNat) / 2 ^ b.val * 2 ^ b.val := by
    unfold start
    have h2 : (320 - v.toNat) / (2 * 2 ^ b.val) = (320 - v.toNat) / 2 ^ b.val / 2 := by rw [Nat.mul_comm, Nat.div_div_eq_div_mul]
    have h3 := Nat.div_add_mod ((320 - v.toNat) / 2 ^ b.val) 2
    rw [h2]; generalize (320 - v.toNat) / 2 ^ b.val / 2 = q at *
    generalize (320 - v.toNat) / 2 ^ b.val % 2 = e at *
    rw [← h3]; ring
  have h4 := Nat.div_mul_le_self (320 - v.toNat) (2 ^ b.val)
  simp only [Scalar.addi, IntOp.addi, BitVec.toNat_add, sel_toNat hv, hw]
  omega

theorem chain256 : (base t v).toNat = 320 * t.val + start 256 v.toNat := by
  rw [base_toNat t hv, start, Nat.div_eq_of_lt (by omega)]; omega

theorem chain128 : (Scalar.addi (base t v) (sel 256#32 v)).toNat = 320 * t.val + start 128 v.toNat :=
  chain_step t hv 8 (chain256 t hv)

theorem chain64 : (Scalar.addi (Scalar.addi (base t v) (sel 256#32 v)) (sel 128#32 v)).toNat = 320 * t.val + start 64 v.toNat :=
  chain_step t hv 7 (chain128 t hv)

theorem chain32 : (Scalar.addi (Scalar.addi (Scalar.addi (base t v) (sel 256#32 v)) (sel 128#32 v)) (sel 64#32 v)).toNat = 320 * t.val + start 32 v.toNat :=
  chain_step t hv 6 (chain64 t hv)

theorem chain16 : (Scalar.addi (Scalar.addi (Scalar.addi (Scalar.addi (base t v) (sel 256#32 v)) (sel 128#32 v)) (sel 64#32 v)) (sel 32#32 v)).toNat = 320 * t.val + start 16 v.toNat :=
  chain_step t hv 5 (chain32 t hv)

theorem chain8 : (Scalar.addi (Scalar.addi (Scalar.addi (Scalar.addi (Scalar.addi (base t v) (sel 256#32 v)) (sel 128#32 v)) (sel 64#32 v)) (sel 32#32 v)) (sel 16#32 v)).toNat = 320 * t.val + start 8 v.toNat :=
  chain_step t hv 4 (chain16 t hv)

theorem chain4 : (Scalar.addi (Scalar.addi (Scalar.addi (Scalar.addi (Scalar.addi (Scalar.addi (base t v) (sel 256#32 v)) (sel 128#32 v)) (sel 64#32 v)) (sel 32#32 v)) (sel 16#32 v)) (sel 8#32 v)).toNat = 320 * t.val + start 4 v.toNat :=
  chain_step t hv 3 (chain8 t hv)

theorem chain2 : (Scalar.addi (Scalar.addi (Scalar.addi (Scalar.addi (Scalar.addi (Scalar.addi (Scalar.addi (base t v) (sel 256#32 v)) (sel 128#32 v)) (sel 64#32 v)) (sel 32#32 v)) (sel 16#32 v)) (sel 8#32 v)) (sel 4#32 v)).toNat = 320 * t.val + start 2 v.toNat :=
  chain_step t hv 2 (chain4 t hv)

theorem chain1 : (Scalar.addi (Scalar.addi (Scalar.addi (Scalar.addi (Scalar.addi (Scalar.addi (Scalar.addi (Scalar.addi (base t v) (sel 256#32 v)) (sel 128#32 v)) (sel 64#32 v)) (sel 32#32 v)) (sel 16#32 v)) (sel 8#32 v)) (sel 4#32 v)) (sel 2#32 v)).toNat = 320 * t.val + start 1 v.toNat :=
  chain_step t hv 1 (chain2 t hv)

/-- The nine zero copies' row offsets in the result, largest first. -/
theorem off2 : k0_off2 t v = ![(320 * t.val + start 256 v.toNat) * 8, 0] :=
  congrArg (fun n => ![n, 0]) (pad_row t _ (chain256 t hv) (start_bound hv))

/-- The same for the copy of 128 rows. -/
theorem off3 : k0_off3 t v = ![(320 * t.val + start 128 v.toNat) * 8, 0] :=
  congrArg (fun n => ![n, 0]) (pad_row t _ (chain128 t hv) (start_bound hv))

/-- The same for the copy of 64 rows. -/
theorem off4 : k0_off4 t v = ![(320 * t.val + start 64 v.toNat) * 8, 0] :=
  congrArg (fun n => ![n, 0]) (pad_row t _ (chain64 t hv) (start_bound hv))

/-- The same for the copy of 32 rows. -/
theorem off5 : k0_off5 t v = ![(320 * t.val + start 32 v.toNat) * 8, 0] :=
  congrArg (fun n => ![n, 0]) (pad_row t _ (chain32 t hv) (start_bound hv))

/-- The same for the copy of 16 rows. -/
theorem off6 : k0_off6 t v = ![(320 * t.val + start 16 v.toNat) * 8, 0] :=
  congrArg (fun n => ![n, 0]) (pad_row t _ (chain16 t hv) (start_bound hv))

/-- The same for the copy of 8 rows. -/
theorem off7 : k0_off7 t v = ![(320 * t.val + start 8 v.toNat) * 8, 0] :=
  congrArg (fun n => ![n, 0]) (pad_row t _ (chain8 t hv) (start_bound hv))

/-- The same for the copy of 4 rows. -/
theorem off8 : k0_off8 t v = ![(320 * t.val + start 4 v.toNat) * 8, 0] :=
  congrArg (fun n => ![n, 0]) (pad_row t _ (chain4 t hv) (start_bound hv))

/-- The same for the copy of 2 rows. -/
theorem off9 : k0_off9 t v = ![(320 * t.val + start 2 v.toNat) * 8, 0] :=
  congrArg (fun n => ![n, 0]) (pad_row t _ (chain2 t hv) (start_bound hv))

/-- The same for the copy of 1 rows. -/
theorem off10 : k0_off10 t v = ![(320 * t.val + start 1 v.toNat) * 8, 0] :=
  congrArg (fun n => ![n, 0]) (pad_row t _ (chain1 t hv) (start_bound hv))

/-- A zero copy the tile needs starts at a multiple of eight rows and lies inside the result. -/
theorem inb {z b : ℕ} {o : Fin 2 → ℕ} (ho : o = ![(320 * t.val + start z v.toNat) * 8, 0]) (hz : z = 2 ^ b) (hb : b < 9)
    (hc : cond (BitVec.ofNat 32 (2 ^ b)) v = 1#1) : ∀ a, o a + (![8 * z, 128] : Fin 2 → ℕ) a ≤ S552960x128.size a := by
  have h1 := start_le hv ((cond_iff hv ⟨b, hb⟩).1 hc)
  have h2 := lt1 t
  subst hz ho
  intro a
  match a with
  | 0 => show (320 * t.val + start (2 ^ b) v.toNat) * 8 + 8 * 2 ^ b ≤ 552960; simp only at h1; omega
  | 1 => show 0 + 128 ≤ 128; omega

/-- And its row is a multiple of eight. -/
theorem mult_dvd {w : BitVec 32} {n : ℕ} (ho : (![w.toNat, 0] : Fin 2 → ℕ) = ![n * 8, 0]) : 8 ∣ w.toNat := by
  have h := congrFun ho 0
  have h' : w.toNat = n * 8 := h
  omega

/-- What the body assumes of a tile's row count holds of a count of at most the tile's rows. -/
theorem chk1 (i : grid0.Coords) : k0_chk1 i t v :=
  ⟨fun _ _ => mult_dvd hv (off2 t hv), fun _ hc => inb t hv (z := 256) (b := 8) (off2 t hv) rfl (by omega) hc, fun _ _ => mult_dvd hv (off3 t hv), fun _ hc => inb t hv (z := 128) (b := 7) (off3 t hv) rfl (by omega) hc, fun _ _ => mult_dvd hv (off4 t hv), fun _ hc => inb t hv (z := 64) (b := 6) (off4 t hv) rfl (by omega) hc, fun _ _ => mult_dvd hv (off5 t hv), fun _ hc => inb t hv (z := 32) (b := 5) (off5 t hv) rfl (by omega) hc, fun _ _ => mult_dvd hv (off6 t hv), fun _ hc => inb t hv (z := 16) (b := 4) (off6 t hv) rfl (by omega) hc, fun _ _ => mult_dvd hv (off7 t hv), fun _ hc => inb t hv (z := 8) (b := 3) (off7 t hv) rfl (by omega) hc, fun _ _ => mult_dvd hv (off8 t hv), fun _ hc => inb t hv (z := 4) (b := 2) (off8 t hv) rfl (by omega) hc, fun _ _ => mult_dvd hv (off9 t hv), fun _ hc => inb t hv (z := 2) (b := 1) (off9 t hv) rfl (by omega) hc, fun _ _ => mult_dvd hv (off10 t hv), fun _ hc => inb t hv (z := 1) (b := 0) (off10 t hv) rfl (by omega) hc⟩

/-- The same at the loop that waits. -/
theorem chk10 (i : grid0.Coords) : k0_chk10 i t v :=
  ⟨fun _ _ => mult_dvd hv (off2 t hv), fun _ hc => inb t hv (z := 256) (b := 8) (off2 t hv) rfl (by omega) hc, fun _ _ => mult_dvd hv (off3 t hv), fun _ hc => inb t hv (z := 128) (b := 7) (off3 t hv) rfl (by omega) hc, fun _ _ => mult_dvd hv (off4 t hv), fun _ hc => inb t hv (z := 64) (b := 6) (off4 t hv) rfl (by omega) hc, fun _ _ => mult_dvd hv (off5 t hv), fun _ hc => inb t hv (z := 32) (b := 5) (off5 t hv) rfl (by omega) hc, fun _ _ => mult_dvd hv (off6 t hv), fun _ hc => inb t hv (z := 16) (b := 4) (off6 t hv) rfl (by omega) hc, fun _ _ => mult_dvd hv (off7 t hv), fun _ hc => inb t hv (z := 8) (b := 3) (off7 t hv) rfl (by omega) hc, fun _ _ => mult_dvd hv (off8 t hv), fun _ hc => inb t hv (z := 4) (b := 2) (off8 t hv) rfl (by omega) hc, fun _ _ => mult_dvd hv (off9 t hv), fun _ hc => inb t hv (z := 2) (b := 1) (off9 t hv) rfl (by omega) hc, fun _ _ => mult_dvd hv (off10 t hv), fun _ hc => inb t hv (z := 1) (b := 0) (off10 t hv) rfl (by omega) hc⟩

end Pads

section Tokens
variable (i : grid0.Coords) (k : Fin k0_t2_loop.trips) (c : Fin 8)

/-- The eight tokens of a trip read consecutive words of the slot table. -/
theorem tokWord : (![(Scalar.indexCast (Scalar.addi (Scalar.muli (BitVec.ofNat 32 (i 0).val) 4096#32)
      (Scalar.addi (Scalar.muli (Scf.iv 0#32 1#32 k) 8#32) (BitVec.ofNat 32 c.val)))).toNat] : Fin 1 → ℕ) = ![4096 * (i 0).val + (8 * k.val + c.val)] := by
  have h1 := lt2 k
  have h2 : (i 0).val < 8 := (i 0).2
  have h3 := c.2
  rw [iv_ofNat]
  refine congrArg (fun n => ![n]) ?_
  show (Scalar.addi (Scalar.muli (BitVec.ofNat 32 (i 0).val) 4096#32)
      (Scalar.addi (Scalar.muli (BitVec.ofNat 32 k.val) 8#32) (BitVec.ofNat 32 c.val))).toNat = _
  simp only [Scalar.addi, Scalar.muli, IntOp.addi, IntOp.muli, BitVec.toNat_add, BitVec.toNat_mul, BitVec.toNat_ofNat]
  omega

/-- And copy consecutive blocks of eight rows of the staged tokens. -/
theorem tokRow : (![(Scalar.muli (Scalar.addi (Scalar.muli (Scf.iv 0#32 1#32 k) 8#32) (BitVec.ofNat 32 c.val)) 8#32).toNat, 0] : Fin 2 → ℕ)
    = ![(8 * k.val + c.val) * 8, 0] := by
  have h1 := lt2 k
  have h3 := c.2
  rw [iv_ofNat]
  refine congrArg (fun n => ![n, 0]) ?_
  simp only [Scalar.addi, Scalar.muli, IntOp.addi, IntOp.muli, BitVec.toNat_add, BitVec.toNat_mul, BitVec.toNat_ofNat]
  omega

/-- A token's rows of the result start at eight times its slot. -/
theorem slotRow {v : BitVec 32} (hv : v.toNat < 69120) : (![(Scalar.muli v 8#32).toNat, 0] : Fin 2 → ℕ) = ![v.toNat * 8, 0] := by
  refine congrArg (fun n => ![n, 0]) ?_
  simp only [Scalar.muli, IntOp.muli, BitVec.toNat_mul, BitVec.toNat_ofNat]
  omega

/-- What the body assumes of a slot number holds of every slot. -/
theorem slotChk {v : BitVec 32} (hv : v.toNat < 69120) : k0_chk2 v := by
  have h := slotRow hv
  refine ⟨?_, ?_⟩
  · have h' : (k0_mult11 v).toNat = v.toNat * 8 := congrFun h 0
    omega
  · have h' : k0_off12 v = ![v.toNat * 8, 0] := h
    rw [h']
    intro a
    match a with
    | 0 => show v.toNat * 8 + 8 ≤ 552960; omega
    | 1 => show 0 + 128 ≤ 128; omega

end Tokens

/-- The first grid point is the one that issues the zero copies, and the last the one that waits for them. -/
theorem first_iff (i : grid0.Coords) : k0_cond1 i = 1#1 ↔ (i 0).val = 0 := by
  have h : ∀ n : Fin 8, Scalar.cmpi .ne (Scalar.extui (Scalar.cmpi .eq (BitVec.ofNat 32 n.val) 0#32) : BitVec 32) 0#32 = 1#1 ↔ n.val = 0 := by decide +kernel
  exact h (i 0)

theorem last_iff (i : grid0.Coords) : k0_cond11 i = 1#1 ↔ (i 0).val = 7 := by
  have h : ∀ n : Fin 8, Scalar.cmpi .ne (Scalar.extui (Scalar.cmpi .eq (BitVec.ofNat 32 n.val) 7#32) : BitVec 32) 0#32 = 1#1 ↔ n.val = 7 := by decide +kernel
  exact h (i 0)

end Cert.KernelIdeal.Words
-- ==== Proof.Routed.lean ====
module

public import proofs.«01_k».proof.Pre_routed
public import Idealize.ShloMosaic.Lib.Routing.OpsSet
public import Idealize.ShloMosaic.Lib.ReduceAll
public import Idealize.ShloMosaic.Lib.WordCmp

@[expose] public section

namespace Cert.Pre_routed

open Idealize.ShloMosaic Idealize.ShloMosaic.ValueIdx
open Facts

/-! What the precondition says of the slot table and of the tiles' row counts, as facts about natural numbers. -/

/-- Token `t`'s slot. -/
def slotOf (pos : IVec S32768 32) (t : ℕ) : ℕ := if h : t < 32768 then (pos (ix1 ⟨t, h⟩)).toNat else 0

/-- Tile `i`'s live row count. -/
def rowsOf (rows : IVec S216 32) (i : ℕ) : ℕ := if h : i < 216 then (rows (ix1 ⟨i, h⟩)).toNat else 0

/-- A routing table as the dispatch wants it: every token has a slot of its own, every tile at most its 320 rows live, a
token's slot is live, and every live slot is some token's. -/
structure Routed (P R : ℕ → ℕ) : Prop where
  lt : ∀ t < 32768, P t < 69120
  inj : ∀ t < 32768, ∀ t' < 32768, P t = P t' → t = t'
  rows : ∀ i, R i ≤ 320
  live : ∀ t < 32768, P t % 320 < R (P t / 320)
  full : ∀ s < 69120, s % 320 < R (s / 320) → ∃ t < 32768, P t = s

theorem toNat_of_range {x : BitVec 32} {n : ℕ} (hn : n < 2 ^ 31) (h0 : IntOp.cmpi .sge x 0#32 = 1#1) (h1 : IntOp.cmpi .slt x (BitVec.ofNat 32 n) = 1#1) : x.toNat < n := by
  simp only [IntOp.cmpi, WordCmp.ofBool_eq_one_iff, BitVec.sle, BitVec.slt, decide_eq_true_eq, BitVec.toInt, BitVec.toNat_ofNat] at h0 h1
  omega

theorem toNat_of_range' {x : BitVec 32} {n : ℕ} (hn : n < 2 ^ 31) (h0 : IntOp.cmpi .sge x 0#32 = 1#1) (h1 : IntOp.cmpi .sle x (BitVec.ofNat 32 n) = 1#1) : x.toNat ≤ n := by
  simp only [IntOp.cmpi, WordCmp.ofBool_eq_one_iff, BitVec.sle, decide_eq_true_eq, BitVec.toInt, BitVec.toNat_ofNat] at h0 h1
  omega

/-- A word below the sign bit is not negative. -/
theorem slt_zero {x : BitVec 32} (h : x.toNat < 2 ^ 31) : IntOp.cmpi .slt x 0#32 = 0#1 := by
  have : BitVec.slt x 0#32 = false := by
    simp only [BitVec.slt, decide_eq_false_iff_not, BitVec.toInt, BitVec.toNat_ofNat]
    omega
  show BitVec.ofBool (BitVec.slt x 0#32) = 0#1
  rw [this]; rfl

/-- Two words that compare equal are equal. -/
theorem eq_of_cmpi {x y : BitVec 32} (h : IntOp.cmpi .eq x y = 1#1) : x = y := by
  simpa only [IntOp.cmpi, WordCmp.ofBool_eq_one_iff, decide_eq_true_eq, beq_iff_eq] using h

/-- A row below a tile's count, read back from the signed comparison of the two words. -/
theorem slt_row {j : ℕ} {r : BitVec 32} (hj : j < 320) (hr : r.toNat ≤ 320) : IntOp.cmpi .slt (BitVec.ofNat 32 j) r = 1#1 ↔ j < r.toNat := by
  simp only [IntOp.cmpi, WordCmp.ofBool_eq_one_iff, BitVec.slt, decide_eq_true_eq, BitVec.toInt, BitVec.toNat_ofNat]
  omega

variable {F : FTy → Type} [FloatOps F] [Facts]

/-- The printed mask of live slots at a slot: its row in the tile is below the tile's count. -/
theorem live_apply (rows : IVec S216 32) (hR : ∀ i : Fin 216, (rows (ix1 i)).toNat ≤ 320) (s : Fin 69120) :
    shapeCast S69120 (cmpi .slt (iotaInDim S216x320 32 1) (broadcastInDim S216x320 ![0, 1] bcast_S216x1_S216x320_0_1
      (broadcastInDim S216x1 ![0] bcast_S216_S216x1_0 rows))) shapeCasts_S216x320_S69120 (ix1 s) = 1#1
      ↔ s.val % 320 < rowsOf rows (s.val / 320) := by
  have hs := s.2
  rw [Routing.cast21 _ _ (⟨s.val / 320, by omega⟩ : Fin 216) (⟨s.val % 320, by omega⟩ : Fin 320) s (by show s.val = s.val / 320 * 320 + s.val % 320; omega)]
  have hb : broadcastInDim S216x320 ![0, 1] bcast_S216x1_S216x320_0_1 (broadcastInDim S216x1 ![0] bcast_S216_S216x1_0 rows)
      (ix2 (⟨s.val / 320, by omega⟩ : Fin 216) (⟨s.val % 320, by omega⟩ : Fin 320)) = rows (ix1 ⟨s.val / 320, by omega⟩) := by
    refine congrArg rows (funext fun a => ?_)
    match a with
    | ⟨0, _⟩ => rfl
  show IntOp.cmpi .slt (BitVec.ofNat 32 (s.val % 320)) _ = 1#1 ↔ _
  rw [hb, slt_row (by omega) (hR _), rowsOf, dif_pos (by omega)]

/-- The precondition, decoded. -/
theorem routed_of (pos : IVec S32768 32) (rows : IVec S216 32) (x : FVec F S262144x128 .f32) (h : fn (F := F) pos rows x = fun _ => 1#1) :
    Routed (slotOf pos) (rowsOf rows) := by
  have e := congrFun h (fun a => a.elim0)
  unfold fn fn_part1 fn_part2 fn_part3 at e
  dsimp only [andi] at e
  obtain ⟨e, e57⟩ := IntOp.andi_eq_one.1 e
  obtain ⟨e, e55⟩ := IntOp.andi_eq_one.1 e
  obtain ⟨e, e53⟩ := IntOp.andi_eq_one.1 e
  obtain ⟨e20, e26⟩ := IntOp.andi_eq_one.1 e
  haveI : Subsingleton S_.Idx := ⟨fun a b => funext fun k => k.elim0⟩
  have hpos : ∀ t : Fin 32768, (pos (ix1 t)).toNat < 69120 := fun t => by
    have q := Host.reduce_andi_all _ _ _ _ _ e20 (ix1 t)
    obtain ⟨q0, q1⟩ := IntOp.andi_eq_one.1 q
    exact toNat_of_range (by norm_num) q0 q1
  have hR : ∀ i : Fin 216, (rows (ix1 i)).toNat ≤ 320 := fun i => by
    have q := Host.reduce_andi_all _ _ _ _ _ e26 (ix1 i)
    obtain ⟨q0, q1⟩ := IntOp.andi_eq_one.1 q
    exact toNat_of_range' (by norm_num) q0 q1
  have hidx : ∀ t : Fin 32768, (broadcastInDim S32768x1 ![0] bcast_S32768_S32768x1_0 (select (cmpi .slt pos (broadcastInDim S32768 ![] bcast_S_S32768 (constantI S_ 32 0#32)))
      (addi pos (broadcastInDim S32768 ![] bcast_S_S32768 (constantI S_ 32 69120#32))) pos)) (ix2 t (0 : Fin 1)) = BitVec.ofNat 32 (⟨(pos (ix1 t)).toNat, hpos t⟩ : Fin 69120).val := fun t => by
    have h1 := hpos t
    have h2 := slt_zero (Nat.lt_trans (hpos t) (by norm_num : 69120 < 2 ^ 31))
    show Scalar.select (IntOp.cmpi .slt (pos _) 0#32) _ (pos _) = _
    have h4 : ∀ y : S32768.Idx, y = ix1 t → Scalar.select (IntOp.cmpi .slt (pos y) 0#32) (IntOp.addi (pos y) 69120#32) (pos y) = BitVec.ofNat 32 (pos (ix1 t)).toNat := by
      rintro y rfl
      rw [h2, BitVec.ofNat_toNat, BitVec.setWidth_eq]; rfl
    exact h4 _ (funext fun a => match a with | ⟨0, _⟩ => rfl)
  have hlive : ∀ t < 32768, slotOf pos t % 320 < rowsOf rows (slotOf pos t / 320) := fun t ht => by
    have q := Host.reduce_andi_all _ _ _ _ _ e55 (ix1 ⟨t, ht⟩)
    rw [Routing.gather_take1 _ rfl rfl rfl rfl _ _ _ _ (hidx ⟨t, ht⟩) (by norm_num)] at q
    have := (live_apply rows hR _).1 q
    unfold slotOf; rw [dif_pos ht]; exact this
  have hback : ∀ (t : Fin 32768) (T : S69120.Idx → BitVec 32), cmpi .eq (Host.gather gather_S69120_S32768x1_S32768_n_0_n_n_0_1_1 T
      (broadcastInDim S32768x1 ![0] bcast_S32768_S32768x1_0 (select (cmpi .slt pos (broadcastInDim S32768 ![] bcast_S_S32768 (constantI S_ 32 0#32)))
      (addi pos (broadcastInDim S32768 ![] bcast_S_S32768 (constantI S_ 32 69120#32))) pos))) (iotaInDim S32768 32 0) (ix1 t) = 1#1 →
      T (ix1 ⟨(pos (ix1 t)).toNat, hpos t⟩) = BitVec.ofNat 32 t.val := fun t T q => by
    change IntOp.cmpi .eq (Host.gather gather_S69120_S32768x1_S32768_n_0_n_n_0_1_1 T _ (ix1 t)) (BitVec.ofNat 32 t.val) = 1#1 at q
    rw [Routing.gather_take1 _ rfl rfl rfl rfl _ _ _ _ (hidx t) (by norm_num)] at q
    exact eq_of_cmpi q
  refine ⟨fun t ht => ?_, fun t ht t' ht' heq => ?_, fun i => ?_, hlive, fun s hs hlv => ?_⟩
  · unfold slotOf; rw [dif_pos ht]; exact hpos _
  · have q := hback ⟨t, ht⟩ _ (Host.reduce_andi_all _ _ _ _ _ e53 (ix1 ⟨t, ht⟩))
    have q' := hback ⟨t', ht'⟩ _ (Host.reduce_andi_all _ _ _ _ _ e53 (ix1 ⟨t', ht'⟩))
    unfold slotOf at heq; rw [dif_pos ht, dif_pos ht'] at heq
    have hi : (⟨(pos (ix1 ⟨t, ht⟩)).toNat, hpos _⟩ : Fin 69120) = ⟨(pos (ix1 ⟨t', ht'⟩)).toNat, hpos _⟩ := Fin.ext heq
    rw [hi, q'] at q
    have := congrArg BitVec.toNat q
    simp only [BitVec.toNat_ofNat] at this
    omega
  · unfold rowsOf; split
    · exact hR _
    · exact Nat.zero_le _
  · have q := Host.reduce_andi_all _ _ _ _ _ e57 (ix1 ⟨s, hs⟩)
    have hl := (live_apply rows hR ⟨s, hs⟩).2 hlv
    have hor : ∀ a b : BitVec 1, a = 1#1 → IntOp.ori (~~~a) b = 1#1 → b = 1#1 := by decide
    have q2 : IntOp.cmpi .eq (Host.gather gather_S32768_S69120x1_S69120_n_0_n_n_0_1_1 pos _ (ix1 ⟨s, hs⟩)) (BitVec.ofNat 32 s) = 1#1 := hor _ _ hl q
    have q3 : Host.gather gather_S32768_S69120x1_S69120_n_0_n_n_0_1_1 pos _ (ix1 ⟨s, hs⟩) = BitVec.ofNat 32 s := eq_of_cmpi q2
    rw [← Routing.ofFin_eq_ix1, StableHlo.Predicate.gather_take _ rfl rfl rfl rfl _ _ _ (by norm_num), Routing.ofFin_eq_ix1] at q3
    obtain ⟨b, hb⟩ : ∃ b : Fin 32768, pos (ix1 b) = BitVec.ofNat 32 s := ⟨_, q3⟩
    refine ⟨b.val, b.2, ?_⟩
    unfold slotOf; rw [dif_pos b.2, Fin.eta, hb, BitVec.toNat_ofNat]; omega

end Cert.Pre_routed
-- ==== Proof.Sets.lean ====
module

public import proofs.«01_k».proof.Proof.Words
public import proofs.«01_k».proof.Proof.Routed
public import Idealize.ShloMosaic.Lib.Transfers

@[expose] public section

set_option maxRecDepth 65536

namespace Cert.KernelIdeal.Words

open Cert.KernelIdeal Idealize.ShloMosaic Idealize.ShloMosaic.ValueIdx
open Cert.Pre_routed (Routed)

/-! The rows each copy lands on: as sets of elements they are disjoint and together they are the whole result. -/

/-- The elements of rows `a` to `a + m`. -/
def rows (N a m : ℕ) : Finset (⟨2, ![N, 128]⟩ : Shape).Idx := Finset.univ.filter fun y => a ≤ (y 0).val ∧ (y 0).val < a + m

theorem mem_rows {N a m : ℕ} {y : (⟨2, ![N, 128]⟩ : Shape).Idx} : y ∈ rows N a m ↔ a ≤ (y 0).val ∧ (y 0).val < a + m := by
  simp [rows]

/-- A rectangle of whole rows has their elements. -/
theorem rect_rows {N a m : ℕ} (h : ∀ i, (![a, 0] : Fin 2 → ℕ) i + (![m, 128] : Fin 2 → ℕ) i ≤ (⟨2, ![N, 128]⟩ : Shape).size i) :
    (Rect.unit (s := ⟨2, ![N, 128]⟩) ![a, 0] ![m, 128] h).set = rows N a m := by
  ext y
  rw [Rect.mem_set_unit, mem_rows]
  have h1 : (y 1).val < 128 := (y 1).2
  constructor
  · intro h; exact h 0
  · intro h i
    match i with
    | ⟨0, _⟩ => exact h
    | ⟨1, _⟩ => exact ⟨Nat.zero_le _, by show (y 1).val < 0 + 128; omega⟩

/-- The rows of token `t`'s slot. -/
def tset (P : ℕ → ℕ) (t : ℕ) : Finset S552960x128.Idx := rows 552960 (8 * P t) 8

/-- The size of zero copy number `k`: nine to a tile, from 256 rows down to one. -/
def zof (k : ℕ) : ℕ := 2 ^ (8 - k % 9)

/-- Zero copy number `k` happens: its tile's dead row count has its bit. -/
def hit (R : ℕ → ℕ) (k : ℕ) : Prop := Hit (zof k) (R (k / 9))

instance (R : ℕ → ℕ) : DecidablePred (hit R) := fun k => inferInstanceAs (Decidable (Hit _ _))

/-- Where zero copy number `k` starts. -/
def pst (R : ℕ → ℕ) (k : ℕ) : ℕ := (320 * (k / 9) + start (zof k) (R (k / 9))) * 8

/-- The rows zero copy number `k` lands on. -/
def pset (R : ℕ → ℕ) (k : ℕ) : Finset S552960x128.Idx := rows 552960 (pst R k) (8 * zof k)

/-- The rows zero copy number `k` writes: none where it does not happen. -/
def pset' (R : ℕ → ℕ) (k : ℕ) : Finset S552960x128.Idx := if hit R k then pset R k else ∅

theorem mem_tset {P : ℕ → ℕ} {t : ℕ} {y : S552960x128.Idx} : y ∈ tset P t ↔ (y 0).val / 8 = P t := by
  unfold tset; rw [mem_rows]; omega

theorem mem_pset {R : ℕ → ℕ} {k : ℕ} {y : S552960x128.Idx} :
    y ∈ pset R k ↔ 320 * (k / 9) + start (zof k) (R (k / 9)) ≤ (y 0).val / 8 ∧ (y 0).val / 8 < 320 * (k / 9) + start (zof k) (R (k / 9)) + zof k := by
  unfold pset pst; rw [mem_rows]; omega

theorem dead_fin : ∀ r : Fin 321, ∀ u : Fin 320, r.val ≤ u.val →
    ∃ q : Fin 9, Hit (2 ^ (8 - q.val)) r.val ∧ start (2 ^ (8 - q.val)) r.val ≤ u.val ∧ u.val < start (2 ^ (8 - q.val)) r.val + 2 ^ (8 - q.val) := by
  decide +kernel

theorem apart_fin : ∀ r : Fin 321, ∀ q q' : Fin 9, q.val < q'.val → Hit (2 ^ (8 - q.val)) r.val →
    start (2 ^ (8 - q.val)) r.val + 2 ^ (8 - q.val) ≤ start (2 ^ (8 - q'.val)) r.val := by
  decide +kernel

theorem zof_le (k : ℕ) : zof k ≤ 256 := by
  unfold zof
  exact Nat.pow_le_pow_right (by decide) (Nat.sub_le 8 _)

theorem zof_pos (k : ℕ) : 0 < zof k := Nat.two_pow_pos _

variable {P R : ℕ → ℕ}

theorem tset_disjoint (hr : Routed P R) {t t' : ℕ} (ht : t < 32768) (ht' : t' < 32768) (h : t ≠ t') : Disjoint (tset P t) (tset P t') := by
  rw [Finset.disjoint_left]
  intro y hy hy'
  rw [mem_tset] at hy hy'
  exact h (hr.inj t ht t' ht' (hy.symm.trans hy'))

/-- A zero copy stays inside its tile's dead rows. -/
theorem pset_dead (hr : Routed P R) {k : ℕ} (hk : hit R k) {y : S552960x128.Idx} (hy : y ∈ pset R k) :
    (y 0).val / 8 / 320 = k / 9 ∧ R (k / 9) ≤ (y 0).val / 8 % 320 := by
  rw [mem_pset] at hy
  have h1 := start_le (hr.rows (k / 9)) hk
  have h2 : R (k / 9) ≤ start (zof k) (R (k / 9)) := Nat.le_add_right _ _
  omega

theorem pset'_sub {k : ℕ} {y : S552960x128.Idx} (hy : y ∈ pset' R k) : hit R k ∧ y ∈ pset R k := by
  unfold pset' at hy
  split at hy
  · exact ⟨by assumption, hy⟩
  · simp at hy

theorem pset_disjoint (hr : Routed P R) {k k' : ℕ} (h : k ≠ k') : Disjoint (pset' R k) (pset' R k') := by
  rw [Finset.disjoint_left]
  intro y hy hy'
  obtain ⟨hk, hy⟩ := pset'_sub hy
  obtain ⟨hk', hy'⟩ := pset'_sub hy'
  have e := (pset_dead hr hk hy).1
  have e' := (pset_dead hr hk' hy').1
  have et : k / 9 = k' / 9 := e.symm.trans e'
  rw [mem_pset] at hy hy'
  rw [← et] at hy'
  unfold hit at hk hk'
  rw [← et] at hk'
  have hR := hr.rows (k / 9)
  have key : ∀ a b : ℕ, a % 9 < b % 9 → Hit (zof a) (R (k / 9)) → start (zof a) (R (k / 9)) + zof a ≤ start (zof b) (R (k / 9)) :=
    fun a b hab ha => apart_fin ⟨R (k / 9), by omega⟩ ⟨a % 9, by omega⟩ ⟨b % 9, by omega⟩ hab ha
  rcases Nat.lt_trichotomy (k % 9) (k' % 9) with hl | hl | hl
  · have := key k k' hl hk; omega
  · omega
  · have := key k' k hl hk'; omega

theorem tset_pset_disjoint (hr : Routed P R) {t k : ℕ} (ht : t < 32768) : Disjoint (tset P t) (pset' R k) := by
  rw [Finset.disjoint_left]
  intro y hy hy'
  obtain ⟨hk, hy'⟩ := pset'_sub hy'
  rw [mem_tset] at hy
  have h := pset_dead hr hk hy'
  have := hr.live t ht
  rw [← hy, h.1] at this
  omega

/-- The tokens' rows and the zero copies' rows are all of the result. -/
theorem cover (hr : Routed P R) :
    (Finset.Ico 0 32768).biUnion (tset P) ∪ (Finset.Ico 0 1944).biUnion (pset' R) = Finset.univ := by
  ext y
  simp only [Finset.mem_union, Finset.mem_biUnion, Finset.mem_Ico, Finset.mem_univ, iff_true]
  have hy : (y 0).val < 552960 := (y 0).2
  by_cases hl : (y 0).val / 8 % 320 < R ((y 0).val / 8 / 320)
  · obtain ⟨t, ht, e⟩ := hr.full _ (by omega) hl
    exact Or.inl ⟨t, ⟨Nat.zero_le _, ht⟩, mem_tset.2 e.symm⟩
  · have hR := hr.rows ((y 0).val / 8 / 320)
    obtain ⟨q, hq, h1, h2⟩ := dead_fin ⟨R ((y 0).val / 8 / 320), by omega⟩ ⟨(y 0).val / 8 % 320, by omega⟩ (by dsimp only; omega)
    have hd : (9 * ((y 0).val / 8 / 320) + q.val) / 9 = (y 0).val / 8 / 320 := by have := q.2; omega
    have hz : zof (9 * ((y 0).val / 8 / 320) + q.val) = 2 ^ (8 - q.val) := by
      unfold zof; congr 2; have := q.2; omega
    have hh : hit R (9 * ((y 0).val / 8 / 320) + q.val) := by
      unfold hit; rw [hd, hz]; exact hq
    refine Or.inr ⟨9 * ((y 0).val / 8 / 320) + q.val, ⟨Nat.zero_le _, by have := q.2; omega⟩, ?_⟩
    unfold pset'
    rw [if_pos hh, mem_pset, hd, hz]
    dsimp only at h1 h2
    omega

/-- How many of the first `k` zero copies happen. -/
def cnt (R : ℕ → ℕ) : ℕ → ℕ
  | 0 => 0
  | k + 1 => cnt R k + if hit R k then 1 else 0

theorem cnt_hit {k : ℕ} (h : hit R k) : cnt R (k + 1) = cnt R k + 1 := by
  show cnt R k + (if hit R k then 1 else 0) = _
  rw [if_pos h]

theorem cnt_miss {k : ℕ} (h : ¬ hit R k) : cnt R (k + 1) = cnt R k := by
  show cnt R k + (if hit R k then 1 else 0) = _
  rw [if_neg h]; rfl

theorem cnt_mono {k l : ℕ} (h : k ≤ l) : cnt R k ≤ cnt R l := by
  induction h with
  | refl => exact le_rfl
  | step _ ih => exact ih.trans (Nat.le_add_right _ _)

theorem cnt_lt {k l : ℕ} (hk : hit R k) (h : k < l) : cnt R k < cnt R l := by
  have := cnt_mono (R := R) (Nat.succ_le_of_lt h)
  rw [Nat.succ_eq_add_one, cnt_hit hk] at this
  exact this

open Classical in
/-- The number of the zero copy that is the `j`-th to happen. -/
noncomputable def code (R : ℕ → ℕ) (j : ℕ) : ℕ := if h : ∃ k, hit R k ∧ cnt R k = j then h.choose else 0

theorem code_cnt {k : ℕ} (hk : hit R k) : code R (cnt R k) = k := by
  have h : ∃ l, hit R l ∧ cnt R l = cnt R k := ⟨k, hk, rfl⟩
  unfold code
  rw [dif_pos h]
  rcases Nat.lt_trichotomy h.choose k with hl | hl | hl
  · have := cnt_lt h.choose_spec.1 hl; have := h.choose_spec.2; omega
  · exact hl
  · have := cnt_lt hk hl; have := h.choose_spec.2; omega

variable {F : FTy → Type} [FloatOps F]

open Classical in
/-- The result: a token's eight rows in its slot, zero in every other slot. -/
noncomputable def out (P : ℕ → ℕ) (x : S262144x128.Idx → F .f32) : S552960x128.Idx → F .f32 := fun y =>
  if h : ∃ t, t < 32768 ∧ P t = (y 0).val / 8 then x (ix2 ⟨8 * h.choose + (y 0).val % 8, by have := h.choose_spec.1; omega⟩ (y 1))
  else Scalar.ofBits .f32 0#32

theorem out_token (hr : Routed P R) (x : S262144x128.Idx → F .f32) {t : ℕ} (ht : t < 32768) {y : S552960x128.Idx} (hy : y ∈ tset P t) :
    out P x y = x (ix2 ⟨8 * t + (y 0).val % 8, by omega⟩ (y 1)) := by
  rw [mem_tset] at hy
  have h : ∃ t, t < 32768 ∧ P t = (y 0).val / 8 := ⟨t, ht, hy.symm⟩
  unfold out
  rw [dif_pos h]
  have e : h.choose = t := hr.inj _ h.choose_spec.1 t ht (h.choose_spec.2.trans hy)
  simp only [e]

theorem out_pad (hr : Routed P R) (x : S262144x128.Idx → F .f32) {k : ℕ} (hk : hit R k) {y : S552960x128.Idx} (hy : y ∈ pset R k) :
    out P x y = Scalar.ofBits .f32 0#32 := by
  unfold out
  rw [dif_neg]
  rintro ⟨t, ht, e⟩
  have := hr.live t ht
  have h := pset_dead hr hk hy
  rw [e, h.1] at this
  omega

end Cert.KernelIdeal.Words
-- ==== Proof.Tokens.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Sets
public import Idealize.ShloMosaic.Lib.Pipeline.FrameBody
public import Idealize.ShloMosaic.Lib.MixedBatch
public import Idealize.ShloMosaic.Lib.Batch
public import Idealize.ShloMosaic.Lib.Ring
public import Idealize.ShloMosaic.Lib.Tactic
public import Idealize.ShloMosaic.Lib.WordCmp
public import Idealize.SL.BI.BigOpNat

@[expose] public section

set_option maxRecDepth 65536

noncomputable section

namespace Cert.KernelIdeal.Hand

open Cert.KernelIdeal Cert.KernelIdeal.Gen Cert.KernelIdeal.Words
open Cert.Pre_routed (Routed slotOf rowsOf)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The transfers' counters in the proof's algebra. -/
abbrev EC : UEmb Counters 𝕄 := countersEmb (U := Pipeline.UD sig nD τ)

/-- The result's buffer on core `c`. -/
abbrev ℓo (c : Dev nD) : Loc nD τ sig := (Memref.whole main_v0).view.loc (c : Thread nD τ)

/-- The slots' table's buffer on core `c`. -/
abbrev ℓp (c : Dev nD) : Loc nD τ sig := (Memref.whole main_arg0).view.loc (c : Thread nD τ)

/-- What one token's copy adds to its cell. -/
abbrev N8 : ℕ := main_v0.dmaCredit S8x128 .f32

/-- A word of the slots' table, loaded and found to name a slot inside the result. -/
theorem tok_word (c : Dev nD) (pos : IVec S32768 32) {q : PosShare TreeShare} {o : Fin 1 → ℕ} {inb} {n : ℕ} (ho : o = ![n]) (hn : n < 32768)
    (hv : ∀ t : Fin 32768, (pos (ix1 t)).toNat < 69120) {chk : BitVec 32 → Prop} {dec : ∀ v, Decidable (chk v)} (hchk : ∀ v : BitVec 32, v.toNat < 69120 → chk v)
    {α : Type} {k : (v : BitVec 32) → PLift (chk v) → Prog (TpuEff nD τ sig (Elt F) Λ₀ .tc) α} {Q : α → sProp 𝕄} :
    (ℓp c ↦{q} pos : sProp 𝕄) ⊢ iprop(((ℓp c ↦{q} pos) -∗ ∀ h, wp frame (wpE defs₀ Variants.none (c : Thread nD τ) none) Set.univ (k (pos (ix1 ⟨n, hn⟩)) ⟨h⟩) Q)
      -∗ wp frame (wpE defs₀ Variants.none (c : Thread nD τ) none) Set.univ
        (smemLoad (Memref.whole main_arg0) (Rect.unit (s := S32768) o S1.size inb) numel1_S1 rfl >>= fun v => Prog.lift (TpuEff.assume (chk v) (dec v)) >>= fun h => k v h) Q) := by
  subst ho
  iintro H Hk
  unfold smemLoad
  rw [smemLoadElt_bind]
  iapply (wp_smemLoadElt_named Variants.none (c : Thread nD τ) none Set.univ (m := Memref.whole main_arg0)) $$ H
  iintro H %w %hw
  have e : w = pos (ix1 ⟨n, hn⟩) := by
    rw [hw]
    refine congrArg pos (funext fun a => ?_)
    match a with
    | ⟨0, _⟩ => exact Fin.ext (by show n + 1 * (Shape.Idx.first _ 0).val = n; have := (Shape.Idx.first (numel1_S1.symm ▸ Nat.one_pos : 0 < S1.numel) 0).2; change _ < 1 at this; omega)
  rw [e]
  have h := hchk _ (hv ⟨n, hn⟩)
  simp only [Prog.lift, Prog.bind_op, Prog.bind_ret, Prog.pure_eq_ret]
  iapply (wp_assume Variants.none (c : Thread nD τ) none Set.univ h)
  iapply Hk $$ H

variable (c : Dev nD) {P R : ℕ → ℕ} (x : S262144x128.Idx → F .f32) (V : S552960x128.Idx → F .f32)
  (arg3 : Memref sig .tc .vmem S32768x128 .f32) (fx : Buf (Elt F) (arg3.view.loc (c : Thread nD τ)))

/-- Token block `j` of the staged rows, in the stage's buffer. -/
def bset (j : ℕ) : Finset (Idx (arg3.view.loc (c : Thread nD τ))) := (rows 32768 (8 * j) 8).map arg3.view.emb

/-- What a token's copy delivers: its slot's rows at the result's contents, and the staged rows it read. -/
def dels (P : ℕ → ℕ) (b : ℕ) (t : Fin 4096) : sProp 𝕄 :=
  iprop((ℓo c ↦[tset P (4096 * b + t.val)]{fullShare} out P x) ∗ (arg3.view.loc (c : Thread nD τ) ↦[bset c arg3 t.val]{fullShare} fx))

instance (b : ℕ) (t : Fin 4096) : BI.Storable (upEmb : UEmb _ 𝕄) (dels c x arg3 fx P b t) := by unfold dels; infer_instance

/-- Before token `j` of grid point `b` is sent: `j` copies in flight, the other tokens' slots and staged rows in hand. -/
def tokSt (P : ℕ → ℕ) (b j : ℕ) : sProp 𝕄 :=
  iprop(Transfers.Batch EC (c : Thread nD τ) (.dma 2) () N8 (dels c x arg3 fx P b) j 0
    ∗ bigSep (Finset.Ico (4096 * b + j) (4096 * b + 4096)) (fun t => (ℓo c ↦[tset P t]{fullShare} V : sProp 𝕄))
    ∗ bigSep (Finset.Ico j 4096) (fun t => (arg3.view.loc (c : Thread nD τ) ↦[bset c arg3 t]{fullShare} fx : sProp 𝕄)))

/-- One token's copy is sent. -/
theorem tok_step (hr : Routed P R) {b j : ℕ} (hb : b < 8) (hj : j < 4096)
    (hfx : ∀ y : S32768x128.Idx, arg3.view.read (Elt F) fx y = x (ix2 ⟨32768 * b + (y 0).val, by have : (y 0).val < 32768 := (y 0).2; omega⟩ (y 1)))
    {o1 o2 : Fin 2 → ℕ} (h1 : ∀ a, o1 a + S8x128.size a ≤ S552960x128.size a) (e1 : o1 = ![8 * P (4096 * b + j), 0])
    (h2 : ∀ a, o2 a + S8x128.size a ≤ S32768x128.size a) (e2 : o2 = ![8 * j, 0]) {sm : SemLoc sig} (hsm : sm = .dma 2)
    {hsrc hdst hsem} {α : Type} {k : PUnit → Prog (TpuEff nD τ sig (Elt F) Λ₀ .tc) α} {Q : α → sProp 𝕄} :
    tokSt c x V arg3 fx P b j ⊢ iprop((tokSt c x V arg3 fx P b (j + 1) -∗ wp frame (wpE defs₀ Variants.none (c : Thread nD τ) none) Set.univ (k ⟨⟩) Q)
      -∗ wp frame (wpE defs₀ Variants.none (c : Thread nD τ) none) Set.univ
        (.op (.enqueueDma (arg3.slice (Rect.unit (s := S32768x128) o2 S8x128.size h2) (fun _ => rfl))
          (.here ((Memref.whole main_v0).slice (Rect.unit (s := S552960x128) o1 S8x128.size h1) (fun _ => rfl))) sm hsrc hdst hsem) k) Q) := by
  subst e1 e2 hsm
  unfold tokSt
  rw [bigSep_Ico_succ_bot (by omega : 4096 * b + j < 4096 * b + 4096), bigSep_Ico_succ_bot hj]
  iintro ⟨HB, ⟨Hd, Hds⟩, Hs, Hss⟩ Hk
  have hset : ((arg3.slice (Rect.unit (s := S32768x128) ![8 * j, 0] S8x128.size h2) (fun _ => rfl)).view.set) = bset c arg3 j := by
    show (arg3.view.slice _).set = _
    rw [View.set_slice]; unfold bset; rw [rect_rows]
  have hdset : (((Memref.whole main_v0).slice (Rect.unit (s := S552960x128) ![8 * P (4096 * b + j), 0] S8x128.size h1) (fun _ => rfl)).view.set) = tset P (4096 * b + j) := by
    show ((View.whole main_v0).slice _).set = _
    rw [View.set_slice_whole]; unfold tset; exact rect_rows _
  have hval : ∀ y ∈ tset P (4096 * b + j), ((Memref.whole main_v0).slice (Rect.unit (s := S552960x128) ![8 * P (4096 * b + j), 0] S8x128.size h1) (fun _ => rfl)).view.write (Elt F) V
      (ReadAs.apply .same ((arg3.slice (Rect.unit (s := S32768x128) ![8 * j, 0] S8x128.size h2) (fun _ => rfl)).view.read (Elt F) fx)) Finset.univ y = out P x y := by
    intro y hy
    have e := out_token hr x (t := 4096 * b + j) (by omega) hy
    rw [← hdset] at hy
    obtain ⟨z, -, rfl⟩ := Finset.mem_map.1 hy
    rw [e, View.write_emb_of_mem _ _ (Finset.mem_univ _)]
    refine Eq.trans (hfx ((Rect.unit (s := S32768x128) ![8 * j, 0] S8x128.size h2).emb z)) (congrArg x (funext fun a => ?_))
    have hz : (z 0).val < 8 := (z 0).2
    match a with
    | ⟨0, _⟩ =>
      refine Fin.ext ?_
      show 32768 * b + (8 * j + 1 * (z 0).val) = 8 * (4096 * b + j) + (8 * P (4096 * b + j) + 1 * (z 0).val) % 8
      omega
    | ⟨1, _⟩ => exact Fin.ext (by show 0 + 1 * (z 1).val = 0 + 1 * (z 1).val; rfl)
  have hN : ((Memref.whole main_v0).slice (Rect.unit (s := S552960x128) ![8 * P (4096 * b + j), 0] S8x128.size h1) (fun _ => rfl)).view.amount (SemLoc.dma (sig := sig) 2) = N8 := rfl
  iapply (Transfers.wp_dmaBatch EC Variants.none (c : Thread nD τ) none
    (src := arg3.slice (Rect.unit (s := S32768x128) ![8 * j, 0] S8x128.size h2) (fun _ => rfl))
    (dst := (Memref.whole main_v0).slice (Rect.unit (s := S552960x128) ![8 * P (4096 * b + j), 0] S8x128.size h1) (fun _ => rfl))
    (Sd := tset P (4096 * b + j)) (fd := V) (fs := fx) (q := fullShare)
    () N8 hN (by rw [hdset]) (D := dels c x arg3 fx P b) (j := j) (u := 0) hj (Nat.zero_le _) ?_) $$ [HB Hd Hs]
  · unfold dels
    rw [pointsTo_congr hval, hset]
  · isplitl [Hs]; · rw [hset]; iexact Hs
    isplitl [Hd]; · iexact Hd
    iexact HB
  iintro HB
  iapply Hk
  isplitl [HB]; · iexact HB
  isplitl [Hds]; · iexact Hds
  iexact Hss

end Cert.KernelIdeal.Hand
-- ==== Proof.TokLoop.lean ====
module

public import proofs.«01_k».proof.Proof.Tokens

@[expose] public section

set_option maxRecDepth 65536

noncomputable section

namespace Cert.KernelIdeal.Hand

open Cert.KernelIdeal Cert.KernelIdeal.Gen Cert.KernelIdeal.Words
open Cert.Pre_routed (Routed slotOf rowsOf)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) {P R : ℕ → ℕ} (x : S262144x128.Idx → F .f32) (V : S552960x128.Idx → F .f32)
  (arg3 : Memref sig .tc .vmem S32768x128 .f32) (harg3 : arg3.IsWhole) (fx : Buf (Elt F) (arg3.view.loc (c : Thread nD τ)))

/-- A returned value goes to its continuation. -/
theorem ret_bind {E : Type → Type} {α β : Type} (a : α) (k : α → Prog E β) : (Prog.ret a).bind k = k a := rfl

/-- One token's copy adds something to its cell. -/
theorem N8_pos : 0 < N8 := sig.dmaCredit_pos _ _ _ _ _ (by decide +kernel)

/-- Trip `k` of the tokens' loop sends the copies of tokens `8 k` to `8 k + 7` of the grid point's block. -/
theorem tok_trip (i : grid0.Coords) (pos : IVec S32768 32) {q : PosShare TreeShare} (hr : Routed (slotOf pos) R)
    (hfx : ∀ y : S32768x128.Idx, arg3.view.read (Elt F) fx y = x (ix2 ⟨32768 * (i 0).val + (y 0).val, by have : (y 0).val < 32768 := (y 0).2; have : (i 0).val < 8 := (i 0).2; omega⟩ (y 1)))
    (k : Fin k0_t2_loop.trips) (acc : Unit) :
    iprop((ℓp c ↦{q} pos) ∗ tokSt c x V arg3 fx (slotOf pos) (i 0).val (8 * k.val))
      ⊢ wp frame (wpE defs₀ Variants.none (c : Thread nD τ) none) Set.univ
        (k0_t2_body (F := F) i (Memref.whole main_arg0) (Memref.isWhole_whole _) (Memref.whole main_arg1) (Memref.isWhole_whole _) arg3 harg3
          (Memref.whole main_v0) (Memref.isWhole_whole _) (Memref.whole cc0_scratch0) (Memref.isWhole_whole _) cc0_scratch1 (Scalar.muli (BitVec.ofNat 32 (i 0).val) 4096#32) k acc)
        (fun _ => iprop((ℓp c ↦{q} pos) ∗ tokSt c x V arg3 fx (slotOf pos) (i 0).val (8 * (k.val + 1)))) := by
  have hi : (i 0).val < 8 := (i 0).2
  have hk : k.val < 512 := lt2 k
  have hv : ∀ t : Fin 32768, (pos (ix1 t)).toNat < 69120 := fun t => by
    have := hr.lt t.val t.2
    unfold slotOf at this
    rwa [dif_pos t.2] at this
  have hP : ∀ (j : ℕ) (h : 4096 * (i 0).val + (8 * k.val + j) < 32768), (![8 * (pos (ix1 ⟨4096 * (i 0).val + (8 * k.val + j), h⟩)).toNat, 0] : Fin 2 → ℕ)
      = ![8 * slotOf pos (4096 * (i 0).val + (8 * k.val + j)), 0] := fun j h => by unfold slotOf; rw [dif_pos h]
  iintro ⟨Hp, HT⟩
  unfold k0_t2_body
  rw [k0_part2_eq_skeleton, k0_part3_eq_skeleton]
  unfold k0_part2_skel k0_part3_skel
  simp only [bind_assoc, pure_bind]
  have w0 : k0_off11 i k = ![4096 * (i 0).val + (8 * k.val + 0)] := tokWord i k 0
  have r0 : k0_off13 k = ![8 * (8 * k.val + 0), 0] := (tokRow k 0).trans (by rw [Nat.mul_comm]; rfl)
  have d0 : ∀ v : BitVec 32, v.toNat < 69120 → k0_off12 v = ![8 * v.toNat, 0] := fun v hv => (slotRow hv).trans (by rw [Nat.mul_comm])
  have w1 : k0_off14 i k = ![4096 * (i 0).val + (8 * k.val + 1)] := tokWord i k 1
  have r1 : k0_off16 k = ![8 * (8 * k.val + 1), 0] := (tokRow k 1).trans (by rw [Nat.mul_comm]; rfl)
  have d1 : ∀ v : BitVec 32, v.toNat < 69120 → k0_off15 v = ![8 * v.toNat, 0] := fun v hv => (slotRow hv).trans (by rw [Nat.mul_comm])
  have w2 : k0_off17 i k = ![4096 * (i 0).val + (8 * k.val + 2)] := tokWord i k 2
  have r2 : k0_off19 k = ![8 * (8 * k.val + 2), 0] := (tokRow k 2).trans (by rw [Nat.mul_comm]; rfl)
  have d2 : ∀ v : BitVec 32, v.toNat < 69120 → k0_off18 v = ![8 * v.toNat, 0] := fun v hv => (slotRow hv).trans (by rw [Nat.mul_comm])
  have w3 : k0_off20 i k = ![4096 * (i 0).val + (8 * k.val + 3)] := tokWord i k 3
  have r3 : k0_off22 k = ![8 * (8 * k.val + 3), 0] := (tokRow k 3).trans (by rw [Nat.mul_comm]; rfl)
  have d3 : ∀ v : BitVec 32, v.toNat < 69120 → k0_off21 v = ![8 * v.toNat, 0] := fun v hv => (slotRow hv).trans (by rw [Nat.mul_comm])
  have w4 : k0_off23 i k = ![4096 * (i 0).val + (8 * k.val + 4)] := tokWord i k 4
  have r4 : k0_off25 k = ![8 * (8 * k.val + 4), 0] := (tokRow k 4).trans (by rw [Nat.mul_comm]; rfl)
  have d4 : ∀ v : BitVec 32, v.toNat < 69120 → k0_off24 v = ![8 * v.toNat, 0] := fun v hv => (slotRow hv).trans (by rw [Nat.mul_comm])
  have w5 : k0_off26 i k = ![4096 * (i 0).val + (8 * k.val + 5)] := tokWord i k 5
  have r5 : k0_off28 k = ![8 * (8 * k.val + 5), 0] := (tokRow k 5).trans (by rw [Nat.mul_comm]; rfl)
  have d5 : ∀ v : BitVec 32, v.toNat < 69120 → k0_off27 v = ![8 * v.toNat, 0] := fun v hv => (slotRow hv).trans (by rw [Nat.mul_comm])
  have w6 : k0_off29 i k = ![4096 * (i 0).val + (8 * k.val + 6)] := tokWord i k 6
  have r6 : k0_off31 k = ![8 * (8 * k.val + 6), 0] := (tokRow k 6).trans (by rw [Nat.mul_comm]; rfl)
  have d6 : ∀ v : BitVec 32, v.toNat < 69120 → k0_off30 v = ![8 * v.toNat, 0] := fun v hv => (slotRow hv).trans (by rw [Nat.mul_comm])
  have w7 : k0_off32 i k = ![4096 * (i 0).val + (8 * k.val + 7)] := tokWord i k 7
  have r7 : k0_off34 k = ![8 * (8 * k.val + 7), 0] := (tokRow k 7).trans (by rw [Nat.mul_comm]; rfl)
  have d7 : ∀ v : BitVec 32, v.toNat < 69120 → k0_off33 v = ![8 * v.toNat, 0] := fun v hv => (slotRow hv).trans (by rw [Nat.mul_comm])
  iapply (tok_word c pos w0 (by omega) hv (chk := k0_chk2) (fun v h => slotChk h)) $$ Hp
  iintro Hp %h0
  iapply (tok_step c x V arg3 fx hr hi (j := 8 * k.val + 0) (by omega) hfx _ ((d0 _ (hv _)).trans (hP 0 (by omega))) _ r0 rfl) $$ HT
  iintro HT
  iapply (tok_word c pos w1 (by omega) hv (chk := k0_chk3) (fun v h => slotChk h)) $$ Hp
  iintro Hp %h1
  iapply (tok_step c x V arg3 fx hr hi (j := 8 * k.val + 1) (by omega) hfx _ ((d1 _ (hv _)).trans (hP 1 (by omega))) _ r1 rfl) $$ HT
  iintro HT
  iapply (tok_word c pos w2 (by omega) hv (chk := k0_chk4) (fun v h => slotChk h)) $$ Hp
  iintro Hp %h2
  iapply (tok_step c x V arg3 fx hr hi (j := 8 * k.val + 2) (by omega) hfx _ ((d2 _ (hv _)).trans (hP 2 (by omega))) _ r2 rfl) $$ HT
  iintro HT
  iapply (tok_word c pos w3 (by omega) hv (chk := k0_chk5) (fun v h => slotChk h)) $$ Hp
  iintro Hp %h3
  iapply (tok_step c x V arg3 fx hr hi (j := 8 * k.val + 3) (by omega) hfx _ ((d3 _ (hv _)).trans (hP 3 (by omega))) _ r3 rfl) $$ HT
  iintro HT
  iapply (tok_word c pos w4 (by omega) hv (chk := k0_chk6) (fun v h => slotChk h)) $$ Hp
  iintro Hp %h4
  iapply (tok_step c x V arg3 fx hr hi (j := 8 * k.val + 4) (by omega) hfx _ ((d4 _ (hv _)).trans (hP 4 (by omega))) _ r4 rfl) $$ HT
  iintro HT
  iapply (tok_word c pos w5 (by omega) hv (chk := k0_chk7) (fun v h => slotChk h)) $$ Hp
  iintro Hp %h5
  iapply (tok_step c x V arg3 fx hr hi (j := 8 * k.val + 5) (by omega) hfx _ ((d5 _ (hv _)).trans (hP 5 (by omega))) _ r5 rfl) $$ HT
  iintro HT
  iapply (tok_word c pos w6 (by omega) hv (chk := k0_chk8) (fun v h => slotChk h)) $$ Hp
  iintro Hp %h6
  iapply (tok_step c x V arg3 fx hr hi (j := 8 * k.val + 6) (by omega) hfx _ ((d6 _ (hv _)).trans (hP 6 (by omega))) _ r6 rfl) $$ HT
  iintro HT
  iapply (tok_word c pos w7 (by omega) hv (chk := k0_chk9) (fun v h => slotChk h)) $$ Hp
  iintro Hp %h7
  iapply (tok_step c x V arg3 fx hr hi (j := 8 * k.val + 7) (by omega) hfx _ ((d7 _ (hv _)).trans (hP 7 (by omega))) _ r7 rfl) $$ HT
  iintro HT
  simp only [ret_bind, Prog.pure_eq_ret]
  sl_step
  isplitl [Hp]; · iexact Hp
  iexact HT

/-- The staged rows as the blocks the tokens' copies read. -/
theorem blocks (S : Finset ℕ) (hS : ∀ t, t ∈ S ↔ t < 4096) :
    (arg3.view.loc (c : Thread nD τ) ↦[arg3.view.set]{fullShare} fx : sProp 𝕄) = bigSep S (fun t => arg3.view.loc (c : Thread nD τ) ↦[bset c arg3 t]{fullShare} fx) := by
  have hd : ∀ t ∈ S, ∀ t' ∈ S, t ≠ t' → Disjoint (bset c arg3 t) (bset c arg3 t') := by
    intro t _ t' _ h
    unfold bset
    rw [Finset.disjoint_map, Finset.disjoint_left]
    intro y hy hy'
    rw [mem_rows] at hy hy'
    omega
  have e : arg3.view.set = S.biUnion (bset c arg3) := by
    ext z
    rw [Finset.mem_biUnion]
    constructor
    · intro hz
      obtain ⟨y, -, rfl⟩ := Finset.mem_map.1 hz
      have hy : (y 0).val < 32768 := (y 0).2
      exact ⟨(y 0).val / 8, (hS _).2 (by omega), Finset.mem_map_of_mem _ (mem_rows.2 (by omega))⟩
    · rintro ⟨t, -, hz⟩
      obtain ⟨y, -, rfl⟩ := Finset.mem_map.1 hz
      exact Finset.mem_map_of_mem _ (Finset.mem_univ y)
  rw [e, pointsTo_biUnion _ _ hd]

/-- A grid point starts with its tokens' cell at zero, their slots and the staged rows in hand. -/
theorem tok_start (b : ℕ) :
    iprop(semVal ((c : Thread nD τ), SemLoc.dma 2) 0 ∗ bigSep (Finset.Ico (4096 * b) (4096 * b + 4096)) (fun t => (ℓo c ↦[tset P t]{fullShare} V : sProp 𝕄))
        ∗ (arg3.view.loc (c : Thread nD τ) ↦[arg3.view.set]{fullShare} fx))
      ⊢ |={Set.univ}=> tokSt c x V arg3 fx P b 0 := by
  rw [blocks c arg3 fx (Finset.Ico 0 4096) (fun t => by simp)]
  iintro ⟨Hv, Hd, Hs⟩
  imod (Transfers.batch_alloc' (Lvl := ℕ) EC (c : Thread nD τ) () N8 (dels c x arg3 fx P b) (sm := .dma 2) (E := Set.univ)) $$ Hv with HB
  imodintro
  unfold tokSt
  isplitl [HB]; · iexact HB
  isplitl [Hd]; · iexact Hd
  iexact Hs

/-- The deliveries of a grid point's copies: its slots' rows and the staged rows. -/
theorem dels_all (b : ℕ) :
    (bigSep Finset.univ (dels c x arg3 fx P b) : sProp 𝕄)
      ⊢ iprop(bigSep (Finset.Ico (4096 * b) (4096 * b + 4096)) (fun t => (ℓo c ↦[tset P t]{fullShare} out P x : sProp 𝕄))
        ∗ (arg3.view.loc (c : Thread nD τ) ↦[arg3.view.set]{fullShare} fx)) := by
  rw [blocks c arg3 fx (Finset.range 4096) (fun t => Finset.mem_range), Ring.bigSep_fin_eq_range 4096 _
    (fun t => iprop((ℓo c ↦[tset P (4096 * b + t)]{fullShare} out P x) ∗ (arg3.view.loc (c : Thread nD τ) ↦[bset c arg3 t]{fullShare} fx))) (fun t h => rfl)]
  rw [bigSep_sep']
  refine Entails.of_eq (congrArg (fun X => iprop(X ∗ _)) ?_)
  have e : Finset.Ico (4096 * b) (4096 * b + 4096) = (Finset.range 4096).map (addLeftEmbedding (4096 * b)) := by
    ext t
    simp only [Finset.mem_Ico, Finset.mem_map, Finset.mem_range, addLeftEmbedding_apply]
    constructor
    · intro h; exact ⟨t - 4096 * b, by omega, by omega⟩
    · rintro ⟨t', h, rfl⟩; omega
  rw [e, bigSep_map]
  rfl

/-- The grid point's one wait, on the credit of all its rows, takes every one of its copies. -/
theorem tok_wait {b : ℕ} {W : Waits sig Unit} {sem : DmaSem sig} (hs : sem = 2) {dst : Memref sig .tc .hbm S32768x128 .f32} (hd : dst.view.dmaCredit = N8 * 4096)
    {hsrc hdst} {α : Type} {k : PUnit → Prog (TpuEff nD τ sig (Elt F) Λ₀ .tc) α} {Q : α → sProp 𝕄} :
    iprop(tokSt c x V arg3 fx P b 4096 ∗ owes (c : Thread nD τ) 0 W)
      ⊢ iprop((bigSep (Finset.Ico (4096 * b) (4096 * b + 4096)) (fun t => (ℓo c ↦[tset P t]{fullShare} out P x : sProp 𝕄))
          ∗ (arg3.view.loc (c : Thread nD τ) ↦[arg3.view.set]{fullShare} fx) ∗ semVal ((c : Thread nD τ), SemLoc.dma 2) 0
          ∗ (∃ W, owes (c : Thread nD τ) 0 W) -∗ wp frame (wpE defs₀ Variants.none (c : Thread nD τ) none) Set.univ (k ⟨⟩) Q)
        -∗ wp frame (wpE defs₀ Variants.none (c : Thread nD τ) none) Set.univ (.op (.waitDma2 sem arg3 dst hsrc hdst) k) Q) := by
  subst hs
  unfold tokSt
  iintro ⟨⟨HB, -, -⟩, HO⟩ Hk
  iapply (Transfers.wp_waitBatchAll EC Variants.none (c : Thread nD τ) none () hd N8_pos (D := dels c x arg3 fx P b) (u := 0) (Nat.zero_add _)) $$ [HB HO]
  · isplitl [HB] <;> iassumption
  iintro ⟨HD, Hv, HO⟩
  ihave HD := (dels_all c x arg3 fx b) $$ HD
  icases HD with ⟨Hd, Hs⟩
  iapply Hk
  isplitl [Hd]; · iexact Hd
  isplitl [Hs]; · iexact Hs
  isplitl [Hv]; · iexact Hv
  iexists _; iexact HO

end Cert.KernelIdeal.Hand
-- ==== Proof.Pads.lean ====
module

public import proofs.«01_k».proof.Proof.TokLoop

@[expose] public section

set_option maxRecDepth 65536

noncomputable section

namespace Cert.KernelIdeal.Hand

open Cert.KernelIdeal Cert.KernelIdeal.Gen Cert.KernelIdeal.Words
open Cert.Pre_routed (Routed slotOf rowsOf)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The zero scratch's buffer on core `c`. -/
abbrev ℓz (c : Dev nD) : Loc nD τ sig := (Memref.whole cc0_scratch0).view.loc (c : Thread nD τ)

/-- The scratch's contents once stored: zero. -/
abbrev zr : S2048x128.Idx → F .f32 := fun _ => Scalar.ofBits .f32 0#32

/-- The rows of the scratch that zero copy number `k` reads. -/
def zset (k : ℕ) : Finset S2048x128.Idx := rows 2048 0 (8 * zof k)

/-- What zero copy number `k` adds to its cell. -/
abbrev pamt (k : ℕ) : ℕ := main_v0.dmaCredit ⟨2, ![8 * zof k, 128]⟩ .f32

theorem pamt_pos (k : ℕ) : 0 < pamt k := sig.dmaCredit_pos _ _ _ _ _ (by
  have := zof_pos k
  show 0 < Shape.numel _
  simp [Shape.numel, Fin.prod_univ_two, this])

variable (c : Dev nD) {P R : ℕ → ℕ} (x : S262144x128.Idx → F .f32) (V : S552960x128.Idx → F .f32)

/-- What zero copy number `k` delivers: its rows of the result, and the scratch's rows it read. -/
def pdel (P R : ℕ → ℕ) (k : ℕ) : sProp 𝕄 :=
  iprop((ℓo c ↦[pset R k]{fullShare} out P x) ∗ (ℓz c ↦[zset k]{Transfers.shareTokN fullShare (cnt R k)} zr))

instance (k : ℕ) : BI.Storable (upEmb : UEmb _ 𝕄) (pdel c x P R k) := by unfold pdel; infer_instance

/-- The deliveries of the zero copies that happen, in their order. -/
abbrev pdels (P R : ℕ → ℕ) (j : Fin (cnt R 1944)) : sProp 𝕄 := pdel c x P R (code R j.val)

/-- Their amounts. -/
abbrev pamts (R : ℕ → ℕ) (j : Fin (cnt R 1944)) : ℕ := pamt (code R j.val)

/-- What is left of a zero copy's share of the scratch while the copy is in flight. -/
def prest (R : ℕ → ℕ) (k : ℕ) : sProp 𝕄 :=
  if hit R k then iprop(ℓz c ↦[Finset.univ \ zset k]{Transfers.shareTokN fullShare (cnt R k)} zr) else iprop(emp)

/-- Before zero copy number `k`: the earlier ones in flight, the later ones' rows and shares in hand. -/
def padSt (P R : ℕ → ℕ) (k : ℕ) : sProp 𝕄 :=
  iprop(Transfers.MixedBatch EC (c : Thread nD τ) (.dma 3) () (pamts R) (pdels c x P R) (cnt R k) 0
    ∗ bigSep (Finset.Ico k 1944) (fun t => (ℓo c ↦[pset' R t]{fullShare} V : sProp 𝕄))
    ∗ bigSep (Finset.Ico (cnt R k) (cnt R 1944)) (fun j => (ℓz c ↦{Transfers.shareTokN fullShare j} zr : sProp 𝕄))
    ∗ bigSep (Finset.Ico 0 k) (prest c R))

/-- A zero copy that does not happen changes nothing. -/
theorem pad_miss {k : ℕ} (hk : k < 1944) (h : ¬ hit R k) : padSt c x V P R k ⊢ padSt c x V P R (k + 1) := by
  unfold padSt
  rw [bigSep_Ico_succ_bot hk, bigSep_Ico_succ_top (Nat.zero_le k), cnt_miss h]
  unfold pset' prest
  rw [if_neg h, if_neg h, pointsTo_empty]
  iintro ⟨HB, ⟨-, Hd⟩, Hz, Hr⟩
  isplitl [HB]; · iexact HB
  isplitl [Hd]; · iexact Hd
  isplitl [Hz]; · iexact Hz
  isplitr; · iempintro
  iexact Hr

/-- One zero copy is sent. -/
theorem pad_hit (hr : Routed P R) {k : ℕ} (hk : k < 1944) (hh : hit R k) {r : ℕ} (er : r = 8 * zof k)
    {o1 : Fin 2 → ℕ} (h1 : ∀ a, o1 a + (![r, 128] : Fin 2 → ℕ) a ≤ S552960x128.size a) (e1 : o1 = ![pst R k, 0])
    (h2 : ∀ a, (![0, 0] : Fin 2 → ℕ) a + (![r, 128] : Fin 2 → ℕ) a ≤ S2048x128.size a) {sm : SemLoc sig} (hsm : sm = .dma 3)
    {hsrc hdst hsem} {α : Type} {K : PUnit → Prog (TpuEff nD τ sig (Elt F) Λ₀ .tc) α} {Q : α → sProp 𝕄} :
    padSt c x V P R k ⊢ iprop((padSt c x V P R (k + 1) -∗ wp frame (wpE defs₀ Variants.none (c : Thread nD τ) none) Set.univ (K ⟨⟩) Q)
      -∗ wp frame (wpE defs₀ Variants.none (c : Thread nD τ) none) Set.univ
        (.op (.enqueueDma ((Memref.whole cc0_scratch0).slice (Rect.unit (s := S2048x128) ![0, 0] ![r, 128] h2) (fun _ => rfl))
          (.here ((Memref.whole main_v0).slice (Rect.unit (s := S552960x128) o1 ![r, 128] h1) (fun _ => rfl))) sm hsrc hdst hsem) K) Q) := by
  subst e1 er hsm
  have hn : cnt R k < cnt R 1944 := cnt_lt hh hk
  have hset : (((Memref.whole cc0_scratch0).slice (Rect.unit (s := S2048x128) ![0, 0] ![8 * zof k, 128] h2) (fun _ => rfl)).view.set) = zset k := by
    show ((View.whole cc0_scratch0).slice _).set = _
    rw [View.set_slice_whole]; unfold zset; exact rect_rows _
  have hdset : (((Memref.whole main_v0).slice (Rect.unit (s := S552960x128) ![pst R k, 0] ![8 * zof k, 128] h1) (fun _ => rfl)).view.set) = pset R k := by
    show ((View.whole main_v0).slice _).set = _
    rw [View.set_slice_whole]; unfold pset; exact rect_rows _
  have hval : ∀ y ∈ pset R k, ((Memref.whole main_v0).slice (Rect.unit (s := S552960x128) ![pst R k, 0] ![8 * zof k, 128] h1) (fun _ => rfl)).view.write (Elt F) V
      (ReadAs.apply .same (((Memref.whole cc0_scratch0).slice (Rect.unit (s := S2048x128) ![0, 0] ![8 * zof k, 128] h2) (fun _ => rfl)).view.read (Elt F) (zr (F := F)))) Finset.univ y = out P x y := by
    intro y hy
    have e := out_pad hr x hh hy
    rw [← hdset] at hy
    obtain ⟨z, -, rfl⟩ := Finset.mem_map.1 hy
    rw [e, View.write_emb_of_mem _ _ (Finset.mem_univ _)]
    rfl
  have hN : ((Memref.whole main_v0).slice (Rect.unit (s := S552960x128) ![pst R k, 0] ![8 * zof k, 128] h1) (fun _ => rfl)).view.amount (SemLoc.dma (sig := sig) 3) = pamts R ⟨cnt R k, hn⟩ := by
    show _ = pamt (code R (cnt R k))
    rw [code_cnt hh]; rfl
  unfold padSt
  rw [bigSep_Ico_succ_bot hk, bigSep_Ico_succ_bot hn, bigSep_Ico_succ_top (Nat.zero_le k), cnt_hit hh]
  have e1 : pset' R k = pset R k := if_pos hh
  have e2 : prest (F := F) c R k = iprop(ℓz c ↦[Finset.univ \ zset k]{Transfers.shareTokN fullShare (cnt R k)} zr) := if_pos hh
  rw [e1, e2]
  iintro ⟨HB, ⟨Hd, Hds⟩, ⟨Hz, Hzs⟩, Hr⟩ Hk
  ihave Hz := (pointsTo_split_subset (S := Finset.univ) (I := zset k) (Finset.subset_univ _)).1 $$ Hz
  icases Hz with ⟨Hz, Hzr⟩
  iapply (Transfers.wp_dmaMixedBatch EC Variants.none (c : Thread nD τ) none
    (src := (Memref.whole cc0_scratch0).slice (Rect.unit (s := S2048x128) ![0, 0] ![8 * zof k, 128] h2) (fun _ => rfl))
    (dst := (Memref.whole main_v0).slice (Rect.unit (s := S552960x128) ![pst R k, 0] ![8 * zof k, 128] h1) (fun _ => rfl))
    (Sd := pset R k) (fd := V) (fs := zr) (q := Transfers.shareTokN fullShare (cnt R k))
    () (pamts R) (by rw [hdset]) hn hN (Nat.zero_le _) (D := pdels c x P R) (j := cnt R k) (u := 0) ?_) $$ [HB Hd Hz]
  · show _ ⊢ pdel c x P R (code R (cnt R k))
    rw [code_cnt hh]
    unfold pdel
    rw [pointsTo_congr hval, hset]
  · isplitl [Hz]; · rw [hset]; iexact Hz
    isplitl [Hd]; · iexact Hd
    iexact HB
  iintro HB
  iapply Hk
  isplitl [HB]; · iexact HB
  isplitl [Hds]; · iexact Hds
  isplitl [Hzs]; · iexact Hzs
  isplitl [Hzr]; · iexact Hzr
  iexact Hr

/-- Nothing beside a proposition adds nothing. -/
theorem pure_emp_right (A : sProp 𝕄) : (BIBase.sep (BIBase.emp : sProp 𝕄) A) = A := equiv_iff.mp BI.emp_sep

/-- A family over the copies that happen, in their order, is one over all the numbers, empty where none happens. -/
theorem bigSep_cnt (Φ : ℕ → sProp 𝕄) : ∀ k, (bigSep (Finset.Ico 0 (cnt R k)) Φ : sProp 𝕄) = bigSep (Finset.Ico 0 k) (fun l => if hit R l then Φ (cnt R l) else iprop(emp))
  | 0 => rfl
  | k + 1 => by
    rw [bigSep_Ico_succ_top (Nat.zero_le k), ← bigSep_cnt Φ k]
    by_cases h : hit R k
    · rw [if_pos h, cnt_hit h, bigSep_Ico_succ_top (Nat.zero_le _)]
    · rw [if_neg h, cnt_miss h]
      exact (pure_emp_right _).symm

/-- The first grid point starts with the zero copies' cell at zero, their rows and the zeroed scratch in hand. -/
theorem pad_start :
    iprop(semVal ((c : Thread nD τ), SemLoc.dma 3) 0 ∗ bigSep (Finset.Ico 0 1944) (fun t => (ℓo c ↦[pset' R t]{fullShare} V : sProp 𝕄)) ∗ (ℓz c ↦{fullShare} zr))
      ⊢ |={Set.univ}=> iprop(padSt c x V P R 0 ∗ (ℓz c ↦{Transfers.shareDrop fullShare (cnt R 1944)} zr)) := by
  iintro ⟨Hv, Hd, Hs⟩
  imod (Transfers.mixedBatch_alloc' EC (c : Thread nD τ) () (pamts R) (pdels c x P R) (sm := .dma 3) (E := Set.univ)) $$ Hv with HB
  ihave Hs := (Transfers.pointsTo_toks_range fullShare (cnt R 1944)).1 $$ Hs
  icases Hs with ⟨Hz, Hs⟩
  imodintro
  isplitr [Hz]
  · unfold padSt
    isplitl [HB]; · iexact HB
    isplitl [Hd]; · iexact Hd
    isplitl [Hs]
    · rw [show cnt R 0 = 0 from rfl, ← Finset.range_eq_Ico]; iexact Hs
    · rw [Finset.Ico_self, bigSep_empty]; iempintro
  · iexact Hz

theorem sumTo_le {n : ℕ} (A : Fin n → ℕ) {j : ℕ} (hj : j ≤ n) : Transfers.sumTo A j ≤ Transfers.sumTo A n := by
  rw [Transfers.sumTo_total, ← Transfers.sumTo_add_pending A j hj]
  exact Nat.le_add_right _ _

/-- While the last grid point waits: every zero copy sent, the credit of those before number `k` taken. -/
def waitSt (P R : ℕ → ℕ) (k : ℕ) : sProp 𝕄 :=
  iprop(Transfers.MixedBatch EC (c : Thread nD τ) (.dma 3) () (pamts R) (pdels c x P R) (cnt R 1944) (Transfers.sumTo (pamts R) (cnt R k))
    ∗ ∃ W, owes (c : Thread nD τ) 0 W)

/-- One zero copy's wait takes its credit. -/
theorem wait_hit {k : ℕ} (hk : k < 1944) (hh : hit R k) {r : ℕ} (er : r = 8 * zof k) {sem : DmaSem sig} (hs : sem = 3)
    {o1 : Fin 2 → ℕ} (h1 : ∀ a, o1 a + (![r, 128] : Fin 2 → ℕ) a ≤ S552960x128.size a)
    (h2 : ∀ a, (![0, 0] : Fin 2 → ℕ) a + (![r, 128] : Fin 2 → ℕ) a ≤ S2048x128.size a)
    {hsrc hdst} {α : Type} {K : PUnit → Prog (TpuEff nD τ sig (Elt F) Λ₀ .tc) α} {Q : α → sProp 𝕄} :
    waitSt c x P R k ⊢ iprop((waitSt c x P R (k + 1) -∗ wp frame (wpE defs₀ Variants.none (c : Thread nD τ) none) Set.univ (K ⟨⟩) Q)
      -∗ wp frame (wpE defs₀ Variants.none (c : Thread nD τ) none) Set.univ
        (.op (.waitDma2 sem ((Memref.whole cc0_scratch0).slice (Rect.unit (s := S2048x128) ![0, 0] ![r, 128] h2) (fun _ => rfl))
          ((Memref.whole main_v0).slice (Rect.unit (s := S552960x128) o1 ![r, 128] h1) (fun _ => rfl)) hsrc hdst) K) Q) := by
  subst er hs
  have hn : cnt R k < cnt R 1944 := cnt_lt hh hk
  have hA : pamts R ⟨cnt R k, hn⟩ = pamt k := by
    show pamt (code R (cnt R k)) = _
    rw [code_cnt hh]
  have hs := Transfers.sumTo_succ (pamts R) hn
  rw [hA] at hs
  have hN : ((Memref.whole main_v0).slice (Rect.unit (s := S552960x128) o1 ![8 * zof k, 128] h1) (fun _ => rfl)).view.dmaCredit = pamt k := rfl
  unfold waitSt
  rw [cnt_hit hh, hs]
  iintro ⟨HB, %W, HO⟩ Hk
  iapply (Transfers.wp_waitMixedBatch EC Variants.none (c : Thread nD τ) none () hN (A := pamts R) (D := pdels c x P R) (j := cnt R 1944)
    (u := Transfers.sumTo (pamts R) (cnt R k)) (by rw [← hs]; exact sumTo_le _ hn)) $$ [HB HO]
  · isplitl [HB] <;> iassumption
  iintro ⟨HB, HO⟩
  iapply Hk
  isplitl [HB]; · iexact HB
  iexists _; iexact HO

/-- Every zero copy's rows back at the result's contents, the scratch whole, the cell at zero. -/
theorem pad_end (hr : Routed P R) :
    iprop(Transfers.MixedBatch EC (c : Thread nD τ) (.dma 3) () (pamts R) (pdels c x P R) (cnt R 1944) (Transfers.sumTo (pamts R) (cnt R 1944))
        ∗ bigSep (Finset.Ico 0 1944) (prest c R) ∗ (ℓz c ↦{Transfers.shareDrop fullShare (cnt R 1944)} zr))
      ⊢ (|={Set.univ}=> iprop(bigSep (Finset.Ico 0 1944) (fun t => (ℓo c ↦[pset' R t]{fullShare} out P x : sProp 𝕄)) ∗ (ℓz c ↦{fullShare} zr)
        ∗ semVal ((c : Thread nD τ), SemLoc.dma 3) 0) : sProp 𝕄) := by
  have hjoin : iprop(bigSep Finset.univ (pdels c x P R) ∗ bigSep (Finset.Ico 0 1944) (prest c R))
      ⊢ (iprop(bigSep (Finset.Ico 0 1944) (fun t => (ℓo c ↦[pset' R t]{fullShare} out P x : sProp 𝕄))
        ∗ bigSep (Finset.Ico 0 (cnt R 1944)) (fun j => (ℓz c ↦{Transfers.shareTokN fullShare j} zr : sProp 𝕄))) : sProp 𝕄) := by
    rw [Ring.bigSep_fin_eq_range (cnt R 1944) _ (fun j => pdel c x P R (code R j)) (fun t h => rfl), Finset.range_eq_Ico, bigSep_cnt, bigSep_cnt,
      ← bigSep_sep', ← bigSep_sep']
    refine bigSep_mono fun l _ => ?_
    unfold prest pset'
    by_cases h : hit R l
    · rw [if_pos h, if_pos h, if_pos h, if_pos h, code_cnt h]
      unfold pdel
      have h2 : iprop(((ℓo c ↦[pset R l]{fullShare} out P x) ∗ ℓz c ↦[zset l]{Transfers.shareTokN fullShare (cnt R l)} zr) ∗ ℓz c ↦[Finset.univ \ zset l]{Transfers.shareTokN fullShare (cnt R l)} zr)
          ⊢ (iprop((ℓo c ↦[pset R l]{fullShare} out P x) ∗ ℓz c ↦{Transfers.shareTokN fullShare (cnt R l)} zr) : sProp 𝕄) := by
        iintro ⟨⟨Hd, Hz⟩, Hr⟩
        isplitl [Hd]; · iexact Hd
        iapply (pointsTo_split_subset (S := Finset.univ) (I := zset l) (Finset.subset_univ _)).2
        isplitl [Hz] <;> iassumption
      exact h2
    · rw [if_neg h, if_neg h, if_neg h, if_neg h, pointsTo_empty]
      have h2 : iprop(emp ∗ emp) ⊢ (iprop(emp ∗ emp) : sProp 𝕄) := by
        iintro H; iexact H
      exact h2
  iintro ⟨HB, Hr, Hz⟩
  imod (Transfers.mixedBatch_collect' EC (c : Thread nD τ) (fun t => pamt_pos _)) $$ HB with ⟨HD, Hv⟩
  imodintro
  ihave HD := hjoin $$ [HD Hr]
  · isplitl [HD] <;> iassumption
  icases HD with ⟨Hd, Hs⟩
  isplitl [Hd]; · iexact Hd
  isplitl [Hs Hz]
  · iapply (Transfers.pointsTo_toks_range fullShare (cnt R 1944)).2
    isplitl [Hz]; · iexact Hz
    rw [Finset.range_eq_Ico]; iexact Hs
  · iexact Hv

end Cert.KernelIdeal.Hand
-- ==== Proof.PadLoop.lean ====
module

public import proofs.«01_k».proof.Proof.Pads
public import proofs.«01_k».proof.Proof.TokLoop

@[expose] public section

set_option maxRecDepth 65536

noncomputable section

namespace Cert.KernelIdeal.Hand

open Cert.KernelIdeal Cert.KernelIdeal.Gen Cert.KernelIdeal.Words
open Cert.Pre_routed (Routed slotOf rowsOf)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) {P R : ℕ → ℕ} (x : S262144x128.Idx → F .f32) (V : S552960x128.Idx → F .f32)
  (arg3 : Memref sig .tc .vmem S32768x128 .f32) (harg3 : arg3.IsWhole)

/-- The location of the tiles' row counts. -/
abbrev ℓr (c : Dev nD) : Loc nD τ sig := (Memref.whole main_arg1).view.loc (c : Thread nD τ)

/-- Trip `k` reads tile `k`'s count. -/
theorem rowWord (k : Fin k0_t1_loop.trips) : k0_off1 k = ![k.val] := by
  have hk := lt1 k
  funext a
  match a with
  | ⟨0, _⟩ => exact (by
    show (Scalar.indexCast (Scf.iv 0#32 1#32 k)).toNat = k.val
    rw [iv_ofNat]
    show (BitVec.ofNat 32 k.val).toNat = _
    rw [BitVec.toNat_ofNat]; omega)

/-- A tile's row count is read, and what the program assumes of it holds. -/
theorem row_word (c : Dev nD) (rws : IVec S216 32) {q : PosShare TreeShare} {o : Fin 1 → ℕ} {inb} {n : ℕ} (ho : o = ![n]) (hn : n < 216)
    (hv : ∀ t : Fin 216, (rws (ix1 t)).toNat ≤ 320) {chk : BitVec 32 → Prop} {dec : ∀ v, Decidable (chk v)} (hchk : ∀ v : BitVec 32, v.toNat ≤ 320 → chk v)
    {α : Type} {k : (v : BitVec 32) → PLift (chk v) → Prog (TpuEff nD τ sig (Elt F) Λ₀ .tc) α} {Q : α → sProp 𝕄} :
    (ℓr c ↦{q} rws : sProp 𝕄) ⊢ iprop(((ℓr c ↦{q} rws) -∗ ∀ h, wp frame (wpE defs₀ Variants.none (c : Thread nD τ) none) Set.univ (k (rws (ix1 ⟨n, hn⟩)) ⟨h⟩) Q)
      -∗ wp frame (wpE defs₀ Variants.none (c : Thread nD τ) none) Set.univ
        (smemLoad (Memref.whole main_arg1) (Rect.unit (s := S216) o S1.size inb) numel1_S1 rfl >>= fun v => Prog.lift (TpuEff.assume (chk v) (dec v)) >>= fun h => k v h) Q) := by
  subst ho
  iintro H Hk
  unfold smemLoad
  rw [smemLoadElt_bind]
  iapply (wp_smemLoadElt_named Variants.none (c : Thread nD τ) none Set.univ (m := Memref.whole main_arg1)) $$ H
  iintro H %w %hw
  have e : w = rws (ix1 ⟨n, hn⟩) := by
    rw [hw]
    refine congrArg rws (funext fun a => ?_)
    match a with
    | ⟨0, _⟩ => exact Fin.ext (by show n + 1 * (Shape.Idx.first _ 0).val = n; have := (Shape.Idx.first (numel1_S1.symm ▸ Nat.one_pos : 0 < S1.numel) 0).2; change _ < 1 at this; omega)
  rw [e]
  have h := hchk _ (hv ⟨n, hn⟩)
  simp only [Prog.lift, Prog.bind_op, Prog.bind_ret, Prog.pure_eq_ret]
  iapply (wp_assume Variants.none (c : Thread nD τ) none Set.univ h)
  iapply Hk $$ H

/-- A guarded zero copy: sent where the tile's dead row count has its bit. -/
theorem pad_guard {t q : ℕ} (ht : t < 216) (hq : q < 9) {v : BitVec 32} (hv : v.toNat ≤ 320) (hR : R t = v.toNat) (hr : Routed P R)
    {cd : BitVec 1} (hcd : cd = cond (BitVec.ofNat 32 (2 ^ (8 - q))) v) {r : ℕ} (er : r = 8 * 2 ^ (8 - q))
    {o1 : Fin 2 → ℕ} {h1 : cd = 1#1 → ∀ a, o1 a + (![r, 128] : Fin 2 → ℕ) a ≤ S552960x128.size a} (e1 : o1 = ![(320 * t + start (2 ^ (8 - q)) v.toNat) * 8, 0])
    {h2 : ∀ a, (![0, 0] : Fin 2 → ℕ) a + (![r, 128] : Fin 2 → ℕ) a ≤ S2048x128.size a} {sm : SemLoc sig} (hsm : sm = .dma 3) {hsrc : cd = 1#1 → ((Memref.whole cc0_scratch0).slice (Rect.unit (s := S2048x128) ![0, 0] ![r, 128] h2) (fun _ => rfl)).view.WordExact} {hdst : ∀ h : cd = 1#1, ((Memref.whole main_v0).slice (Rect.unit (s := S552960x128) o1 ![r, 128] (h1 h)) (fun _ => rfl)).view.WordExact} {hsem : ∀ h : cd = 1#1, DmaTarget.Typed _ sm (DmaTarget.here (nD := nD) (τ := τ) (p := (c : Thread nD τ).2) ((Memref.whole main_v0).slice (Rect.unit (s := S552960x128) o1 ![r, 128] (h1 h)) (fun _ => rfl)))}
    {α : Type} {K : Prog (TpuEff nD τ sig (Elt F) Λ₀ .tc) α} {Q : α → sProp 𝕄} :
    padSt c x V P R (9 * t + q) ⊢ iprop((padSt c x V P R (9 * t + (q + 1)) -∗ wp frame (wpE defs₀ Variants.none (c : Thread nD τ) none) Set.univ K Q)
      -∗ wp frame (wpE defs₀ Variants.none (c : Thread nD τ) none) Set.univ
        (if h : cd = 1#1 then (Prog.lift (TpuEff.enqueueDma ((Memref.whole cc0_scratch0).slice (Rect.unit (s := S2048x128) ![0, 0] ![r, 128] h2) (fun _ => rfl)) (.here ((Memref.whole main_v0).slice (Rect.unit (s := S552960x128) o1 ![r, 128] (h1 h)) (fun _ => rfl))) sm (hsrc h) (hdst h) (hsem h))) >>= fun _ => K else K) Q) := by
  have hm : (9 * t + q) % 9 = q := by omega
  have hd : (9 * t + q) / 9 = t := by omega
  have hz : zof (9 * t + q) = 2 ^ (8 - q) := by unfold zof; rw [hm]
  have hh : cd = 1#1 ↔ hit R (9 * t + q) := by
    unfold hit; rw [hz, hd, hR, hcd]
    exact cond_iff hv ⟨8 - q, by omega⟩
  by_cases h : cd = 1#1
  · rw [dif_pos h]
    simp only [Prog.lift, Prog.bind_op, Prog.bind_ret]
    have hp : pst R (9 * t + q) = (320 * t + start (2 ^ (8 - q)) v.toNat) * 8 := by unfold pst; rw [hz, hd, hR]
    exact pad_hit c x V (K := fun _ => K) hr (by omega) (hh.1 h) (er.trans (by rw [hz])) (h1 h) (e1.trans (by rw [hp])) h2 hsm
  · rw [dif_neg h]
    iintro HP Hk
    iapply Hk
    iapply (pad_miss c x V (by omega) (fun e => h (hh.2 e)))
    iexact HP

/-- A guarded wait: taken where the tile's dead row count has its bit. -/
theorem wait_guard {t q : ℕ} (ht : t < 216) (hq : q < 9) {v : BitVec 32} (hv : v.toNat ≤ 320) (hR : R t = v.toNat)
    {cd : BitVec 1} (hcd : cd = cond (BitVec.ofNat 32 (2 ^ (8 - q))) v) {r : ℕ} (er : r = 8 * 2 ^ (8 - q))
    {o1 : Fin 2 → ℕ} {h1 : cd = 1#1 → ∀ a, o1 a + (![r, 128] : Fin 2 → ℕ) a ≤ S552960x128.size a}
    {h2 : ∀ a, (![0, 0] : Fin 2 → ℕ) a + (![r, 128] : Fin 2 → ℕ) a ≤ S2048x128.size a} {sem : DmaSem sig} (hs : sem = 3) {hsrc : cd = 1#1 → ((Memref.whole cc0_scratch0).slice (Rect.unit (s := S2048x128) ![0, 0] ![r, 128] h2) (fun _ => rfl)).view.WordExact} {hdst : ∀ h : cd = 1#1, ((Memref.whole main_v0).slice (Rect.unit (s := S552960x128) o1 ![r, 128] (h1 h)) (fun _ => rfl)).view.WordExact}
    {α : Type} {K : Prog (TpuEff nD τ sig (Elt F) Λ₀ .tc) α} {Q : α → sProp 𝕄} :
    waitSt c x P R (9 * t + q) ⊢ iprop((waitSt c x P R (9 * t + (q + 1)) -∗ wp frame (wpE defs₀ Variants.none (c : Thread nD τ) none) Set.univ K Q)
      -∗ wp frame (wpE defs₀ Variants.none (c : Thread nD τ) none) Set.univ
        (if h : cd = 1#1 then (Prog.lift (TpuEff.waitDma2 sem ((Memref.whole cc0_scratch0).slice (Rect.unit (s := S2048x128) ![0, 0] ![r, 128] h2) (fun _ => rfl)) ((Memref.whole main_v0).slice (Rect.unit (s := S552960x128) o1 ![r, 128] (h1 h)) (fun _ => rfl)) (hsrc h) (hdst h))) >>= fun _ => K else K) Q) := by
  have hm : (9 * t + q) % 9 = q := by omega
  have hd : (9 * t + q) / 9 = t := by omega
  have hz : zof (9 * t + q) = 2 ^ (8 - q) := by unfold zof; rw [hm]
  have hh : cd = 1#1 ↔ hit R (9 * t + q) := by
    unfold hit; rw [hz, hd, hR, hcd]
    exact cond_iff hv ⟨8 - q, by omega⟩
  by_cases h : cd = 1#1
  · rw [dif_pos h]
    simp only [Prog.lift, Prog.bind_op, Prog.bind_ret]
    exact wait_hit c x (K := fun _ => K) (by omega) (hh.1 h) (er.trans (by rw [hz])) hs (h1 h) h2
  · rw [dif_neg h]
    iintro HP Hk
    iapply Hk
    unfold waitSt
    rw [show 9 * t + (q + 1) = 9 * t + q + 1 from rfl, cnt_miss (fun e => h (hh.2 e))]
    iexact HP

/-- Trip `k` of the zero copies' loop sends tile `k`'s. -/
theorem pad_trip (i : grid0.Coords) (rws : IVec S216 32) {q : PosShare TreeShare} (hr : Routed P (rowsOf rws)) (h1 : k0_cond1 i = 1#1)
    (k : Fin k0_t1_loop.trips) (acc : Unit) :
    iprop((ℓr c ↦{q} rws) ∗ padSt c x V P (rowsOf rws) (9 * k.val))
      ⊢ wp frame (wpE defs₀ Variants.none (c : Thread nD τ) none) Set.univ
        (k0_t1_body (F := F) i (Memref.whole main_arg0) (Memref.isWhole_whole _) (Memref.whole main_arg1) (Memref.isWhole_whole _) arg3 harg3
          (Memref.whole main_v0) (Memref.isWhole_whole _) (Memref.whole cc0_scratch0) (Memref.isWhole_whole _) cc0_scratch1 h1 k acc)
        (fun _ => iprop((ℓr c ↦{q} rws) ∗ padSt c x V P (rowsOf rws) (9 * (k.val + 1)))) := by
  have hk : k.val < 216 := lt1 k
  have hv : ∀ t : Fin 216, (rws (ix1 t)).toNat ≤ 320 := fun t => by
    have := hr.rows t.val
    unfold rowsOf at this
    rwa [dif_pos t.2] at this
  have hR : rowsOf rws k.val = (rws (ix1 ⟨k.val, hk⟩)).toNat := by unfold rowsOf; rw [dif_pos hk]
  have hb := hv ⟨k.val, hk⟩
  unfold k0_t1_body
  rw [k0_part1_eq_skeleton]
  unfold k0_part1_skel
  simp only [bind_assoc, pure_bind]
  iintro ⟨Hp, HT⟩
  iapply (row_word c rws (rowWord k) hk hv (chk := k0_chk1 i k) (fun v h => chk1 k h i)) $$ Hp
  iintro Hp %h0
  rw [wp_bind]
  iapply (pad_guard c x V (q := 0) hk (by decide) hb hR hr (r := 2048) rfl rfl (off2 k hb) rfl) $$ HT
  iintro HT
  iapply (pad_guard c x V (q := 1) hk (by decide) hb hR hr (r := 1024) rfl rfl (off3 k hb) rfl) $$ HT
  iintro HT
  iapply (pad_guard c x V (q := 2) hk (by decide) hb hR hr (r := 512) rfl rfl (off4 k hb) rfl) $$ HT
  iintro HT
  iapply (pad_guard c x V (q := 3) hk (by decide) hb hR hr (r := 256) rfl rfl (off5 k hb) rfl) $$ HT
  iintro HT
  rw [wp_pure]
  imodintro
  dsimp only
  iapply (pad_guard c x V (q := 4) hk (by decide) hb hR hr (r := 128) rfl rfl (off6 k hb) rfl) $$ HT
  iintro HT
  iapply (pad_guard c x V (q := 5) hk (by decide) hb hR hr (r := 64) rfl rfl (off7 k hb) rfl) $$ HT
  iintro HT
  iapply (pad_guard c x V (q := 6) hk (by decide) hb hR hr (r := 32) rfl rfl (off8 k hb) rfl) $$ HT
  iintro HT
  iapply (pad_guard c x V (q := 7) hk (by decide) hb hR hr (r := 16) rfl rfl (off9 k hb) rfl) $$ HT
  iintro HT
  iapply (pad_guard c x V (q := 8) hk (by decide) hb hR hr (r := 8) rfl rfl (off10 k hb) rfl) $$ HT
  iintro HT
  simp only [Prog.pure_eq_ret]
  sl_step
  isplitl [Hp]; · iexact Hp
  iexact HT

/-- Trip `k` of the last loop waits for tile `k`'s zero copies. -/
theorem wait_trip (i : grid0.Coords) (rws : IVec S216 32) {q : PosShare TreeShare} (hr : Routed P (rowsOf rws)) (h1 : k0_cond11 i = 1#1)
    (k : Fin k0_t3_loop.trips) (acc : Unit) :
    iprop((ℓr c ↦{q} rws) ∗ waitSt c x P (rowsOf rws) (9 * k.val))
      ⊢ wp frame (wpE defs₀ Variants.none (c : Thread nD τ) none) Set.univ
        (k0_t3_body (F := F) i (Memref.whole main_arg0) (Memref.isWhole_whole _) (Memref.whole main_arg1) (Memref.isWhole_whole _) arg3 harg3
          (Memref.whole main_v0) (Memref.isWhole_whole _) (Memref.whole cc0_scratch0) (Memref.isWhole_whole _) cc0_scratch1 h1 k acc)
        (fun _ => iprop((ℓr c ↦{q} rws) ∗ waitSt c x P (rowsOf rws) (9 * (k.val + 1)))) := by
  have hk : k.val < 216 := lt1 k
  have hv : ∀ t : Fin 216, (rws (ix1 t)).toNat ≤ 320 := fun t => by
    have := hr.rows t.val
    unfold rowsOf at this
    rwa [dif_pos t.2] at this
  have hR : rowsOf rws k.val = (rws (ix1 ⟨k.val, hk⟩)).toNat := by unfold rowsOf; rw [dif_pos hk]
  have hb := hv ⟨k.val, hk⟩
  unfold k0_t3_body
  rw [k0_part4_eq_skeleton]
  unfold k0_part4_skel
  simp only [bind_assoc, pure_bind]
  iintro ⟨Hp, HT⟩
  iapply (row_word c rws (rowWord k) hk hv (chk := k0_chk10 i k) (fun v h => chk10 k h i)) $$ Hp
  iintro Hp %h0
  rw [wp_bind]
  iapply (wait_guard c x (q := 0) hk (by decide) hb hR (r := 2048) rfl rfl rfl) $$ HT
  iintro HT
  iapply (wait_guard c x (q := 1) hk (by decide) hb hR (r := 1024) rfl rfl rfl) $$ HT
  iintro HT
  iapply (wait_guard c x (q := 2) hk (by decide) hb hR (r := 512) rfl rfl rfl) $$ HT
  iintro HT
  iapply (wait_guard c x (q := 3) hk (by decide) hb hR (r := 256) rfl rfl rfl) $$ HT
  iintro HT
  rw [wp_pure]
  imodintro
  dsimp only
  iapply (wait_guard c x (q := 4) hk (by decide) hb hR (r := 128) rfl rfl rfl) $$ HT
  iintro HT
  iapply (wait_guard c x (q := 5) hk (by decide) hb hR (r := 64) rfl rfl rfl) $$ HT
  iintro HT
  iapply (wait_guard c x (q := 6) hk (by decide) hb hR (r := 32) rfl rfl rfl) $$ HT
  iintro HT
  iapply (wait_guard c x (q := 7) hk (by decide) hb hR (r := 16) rfl rfl rfl) $$ HT
  iintro HT
  iapply (wait_guard c x (q := 8) hk (by decide) hb hR (r := 8) rfl rfl rfl) $$ HT
  iintro HT
  simp only [Prog.pure_eq_ret]
  sl_step
  isplitl [Hp]; · iexact Hp
  iexact HT

end Cert.KernelIdeal.Hand
-- ==== Proof.Run.lean ====
module

public import proofs.«01_k».proof.Proof.PadLoop

@[expose] public section

set_option maxRecDepth 65536

noncomputable section

namespace Cert.KernelIdeal.Hand

open Cert.KernelIdeal Cert.KernelIdeal.Gen Cert.KernelIdeal.Words
open Cert.Pre_routed (Routed slotOf rowsOf)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) {P R : ℕ → ℕ} (x : S262144x128.Idx → F .f32) (V : S552960x128.Idx → F .f32)
  (arg3 : Memref sig .tc .vmem S32768x128 .f32) (harg3 : arg3.IsWhole) (fx : Buf (Elt F) (arg3.view.loc (c : Thread nD τ)))

/-- The rows left to the zero copies, at contents `W`. -/
abbrev padsAt (R : ℕ → ℕ) (W : S552960x128.Idx → F .f32) : sProp 𝕄 :=
  bigSep (Finset.Ico 0 1944) (fun t => (ℓo c ↦[pset' R t]{fullShare} W : sProp 𝕄))

/-- Between the grid points: every zero copy in flight. -/
def padMid (P R : ℕ → ℕ) : sProp 𝕄 :=
  iprop(padSt c x V P R 1944 ∗ (ℓz c ↦{Transfers.shareDrop fullShare (cnt R 1944)} zr))

/-- The zero copies' state before grid point `p`. -/
def padAt (P R : ℕ → ℕ) (p : ℕ) : sProp 𝕄 :=
  if p = 0 then iprop(semVal ((c : Thread nD τ), SemLoc.dma 3) 0 ∗ (∃ f : Buf (Elt F) (ℓz c), ℓz c ↦{fullShare} f) ∗ padsAt c R V)
  else if p < 8 then padMid c x V P R
  else iprop(semVal ((c : Thread nD τ), SemLoc.dma 3) 0 ∗ (ℓz c ↦{fullShare} zr) ∗ padsAt c R (out P x))

/-- The scratch stored whole holds zero. -/
theorem zero_store (f : Buf (Elt F) (ℓz c)) :
    ((Memref.whole cc0_scratch0).access (Rect.unit (s := S2048x128) ![0, 0] S2048x128.size inb_S2048x128_S2048x128_0_0)).write (Elt F) f (k0_pay1 (F := F)) Finset.univ = zr := by
  funext y
  have hs : ((Memref.whole cc0_scratch0).access (Rect.unit (s := S2048x128) ![0, 0] S2048x128.size inb_S2048x128_S2048x128_0_0)).set = rows 2048 0 2048 := by
    show ((View.whole cc0_scratch0).slice _).set = _
    rw [View.set_slice_whole]; exact rect_rows _
  have hy : y ∈ rows 2048 0 2048 := mem_rows.2 ⟨Nat.zero_le _, (y 0).2⟩
  rw [← hs] at hy
  obtain ⟨z, -, rfl⟩ := Finset.mem_map.1 hy
  rw [View.write_emb_of_mem _ _ (Finset.mem_univ _)]
  rfl

/-- The first grid point zeroes the scratch and sends every zero copy; the others leave those in flight. -/
theorem head (i : grid0.Coords) (rws : IVec S216 32) {q : PosShare TreeShare} (hr : Routed P (rowsOf rws))
    {α : Type} {K : Prog (TpuEff nD τ sig (Elt F) Λ₀ .tc) α} {Q : α → sProp 𝕄} {hl hm} :
    iprop(padAt c x V P (rowsOf rws) (i 0).val ∗ (ℓr c ↦{q} rws))
      ⊢ iprop((padMid c x V P (rowsOf rws) ∗ (ℓr c ↦{q} rws) -∗ wp frame (wpE defs₀ Variants.none (c : Thread nD τ) none) Set.univ K Q)
        -∗ wp frame (wpE defs₀ Variants.none (c : Thread nD τ) none) Set.univ (if h : k0_cond1 i = 1#1 then
          (Prog.lift (TpuEff.load (Memref.whole cc0_scratch0) (Rect.unit (s := S2048x128) ![0, 0] S2048x128.size inb_S2048x128_S2048x128_0_0).toLoadRect hl) >>= fun _ =>
            Prog.lift (TpuEff.store (Memref.whole cc0_scratch0) (Rect.unit (s := S2048x128) ![0, 0] S2048x128.size inb_S2048x128_S2048x128_0_0) k0_pay1 Finset.univ hm (Or.inl rfl)) >>= fun _ =>
            Scf.Loop.for k0_t1_loop (k0_t1_ok i h) ⟨⟩ (k0_t1_body (F := F) i (Memref.whole main_arg0) (Memref.isWhole_whole _) (Memref.whole main_arg1) (Memref.isWhole_whole _) arg3 harg3
          (Memref.whole main_v0) (Memref.isWhole_whole _) (Memref.whole cc0_scratch0) (Memref.isWhole_whole _) cc0_scratch1 h) >>= fun _ => K)
          else K) Q) := by
  by_cases h : k0_cond1 i = 1#1
  · rw [dif_pos h, (first_iff i).1 h]
    simp only [Prog.lift, Prog.bind_op, Prog.bind_ret]
    unfold padAt
    rw [if_pos rfl]
    iintro ⟨⟨Hv, ⟨%f, Hz⟩, Hd⟩, Hr⟩ Hk
    iapply (wp_load Variants.none (c : Thread nD τ) none Set.univ (m := Memref.whole cc0_scratch0) (Finset.subset_univ _)) $$ Hz
    iintro Hz
    iapply (wp_store Variants.none (c : Thread nD τ) none Set.univ (m := Memref.whole cc0_scratch0)
      (r := Rect.unit (s := S2048x128) ![0, 0] S2048x128.size inb_S2048x128_S2048x128_0_0) (Mk := Finset.univ) (Finset.subset_univ _)) $$ Hz
    rw [zero_store]
    iintro Hz
    imod (pad_start c x V (P := P) (R := rowsOf rws)) $$ [Hv Hd Hz] with ⟨HT, Hz⟩
    · isplitl [Hv]; · iexact Hv
      isplitl [Hd]; · iexact Hd
      iexact Hz
    iapply (Scf.wp_for_bind frame (wpE defs₀ Variants.none (c : Thread nD τ) none) Set.univ _ _ _ (k0_t1_ok i h) ⟨⟩ _
      (fun k _ => iprop((ℓr c ↦{q} rws) ∗ padSt c x V P (rowsOf rws) (9 * k))) (fun k acc => pad_trip c x V arg3 harg3 i rws hr h k acc)) $$ [Hr HT]
    · isplitl [Hr]; · iexact Hr
      iexact HT
    iintro %acc ⟨Hr, HT⟩
    rw [show Scf.trips k0_t1_loop.lb k0_t1_loop.ub k0_t1_loop.st = 216 from trips1]
    iapply Hk
    isplitr [Hr]
    · unfold padMid
      isplitl [HT]; · iexact HT
      iexact Hz
    · iexact Hr
  · rw [dif_neg h]
    have h0 : (i 0).val ≠ 0 := fun e => h ((first_iff i).2 e)
    unfold padAt
    rw [if_neg h0, if_pos (show (i 0).val < 8 from (i 0).2)]
    iintro H Hk
    iapply Hk
    iexact H

/-- The last grid point waits for every zero copy; the others leave those in flight. -/
theorem tail (i : grid0.Coords) (rws : IVec S216 32) {q : PosShare TreeShare} (hr : Routed P (rowsOf rws)) {Q : Unit → sProp 𝕄} :
    iprop(padMid c x V P (rowsOf rws) ∗ (ℓr c ↦{q} rws) ∗ (∃ W, owes (c : Thread nD τ) 0 W))
      ⊢ iprop((padAt c x V P (rowsOf rws) ((i 0).val + 1) ∗ (ℓr c ↦{q} rws) ∗ (∃ W, owes (c : Thread nD τ) 0 W) -∗ Q ⟨⟩)
        -∗ wp frame (wpE defs₀ Variants.none (c : Thread nD τ) none) Set.univ (if h : k0_cond11 i = 1#1 then
          (Scf.Loop.for k0_t3_loop (k0_t3_ok i h) ⟨⟩ (k0_t3_body (F := F) i (Memref.whole main_arg0) (Memref.isWhole_whole _) (Memref.whole main_arg1) (Memref.isWhole_whole _) arg3 harg3
          (Memref.whole main_v0) (Memref.isWhole_whole _) (Memref.whole cc0_scratch0) (Memref.isWhole_whole _) cc0_scratch1 h) >>= fun _ => Pure.pure ⟨⟩)
          else Pure.pure ⟨⟩) Q) := by
  have hi : (i 0).val < 8 := (i 0).2
  by_cases h : k0_cond11 i = 1#1
  · rw [dif_pos h, (last_iff i).1 h]
    unfold padAt padMid padSt
    rw [if_neg (by decide), if_neg (by decide)]
    iintro ⟨⟨⟨HB, -, -, Hp⟩, Hz⟩, Hr, HO⟩ Hk
    iapply (Scf.wp_for_bind frame (wpE defs₀ Variants.none (c : Thread nD τ) none) Set.univ _ _ _ (k0_t3_ok i h) ⟨⟩ _
      (fun k _ => iprop((ℓr c ↦{q} rws) ∗ waitSt c x P (rowsOf rws) (9 * k))) (fun k acc => wait_trip c x arg3 harg3 i rws hr h k acc)) $$ [Hr HB HO]
    · isplitl [Hr]; · iexact Hr
      unfold waitSt
      isplitl [HB]; · iexact HB
      iexact HO
    iintro %acc ⟨Hr, HT⟩
    rw [show Scf.trips k0_t3_loop.lb k0_t3_loop.ub k0_t3_loop.st = 216 from trips3]
    unfold waitSt
    icases HT with ⟨HB, HO⟩
    imod (pad_end c x hr) $$ [HB Hp Hz] with ⟨Hd, Hz, Hv⟩
    · isplitl [HB]; · iexact HB
      isplitl [Hp]; · iexact Hp
      iexact Hz
    rw [wp_pure]
    imodintro
    iapply Hk
    isplitr [Hr HO]
    · isplitl [Hv]; · iexact Hv
      isplitl [Hz]; · iexact Hz
      iexact Hd
    isplitl [Hr]; · iexact Hr
    iexact HO
  · rw [dif_neg h]
    have h0 : (i 0).val ≠ 7 := fun e => h ((last_iff i).2 e)
    unfold padAt
    rw [if_neg (by omega), if_pos (show (i 0).val + 1 < 8 by omega), wp_pure]
    iintro H Hk
    imodintro
    iapply Hk
    iexact H

/-- The tokens' rows before grid point `p`: the earlier points' at the result's contents, the later ones' as they were. -/
def tokAt (P : ℕ → ℕ) (p : ℕ) : sProp 𝕄 :=
  iprop(bigSep (Finset.Ico 0 (4096 * p)) (fun t => (ℓo c ↦[tset P t]{fullShare} out P x : sProp 𝕄))
    ∗ bigSep (Finset.Ico (4096 * p) 32768) (fun t => (ℓo c ↦[tset P t]{fullShare} V : sProp 𝕄)))

/-- A block of the tokens' rows at a time. -/
theorem bigSep_Ico_split (Φ : ℕ → sProp 𝕄) {a b d : ℕ} (hab : a ≤ b) (hbd : b ≤ d) :
    bigSep (Finset.Ico a d) Φ = iprop(bigSep (Finset.Ico a b) Φ ∗ bigSep (Finset.Ico b d) Φ) := by
  rw [← Finset.Ico_union_Ico_eq_Ico hab hbd]
  exact bigSep_union (Finset.Ico_disjoint_Ico_consecutive a b d)

/-- One grid point of the kernel. -/
theorem point (i : grid0.Coords) (pos : IVec S32768 32) (rws : IVec S216 32) {q q' : PosShare TreeShare} (hr : Routed (slotOf pos) (rowsOf rws))
    (hfx : ∀ y : S32768x128.Idx, arg3.view.read (Elt F) fx y = x (ix2 ⟨32768 * (i 0).val + (y 0).val, by have : (y 0).val < 32768 := (y 0).2; have : (i 0).val < 8 := (i 0).2; omega⟩ (y 1))) :
    iprop(padAt c x V (slotOf pos) (rowsOf rws) (i 0).val ∗ tokAt c x V (slotOf pos) (i 0).val ∗ semVal ((c : Thread nD τ), SemLoc.dma 2) 0
        ∗ (ℓp c ↦{q'} pos) ∗ (ℓr c ↦{q} rws) ∗ (arg3.view.loc (c : Thread nD τ) ↦[arg3.view.set]{fullShare} fx) ∗ (∃ W, owes (c : Thread nD τ) 0 W))
      ⊢ wp frame (wpE defs₀ Variants.none (c : Thread nD τ) none) Set.univ (cc0_dispatch (F := F) i (Memref.whole main_arg0) (Memref.isWhole_whole _) (Memref.whole main_arg1) (Memref.isWhole_whole _) arg3 harg3
          (Memref.whole main_v0) (Memref.isWhole_whole _) (Memref.whole cc0_scratch0) (Memref.isWhole_whole _) cc0_scratch1)
        (fun _ => iprop(padAt c x V (slotOf pos) (rowsOf rws) ((i 0).val + 1) ∗ tokAt c x V (slotOf pos) ((i 0).val + 1) ∗ semVal ((c : Thread nD τ), SemLoc.dma 2) 0
        ∗ (ℓp c ↦{q'} pos) ∗ (ℓr c ↦{q} rws) ∗ (arg3.view.loc (c : Thread nD τ) ↦[arg3.view.set]{fullShare} fx) ∗ (∃ W, owes (c : Thread nD τ) 0 W))) := by
  have hi : (i 0).val < 8 := (i 0).2
  rw [cc0_dispatch_eq_skeleton]
  unfold cc0_dispatch_skel
  simp only [bind_assoc, pure_bind]
  unfold tokAt
  rw [bigSep_Ico_split (a := 4096 * (i 0).val) (b := 4096 * (i 0).val + 4096) (d := 32768) _ (by omega) (by omega)]
  iintro ⟨HP, ⟨Hdone, Hnow, Hlater⟩, Hv, Hp, Hr, Hx, %W, HO⟩
  iapply (head c x V arg3 harg3 i rws hr) $$ [HP Hr]
  · isplitl [HP] <;> iassumption
  iintro ⟨HP, Hr⟩
  imod (tok_start c x V arg3 fx (P := slotOf pos) (i 0).val) $$ [Hv Hnow Hx] with HT
  · isplitl [Hv]; · iexact Hv
    isplitl [Hnow]; · iexact Hnow
    iexact Hx
  iapply (Scf.wp_for_bind frame (wpE defs₀ Variants.none (c : Thread nD τ) none) Set.univ _ _ _ k0_t2_ok ⟨⟩ _
    (fun k _ => iprop((ℓp c ↦{q'} pos) ∗ tokSt c x V arg3 fx (slotOf pos) (i 0).val (8 * k))) (fun k acc => tok_trip c x V arg3 harg3 fx i pos hr hfx k acc)) $$ [Hp HT]
  · isplitl [Hp]; · iexact Hp
    iexact HT
  iintro %acc ⟨Hp, HT⟩
  rw [show Scf.trips k0_t2_loop.lb k0_t2_loop.ub k0_t2_loop.st = 512 from trips2]
  iapply (tok_wait c x V arg3 fx rfl (by decide +kernel)) $$ [HT HO]
  · isplitl [HT]; · iexact HT
    iexact HO
  iintro ⟨Hnow, Hx, Hv, HO⟩
  iapply (tail c x V arg3 harg3 i rws hr) $$ [HP Hr HO]
  · isplitl [HP]; · iexact HP
    isplitl [Hr]; · iexact Hr
    iexact HO
  iintro ⟨HP, Hr, HO⟩
  isplitl [HP]; · iexact HP
  isplitl [Hdone Hnow Hlater]
  · rw [Nat.mul_add, Nat.mul_one, bigSep_Ico_split (a := 0) (b := 4096 * (i 0).val) (d := 4096 * (i 0).val + 4096) _ (by omega) (by omega)]
    isplitl [Hdone Hnow]
    · isplitl [Hdone]; · iexact Hdone
      iexact Hnow
    · iexact Hlater
  isplitl [Hv]; · iexact Hv
  isplitl [Hp]; · iexact Hp
  isplitl [Hr]; · iexact Hr
  isplitl [Hx]; · iexact Hx
  iexact HO

end Cert.KernelIdeal.Hand
-- ==== Proof.Whole.lean ====
module

public import proofs.«01_k».proof.Proof.Run

public import Idealize.ShloMosaic.Lib.Pipeline.FrameValue

@[expose] public section

set_option maxRecDepth 65536

noncomputable section

namespace Cert.KernelIdeal.Hand

open Cert.KernelIdeal Cert.KernelIdeal.Gen Cert.KernelIdeal.Words
open Cert.Pre_routed (Routed slotOf rowsOf)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The call -/

variable (m : (ℓ : Loc nD τ sig) → Buf (Elt F) ℓ) (ρ : Dev nD → PrngReg)

/-- The buffers of core `c` as the call finds them. -/
def V (c : Dev nD) (b : Ref sig .tc) : Buf (Elt F) ((c : Thread nD τ).loc b) := m ((c : Thread nD τ).loc b)

/-- The tokens' slots, the first table. -/
def pos (c : Dev nD) : IVec S32768 32 := m ((c : Thread nD τ).loc main_arg0)
/-- The tiles' counts, the second table. -/
def rws (c : Dev nD) : IVec S216 32 := m ((c : Thread nD τ).loc main_arg1)
/-- The tokens' rows. -/
def xs (c : Dev nD) : S262144x128.Idx → F .f32 := m ((c : Thread nD τ).loc main_arg2)
/-- The result as the call finds it. -/
def old (c : Dev nD) : S552960x128.Idx → F .f32 := m ((c : Thread nD τ).loc main_v0)

/-- The tables' contents. -/
def adm : (p : Fin 1) → (pcfgs (F := F) p).Adm :=
  fun _ => ⟨fun k => m (((0 : Dev nD).tc : Thread nD τ).loc (pre0.ref k)), trivial⟩

/-- The call's pipeline at these tables. -/
abbrev cfgs : Fin 1 → Cfg sig Λ₀ := Pipeline.pin pcfgs (adm m)

/-- The grid has one axis. -/
theorem coords0 : ∀ t : Fin grid0.N, (grid0.coords t 0).val = t.val := by decide

/-- Grid point `t`'s block of the tokens' rows. -/
def blk (c : Dev nD) (t : Fin grid0.N) : S32768x128.Idx → F .f32 := fun y =>
  xs m c (ix2 ⟨32768 * (grid0.coords t 0).val + (y 0).val, by
    have : (y 0).val < 32768 := (y 0).2
    have : (grid0.coords t 0).val < 8 := (grid0.coords t 0).2
    omega⟩ (y 1))

/-- The call's semaphores of its own. -/
abbrev osem0 : Fin 2 → SemLoc sig := fun j => (![.dma 2, .dma 3] : Fin 2 → SemLoc sig) j

theorem own0 : Pipeline.OwnSemFacts spec0 osem0 := by decide

/-- The state before grid point `p`: the tables, the generator, the copies. -/
def st (c : Dev nD) (p : ℕ) : sProp 𝕄 :=
  iprop(padAt c (xs m c) (old m c) (slotOf (pos m c)) (rowsOf (rws m c)) p ∗ tokAt c (xs m c) (old m c) (slotOf (pos m c)) p
    ∗ semVal ((c : Thread nD τ), SemLoc.dma 2) 0 ∗ (ℓp c ↦{fullShare.right} pos m c) ∗ (ℓr c ↦{fullShare.right} rws m c) ∗ (∃ r, prngReg c r))

/-- The proof data of the call. -/
def dats (p : Fin 1) (c : Dev nD) : Dat τ (Elt F) Unit ℕ (Pipeline.UD sig nD τ) ℕ (cfgs m p) c where
  A w := V m c (Pipeline.arrRef spec0 w)
  after w t := match w with
    | ⟨0, _⟩ => blk m c t
  Φ t := st m c t.val
  q _ := fullShare
  owed _ := 0

theorem A_eq (c : Dev nD) (w : Fin (cfgs m 0).W) : (dats m 0 c).A w = V m c (Pipeline.arrRef spec0 w) := by
  dsimp only [dats]
theorem after0 (c : Dev nD) (t : Fin grid0.N) : (dats m 0 c).after 0 t = blk m c t := rfl

theorem tr0 : ∀ i : grid0.Coords, (cc0_transform_0 i) 0 = (i 0).val := by
  intro i
  have : (i 0).val < 8 := (i 0).2
  show (BitVec.ofNat 32 (i 0).val).toNat = _
  rw [BitVec.toNat_ofNat, Nat.mod_eq_of_lt (by omega)]

/-- The block's rows inside the array. -/
theorem block_read (c : Dev nD) (t : Fin grid0.N) : (dats m 0 c).blockOf 0 t = blk m c t := by
  funext y
  unfold Dat.blockOf blk
  rw [View.read_apply, A_eq]
  have h0 : (cc0_transform_0 (grid0.coords t)) 0 = (grid0.coords t 0).val := tr0 _
  have h1 : (cc0_transform_0 (grid0.coords t)) 1 = 0 := rfl
  unfold V xs
  refine congrArg (m ((c : Thread nD τ).loc main_arg2)) ?_
  funext a
  refine Fin.ext ?_
  match a with
  | ⟨0, _⟩ =>
    show (cc0_transform_0 (grid0.coords t)) 0 * 32768 + 1 * (y (0 : Fin 2)).val = 32768 * (grid0.coords t 0).val + (y (0 : Fin 2)).val
    rw [h0]; omega
  | ⟨1, _⟩ =>
    show (cc0_transform_0 (grid0.coords t)) 1 * 128 + 1 * (y (1 : Fin 2)).val = (y (1 : Fin 2)).val
    rw [h1]; omega

/-- The staging buffer holds the block. -/
theorem before0 (c : Dev nD) (t : Fin grid0.N) (d) : (dats m 0 c).before 0 t d = blk m c t := by
  unfold Dat.before
  have hf : ((cfgs m 0).win 0).fetch t = true := by
    have key : t.val = 0 ∨ ∃ _ : 0 < t.val, ((cfgs m 0).win 0).index t
        ≠ ((cfgs m 0).win 0).index ⟨t.val - 1, Nat.lt_of_le_of_lt (Nat.sub_le _ _) t.isLt⟩ := by
      rcases Nat.eq_zero_or_pos t.val with h | h
      · exact .inl h
      · refine .inr ⟨h, fun e => ?_⟩
        have e0 : (cc0_transform_0 (grid0.coords t)) 0
            = (cc0_transform_0 (grid0.coords ⟨t.val - 1, Nat.lt_of_le_of_lt (Nat.sub_le _ _) t.isLt⟩)) 0 := congrFun e (0 : Fin 2)
        rw [tr0, tr0, coords0, coords0] at e0
        simp only at e0
        omega
    simp only [Pipeline.Window.fetch, Bool.and_eq_true, Bool.not_eq_true', Bool.or_eq_true, decide_eq_true_eq]
    exact ⟨by first | rfl | trivial, key⟩
  rw [if_pos hf, ← block_read]
  rfl

abbrev ms0 (t : Fin grid0.N) : Memref sig .tc .vmem S32768x128 .f32 := ((cfgs m 0).win 0).stage ((cfgs m 0).slots t 0)
abbrev hs0 (t : Fin grid0.N) : (ms0 m t).IsWhole := hstage0_0 ((((cfgs m 0).slots t 0)).cast nbuf0_0)

def bodyPre (c : Dev nD) (t : Fin grid0.N) : sProp 𝕄 :=
  iprop((dats m 0 c).Φ t.castSucc ∗ (dats m 0 c).owesAt () t.castSucc
    ∗ (∃ d, owns (c : Thread nD τ) (ms0 m t) fullShare ((dats m 0 c).before 0 t d)))
def bodyPost (c : Dev nD) (t : Fin grid0.N) : sProp 𝕄 :=
  iprop((dats m 0 c).Φ t.succ ∗ (dats m 0 c).owesAt () t.succ
    ∗ owns (c : Thread nD τ) (ms0 m t) fullShare ((dats m 0 c).after 0 t))
def bodyAt (t : Fin grid0.N) : Prog (TpuEff nD τ sig (Elt F) Λ₀ .tc) PUnit :=
  cc0_dispatch (F := F) (grid0.coords t) (Memref.whole main_arg0) (Memref.isWhole_whole _) (Memref.whole main_arg1) (Memref.isWhole_whole _) (ms0 m t) (hs0 m t)
    (Memref.whole main_v0) (Memref.isWhole_whole _) (Memref.whole cc0_scratch0) (Memref.isWhole_whole _) cc0_scratch1

/-- One grid point keeps the call's state. -/
theorem sound_body (hr : ∀ c, Routed (slotOf (pos m c)) (rowsOf (rws m c))) (c : Dev nD) (t : Fin grid0.N) :
    bodyPre m c t ⊢ wp frame (wpE (defs₀ (F := F)) Variants.none c none) Set.univ (bodyAt m t) (fun _ => bodyPost m c t) := by
  unfold bodyPre bodyPost bodyAt
  rw [show (dats m 0 c).Φ t.succ = st m c (t.val + 1) from rfl, show (dats m 0 c).Φ t.castSucc = st m c t.val from rfl, after0]
  simp only [before0]
  unfold Dat.owesAt Pipeline.owesWithin
  rw [show (dats m 0 c).owed t.castSucc = 0 from rfl, show (dats m 0 c).owed t.succ = 0 from rfl]
  unfold owns st
  rw [← coords0 t]
  iintro ⟨⟨HP, HT, Hv, Hp, Hr, Hg⟩, ⟨%W, -, HW⟩, ⟨%d, %fx, %hfx, Hx⟩⟩
  iapply (wp_wand_r frame (wpE (defs₀ (F := F)) Variants.none (c : Thread nD τ) none) Set.univ)
  isplitr [Hg]
  · iapply (point c (xs m c) (old m c) (ms0 m t) (hs0 m t) fx (grid0.coords t) (pos m c) (rws m c) (hr c) (fun y => congrFun hfx y))
    isplitl [HP]; · iexact HP
    isplitl [HT]; · iexact HT
    isplitl [Hv]; · iexact Hv
    isplitl [Hp]; · iexact Hp
    isplitl [Hr]; · iexact Hr
    isplitl [Hx]; · iexact Hx
    iexists W; iexact HW
  iintro %a ⟨HP, HT, Hv, Hp, Hr, Hx, %W', HW'⟩
  isplitl [HP HT Hv Hp Hr Hg]
  · isplitl [HP]; · iexact HP
    isplitl [HT]; · iexact HT
    isplitl [Hv]; · iexact Hv
    isplitl [Hp]; · iexact Hp
    isplitl [Hr]; · iexact Hr
    iexact Hg
  isplitl [HW']
  · iexists W'; isplitr; · ipureintro; exact fun _ _ => Or.inl trivial
    iexact HW'
  iexists fx; isplitr; · ipureintro; exact hfx
  iexact Hx

theorem defs₀_row (t : Fin grid0.N) :
    defs₀ (F := F) .tc (cfgs m 0).body ((cfgs m 0).bodyArgs t ((cfgs m 0).slots t)) = bodyAt m t := by
  unfold defs₀; rw [Defs.onTc_tc]; rfl

theorem body_obligation (hr : ∀ c, Routed (slotOf (pos m c)) (rowsOf (rws m c))) (c : Dev nD) :
    BodyObligation (dats m 0 c) (defs₀ (F := F)) Variants.none () Set.univ := fun t => by
  rw [bigSep_W0, bigSep_W0, defs₀_row]
  exact triple_restated (sound_body m hr c t) rfl .rfl fun _ => .rfl

/-! ## The launch -/

/-- The result whole is the tokens' rows and the zero copies' rows. -/
theorem whole_eq {P R : ℕ → ℕ} (hr : Routed P R) (c : Dev nD) (W : S552960x128.Idx → F .f32) :
    (ℓo c ↦{fullShare} W : sProp 𝕄)
      = iprop(bigSep (Finset.Ico 0 32768) (fun t => (ℓo c ↦[tset P t]{fullShare} W : sProp 𝕄)) ∗ padsAt c R W) := by
  have hd : Disjoint ((Finset.Ico 0 32768).biUnion (tset P)) ((Finset.Ico 0 1944).biUnion (pset' R)) := by
    rw [Finset.disjoint_biUnion_left]
    intro t ht
    rw [Finset.disjoint_biUnion_right]
    intro k _
    exact tset_pset_disjoint hr (Finset.mem_Ico.1 ht).2
  have hT := pointsTo_biUnion (ℓ := ℓo c) (q := fullShare) (f := W) (Val := Elt F) (nD := nD) (τ := τ) (sig := sig) (Ix := Unit) (Name := ℕ) (U := Pipeline.UD sig nD τ) (Lvl := ℕ)
    (Finset.Ico 0 32768) (tset P) (fun t ht t' ht' h => tset_disjoint hr (Finset.mem_Ico.1 ht).2 (Finset.mem_Ico.1 ht').2 h)
  have hP := pointsTo_biUnion (ℓ := ℓo c) (q := fullShare) (f := W) (Val := Elt F) (nD := nD) (τ := τ) (sig := sig) (Ix := Unit) (Name := ℕ) (U := Pipeline.UD sig nD τ) (Lvl := ℕ)
    (Finset.Ico 0 1944) (pset' R) (fun k _ k' _ h => pset_disjoint hr h)
  have hu := (pointsTo_union (ℓ := ℓo c) (q := fullShare) (f := W) (Val := Elt F) (nD := nD) (τ := τ) (sig := sig) (Ix := Unit) (Name := ℕ) (U := Pipeline.UD sig nD τ) (Lvl := ℕ) hd)
  have h := Idealize.SL.BI.Entails.antisymm hu.1 hu.2
  refine Eq.trans ?_ (h.trans (congrArg₂ (fun a b : sProp 𝕄 => iprop(a ∗ b)) hT hP))
  exact (congrArg (fun S => (ℓo c ↦[S]{fullShare} W : sProp 𝕄)) (cover hr)).symm

/-- The call writes one buffer in memory. -/
abbrev H0 : Finset (Ref sig .tc) := ∅
abbrev R0 : Finset (Ref sig .tc) := {main_v0}

/-- The buffers as the call leaves them. -/
def G (c : Dev nD) : (b : Ref sig .tc) → Buf (Elt F) ((c : Thread nD τ).loc b) :=
  Function.update (V m c) main_v0 (out (slotOf (pos m c)) (xs m c))

theorem G_v0 (c : Dev nD) : G m c main_v0 = out (slotOf (pos m c)) (xs m c) := Function.update_self _ _ _

theorem adm_eq (c : Dev nD) (k : Fin 2) : V m c (pre0.ref k) = (adm m 0).1 k := by
  have : c = 0 := Subsingleton.elim _ _
  subst this; rfl

/-- What the launch hands in, one by one. -/
theorem given_eq (c : Dev nD) (W : (c : Dev nD) → (b : Ref sig .tc) → Buf (Elt F) ((c : Thread nD τ).loc b)) :
    (Pipeline.ΦDRG osem0 spec0 H0 R0 (V m) W c : sProp 𝕄)
      = iprop((∃ f : Buf (Elt F) (ℓz c), ℓz c ↦{fullShare} f) ∗ (∃ r, prngReg c r)
          ∗ (semVal ((c : Thread nD τ), SemLoc.dma 2) 0 ∗ semVal ((c : Thread nD τ), SemLoc.dma 3) 0)
          ∗ emp ∗ (ℓo c ↦{fullShare} W c main_v0)) := by
  rw [Pipeline.ΦDRG_eq, scopedRest0_eq, Pipeline.ownSems0_eq_of_list c osem0 [0, 1] (by decide) (by decide)]
  unfold Pipeline.routed
  rw [bigSep_empty, bigSep_singleton]
  rfl

/-- The tables, one by one. -/
theorem tables_eq (c : Dev nD) :
    (Pipeline.ΦT pre0 (adm m 0).1 c : sProp 𝕄) = iprop((ℓp c ↦{fullShare.right} pos m c) ∗ (ℓr c ↦{fullShare.right} rws m c)) := by
  unfold Pipeline.ΦT Pipeline.prefHeld
  rw [bigSep_univ_eq_bigSepL [(0 : Fin 2), 1] (by decide) (by decide)]
  have e0 : (adm m 0).1 (0 : Fin 2) = pos m c := (adm_eq m c 0).symm
  have e1 : (adm m 0).1 (1 : Fin 2) = rws m c := (adm_eq m c 1).symm
  rw [← e0, ← e1]
  rfl

/-- The launch's resources are the state before the first point. -/
theorem enter (hr : ∀ c, Routed (slotOf (pos m c)) (rowsOf (rws m c))) (c : Dev nD) :
    iprop(Pipeline.ΦDRG osem0 spec0 H0 R0 (V m) (V m) c ∗ Pipeline.ΦT pre0 (adm m 0).1 c) ⊢ (st m c 0 : sProp 𝕄) := by
  rw [given_eq, tables_eq, show V m c main_v0 = old m c from rfl, whole_eq (hr c)]
  unfold st padAt tokAt
  rw [if_pos rfl, Nat.mul_zero, Finset.Ico_self, bigSep_empty]
  iintro ⟨⟨Hz, Hg, ⟨H2, H3⟩, He, HT, HP⟩, Hp, Hr⟩
  isplitl [H3 Hz HP]
  · isplitl [H3]; · iexact H3
    isplitl [Hz]; · iexact Hz
    iexact HP
  isplitl [HT He]
  · isplitl [He]; · iexact He
    iexact HT
  isplitl [H2]; · iexact H2
  isplitl [Hp]; · iexact Hp
  isplitl [Hr]; · iexact Hr
  iexact Hg

/-- The state after the last point has the result whole. -/
theorem leave (hr : ∀ c, Routed (slotOf (pos m c)) (rowsOf (rws m c))) (c : Dev nD) :
    (st m c 8 : sProp 𝕄) ⊢ Pipeline.ΦDRG osem0 spec0 H0 R0 (V m) (G m) c := by
  rw [given_eq, G_v0, whole_eq (hr c)]
  unfold st padAt tokAt
  rw [if_neg (by decide), if_neg (by decide), show 4096 * 8 = 32768 from rfl, Finset.Ico_self, bigSep_empty]
  iintro ⟨⟨H3, Hz, HP⟩, ⟨HT, He⟩, H2, -, -, Hg⟩
  isplitl [Hz]; · iexists _; iexact Hz
  isplitl [Hg]; · iexact Hg
  isplitl [H2 H3]
  · isplitl [H2]; · iexact H2
    iexact H3
  isplitl [He]; · iexact He
  isplitl [HT]; · iexact HT
  iexact HP

set_option backward.isDefEq.respectTransparency.types false in
/-- The run of the program: the counters at zero and the buffers at what the call leaves. -/
theorem run_main (hr : ∀ c, Routed (slotOf (pos m c)) (rowsOf (rws m c))) :
    θ_run defs (onTc (τ := τ) (main (F := F))) (s₀ m ρ)
      (fun r => Pipeline.FramePostRG (cfgs m) (dats m) 0 R0 (V m) (G m) r ∧ r.2.sem = fun _ => 0) :=
  Pipeline.θ_run_frameP_dmaRG (Q' := _) pcfgs (adm m) (dats m) (0 : Fin 1) launch0 osem0 defs₀ Variants.none own0 H0 R0 (show H0 ⊆ Pipeline.restRefsP sig pre0 spec0 by decide) (show R0 ⊆ Pipeline.restRefsP sig pre0 spec0 \ H0 by decide) m ρ main
    (hbody := fun c => (body_obligation m hr c).loose) (hshare := fun c => (dats m 0 c).share_full fun _ => rfl)
    (howed := fun _ _ => rfl) (V := V m)
    (hmain := Pipeline.hmainP_region pcfgs 0 defs₀ Variants.none m main (fun c => (main_chain c).trans rfl)) (hA := A_eq m)
    (hpf := adm_eq m) (G := G m) (hin := enter m hr) (hout := leave m hr)

/-- Every run ends with the arguments as they were, the result at the tokens' rows at their slots and zeros between
    them, and every counter at zero. -/
theorem run_post (hr : ∀ c, Routed (slotOf (pos m c)) (rowsOf (rws m c))) :
    θ_run defs (onTc (τ := τ) (main (F := F))) (s₀ m ρ)
      (fun r => (∀ c : Dev nD, r.2.mem ((c.tc : Thread nD τ).loc main_v0) = out (slotOf (pos m c)) (xs m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) := by
  refine (θ_run defs _ _).mono (fun r h => ?_) (run_main m ρ hr)
  obtain ⟨⟨hF, hG⟩, hs⟩ := h
  refine ⟨fun c => ⟨?_, ?_, ?_, ?_⟩, hs⟩
  · rw [← G_v0]; exact hG c main_v0 (by decide)
  · exact (hF c).2 main_arg0 (show main_arg0 ∈ Pipeline.restRefs sig spec0 \ R0 by decide)
  · exact (hF c).2 main_arg1 (show main_arg1 ∈ Pipeline.restRefs sig spec0 \ R0 by decide)
  · have h2 := (hF c).1 (0 : Fin 1)
    exact h2.trans ((dats m 0 c).arrAt_in (0 : Fin 1) rfl _)

end Cert.KernelIdeal.Hand

end
-- ==== Proof.Ref.lean ====
module

public import proofs.«01_k».proof.Proof.Gen.ReferenceIdeal.Run
public import proofs.«01_k».proof.Proof.Sets
public import Idealize.ShloMosaic.Lib.Routing.OpsSet
public import Idealize.ShloMosaic.Lib.Routing.OpsPair

@[expose] public section

noncomputable section

namespace Cert.ReferenceIdeal.Hand

open Cert.ReferenceIdeal Cert.ReferenceIdeal.Gen
open Cert.Pre_routed (Routed slotOf rowsOf slt_zero)
open Cert.KernelIdeal.Words (out out_token out_pad tset mem_tset)
open Idealize.ShloMosaic Idealize.ShloMosaic.TcCoe Idealize.ShloMosaic.ValueIdx

variable {F : FTy → Type} [FloatOps F]

/-- The slots as the scatter takes them: one index word per token. -/
def idx (pos : IVec S32768 32) : IVec S32768x1 32 :=
  broadcastInDim S32768x1 ![0] bcast_S32768_S32768x1_0 (select (cmpi .slt pos (broadcastInDim S32768 ![] bcast_S_S32768 (constantI S_ 32 0#32)))
    (addi pos (broadcastInDim S32768 ![] bcast_S_S32768 (constantI S_ 32 69120#32))) pos)

/-- The tokens' rows put at their slots. -/
def put (pos : IVec S32768 32) (x : FVec F S262144x128 .f32) : FVec F S552960x128 .f32 :=
  shapeCast _ (Host.scatter scatter_S69120x8x128_S32768x1_S32768x8x128_12_0_0_1 (fun _ b => b)
    (broadcastInDim S69120x8x128 ![] bcast_S_S69120x8x128 (constant S_ .f32 0x00000000#32)) (idx pos)
    (shapeCast S32768x8x128 x shapeCasts_S262144x128_S32768x8x128)) shapeCasts_S69120x8x128_S552960x128

variable {R : ℕ → ℕ} {pos : IVec S32768 32}

/-- A token's index word is its slot. -/
theorem idx_apply (hr : Routed (slotOf pos) R) (t : S32768x1.Idx) : (idx pos t).toInt = (slotOf pos (t 0).val : ℤ) := by
  have ht : (t 0).val < 32768 := (t 0).2
  have hl := hr.lt _ ht
  have hp : slotOf pos (t 0).val = (pos (ix1 ⟨(t 0).val, ht⟩)).toNat := by unfold slotOf; rw [dif_pos ht]
  rw [hp] at hl ⊢
  have h2 := slt_zero (Nat.lt_trans hl (by norm_num : 69120 < 2 ^ 31))
  have h4 : ∀ y : S32768.Idx, y = ix1 ⟨(t 0).val, ht⟩ → Scalar.select (IntOp.cmpi .slt (pos y) 0#32) (IntOp.addi (pos y) 69120#32) (pos y) = pos (ix1 ⟨(t 0).val, ht⟩) := by
    rintro y rfl
    rw [h2]; rfl
  have e : idx pos t = pos (ix1 ⟨(t 0).val, ht⟩) := h4 _ (funext fun a => match a with | ⟨0, _⟩ => rfl)
  rw [e, BitVec.toInt_eq_toNat_of_lt (by omega)]

/-- Where an update lands: its token's slot, its own row and lane. -/
theorem lands (hr : Routed (slotOf pos) R) (k : S32768x8x128.Idx) (s : S69120x8x128.Idx) :
    scatter_S69120x8x128_S32768x1_S32768x8x128_12_0_0_1.resultIdx? k (idx pos) = some s
      ↔ slotOf pos (k 0).val = (s 0).val ∧ k 1 = s 1 ∧ k 2 = s 2 := by
  rw [Routing.resultIdx?_eq_some]
  have h0 : scatter_S69120x8x128_S32768x1_S32768x8x128_12_0_0_1.start k (idx pos) 0 = (slotOf pos (k 0).val : ℤ) := by
    unfold ScatterDims.start
    rw [dif_pos (by decide)]
    rw [idx_apply hr]
    rfl
  have h1 : scatter_S69120x8x128_S32768x1_S32768x8x128_12_0_0_1.start k (idx pos) 1 = 0 := rfl
  have h2 : scatter_S69120x8x128_S32768x1_S32768x8x128_12_0_0_1.start k (idx pos) 2 = 0 := rfl
  have w0 : scatter_S69120x8x128_S32768x1_S32768x8x128_12_0_0_1.window k 0 = 0 := rfl
  have w1 : scatter_S69120x8x128_S32768x1_S32768x8x128_12_0_0_1.window k 1 = (k 1).val := rfl
  have w2 : scatter_S69120x8x128_S32768x1_S32768x8x128_12_0_0_1.window k 2 = (k 2).val := rfl
  constructor
  · intro h
    have a0 := h 0; have a1 := h 1; have a2 := h 2
    rw [h0, w0] at a0; rw [h1, w1] at a1; rw [h2, w2] at a2
    exact ⟨by omega, Fin.ext (by omega), Fin.ext (by omega)⟩
  · rintro ⟨a0, a1, a2⟩ a
    have b0 : scatter_S69120x8x128_S32768x1_S32768x8x128_12_0_0_1.start k (idx pos) 0 + (scatter_S69120x8x128_S32768x1_S32768x8x128_12_0_0_1.window k 0 : ℤ) = ((s 0).val : ℤ) := by rw [h0, w0, a0]; omega
    have b1 : scatter_S69120x8x128_S32768x1_S32768x8x128_12_0_0_1.start k (idx pos) 1 + (scatter_S69120x8x128_S32768x1_S32768x8x128_12_0_0_1.window k 1 : ℤ) = ((s 1).val : ℤ) := by rw [h1, w1, a1]; omega
    have b2 : scatter_S69120x8x128_S32768x1_S32768x8x128_12_0_0_1.start k (idx pos) 2 + (scatter_S69120x8x128_S32768x1_S32768x8x128_12_0_0_1.window k 2 : ℤ) = ((s 2).val : ℤ) := by rw [h2, w2, a2]; omega
    match a with
    | ⟨0, _⟩ => exact b0
    | ⟨1, _⟩ => exact b1
    | ⟨2, _⟩ => exact b2

/-- The reference's result is the tokens' rows at their slots and zeros between them. -/
theorem put_eq (hr : Routed (slotOf pos) R) (x : FVec F S262144x128 .f32) : put pos x = out (slotOf pos) x := by
  funext y
  have hy : (y 0).val < 552960 := (y 0).2
  have hc : put pos x y = Host.scatter scatter_S69120x8x128_S32768x1_S32768x8x128_12_0_0_1 (fun _ b => b)
      (broadcastInDim S69120x8x128 ![] bcast_S_S69120x8x128 (constant S_ .f32 0x00000000#32)) (idx pos)
      (shapeCast S32768x8x128 x shapeCasts_S262144x128_S32768x8x128)
      (ix3 (⟨(y 0).val / 8, by omega⟩ : Fin 69120) (⟨(y 0).val % 8, by omega⟩ : Fin 8) (y 1)) := by
    unfold put
    refine shapeCast_apply _ _ _ _ ?_
    rw [Shape.rowMajor_val_three, Shape.rowMajor_val_two]
    show ((y 0).val / 8 * 8 + (y 0).val % 8) * 128 + (y 1).val = (y 0).val * 128 + (y 1).val
    omega
  rw [hc]
  by_cases h : ∃ t, t < 32768 ∧ slotOf pos t = (y 0).val / 8
  · obtain ⟨t, ht, e⟩ := h
    rw [out_token hr x ht (mem_tset.2 e.symm)]
    have hx : ∀ (t' : Fin 32768), t'.val = t → shapeCast S32768x8x128 x shapeCasts_S262144x128_S32768x8x128 (ix3 t' (⟨(y 0).val % 8, by omega⟩ : Fin 8) (y 1))
        = x (ix2 ⟨8 * t + (y 0).val % 8, by omega⟩ (y 1)) := by
      intro t' e'
      refine shapeCast_apply _ _ _ _ ?_
      rw [Shape.rowMajor_val_three, Shape.rowMajor_val_two]
      show (8 * t + (y 0).val % 8) * 128 + (y 1).val = (t'.val * 8 + (y 0).val % 8) * 128 + (y 1).val
      rw [e']; ring
    refine Routing.scatter_set_hit _ _ _ _ _ _ (fun k hk => ?_) (ix3 (⟨t, ht⟩ : Fin 32768) (⟨(y 0).val % 8, by omega⟩ : Fin 8) (y 1)) ?_
    · obtain ⟨a0, a1, a2⟩ := (lands hr _ _).1 hk
      have hk0 : (k 0).val = t := hr.inj _ (k 0).2 _ ht (a0.trans e.symm)
      rw [← hx (k 0) hk0]
      refine congrArg _ (funext fun a => ?_)
      match a with
      | ⟨0, _⟩ => rfl
      | ⟨1, _⟩ => exact a1
      | ⟨2, _⟩ => exact a2
    · exact (lands hr _ _).2 ⟨e, rfl, rfl⟩
  · rw [Routing.scatter_set_miss]
    · unfold out; rw [dif_neg h]; rfl
    · intro k hk
      exact h ⟨(k 0).val, (k 0).2, ((lands hr _ _).1 hk).1⟩

end Cert.ReferenceIdeal.Hand

end
-- ==== Proof.Tiled.lean ====
module

public import proofs.«01_k».proof.Pre_tiled
public import proofs.«01_k».proof.Proof.Routed
public import Idealize.ShloMosaic.Lib.WordArith

@[expose] public section

namespace Cert.Pre_tiled

open Idealize.ShloMosaic Idealize.ShloMosaic.ValueIdx
open Idealize.ShloMosaic.WordArith
open Cert.Pre_routed (toNat_of_range)
open Facts

/-! What the precondition of the expert call says of its four tables. -/

/-- The tables as the expert call wants them: both experts of every tile are experts, and a tile past the last live one
has no rows. -/
structure Tiled (rows elo ehi : IVec S216 32) (nt : BitVec 32) : Prop where
  lo : ∀ i : Fin 216, (elo (ix1 i)).toNat < 32
  hi : ∀ i : Fin 216, (ehi (ix1 i)).toNat < 32
  dead : ∀ i : Fin 216, IntOp.cmpi .sle (rows (ix1 i)) 0#32 = 1#1 ∨ IntOp.cmpi .slt (BitVec.ofNat 32 i.val) nt = 1#1

/-- The tile whose experts grid point `i` works with: `i` itself, or the last live tile. -/
def live (nt : BitVec 32) (i : ℕ) : BitVec 32 := IntOp.minsi (BitVec.ofNat 32 i) (IntOp.maxsi (IntOp.subi nt 1#32) 0#32)

theorem cap_lt (x : BitVec 32) : (IntOp.maxsi x 0#32).toNat < 2 ^ 31 := by
  unfold IntOp.maxsi
  by_cases h : (0#32).slt x = true
  · rw [if_pos h]
    simp only [BitVec.slt, decide_eq_true_eq, BitVec.toInt, BitVec.toNat_ofNat] at h
    omega
  · rw [if_neg h]; decide

theorem live_toNat (nt : BitVec 32) {i : ℕ} (h : i < 216) : (live nt i).toNat = min i (IntOp.maxsi (IntOp.subi nt 1#32) 0#32).toNat := by
  have e : (BitVec.ofNat 32 i).toNat = i := by rw [BitVec.toNat_ofNat]; omega
  unfold live
  rw [toNat_minsi_of_lt _ _ (by omega) (cap_lt _), e]

theorem live_le (nt : BitVec 32) {i : ℕ} (h : i < 216) : (live nt i).toNat ≤ i := by
  rw [live_toNat nt h]; exact Nat.min_le_left _ _

/-- A live tile works with its own experts. -/
theorem live_eq (nt : BitVec 32) {i : ℕ} (h : i < 216) (hn : IntOp.cmpi .slt (BitVec.ofNat 32 i) nt = 1#1) : (live nt i).toNat = i := by
  rw [live_toNat nt h, Nat.min_eq_left]
  simp only [IntOp.cmpi, WordCmp.ofBool_eq_one_iff, BitVec.slt, decide_eq_true_eq, BitVec.toInt, BitVec.toNat_ofNat] at hn
  unfold IntOp.maxsi IntOp.subi
  by_cases h0 : (0#32).slt (nt - 1#32) = true
  · rw [if_pos h0, BitVec.toNat_sub, BitVec.toNat_ofNat]; omega
  · rw [if_neg h0]
    simp only [BitVec.slt, decide_eq_true_eq, BitVec.toInt, BitVec.toNat_ofNat, BitVec.toNat_sub] at h0
    rw [BitVec.toNat_ofNat]
    omega

variable {F : FTy → Type} [FloatOps F] [Facts]

/-- The precondition, decoded. -/
theorem tiled_of (rows elo ehi : IVec S216 32) (nt : IVec S1 32) (x : FVec F S552960x128 .f32) (g u : FVec F S32x1024x256 .f32) (d : FVec F S32x256x1024 .f32)
    (h : fn (F := F) rows elo ehi nt x g u d = fun _ => 1#1) : Tiled rows elo ehi (nt (ix1 0)) := by
  have e := congrFun h (fun a => a.elim0)
  unfold fn fn_part1 at e
  dsimp only [andi] at e
  obtain ⟨e, e20⟩ := IntOp.andi_eq_one.1 e
  obtain ⟨e5, e11⟩ := IntOp.andi_eq_one.1 e
  haveI : Subsingleton S_.Idx := ⟨fun a b => funext fun k => k.elim0⟩
  refine ⟨fun i => ?_, fun i => ?_, fun i => ?_⟩
  · have q := Host.reduce_andi_all _ _ _ _ _ e5 (ix1 i)
    obtain ⟨q0, q1⟩ := IntOp.andi_eq_one.1 q
    exact toNat_of_range (by norm_num) q0 q1
  · have q := Host.reduce_andi_all _ _ _ _ _ e11 (ix1 i)
    obtain ⟨q0, q1⟩ := IntOp.andi_eq_one.1 q
    exact toNat_of_range (by norm_num) q0 q1
  · have q := Host.reduce_andi_all _ _ _ _ _ e20 (ix1 i)
    have hor : ∀ a b : BitVec 1, IntOp.ori a b = 1#1 → a = 1#1 ∨ b = 1#1 := by decide
    have q2 := hor _ _ q
    refine q2.imp id fun q => ?_
    have hn : shapeCast S_ nt shapeCasts_S1_S_ (fun k => k.elim0) = nt (ix1 0) := by
      refine congrArg nt (funext fun a => Fin.ext ?_)
      match a with
      | ⟨0, _⟩ => exact Nat.lt_one_iff.1 (Fin.isLt _)
    rw [← hn]
    exact q

end Cert.Pre_tiled
-- ==== Proof.Live.lean ====
module

public import proofs.«01_k».proof.Proof.Gen.Kernel2Ideal.Launch
public import proofs.«01_k».proof.Proof.Gen.Kernel2Ideal.Skeleton
public import proofs.«01_k».proof.Proof.Tiled
public import Idealize.ShloMosaic.Lib.StableHlo.Run
public import Idealize.ShloMosaic.Lib.Pipeline.FrameValue

@[expose] public section

set_option maxRecDepth 65536

noncomputable section

namespace Cert.Kernel2Ideal.Hand

open Cert.Kernel2Ideal Cert.Kernel2Ideal.Gen
open Cert.Pre_tiled (Tiled live live_le live_eq)
open Cert.Pre_routed (slt_zero)
open Idealize.ShloMosaic Idealize.ShloMosaic.TcCoe Idealize.ShloMosaic.ValueIdx Idealize.SL.Sem

variable {F : FTy → Type} [FloatOps F]
variable (m : (ℓ : Loc nD τ sig) → Buf (Elt F) ℓ)

/-! What the operations before the call leave in the buffers it reads. -/

/-- The buffers of core `c` as the call finds them. -/
def V (c : Dev nD) (b : Ref sig .tc) : Buf (Elt F) ((c : Thread nD τ).loc b) := StableHlo.after hostOps0 (fun b => m (c, b)) b

def rws (c : Dev nD) : IVec S216 32 := m ((c : Thread nD τ).loc main_arg0)
def elo (c : Dev nD) : IVec S216 32 := m ((c : Thread nD τ).loc main_arg1)
def ehi (c : Dev nD) : IVec S216 32 := m ((c : Thread nD τ).loc main_arg2)
def cnt (c : Dev nD) : IVec S1 32 := m ((c : Thread nD τ).loc main_arg3)
def xs (c : Dev nD) : FVec F S552960x128 .f32 := m ((c : Thread nD τ).loc main_arg4)
def wg (c : Dev nD) : FVec F S32x1024x256 .f32 := m ((c : Thread nD τ).loc main_arg5)
def wu (c : Dev nD) : FVec F S32x1024x256 .f32 := m ((c : Thread nD τ).loc main_arg6)
def wd (c : Dev nD) : FVec F S32x256x1024 .f32 := m ((c : Thread nD τ).loc main_arg7)

/-- The tables of live tiles' experts, as the operations compute them. -/
def lv (c : Dev nD) : IVec S216 32 :=
  minsi (iotaInDim S216 32 0) (broadcastInDim S216 ![] bcast_S_S216 (maxsi (subi (shapeCast S_ (cnt m c) shapeCasts_S1_S_) (constantI S_ 32 1#32)) (constantI S_ 32 0#32)))
def look (c : Dev nD) (e : IVec S216 32) : IVec S216 32 :=
  Host.gather gather_S216_S216x1_S216_n_0_n_n_0_1_1 e (broadcastInDim S216x1 ![0] bcast_S216_S216x1_0
    (select (cmpi .slt (lv m c) (broadcastInDim S216 ![] bcast_S_S216 (constantI S_ 32 0#32))) (addi (lv m c) (broadcastInDim S216 ![] bcast_S_S216 (constantI S_ 32 216#32))) (lv m c)))
/-- The experts' first matrices side by side. -/
def gu (c : Dev nD) : FVec F S32x1024x512 .bf16 :=
  concatenate S32x1024x512 2 [⟨S32x1024x256, truncf .bf16 (wg m c) bitsLt_bf16_f32⟩, ⟨S32x1024x256, truncf .bf16 (wu m c) bitsLt_bf16_f32⟩] concatenates_S32x1024x256_S32x1024x256_S32x1024x512_d2
def dn (c : Dev nD) : FVec F S32x256x1024 .bf16 := truncf .bf16 (wd m c) bitsLt_bf16_f32

theorem V_arg0 (c : Dev nD) : V m c main_arg0 = rws m c := by unfold V; after_results_simp <;> rfl
theorem V_arg1 (c : Dev nD) : V m c main_arg1 = elo m c := by unfold V; after_results_simp <;> rfl
theorem V_arg2 (c : Dev nD) : V m c main_arg2 = ehi m c := by unfold V; after_results_simp <;> rfl
theorem V_arg3 (c : Dev nD) : V m c main_arg3 = cnt m c := by unfold V; after_results_simp <;> rfl
theorem V_arg4 (c : Dev nD) : V m c main_arg4 = xs m c := by unfold V; after_results_simp <;> rfl
theorem V_arg5 (c : Dev nD) : V m c main_arg5 = wg m c := by unfold V; after_results_simp <;> rfl
theorem V_arg6 (c : Dev nD) : V m c main_arg6 = wu m c := by unfold V; after_results_simp <;> rfl
theorem V_arg7 (c : Dev nD) : V m c main_arg7 = wd m c := by unfold V; after_results_simp <;> rfl
theorem V_v12 (c : Dev nD) : V m c main_v12 = look m c (elo m c) := by unfold V; after_results_simp <;> rfl
theorem V_v19 (c : Dev nD) : V m c main_v19 = look m c (ehi m c) := by unfold V; after_results_simp <;> rfl
theorem V_v22 (c : Dev nD) : V m c main_v22 = gu m c := by unfold V; after_results_simp <;> rfl
theorem V_v23 (c : Dev nD) : V m c main_v23 = dn m c := by unfold V; after_results_simp <;> rfl

theorem cnt_scalar (c : Dev nD) (k : S_.Idx) : shapeCast S_ (cnt m c) shapeCasts_S1_S_ k = cnt m c (ix1 0) := by
  unfold shapeCast
  refine congrArg (cnt m c) (funext fun a => Fin.ext ?_)
  match a with
  | ⟨0, _⟩ => exact Nat.lt_one_iff.1 (Fin.isLt _)

theorem lv_apply (c : Dev nD) (i : Fin 216) : lv m c (ix1 i) = live (cnt m c (ix1 0)) i.val := by
  have h : lv m c (ix1 i) = IntOp.minsi (BitVec.ofNat 32 i.val) (IntOp.maxsi (IntOp.subi (shapeCast S_ (cnt m c) shapeCasts_S1_S_
      (fun a => ⟨0, by exact a.elim0⟩)) 1#32) 0#32) := by
    unfold lv
    simp only [minsi, maxsi, subi, broadcastInDim, constantI, iotaInDim]
    congr
    funext a
    exact a.elim0
  rw [h, cnt_scalar]
  rfl

/-- A live tile's number as the look-up's index. -/
theorem index_apply (c : Dev nD) (i : Fin 216) (y : S216x1.Idx) (hy : (y 0).val = i.val) :
    broadcastInDim S216x1 ![0] bcast_S216_S216x1_0 (select (cmpi .slt (lv m c) (broadcastInDim S216 ![] bcast_S_S216 (constantI S_ 32 0#32)))
      (addi (lv m c) (broadcastInDim S216 ![] bcast_S_S216 (constantI S_ 32 216#32))) (lv m c)) y = live (cnt m c (ix1 0)) i.val := by
  have h1 := live_le (cnt m c (ix1 0)) i.2
  have h2 := slt_zero (show (live (cnt m c (ix1 0)) i.val).toNat < 2 ^ 31 by have := i.2; omega)
  have h3 := lv_apply m c i
  generalize lv m c = L at h3 ⊢
  generalize live (cnt m c (ix1 0)) i.val = n at h1 h2 h3 ⊢
  simp only [broadcastInDim, select, cmpi, addi, constantI]
  have h4 : ∀ z : S216.Idx, z = ix1 i → Scalar.select (IntOp.cmpi .slt (L z) 0#32) (IntOp.addi (L z) 216#32) (L z) = n := by
    rintro z rfl
    rw [h3, h2, select_zero]
  refine h4 _ (funext fun a => ?_)
  match a with
  | ⟨0, _⟩ => exact Fin.ext hy

/-- A looked-up table at tile `i` is the table at the live tile. -/
theorem look_apply (c : Dev nD) (e : IVec S216 32) (i : Fin 216) :
    look m c e (ix1 i) = e (ix1 ⟨(live (cnt m c (ix1 0)) i.val).toNat, (live_le _ i.2).trans_lt i.2⟩) := by
  unfold look
  have h := index_apply m c i (ix2 i (0 : Fin 1)) rfl
  generalize broadcastInDim S216x1 ![0] bcast_S216_S216x1_0 (select (cmpi .slt (lv m c) (broadcastInDim S216 ![] bcast_S_S216 (constantI S_ 32 0#32)))
      (addi (lv m c) (broadcastInDim S216 ![] bcast_S_S216 (constantI S_ 32 216#32))) (lv m c)) = I at h ⊢
  exact Routing.gather_take1 _ rfl rfl rfl rfl e I i ⟨(live (cnt m c (ix1 0)) i.val).toNat, (live_le _ i.2).trans_lt i.2⟩
    (by rw [h, BitVec.ofNat_toNat, BitVec.setWidth_eq]) (by norm_num)

end Cert.Kernel2Ideal.Hand

end
-- ==== Proof.Places.lean ====
module

public import proofs.«01_k».proof.Proof.Live
public import Idealize.ShloMosaic.Lib.PairWhole
public import Idealize.ShloMosaic.Lib.WordArith

@[expose] public section

set_option maxRecDepth 65536

noncomputable section

namespace Cert.Kernel2Ideal.Hand

open Cert.Kernel2Ideal Cert.Kernel2Ideal.Gen
open Cert.Pre_tiled (Tiled live live_le live_eq)
open Cert.Pre_routed (slt_zero)
open Idealize.ShloMosaic Idealize.ShloMosaic.TcCoe Idealize.ShloMosaic.ValueIdx Idealize.SL.Sem

variable {F : FTy → Type} [FloatOps F]

/-! Which block of its array each window holds at a grid point. -/

theorem point_lt (i : grid0.Coords) : (i 0).val < 216 := (i 0).2

/-- The grid has one axis. -/
theorem coords0 : ∀ t : Fin grid0.N, (grid0.coords t 0).val = t.val := by decide

/-- An entry of a table of 216 words, named by a rectangle of one element. -/
theorem entry (T : S216.Idx → BitVec 32) (i : grid0.Coords) (o : ℕ) (ho : o = (i 0).val)
    (inb : ∀ a, (![o] : Fin 1 → ℕ) a + S1.size a ≤ S216.size a) (k : S1.Idx) :
    T ((Rect.unit (s := S216) ![o] S1.size inb).emb k) = T (ix1 ⟨(i 0).val, point_lt i⟩) := by
  refine congrArg T (funext fun a => Fin.ext ?_)
  match a with
  | ⟨0, _⟩ =>
    have : (k 0).val = 0 := Nat.lt_one_iff.1 (k 0).2
    show o + 1 * (k 0).val = (i 0).val
    omega

theorem word_point (i : grid0.Coords) : (BitVec.ofNat 32 (i 0).val).toNat = (i 0).val := by
  have := point_lt i
  rw [BitVec.toNat_ofNat]; omega

theorem off1 (i : grid0.Coords) : (Scalar.indexCast (Scalar.addi (Scalar.muli (BitVec.ofNat 32 (i 0).val) 1#32) 0#32) : Index).toNat = (i 0).val := by
  have h : Scalar.addi (Scalar.muli (BitVec.ofNat 32 (i 0).val) 1#32) 0#32 = BitVec.ofNat 32 (i 0).val := by
    show BitVec.ofNat 32 (i 0).val * 1#32 + 0#32 = _
    rw [BitVec.mul_one, BitVec.add_zero]
  rw [h]; exact word_point i

theorem off2 (i : grid0.Coords) : (Scalar.indexCast (Scalar.muli (BitVec.ofNat 32 (i 0).val) 1#32) : Index).toNat = (i 0).val := by
  have h : Scalar.muli (BitVec.ofNat 32 (i 0).val) 1#32 = BitVec.ofNat 32 (i 0).val := by
    show BitVec.ofNat 32 (i 0).val * 1#32 = _
    rw [BitVec.mul_one]
  rw [h]; exact word_point i

variable (pf : pre0.Contents (Elt F)) (i : grid0.Coords)

/-- The tables by name. -/
abbrev tRows : S216.Idx → BitVec 32 := pf 0
abbrev tLo : S216.Idx → BitVec 32 := pf 1
abbrev tHi : S216.Idx → BitVec 32 := pf 2
abbrev tCnt : S1.Idx → BitVec 32 := pf 3

theorem tr1 : (cc0_transform_1 k0_off1_inb numel1_S1 pf i) 0 = (tLo pf (ix1 ⟨(i 0).val, point_lt i⟩)).toNat :=
  congrArg BitVec.toNat (entry (tLo pf) i _ (off1 i) _ _)
theorem tr2 : (cc0_transform_2 k0_off1_inb numel1_S1 pf i) 0 = (tLo pf (ix1 ⟨(i 0).val, point_lt i⟩)).toNat :=
  congrArg BitVec.toNat (entry (tLo pf) i _ (off1 i) _ _)
theorem tr3 : (cc0_transform_3 k0_off1_inb numel1_S1 pf i) 0 = (tHi pf (ix1 ⟨(i 0).val, point_lt i⟩)).toNat :=
  congrArg BitVec.toNat (entry (tHi pf) i _ (off1 i) _ _)
theorem tr4 : (cc0_transform_4 k0_off1_inb numel1_S1 pf i) 0 = (tHi pf (ix1 ⟨(i 0).val, point_lt i⟩)).toNat :=
  congrArg BitVec.toNat (entry (tHi pf) i _ (off1 i) _ _)
theorem tr5 : (cc0_transform_5 i) 0 = (i 0).val := word_point i

/-- The rounded-down quotient by one is the word itself. -/
theorem quot_one (x : BitVec 32) (b : BitVec 1) (y : BitVec 32) :
    Scalar.select (Scalar.andi b (Scalar.cmpi .ne (Scalar.remsi x 1#32) 0#32)) y (Scalar.divsi x 1#32) = x := by
  have h1 : Scalar.remsi x 1#32 = 0#32 := WordArith.remsi_one _ x
  have h2 : Scalar.divsi x 1#32 = x := WordArith.divsi_one _ x
  have h3 : ∀ b : BitVec 1, Scalar.andi b (Scalar.cmpi .ne 0#32 0#32) = 0#1 := by decide
  rw [h1, h2, h3, select_zero]

theorem tr0 : (cc0_transform_0 inb_S1_S1_0 numel1_S1 pf i) 0 = (live (tCnt pf (ix1 0)) (i 0).val).toNat := by
  refine (congrArg BitVec.toNat (quot_one _ _ _)).trans ?_
  have h1 : Scalar.muli (BitVec.ofNat 32 (i 0).val) 1#32 = BitVec.ofNat 32 (i 0).val := by
    show BitVec.ofNat 32 (i 0).val * 1#32 = _
    rw [BitVec.mul_one]
  have h2 : pf.at 3 (Rect.unit (s := S1) ![0] S1.size inb_S1_S1_0) numel1_S1 = tCnt pf (ix1 0) := by
    refine congrArg (tCnt pf) (funext fun a => Fin.ext ?_)
    match a with
    | ⟨0, _⟩ => exact Nat.lt_one_iff.1 (Fin.isLt _)
  rw [h1, h2]
  rfl

/-- The tables' contents the call admits. -/
theorem ok_of (h1 : ∀ j : Fin 216, (tLo pf (ix1 j)).toNat < 32) (h2 : ∀ j : Fin 216, (tHi pf (ix1 j)).toNat < 32) : ok0 pf := by
  have w1 : ∀ (f : Fin 3 → ℕ) (h : ∀ a, (f a + 1) * S1x1024x512.size a ≤ S32x1024x512.size a), (Rect.block (s := S32x1024x512) S1x1024x512.size f h).WholeWords (EltTy.packing .bf16) := by
    intro f h
    have e := h 1
    have e' : (f 1 + 1) * 1024 ≤ 1024 := e
    refine .inr ⟨by decide, rfl, ?_, rfl⟩
    show f 1 * 1024 = 0
    omega
  have w2 : ∀ (f : Fin 3 → ℕ) (h : ∀ a, (f a + 1) * S1x256x1024.size a ≤ S32x256x1024.size a), (Rect.block (s := S32x256x1024) S1x256x1024.size f h).WholeWords (EltTy.packing .bf16) := by
    intro f h
    have e := h 1
    have e' : (f 1 + 1) * 256 ≤ 256 := e
    refine .inr ⟨by decide, rfl, ?_, rfl⟩
    show f 1 * 256 = 0
    omega
  refine ⟨fun i => ⟨fun a => ?_, .inl rfl⟩, fun i => ⟨fun a => ?_, .inr (w1 _ _)⟩, fun i => ⟨fun a => ?_, .inr (w2 _ _)⟩,
    fun i => ⟨fun a => ?_, .inr (w1 _ _)⟩, fun i => ⟨fun a => ?_, .inr (w2 _ _)⟩⟩
  · match a with
    | ⟨0, _⟩ =>
      have e := tr0 pf i
      have := live_le (tCnt pf (ix1 0)) (point_lt i)
      have := point_lt i
      show ((cc0_transform_0 inb_S1_S1_0 numel1_S1 pf i) 0 + 1) * 2560 ≤ 552960
      omega
    | ⟨1, _⟩ => exact Nat.le_refl 128
  · match a with
    | ⟨0, _⟩ =>
      have e := tr1 pf i
      have := h1 ⟨(i 0).val, point_lt i⟩
      show ((cc0_transform_1 k0_off1_inb numel1_S1 pf i) 0 + 1) * 1 ≤ 32
      omega
    | ⟨1, _⟩ => exact Nat.le_refl 1024
    | ⟨2, _⟩ => exact Nat.le_refl 512
  · match a with
    | ⟨0, _⟩ =>
      have e := tr2 pf i
      have := h1 ⟨(i 0).val, point_lt i⟩
      show ((cc0_transform_2 k0_off1_inb numel1_S1 pf i) 0 + 1) * 1 ≤ 32
      omega
    | ⟨1, _⟩ => exact Nat.le_refl 256
    | ⟨2, _⟩ => exact Nat.le_refl 1024
  · match a with
    | ⟨0, _⟩ =>
      have e := tr3 pf i
      have := h2 ⟨(i 0).val, point_lt i⟩
      show ((cc0_transform_3 k0_off1_inb numel1_S1 pf i) 0 + 1) * 1 ≤ 32
      omega
    | ⟨1, _⟩ => exact Nat.le_refl 1024
    | ⟨2, _⟩ => exact Nat.le_refl 512
  · match a with
    | ⟨0, _⟩ =>
      have e := tr4 pf i
      have := h2 ⟨(i 0).val, point_lt i⟩
      show ((cc0_transform_4 k0_off1_inb numel1_S1 pf i) 0 + 1) * 1 ≤ 32
      omega
    | ⟨1, _⟩ => exact Nat.le_refl 256
    | ⟨2, _⟩ => exact Nat.le_refl 1024

/-- The word the body loads from the first table. -/
theorem rows_at (i : grid0.Coords) (T : S216.Idx → BitVec 32) (k : S1.Idx) :
    T ((Rect.unit (s := S216) (k0_off2 i) S1.size (k0_off2_inb i)).emb k) = T (ix1 ⟨(i 0).val, point_lt i⟩)
    ∧ T ((Rect.unit (s := S216) (k0_off3 i) S1.size (k0_off3_inb i)).emb k) = T (ix1 ⟨(i 0).val, point_lt i⟩) :=
  ⟨entry T i _ (off2 i) _ _, entry T i _ (off2 i) _ _⟩

/-- The two conditions are a word's sign. -/
theorem cond1_iff (w : BitVec 32) : k0_cond1 w = IntOp.cmpi .sgt w 0#32 := by
  show IntOp.cmpi .ne ((IntOp.cmpi .sgt w 0#32).setWidth 32) 0#32 = _
  have : ∀ b : BitVec 1, IntOp.cmpi .ne (b.setWidth 32) 0#32 = b := by decide
  exact this _
theorem cond2_iff (w : BitVec 32) : k0_cond2 w = IntOp.cmpi .sle w 0#32 := by
  show IntOp.cmpi .ne ((IntOp.cmpi .sle w 0#32).setWidth 32) 0#32 = _
  have : ∀ b : BitVec 1, IntOp.cmpi .ne (b.setWidth 32) 0#32 = b := by decide
  exact this _
/-- One of the two holds, and only one. -/
theorem conds (w : BitVec 32) : (k0_cond1 w = 1#1 ∧ k0_cond2 w ≠ 1#1) ∨ (k0_cond1 w ≠ 1#1 ∧ k0_cond2 w = 1#1) := by
  rw [cond1_iff, cond2_iff]
  by_cases h : BitVec.slt 0#32 w = true
  · left
    have h2 : BitVec.sle w 0#32 = false := by
      simp only [BitVec.slt, BitVec.sle, decide_eq_true_eq, decide_eq_false_iff_not] at h ⊢; omega
    constructor
    · show BitVec.ofBool (BitVec.slt 0#32 w) = _; rw [h]; rfl
    · show BitVec.ofBool (BitVec.sle w 0#32) ≠ _; rw [h2]; decide
  · right
    have h2 : BitVec.sle w 0#32 = true := by
      simp only [BitVec.slt, BitVec.sle, decide_eq_true_eq] at h ⊢; omega
    constructor
    · show BitVec.ofBool (BitVec.slt 0#32 w) ≠ _; rw [Bool.eq_false_iff.2 h]; decide
    · show BitVec.ofBool (BitVec.sle w 0#32) = _; rw [h2]; rfl

end Cert.Kernel2Ideal.Hand

end
-- ==== Proof.Body.lean ====
module

public import proofs.«01_k».proof.Proof.Places
public import Idealize.ShloMosaic.Lib.Pipeline.FrameValue

@[expose] public section

set_option maxRecDepth 65536

noncomputable section

namespace Cert.Kernel2Ideal.Hand

open Cert.Kernel2Ideal Cert.Kernel2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What one grid point computes -/

/-- The `k`-th of eight pieces of each token: row `8 j + k` of the block. -/
def tok (k : Fin 8) (X : S2560x128.Idx → F .f32) : S320x128.Idx → F .f32 := fun j =>
  X (ix2 ⟨8 * (j 0).val + k.val, by have : (j 0).val < 320 := (j 0).2; have := k.2; omega⟩ (j 1))

/-- The tokens of a block, their eight pieces joined. -/
abbrev toks (X : S2560x128.Idx → F .f32) : FVec F S320x1024 .bf16 :=
  k0_pay4 (tok 0 X) (tok 1 X) (tok 2 X) (tok 3 X) (tok 4 X) (tok 5 X) (tok 6 X) (tok 7 X)

/-- The first expert's result. -/
def half1 (X : S2560x128.Idx → F .f32) (G : S1x1024x512.Idx → F .bf16) (D : S1x256x1024.Idx → F .bf16) : FVec F S320x1024 .f32 :=
  k0_pay1 (k0_pay5 (tok 0 X) (tok 1 X) (tok 2 X) (tok 3 X) (tok 4 X) (tok 5 X) (tok 6 X) (tok 7 X) G)
    (k0_pay6 (tok 0 X) (tok 1 X) (tok 2 X) (tok 3 X) (tok 4 X) (tok 5 X) (tok 6 X) (tok 7 X) G) (k0_pay7 (F := F)) D
/-- The second expert's result. -/
def half2 (X : S2560x128.Idx → F .f32) (G : S1x1024x512.Idx → F .bf16) (D : S1x256x1024.Idx → F .bf16) : FVec F S320x1024 .f32 :=
  k0_pay2 (toks X) G D

/-- Both results side by side. -/
def both (A B : FVec F S320x1024 .f32) : FVec F S320x2048 .f32 := fun j =>
  if h : (j 1).val < 1024 then A (ix2 (j 0) ⟨(j 1).val, h⟩)
  else B (ix2 (j 0) ⟨(j 1).val - 1024, by have : (j 1).val < 2048 := (j 1).2; omega⟩)

/-- The block a grid point leaves: both results if its tile has rows, zeros if it has none. -/
def tile (w : BitVec 32) (X : S2560x128.Idx → F .f32) (G1 : S1x1024x512.Idx → F .bf16) (D1 : S1x256x1024.Idx → F .bf16)
    (G2 : S1x1024x512.Idx → F .bf16) (D2 : S1x256x1024.Idx → F .bf16) : FVec F S320x2048 .f32 :=
  if k0_cond1 w = 1#1 then both (half1 X G1 D1) (half2 X G2 D2) else k0_pay3 (F := F)

/-! ## Loads and stores -/

variable (c : Dev nD)

/-- A load of a whole buffer. -/
theorem ld {s : Shape} {e : EltTy} (M : Memref sig .tc .vmem s e) {o : Fin s.rank → ℕ} (ho : o = fun _ => 0) (inb : ∀ a, o a + s.size a ≤ s.size a)
    {f : Buf (Elt F) (M.view.loc (c : Thread nD τ))} {X : s.Idx → Elt F e} (hX : M.view.read (Elt F) f = X) {α : Type}
    {K : (s.Idx → Elt F e) → Prog (TpuEff nD τ sig (Elt F) Λ₀ .tc) α} {Q : α → sProp 𝕄} {hl} :
    (M.view.loc (c : Thread nD τ) ↦[M.view.set]{fullShare} f)
      ⊢ iprop(((M.view.loc (c : Thread nD τ) ↦[M.view.set]{fullShare} f) -∗ wp frame (wpE defs₀ Variants.none (c : Thread nD τ) none) Set.univ (K X) Q)
        -∗ wp frame (wpE defs₀ Variants.none (c : Thread nD τ) none) Set.univ (.op (.load M (Rect.unit (s := s) o s.size inb).toLoadRect hl) K) Q) := by
  subst ho
  have e : M.view.readAt (Elt F) (Rect.unit (s := s) (fun _ => 0) s.size inb).toLoadRect f = X := by
    rw [← hX]; funext y
    rw [View.readAt_apply]
    refine congrArg (M.view.read (Elt F) f) (funext fun a => Fin.ext ?_)
    show 0 + 1 * (y a).val = (y a).val
    omega
  have h := wp_load (defs := defs₀ (F := F)) (Γ := ∅) Variants.none (c : Thread nD τ) none Set.univ (m := M) (r := (Rect.unit (s := s) (fun _ => 0) s.size inb).toLoadRect)
    (hl := hl) (k := K) (S := M.view.set) (q := fullShare) (f := f) (Q := Q) (Finset.map_subset_map.mpr (Finset.subset_univ _))
  rwa [e] at h

/-- A load whose value is not used. -/
theorem ld_any {s : Shape} {e : EltTy} (M : Memref sig .tc .vmem s e) (r : LoadRect s)
    {f : Buf (Elt F) (M.view.loc (c : Thread nD τ))} {α : Type}
    {K : Prog (TpuEff nD τ sig (Elt F) Λ₀ .tc) α} {Q : α → sProp 𝕄} {hl} :
    (M.view.loc (c : Thread nD τ) ↦[M.view.set]{fullShare} f)
      ⊢ iprop(((M.view.loc (c : Thread nD τ) ↦[M.view.set]{fullShare} f) -∗ wp frame (wpE defs₀ Variants.none (c : Thread nD τ) none) Set.univ K Q)
        -∗ wp frame (wpE defs₀ Variants.none (c : Thread nD τ) none) Set.univ (.op (.load M r hl) fun _ => K) Q) :=
  wp_load (defs := defs₀ (F := F)) (Γ := ∅) Variants.none (c : Thread nD τ) none Set.univ (m := M) (r := r)
    (hl := hl) (k := fun _ => K) (S := M.view.set) (q := fullShare) (f := f) (Q := Q) (Finset.map_subset_map.mpr (Finset.subset_univ _))

/-- A load of every eighth row of the tokens' block. -/
theorem ld_tok (M : Memref sig .tc .vmem S2560x128 .f32) (k : Fin 8) {o : ℕ} (ho : o = k.val) (inb : ∀ a, (![0, 0] : Fin 2 → ℕ) a + S2560x128.size a ≤ S2560x128.size a)
    (inb' : ∀ a, S320x128.size a = 0 ∨ (![o, 0] : Fin 2 → ℕ) a + (![8, 1] : Fin 2 → ℕ) a * (S320x128.size a - 1) < S2560x128.size a)
    {f : Buf (Elt F) (M.view.loc (c : Thread nD τ))} {X : S2560x128.Idx → F .f32} (hX : M.view.read (Elt F) f = X) {α : Type}
    {K : (S320x128.Idx → Elt F .f32) → Prog (TpuEff nD τ sig (Elt F) Λ₀ .tc) α} {Q : α → sProp 𝕄} {hs}
    {hl : (M.slice (Rect.unit (s := S2560x128) ![0, 0] S2560x128.size inb) hs).view.LoadsAt (⟨![o, 0], S320x128.size, ![8, 1], inb'⟩ : LoadRect S2560x128)} :
    (M.view.loc (c : Thread nD τ) ↦[M.view.set]{fullShare} f)
      ⊢ iprop(((M.view.loc (c : Thread nD τ) ↦[M.view.set]{fullShare} f) -∗ wp frame (wpE defs₀ Variants.none (c : Thread nD τ) none) Set.univ (K (tok k X)) Q)
        -∗ wp frame (wpE defs₀ Variants.none (c : Thread nD τ) none) Set.univ
          (.op (TpuEff.load (M.slice (Rect.unit (s := S2560x128) ![0, 0] S2560x128.size inb) hs) (⟨![o, 0], S320x128.size, ![8, 1], inb'⟩ : LoadRect S2560x128) hl) K
            : Prog (TpuEff nD τ sig (Elt F) Λ₀ .tc) α) Q) := by
  subst ho
  have e : (M.slice (Rect.unit (s := S2560x128) ![0, 0] S2560x128.size inb) hs).view.readAt (Elt F) (⟨![k.val, 0], S320x128.size, ![8, 1], inb'⟩ : LoadRect S2560x128) f = tok k X := by
    rw [← hX]; funext y
    rw [View.readAt_apply]
    unfold tok
    refine congrArg (M.view.read (Elt F) f) (funext fun a => Fin.ext ?_)
    match a with
    | ⟨0, _⟩ => show 0 + 1 * (k.val + 8 * (y 0).val) = 8 * (y 0).val + k.val; omega
    | ⟨1, _⟩ => show 0 + 1 * (0 + 1 * (y 1).val) = (y 1).val; omega
  have h := wp_load (defs := defs₀ (F := F)) (Γ := ∅) Variants.none (c : Thread nD τ) none Set.univ (m := M.slice (Rect.unit (s := S2560x128) ![0, 0] S2560x128.size inb) hs)
    (r := (⟨![k.val, 0], S320x128.size, ![8, 1], inb'⟩ : LoadRect S2560x128))
    (hl := hl) (k := K) (S := M.view.set) (q := fullShare) (f := f) (Q := Q)
    ((Finset.map_subset_map.mpr (Finset.subset_univ _)).trans (View.set_slice_subset M.view _))
  rw [e] at h
  exact h

/-- A store of a part of a buffer. -/
theorem sto {s : Shape} {e : EltTy} (M : Memref sig .tc .vmem s e) (r : Rect s) (w : r.shape.Idx → Elt F e)
    {f : Buf (Elt F) (M.view.loc (c : Thread nD τ))} {α : Type}
    {K : Prog (TpuEff nD τ sig (Elt F) Λ₀ .tc) α} {Q : α → sProp 𝕄} {hx hm} :
    (M.view.loc (c : Thread nD τ) ↦[M.view.set]{fullShare} f)
      ⊢ iprop(((M.view.loc (c : Thread nD τ) ↦[M.view.set]{fullShare} ((M.view.slice r).write (Elt F) f w Finset.univ))
          -∗ wp frame (wpE defs₀ Variants.none (c : Thread nD τ) none) Set.univ K Q)
        -∗ wp frame (wpE defs₀ Variants.none (c : Thread nD τ) none) Set.univ (.op (.store M r w Finset.univ hx hm) fun _ => K) Q) :=
  wp_store (defs := defs₀ (F := F)) (Γ := ∅) Variants.none (c : Thread nD τ) none Set.univ (m := M) (r := r) (w := w) (Mk := Finset.univ)
    (hx := hx) (hm := hm) (k := fun _ => K) (S := M.view.set) (f := f) (Q := Q) (View.set_slice_subset M.view _)

/-- A buffer whose two halves were stored. -/
theorem stored (M : Memref sig .tc .vmem S320x2048 .f32) (f : M.view.ty.Contents (Elt F)) (A B : FVec F S320x1024 .f32) (i1 i2) :
    M.view.read (Elt F) ((M.view.slice (Rect.unit (s := S320x2048) ![0, 1024] S320x1024.size i2)).write (Elt F)
      ((M.view.slice (Rect.unit (s := S320x2048) ![0, 0] S320x1024.size i1)).write (Elt F) f A Finset.univ) B Finset.univ) = both A B := by
  funext j
  have h0 : (j 0).val < 320 := (j 0).2
  have h1 : (j 1).val < 2048 := (j 1).2
  unfold both
  by_cases h : (j 1).val < 1024
  · rw [dif_pos h, View.read_slice_write_of_not_mem]
    · have e : j = (Rect.unit (s := S320x2048) ![0, 0] S320x1024.size i1).emb (ix2 (j 0) ⟨(j 1).val, h⟩) := by
        funext a; refine Fin.ext ?_
        match a with
        | ⟨0, _⟩ => show (j 0).val = 0 + 1 * (j 0).val; omega
        | ⟨1, _⟩ => show (j 1).val = 0 + 1 * (j 1).val; omega
      conv_lhs => rw [e]
      exact View.read_slice_write_emb _ _ _ (Finset.mem_univ _)
    · intro hm
      obtain ⟨y, -, hy⟩ := Finset.mem_map.1 hm
      have : (j 1).val = 1024 + 1 * (y 1).val := by rw [← hy]; rfl
      omega
  · rw [dif_neg h]
    have e : j = (Rect.unit (s := S320x2048) ![0, 1024] S320x1024.size i2).emb (ix2 (j 0) ⟨(j 1).val - 1024, by omega⟩) := by
      funext a; refine Fin.ext ?_
      match a with
      | ⟨0, _⟩ => show (j 0).val = 0 + 1 * (j 0).val; omega
      | ⟨1, _⟩ => show (j 1).val = 1024 + 1 * ((j 1).val - 1024); omega
    conv_lhs => rw [e]
    exact View.read_slice_write_emb _ _ _ (Finset.mem_univ _)

/-- A buffer stored whole. -/
theorem stored_whole (M : Memref sig .tc .vmem S320x2048 .f32) (f : M.view.ty.Contents (Elt F)) (A : FVec F S320x2048 .f32) (i1) :
    M.view.read (Elt F) ((M.view.slice (Rect.unit (s := S320x2048) ![0, 0] S320x2048.size i1)).write (Elt F) f A Finset.univ) = A := by
  funext j
  have e : j = (Rect.unit (s := S320x2048) ![0, 0] S320x2048.size i1).emb j := by
    funext a; refine Fin.ext ?_
    match a with
    | ⟨0, _⟩ => show (j 0).val = 0 + 1 * (j 0).val; omega
    | ⟨1, _⟩ => show (j 1).val = 0 + 1 * (j 1).val; omega
  conv_lhs => rw [e]
  exact View.read_slice_write_emb _ _ _ (Finset.mem_univ _)

/-- A word of the first table. -/
theorem ld_word (i : grid0.Coords) (T : IVec S216 32) {q : PosShare TreeShare} (o : Fin 1 → ℕ) (inb : ∀ a, o a + S1.size a ≤ S216.size a)
    (hT : ∀ k : S1.Idx, T ((Rect.unit (s := S216) o S1.size inb).emb k) = T (ix1 ⟨(i 0).val, point_lt i⟩))
    {α : Type} {K : BitVec 32 → Prog (TpuEff nD τ sig (Elt F) Λ₀ .tc) α} {Q : α → sProp 𝕄} :
    (((c : Thread nD τ).loc main_arg0) ↦{q} T : sProp 𝕄)
      ⊢ iprop(((((c : Thread nD τ).loc main_arg0) ↦{q} T) -∗ wp frame (wpE defs₀ Variants.none (c : Thread nD τ) none) Set.univ (K (T (ix1 ⟨(i 0).val, point_lt i⟩))) Q)
        -∗ wp frame (wpE defs₀ Variants.none (c : Thread nD τ) none) Set.univ
          (smemLoad (Memref.whole main_arg0) (Rect.unit (s := S216) o S1.size inb) numel1_S1 rfl >>= K) Q) := by
  iintro H Hk
  unfold smemLoad
  rw [smemLoadElt_bind]
  iapply (wp_smemLoadElt_named Variants.none (c : Thread nD τ) none Set.univ (m := Memref.whole main_arg0)) $$ H
  iintro H %w %hw
  have e : w = T (ix1 ⟨(i 0).val, point_lt i⟩) := hw.trans (hT _)
  subst e
  iapply Hk $$ H

/-! ## One grid point -/

theorem zero3 : (![0, 0, 0] : Fin 3 → ℕ) = fun _ => 0 := by funext a; fin_cases a <;> rfl

/-- A grid point leaves its inputs and the table as they were, and its block at the tile. -/
theorem point (i : grid0.Coords) (T : IVec S216 32) {q : PosShare TreeShare}
    (arg2 : Memref sig .tc .smem S216 .i32) (harg2 : arg2.IsWhole) (arg3 : Memref sig .tc .smem S216 .i32) (harg3 : arg3.IsWhole)
    (arg4 : Memref sig .tc .smem S1 .i32) (harg4 : arg4.IsWhole) (arg5 : Memref sig .tc .vmem S2560x128 .f32) (harg5 : arg5.IsWhole)
    (arg6 : Memref sig .tc .vmem S1x1024x512 .bf16) (harg6 : arg6.IsWhole) (arg7 : Memref sig .tc .vmem S1x256x1024 .bf16) (harg7 : arg7.IsWhole)
    (arg8 : Memref sig .tc .vmem S1x1024x512 .bf16) (harg8 : arg8.IsWhole) (arg9 : Memref sig .tc .vmem S1x256x1024 .bf16) (harg9 : arg9.IsWhole)
    (arg10 : Memref sig .tc .vmem S320x2048 .f32) (harg10 : arg10.IsWhole)
    (X : S2560x128.Idx → F .f32) (G1 : S1x1024x512.Idx → F .bf16) (D1 : S1x256x1024.Idx → F .bf16) (G2 : S1x1024x512.Idx → F .bf16) (D2 : S1x256x1024.Idx → F .bf16)
    (Z : S320x2048.Idx → F .f32) (Q : Unit → sProp 𝕄) :
    iprop((((c : Thread nD τ).loc main_arg0) ↦{q} T) ∗ owns (c : Thread nD τ) arg5 fullShare X ∗ owns (c : Thread nD τ) arg6 fullShare G1
        ∗ owns (c : Thread nD τ) arg7 fullShare D1 ∗ owns (c : Thread nD τ) arg8 fullShare G2 ∗ owns (c : Thread nD τ) arg9 fullShare D2
        ∗ owns (c : Thread nD τ) arg10 fullShare Z)
      ⊢ iprop(((((c : Thread nD τ).loc main_arg0) ↦{q} T) ∗ owns (c : Thread nD τ) arg5 fullShare X ∗ owns (c : Thread nD τ) arg6 fullShare G1
        ∗ owns (c : Thread nD τ) arg7 fullShare D1 ∗ owns (c : Thread nD τ) arg8 fullShare G2 ∗ owns (c : Thread nD τ) arg9 fullShare D2
        ∗ owns (c : Thread nD τ) arg10 fullShare (tile (T (ix1 ⟨(i 0).val, point_lt i⟩)) X G1 D1 G2 D2) -∗ Q ⟨⟩)
        -∗ wp frame (wpE defs₀ Variants.none (c : Thread nD τ) none) Set.univ
          (cc0_moe (F := F) i (Memref.whole main_arg0) (Memref.isWhole_whole _) arg2 harg2 arg3 harg3 arg4 harg4 arg5 harg5 arg6 harg6 arg7 harg7 arg8 harg8 arg9 harg9 arg10 harg10) Q) := by
  rw [cc0_moe_eq_skeleton]
  unfold cc0_moe_skel
  unfold owns
  iintro ⟨HT, ⟨%f5, %h5, H5⟩, ⟨%f6, %h6, H6⟩, ⟨%f7, %h7, H7⟩, ⟨%f8, %h8, H8⟩, ⟨%f9, %h9, H9⟩, ⟨%f10, -, H10⟩⟩ Hk
  iapply (ld_word c i T (k0_off2 i) (k0_off2_inb i) (fun k => (rows_at i T k).1)) $$ HT
  iintro HT
  generalize hw : T (ix1 ⟨(i 0).val, point_lt i⟩) = w
  rcases conds w with ⟨c1, c2⟩ | ⟨c1, c2⟩
  · rw [dif_pos c1]
    rw [k0_part1_eq_skeleton]
    unfold k0_part1_skel
    simp only [Prog.lift, Prog.bind_op, Prog.bind_ret, Prog.pure_eq_ret, Prog.bind_assoc]
    iapply (ld_tok c arg5 0 rfl _ _ h5) $$ H5; iintro H5
    iapply (ld_tok c arg5 1 rfl _ _ h5) $$ H5; iintro H5
    iapply (ld_tok c arg5 2 rfl _ _ h5) $$ H5; iintro H5
    iapply (ld_tok c arg5 3 rfl _ _ h5) $$ H5; iintro H5
    iapply (ld_tok c arg5 4 rfl _ _ h5) $$ H5; iintro H5
    iapply (ld_tok c arg5 5 rfl _ _ h5) $$ H5; iintro H5
    iapply (ld_tok c arg5 6 rfl _ _ h5) $$ H5; iintro H5
    iapply (ld_tok c arg5 7 rfl _ _ h5) $$ H5; iintro H5
    iapply (ld c arg6 zero3 _ h6) $$ H6; iintro H6
    iapply (ld c arg7 zero3 _ h7) $$ H7; iintro H7
    iapply (ld_any c arg10 _) $$ H10; iintro H10
    iapply (sto c arg10 _ _) $$ H10; iintro H10
    iapply (ld c arg8 zero3 _ h8) $$ H8; iintro H8
    iapply (ld c arg9 zero3 _ h9) $$ H9; iintro H9
    iapply (ld_any c arg10 _) $$ H10; iintro H10
    iapply (sto c arg10 _ _) $$ H10; iintro H10
    iapply (ld_word c i T (k0_off3 i) (k0_off3_inb i) (fun k => (rows_at i T k).2)) $$ HT
    iintro HT
    rw [hw, dif_neg c2]
    rw [wp_ret]
    imodintro
    iapply Hk
    isplitl [HT]; · iexact HT
    isplitl [H5]; · iexists f5; isplitr; · ipureintro; exact h5
                    iexact H5
    isplitl [H6]; · iexists f6; isplitr; · ipureintro; exact h6
                    iexact H6
    isplitl [H7]; · iexists f7; isplitr; · ipureintro; exact h7
                    iexact H7
    isplitl [H8]; · iexists f8; isplitr; · ipureintro; exact h8
                    iexact H8
    isplitl [H9]; · iexists f9; isplitr; · ipureintro; exact h9
                    iexact H9
    iexists _
    isplitr; swap; · iexact H10
    ipureintro; unfold tile; rw [if_pos c1]; exact stored arg10 f10 (half1 X G1 D1) (half2 X G2 D2) _ _
  · rw [dif_neg c1]
    simp only [Prog.lift, Prog.bind_op, Prog.bind_ret, Prog.pure_eq_ret, Prog.bind_assoc]
    iapply (ld_word c i T (k0_off3 i) (k0_off3_inb i) (fun k => (rows_at i T k).2)) $$ HT
    iintro HT
    rw [hw, dif_pos c2]
    iapply (ld_any c arg10 _) $$ H10; iintro H10
    iapply (sto c arg10 _ _) $$ H10; iintro H10
    rw [wp_ret]
    imodintro
    iapply Hk
    isplitl [HT]; · iexact HT
    isplitl [H5]; · iexists f5; isplitr; · ipureintro; exact h5
                    iexact H5
    isplitl [H6]; · iexists f6; isplitr; · ipureintro; exact h6
                    iexact H6
    isplitl [H7]; · iexists f7; isplitr; · ipureintro; exact h7
                    iexact H7
    isplitl [H8]; · iexists f8; isplitr; · ipureintro; exact h8
                    iexact H8
    isplitl [H9]; · iexists f9; isplitr; · ipureintro; exact h9
                    iexact H9
    iexists _
    isplitr; swap; · iexact H10
    ipureintro; unfold tile; rw [if_neg c1]; exact stored_whole arg10 f10 _ _

end Cert.Kernel2Ideal.Hand

end
-- ==== Proof.Tiles.lean ====
module

public import proofs.«01_k».proof.Proof.Body

@[expose] public section

set_option maxRecDepth 65536

noncomputable section

namespace Cert.Kernel2Ideal.Hand

open Cert.Kernel2Ideal Cert.Kernel2Ideal.Gen
open Cert.Pre_tiled (Tiled live live_le live_eq)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables as the call finds them. -/
def tabs : pre0.Contents (Elt F) := fun k => V m 0 (pre0.ref k)

variable (hok : ok0 (F := F) (tabs m))

/-- The tables, every block they name inside its array. -/
def adm : (p : Fin 1) → (pcfgs (F := F) p).Adm := fun _ => ⟨tabs m, hok⟩

/-- The call's pipeline at these tables. -/
abbrev cfgs : Fin 1 → Cfg sig Λ₀ := Pipeline.pin pcfgs (adm m hok)

/-- The word of tile `t`'s row count. -/
def cntAt (c : Dev nD) (t : Fin grid0.N) : BitVec 32 := rws m c (ix1 ⟨(grid0.coords t 0).val, point_lt (grid0.coords t)⟩)

/-- The blocks grid point `t` works with. -/
def b0 (c : Dev nD) (t : Fin grid0.N) : S2560x128.Idx → F .f32 := (((cfgs m hok 0).win 0).blk t).view.read (Elt F) (V m c main_arg4)
def b1 (c : Dev nD) (t : Fin grid0.N) : S1x1024x512.Idx → F .bf16 := (((cfgs m hok 0).win 1).blk t).view.read (Elt F) (V m c main_v22)
def b2 (c : Dev nD) (t : Fin grid0.N) : S1x256x1024.Idx → F .bf16 := (((cfgs m hok 0).win 2).blk t).view.read (Elt F) (V m c main_v23)
def b3 (c : Dev nD) (t : Fin grid0.N) : S1x1024x512.Idx → F .bf16 := (((cfgs m hok 0).win 3).blk t).view.read (Elt F) (V m c main_v22)
def b4 (c : Dev nD) (t : Fin grid0.N) : S1x256x1024.Idx → F .bf16 := (((cfgs m hok 0).win 4).blk t).view.read (Elt F) (V m c main_v23)

/-- The block grid point `t` leaves. -/
def b5 (c : Dev nD) (t : Fin grid0.N) : S320x2048.Idx → F .f32 :=
  tile (cntAt m c t) (b0 m hok c t) (b1 m hok c t) (b2 m hok c t) (b3 m hok c t) (b4 m hok c t)

/-- The proof data of the call. -/
def dats (p : Fin 1) (c : Dev nD) : Dat τ (Elt F) Unit ℕ (UR sig nD τ) ℕ (cfgs m hok p) c where
  A w := V m c (Pipeline.arrRef spec0 w)
  after w t := match w with
    | ⟨0, _⟩ => b0 m hok c t
    | ⟨1, _⟩ => b1 m hok c t
    | ⟨2, _⟩ => b2 m hok c t
    | ⟨3, _⟩ => b3 m hok c t
    | ⟨4, _⟩ => b4 m hok c t
    | ⟨5, _⟩ => b5 m hok c t
  Φ t := iprop(Pipeline.ΦA spec0 c ∗ Pipeline.ΦT pre0 (adm m hok 0).1 c)
  q w := Pipeline.shareOf spec0 w
  owed _ := 0

theorem live_in (w : Fin 6) (hw : w ≠ 5) (i : grid0.Coords) : (cfgs m hok 0).idle w i = false := by
  fin_cases w <;> first | rfl | exact absurd rfl hw

/-- No grid point leaves the result's block as it found it. -/
theorem live_out (i : grid0.Coords) : (cfgs m hok 0).idle 5 i = false := by
  show (!(k0_cond1 ((tabs m).atD 0 (k0_off2 i)) == 1#1) && !(k0_cond2 ((tabs m).atD 0 (k0_off3 i)) == 1#1)) = false
  rw [show k0_off3 i = k0_off2 i from rfl]
  rcases conds ((tabs m).atD 0 (k0_off2 i)) with ⟨h, -⟩ | ⟨-, h⟩
  · rw [h]; rfl
  · rw [h]; simp

theorem before0 (c : Dev nD) (t : Fin grid0.N) (d) : (dats m hok 0 c).before 0 t d = b0 m hok c t :=
  (dats m hok 0 c).before_in_eq_fetched 0 rfl (live_in m hok 0 (by decide)) (fun _ _ _ => rfl) (fun _ => rfl) t d
theorem before1 (c : Dev nD) (t : Fin grid0.N) (d) : (dats m hok 0 c).before 1 t d = b1 m hok c t :=
  (dats m hok 0 c).before_in_eq_fetched 1 rfl (live_in m hok 1 (by decide)) (fun _ _ _ => rfl) (fun _ => rfl) t d
theorem before2 (c : Dev nD) (t : Fin grid0.N) (d) : (dats m hok 0 c).before 2 t d = b2 m hok c t :=
  (dats m hok 0 c).before_in_eq_fetched 2 rfl (live_in m hok 2 (by decide)) (fun _ _ _ => rfl) (fun _ => rfl) t d
theorem before3 (c : Dev nD) (t : Fin grid0.N) (d) : (dats m hok 0 c).before 3 t d = b3 m hok c t :=
  (dats m hok 0 c).before_in_eq_fetched 3 rfl (live_in m hok 3 (by decide)) (fun _ _ _ => rfl) (fun _ => rfl) t d
theorem before4 (c : Dev nD) (t : Fin grid0.N) (d) : (dats m hok 0 c).before 4 t d = b4 m hok c t :=
  (dats m hok 0 c).before_in_eq_fetched 4 rfl (live_in m hok 4 (by decide)) (fun _ _ _ => rfl) (fun _ => rfl) t d

/-! ## The call's body at a grid point -/

abbrev st0 (t : Fin grid0.N) : Memref sig .tc .vmem S2560x128 .f32 := ((cfgs m hok 0).win 0).stage ((cfgs m hok 0).slots t 0)
abbrev st1 (t : Fin grid0.N) : Memref sig .tc .vmem S1x1024x512 .bf16 := ((cfgs m hok 0).win 1).stage ((cfgs m hok 0).slots t 1)
abbrev st2 (t : Fin grid0.N) : Memref sig .tc .vmem S1x256x1024 .bf16 := ((cfgs m hok 0).win 2).stage ((cfgs m hok 0).slots t 2)
abbrev st3 (t : Fin grid0.N) : Memref sig .tc .vmem S1x1024x512 .bf16 := ((cfgs m hok 0).win 3).stage ((cfgs m hok 0).slots t 3)
abbrev st4 (t : Fin grid0.N) : Memref sig .tc .vmem S1x256x1024 .bf16 := ((cfgs m hok 0).win 4).stage ((cfgs m hok 0).slots t 4)
abbrev st5 (t : Fin grid0.N) : Memref sig .tc .vmem S320x2048 .f32 := ((cfgs m hok 0).win 5).stage ((cfgs m hok 0).slots t 5)

def bodyPre (c : Dev nD) (t : Fin grid0.N) : sProp 𝕄 :=
  iprop((dats m hok 0 c).Φ t.castSucc ∗ (dats m hok 0 c).owesAt () t.castSucc
    ∗ (∃ d, owns (c : Thread nD τ) (st0 m hok t) fullShare ((dats m hok 0 c).before 0 t d))
    ∗ (∃ d, owns (c : Thread nD τ) (st1 m hok t) fullShare ((dats m hok 0 c).before 1 t d))
    ∗ (∃ d, owns (c : Thread nD τ) (st2 m hok t) fullShare ((dats m hok 0 c).before 2 t d))
    ∗ (∃ d, owns (c : Thread nD τ) (st3 m hok t) fullShare ((dats m hok 0 c).before 3 t d))
    ∗ (∃ d, owns (c : Thread nD τ) (st4 m hok t) fullShare ((dats m hok 0 c).before 4 t d))
    ∗ (∃ d, owns (c : Thread nD τ) (st5 m hok t) fullShare ((dats m hok 0 c).before 5 t d)))
def bodyPost (c : Dev nD) (t : Fin grid0.N) : sProp 𝕄 :=
  iprop((dats m hok 0 c).Φ t.succ ∗ (dats m hok 0 c).owesAt () t.succ
    ∗ owns (c : Thread nD τ) (st0 m hok t) fullShare (b0 m hok c t) ∗ owns (c : Thread nD τ) (st1 m hok t) fullShare (b1 m hok c t)
    ∗ owns (c : Thread nD τ) (st2 m hok t) fullShare (b2 m hok c t) ∗ owns (c : Thread nD τ) (st3 m hok t) fullShare (b3 m hok c t)
    ∗ owns (c : Thread nD τ) (st4 m hok t) fullShare (b4 m hok c t) ∗ owns (c : Thread nD τ) (st5 m hok t) fullShare (b5 m hok c t))
def bodyAt (t : Fin grid0.N) : Prog (TpuEff nD τ sig (Elt F) Λ₀ .tc) PUnit :=
  cc0_moe (F := F) (grid0.coords t) (Memref.whole main_arg0) (Memref.isWhole_whole _) (Memref.whole main_v12) (Memref.isWhole_whole _)
    (Memref.whole main_v19) (Memref.isWhole_whole _) (Memref.whole main_arg3) (Memref.isWhole_whole _)
    (st0 m hok t) (hstage0_0 (((cfgs m hok 0).slots t 0).cast nbuf0_0)) (st1 m hok t) (hstage0_1 (((cfgs m hok 0).slots t 1).cast nbuf0_1))
    (st2 m hok t) (hstage0_2 (((cfgs m hok 0).slots t 2).cast nbuf0_2)) (st3 m hok t) (hstage0_3 (((cfgs m hok 0).slots t 3).cast nbuf0_3))
    (st4 m hok t) (hstage0_4 (((cfgs m hok 0).slots t 4).cast nbuf0_4)) (st5 m hok t) (hstage0_5 (((cfgs m hok 0).slots t 5).cast nbuf0_5))

theorem tabs0 (c : Dev nD) : (adm m hok 0).1 (0 : Fin 4) = rws m c := by
  have : c = 0 := Subsingleton.elim _ _
  subst this; exact V_arg0 m 0

/-- The tables that the body does not read. -/
def others (c : Dev nD) : sProp 𝕄 :=
  iprop((((c : Thread nD τ).loc main_v12) ↦{fullShare.right} (adm m hok 0).1 (1 : Fin 4)) ∗ (((c : Thread nD τ).loc main_v19) ↦{fullShare.right} (adm m hok 0).1 (2 : Fin 4))
    ∗ (((c : Thread nD τ).loc main_arg3) ↦{fullShare.right} (adm m hok 0).1 (3 : Fin 4)))

/-- The first table, and the others. -/
theorem tables_eq (c : Dev nD) :
    (Pipeline.ΦT pre0 (adm m hok 0).1 c : sProp 𝕄) = iprop((((c : Thread nD τ).loc main_arg0) ↦{fullShare.right} rws m c) ∗ others m hok c) := by
  unfold others
  unfold Pipeline.ΦT Pipeline.prefHeld
  rw [bigSep_univ_eq_bigSepL [(0 : Fin 4), 1, 2, 3] (by decide) (by decide), ← tabs0 m hok c]
  rfl

/-- One grid point. -/
theorem sound_body (c : Dev nD) (t : Fin grid0.N) :
    bodyPre m hok c t ⊢ wp frame (wpE (defs₀ (F := F)) Variants.none c none) Set.univ (bodyAt m hok t) (fun _ => bodyPost m hok c t) := by
  unfold bodyPre bodyPost bodyAt
  rw [show (dats m hok 0 c).Φ t.succ = iprop(Pipeline.ΦA spec0 c ∗ Pipeline.ΦT pre0 (adm m hok 0).1 c) from rfl,
    show (dats m hok 0 c).Φ t.castSucc = iprop(Pipeline.ΦA spec0 c ∗ Pipeline.ΦT pre0 (adm m hok 0).1 c) from rfl, tables_eq]
  simp only [before0, before1, before2, before3, before4]
  rw [show (dats m hok 0 c).owesAt () t.succ = (dats m hok 0 c).owesAt () t.castSucc from rfl]
  iintro ⟨⟨HA, HT, HR⟩, HO, ⟨%d0, H0⟩, ⟨%d1, H1⟩, ⟨%d2, H2⟩, ⟨%d3, H3⟩, ⟨%d4, H4⟩, ⟨%d5, H5⟩⟩
  iapply (point c (grid0.coords t) (rws m c) (Memref.whole main_v12) (Memref.isWhole_whole _)
    (Memref.whole main_v19) (Memref.isWhole_whole _) (Memref.whole main_arg3) (Memref.isWhole_whole _) (st0 m hok t) _ (st1 m hok t) _ (st2 m hok t) _ (st3 m hok t) _
    (st4 m hok t) _ (st5 m hok t) _ (b0 m hok c t) (b1 m hok c t) (b2 m hok c t) (b3 m hok c t) (b4 m hok c t) ((dats m hok 0 c).before 5 t d5) _) $$ [HT H0 H1 H2 H3 H4 H5]
  · isplitl [HT]; · iexact HT
    isplitl [H0]; · iexact H0
    isplitl [H1]; · iexact H1
    isplitl [H2]; · iexact H2
    isplitl [H3]; · iexact H3
    isplitl [H4]; · iexact H4
    iexact H5
  iintro ⟨HT, H⟩
  isplitl [HA HT HR]
  · isplitl [HA]; · iexact HA
    isplitl [HT]; · iexact HT
    iexact HR
  isplitl [HO]; · iexact HO
  iexact H

theorem defs₀_row (t : Fin grid0.N) :
    defs₀ (F := F) .tc (cfgs m hok 0).body ((cfgs m hok 0).bodyArgs t ((cfgs m hok 0).slots t)) = bodyAt m hok t := by
  unfold defs₀; rw [Defs.onTc_tc]; rfl

theorem leaves5 (c : Dev nD) (t : Fin grid0.N) :
    (dats m hok 0 c).leavesExact 5 t = owns (c : Thread nD τ) (st5 m hok t) fullShare (b5 m hok c t) := by
  have h : (cfgs m hok 0).idle 5 ((cfgs m hok 0).grid.coords t) = false := live_out m hok (grid0.coords t)
  unfold Dat.leavesExact; rw [h]; rfl

theorem body_obligation (c : Dev nD) : BodyObligation (dats m hok 0 c) (defs₀ (F := F)) Variants.none () Set.univ := fun t => by
  rw [bigSep_W0, bigSep_W0, defs₀_row]
  refine triple_restated (sound_body m hok c t) rfl .rfl fun _ => ?_
  unfold bodyPost
  rw [← leaves5 m hok c t]
  exact .rfl

end Cert.Kernel2Ideal.Hand

end
-- ==== Proof.Grid.lean ====
module

public import proofs.«01_k».proof.Proof.Tiles
public import Idealize.ShloMosaic.Lib.Pipeline.ValueKit.Geometry

@[expose] public section

set_option maxRecDepth 65536

noncomputable section

namespace Cert.Kernel2Ideal.Hand

open Cert.Kernel2Ideal Cert.Kernel2Ideal.Gen
open Cert.Pre_tiled (Tiled live live_le live_eq)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg) (hok : ok0 (F := F) (tabs m))

/-- The tables the call reads are the ones its pipeline is taken at. -/
theorem adm_eq (c : Dev nD) (k : Fin 4) : V m c (pre0.ref k) = (adm m hok 0).1 k := by
  have : c = 0 := Subsingleton.elim _ _
  subst this; rfl

theorem q_eq (c : Dev nD) (w : Fin 6) (_ : (spec0 w).isOut = false) : (dats m hok 0 c).q w = Pipeline.shareOf spec0 w := by dsimp only [dats]
theorem A_eq (c : Dev nD) (w : Fin 6) : (dats m hok 0 c).A w = V m c (Pipeline.arrRef spec0 w) := by dsimp only [dats]
theorem Φ_eq (c : Dev nD) (t) : (dats m hok 0 c).Φ t = iprop(Pipeline.ΦA spec0 c ∗ Pipeline.ΦT pre0 (adm m hok 0).1 c) := by dsimp only [dats]

theorem fresh0 : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- What the program does up to the call. -/
theorem before_call : Pipeline.HMainP (Ix := Unit) (Name := ℕ) (U := UR sig nD τ) (Lvl := ℕ) (pcfgs (F := F)) 0 defs₀ Variants.none m main (V m) :=
  Pipeline.hmainP_prefix pcfgs 0 defs₀ Variants.none m main hostOps0 hostOps0_sub fresh0 main_chain

set_option backward.isDefEq.respectTransparency.types false in
/-- The run of the program, by its call's blocks. -/
theorem run_main :
    θ_run defs (onTc (τ := τ) (main (F := F))) (s₀ m ρ)
      (fun r => Pipeline.FramePost (cfgs m hok) (dats m hok) 0 (V m) r ∧ r.2.sem = fun _ => 0) := by
  have h := Pipeline.θ_run_frameP_shared (pcfgs (F := F)) (adm m hok) (dats m hok) (0 : Fin 1) launch₀0 defs₀ Variants.none m ρ main
    (fun c => (body_obligation m hok c).loose) (q_eq m hok) (fun _ _ => rfl) (V m) (before_call m) (A_eq m hok) (adm_eq m hok) (Φ_eq m hok)
    (fun r => Pipeline.FramePost (cfgs m hok) (dats m hok) 0 (V m) r ∧ r.2.sem = fun _ => 0) (fun _ h => h)
  exact h

/-! ## The result's blocks -/

/-- The tile a row of the result is in. -/
def tileOf (y : S69120x2048.Idx) : Fin grid0.N := ⟨(y 0).val / 320, by
  have : (y 0).val < 69120 := (y 0).2
  have : grid0.N = 216 := N_0
  omega⟩

/-- The result: every block as its grid point leaves it. -/
def res (c : Dev nD) : S69120x2048.Idx → F .f32 := fun y =>
  b5 m hok c (tileOf y) (ix2 ⟨(y 0).val % 320, Nat.mod_lt _ (by norm_num)⟩ (y 1))

theorem index5_0 (t : Fin grid0.N) : ((cfgs m hok 0).win 5).index t (0 : Fin 2) = t.val := (tr5 (grid0.coords t)).trans (coords0 t)
theorem index5_1 (t : Fin grid0.N) : ((cfgs m hok 0).win 5).index t (1 : Fin 2) = 0 := rfl
theorem nblk5_0 : ((cfgs m hok 0).win 5).nblk (0 : Fin 2) = (69120 + 320 - 1) / 320 := rfl
theorem nblk5_1 : ((cfgs m hok 0).win 5).nblk (1 : Fin 2) = (2048 + 2048 - 1) / 2048 := rfl

theorem flush5 (t : Fin grid0.N) : ((cfgs m hok 0).win 5).flush t = true := by
  have key : t.val + 1 = grid0.N ∨ ∃ h : t.val + 1 < grid0.N, ((cfgs m hok 0).win 5).index ⟨t.val + 1, h⟩ ≠ ((cfgs m hok 0).win 5).index t := by
    by_cases h : t.val + 1 = grid0.N
    · exact .inl h
    · refine .inr ⟨by have := t.2; omega, fun e => ?_⟩
      have e0 := congrFun e (0 : Fin 2)
      have h1 := index5_0 m hok t
      have h2 := index5_0 m hok ⟨t.val + 1, by have := t.2; omega⟩
      have h3 := h2.symm.trans (e0.trans h1)
      simp only at h3
      omega
  simp only [Pipeline.Window.flush, Bool.and_eq_true, Bool.not_eq_true', Bool.or_eq_true, decide_eq_true_eq]
  exact ⟨by first | rfl | trivial, key⟩

theorem covers5 : ((cfgs m hok 0).win 5).Covers := by
  have hpos : ∀ a : Fin 2, 0 < S320x2048.size a := by decide
  refine ⟨hpos, fun β => ?_⟩
  have h0 : (β (0 : Fin 2)).val < 216 := (β (0 : Fin 2)).2.trans_eq ((nblk5_0 m hok).trans (by norm_num))
  have h1 : (β (1 : Fin 2)).val = 0 := Nat.lt_one_iff.1 ((β (1 : Fin 2)).2.trans_eq ((nblk5_1 m hok).trans (by norm_num)))
  refine ⟨⟨(β (0 : Fin 2)).val, h0.trans_eq N_0.symm⟩, flush5 m hok _, fun a => ?_⟩
  match a with
  | ⟨0, _⟩ => exact ⟨index5_0 m hok _, .inl rfl⟩
  | ⟨1, _⟩ => exact ⟨(index5_1 m hok _).trans h1.symm, .inl rfl⟩

theorem emb5_0 (t : Fin grid0.N) (y : S320x2048.Idx) :
    ((((cfgs m hok 0).win 5).blk t).view.emb y (0 : Fin 2)).val = 320 * t.val + (y 0).val := by
  show ((cfgs m hok 0).win 5).index t (0 : Fin 2) * 320 + 1 * (y 0).val = _
  rw [index5_0]; omega
theorem emb5_1 (t : Fin grid0.N) (y : S320x2048.Idx) :
    ((((cfgs m hok 0).win 5).blk t).view.emb y (1 : Fin 2)).val = (y 1).val := by
  show ((cfgs m hok 0).win 5).index t (1 : Fin 2) * 2048 + 1 * (y 1).val = _
  rw [index5_1]; omega

theorem res_at (c : Dev nD) (t : Fin grid0.N) (y : S320x2048.Idx) (z : S69120x2048.Idx) (h0 : (z 0).val = 320 * t.val + (y 0).val) (h1 : (z 1).val = (y 1).val) :
    b5 m hok c t y = res m hok c z := by
  have hy0 : (y 0).val < 320 := (y 0).2
  have et : tileOf z = t := by
    refine Fin.ext ?_
    show (z 0).val / 320 = _
    rw [h0]; omega
  unfold res
  rw [et]
  refine congrArg (b5 m hok c t) (funext fun a => Fin.ext ?_)
  match a with
  | ⟨0, _⟩ =>
    show (y 0).val = (z 0).val % 320
    rw [h0]; omega
  | ⟨1, _⟩ => exact h1.symm

theorem out_eq (c : Dev nD) : (dats m hok 0 c).arrAt 5 (cfgs m hok 0).N = res m hok c :=
  (dats m hok 0 c).arrAt_eq_of_covers 5 _ (covers5 m hok) fun t hf y => res_at m hok c t y _ (emb5_0 m hok t y) (emb5_1 m hok t y)

/-- Every run ends with the arguments as they were, the result at its blocks, and every counter at zero. -/
theorem run_post :
    θ_run defs (onTc (τ := τ) (main (F := F))) (s₀ m ρ)
      (fun r => (∀ c : Dev nD, r.2.mem ((c.tc : Thread nD τ).loc main_v24) = res m hok c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
        ∧ r.2.sem = fun _ => 0) := by
  refine (θ_run defs _ _).mono (fun r h => ?_) (run_main m ρ hok)
  obtain ⟨hF, hs⟩ := h
  refine ⟨fun c => ⟨?_, ?_, ?_, ?_, ?_, ?_, ?_, ?_, ?_⟩, hs⟩
  · exact ((hF c).1 (5 : Fin 6)).trans (out_eq m hok c)
  · exact ((hF c).2 main_arg0 (show main_arg0 ∈ Pipeline.restRefs sig spec0 by decide)).trans (V_arg0 m c)
  · exact ((hF c).2 main_arg1 (show main_arg1 ∈ Pipeline.restRefs sig spec0 by decide)).trans (V_arg1 m c)
  · exact ((hF c).2 main_arg2 (show main_arg2 ∈ Pipeline.restRefs sig spec0 by decide)).trans (V_arg2 m c)
  · exact ((hF c).2 main_arg3 (show main_arg3 ∈ Pipeline.restRefs sig spec0 by decide)).trans (V_arg3 m c)
  · exact (((hF c).1 (0 : Fin 6)).trans ((dats m hok 0 c).arrAt_in (0 : Fin 6) rfl _)).trans (V_arg4 m c)
  · exact ((hF c).2 main_arg5 (show main_arg5 ∈ Pipeline.restRefs sig spec0 by decide)).trans (V_arg5 m c)
  · exact ((hF c).2 main_arg6 (show main_arg6 ∈ Pipeline.restRefs sig spec0 by decide)).trans (V_arg6 m c)
  · exact ((hF c).2 main_arg7 (show main_arg7 ∈ Pipeline.restRefs sig spec0 by decide)).trans (V_arg7 m c)

end Cert.Kernel2Ideal.Hand

end
-- ==== Proof.Halves.lean ====
module

public import proofs.«01_k».proof.Proof.Body
public import Idealize.ShloMosaic.Lib.Pointwise
public import Idealize.ShloMosaic.Lib.MatmulPlain

@[expose] public section

set_option maxRecDepth 16384

noncomputable section

namespace Cert.Kernel2Ideal.Hand

open Cert.Kernel2Ideal Cert.Kernel2Ideal.Gen
open Idealize.ShloMosaic Idealize.ShloMosaic.TcCoe

/-! What a grid point's two results are over the extended reals, element by element. -/

/-- Entry `l` of token `r` of a block. -/
def word (X : S2560x128.Idx → Ideal .f32) (r : Fin 320) (l : Fin 1024) : Ideal .f32 :=
  X (ix2 ⟨8 * r.val + l.val / 128, by have := r.2; have := l.2; omega⟩ ⟨l.val % 128, Nat.mod_lt _ (by norm_num)⟩)

/-- A block read at one index spelt two ways. -/
theorem block_congr (X : S2560x128.Idx → Ideal .f32) (p : S2560x128.Idx) (a : Fin 2560) (b : Fin 128) (h0 : (p 0).val = a.val) (h1 : (p 1).val = b.val) :
    X p = X (ix2 a b) := by
  refine congrArg X (funext fun i => ?_)
  match i with
  | ⟨0, _⟩ => exact Fin.ext h0
  | ⟨1, _⟩ => exact Fin.ext h1

theorem toks_apply (X : S2560x128.Idx → Ideal .f32) (r : Fin 320) (l : Fin 1024) : toks X (ix2 r l) = word X r l := by
  pointwise [toks, k0_pay4, tok, word]
  have hl := l.2
  split_ifs <;> refine block_congr X _ _ _ ?_ ?_
  all_goals (dsimp only; omega)

/-- Column `k` of a token against an expert's joined first matrices. -/
def lin (X : S2560x128.Idx → Ideal .f32) (G : S1x1024x512.Idx → Ideal .bf16) (r : Fin 320) (k : Fin 512) : Ideal .f32 :=
  ∑ l : Fin 1024, (word X r l : EReal) * G (ix3 (0 : Fin 1) l k)

/-- An expert's hidden value: the gate through its sigmoid-weighted unit, times the other half. -/
def act (g u : Ideal .f32) : Ideal .f32 := (g : EReal) * Ideal.div 1 (1 + Ideal.exp (0 - (g : EReal))) * (u : EReal)

theorem wide_apply (X : S2560x128.Idx → Ideal .f32) (G : S1x1024x512.Idx → Ideal .bf16) (r : Fin 320) (k : Fin 512) :
    matmul dot_S320x1024_S1024x512_S320x512_1_0_0_1_n_n none (toks X) (shapeCast S1024x512 G shapeCasts_S1x1024x512_S1024x512) (constant S320x512 .f32 0x00000000#32) (ix2 r k)
      = lin X G r k := by
  have h : ∀ T : FVec Ideal S320x1024 .bf16, (∀ r l, T (ix2 r l) = word X r l) → matmul dot_S320x1024_S1024x512_S320x512_1_0_0_1_n_n none T (shapeCast S1024x512 G shapeCasts_S1x1024x512_S1024x512) (constant S320x512 .f32 0x00000000#32) (ix2 r k)
      = lin X G r k := by
    intro T hT
    unfold lin
    pointwise
    exact Finset.sum_congr rfl fun l _ => by rw [hT]
  exact h _ (toks_apply X)

/-- A result's entry, from the columns. -/
def mix (X : S2560x128.Idx → Ideal .f32) (G : S1x1024x512.Idx → Ideal .bf16) (D : S1x256x1024.Idx → Ideal .bf16) (r : Fin 320) (j : Fin 1024) : Ideal .f32 :=
  ∑ k : Fin 256, (act (lin X G r ⟨k.val, by have := k.2; omega⟩) (lin X G r ⟨256 + k.val, by have := k.2; omega⟩) : EReal) * D (ix3 (0 : Fin 1) k j)

theorem half1_apply (X : S2560x128.Idx → Ideal .f32) (G : S1x1024x512.Idx → Ideal .bf16) (D : S1x256x1024.Idx → Ideal .bf16) (r : Fin 320) (j : Fin 1024) :
    half1 X G D (ix2 r j) = mix X G D r j := by
  have h : ∀ W : FVec Ideal S320x512 .f32, (∀ r k, W (ix2 r k) = lin X G r k) →
      k0_pay1 W (extractStridedSlice S320x256 ![0, 0] W slices_S320x512_o0_0_S320x256) (k0_pay7 (F := Ideal)) D (ix2 r j) = mix X G D r j := by
    intro W hW
    unfold mix act
    pointwise [k0_pay1, k0_pay7]
    exact Finset.sum_congr rfl fun k _ => by rw [hW, hW]
  exact h _ (wide_apply X G)

theorem half2_apply (X : S2560x128.Idx → Ideal .f32) (G : S1x1024x512.Idx → Ideal .bf16) (D : S1x256x1024.Idx → Ideal .bf16) (r : Fin 320) (j : Fin 1024) :
    half2 X G D (ix2 r j) = mix X G D r j :=
  half1_apply X G D r j

theorem none_apply (y : S320x2048.Idx) : k0_pay3 (F := Ideal) y = (0 : EReal) := by
  pointwise [k0_pay3]

end Cert.Kernel2Ideal.Hand

end
-- ==== Proof.Experts.lean ====
module

public import proofs.«01_k».proof.Proof.Gen.Reference2Ideal.Run
public import proofs.«01_k».proof.Proof.Halves
public import Idealize.ShloMosaic.Lib.Routing.OpsSet

@[expose] public section

set_option maxRecDepth 16384

noncomputable section

namespace Cert.Reference2Ideal.Hand

open Cert.Reference2Ideal Cert.Reference2Ideal.Gen
open Cert.Kernel2Ideal.Hand (act)
open Cert.Pre_routed (slt_zero)
open Idealize.ShloMosaic Idealize.ShloMosaic.TcCoe

/-! The expert call's reference, read at an entry. -/

/-- The gather of one matrix per entry of a table, at any two sides of the matrices. -/
abbrev pick (A B : ℕ) (wf : GatherDims.WF ⟨3, ![32, A, B]⟩ S216x1 ⟨3, ![216, A, B]⟩ [1, 2] [0] [] [0] [] 1 ![1, A, B]) :
    GatherDims ⟨3, ![32, A, B]⟩ S216x1 ⟨3, ![216, A, B]⟩ where
  offsetDims := [1, 2]
  collapsedSliceDims := [0]
  operandBatchingDims := []
  startIndicesBatchingDims := []
  startIndexMap := [0]
  indexVectorDim := 1
  sliceSizes := ![1, A, B]
  wf := wf

theorem pick_apply {α : Type} (A B : ℕ) (wf) (w : (⟨3, ![32, A, B]⟩ : Shape).Idx → α) (idx : IVec S216x1 32) (t : Fin 216) (a : Fin A) (b : Fin B) (e : Fin 32)
    (h : (idx (ix2 t (0 : Fin 1))).toInt = (e.val : ℤ)) : Host.gather (pick A B wf) w idx (ix3 t a b) = w (ix3 e a b) := by
  unfold Host.gather
  refine congrArg w (funext fun i => Fin.ext ?_)
  show (pick A B wf).start (ix3 t a b) idx i + (pick A B wf).batchCoord (ix3 t a b) i + (pick A B wf).offCoord (ix3 t a b) i = _
  rw [GatherDims.batchCoord_eq_zero _ _ _ List.not_mem_nil, Nat.add_zero]
  match i with
  | ⟨0, _⟩ =>
    have ho : (pick A B wf).offCoord (ix3 t a b) (0 : Fin 3) = 0 := rfl
    have hs : (pick A B wf).start (ix3 t a b) idx (0 : Fin 3) = e.val := by
      unfold GatherDims.start
      rw [dif_pos (show (0 : Fin 3) ∈ (pick A B wf).startIndexMap from List.mem_singleton.2 rfl)]
      have hi : (pick A B wf).siIdx (ix3 t a b) ⟨List.idxOf (0 : Fin 3) (pick A B wf).startIndexMap,
          List.idxOf_lt_length_iff.2 (List.mem_singleton.2 rfl)⟩ = ix2 t (0 : Fin 1) := by
        funext k; refine Fin.ext ?_
        match k with
        | ⟨0, _⟩ => rfl
        | ⟨1, _⟩ => rfl
      rw [hi, h]
      show min (e.val : ℤ).toNat (32 - 1) = e.val
      have := e.2
      omega
    show (pick A B wf).start (ix3 t a b) idx (0 : Fin 3) + (pick A B wf).offCoord (ix3 t a b) (0 : Fin 3) = e.val
    rw [hs, ho, Nat.add_zero]
  | ⟨1, _⟩ =>
    have ho : (pick A B wf).offCoord (ix3 t a b) (1 : Fin 3) = a.val := rfl
    have hs : (pick A B wf).start (ix3 t a b) idx (1 : Fin 3) = 0 := rfl
    show (pick A B wf).start (ix3 t a b) idx (1 : Fin 3) + (pick A B wf).offCoord (ix3 t a b) (1 : Fin 3) = a.val
    rw [hs, ho, Nat.zero_add]
  | ⟨2, _⟩ =>
    have ho : (pick A B wf).offCoord (ix3 t a b) (2 : Fin 3) = b.val := rfl
    have hs : (pick A B wf).start (ix3 t a b) idx (2 : Fin 3) = 0 := rfl
    show (pick A B wf).start (ix3 t a b) idx (2 : Fin 3) + (pick A B wf).offCoord (ix3 t a b) (2 : Fin 3) = b.val
    rw [hs, ho, Nat.zero_add]

/-- The table as the gathers take it: one index word per tile. -/
def idx (e : IVec S216 32) : IVec S216x1 32 :=
  broadcastInDim S216x1 ![0] bcast_S216_S216x1_0 (select (cmpi .slt e (broadcastInDim S216 ![] bcast_S_S216 (constantI S_ 32 0#32)))
    (addi e (broadcastInDim S216 ![] bcast_S_S216 (constantI S_ 32 32#32))) e)

theorem idx_apply (e : IVec S216 32) (t : Fin 216) (h : (e (ix1 t)).toNat < 32) : (idx e (ix2 t (0 : Fin 1))).toInt = ((e (ix1 t)).toNat : ℤ) := by
  have h2 := slt_zero (show (e (ix1 t)).toNat < 2 ^ 31 by omega)
  have h4 : ∀ y : S216.Idx, y = ix1 t → Scalar.select (IntOp.cmpi .slt (e y) 0#32) (IntOp.addi (e y) 32#32) (e y) = e (ix1 t) := by
    rintro y rfl
    rw [h2, ValueIdx.select_zero]
  have he : idx e (ix2 t (0 : Fin 1)) = e (ix1 t) := h4 _ (funext fun a => match a with | ⟨0, _⟩ => rfl)
  rw [he, BitVec.toInt_eq_toNat_of_lt (by omega)]

/-- The tokens, one row of a matrix each. -/
def rows3 (x : FVec Ideal S552960x128 .f32) : FVec Ideal S216x320x1024 .f32 := shapeCast _ x shapeCasts_S552960x128_S216x320x1024

/-- The tokens against one matrix per tile. -/
def wide (x : FVec Ideal S552960x128 .f32) (w : FVec Ideal S32x1024x256 .f32) (e : IVec S216 32) : FVec Ideal S216x320x256 .f32 :=
  Host.dotGeneral dot_S216x320x1024_S216x1024x256_S216x320x256_2_1_1_2_0_0 none (rows3 x)
    (Host.gather gather_S32x1024x256_S216x1_S216x1024x256_12_0_n_n_0_1_11024256 w (idx e))

/-- One expert per tile. -/
def expert (x : FVec Ideal S552960x128 .f32) (g u : FVec Ideal S32x1024x256 .f32) (d : FVec Ideal S32x256x1024 .f32) (e : IVec S216 32) : FVec Ideal S216x320x1024 .f32 :=
  Host.dotGeneral dot_S216x320x256_S216x256x1024_S216x320x1024_2_1_1_2_0_0 none
    (mulf (mulf (wide x g e) (Host.divf (broadcastInDim S216x320x256 ![] bcast_S_S216x320x256 (constant S_ .f32 0x3F800000#32))
      (addf (broadcastInDim S216x320x256 ![] bcast_S_S216x320x256 (constant S_ .f32 0x3F800000#32)) (Host.exp (Host.negf (wide x g e)))))) (wide x u e))
    (Host.gather gather_S32x256x1024_S216x1_S216x256x1024_12_0_n_n_0_1_12561024 d (idx e))

/-- The whole reference. -/
def both (rw lo hi : IVec S216 32) (x : FVec Ideal S552960x128 .f32) (g u : FVec Ideal S32x1024x256 .f32) (d : FVec Ideal S32x256x1024 .f32) : FVec Ideal S69120x2048 .f32 :=
  shapeCast _ (select (broadcastInDim S216x320x2048 ![0, 1, 2] bcast_S216x1x1_S216x320x2048_0_1_2 (broadcastInDim S216x1x1 ![0] bcast_S216_S216x1x1_0
      (cmpi .sgt rw (broadcastInDim S216 ![] bcast_S_S216 (constantI S_ 32 0#32)))))
    (concatenate S216x320x2048 2 [⟨S216x320x1024, expert x g u d lo⟩, ⟨S216x320x1024, expert x g u d hi⟩] concatenates_S216x320x1024_S216x320x1024_S216x320x2048_d2)
    (broadcastInDim S216x320x2048 ![] bcast_S_S216x320x2048 (id (constant S_ .f32 0x00000000#32)))) shapeCasts_S216x320x2048_S69120x2048

theorem res_eq (m : (ℓ : Loc nD τ sig) → Buf (Elt Ideal) ℓ) (c : Dev nD) :
    Cert.Reference2Ideal.Value.res_out0 m c = both (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)) (m ((c.tc : Thread nD τ).loc main_arg6)) (m ((c.tc : Thread nD τ).loc main_arg7)) := by
  unfold Cert.Reference2Ideal.Value.res_out0 Cert.Reference2Ideal.Value.res_main_v58
  rfl

/-- Entry `l` of token `r` of tile `t`. -/
def word (x : FVec Ideal S552960x128 .f32) (t : Fin 216) (r : Fin 320) (l : Fin 1024) : Ideal .f32 :=
  x (ix2 ⟨2560 * t.val + 8 * r.val + l.val / 128, by have := t.2; have := r.2; have := l.2; omega⟩ ⟨l.val % 128, Nat.mod_lt _ (by norm_num)⟩)

theorem rows3_apply (x : FVec Ideal S552960x128 .f32) (t : Fin 216) (r : Fin 320) (l : Fin 1024) : rows3 x (ix3 t r l) = word x t r l := by
  unfold rows3 word
  refine shapeCast_apply _ _ _ _ ?_
  rw [Shape.rowMajor_val_three, Shape.rowMajor_val_two]
  show (2560 * t.val + 8 * r.val + l.val / 128) * 128 + l.val % 128 = (t.val * 320 + r.val) * 1024 + l.val
  omega

/-- Column `k` of a token against an expert's matrix. -/
def lin (x : FVec Ideal S552960x128 .f32) (w : FVec Ideal S32x1024x256 .f32) (e : Fin 32) (t : Fin 216) (r : Fin 320) (k : Fin 256) : Ideal .f32 :=
  ∑ l : Fin 1024, (word x t r l : EReal) * w (ix3 e l k)

theorem wide_apply (x : FVec Ideal S552960x128 .f32) (w : FVec Ideal S32x1024x256 .f32) (e : IVec S216 32) (t : Fin 216) (r : Fin 320) (k : Fin 256) (h : (e (ix1 t)).toNat < 32) :
    wide x w e (ix3 t r k) = lin x w ⟨(e (ix1 t)).toNat, h⟩ t r k := by
  have q : ∀ X : FVec Ideal S216x320x1024 .f32, (∀ t r l, X (ix3 t r l) = word x t r l) → ∀ W : FVec Ideal S216x1024x256 .f32,
      (∀ l k, W (ix3 t l k) = w (ix3 ⟨(e (ix1 t)).toNat, h⟩ l k)) →
      Host.dotGeneral dot_S216x320x1024_S216x1024x256_S216x320x256_2_1_1_2_0_0 none X W (ix3 t r k) = lin x w ⟨(e (ix1 t)).toNat, h⟩ t r k := by
    intro X hX W hW
    unfold lin
    pointwise
    exact Finset.sum_congr rfl fun l _ => by rw [hX, hW]
  exact q _ (rows3_apply x) _ fun l k => pick_apply 1024 256 _ w (idx e) t l k _ (idx_apply e t h)

/-- A result's entry, from the columns. -/
def mix (x : FVec Ideal S552960x128 .f32) (g u : FVec Ideal S32x1024x256 .f32) (d : FVec Ideal S32x256x1024 .f32) (e : Fin 32) (t : Fin 216) (r : Fin 320) (j : Fin 1024) : Ideal .f32 :=
  ∑ k : Fin 256, (act (lin x g e t r k) (lin x u e t r k) : EReal) * d (ix3 e k j)

theorem expert_apply (x : FVec Ideal S552960x128 .f32) (g u : FVec Ideal S32x1024x256 .f32) (d : FVec Ideal S32x256x1024 .f32) (e : IVec S216 32) (t : Fin 216) (r : Fin 320) (j : Fin 1024)
    (h : (e (ix1 t)).toNat < 32) : expert x g u d e (ix3 t r j) = mix x g u d ⟨(e (ix1 t)).toNat, h⟩ t r j := by
  have q : ∀ G U : FVec Ideal S216x320x256 .f32, (∀ k, G (ix3 t r k) = lin x g ⟨(e (ix1 t)).toNat, h⟩ t r k) → (∀ k, U (ix3 t r k) = lin x u ⟨(e (ix1 t)).toNat, h⟩ t r k) →
      ∀ D : FVec Ideal S216x256x1024 .f32, (∀ k j, D (ix3 t k j) = d (ix3 ⟨(e (ix1 t)).toNat, h⟩ k j)) →
      Host.dotGeneral dot_S216x320x256_S216x256x1024_S216x320x1024_2_1_1_2_0_0 none
        (mulf (mulf G (Host.divf (broadcastInDim S216x320x256 ![] bcast_S_S216x320x256 (constant S_ .f32 0x3F800000#32))
          (addf (broadcastInDim S216x320x256 ![] bcast_S_S216x320x256 (constant S_ .f32 0x3F800000#32)) (Host.exp (Host.negf G))))) U) D (ix3 t r j)
      = mix x g u d ⟨(e (ix1 t)).toNat, h⟩ t r j := by
    intro G U hG hU D hD
    unfold mix act
    pointwise
    exact Finset.sum_congr rfl fun k _ => by rw [hG, hU, hD, sub_eq_add_neg, zero_add]
  exact q _ _ (fun k => wide_apply x g e t r k h) (fun k => wide_apply x u e t r k h) _ fun k j => pick_apply 256 1024 _ d (idx e) t k j _ (idx_apply e t h)

/-- The reference's result at a tile's entry. -/
theorem both_apply (rw lo hi : IVec S216 32) (x : FVec Ideal S552960x128 .f32) (g u : FVec Ideal S32x1024x256 .f32) (d : FVec Ideal S32x256x1024 .f32)
    (t : Fin 216) (r : Fin 320) (j : Fin 2048) (y : S69120x2048.Idx) (h0 : (y 0).val = 320 * t.val + r.val) (h1 : (y 1).val = j.val) :
    both rw lo hi x g u d y = Scalar.select (IntOp.cmpi .sgt (rw (ix1 t)) 0#32)
      (if h : j.val < 1024 then expert x g u d lo (ix3 t r ⟨j.val, h⟩) else expert x g u d hi (ix3 t r ⟨j.val - 1024, by have := j.2; omega⟩)) (0 : EReal) := by
  unfold both
  refine (shapeCast_apply _ _ _ (ix3 t r j) ?_).trans ?_
  · rw [Shape.rowMajor_val_three, Shape.rowMajor_val_two]
    show (t.val * 320 + r.val) * 2048 + j.val = (y 0).val * 2048 + (y 1).val
    omega
  · generalize expert x g u d lo = A
    generalize expert x g u d hi = B
    pointwise [id_eq]

end Cert.Reference2Ideal.Hand

end
-- ==== Proof.Value.lean ====
module

public import proofs.«01_k».proof.Proof.Grid
public import proofs.«01_k».proof.Proof.Experts

@[expose] public section

set_option maxRecDepth 65536

noncomputable section

namespace Cert.Kernel2Ideal.Hand

open Cert.Kernel2Ideal Cert.Kernel2Ideal.Gen
open Cert.Pre_tiled (Tiled live live_le live_eq)
open Idealize.ShloMosaic Idealize.ShloMosaic.TcCoe Idealize.SL.Sem

section
variable {F : FTy → Type} [FloatOps F]
variable (m : (ℓ : Loc nD τ sig) → Buf (Elt F) ℓ)

/-- The four tables of every core as the expert call wants them. -/
def Fine : Prop := ∀ c : Dev nD, Tiled (rws m c) (elo m c) (ehi m c) (cnt m c (ValueIdx.ix1 0))

variable {m}

/-- Then every block the call reads lies inside its array. -/
theorem fine_ok (hf : Fine m) : ok0 (F := F) (tabs m) := by
  refine ok_of (tabs m) (fun j => ?_) (fun j => ?_)
  · have e : tLo (tabs m) = look m 0 (elo m 0) := V_v12 m 0
    rw [e, look_apply]; exact (hf 0).lo _
  · have e : tHi (tabs m) = look m 0 (ehi m 0) := V_v19 m 0
    rw [e, look_apply]; exact (hf 0).hi _

variable (hok : ok0 (F := F) (tabs m))

/-- The tile a grid point stands for. -/
def tileAt (t : Fin grid0.N) : Fin 216 := ⟨(grid0.coords t 0).val, point_lt (grid0.coords t)⟩

/-- A tile with rows is live. -/
theorem live_at (hf : Fine m) (c : Dev nD) (i : Fin 216) (h : IntOp.cmpi .sgt (rws m c (ValueIdx.ix1 i)) 0#32 = 1#1) :
    (live (cnt m c (ValueIdx.ix1 0)) i.val).toNat = i.val := by
  rcases (hf c).dead i with q | q
  · have := conds (rws m c (ValueIdx.ix1 i))
    rw [cond1_iff, cond2_iff] at this
    rcases this with ⟨_, q'⟩ | ⟨q', _⟩
    · exact absurd q q'
    · exact absurd h q'
  · exact live_eq _ i.2 q

/-- Where a live tile's experts come from. -/
theorem look_at (hf : Fine m) (c : Dev nD) (e : IVec S216 32) (i : Fin 216) (h : IntOp.cmpi .sgt (rws m c (ValueIdx.ix1 i)) 0#32 = 1#1) :
    look m c e (ValueIdx.ix1 i) = e (ValueIdx.ix1 i) := by
  rw [look_apply]
  exact congrArg e (congrArg ValueIdx.ix1 (Fin.ext (live_at hf c i h)))

theorem tabs_lo (c : Dev nD) : tLo (tabs m) = look m c (elo m c) := by
  have : c = 0 := Subsingleton.elim _ _
  subst this; exact V_v12 m 0
theorem tabs_hi (c : Dev nD) : tHi (tabs m) = look m c (ehi m c) := by
  have : c = 0 := Subsingleton.elim _ _
  subst this; exact V_v19 m 0
theorem tabs_cnt (c : Dev nD) : tCnt (tabs m) = cnt m c := by
  have : c = 0 := Subsingleton.elim _ _
  subst this; exact V_arg3 m 0

/-- The tokens of a live tile. -/
theorem b0_at (hf : Fine m) (c : Dev nD) (t : Fin grid0.N) (h : IntOp.cmpi .sgt (rws m c (ValueIdx.ix1 (tileAt t))) 0#32 = 1#1)
    (y : S2560x128.Idx) (z : S552960x128.Idx) (h0 : (z 0).val = 2560 * (tileAt t).val + (y 0).val) (h1 : (z 1).val = (y 1).val) :
    b0 m hok c t y = xs m c z := by
  refine (show b0 m hok c t y = V m c main_arg4 ((((cfgs m hok 0).win 0).blk t).view.emb y) from rfl).trans
    ((congrFun (V_arg4 m c) _).trans (congrArg (xs m c) (funext fun a => Fin.ext ?_)))
  match a with
  | ⟨0, _⟩ =>
    have e := tr0 (tabs m) (grid0.coords t)
    rw [tabs_cnt c, show (grid0.coords t 0).val = (tileAt t).val from rfl, live_at hf c (tileAt t) h] at e
    show (cc0_transform_0 inb_S1_S1_0 numel1_S1 (tabs m) (grid0.coords t)) 0 * 2560 + 1 * (y (0 : Fin 2)).val = (z (0 : Fin 2)).val
    rw [e, h0]; omega
  | ⟨1, _⟩ =>
    show 0 * 128 + 1 * (y (1 : Fin 2)).val = (z (1 : Fin 2)).val
    rw [h1]; omega

/-- The experts' matrices of a live tile. -/
theorem b1_at (hf : Fine m) (c : Dev nD) (t : Fin grid0.N) (h : IntOp.cmpi .sgt (rws m c (ValueIdx.ix1 (tileAt t))) 0#32 = 1#1) (e : Fin 32)
    (he : (elo m c (ValueIdx.ix1 (tileAt t))).toNat = e.val) (l : Fin 1024) (k : Fin 512) : b1 m hok c t (ix3 (0 : Fin 1) l k) = gu m c (ix3 e l k) := by
  refine (show b1 m hok c t (ix3 (0 : Fin 1) l k) = V m c main_v22 ((((cfgs m hok 0).win 1).blk t).view.emb (ix3 (0 : Fin 1) l k)) from rfl).trans
    ((congrFun (V_v22 m c) _).trans (congrArg (gu m c) (funext fun a => Fin.ext ?_)))
  match a with
  | ⟨0, _⟩ =>
    have q := tr1 (tabs m) (grid0.coords t)
    rw [tabs_lo c, show (⟨(grid0.coords t 0).val, point_lt (grid0.coords t)⟩ : Fin 216) = tileAt t from rfl, look_at hf c _ _ h, he] at q
    show (cc0_transform_1 k0_off1_inb numel1_S1 (tabs m) (grid0.coords t)) 0 * 1 + 1 * 0 = e.val
    rw [q]; omega
  | ⟨1, _⟩ => show 0 * 1024 + 1 * l.val = l.val; omega
  | ⟨2, _⟩ => show 0 * 512 + 1 * k.val = k.val; omega
theorem b2_at (hf : Fine m) (c : Dev nD) (t : Fin grid0.N) (h : IntOp.cmpi .sgt (rws m c (ValueIdx.ix1 (tileAt t))) 0#32 = 1#1) (e : Fin 32)
    (he : (elo m c (ValueIdx.ix1 (tileAt t))).toNat = e.val) (k : Fin 256) (j : Fin 1024) : b2 m hok c t (ix3 (0 : Fin 1) k j) = dn m c (ix3 e k j) := by
  refine (show b2 m hok c t (ix3 (0 : Fin 1) k j) = V m c main_v23 ((((cfgs m hok 0).win 2).blk t).view.emb (ix3 (0 : Fin 1) k j)) from rfl).trans
    ((congrFun (V_v23 m c) _).trans (congrArg (dn m c) (funext fun a => Fin.ext ?_)))
  match a with
  | ⟨0, _⟩ =>
    have q := tr2 (tabs m) (grid0.coords t)
    rw [tabs_lo c, show (⟨(grid0.coords t 0).val, point_lt (grid0.coords t)⟩ : Fin 216) = tileAt t from rfl, look_at hf c _ _ h, he] at q
    show (cc0_transform_2 k0_off1_inb numel1_S1 (tabs m) (grid0.coords t)) 0 * 1 + 1 * 0 = e.val
    rw [q]; omega
  | ⟨1, _⟩ => show 0 * 256 + 1 * k.val = k.val; omega
  | ⟨2, _⟩ => show 0 * 1024 + 1 * j.val = j.val; omega
theorem b3_at (hf : Fine m) (c : Dev nD) (t : Fin grid0.N) (h : IntOp.cmpi .sgt (rws m c (ValueIdx.ix1 (tileAt t))) 0#32 = 1#1) (e : Fin 32)
    (he : (ehi m c (ValueIdx.ix1 (tileAt t))).toNat = e.val) (l : Fin 1024) (k : Fin 512) : b3 m hok c t (ix3 (0 : Fin 1) l k) = gu m c (ix3 e l k) := by
  refine (show b3 m hok c t (ix3 (0 : Fin 1) l k) = V m c main_v22 ((((cfgs m hok 0).win 3).blk t).view.emb (ix3 (0 : Fin 1) l k)) from rfl).trans
    ((congrFun (V_v22 m c) _).trans (congrArg (gu m c) (funext fun a => Fin.ext ?_)))
  match a with
  | ⟨0, _⟩ =>
    have q := tr3 (tabs m) (grid0.coords t)
    rw [tabs_hi c, show (⟨(grid0.coords t 0).val, point_lt (grid0.coords t)⟩ : Fin 216) = tileAt t from rfl, look_at hf c _ _ h, he] at q
    show (cc0_transform_3 k0_off1_inb numel1_S1 (tabs m) (grid0.coords t)) 0 * 1 + 1 * 0 = e.val
    rw [q]; omega
  | ⟨1, _⟩ => show 0 * 1024 + 1 * l.val = l.val; omega
  | ⟨2, _⟩ => show 0 * 512 + 1 * k.val = k.val; omega
theorem b4_at (hf : Fine m) (c : Dev nD) (t : Fin grid0.N) (h : IntOp.cmpi .sgt (rws m c (ValueIdx.ix1 (tileAt t))) 0#32 = 1#1) (e : Fin 32)
    (he : (ehi m c (ValueIdx.ix1 (tileAt t))).toNat = e.val) (k : Fin 256) (j : Fin 1024) : b4 m hok c t (ix3 (0 : Fin 1) k j) = dn m c (ix3 e k j) := by
  refine (show b4 m hok c t (ix3 (0 : Fin 1) k j) = V m c main_v23 ((((cfgs m hok 0).win 4).blk t).view.emb (ix3 (0 : Fin 1) k j)) from rfl).trans
    ((congrFun (V_v23 m c) _).trans (congrArg (dn m c) (funext fun a => Fin.ext ?_)))
  match a with
  | ⟨0, _⟩ =>
    have q := tr4 (tabs m) (grid0.coords t)
    rw [tabs_hi c, show (⟨(grid0.coords t 0).val, point_lt (grid0.coords t)⟩ : Fin 216) = tileAt t from rfl, look_at hf c _ _ h, he] at q
    show (cc0_transform_4 k0_off1_inb numel1_S1 (tabs m) (grid0.coords t)) 0 * 1 + 1 * 0 = e.val
    rw [q]; omega
  | ⟨1, _⟩ => show 0 * 256 + 1 * k.val = k.val; omega
  | ⟨2, _⟩ => show 0 * 1024 + 1 * j.val = j.val; omega

end

variable {m : (ℓ : Loc nD τ sig) → Buf (Elt Ideal) ℓ} (hok : ok0 (F := Ideal) (tabs m))

/-- The joined first matrices, apart again. -/
theorem gu_apply (c : Dev nD) (e : Fin 32) (l : Fin 1024) (k : Fin 256) :
    gu m c (ix3 e l ⟨k.val, by have := k.2; omega⟩) = wg m c (ix3 e l k) ∧ gu m c (ix3 e l ⟨256 + k.val, by have := k.2; omega⟩) = wu m c (ix3 e l k) := by
  unfold gu
  generalize wg m c = A
  generalize wu m c = B
  constructor
  · pointwise
  · pointwise
theorem dn_apply (c : Dev nD) (e : Fin 32) (k : Fin 256) (j : Fin 1024) : dn m c (ix3 e k j) = wd m c (ix3 e k j) := by
  unfold dn
  pointwise

open Cert.Reference2Ideal.Hand in
/-- A live tile's two columns, by either expert, as the reference has them. -/
theorem mix_eq (X : S2560x128.Idx → Ideal .f32) (G : S1x1024x512.Idx → Ideal .bf16) (D : S1x256x1024.Idx → Ideal .bf16) (c : Dev nD) (t : Fin 216) (e : Fin 32)
    (hX : ∀ (y : S2560x128.Idx) (z : S552960x128.Idx), (z 0).val = 2560 * t.val + (y 0).val → (z 1).val = (y 1).val → X y = xs m c z)
    (hG : ∀ l k, G (ix3 (0 : Fin 1) l k) = gu m c (ix3 e l k)) (hD : ∀ k j, D (ix3 (0 : Fin 1) k j) = dn m c (ix3 e k j)) (r : Fin 320) (j : Fin 1024) :
    Cert.Kernel2Ideal.Hand.mix X G D r j = Cert.Reference2Ideal.Hand.mix (xs m c) (wg m c) (wu m c) (wd m c) e t r j := by
  have hw : ∀ l, Cert.Kernel2Ideal.Hand.word X r l = Cert.Reference2Ideal.Hand.word (xs m c) t r l := fun l => by
    unfold Cert.Kernel2Ideal.Hand.word Cert.Reference2Ideal.Hand.word
    refine hX _ _ ?_ rfl
    show 2560 * t.val + 8 * r.val + l.val / 128 = 2560 * t.val + (8 * r.val + l.val / 128)
    omega
  have h1 : ∀ k : Fin 256, Cert.Kernel2Ideal.Hand.lin X G r ⟨k.val, by have := k.2; omega⟩ = Cert.Reference2Ideal.Hand.lin (xs m c) (wg m c) e t r k := fun k => by
    unfold Cert.Kernel2Ideal.Hand.lin Cert.Reference2Ideal.Hand.lin
    exact Finset.sum_congr rfl fun l _ => by rw [hw, hG, (gu_apply c e l k).1]
  have h2 : ∀ k : Fin 256, Cert.Kernel2Ideal.Hand.lin X G r ⟨256 + k.val, by have := k.2; omega⟩ = Cert.Reference2Ideal.Hand.lin (xs m c) (wu m c) e t r k := fun k => by
    unfold Cert.Kernel2Ideal.Hand.lin Cert.Reference2Ideal.Hand.lin
    exact Finset.sum_congr rfl fun l _ => by rw [hw, hG, (gu_apply c e l k).2]
  unfold Cert.Kernel2Ideal.Hand.mix Cert.Reference2Ideal.Hand.mix
  exact Finset.sum_congr rfl fun k _ => by rw [h1, h2, hD, dn_apply]

/-- The call's result is the reference's. -/
theorem res_both (hf : Fine m) (c : Dev nD) :
    res m hok c = Cert.Reference2Ideal.Hand.both (rws m c) (elo m c) (ehi m c) (xs m c) (wg m c) (wu m c) (wd m c) := by
  funext y
  have hy0 : (y 0).val < 69120 := (y 0).2
  have ht : (tileAt (tileOf y)).val = (y 0).val / 320 := coords0 (tileOf y)
  have hr : (y 0).val % 320 < 320 := Nat.mod_lt _ (by norm_num)
  rw [Cert.Reference2Ideal.Hand.both_apply (rws m c) (elo m c) (ehi m c) (xs m c) (wg m c) (wu m c) (wd m c) (tileAt (tileOf y)) ⟨(y 0).val % 320, hr⟩ (y 1) y
    (by rw [ht]; show (y 0).val = 320 * ((y 0).val / 320) + (y 0).val % 320; omega) rfl]
  show tile (cntAt m c (tileOf y)) _ _ _ _ _ (ValueIdx.ix2 ⟨(y 0).val % 320, hr⟩ (y 1)) = _
  unfold tile
  rw [cond1_iff, show cntAt m c (tileOf y) = rws m c (ValueIdx.ix1 (tileAt (tileOf y))) from rfl]
  generalize tileOf y = t
  by_cases h : IntOp.cmpi .sgt (rws m c (ValueIdx.ix1 (tileAt t))) 0#32 = 1#1
  · rw [if_pos h]
    have hs : ∀ (a b : Ideal .f32) (w : BitVec 1), w = 1#1 → Scalar.select w a b = a := by rintro a b w rfl; rfl
    refine Eq.trans ?_ (hs _ _ _ h).symm
    unfold both
    by_cases hj : (y 1).val < 1024
    · rw [dif_pos (show ((ValueIdx.ix2 (⟨(y 0).val % 320, hr⟩ : Fin 320) (y 1) : S320x2048.Idx) 1).val < 1024 from hj), dif_pos hj]
      refine (half1_apply _ _ _ ⟨(y 0).val % 320, hr⟩ ⟨(y 1).val, hj⟩).trans ?_
      rw [Cert.Reference2Ideal.Hand.expert_apply _ _ _ _ _ _ _ _ ((hf c).lo (tileAt t))]
      exact mix_eq _ _ _ c (tileAt t) _ (b0_at hok hf c t h) (b1_at hok hf c t h _ rfl) (b2_at hok hf c t h _ rfl) _ _
    · rw [dif_neg (show ¬ ((ValueIdx.ix2 (⟨(y 0).val % 320, hr⟩ : Fin 320) (y 1) : S320x2048.Idx) 1).val < 1024 from hj), dif_neg hj]
      refine (half2_apply _ _ _ ⟨(y 0).val % 320, hr⟩ ⟨(y 1).val - 1024, _⟩).trans ?_
      rw [Cert.Reference2Ideal.Hand.expert_apply _ _ _ _ _ _ _ _ ((hf c).hi (tileAt t))]
      exact mix_eq _ _ _ c (tileAt t) _ (b0_at hok hf c t h) (b3_at hok hf c t h _ rfl) (b4_at hok hf c t h _ rfl) _ _
  · rw [if_neg h]
    have hs : ∀ (a b : Ideal .f32) (w : BitVec 1), w ≠ 1#1 → Scalar.select w a b = b := by
      intro a b w hw; unfold Scalar.select; exact if_neg hw
    exact (none_apply _).trans (hs _ _ _ h).symm

end Cert.Kernel2Ideal.Hand

end
-- ==== Proof.Slots.lean ====
module

public import proofs.«01_k».proof.Pre_in_slots
public import proofs.«01_k».proof.Proof.Routed

@[expose] public section

namespace Cert.Pre_in_slots

open Idealize.ShloMosaic Idealize.ShloMosaic.ValueIdx
open Cert.Pre_routed (toNat_of_range)
open Facts

variable {F : FTy → Type} [FloatOps F] [Facts]

/-- The precondition of the collect call, decoded: every token's slot is one of the slots. -/
theorem slots_of (pos : IVec S32768 32) (y : FVec F S69120x2048 .f32) (x : FVec F S262144x128 .f32) (w : FVec F S32768x128 .f32) (g b : FVec F S1024 .f32)
    (h : fn (F := F) pos y x w g b = fun _ => 1#1) (t : Fin 32768) : (pos (ix1 t)).toNat < 69120 := by
  have e := congrFun h (fun a => a.elim0)
  unfold fn at e
  haveI : Subsingleton S_.Idx := ⟨fun a b => funext fun k => k.elim0⟩
  have q := Host.reduce_andi_all _ _ _ _ _ e (ix1 t)
  obtain ⟨q0, q1⟩ := IntOp.andi_eq_one.1 q
  exact toNat_of_range (by norm_num) q0 q1

end Cert.Pre_in_slots
-- ==== Proof.Words3.lean ====
module

public import proofs.«01_k».proof.Kernel3Ideal
public import proofs.«01_k».proof.Proof.Gen.Kernel3Ideal
public import Idealize.ShloMosaic.Lib.WordCmp

@[expose] public section

namespace Cert.Kernel3Ideal.Words

open Cert.Kernel3Ideal Cert.Kernel3Ideal.Gen
open Idealize.ShloMosaic

/-! The collect call's words as numbers. -/

theorem iv_ofNat (k : ℕ) : Scf.iv 0#32 1#32 k = BitVec.ofNat 32 k := by
  simp [Scf.iv]

theorem trips1 : k0_t1_loop.trips = 128 := by decide +kernel
theorem trips2 : k0_t2_loop.trips = 128 := by decide +kernel
theorem trips3 : k0_t3_loop.trips = 1024 := by decide +kernel
theorem lt1 (t : Fin k0_t1_loop.trips) : t.val < 128 := Nat.lt_of_lt_of_eq t.2 trips1
theorem lt2 (t : Fin k0_t2_loop.trips) : t.val < 128 := Nat.lt_of_lt_of_eq t.2 trips2

/-- A copy's row of its slot. -/
theorem row_word {k : ℕ} (hk : k < 128) (u : Fin 8) : (Scalar.addi (Scalar.muli (Scf.iv 0#32 1#32 k) 8#32) (BitVec.ofNat 32 u.val)).toNat = 8 * k + u.val := by
  have := u.2
  rw [iv_ofNat]
  simp only [Scalar.addi, Scalar.muli, IntOp.addi, IntOp.muli, BitVec.toNat_add, BitVec.toNat_mul, BitVec.toNat_ofNat]
  omega

/-- The word of a copy of the first block. -/
theorem first_word {k : ℕ} (hk : k < 128) (u : Fin 8) :
    (![(Scalar.indexCast (Scalar.addi 0#32 (Scalar.addi (Scalar.muli (Scf.iv 0#32 1#32 k) 8#32) (BitVec.ofNat 32 u.val))) : Index).toNat] : Fin 1 → ℕ) = ![1024 * 0 + (8 * k + u.val)] := by
  have h := row_word hk u
  have := u.2
  refine congrArg (fun n => ![n]) ?_
  show (0#32 + Scalar.addi (Scalar.muli (Scf.iv 0#32 1#32 k) 8#32) (BitVec.ofNat 32 u.val)).toNat = _
  rw [BitVec.zero_add, h]; omega

/-- The word of a copy of the block after grid point `p`'s. -/
theorem next_word {p k : ℕ} (hp : p < 32) (hk : k < 128) (u : Fin 8) :
    (![(Scalar.indexCast (Scalar.addi (Scalar.muli (Scalar.addi (BitVec.ofNat 32 p) 1#32) 1024#32)
      (Scalar.addi (Scalar.muli (Scf.iv 0#32 1#32 k) 8#32) (BitVec.ofNat 32 u.val))) : Index).toNat] : Fin 1 → ℕ) = ![1024 * (p + 1) + (8 * k + u.val)] := by
  have h := row_word hk u
  have := u.2
  refine congrArg (fun n => ![n]) ?_
  show (Scalar.muli (Scalar.addi (BitVec.ofNat 32 p) 1#32) 1024#32 + Scalar.addi (Scalar.muli (Scf.iv 0#32 1#32 k) 8#32) (BitVec.ofNat 32 u.val)).toNat = _
  rw [BitVec.toNat_add, h]
  simp only [Scalar.addi, Scalar.muli, IntOp.addi, IntOp.muli, BitVec.toNat_add, BitVec.toNat_mul, BitVec.toNat_ofNat]
  omega

/-- The slot of a block, as the program computes it. -/
def par (x : BitVec 32) : BitVec 32 :=
  Scalar.select (Scalar.andi (Scalar.xori (Scalar.cmpi .slt (Scalar.remsi x (Scalar.select (Scalar.cmpi .eq 2#32 0#32) 1#32 2#32)) 0#32)
      (Scalar.cmpi .slt (Scalar.select (Scalar.cmpi .eq 2#32 0#32) 1#32 2#32) 0#32))
      (Scalar.cmpi .ne (Scalar.remsi x (Scalar.select (Scalar.cmpi .eq 2#32 0#32) 1#32 2#32)) 0#32))
    (Scalar.addi (Scalar.remsi x (Scalar.select (Scalar.cmpi .eq 2#32 0#32) 1#32 2#32)) (Scalar.select (Scalar.cmpi .eq 2#32 0#32) 1#32 2#32))
    (Scalar.remsi x (Scalar.select (Scalar.cmpi .eq 2#32 0#32) 1#32 2#32))

theorem par_fin : ∀ p : Fin 32, (par (BitVec.ofNat 32 p.val)).toNat = p.val % 2 := by decide +kernel
theorem par_next : ∀ p : Fin 32, (par (Scalar.addi (BitVec.ofNat 32 p.val) 1#32)).toNat = (p.val + 1) % 2 := by decide +kernel

theorem off26 (i : grid0.Coords) : k0_off26 i = ![((i 0).val + 1) % 2] := congrArg (fun n => ![n]) (par_next (i 0))
theorem off27 (i : grid0.Coords) (k : Fin k0_t2_loop.trips) : k0_off27 i k = ![((i 0).val + 1) % 2, 8 * k.val + 0, 0] := by
  have h1 : k0_off27 i k = ![(par (Scalar.addi (BitVec.ofNat 32 (i 0).val) 1#32)).toNat,
    (Scalar.addi (Scalar.muli (Scf.iv 0#32 1#32 k.val) 8#32) (BitVec.ofNat 32 (0 : Fin 8).val)).toNat, 0] := rfl
  rw [h1, row_word (lt2 k) 0, par_next (i 0)]; rfl
theorem off57 (i : grid0.Coords) : k0_off57 i = ![(i 0).val % 2] := congrArg (fun n => ![n]) (par_fin (i 0))
theorem off58 (i : grid0.Coords) : k0_off58 i = ![(i 0).val % 2, 0, 0] := congrArg (fun n => ![n, 0, 0]) (par_fin (i 0))
theorem off59 (i : grid0.Coords) : k0_off59 i = ![(i 0).val % 2, 0, 0] := congrArg (fun n => ![n, 0, 0]) (par_fin (i 0))
theorem off60 (i : grid0.Coords) : k0_off60 i = ![(i 0).val % 2, 0, 1024] := congrArg (fun n => ![n, 0, 1024]) (par_fin (i 0))

/-- A copy of the first block lands on its row of the first slot. -/
theorem first_row {k : ℕ} (hk : k < 128) (u : Fin 8) :
    (![0, (Scalar.addi (Scalar.muli (Scf.iv 0#32 1#32 k) 8#32) (BitVec.ofNat 32 u.val)).toNat, 0] : Fin 3 → ℕ) = ![0, 8 * k + u.val, 0] := by
  rw [row_word hk u]

/-- A copy of the next block lands on its row of the other slot. -/
theorem next_row (i : grid0.Coords) {k : ℕ} (hk : k < 128) (u : Fin 8) :
    (![(par (Scalar.addi (BitVec.ofNat 32 (i 0).val) 1#32)).toNat, (Scalar.addi (Scalar.muli (Scf.iv 0#32 1#32 k) 8#32) (BitVec.ofNat 32 u.val)).toNat, 0] : Fin 3 → ℕ)
      = ![((i 0).val + 1) % 2, 8 * k + u.val, 0] := by
  rw [row_word hk u, par_next (i 0)]

/-- The rows of the experts' outputs that a slot names are there. -/
theorem slot_inb {v : BitVec 32} (hv : v.toNat < 69120) : ∀ a, (![v.toNat, 0] : Fin 2 → ℕ) a + S1x2048.size a ≤ S69120x2048.size a := by
  intro a
  match a with
  | ⟨0, _⟩ => show v.toNat + 1 ≤ 69120; omega
  | ⟨1, _⟩ => show 0 + 2048 ≤ 2048; omega

/-- The first grid point starts the first block's copies. -/
theorem first_iff (i : grid0.Coords) : k0_cond1 i = 1#1 ↔ (i 0).val = 0 := by
  have h : ∀ n : Fin 32, Scalar.cmpi .ne (Scalar.extui (Scalar.cmpi .eq (BitVec.ofNat 32 n.val) 0#32) : BitVec 32) 0#32 = 1#1 ↔ n.val = 0 := by decide +kernel
  exact h (i 0)

/-- Every grid point but the last starts the next block's copies. -/
theorem next_iff (i : grid0.Coords) : k0_cond2 i = 1#1 ↔ (i 0).val + 1 < 32 := by
  have h : ∀ n : Fin 32, Scalar.cmpi .ne (Scalar.extui (Scalar.cmpi .slt (Scalar.addi (BitVec.ofNat 32 n.val) 1#32) 32#32) : BitVec 32) 0#32 = 1#1 ↔ n.val + 1 < 32 := by decide +kernel
  exact h (i 0)

end Cert.Kernel3Ideal.Words
-- ==== Proof.Fetch.lean ====
module

public import proofs.«01_k».proof.Proof.Gen.Kernel3Ideal.Launch
public import proofs.«01_k».proof.Proof.Gen.Kernel3Ideal.Skeleton
public import proofs.«01_k».proof.Proof.Gen.Kernel3Ideal.Loops
public import proofs.«01_k».proof.Proof.Words3
public import proofs.«01_k».proof.Proof.Routed
public import Idealize.ShloMosaic.Lib.Pipeline.FrameBody
public import Idealize.ShloMosaic.Lib.Batch
public import Idealize.ShloMosaic.Lib.Ring
public import Idealize.ShloMosaic.Lib.Tactic
public import Idealize.ShloMosaic.Lib.ValueLayout
public import Idealize.SL.BI.BigOpNat

@[expose] public section

set_option maxRecDepth 65536

noncomputable section

namespace Cert.Kernel3Ideal.Hand

open Cert.Kernel3Ideal Cert.Kernel3Ideal.Gen Cert.Kernel3Ideal.Words
open Cert.Pre_routed (slotOf)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The transfers' counters in the proof's algebra. -/
abbrev EC : UEmb Counters 𝕄 := countersEmb (U := Pipeline.UD sig nD τ)

/-- The two slots' buffer on core `c`. -/
abbrev ℓb (c : Dev nD) : Loc nD τ sig := (Memref.whole cc0_scratch0).view.loc (c : Thread nD τ)

/-- The experts' outputs' buffer on core `c`. -/
abbrev ℓy (c : Dev nD) : Loc nD τ sig := (Memref.whole main_arg1).view.loc (c : Thread nD τ)

/-- The slots' table's buffer on core `c`. -/
abbrev ℓp (c : Dev nD) : Loc nD τ sig := (Memref.whole main_arg0).view.loc (c : Thread nD τ)

/-- What one row's copy adds to its cell. -/
abbrev N1 : ℕ := cc0_scratch0.dmaCredit S1x2048 .f32

/-- One row's copy adds something to its cell. -/
theorem N1_pos : 0 < N1 := sig.dmaCredit_pos _ _ _ _ _ (by decide +kernel)

/-- The cell that slot `s`'s copies complete on. -/
abbrev cell (s : Fin 2) : SemLoc sig := .dma ⟨8 + s.val, by have := s.2; show 8 + s.val < 10; omega⟩

/-- The program's cell of slot `s` is that one. -/
theorem cell_eq (s : Fin 2) {o : Fin 1 → ℕ} (h : ∀ a, o a + S1.size a ≤ S2.size a) (e : o = ![s.val]) (hq) :
    ((cc0_scratch1.slice (Rect.unit (s := S2) o S1.size h)).squeeze S_ hq).sem = (⟨8 + s.val, by have := s.2; show 8 + s.val < 10; omega⟩ : DmaSem sig) := by
  subst e
  refine Fin.ext ?_
  show 8 + (S2.rowMajor ((Rect.unit (s := S2) ![s.val] S1.size h).emb (Shape.reshapeEquiv _ _))).val = 8 + s.val
  rw [Shape.rowMajor_val_one]
  show 8 + (s.val + 1 * ((Shape.reshapeEquiv hq.numel_eq (fun i => i.elim0) : S1.Idx) 0).val) = 8 + s.val
  have h1 : ((Shape.reshapeEquiv hq.numel_eq (fun i => i.elim0) : S1.Idx) 0).val < 1 := Fin.isLt _
  omega

/-- The share of the experts' outputs that slot `s`'s copies read with. -/
def sh (s : Fin 2) : PosShare TreeShare := if s.val = 0 then fullShare.left else fullShare.right

/-- Row `j` of slot `s`. -/
def rset (s : Fin 2) (j : ℕ) : Finset S2x1024x2048.Idx := Finset.univ.filter fun y => (y 0).val = s.val ∧ (y 1).val = j

/-- Slot `s`. -/
def sset (s : Fin 2) : Finset S2x1024x2048.Idx := Finset.univ.filter fun y => (y 0).val = s.val

/-- Row `r` of the experts' outputs. -/
def yset (r : ℕ) : Finset S69120x2048.Idx := Finset.univ.filter fun z => (z 0).val = r

/-- A slot once block `b`'s rows have landed in it. -/
def got (P : ℕ → ℕ) (ys : S69120x2048.Idx → F .f32) (b : ℕ) : S2x1024x2048.Idx → F .f32 :=
  fun y => ys (ix2 ⟨P (1024 * b + (y 1).val) % 69120, Nat.mod_lt _ (by omega)⟩ (y 2))

/-- A row of a slot, as the copy's destination. -/
theorem dst_emb {s : Fin 2} {j : ℕ} (hj : j < 1024) (h : ∀ a, (![s.val, j, 0] : Fin 3 → ℕ) a + S1x1x2048.size a ≤ S2x1024x2048.size a) (hq) (z : S1x2048.Idx) :
    (((Memref.whole cc0_scratch0).slice (Rect.unit (s := S2x1024x2048) ![s.val, j, 0] S1x1x2048.size h) (fun _ => rfl)).squeeze S1x2048 hq).view.emb z = ix3 s (⟨j, hj⟩ : Fin 1024) (z 1) := by
  show (Rect.unit (s := S2x1024x2048) ![s.val, j, 0] S1x1x2048.size h).emb (Shape.reshapeEquiv _ z) = _
  have hz : z = (ix2 (z 0 : Fin 1) (z 1 : Fin 2048) : S1x2048.Idx) := by
    funext a
    match a with
    | ⟨0, _⟩ => rfl
    | ⟨1, _⟩ => rfl
  rw [hz]
  rw [show Shape.reshapeEquiv hq.numel_eq (ix2 (z 0 : Fin 1) (z 1 : Fin 2048) : S1x2048.Idx) = _ from reshapeEquiv_ix2_1ab (a := 1) (b := 2048) _ _ _]
  have h0 : (z 0).val < 1 := (z 0).2
  funext a
  match a with
  | ⟨0, _⟩ => exact Fin.ext (by show s.val + 1 * 0 = s.val; omega)
  | ⟨1, _⟩ => exact Fin.ext (by show j + 1 * (z 0).val = j; omega)
  | ⟨2, _⟩ => exact Fin.ext (by show 0 + 1 * (z 1).val = (z 1).val; omega)

/-- A copy's destination is its row of its slot. -/
theorem dst_set {s : Fin 2} {j : ℕ} (hj : j < 1024) (h : ∀ a, (![s.val, j, 0] : Fin 3 → ℕ) a + S1x1x2048.size a ≤ S2x1024x2048.size a) (hq) :
    (((Memref.whole cc0_scratch0).slice (Rect.unit (s := S2x1024x2048) ![s.val, j, 0] S1x1x2048.size h) (fun _ => rfl)).squeeze S1x2048 hq).view.set = rset s j := by
  ext y
  unfold rset
  rw [Finset.mem_filter]
  constructor
  · intro hy
    obtain ⟨z, -, rfl⟩ := Finset.mem_map.1 hy
    rw [dst_emb hj h hq z]
    exact ⟨Finset.mem_univ _, rfl, rfl⟩
  · rintro ⟨-, h0, h1⟩
    refine Finset.mem_map.2 ⟨(ix2 (0 : Fin 1) (y 2 : Fin 2048) : S1x2048.Idx), Finset.mem_univ _, ?_⟩
    rw [dst_emb hj h hq]
    funext a
    match a with
    | ⟨0, _⟩ => exact Fin.ext h0.symm
    | ⟨1, _⟩ => exact Fin.ext h1.symm
    | ⟨2, _⟩ => rfl

/-- A copy's source is its row of the experts' outputs. -/
theorem src_set {r : ℕ} (h : ∀ a, (![r, 0] : Fin 2 → ℕ) a + S1x2048.size a ≤ S69120x2048.size a) :
    ((Memref.whole main_arg1).slice (Rect.unit (s := S69120x2048) ![r, 0] S1x2048.size h) (fun _ => rfl)).view.set = yset r := by
  show ((View.whole main_arg1).slice _).set = _
  rw [View.set_slice_whole]
  ext z
  unfold yset
  rw [Rect.mem_set_unit, Finset.mem_filter]
  constructor
  · intro hz
    have h0 := hz 0
    change r ≤ (z 0).val ∧ (z 0).val < r + 1 at h0
    exact ⟨Finset.mem_univ _, by omega⟩
  · rintro ⟨-, h0⟩ a
    match a with
    | ⟨0, _⟩ => show r ≤ (z 0).val ∧ (z 0).val < r + 1; omega
    | ⟨1, _⟩ => show 0 ≤ (z 1).val ∧ (z 1).val < 0 + 2048; have : (z 1).val < 2048 := (z 1).2; omega

/-- A word of the slots' table, loaded and found to name a row of the experts' outputs. -/
theorem row_load (c : Dev nD) (pos : IVec S32768 32) {q : PosShare TreeShare} {o : Fin 1 → ℕ} {inb} {n : ℕ} (ho : o = ![n]) (hn : n < 32768)
    (hv : ∀ t : Fin 32768, (pos (ix1 t)).toNat < 69120) {chk : BitVec 32 → Prop} {dec : ∀ v, Decidable (chk v)} (hchk : ∀ v : BitVec 32, v.toNat < 69120 → chk v)
    {α : Type} {k : (v : BitVec 32) → PLift (chk v) → Prog (TpuEff nD τ sig (Elt F) Λ₀ .tc) α} {Q : α → sProp 𝕄} :
    (ℓp c ↦{q} pos : sProp 𝕄) ⊢ iprop(((ℓp c ↦{q} pos) -∗ ∀ h, wp frame (wpE defs₀ Variants.none (c : Thread nD τ) none) Set.univ (k (pos (ix1 ⟨n, hn⟩)) ⟨h⟩) Q)
      -∗ wp frame (wpE defs₀ Variants.none (c : Thread nD τ) none) Set.univ
        (smemLoad (Memref.whole main_arg0) (Rect.unit (s := S32768) o S1.size inb) numel1_S1 rfl >>= fun v => Prog.lift (TpuEff.assume (chk v) (dec v)) >>= fun h => k v h) Q) := by
  subst ho
  iintro H Hk
  unfold smemLoad
  rw [smemLoadElt_bind]
  iapply (wp_smemLoadElt_named Variants.none (c : Thread nD τ) none Set.univ (m := Memref.whole main_arg0)) $$ H
  iintro H %w %hw
  have e : w = pos (ix1 ⟨n, hn⟩) := by
    rw [hw]
    refine congrArg pos (funext fun a => ?_)
    match a with
    | ⟨0, _⟩ => exact Fin.ext (by show n + 1 * (Shape.Idx.first _ 0).val = n; have := (Shape.Idx.first (numel1_S1.symm ▸ Nat.one_pos : 0 < S1.numel) 0).2; change _ < 1 at this; omega)
  rw [e]
  have h := hchk _ (hv ⟨n, hn⟩)
  simp only [Prog.lift, Prog.bind_op, Prog.bind_ret, Prog.pure_eq_ret]
  iapply (wp_assume Variants.none (c : Thread nD τ) none Set.univ h)
  iapply Hk $$ H

variable (c : Dev nD) {P : ℕ → ℕ} (ys : S69120x2048.Idx → F .f32) (V : S2x1024x2048.Idx → F .f32)

/-- What the copy of row `j` of block `b` delivers: its row of the slot, and the row of the experts' outputs it read. -/
def dels (P : ℕ → ℕ) (s : Fin 2) (b : ℕ) (j : Fin 1024) : sProp 𝕄 :=
  iprop((ℓb c ↦[rset s j.val]{fullShare} got P ys b) ∗ (ℓy c ↦[yset (P (1024 * b + j.val))]{Transfers.shareTokN (sh s) j.val} ys))

instance (s : Fin 2) (b : ℕ) (j : Fin 1024) : BI.Storable (upEmb : UEmb _ 𝕄) (dels c ys P s b j) := by unfold dels; infer_instance

/-- The rest of that copy's share of the experts' outputs. -/
def rest (P : ℕ → ℕ) (s : Fin 2) (b j : ℕ) : sProp 𝕄 := iprop(ℓy c ↦[Finset.univ \ yset (P (1024 * b + j))]{Transfers.shareTokN (sh s) j} ys)

/-- Before row `j` of block `b` is sent for: `j` copies in flight, the other rows of the slot and shares of the outputs in hand. -/
def fetSt (P : ℕ → ℕ) (s : Fin 2) (b j : ℕ) : sProp 𝕄 :=
  iprop(Transfers.Batch EC (c : Thread nD τ) (cell s) () N1 (dels c ys P s b) j 0
    ∗ bigSep (Finset.Ico j 1024) (fun t => (ℓb c ↦[rset s t]{fullShare} V : sProp 𝕄))
    ∗ bigSep (Finset.Ico j 1024) (fun t => (ℓy c ↦{Transfers.shareTokN (sh s) t} ys : sProp 𝕄))
    ∗ bigSep (Finset.Ico 0 j) (rest c ys P s b)
    ∗ (ℓy c ↦{Transfers.shareDrop (sh s) 1024} ys))

/-- One row's copy is sent. -/
theorem row_step (hP : ∀ t, t < 32768 → P t < 69120) {s : Fin 2} {b j : ℕ} (hb : b < 32) (hj : j < 1024)
    {o1 : Fin 1 → ℕ} (h1 : ∀ a, o1 a + S1.size a ≤ S2.size a) (e1 : o1 = ![s.val]) {hq1}
    {o2 : Fin 3 → ℕ} (h2 : ∀ a, o2 a + S1x1x2048.size a ≤ S2x1024x2048.size a) (e2 : o2 = ![s.val, j, 0]) {hq2}
    {o3 : Fin 2 → ℕ} (h3 : ∀ a, o3 a + S1x2048.size a ≤ S69120x2048.size a) (e3 : o3 = ![P (1024 * b + j), 0])
    {hsrc hdst hsem} {α : Type} {k : PUnit → Prog (TpuEff nD τ sig (Elt F) Λ₀ .tc) α} {Q : α → sProp 𝕄} :
    fetSt c ys V P s b j ⊢ iprop((fetSt c ys V P s b (j + 1) -∗ wp frame (wpE defs₀ Variants.none (c : Thread nD τ) none) Set.univ (k ⟨⟩) Q)
      -∗ wp frame (wpE defs₀ Variants.none (c : Thread nD τ) none) Set.univ
        (.op (.enqueueDma ((Memref.whole main_arg1).slice (Rect.unit (s := S69120x2048) o3 S1x2048.size h3) (fun _ => rfl))
          (.here (((Memref.whole cc0_scratch0).slice (Rect.unit (s := S2x1024x2048) o2 S1x1x2048.size h2) (fun _ => rfl)).squeeze S1x2048 hq2))
          (.dma ((cc0_scratch1.slice (Rect.unit (s := S2) o1 S1.size h1)).squeeze S_ hq1).sem) hsrc hdst hsem) k) Q) := by
  have hc := congrArg (SemLoc.dma (sig := sig)) (cell_eq s h1 e1 hq1)
  generalize ((cc0_scratch1.slice (Rect.unit (s := S2) o1 S1.size h1)).squeeze S_ hq1).sem = sm at hc hsem ⊢
  obtain rfl := SemLoc.dma.inj hc
  subst e2 e3
  have hr : P (1024 * b + j) < 69120 := hP _ (by omega)
  unfold fetSt
  rw [bigSep_Ico_succ_bot hj, bigSep_Ico_succ_bot hj, bigSep_Ico_succ_top (Nat.zero_le j)]
  iintro ⟨HB, ⟨Hd, Hds⟩, ⟨Hs, Hss⟩, Hr, Hdrop⟩ Hk
  ihave Hs := (pointsTo_split_subset (S := Finset.univ) (I := yset (P (1024 * b + j))) (Finset.subset_univ _)).1 $$ Hs
  icases Hs with ⟨Hs, Hsr⟩
  have hset := src_set h3
  have hdset := dst_set hj h2 hq2
  have hval : ∀ y ∈ rset s j, (((Memref.whole cc0_scratch0).slice (Rect.unit (s := S2x1024x2048) ![s.val, j, 0] S1x1x2048.size h2) (fun _ => rfl)).squeeze S1x2048 hq2).view.write (Elt F) V
      (ReadAs.apply .same (((Memref.whole main_arg1).slice (Rect.unit (s := S69120x2048) ![P (1024 * b + j), 0] S1x2048.size h3) (fun _ => rfl)).view.read (Elt F) ys)) Finset.univ y = got P ys b y := by
    intro y hy
    rw [← hdset] at hy
    obtain ⟨z, -, rfl⟩ := Finset.mem_map.1 hy
    rw [View.write_emb_of_mem _ _ (Finset.mem_univ _), dst_emb hj h2 hq2 z]
    refine congrArg ys (funext fun a => ?_)
    have hz : (z 0).val < 1 := (z 0).2
    match a with
    | ⟨0, _⟩ =>
      refine Fin.ext ?_
      show P (1024 * b + j) + 1 * (z 0).val = P (1024 * b + j) % 69120
      rw [Nat.mod_eq_of_lt hr]; omega
    | ⟨1, _⟩ => exact Fin.ext (by show 0 + 1 * (z 1).val = (z 1).val; omega)
  have hN : (((Memref.whole cc0_scratch0).slice (Rect.unit (s := S2x1024x2048) ![s.val, j, 0] S1x1x2048.size h2) (fun _ => rfl)).squeeze S1x2048 hq2).view.amount (cell s) = N1 := rfl
  iapply (Transfers.wp_dmaBatch EC Variants.none (c : Thread nD τ) none
    (src := (Memref.whole main_arg1).slice (Rect.unit (s := S69120x2048) ![P (1024 * b + j), 0] S1x2048.size h3) (fun _ => rfl))
    (dst := ((Memref.whole cc0_scratch0).slice (Rect.unit (s := S2x1024x2048) ![s.val, j, 0] S1x1x2048.size h2) (fun _ => rfl)).squeeze S1x2048 hq2)
    (Sd := rset s j) (fd := V) (fs := ys) (q := Transfers.shareTokN (sh s) j)
    () N1 hN (by rw [hdset]) (D := dels c ys P s b) (j := j) (u := 0) hj (Nat.zero_le _) ?_) $$ [HB Hd Hs]
  · unfold dels
    rw [pointsTo_congr hval, hset]
  · isplitl [Hs]; · rw [hset]; iexact Hs
    isplitl [Hd]; · iexact Hd
    iexact HB
  iintro HB
  iapply Hk
  isplitl [HB]; · iexact HB
  isplitl [Hds]; · iexact Hds
  isplitl [Hss]; · iexact Hss
  isplitl [Hsr Hr]
  · isplitl [Hsr]; · unfold rest; iexact Hsr
    iexact Hr
  iexact Hdrop

end Cert.Kernel3Ideal.Hand
-- ==== Proof.FetchLoop.lean ====
module

public import proofs.«01_k».proof.Proof.Fetch

@[expose] public section

set_option maxRecDepth 65536

noncomputable section

namespace Cert.Kernel3Ideal.Hand

open Cert.Kernel3Ideal Cert.Kernel3Ideal.Gen Cert.Kernel3Ideal.Words
open Cert.Pre_routed (slotOf)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- A returned value goes to its continuation. -/
theorem ret_bind {E : Type → Type} {α β : Type} (a : α) (k : α → Prog E β) : (Prog.ret a).bind k = k a := rfl

variable (c : Dev nD) (ys : S69120x2048.Idx → F .f32) (V : S2x1024x2048.Idx → F .f32)
  (arg3 : Memref sig .tc .vmem S8192x128 .f32) (harg3 : arg3.IsWhole) (arg4 : Memref sig .tc .vmem S1024x128 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1024x1024 .f32) (harg7 : arg7.IsWhole)

/-- Every slot of the table names a row of the experts' outputs. -/
theorem slotOf_lt {pos : IVec S32768 32} (hv : ∀ t : Fin 32768, (pos (ix1 t)).toNat < 69120) : ∀ t, t < 32768 → slotOf pos t < 69120 := by
  intro t ht
  unfold slotOf
  rw [dif_pos ht]
  exact hv ⟨t, ht⟩

/-- A word of the table is that of its slot. -/
theorem slot_row (pos : IVec S32768 32) {n : ℕ} (h : n < 32768) : (![(pos (ix1 ⟨n, h⟩)).toNat, 0] : Fin 2 → ℕ) = ![slotOf pos n, 0] := by
  unfold slotOf; rw [dif_pos h]

/-- Trip `k` of the first block's loop sends for rows `8 k` to `8 k + 7` of that block. -/
theorem first_trip (i : grid0.Coords) (pos : IVec S32768 32) {q : PosShare TreeShare} (hv : ∀ t : Fin 32768, (pos (ix1 t)).toNat < 69120)
    (h1 : k0_cond1 i = 1#1) (k : Fin k0_t1_loop.trips) (acc : Unit) :
    iprop((ℓp c ↦{q} pos) ∗ fetSt c ys V (slotOf pos) 0 0 (8 * k.val))
      ⊢ wp frame (wpE defs₀ Variants.none (c : Thread nD τ) none) Set.univ
        (k0_t1_body (F := F) i (Memref.whole main_arg0) (Memref.isWhole_whole _) (Memref.whole main_arg1) (Memref.isWhole_whole _) arg3 harg3 arg4 harg4 arg5 harg5
          arg6 harg6 arg7 harg7 (Memref.whole cc0_scratch0) (Memref.isWhole_whole _) cc0_scratch1 h1 k acc)
        (fun _ => iprop((ℓp c ↦{q} pos) ∗ fetSt c ys V (slotOf pos) 0 0 (8 * (k.val + 1)))) := by
  have hi : (i 0).val < 32 := (i 0).2
  have hk : k.val < 128 := lt1 k
  have hP := slotOf_lt hv
  iintro ⟨Hp, HT⟩
  unfold k0_t1_body
  rw [k0_part1_eq_skeleton, k0_part2_eq_skeleton]
  unfold k0_part1_skel k0_part2_skel
  simp only [bind_assoc, pure_bind]
  have w0 : k0_off1 k = ![1024 * 0 + (8 * k.val + 0)] := first_word hk 0
  have r0 : k0_off2 k = ![(0 : Fin 2).val, 8 * k.val + 0, 0] := first_row hk 0
  have w1 : k0_off4 k = ![1024 * 0 + (8 * k.val + 1)] := first_word hk 1
  have r1 : k0_off5 k = ![(0 : Fin 2).val, 8 * k.val + 1, 0] := first_row hk 1
  have w2 : k0_off7 k = ![1024 * 0 + (8 * k.val + 2)] := first_word hk 2
  have r2 : k0_off8 k = ![(0 : Fin 2).val, 8 * k.val + 2, 0] := first_row hk 2
  have w3 : k0_off10 k = ![1024 * 0 + (8 * k.val + 3)] := first_word hk 3
  have r3 : k0_off11 k = ![(0 : Fin 2).val, 8 * k.val + 3, 0] := first_row hk 3
  have w4 : k0_off13 k = ![1024 * 0 + (8 * k.val + 4)] := first_word hk 4
  have r4 : k0_off14 k = ![(0 : Fin 2).val, 8 * k.val + 4, 0] := first_row hk 4
  have w5 : k0_off16 k = ![1024 * 0 + (8 * k.val + 5)] := first_word hk 5
  have r5 : k0_off17 k = ![(0 : Fin 2).val, 8 * k.val + 5, 0] := first_row hk 5
  have w6 : k0_off19 k = ![1024 * 0 + (8 * k.val + 6)] := first_word hk 6
  have r6 : k0_off20 k = ![(0 : Fin 2).val, 8 * k.val + 6, 0] := first_row hk 6
  have w7 : k0_off22 k = ![1024 * 0 + (8 * k.val + 7)] := first_word hk 7
  have r7 : k0_off23 k = ![(0 : Fin 2).val, 8 * k.val + 7, 0] := first_row hk 7
  iapply (row_load c pos w0 (by omega) hv (chk := k0_chk1 i) (fun v h _ => slot_inb h)) $$ Hp
  iintro Hp %h0
  iapply (row_step c ys V hP (s := 0) (b := 0) (j := 8 * k.val + 0) (by omega) (by omega) _ (by rfl) _ r0 _ (slot_row pos (by omega))) $$ HT
  iintro HT
  iapply (row_load c pos w1 (by omega) hv (chk := k0_chk2 i) (fun v h _ => slot_inb h)) $$ Hp
  iintro Hp %g1
  iapply (row_step c ys V hP (s := 0) (b := 0) (j := 8 * k.val + 1) (by omega) (by omega) _ (by rfl) _ r1 _ (slot_row pos (by omega))) $$ HT
  iintro HT
  iapply (row_load c pos w2 (by omega) hv (chk := k0_chk3 i) (fun v h _ => slot_inb h)) $$ Hp
  iintro Hp %g2
  iapply (row_step c ys V hP (s := 0) (b := 0) (j := 8 * k.val + 2) (by omega) (by omega) _ (by rfl) _ r2 _ (slot_row pos (by omega))) $$ HT
  iintro HT
  iapply (row_load c pos w3 (by omega) hv (chk := k0_chk4 i) (fun v h _ => slot_inb h)) $$ Hp
  iintro Hp %h3
  iapply (row_step c ys V hP (s := 0) (b := 0) (j := 8 * k.val + 3) (by omega) (by omega) _ (by rfl) _ r3 _ (slot_row pos (by omega))) $$ HT
  iintro HT
  iapply (row_load c pos w4 (by omega) hv (chk := k0_chk5 i) (fun v h _ => slot_inb h)) $$ Hp
  iintro Hp %h4
  iapply (row_step c ys V hP (s := 0) (b := 0) (j := 8 * k.val + 4) (by omega) (by omega) _ (by rfl) _ r4 _ (slot_row pos (by omega))) $$ HT
  iintro HT
  iapply (row_load c pos w5 (by omega) hv (chk := k0_chk6 i) (fun v h _ => slot_inb h)) $$ Hp
  iintro Hp %h5
  iapply (row_step c ys V hP (s := 0) (b := 0) (j := 8 * k.val + 5) (by omega) (by omega) _ (by rfl) _ r5 _ (slot_row pos (by omega))) $$ HT
  iintro HT
  iapply (row_load c pos w6 (by omega) hv (chk := k0_chk7 i) (fun v h _ => slot_inb h)) $$ Hp
  iintro Hp %h6
  iapply (row_step c ys V hP (s := 0) (b := 0) (j := 8 * k.val + 6) (by omega) (by omega) _ (by rfl) _ r6 _ (slot_row pos (by omega))) $$ HT
  iintro HT
  iapply (row_load c pos w7 (by omega) hv (chk := k0_chk8 i) (fun v h _ => slot_inb h)) $$ Hp
  iintro Hp %h7
  iapply (row_step c ys V hP (s := 0) (b := 0) (j := 8 * k.val + 7) (by omega) (by omega) _ (by rfl) _ r7 _ (slot_row pos (by omega))) $$ HT
  iintro HT
  simp only [ret_bind, Prog.pure_eq_ret]
  sl_step
  isplitl [Hp]; · iexact Hp
  iexact HT

/-- Trip `k` of the next block's loop sends for rows `8 k` to `8 k + 7` of that block. -/
theorem next_trip (i : grid0.Coords) (pos : IVec S32768 32) {q : PosShare TreeShare} (hv : ∀ t : Fin 32768, (pos (ix1 t)).toNat < 69120)
    (h2 : k0_cond2 i = 1#1) (k : Fin k0_t2_loop.trips) (acc : Unit) :
    iprop((ℓp c ↦{q} pos) ∗ fetSt c ys V (slotOf pos) ⟨((i 0).val + 1) % 2, Nat.mod_lt _ (by omega)⟩ ((i 0).val + 1) (8 * k.val))
      ⊢ wp frame (wpE defs₀ Variants.none (c : Thread nD τ) none) Set.univ
        (k0_t2_body (F := F) i (Memref.whole main_arg0) (Memref.isWhole_whole _) (Memref.whole main_arg1) (Memref.isWhole_whole _) arg3 harg3 arg4 harg4 arg5 harg5
          arg6 harg6 arg7 harg7 (Memref.whole cc0_scratch0) (Memref.isWhole_whole _) cc0_scratch1 h2 (Scalar.muli (Scalar.addi (BitVec.ofNat 32 (i 0).val) 1#32) 1024#32) k acc)
        (fun _ => iprop((ℓp c ↦{q} pos) ∗ fetSt c ys V (slotOf pos) ⟨((i 0).val + 1) % 2, Nat.mod_lt _ (by omega)⟩ ((i 0).val + 1) (8 * (k.val + 1)))) := by
  have hi : (i 0).val < 32 := (i 0).2
  have hk : k.val < 128 := lt2 k
  have hP := slotOf_lt hv
  have hn : (i 0).val + 1 < 32 := (next_iff i).1 h2
  iintro ⟨Hp, HT⟩
  unfold k0_t2_body
  rw [k0_part3_eq_skeleton, k0_part4_eq_skeleton]
  unfold k0_part3_skel k0_part4_skel
  simp only [bind_assoc, pure_bind]
  have w0 : k0_off25 i k = ![1024 * ((i 0).val + 1) + (8 * k.val + 0)] := next_word hi hk 0
  have s0 : k0_off26 i = ![((i 0).val + 1) % 2] := off26 i
  have r0 : k0_off27 i k = ![((i 0).val + 1) % 2, 8 * k.val + 0, 0] := next_row i hk 0
  have w1 : k0_off29 i k = ![1024 * ((i 0).val + 1) + (8 * k.val + 1)] := next_word hi hk 1
  have s1 : k0_off30 i = ![((i 0).val + 1) % 2] := off26 i
  have r1 : k0_off31 i k = ![((i 0).val + 1) % 2, 8 * k.val + 1, 0] := next_row i hk 1
  have w2 : k0_off33 i k = ![1024 * ((i 0).val + 1) + (8 * k.val + 2)] := next_word hi hk 2
  have s2 : k0_off34 i = ![((i 0).val + 1) % 2] := off26 i
  have r2 : k0_off35 i k = ![((i 0).val + 1) % 2, 8 * k.val + 2, 0] := next_row i hk 2
  have w3 : k0_off37 i k = ![1024 * ((i 0).val + 1) + (8 * k.val + 3)] := next_word hi hk 3
  have s3 : k0_off38 i = ![((i 0).val + 1) % 2] := off26 i
  have r3 : k0_off39 i k = ![((i 0).val + 1) % 2, 8 * k.val + 3, 0] := next_row i hk 3
  have w4 : k0_off41 i k = ![1024 * ((i 0).val + 1) + (8 * k.val + 4)] := next_word hi hk 4
  have s4 : k0_off42 i = ![((i 0).val + 1) % 2] := off26 i
  have r4 : k0_off43 i k = ![((i 0).val + 1) % 2, 8 * k.val + 4, 0] := next_row i hk 4
  have w5 : k0_off45 i k = ![1024 * ((i 0).val + 1) + (8 * k.val + 5)] := next_word hi hk 5
  have s5 : k0_off46 i = ![((i 0).val + 1) % 2] := off26 i
  have r5 : k0_off47 i k = ![((i 0).val + 1) % 2, 8 * k.val + 5, 0] := next_row i hk 5
  have w6 : k0_off49 i k = ![1024 * ((i 0).val + 1) + (8 * k.val + 6)] := next_word hi hk 6
  have s6 : k0_off50 i = ![((i 0).val + 1) % 2] := off26 i
  have r6 : k0_off51 i k = ![((i 0).val + 1) % 2, 8 * k.val + 6, 0] := next_row i hk 6
  have w7 : k0_off53 i k = ![1024 * ((i 0).val + 1) + (8 * k.val + 7)] := next_word hi hk 7
  have s7 : k0_off54 i = ![((i 0).val + 1) % 2] := off26 i
  have r7 : k0_off55 i k = ![((i 0).val + 1) % 2, 8 * k.val + 7, 0] := next_row i hk 7
  iapply (row_load c pos w0 (by omega) hv (chk := k0_chk9 i) (fun v h _ => slot_inb h)) $$ Hp
  iintro Hp %h0
  iapply (row_step c ys V hP (s := ⟨((i 0).val + 1) % 2, Nat.mod_lt _ (by omega)⟩) (b := ((i 0).val + 1)) (j := 8 * k.val + 0) (by omega) (by omega) _ s0 _ r0 _ (slot_row pos (by omega))) $$ HT
  iintro HT
  iapply (row_load c pos w1 (by omega) hv (chk := k0_chk10 i) (fun v h _ => slot_inb h)) $$ Hp
  iintro Hp %g1
  iapply (row_step c ys V hP (s := ⟨((i 0).val + 1) % 2, Nat.mod_lt _ (by omega)⟩) (b := ((i 0).val + 1)) (j := 8 * k.val + 1) (by omega) (by omega) _ s1 _ r1 _ (slot_row pos (by omega))) $$ HT
  iintro HT
  iapply (row_load c pos w2 (by omega) hv (chk := k0_chk11 i) (fun v h _ => slot_inb h)) $$ Hp
  iintro Hp %g2
  iapply (row_step c ys V hP (s := ⟨((i 0).val + 1) % 2, Nat.mod_lt _ (by omega)⟩) (b := ((i 0).val + 1)) (j := 8 * k.val + 2) (by omega) (by omega) _ s2 _ r2 _ (slot_row pos (by omega))) $$ HT
  iintro HT
  iapply (row_load c pos w3 (by omega) hv (chk := k0_chk12 i) (fun v h _ => slot_inb h)) $$ Hp
  iintro Hp %h3
  iapply (row_step c ys V hP (s := ⟨((i 0).val + 1) % 2, Nat.mod_lt _ (by omega)⟩) (b := ((i 0).val + 1)) (j := 8 * k.val + 3) (by omega) (by omega) _ s3 _ r3 _ (slot_row pos (by omega))) $$ HT
  iintro HT
  iapply (row_load c pos w4 (by omega) hv (chk := k0_chk13 i) (fun v h _ => slot_inb h)) $$ Hp
  iintro Hp %h4
  iapply (row_step c ys V hP (s := ⟨((i 0).val + 1) % 2, Nat.mod_lt _ (by omega)⟩) (b := ((i 0).val + 1)) (j := 8 * k.val + 4) (by omega) (by omega) _ s4 _ r4 _ (slot_row pos (by omega))) $$ HT
  iintro HT
  iapply (row_load c pos w5 (by omega) hv (chk := k0_chk14 i) (fun v h _ => slot_inb h)) $$ Hp
  iintro Hp %h5
  iapply (row_step c ys V hP (s := ⟨((i 0).val + 1) % 2, Nat.mod_lt _ (by omega)⟩) (b := ((i 0).val + 1)) (j := 8 * k.val + 5) (by omega) (by omega) _ s5 _ r5 _ (slot_row pos (by omega))) $$ HT
  iintro HT
  iapply (row_load c pos w6 (by omega) hv (chk := k0_chk15 i) (fun v h _ => slot_inb h)) $$ Hp
  iintro Hp %h6
  iapply (row_step c ys V hP (s := ⟨((i 0).val + 1) % 2, Nat.mod_lt _ (by omega)⟩) (b := ((i 0).val + 1)) (j := 8 * k.val + 6) (by omega) (by omega) _ s6 _ r6 _ (slot_row pos (by omega))) $$ HT
  iintro HT
  iapply (row_load c pos w7 (by omega) hv (chk := k0_chk16 i) (fun v h _ => slot_inb h)) $$ Hp
  iintro Hp %h7
  iapply (row_step c ys V hP (s := ⟨((i 0).val + 1) % 2, Nat.mod_lt _ (by omega)⟩) (b := ((i 0).val + 1)) (j := 8 * k.val + 7) (by omega) (by omega) _ s7 _ r7 _ (slot_row pos (by omega))) $$ HT
  iintro HT
  simp only [ret_bind, Prog.pure_eq_ret]
  sl_step
  isplitl [Hp]; · iexact Hp
  iexact HT

end Cert.Kernel3Ideal.Hand
-- ==== Proof.Land.lean ====
module

public import proofs.«01_k».proof.Proof.FetchLoop

@[expose] public section

set_option maxRecDepth 65536

noncomputable section

namespace Cert.Kernel3Ideal.Hand

open Cert.Kernel3Ideal Cert.Kernel3Ideal.Gen Cert.Kernel3Ideal.Words
open Cert.Pre_routed (slotOf)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (c : Dev nD) {P : ℕ → ℕ} (ys : S69120x2048.Idx → F .f32) (V : S2x1024x2048.Idx → F .f32)

/-- A slot at some contents is its rows at them. -/
theorem slot_rows (s : Fin 2) (W : S2x1024x2048.Idx → F .f32) :
    (ℓb c ↦[sset s]{fullShare} W : sProp 𝕄) = bigSep (Finset.Ico 0 1024) (fun t => ℓb c ↦[rset s t]{fullShare} W) := by
  have hd : ∀ t ∈ Finset.Ico 0 1024, ∀ t' ∈ Finset.Ico 0 1024, t ≠ t' → Disjoint (rset s t) (rset s t') := by
    intro t _ t' _ h
    rw [Finset.disjoint_left]
    intro y hy hy'
    unfold rset at hy hy'
    rw [Finset.mem_filter] at hy hy'
    omega
  have e : sset s = (Finset.Ico 0 1024).biUnion (rset s) := by
    ext y
    unfold sset rset
    have h1 : (y 1).val < 1024 := (y 1).2
    simp only [Finset.mem_biUnion, Finset.mem_filter, Finset.mem_univ, true_and, Finset.mem_Ico]
    constructor
    · intro h; exact ⟨_, ⟨by omega, h1⟩, h, rfl⟩
    · rintro ⟨_, _, h, _⟩; exact h
  rw [e, pointsTo_biUnion _ _ hd]

/-- A slot that no copy is under way for. -/
def idle (s : Fin 2) : sProp 𝕄 :=
  iprop((∃ V, ℓb c ↦[sset s]{fullShare} V) ∗ semVal ((c : Thread nD τ), cell s) 0 ∗ (ℓy c ↦{sh s} ys))

/-- A slot that all of block `b`'s copies are under way for. -/
def flying (P : ℕ → ℕ) (s : Fin 2) (b : ℕ) : sProp 𝕄 := iprop(∃ V, fetSt c ys V P s b 1024)

/-- A slot holding block `b`. -/
def landed (P : ℕ → ℕ) (s : Fin 2) (b : ℕ) : sProp 𝕄 :=
  iprop((ℓb c ↦[sset s]{fullShare} got P ys b) ∗ semVal ((c : Thread nD τ), cell s) 0 ∗ (ℓy c ↦{sh s} ys))

/-- A slot holding a block is free for the next. -/
theorem landed_idle (s : Fin 2) (b : ℕ) : landed c ys P s b ⊢ idle c ys s := by
  unfold landed idle
  iintro ⟨Hb, Hv, Hy⟩
  isplitl [Hb]; · iexists _; iexact Hb
  isplitl [Hv] <;> iassumption

/-- A free slot's block is about to be sent for. -/
theorem fetch_start (s : Fin 2) (b : ℕ) : idle c ys s ⊢ (|={Set.univ}=> iprop(∃ V, fetSt c ys V P s b 0) : sProp 𝕄) := by
  unfold idle
  iintro ⟨⟨%V, Hb⟩, Hv, Hy⟩
  ihave Hb := (Entails.of_eq (slot_rows c s V)) $$ Hb
  imod (Transfers.batch_alloc' (Lvl := ℕ) EC (c : Thread nD τ) () N1 (dels c ys P s b) (sm := cell s) (E := Set.univ)) $$ Hv with HB
  ihave Hy := (Transfers.pointsTo_toks_range (sh s) 1024).1 $$ Hy
  icases Hy with ⟨Hd, Hs⟩
  imodintro
  iexists V
  unfold fetSt
  isplitl [HB]; · iexact HB
  isplitl [Hb]; · iexact Hb
  isplitl [Hs]; · rw [← Finset.range_eq_Ico]; iexact Hs
  isplitr; · rw [Finset.Ico_self, bigSep_empty]; iempintro
  iexact Hd

/-- While a grid point waits for block `b`: the credit of `k` of its rows taken. -/
def waitSt (P : ℕ → ℕ) (s : Fin 2) (b k : ℕ) : sProp 𝕄 :=
  iprop(Transfers.Batch EC (c : Thread nD τ) (cell s) () N1 (dels c ys P s b) 1024 (N1 * k) ∗ ∃ W, owes (c : Thread nD τ) 0 W)

/-- One row's wait takes its credit. -/
theorem wait_step {s : Fin 2} {b k : ℕ} (hk : k < 1024)
    {o1 : Fin 1 → ℕ} (h1 : ∀ a, o1 a + S1.size a ≤ S2.size a) (e1 : o1 = ![s.val]) {hq1}
    {o2 : Fin 3 → ℕ} (h2 : ∀ a, o2 a + S1x1x2048.size a ≤ S2x1024x2048.size a) {hq2}
    {src : Memref sig .tc .hbm S1x2048 .f32}
    {hsrc hdst} {α : Type} {K : PUnit → Prog (TpuEff nD τ sig (Elt F) Λ₀ .tc) α} {Q : α → sProp 𝕄} :
    waitSt c ys P s b k ⊢ iprop((waitSt c ys P s b (k + 1) -∗ wp frame (wpE defs₀ Variants.none (c : Thread nD τ) none) Set.univ (K ⟨⟩) Q)
      -∗ wp frame (wpE defs₀ Variants.none (c : Thread nD τ) none) Set.univ
        (.op (.waitDma2 ((cc0_scratch1.slice (Rect.unit (s := S2) o1 S1.size h1)).squeeze S_ hq1).sem src
          (((Memref.whole cc0_scratch0).slice (Rect.unit (s := S2x1024x2048) o2 S1x1x2048.size h2) (fun _ => rfl)).squeeze S1x2048 hq2) hsrc hdst) K) Q) := by
  have hc := cell_eq s h1 e1 hq1
  generalize ((cc0_scratch1.slice (Rect.unit (s := S2) o1 S1.size h1)).squeeze S_ hq1).sem = sm at hc ⊢
  subst hc
  have hN : (((Memref.whole cc0_scratch0).slice (Rect.unit (s := S2x1024x2048) o2 S1x1x2048.size h2) (fun _ => rfl)).squeeze S1x2048 hq2).view.dmaCredit = 1 * N1 := (Nat.one_mul N1).symm
  have e : N1 * (k + 1) = N1 * k + 1 * N1 := by rw [Nat.mul_add, Nat.mul_one, Nat.one_mul]
  unfold waitSt
  rw [e]
  iintro ⟨HB, %W, HO⟩ Hk
  iapply (Transfers.wp_waitBatchMul EC Variants.none (c : Thread nD τ) none () (q := 1) hN (D := dels c ys P s b) (j := 1024)
    (u := N1 * k) (by rw [← e]; exact Nat.mul_le_mul_left N1 hk)) $$ [HB HO]
  · isplitl [HB] <;> iassumption
  iintro ⟨HB, HO⟩
  iapply Hk
  isplitl [HB]; · iexact HB
  iexists _; iexact HO

/-- Every copy of the block landed: its slot holds it, the experts' outputs whole, the cell at zero. -/
theorem land_end (s : Fin 2) (b : ℕ) :
    iprop(Transfers.Batch EC (c : Thread nD τ) (cell s) () N1 (dels c ys P s b) 1024 (N1 * 1024) ∗ bigSep (Finset.Ico 0 1024) (rest c ys P s b)
        ∗ (ℓy c ↦{Transfers.shareDrop (sh s) 1024} ys))
      ⊢ (|={Set.univ}=> landed c ys P s b : sProp 𝕄) := by
  have hjoin : iprop(bigSep Finset.univ (dels c ys P s b) ∗ bigSep (Finset.Ico 0 1024) (rest c ys P s b))
      ⊢ (iprop(bigSep (Finset.Ico 0 1024) (fun t => (ℓb c ↦[rset s t]{fullShare} got P ys b : sProp 𝕄))
        ∗ bigSep (Finset.Ico 0 1024) (fun j => (ℓy c ↦{Transfers.shareTokN (sh s) j} ys : sProp 𝕄))) : sProp 𝕄) := by
    rw [Ring.bigSep_fin_eq_range 1024 _ (fun j => iprop((ℓb c ↦[rset s j]{fullShare} got P ys b) ∗ (ℓy c ↦[yset (P (1024 * b + j))]{Transfers.shareTokN (sh s) j} ys)))
      (fun t h => rfl), Finset.range_eq_Ico, ← bigSep_sep', ← bigSep_sep']
    refine bigSep_mono fun l _ => ?_
    unfold rest
    have h2 : iprop(((ℓb c ↦[rset s l]{fullShare} got P ys b) ∗ ℓy c ↦[yset (P (1024 * b + l))]{Transfers.shareTokN (sh s) l} ys)
        ∗ ℓy c ↦[Finset.univ \ yset (P (1024 * b + l))]{Transfers.shareTokN (sh s) l} ys)
        ⊢ (iprop((ℓb c ↦[rset s l]{fullShare} got P ys b) ∗ ℓy c ↦{Transfers.shareTokN (sh s) l} ys) : sProp 𝕄) := by
      iintro ⟨⟨Hd, Hz⟩, Hr⟩
      isplitl [Hd]; · iexact Hd
      iapply (pointsTo_split_subset (S := Finset.univ) (I := yset (P (1024 * b + l))) (Finset.subset_univ _)).2
      isplitl [Hz] <;> iassumption
    exact h2
  unfold landed
  rw [slot_rows]
  iintro ⟨HB, Hr, Hz⟩
  imod (Transfers.batch_collect' EC (c : Thread nD τ) N1_pos) $$ HB with ⟨HD, Hv⟩
  imodintro
  ihave HD := hjoin $$ [HD Hr]
  · isplitl [HD] <;> iassumption
  icases HD with ⟨Hd, Hs⟩
  isplitl [Hd]; · iexact Hd
  isplitl [Hv]; · iexact Hv
  iapply (Transfers.pointsTo_toks_range (sh s) 1024).2
  isplitl [Hz]; · iexact Hz
  rw [Finset.range_eq_Ico]; iexact Hs

variable (arg3 : Memref sig .tc .vmem S8192x128 .f32) (harg3 : arg3.IsWhole) (arg4 : Memref sig .tc .vmem S1024x128 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1024x1024 .f32) (harg7 : arg7.IsWhole)

/-- Grid point `i`'s slot. -/
abbrev cur (i : grid0.Coords) : Fin 2 := ⟨(i 0).val % 2, Nat.mod_lt _ (by omega)⟩

/-- The other one. -/
abbrev oth (i : grid0.Coords) : Fin 2 := ⟨((i 0).val + 1) % 2, Nat.mod_lt _ (by omega)⟩

/-- A trip of the waits' loop takes one row's credit. -/
theorem wait_trip (i : grid0.Coords) (k : Fin k0_t3_loop.trips) (acc : Unit) :
    waitSt c ys P (cur i) (i 0).val k.val
      ⊢ wp frame (wpE defs₀ Variants.none (c : Thread nD τ) none) Set.univ
        (k0_t3_body (F := F) i (Memref.whole main_arg0) (Memref.isWhole_whole _) (Memref.whole main_arg1) (Memref.isWhole_whole _) arg3 harg3 arg4 harg4 arg5 harg5
          arg6 harg6 arg7 harg7 (Memref.whole cc0_scratch0) (Memref.isWhole_whole _) cc0_scratch1 k acc)
        (fun _ => waitSt c ys P (cur i) (i 0).val (k.val + 1)) := by
  have hk : k.val < 1024 := Nat.lt_of_lt_of_eq k.2 trips3
  iintro HT
  unfold k0_t3_body
  have e := off57 i
  iapply (wait_step c ys (s := cur i) hk _ e _) $$ HT
  iintro HT
  simp only [ret_bind, Prog.pure_eq_ret]
  sl_step
  iexact HT

end Cert.Kernel3Ideal.Hand
-- ==== Proof.Collect.lean ====
module

public import proofs.«01_k».proof.Proof.Land

@[expose] public section

set_option maxRecDepth 65536

noncomputable section

namespace Cert.Kernel3Ideal.Hand

open Cert.Kernel3Ideal Cert.Kernel3Ideal.Gen Cert.Kernel3Ideal.Words
open Cert.Pre_routed (slotOf)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## What one grid point computes -/

/-- The `k`-th of eight pieces of each token: row `8 j + k` of the block. -/
def tok (k : Fin 8) (X : S8192x128.Idx → F .f32) : S1024x128.Idx → F .f32 := fun j =>
  X (ix2 ⟨8 * (j 0).val + k.val, by have : (j 0).val < 1024 := (j 0).2; have := k.2; omega⟩ (j 1))

/-- The first experts' outputs for the tokens of block `b`. -/
def lo (P : ℕ → ℕ) (ys : S69120x2048.Idx → F .f32) (b : ℕ) : S1x1024x1024.Idx → F .f32 := fun y =>
  ys (ix2 ⟨P (1024 * b + (y 1).val) % 69120, Nat.mod_lt _ (by omega)⟩ ⟨(y 2).val, by have : (y 2).val < 1024 := (y 2).2; omega⟩)

/-- The second experts'. -/
def hi (P : ℕ → ℕ) (ys : S69120x2048.Idx → F .f32) (b : ℕ) : S1x1024x1024.Idx → F .f32 := fun y =>
  ys (ix2 ⟨P (1024 * b + (y 1).val) % 69120, Nat.mod_lt _ (by omega)⟩ ⟨1024 + (y 2).val, by have : (y 2).val < 1024 := (y 2).2; omega⟩)

/-- The block grid point `b` leaves. -/
def block (P : ℕ → ℕ) (ys : S69120x2048.Idx → F .f32) (b : ℕ) (X : S8192x128.Idx → F .f32) (M : S1024x128.Idx → F .f32) (W B : S1x1024.Idx → F .f32) :
    FVec F S1024x1024 .f32 :=
  k0_pay1 (tok 0 X) (tok 1 X) (tok 2 X) (tok 3 X) (tok 4 X) (tok 5 X) (tok 6 X) (tok 7 X) (lo P ys b) (hi P ys b) M W B

/-! ## Loads and stores -/

variable (c : Dev nD)

/-- A load of a whole buffer. -/
theorem ld {s : Shape} {e : EltTy} (M : Memref sig .tc .vmem s e) {o : Fin s.rank → ℕ} (ho : o = fun _ => 0) (inb : ∀ a, o a + s.size a ≤ s.size a)
    {f : Buf (Elt F) (M.view.loc (c : Thread nD τ))} {X : s.Idx → Elt F e} (hX : M.view.read (Elt F) f = X) {α : Type}
    {K : (s.Idx → Elt F e) → Prog (TpuEff nD τ sig (Elt F) Λ₀ .tc) α} {Q : α → sProp 𝕄} {hl} :
    (M.view.loc (c : Thread nD τ) ↦[M.view.set]{fullShare} f)
      ⊢ iprop(((M.view.loc (c : Thread nD τ) ↦[M.view.set]{fullShare} f) -∗ wp frame (wpE defs₀ Variants.none (c : Thread nD τ) none) Set.univ (K X) Q)
        -∗ wp frame (wpE defs₀ Variants.none (c : Thread nD τ) none) Set.univ (.op (.load M (Rect.unit (s := s) o s.size inb).toLoadRect hl) K) Q) := by
  subst ho
  have e : M.view.readAt (Elt F) (Rect.unit (s := s) (fun _ => 0) s.size inb).toLoadRect f = X := by
    rw [← hX]; funext y
    rw [View.readAt_apply]
    refine congrArg (M.view.read (Elt F) f) (funext fun a => Fin.ext ?_)
    show 0 + 1 * (y a).val = (y a).val
    omega
  have h := wp_load (defs := defs₀ (F := F)) (Γ := ∅) Variants.none (c : Thread nD τ) none Set.univ (m := M) (r := (Rect.unit (s := s) (fun _ => 0) s.size inb).toLoadRect)
    (hl := hl) (k := K) (S := M.view.set) (q := fullShare) (f := f) (Q := Q) (Finset.map_subset_map.mpr (Finset.subset_univ _))
  rwa [e] at h

/-- A load of every eighth row of the tokens' block. -/
theorem ld_tok (M : Memref sig .tc .vmem S8192x128 .f32) (k : Fin 8) {o : ℕ} (ho : o = k.val)
    (inb' : ∀ a, S1024x128.size a = 0 ∨ (![o, 0] : Fin 2 → ℕ) a + (![8, 1] : Fin 2 → ℕ) a * (S1024x128.size a - 1) < S8192x128.size a)
    {f : Buf (Elt F) (M.view.loc (c : Thread nD τ))} {X : S8192x128.Idx → F .f32} (hX : M.view.read (Elt F) f = X) {α : Type}
    {K : (S1024x128.Idx → Elt F .f32) → Prog (TpuEff nD τ sig (Elt F) Λ₀ .tc) α} {Q : α → sProp 𝕄}
    {hl : M.view.LoadsAt (⟨![o, 0], S1024x128.size, ![8, 1], inb'⟩ : LoadRect S8192x128)} :
    (M.view.loc (c : Thread nD τ) ↦[M.view.set]{fullShare} f)
      ⊢ iprop(((M.view.loc (c : Thread nD τ) ↦[M.view.set]{fullShare} f) -∗ wp frame (wpE defs₀ Variants.none (c : Thread nD τ) none) Set.univ (K (tok k X)) Q)
        -∗ wp frame (wpE defs₀ Variants.none (c : Thread nD τ) none) Set.univ
          (.op (TpuEff.load M (⟨![o, 0], S1024x128.size, ![8, 1], inb'⟩ : LoadRect S8192x128) hl) K
            : Prog (TpuEff nD τ sig (Elt F) Λ₀ .tc) α) Q) := by
  subst ho
  have e : M.view.readAt (Elt F) (⟨![k.val, 0], S1024x128.size, ![8, 1], inb'⟩ : LoadRect S8192x128) f = tok k X := by
    rw [← hX]; funext y
    rw [View.readAt_apply]
    unfold tok
    refine congrArg (M.view.read (Elt F) f) (funext fun a => Fin.ext ?_)
    match a with
    | ⟨0, _⟩ => show k.val + 8 * (y 0).val = 8 * (y 0).val + k.val; omega
    | ⟨1, _⟩ => show 0 + 1 * (y 1).val = (y 1).val; omega
  have h := wp_load (defs := defs₀ (F := F)) (Γ := ∅) Variants.none (c : Thread nD τ) none Set.univ (m := M)
    (r := (⟨![k.val, 0], S1024x128.size, ![8, 1], inb'⟩ : LoadRect S8192x128))
    (hl := hl) (k := K) (S := M.view.set) (q := fullShare) (f := f) (Q := Q) (Finset.map_subset_map.mpr (Finset.subset_univ _))
  rw [e] at h
  exact h

/-- A load of half the columns of a slot holding block `b`. -/
theorem ld_slot (s : Fin 2) {P : ℕ → ℕ} (ys : S69120x2048.Idx → F .f32) (b : ℕ) {d : ℕ} {o : Fin 3 → ℕ} (ho : o = ![s.val, 0, d])
    (inb : ∀ a, o a + S1x1024x1024.size a ≤ S2x1024x2048.size a) {Y : S1x1024x1024.Idx → F .f32}
    (hY : ∀ y : S1x1024x1024.Idx, ∀ z : S2x1024x2048.Idx, (z 1).val = (y 1).val → (z 2).val = d + (y 2).val → got P ys b z = Y y) {α : Type}
    {K : (S1x1024x1024.Idx → Elt F .f32) → Prog (TpuEff nD τ sig (Elt F) Λ₀ .tc) α} {Q : α → sProp 𝕄} {hl} :
    (ℓb c ↦[sset s]{fullShare} got P ys b : sProp 𝕄)
      ⊢ iprop(((ℓb c ↦[sset s]{fullShare} got P ys b) -∗ wp frame (wpE defs₀ Variants.none (c : Thread nD τ) none) Set.univ (K Y) Q)
        -∗ wp frame (wpE defs₀ Variants.none (c : Thread nD τ) none) Set.univ
          (.op (.load (Memref.whole cc0_scratch0) (Rect.unit (s := S2x1024x2048) o S1x1024x1024.size inb).toLoadRect hl) K) Q) := by
  subst ho
  have e : (Memref.whole cc0_scratch0).view.readAt (Elt F) (Rect.unit (s := S2x1024x2048) ![s.val, 0, d] S1x1024x1024.size inb).toLoadRect (got P ys b) = Y := by
    funext y
    refine hY y ((Rect.unit (s := S2x1024x2048) ![s.val, 0, d] S1x1024x1024.size inb).toLoadRect.idx y) ?_ ?_
    · show 0 + 1 * (y 1).val = _; omega
    · show d + 1 * (y 2).val = _; omega
  have h := wp_load (defs := defs₀ (F := F)) (Γ := ∅) Variants.none (c : Thread nD τ) none Set.univ (m := Memref.whole cc0_scratch0)
    (r := (Rect.unit (s := S2x1024x2048) ![s.val, 0, d] S1x1024x1024.size inb).toLoadRect)
    (hl := hl) (k := K) (S := sset s) (q := fullShare) (f := got P ys b) (Q := Q) (by
      intro z hz
      obtain ⟨z', hz', rfl⟩ := Finset.mem_map.1 hz
      obtain ⟨y, rfl⟩ := LoadRect.exists_idx_of_mem _ hz'
      have hy : (y 0).val < 1 := (y 0).2
      unfold sset
      refine Finset.mem_filter.2 ⟨Finset.mem_univ _, ?_⟩
      show s.val + 1 * (y 0).val = s.val
      omega)
  rw [e] at h
  exact h

/-- A store of a buffer whole, after a load of it that is not used. -/
theorem sto (M : Memref sig .tc .vmem S1024x1024 .f32) (inb : ∀ a, (![0, 0] : Fin 2 → ℕ) a + S1024x1024.size a ≤ S1024x1024.size a) (A : FVec F S1024x1024 .f32)
    {f : Buf (Elt F) (M.view.loc (c : Thread nD τ))} {α : Type}
    {K : Prog (TpuEff nD τ sig (Elt F) Λ₀ .tc) α} {Q : α → sProp 𝕄} {hl hx hm} :
    (M.view.loc (c : Thread nD τ) ↦[M.view.set]{fullShare} f)
      ⊢ iprop((owns (c : Thread nD τ) M fullShare A -∗ wp frame (wpE defs₀ Variants.none (c : Thread nD τ) none) Set.univ K Q)
        -∗ wp frame (wpE defs₀ Variants.none (c : Thread nD τ) none) Set.univ (.op (.load M (Rect.unit (s := S1024x1024) ![0, 0] S1024x1024.size inb).toLoadRect hl) fun _ =>
          .op (.store M (Rect.unit (s := S1024x1024) ![0, 0] S1024x1024.size inb) A Finset.univ hx hm) fun _ => K) Q) := by
  iintro H Hk
  iapply (wp_load (defs := defs₀ (F := F)) (Γ := ∅) Variants.none (c : Thread nD τ) none Set.univ (m := M) (S := M.view.set)
    (Finset.map_subset_map.mpr (Finset.subset_univ _))) $$ H
  iintro H
  iapply (wp_store (defs := defs₀ (F := F)) (Γ := ∅) Variants.none (c : Thread nD τ) none Set.univ (m := M) (r := Rect.unit (s := S1024x1024) ![0, 0] S1024x1024.size inb)
    (w := A) (Mk := Finset.univ) (S := M.view.set) (View.set_slice_subset M.view _)) $$ H
  iintro H
  iapply Hk
  unfold owns
  iexists _
  isplitr; swap; · iexact H
  ipureintro
  funext j
  have e : j = (Rect.unit (s := S1024x1024) ![0, 0] S1024x1024.size inb).emb j := by
    funext a; refine Fin.ext ?_
    match a with
    | ⟨0, _⟩ => show (j 0).val = 0 + 1 * (j 0).val; omega
    | ⟨1, _⟩ => show (j 1).val = 0 + 1 * (j 1).val; omega
  conv_lhs => rw [e]
  exact View.read_slice_write_emb _ _ _ (Finset.mem_univ _)

/-! ## One grid point -/

theorem zero2 : (![0, 0] : Fin 2 → ℕ) = fun _ => 0 := by funext a; fin_cases a <;> rfl

variable (ys : S69120x2048.Idx → F .f32)

/-- Block `p`'s slot. -/
def sl (p : ℕ) : Fin 2 := ⟨p % 2, Nat.mod_lt _ (by omega)⟩

/-- Block `b`'s slot before its grid point: its copies under way, if there is such a block. -/
def coming (P : ℕ → ℕ) (b : ℕ) : sProp 𝕄 := if b = 0 ∨ b = 32 then idle c ys (sl b) else flying c ys P (sl b) b

/-- The two slots before grid point `p`. -/
def rollAt (P : ℕ → ℕ) (p : ℕ) : sProp 𝕄 := iprop(coming c ys P p ∗ idle c ys (sl (p + 1)))

variable (arg3 : Memref sig .tc .vmem S8192x128 .f32) (harg3 : arg3.IsWhole) (arg4 : Memref sig .tc .vmem S1024x128 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1024x1024 .f32) (harg7 : arg7.IsWhole)

/-- The first grid point sends for its own block. -/
theorem head_yes (i : grid0.Coords) (pos : IVec S32768 32) {q : PosShare TreeShare} (hv : ∀ t : Fin 32768, (pos (ix1 t)).toNat < 69120) (h : k0_cond1 i = 1#1)
    {α : Type} {K : Unit → Prog (TpuEff nD τ sig (Elt F) Λ₀ .tc) α} {Q : α → sProp 𝕄} :
    iprop(coming c ys (slotOf pos) (i 0).val ∗ (ℓp c ↦{q} pos))
      ⊢ iprop((flying c ys (slotOf pos) (sl (i 0).val) (i 0).val ∗ (ℓp c ↦{q} pos) -∗ wp frame (wpE defs₀ Variants.none (c : Thread nD τ) none) Set.univ (K ⟨⟩) Q)
        -∗ wp frame (wpE defs₀ Variants.none (c : Thread nD τ) none) Set.univ (
            Scf.Loop.for k0_t1_loop (k0_t1_ok i h) ⟨⟩ (k0_t1_body (F := F) i (Memref.whole main_arg0) (Memref.isWhole_whole _) (Memref.whole main_arg1) (Memref.isWhole_whole _) arg3 harg3 arg4 harg4 arg5 harg5
          arg6 harg6 arg7 harg7 (Memref.whole cc0_scratch0) (Memref.isWhole_whole _) cc0_scratch1 h) >>= K) Q) := by
  rw [(first_iff i).1 h]
  unfold coming
  rw [if_pos (Or.inl rfl)]
  iintro ⟨HI, Hp⟩ Hk
  imod (fetch_start c ys (P := slotOf pos) (sl 0) 0) $$ HI with ⟨%V, HT⟩
  iapply (Scf.wp_for_bind frame (wpE defs₀ Variants.none (c : Thread nD τ) none) Set.univ _ _ _ (k0_t1_ok i h) ⟨⟩ _
    (fun k _ => iprop((ℓp c ↦{q} pos) ∗ fetSt c ys V (slotOf pos) 0 0 (8 * k)))
    (fun k acc => first_trip c ys V arg3 harg3 arg4 harg4 arg5 harg5 arg6 harg6 arg7 harg7 i pos hv h k acc)) $$ [Hp HT]
  · isplitl [Hp]; · iexact Hp
    iexact HT
  iintro %acc ⟨Hp, HT⟩
  rw [show Scf.trips k0_t1_loop.lb k0_t1_loop.ub k0_t1_loop.st = 128 from trips1]
  iapply Hk
  isplitl [HT]
  · unfold flying; iexists V; iexact HT
  · iexact Hp

/-- The others' is on its way. -/
theorem head_no (i : grid0.Coords) (P : ℕ → ℕ) (h : ¬ k0_cond1 i = 1#1) : coming c ys P (i 0).val = flying c ys P (sl (i 0).val) (i 0).val := by
  have h0 : (i 0).val ≠ 0 := fun e => h ((first_iff i).2 e)
  have h1 : (i 0).val < 32 := (i 0).2
  unfold coming
  rw [if_neg (by omega)]

/-- Every grid point but the last sends for the next block. -/
theorem next_yes (i : grid0.Coords) (pos : IVec S32768 32) {q : PosShare TreeShare} (hv : ∀ t : Fin 32768, (pos (ix1 t)).toNat < 69120) (h : k0_cond2 i = 1#1)
    {α : Type} {K : Unit → Prog (TpuEff nD τ sig (Elt F) Λ₀ .tc) α} {Q : α → sProp 𝕄} :
    iprop(idle c ys (sl ((i 0).val + 1)) ∗ (ℓp c ↦{q} pos))
      ⊢ iprop((coming c ys (slotOf pos) ((i 0).val + 1) ∗ (ℓp c ↦{q} pos) -∗ wp frame (wpE defs₀ Variants.none (c : Thread nD τ) none) Set.univ (K ⟨⟩) Q)
        -∗ wp frame (wpE defs₀ Variants.none (c : Thread nD τ) none) Set.univ (
            Scf.Loop.for k0_t2_loop (k0_t2_ok i h) ⟨⟩ (k0_t2_body (F := F) i (Memref.whole main_arg0) (Memref.isWhole_whole _) (Memref.whole main_arg1) (Memref.isWhole_whole _) arg3 harg3 arg4 harg4 arg5 harg5
          arg6 harg6 arg7 harg7 (Memref.whole cc0_scratch0) (Memref.isWhole_whole _) cc0_scratch1 h (Scalar.muli (Scalar.addi (BitVec.ofNat 32 (i 0).val) 1#32) 1024#32)) >>= K) Q) := by
  have h1 : (i 0).val < 32 := (i 0).2
  have hn := (next_iff i).1 h
  unfold coming
  rw [if_neg (by omega)]
  iintro ⟨HI, Hp⟩ Hk
  imod (fetch_start c ys (P := slotOf pos) (sl ((i 0).val + 1)) ((i 0).val + 1)) $$ HI with ⟨%V, HT⟩
  iapply (Scf.wp_for_bind frame (wpE defs₀ Variants.none (c : Thread nD τ) none) Set.univ _ _ _ (k0_t2_ok i h) ⟨⟩ _
    (fun k _ => iprop((ℓp c ↦{q} pos) ∗ fetSt c ys V (slotOf pos) (sl ((i 0).val + 1)) ((i 0).val + 1) (8 * k)))
    (fun k acc => next_trip c ys V arg3 harg3 arg4 harg4 arg5 harg5 arg6 harg6 arg7 harg7 i pos hv h k acc)) $$ [Hp HT]
  · isplitl [Hp]; · iexact Hp
    iexact HT
  iintro %acc ⟨Hp, HT⟩
  rw [show Scf.trips k0_t2_loop.lb k0_t2_loop.ub k0_t2_loop.st = 128 from trips2]
  iapply Hk
  isplitl [HT]
  · unfold flying; iexists V; iexact HT
  · iexact Hp

/-- The last has none to send for. -/
theorem next_no (i : grid0.Coords) (P : ℕ → ℕ) (h : ¬ k0_cond2 i = 1#1) : idle c ys (sl ((i 0).val + 1)) = coming c ys P ((i 0).val + 1) := by
  have h0 : ¬ (i 0).val + 1 < 32 := fun e => h ((next_iff i).2 e)
  have h1 : (i 0).val < 32 := (i 0).2
  unfold coming
  rw [if_pos (by omega)]

/-- The grid point waits for its block. -/
theorem arrive (i : grid0.Coords) {P : ℕ → ℕ}
    {α : Type} {K : Unit → Prog (TpuEff nD τ sig (Elt F) Λ₀ .tc) α} {Q : α → sProp 𝕄} :
    iprop(flying c ys P (sl (i 0).val) (i 0).val ∗ (∃ W, owes (c : Thread nD τ) 0 W))
      ⊢ iprop((landed c ys P (sl (i 0).val) (i 0).val ∗ (∃ W, owes (c : Thread nD τ) 0 W) -∗ wp frame (wpE defs₀ Variants.none (c : Thread nD τ) none) Set.univ (K ⟨⟩) Q)
        -∗ wp frame (wpE defs₀ Variants.none (c : Thread nD τ) none) Set.univ
            (Scf.Loop.for k0_t3_loop k0_t3_ok ⟨⟩ (k0_t3_body (F := F) i (Memref.whole main_arg0) (Memref.isWhole_whole _) (Memref.whole main_arg1) (Memref.isWhole_whole _) arg3 harg3 arg4 harg4 arg5 harg5
          arg6 harg6 arg7 harg7 (Memref.whole cc0_scratch0) (Memref.isWhole_whole _) cc0_scratch1) >>= K) Q) := by
  unfold flying fetSt
  iintro ⟨⟨%V, HB, -, -, Hr, Hd⟩, HO⟩ Hk
  iapply (Scf.wp_for_bind frame (wpE defs₀ Variants.none (c : Thread nD τ) none) Set.univ _ _ _ k0_t3_ok ⟨⟩ _
    (fun k _ => waitSt c ys P (sl (i 0).val) (i 0).val k)
    (fun k acc => wait_trip c ys arg3 harg3 arg4 harg4 arg5 harg5 arg6 harg6 arg7 harg7 i k acc)) $$ [HB HO]
  · unfold waitSt
    isplitl [HB]; · iexact HB
    iexact HO
  iintro %acc HT
  rw [show Scf.trips k0_t3_loop.lb k0_t3_loop.ub k0_t3_loop.st = 1024 from trips3]
  unfold waitSt
  icases HT with ⟨HB, HO⟩
  imod (land_end c ys (P := P) (sl (i 0).val) (i 0).val) $$ [HB Hr Hd] with HL
  · isplitl [HB]; · iexact HB
    isplitl [Hr] <;> iassumption
  iapply Hk
  isplitl [HL] <;> iassumption

/-- One grid point of the kernel. -/
theorem point (i : grid0.Coords) (pos : IVec S32768 32) {q : PosShare TreeShare} (hv : ∀ t : Fin 32768, (pos (ix1 t)).toNat < 69120)
    (X : S8192x128.Idx → F .f32) (M : S1024x128.Idx → F .f32) (W B : S1x1024.Idx → F .f32) (Z : S1024x1024.Idx → F .f32) :
    iprop(rollAt c ys (slotOf pos) (i 0).val ∗ (ℓp c ↦{q} pos) ∗ (∃ W, owes (c : Thread nD τ) 0 W)
        ∗ owns (c : Thread nD τ) arg3 fullShare X ∗ owns (c : Thread nD τ) arg4 fullShare M
        ∗ owns (c : Thread nD τ) arg5 fullShare W ∗ owns (c : Thread nD τ) arg6 fullShare B ∗ owns (c : Thread nD τ) arg7 fullShare Z)
      ⊢ wp frame (wpE defs₀ Variants.none (c : Thread nD τ) none) Set.univ
        (cc0_collect (F := F) i (Memref.whole main_arg0) (Memref.isWhole_whole _) (Memref.whole main_arg1) (Memref.isWhole_whole _) arg3 harg3 arg4 harg4 arg5 harg5
          arg6 harg6 arg7 harg7 (Memref.whole cc0_scratch0) (Memref.isWhole_whole _) cc0_scratch1)
        (fun _ => iprop(rollAt c ys (slotOf pos) ((i 0).val + 1) ∗ (ℓp c ↦{q} pos) ∗ (∃ W, owes (c : Thread nD τ) 0 W)
          ∗ owns (c : Thread nD τ) arg3 fullShare X ∗ owns (c : Thread nD τ) arg4 fullShare M
          ∗ owns (c : Thread nD τ) arg5 fullShare W ∗ owns (c : Thread nD τ) arg6 fullShare B
          ∗ owns (c : Thread nD τ) arg7 fullShare (block (slotOf pos) ys (i 0).val X M W B))) := by
  have es : sl ((i 0).val + 1 + 1) = sl (i 0).val := Fin.ext (by show ((i 0).val + 1 + 1) % 2 = (i 0).val % 2; omega)
  rw [cc0_collect_eq_skeleton]
  unfold cc0_collect_skel
  rw [k0_part5_eq_skeleton, k0_part6_eq_skeleton]
  unfold k0_part5_skel k0_part6_skel
  unfold rollAt
  rw [es]
  by_cases hf : k0_cond1 i = 1#1
  all_goals by_cases hn : k0_cond2 i = 1#1
  all_goals first | rw [dif_pos hf] | rw [dif_neg hf]
  all_goals first | rw [dif_pos hn] | rw [dif_neg hn]
  all_goals simp only [bind_assoc, pure_bind]
  all_goals iintro ⟨⟨HC, HI⟩, Hp, HO, H3, H4, H5, H6, H7⟩
  all_goals first
    | ihave HC := (Entails.of_eq (head_no c ys i (slotOf pos) hf)) $$ HC
    | (iapply (head_yes c ys arg3 harg3 arg4 harg4 arg5 harg5 arg6 harg6 arg7 harg7 i pos hv hf) $$ [HC Hp]
       · isplitl [HC] <;> iassumption
       iintro ⟨HC, Hp⟩)
  all_goals first
    | ihave HN := (Entails.of_eq (next_no c ys i (slotOf pos) hn)) $$ HI
    | (iapply (next_yes c ys arg3 harg3 arg4 harg4 arg5 harg5 arg6 harg6 arg7 harg7 i pos hv hn) $$ [HI Hp]
       · isplitl [HI] <;> iassumption
       iintro ⟨HN, Hp⟩)
  all_goals (
    iapply (arrive c ys arg3 harg3 arg4 harg4 arg5 harg5 arg6 harg6 arg7 harg7 i) $$ [HC HO]
    · isplitl [HC] <;> iassumption
    iintro ⟨HL, HO⟩
    unfold landed
    icases HL with ⟨Hb, Hsv, Hy⟩
    unfold owns
    icases H3 with ⟨%f3, %h3, H3⟩
    icases H4 with ⟨%f4, %h4, H4⟩
    icases H5 with ⟨%f5, %h5, H5⟩
    icases H6 with ⟨%f6, %h6, H6⟩
    icases H7 with ⟨%f7, -, H7⟩
    simp only [Prog.lift, Prog.bind_op, Prog.bind_ret, Prog.pure_eq_ret, Prog.bind_assoc]
    iapply (ld_tok c arg3 0 rfl _ h3) $$ H3; iintro H3
    iapply (ld_tok c arg3 1 rfl _ h3) $$ H3; iintro H3
    iapply (ld_tok c arg3 2 rfl _ h3) $$ H3; iintro H3
    iapply (ld_tok c arg3 3 rfl _ h3) $$ H3; iintro H3
    iapply (ld_tok c arg3 4 rfl _ h3) $$ H3; iintro H3
    iapply (ld_tok c arg3 5 rfl _ h3) $$ H3; iintro H3
    iapply (ld_tok c arg3 6 rfl _ h3) $$ H3; iintro H3
    iapply (ld_tok c arg3 7 rfl _ h3) $$ H3; iintro H3
    iapply (ld_slot c (sl (i 0).val) ys (i 0).val (off59 i) _ (Y := lo (slotOf pos) ys (i 0).val) ?_) $$ Hb
    · intro y z h1 h2
      unfold got lo
      refine congrArg ys (funext fun a => Fin.ext ?_)
      match a with
      | ⟨0, _⟩ => exact congrArg (fun n => slotOf pos (1024 * (i 0).val + n) % 69120) h1
      | ⟨1, _⟩ => show (z 2).val = (y 2).val; omega
    iintro Hb
    iapply (ld_slot c (sl (i 0).val) ys (i 0).val (off60 i) _ (Y := hi (slotOf pos) ys (i 0).val) ?_) $$ Hb
    · intro y z h1 h2
      unfold got hi
      refine congrArg ys (funext fun a => Fin.ext ?_)
      match a with
      | ⟨0, _⟩ => exact congrArg (fun n => slotOf pos (1024 * (i 0).val + n) % 69120) h1
      | ⟨1, _⟩ => show (z 2).val = 1024 + (y 2).val; omega
    iintro Hb
    iapply (ld c arg4 zero2 _ h4) $$ H4; iintro H4
    iapply (ld c arg5 zero2 _ h5) $$ H5; iintro H5
    iapply (ld c arg6 zero2 _ h6) $$ H6; iintro H6
    iapply (sto c arg7 _ _) $$ H7
    iintro H7
    rw [wp_ret]
    imodintro
    isplitl [HN Hb Hsv Hy]
    · isplitl [HN]; · iexact HN
      iapply (landed_idle c ys (P := slotOf pos) (sl (i 0).val) (i 0).val)
      unfold landed
      isplitl [Hb]; · iexact Hb
      isplitl [Hsv] <;> iassumption
    isplitl [Hp]; · iexact Hp
    isplitl [HO]; · iexact HO
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists f6; isplitr; · ipureintro; exact h6
                    iexact H6
    unfold owns block
    iexact H7)

end Cert.Kernel3Ideal.Hand

end
-- ==== Proof.Collected.lean ====
module

public import proofs.«01_k».proof.Proof.Collect
public import Idealize.ShloMosaic.Lib.StableHlo.Run
public import Idealize.ShloMosaic.Lib.Pipeline.FrameValue
public import Idealize.ShloMosaic.Lib.Pipeline.ValueKit.Geometry

@[expose] public section

set_option maxRecDepth 65536

noncomputable section

namespace Cert.Kernel3Ideal.Hand

open Cert.Kernel3Ideal Cert.Kernel3Ideal.Gen Cert.Kernel3Ideal.Words
open Cert.Pre_routed (slotOf)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The buffers -/

/-- The buffers of core `c` as the call finds them. -/
def V (c : Dev nD) (b : Ref sig .tc) : Buf (Elt F) ((c : Thread nD τ).loc b) := StableHlo.after hostOps0 (fun b => m (c, b)) b

def pos (c : Dev nD) : IVec S32768 32 := m ((c : Thread nD τ).loc main_arg0)
def ys (c : Dev nD) : S69120x2048.Idx → F .f32 := m ((c : Thread nD τ).loc main_arg1)
def xs (c : Dev nD) : FVec F S262144x128 .f32 := m ((c : Thread nD τ).loc main_arg2)
def wt (c : Dev nD) : FVec F S32768x128 .f32 := m ((c : Thread nD τ).loc main_arg3)
def lw (c : Dev nD) : FVec F S1024 .f32 := m ((c : Thread nD τ).loc main_arg4)
def lb (c : Dev nD) : FVec F S1024 .f32 := m ((c : Thread nD τ).loc main_arg5)

theorem V_arg0 (c : Dev nD) : V m c main_arg0 = pos m c := by unfold V; after_results_simp <;> rfl
theorem V_arg1 (c : Dev nD) : V m c main_arg1 = ys m c := by unfold V; after_results_simp <;> rfl
theorem V_arg2 (c : Dev nD) : V m c main_arg2 = xs m c := by unfold V; after_results_simp <;> rfl
theorem V_arg3 (c : Dev nD) : V m c main_arg3 = wt m c := by unfold V; after_results_simp <;> rfl
theorem V_arg4 (c : Dev nD) : V m c main_arg4 = lw m c := by unfold V; after_results_simp <;> rfl
theorem V_arg5 (c : Dev nD) : V m c main_arg5 = lb m c := by unfold V; after_results_simp <;> rfl
theorem V_v0 (c : Dev nD) : V m c main_v0 = broadcastInDim S1x1024 ![1] bcast_S1024_S1x1024_1 (lw m c) := by unfold V; after_results_simp <;> rfl
theorem V_v1 (c : Dev nD) : V m c main_v1 = broadcastInDim S1x1024 ![1] bcast_S1024_S1x1024_1 (lb m c) := by unfold V; after_results_simp <;> rfl

/-- The table's contents. -/
def adm : (p : Fin 1) → (pcfgs (F := F) p).Adm := fun _ => ⟨fun k => V m 0 (pre0.ref k), trivial⟩

/-- The call's pipeline at this table. -/
abbrev cfgs : Fin 1 → Cfg sig Λ₀ := Pipeline.pin pcfgs (adm m)

/-- The grid has one axis. -/
theorem coords0 : ∀ t : Fin grid0.N, (grid0.coords t 0).val = t.val := by decide

/-- The blocks grid point `t` works with. -/
def b0 (c : Dev nD) (t : Fin grid0.N) : S8192x128.Idx → F .f32 := (((cfgs m 0).win 0).blk t).view.read (Elt F) (V m c main_arg2)
def b1 (c : Dev nD) (t : Fin grid0.N) : S1024x128.Idx → F .f32 := (((cfgs m 0).win 1).blk t).view.read (Elt F) (V m c main_arg3)
def b2 (c : Dev nD) (t : Fin grid0.N) : S1x1024.Idx → F .f32 := (((cfgs m 0).win 2).blk t).view.read (Elt F) (V m c main_v0)
def b3 (c : Dev nD) (t : Fin grid0.N) : S1x1024.Idx → F .f32 := (((cfgs m 0).win 3).blk t).view.read (Elt F) (V m c main_v1)

/-- The block grid point `t` leaves. -/
def b4 (c : Dev nD) (t : Fin grid0.N) : S1024x1024.Idx → F .f32 :=
  block (slotOf (pos m c)) (ys m c) t.val (b0 m c t) (b1 m c t) (b2 m c t) (b3 m c t)

/-- The call's semaphores of its own. -/
abbrev osem0 : Fin 2 → SemLoc sig := fun j => (![.dma 8, .dma 9] : Fin 2 → SemLoc sig) j

theorem own0 : Pipeline.OwnSemFacts spec0 osem0 := by decide

/-- The state before grid point `p`: the slots, the table, the generator. -/
def st (c : Dev nD) (p : ℕ) : sProp 𝕄 :=
  iprop(rollAt c (ys m c) (slotOf (pos m c)) p ∗ (ℓp c ↦{fullShare.right} pos m c) ∗ (∃ r, prngReg c r))

/-- The proof data of the call. -/
def dats (p : Fin 1) (c : Dev nD) : Dat τ (Elt F) Unit ℕ (Pipeline.UD sig nD τ) ℕ (cfgs m p) c where
  A w := V m c (Pipeline.arrRef spec0 w)
  after w t := match w with
    | ⟨0, _⟩ => b0 m c t
    | ⟨1, _⟩ => b1 m c t
    | ⟨2, _⟩ => b2 m c t
    | ⟨3, _⟩ => b3 m c t
    | ⟨4, _⟩ => b4 m c t
  Φ t := st m c t.val
  q _ := fullShare
  owed _ := 0

theorem A_eq (c : Dev nD) (w : Fin (cfgs m 0).W) : (dats m 0 c).A w = V m c (Pipeline.arrRef spec0 w) := by
  dsimp only [dats]

theorem before0 (c : Dev nD) (t : Fin grid0.N) (d) : (dats m 0 c).before 0 t d = b0 m c t :=
  (dats m 0 c).before_in_eq_fetched 0 rfl (fun _ => rfl) (fun _ _ _ => rfl) (fun _ => rfl) t d
theorem before1 (c : Dev nD) (t : Fin grid0.N) (d) : (dats m 0 c).before 1 t d = b1 m c t :=
  (dats m 0 c).before_in_eq_fetched 1 rfl (fun _ => rfl) (fun _ _ _ => rfl) (fun _ => rfl) t d
theorem before2 (c : Dev nD) (t : Fin grid0.N) (d) : (dats m 0 c).before 2 t d = b2 m c t :=
  (dats m 0 c).before_in_eq_fetched 2 rfl (fun _ => rfl) (fun _ _ _ => rfl) (fun _ => rfl) t d
theorem before3 (c : Dev nD) (t : Fin grid0.N) (d) : (dats m 0 c).before 3 t d = b3 m c t :=
  (dats m 0 c).before_in_eq_fetched 3 rfl (fun _ => rfl) (fun _ _ _ => rfl) (fun _ => rfl) t d

/-! ## The call's body at a grid point -/

abbrev st0 (t : Fin grid0.N) : Memref sig .tc .vmem S8192x128 .f32 := ((cfgs m 0).win 0).stage ((cfgs m 0).slots t 0)
abbrev st1 (t : Fin grid0.N) : Memref sig .tc .vmem S1024x128 .f32 := ((cfgs m 0).win 1).stage ((cfgs m 0).slots t 1)
abbrev st2 (t : Fin grid0.N) : Memref sig .tc .vmem S1x1024 .f32 := ((cfgs m 0).win 2).stage ((cfgs m 0).slots t 2)
abbrev st3 (t : Fin grid0.N) : Memref sig .tc .vmem S1x1024 .f32 := ((cfgs m 0).win 3).stage ((cfgs m 0).slots t 3)
abbrev st4 (t : Fin grid0.N) : Memref sig .tc .vmem S1024x1024 .f32 := ((cfgs m 0).win 4).stage ((cfgs m 0).slots t 4)

def bodyPre (c : Dev nD) (t : Fin grid0.N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d))
    ∗ (∃ d, owns (c : Thread nD τ) (st2 m t) fullShare ((dats m 0 c).before 2 t d))
    ∗ (∃ d, owns (c : Thread nD τ) (st3 m t) fullShare ((dats m 0 c).before 3 t d))
    ∗ (∃ d, owns (c : Thread nD τ) (st4 m t) fullShare ((dats m 0 c).before 4 t d)))
def bodyPost (c : Dev nD) (t : Fin grid0.N) : sProp 𝕄 :=
  iprop((dats m 0 c).Φ t.succ ∗ (dats m 0 c).owesAt () t.succ
    ∗ owns (c : Thread nD τ) (st0 m t) fullShare (b0 m c t) ∗ owns (c : Thread nD τ) (st1 m t) fullShare (b1 m c t)
    ∗ owns (c : Thread nD τ) (st2 m t) fullShare (b2 m c t) ∗ owns (c : Thread nD τ) (st3 m t) fullShare (b3 m c t)
    ∗ owns (c : Thread nD τ) (st4 m t) fullShare (b4 m c t))
def bodyAt (t : Fin grid0.N) : Prog (TpuEff nD τ sig (Elt F) Λ₀ .tc) PUnit :=
  cc0_collect (F := F) (grid0.coords t) (Memref.whole main_arg0) (Memref.isWhole_whole _) (Memref.whole main_arg1) (Memref.isWhole_whole _)
    (st0 m t) (hstage0_0 (((cfgs m 0).slots t 0).cast nbuf0_0)) (st1 m t) (hstage0_1 (((cfgs m 0).slots t 1).cast nbuf0_1))
    (st2 m t) (hstage0_2 (((cfgs m 0).slots t 2).cast nbuf0_2)) (st3 m t) (hstage0_3 (((cfgs m 0).slots t 3).cast nbuf0_3))
    (st4 m t) (hstage0_4 (((cfgs m 0).slots t 4).cast nbuf0_4)) (Memref.whole cc0_scratch0) (Memref.isWhole_whole _) cc0_scratch1

/-- The slots' table names rows of the experts' outputs. -/
abbrev InSlots : Prop := ∀ c : Dev nD, ∀ t : Fin 32768, (pos m c (ix1 t)).toNat < 69120

/-- One grid point keeps the call's state. -/
theorem sound_body (hv : InSlots m) (c : Dev nD) (t : Fin grid0.N) :
    bodyPre m c t ⊢ wp frame (wpE (defs₀ (F := F)) Variants.none c none) Set.univ (bodyAt m t) (fun _ => bodyPost m c t) := by
  unfold bodyPre bodyPost bodyAt b4
  rw [show (dats m 0 c).Φ t.succ = st m c (t.val + 1) from rfl, show (dats m 0 c).Φ t.castSucc = st m c t.val from rfl]
  simp only [before0, before1, before2, before3]
  unfold Dat.owesAt Pipeline.owesWithin
  rw [show (dats m 0 c).owed t.castSucc = 0 from rfl, show (dats m 0 c).owed t.succ = 0 from rfl]
  unfold st
  have e := coords0 t
  iintro ⟨⟨HR, Hp, Hg⟩, ⟨%W, -, HW⟩, ⟨%d0, H0⟩, ⟨%d1, H1⟩, ⟨%d2, H2⟩, ⟨%d3, H3⟩, ⟨%d4, H4⟩⟩
  rw [← e]
  iapply (wp_wand_r frame (wpE (defs₀ (F := F)) Variants.none (c : Thread nD τ) none) Set.univ)
  isplitr [Hg]
  · iapply (point c (ys m c) (st0 m t) _ (st1 m t) _ (st2 m t) _ (st3 m t) _ (st4 m t) _ (grid0.coords t) (pos m c) (hv c)
      (b0 m c t) (b1 m c t) (b2 m c t) (b3 m c t) ((dats m 0 c).before 4 t d4))
    isplitl [HR]; · iexact HR
    isplitl [Hp]; · iexact Hp
    isplitl [HW]; · iexists W; iexact HW
    isplitl [H0]; · iexact H0
    isplitl [H1]; · iexact H1
    isplitl [H2]; · iexact H2
    isplitl [H3]; · iexact H3
    iexact H4
  iintro %a ⟨HR, Hp, ⟨%W', HW'⟩, H⟩
  isplitl [HR Hp Hg]
  · isplitl [HR]; · iexact HR
    isplitl [Hp]; · iexact Hp
    iexact Hg
  isplitl [HW']
  · iexists W'; isplitr; · ipureintro; exact fun _ _ => Or.inl trivial
    iexact HW'
  iexact H

theorem defs₀_row (t : Fin grid0.N) :
    defs₀ (F := F) .tc (cfgs m 0).body ((cfgs m 0).bodyArgs t ((cfgs m 0).slots t)) = bodyAt m t := by
  unfold defs₀; rw [Defs.onTc_tc]; rfl

theorem body_obligation (hv : InSlots m) (c : Dev nD) :
    BodyObligation (dats m 0 c) (defs₀ (F := F)) Variants.none () Set.univ := fun t => by
  rw [bigSep_W0, bigSep_W0, defs₀_row]
  exact triple_restated (sound_body m hv c t) rfl .rfl fun _ => .rfl

/-! ## The launch -/

/-- The scratch buffer whole is its two slots. -/
theorem slots_eq (c : Dev nD) (W : S2x1024x2048.Idx → F .f32) :
    (ℓb c ↦{fullShare} W : sProp 𝕄) = iprop((ℓb c ↦[sset 0]{fullShare} W) ∗ (ℓb c ↦[sset 1]{fullShare} W)) := by
  have hd : Disjoint (sset 0) (sset 1) := by
    rw [Finset.disjoint_left]
    intro y h h'
    unfold sset at h h'
    have h1 := (Finset.mem_filter.1 h).2
    have h2 := (Finset.mem_filter.1 h').2
    exact absurd (h1.symm.trans h2) (by decide)
  have hu := (pointsTo_union (ℓ := ℓb c) (q := fullShare) (f := W) (Val := Elt F) (nD := nD) (τ := τ) (sig := sig) (Ix := Unit) (Name := ℕ) (U := Pipeline.UD sig nD τ) (Lvl := ℕ) hd)
  have e : (Finset.univ : Finset S2x1024x2048.Idx) = sset 0 ∪ sset 1 := by
    refine (Finset.eq_univ_iff_forall.2 fun y => ?_).symm
    have h : (y 0).val < 2 := (y 0).2
    unfold sset
    rcases Nat.lt_or_ge (y 0).val 1 with h1 | h1
    · exact Finset.mem_union_left _ (Finset.mem_filter.2 ⟨Finset.mem_univ _, by show (y 0).val = 0; omega⟩)
    · exact Finset.mem_union_right _ (Finset.mem_filter.2 ⟨Finset.mem_univ _, by show (y 0).val = 1; omega⟩)
  exact (congrArg (fun S => (ℓb c ↦[S]{fullShare} W : sProp 𝕄)) e).trans (Idealize.SL.BI.Entails.antisymm hu.1 hu.2)

/-- The call reads one buffer in memory. -/
abbrev H0 : Finset (Ref sig .tc) := {main_arg1}
abbrev R0 : Finset (Ref sig .tc) := ∅

theorem adm_eq (c : Dev nD) (k : Fin 1) : V m c (pre0.ref k) = (adm m 0).1 k := by
  have : c = 0 := Subsingleton.elim _ _
  subst this; rfl

/-- What the launch hands in, one by one. -/
theorem given_eq (c : Dev nD) :
    (Pipeline.ΦDRG osem0 spec0 H0 R0 (V m) (V m) c : sProp 𝕄)
      = iprop((∃ f : Buf (Elt F) (ℓb c), ℓb c ↦{fullShare} f) ∗ (∃ r, prngReg c r)
          ∗ (semVal ((c : Thread nD τ), cell 0) 0 ∗ semVal ((c : Thread nD τ), cell 1) 0)
          ∗ (ℓy c ↦{fullShare} ys m c) ∗ emp) := by
  rw [Pipeline.ΦDRG_eq, scopedRest0_eq, Pipeline.ownSems0_eq_of_list c osem0 [0, 1] (by decide) (by decide)]
  unfold Pipeline.routed
  rw [bigSep_empty, bigSep_singleton, ← V_arg1]
  rfl

/-- The table. -/
theorem tables_eq (c : Dev nD) :
    (Pipeline.ΦT pre0 (adm m 0).1 c : sProp 𝕄) = iprop(ℓp c ↦{fullShare.right} pos m c) := by
  unfold Pipeline.ΦT Pipeline.prefHeld
  rw [bigSep_univ_eq_bigSepL [(0 : Fin 1)] (by decide) (by decide), ← V_arg0]
  have e0 : (adm m 0).1 (0 : Fin 1) = V m c main_arg0 := (adm_eq m c 0).symm
  rw [← e0]
  rfl

/-- Both slots free. -/
theorem both_eq (c : Dev nD) (f : S69120x2048.Idx → F .f32) :
    (iprop(idle c f 0 ∗ idle c f 1) : sProp 𝕄)
      = iprop(((∃ V, ℓb c ↦[sset 0]{fullShare} V) ∗ semVal ((c : Thread nD τ), cell 0) 0 ∗ (ℓy c ↦{fullShare.left} f))
          ∗ ((∃ V, ℓb c ↦[sset 1]{fullShare} V) ∗ semVal ((c : Thread nD τ), cell 1) 0 ∗ (ℓy c ↦{fullShare.right} f))) := rfl

/-- The launch's resources are the state before the first point. -/
theorem enter (c : Dev nD) :
    iprop(Pipeline.ΦDRG osem0 spec0 H0 R0 (V m) (V m) c ∗ Pipeline.ΦT pre0 (adm m 0).1 c) ⊢ (st m c 0 : sProp 𝕄) := by
  rw [given_eq, tables_eq]
  unfold st rollAt coming
  rw [if_pos (Or.inl rfl), show sl 0 = 0 from rfl, show sl (0 + 1) = 1 from rfl, both_eq]
  iintro ⟨⟨⟨%f, Hz⟩, Hg, ⟨H2, H3⟩, Hy, -⟩, Hp⟩
  ihave Hz := (Entails.of_eq (slots_eq c f)) $$ Hz
  icases Hz with ⟨Hz0, Hz1⟩
  ihave Hy := (pointsTo_share (PosShare.mem_left_op_right fullShare)).1 $$ Hy
  icases Hy with ⟨Hy0, Hy1⟩
  isplitr [Hp Hg]
  · isplitl [Hz0 H2 Hy0]
    · isplitl [Hz0]; · iexists f; iexact Hz0
      isplitl [H2] <;> iassumption
    · isplitl [Hz1]; · iexists f; iexact Hz1
      isplitl [H3] <;> iassumption
  isplitl [Hp]; · iexact Hp
  iexact Hg

/-- Two slots at some contents are the buffer at some contents. -/
theorem slots_join (c : Dev nD) :
    iprop((∃ V, ℓb c ↦[sset 0]{fullShare} V) ∗ (∃ V, ℓb c ↦[sset 1]{fullShare} V)) ⊢ (iprop(∃ f : Buf (Elt F) (ℓb c), ℓb c ↦{fullShare} f) : sProp 𝕄) := by
  iintro ⟨⟨%A, HA⟩, ⟨%B, HB⟩⟩
  iexists (fun y : S2x1024x2048.Idx => if (y 0).val = 0 then A y else B y)
  rw [slots_eq]
  isplitl [HA]
  · iapply (Entails.of_eq (pointsTo_congr (ℓ := ℓb c) (I := sset 0) (q := fullShare) fun y hy => ?_)) $$ HA
    unfold sset at hy
    exact (if_pos (Finset.mem_filter.1 hy).2).symm
  · iapply (Entails.of_eq (pointsTo_congr (ℓ := ℓb c) (I := sset 1) (q := fullShare) fun y hy => ?_)) $$ HB
    unfold sset at hy
    have h1 : (y 0).val = 1 := (Finset.mem_filter.1 hy).2
    exact (if_neg (by rw [h1]; decide)).symm

/-- The state after the last point is the launch's resources. -/
theorem leave (c : Dev nD) :
    (st m c 32 : sProp 𝕄) ⊢ Pipeline.ΦDRG osem0 spec0 H0 R0 (V m) (V m) c := by
  rw [given_eq]
  unfold st rollAt coming
  rw [if_pos (Or.inr rfl), show sl 32 = 0 from rfl, show sl (32 + 1) = 1 from rfl, both_eq]
  iintro ⟨⟨⟨Hz0, H2, Hy0⟩, ⟨Hz1, H3, Hy1⟩⟩, -, Hg⟩
  ihave Hz := (slots_join c) $$ [Hz0 Hz1]
  · isplitl [Hz0] <;> iassumption
  ihave Hy := (pointsTo_share (PosShare.mem_left_op_right fullShare)).2 $$ [Hy0 Hy1]
  · isplitl [Hy0] <;> iassumption
  isplitl [Hz]; · iexact Hz
  isplitl [Hg]; · iexact Hg
  isplitl [H2 H3]
  · isplitl [H2] <;> iassumption
  isplitl [Hy]; · iexact Hy
  iempintro

theorem fresh0 : (hostOps0 : List (HloOp τ sig (Elt F))).Forall fun op => op.fresh = ∅ := ⟨rfl, rfl⟩

set_option backward.isDefEq.respectTransparency.types false in
/-- The run of the program. -/
theorem run_main (hv : InSlots m) :
    θ_run defs (onTc (τ := τ) (main (F := F))) (s₀ m ρ)
      (fun r => Pipeline.FramePostRG (cfgs m) (dats m) 0 R0 (V m) (V m) r ∧ r.2.sem = fun _ => 0) :=
  Pipeline.θ_run_frameP_dmaRG (Q' := _) pcfgs (adm m) (dats m) (0 : Fin 1) launch0 osem0 defs₀ Variants.none own0 H0 R0 (show H0 ⊆ Pipeline.restRefsP sig pre0 spec0 by decide) (show R0 ⊆ Pipeline.restRefsP sig pre0 spec0 \ H0 by decide) m ρ main
    (hbody := fun c => (body_obligation m hv c).loose) (hshare := fun c => (dats m 0 c).share_full fun _ => rfl)
    (howed := fun _ _ => rfl) (V := V m)
    (hmain := Pipeline.hmainP_prefix pcfgs 0 defs₀ Variants.none m main hostOps0 hostOps0_sub fresh0 main_chain) (hA := A_eq m)
    (hpf := adm_eq m) (G := V m) (hin := enter m) (hout := leave m)

/-! ## The result's blocks -/

/-- The block a token is in. -/
def blockOf (y : S32768x1024.Idx) : Fin grid0.N := ⟨(y 0).val / 1024, by
  have : (y 0).val < 32768 := (y 0).2
  have : grid0.N = 32 := N_0
  omega⟩

/-- The result: every block as its grid point leaves it. -/
def res (c : Dev nD) : S32768x1024.Idx → F .f32 := fun y =>
  b4 m c (blockOf y) (ix2 ⟨(y 0).val % 1024, Nat.mod_lt _ (by norm_num)⟩ (y 1))

theorem word_of (i : grid0.Coords) : (BitVec.ofNat 32 (i 0).val).toNat = (i 0).val := by
  have : (i 0).val < 32 := (i 0).2
  rw [BitVec.toNat_ofNat, Nat.mod_eq_of_lt (by omega)]

theorem index0_0 (t : Fin grid0.N) : ((cfgs m 0).win 0).index t (0 : Fin 2) = t.val := (word_of (grid0.coords t)).trans (coords0 t)
theorem index1_0 (t : Fin grid0.N) : ((cfgs m 0).win 1).index t (0 : Fin 2) = t.val := (word_of (grid0.coords t)).trans (coords0 t)
theorem index4_0 (t : Fin grid0.N) : ((cfgs m 0).win 4).index t (0 : Fin 2) = t.val := (word_of (grid0.coords t)).trans (coords0 t)
theorem index4_1 (t : Fin grid0.N) : ((cfgs m 0).win 4).index t (1 : Fin 2) = 0 := rfl
theorem nblk4_0 : ((cfgs m 0).win 4).nblk (0 : Fin 2) = (32768 + 1024 - 1) / 1024 := rfl
theorem nblk4_1 : ((cfgs m 0).win 4).nblk (1 : Fin 2) = (1024 + 1024 - 1) / 1024 := rfl

theorem flush4 (t : Fin grid0.N) : ((cfgs m 0).win 4).flush t = true := by
  have key : t.val + 1 = grid0.N ∨ ∃ h : t.val + 1 < grid0.N, ((cfgs m 0).win 4).index ⟨t.val + 1, h⟩ ≠ ((cfgs m 0).win 4).index t := by
    by_cases h : t.val + 1 = grid0.N
    · exact .inl h
    · refine .inr ⟨by have := t.2; omega, fun e => ?_⟩
      have h3 := (index4_0 m ⟨t.val + 1, by have := t.2; omega⟩).symm.trans ((congrFun e (0 : Fin 2)).trans (index4_0 m t))
      simp only at h3
      omega
  simp only [Pipeline.Window.flush, Bool.and_eq_true, Bool.not_eq_true', Bool.or_eq_true, decide_eq_true_eq]
  exact ⟨by first | rfl | trivial, key⟩

theorem covers4 : ((cfgs m 0).win 4).Covers := by
  have hpos : ∀ a : Fin 2, 0 < S1024x1024.size a := by decide
  refine ⟨hpos, fun β => ?_⟩
  have h0 : (β (0 : Fin 2)).val < 32 := (β (0 : Fin 2)).2.trans_eq ((nblk4_0 m).trans (by norm_num))
  have h1 : (β (1 : Fin 2)).val = 0 := Nat.lt_one_iff.1 ((β (1 : Fin 2)).2.trans_eq ((nblk4_1 m).trans (by norm_num)))
  refine ⟨⟨(β (0 : Fin 2)).val, h0.trans_eq N_0.symm⟩, flush4 m _, fun a => ?_⟩
  match a with
  | ⟨0, _⟩ => exact ⟨index4_0 m _, .inl rfl⟩
  | ⟨1, _⟩ => exact ⟨(index4_1 m _).trans h1.symm, .inl rfl⟩

theorem emb4_0 (t : Fin grid0.N) (y : S1024x1024.Idx) :
    ((((cfgs m 0).win 4).blk t).view.emb y (0 : Fin 2)).val = 1024 * t.val + (y 0).val := by
  show ((cfgs m 0).win 4).index t (0 : Fin 2) * 1024 + 1 * (y 0).val = _
  rw [index4_0]; omega
theorem emb4_1 (t : Fin grid0.N) (y : S1024x1024.Idx) :
    ((((cfgs m 0).win 4).blk t).view.emb y (1 : Fin 2)).val = (y 1).val := by
  show ((cfgs m 0).win 4).index t (1 : Fin 2) * 1024 + 1 * (y 1).val = _
  rw [index4_1]; omega

theorem res_at (c : Dev nD) (t : Fin grid0.N) (y : S1024x1024.Idx) (z : S32768x1024.Idx) (h0 : (z 0).val = 1024 * t.val + (y 0).val) (h1 : (z 1).val = (y 1).val) :
    b4 m c t y = res m c z := by
  have hy0 : (y 0).val < 1024 := (y 0).2
  have et : blockOf z = t := by
    refine Fin.ext ?_
    show (z 0).val / 1024 = _
    rw [h0]; omega
  unfold res
  rw [et]
  refine congrArg (b4 m c t) (funext fun a => Fin.ext ?_)
  match a with
  | ⟨0, _⟩ =>
    show (y 0).val = (z 0).val % 1024
    rw [h0]; omega
  | ⟨1, _⟩ => exact h1.symm

theorem out_eq (c : Dev nD) : (dats m 0 c).arrAt 4 (cfgs m 0).N = res m c :=
  (dats m 0 c).arrAt_eq_of_covers 4 _ (covers4 m) fun t hf y => res_at m c t y _ (emb4_0 m t y) (emb4_1 m t y)

/-- Every run ends with the arguments as they were, the result at its blocks, and every counter at zero. -/
theorem run_post (hv : InSlots m) :
    θ_run defs (onTc (τ := τ) (main (F := F))) (s₀ m ρ)
      (fun r => (∀ c : Dev nD, r.2.mem ((c.tc : Thread nD τ).loc main_v2) = res m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
        ∧ r.2.sem = fun _ => 0) := by
  refine (θ_run defs _ _).mono (fun r h => ?_) (run_main m ρ hv)
  obtain ⟨⟨hF, -⟩, hs⟩ := h
  refine ⟨fun c => ⟨?_, ?_, ?_, ?_, ?_, ?_, ?_⟩, hs⟩
  · exact ((hF c).1 (4 : Fin 5)).trans (out_eq m c)
  · exact ((hF c).2 main_arg0 (show main_arg0 ∈ Pipeline.restRefs sig spec0 \ R0 by decide)).trans (V_arg0 m c)
  · exact ((hF c).2 main_arg1 (show main_arg1 ∈ Pipeline.restRefs sig spec0 \ R0 by decide)).trans (V_arg1 m c)
  · exact (((hF c).1 (0 : Fin 5)).trans ((dats m 0 c).arrAt_in (0 : Fin 5) rfl _)).trans (V_arg2 m c)
  · exact (((hF c).1 (1 : Fin 5)).trans ((dats m 0 c).arrAt_in (1 : Fin 5) rfl _)).trans (V_arg3 m c)
  · exact ((hF c).2 main_arg4 (show main_arg4 ∈ Pipeline.restRefs sig spec0 \ R0 by decide)).trans (V_arg4 m c)
  · exact ((hF c).2 main_arg5 (show main_arg5 ∈ Pipeline.restRefs sig spec0 \ R0 by decide)).trans (V_arg5 m c)

end Cert.Kernel3Ideal.Hand

end
-- ==== Proof.Normed.lean ====
module

public import proofs.«01_k».proof.Proof.Gen.Reference3Ideal.Run
public import proofs.«01_k».proof.Proof.Routed
public import proofs.«01_k».proof.Proof.Slots
public import Idealize.ShloMosaic.Lib.Pointwise

@[expose] public section

set_option maxRecDepth 16384

noncomputable section

namespace Cert.Reference3Ideal.Hand

open Cert.Reference3Ideal Cert.Reference3Ideal.Gen
open Cert.Pre_routed (slt_zero)
open Idealize.ShloMosaic Idealize.ShloMosaic.TcCoe

/-! The collect call's reference, read at an entry. -/

/-! ## A row's normalization -/

/-- A row's mean. -/
def mean (z : Fin 1024 → Ideal .f32) : Ideal .f32 := Ideal.div (∑ l, (z l : EReal)) (Ideal.ofBits .f32 0x44800000#32)

/-- A row's variance. -/
def var (z : Fin 1024 → Ideal .f32) : Ideal .f32 := mean fun l => ((z l : EReal) - mean z) * ((z l : EReal) - mean z)

/-- An entry of a row normalized, scaled by `w` and moved by `b`. -/
def scaled (z : Fin 1024 → Ideal .f32) (w b : Ideal .f32) (j : Fin 1024) : Ideal .f32 :=
  ((z j : EReal) - mean z) * Ideal.rsqrt ((var z : EReal) + Ideal.ofBits .f32 0x3727C5AC#32) * w + b

/-- The rows' means, as the reference computes them. -/
def means (Z : FVec Ideal S32768x1024 .f32) : FVec Ideal S32768x1 .f32 :=
  Host.divf (broadcastInDim S32768x1 ![0] bcast_S32768_S32768x1_0 (Host.reduceAdd Z (constant S_ .f32 0x00000000#32) reducesTo_S32768x1024_S32768_d1 h_S_))
    (broadcastInDim S32768x1 ![] bcast_S_S32768x1 (constant S_ .f32 0x44800000#32))

/-- The rows less their means. -/
def centred (Z : FVec Ideal S32768x1024 .f32) : FVec Ideal S32768x1024 .f32 :=
  subf Z (broadcastInDim S32768x1024 ![0, 1] bcast_S32768x1_S32768x1024_0_1 (means Z))

/-- The rows normalized. -/
def normed (Z : FVec Ideal S32768x1024 .f32) (w b : FVec Ideal S1024 .f32) : FVec Ideal S32768x1024 .f32 :=
  addf (mulf (mulf (centred Z) (broadcastInDim S32768x1024 ![0, 1] bcast_S32768x1_S32768x1024_0_1
      (Host.rsqrt (addf (means (mulf (centred Z) (centred Z))) (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 w)))
    (broadcastInDim S32768x1024 ![0, 1] bcast_S1x1024_S32768x1024_0_1 (broadcastInDim S1x1024 ![1] bcast_S1024_S1x1024_1 b))

theorem means_apply (Z : FVec Ideal S32768x1024 .f32) (n : Fin 32768) : means Z (ix2 n (0 : Fin 1)) = mean fun l => Z (ix2 n l) := by
  pointwise [means, mean]

theorem centred_apply (Z : FVec Ideal S32768x1024 .f32) (n : Fin 32768) (j : Fin 1024) :
    centred Z (ix2 n j) = (Z (ix2 n j) : EReal) - mean fun l => Z (ix2 n l) := by
  have h := means_apply Z n
  unfold centred
  generalize means Z = M at h ⊢
  pointwise
  rw [h]

theorem normed_apply (Z : FVec Ideal S32768x1024 .f32) (w b : FVec Ideal S1024 .f32) (n : Fin 32768) (j : Fin 1024) :
    normed Z w b (ix2 n j) = scaled (fun l => Z (ix2 n l)) (w (ix1 j)) (b (ix1 j)) j := by
  have h := centred_apply Z n
  have h2 : means (mulf (centred Z) (centred Z)) (ix2 n (0 : Fin 1)) = var fun l => Z (ix2 n l) := by
    rw [means_apply]
    unfold var
    refine congrArg mean (funext fun l => ?_)
    pointwise
    rw [h l]
  unfold normed scaled
  generalize means (mulf (centred Z) (centred Z)) = M at h2 ⊢
  generalize centred Z = C at h ⊢
  pointwise
  rw [h, h2]

/-! ## What is normalized -/

/-- The table as the gather takes it: one index word per token. -/
def idx (e : IVec S32768 32) : IVec S32768x1 32 :=
  broadcastInDim S32768x1 ![0] bcast_S32768_S32768x1_0 (select (cmpi .slt e (broadcastInDim S32768 ![] bcast_S_S32768 (constantI S_ 32 0#32)))
    (addi e (broadcastInDim S32768 ![] bcast_S_S32768 (constantI S_ 32 69120#32))) e)

theorem idx_apply (e : IVec S32768 32) (t : Fin 32768) (h : (e (ix1 t)).toNat < 69120) : (idx e (ix2 t (0 : Fin 1))).toInt = ((e (ix1 t)).toNat : ℤ) := by
  have h2 := slt_zero (show (e (ix1 t)).toNat < 2 ^ 31 by omega)
  have h4 : ∀ y : S32768.Idx, y = ix1 t → Scalar.select (IntOp.cmpi .slt (e y) 0#32) (IntOp.addi (e y) 69120#32) (e y) = e (ix1 t) := by
    rintro y rfl
    rw [h2, ValueIdx.select_zero]
  have he : idx e (ix2 t (0 : Fin 1)) = e (ix1 t) := h4 _ (funext fun a => match a with | ⟨0, _⟩ => rfl)
  rw [he, BitVec.toInt_eq_toNat_of_lt (by omega)]

/-- The gather of one row per token. -/
theorem row_apply {α : Type} (y : S69120x2048.Idx → α) (i : IVec S32768x1 32) (t : Fin 32768) (j : Fin 2048) (e : Fin 69120)
    (h : (i (ix2 t (0 : Fin 1))).toInt = (e.val : ℤ)) :
    Host.gather gather_S69120x2048_S32768x1_S32768x2048_1_0_n_n_0_1_12048 y i (ix2 t j) = y (ix2 e j) := by
  unfold Host.gather
  refine congrArg y (funext fun a => Fin.ext ?_)
  show gather_S69120x2048_S32768x1_S32768x2048_1_0_n_n_0_1_12048.start (ix2 t j) i a + gather_S69120x2048_S32768x1_S32768x2048_1_0_n_n_0_1_12048.batchCoord (ix2 t j) a
    + gather_S69120x2048_S32768x1_S32768x2048_1_0_n_n_0_1_12048.offCoord (ix2 t j) a = _
  rw [GatherDims.batchCoord_eq_zero _ _ _ List.not_mem_nil, Nat.add_zero]
  match a with
  | ⟨0, _⟩ =>
    have ho : gather_S69120x2048_S32768x1_S32768x2048_1_0_n_n_0_1_12048.offCoord (ix2 t j) (0 : Fin 2) = 0 := rfl
    have hs : gather_S69120x2048_S32768x1_S32768x2048_1_0_n_n_0_1_12048.start (ix2 t j) i (0 : Fin 2) = e.val := by
      unfold GatherDims.start
      rw [dif_pos (show (0 : Fin 2) ∈ gather_S69120x2048_S32768x1_S32768x2048_1_0_n_n_0_1_12048.startIndexMap from List.mem_singleton.2 rfl)]
      have hi : gather_S69120x2048_S32768x1_S32768x2048_1_0_n_n_0_1_12048.siIdx (ix2 t j)
          ⟨List.idxOf (0 : Fin 2) gather_S69120x2048_S32768x1_S32768x2048_1_0_n_n_0_1_12048.startIndexMap,
          List.idxOf_lt_length_iff.2 (List.mem_singleton.2 rfl)⟩ = ix2 t (0 : Fin 1) := by
        funext k; refine Fin.ext ?_
        match k with
        | ⟨0, _⟩ => rfl
        | ⟨1, _⟩ => rfl
      rw [hi, h]
      show min (e.val : ℤ).toNat (69120 - 1) = e.val
      have := e.2
      omega
    show gather_S69120x2048_S32768x1_S32768x2048_1_0_n_n_0_1_12048.start (ix2 t j) i (0 : Fin 2)
      + gather_S69120x2048_S32768x1_S32768x2048_1_0_n_n_0_1_12048.offCoord (ix2 t j) (0 : Fin 2) = e.val
    rw [hs, ho, Nat.add_zero]
  | ⟨1, _⟩ =>
    have ho : gather_S69120x2048_S32768x1_S32768x2048_1_0_n_n_0_1_12048.offCoord (ix2 t j) (1 : Fin 2) = j.val := rfl
    have hs : gather_S69120x2048_S32768x1_S32768x2048_1_0_n_n_0_1_12048.start (ix2 t j) i (1 : Fin 2) = 0 := rfl
    show gather_S69120x2048_S32768x1_S32768x2048_1_0_n_n_0_1_12048.start (ix2 t j) i (1 : Fin 2)
      + gather_S69120x2048_S32768x1_S32768x2048_1_0_n_n_0_1_12048.offCoord (ix2 t j) (1 : Fin 2) = j.val
    rw [hs, ho, Nat.zero_add]

/-- The tokens and their two experts' outputs, weighted and added. -/
def mixed (e : IVec S32768 32) (y : FVec Ideal S69120x2048 .f32) (x : FVec Ideal S262144x128 .f32) (w : FVec Ideal S32768x128 .f32) : FVec Ideal S32768x1024 .f32 :=
  addf (mulf (broadcastInDim S32768x1024 ![] bcast_S_S32768x1024 (Host.sqrt (Host.sqrt (constant S_ .f32 0x40000000#32)))) (shapeCast _ x shapeCasts_S262144x128_S32768x1024))
    (addf (mulf (broadcastInDim S32768x1024 ![0, 1] bcast_S32768x1_S32768x1024_0_1 (extractStridedSlice S32768x1 ![0, 1] w slices_S32768x128_S32768x1_0_1))
        (extractStridedSlice S32768x1024 ![0, 0] (Host.gather gather_S69120x2048_S32768x1_S32768x2048_1_0_n_n_0_1_12048 y (idx e)) slices_S32768x2048_S32768x1024_0_0))
      (mulf (broadcastInDim S32768x1024 ![0, 1] bcast_S32768x1_S32768x1024_0_1 (extractStridedSlice S32768x1 ![0, 2] w slices_S32768x128_S32768x1_0_2))
        (extractStridedSlice S32768x1024 ![0, 1024] (Host.gather gather_S69120x2048_S32768x1_S32768x2048_1_0_n_n_0_1_12048 y (idx e)) slices_S32768x2048_S32768x1024_0_1024)))

/-- An entry of that. -/
def mix (a x m1 y1 m2 y2 : Ideal .f32) : Ideal .f32 := (a : EReal) * x + ((m1 : EReal) * y1 + (m2 : EReal) * y2)

/-- The tokens' factor, the fourth root of two. -/
def alpha : Ideal .f32 := ((Real.sqrt (Real.sqrt 2) : ℝ) : EReal)

theorem two_word : Ideal.ofBits .f32 0x40000000#32 = ((2 : ℝ) : EReal) := by
  simp [Ideal.ofBits, Ideal.ieee, -EReal.coe_mul]; norm_num

/-- It is the root of the root that the reference takes. -/
theorem alpha_eq : Ideal.sqrt (Ideal.sqrt (Ideal.ofBits .f32 0x40000000#32)) = alpha := by
  rw [two_word, Ideal.sqrt_coe, if_neg (by norm_num), Ideal.sqrt_coe, if_neg (not_lt.2 (Real.sqrt_nonneg 2))]
  rfl

theorem mixed_apply (e : IVec S32768 32) (y : FVec Ideal S69120x2048 .f32) (x : FVec Ideal S262144x128 .f32) (w : FVec Ideal S32768x128 .f32)
    (n : Fin 32768) (l : Fin 1024) (h : (e (ix1 n)).toNat < 69120) :
    mixed e y x w (ix2 n l) = mix alpha
      (x (ix2 ⟨8 * n.val + l.val / 128, by have := n.2; have := l.2; omega⟩ ⟨l.val % 128, Nat.mod_lt _ (by norm_num)⟩))
      (w (ix2 n (1 : Fin 128))) (y (ix2 ⟨(e (ix1 n)).toNat, h⟩ ⟨l.val, by have := l.2; omega⟩))
      (w (ix2 n (2 : Fin 128))) (y (ix2 ⟨(e (ix1 n)).toNat, h⟩ ⟨1024 + l.val, by have := l.2; omega⟩)) := by
  have hg := fun j => row_apply y (idx e) n j ⟨(e (ix1 n)).toNat, h⟩ (idx_apply e n h)
  have hx : shapeCast S32768x1024 x shapeCasts_S262144x128_S32768x1024 (ix2 n l)
      = x (ix2 ⟨8 * n.val + l.val / 128, by have := n.2; have := l.2; omega⟩ ⟨l.val % 128, Nat.mod_lt _ (by norm_num)⟩) := by
    refine shapeCast_apply _ _ _ _ ?_
    rw [Shape.rowMajor_val_two, Shape.rowMajor_val_two]
    show (8 * n.val + l.val / 128) * 128 + l.val % 128 = n.val * 1024 + l.val
    omega
  unfold mixed mix
  generalize Host.gather gather_S69120x2048_S32768x1_S32768x2048_1_0_n_n_0_1_12048 y (idx e) = G at hg ⊢
  generalize shapeCast S32768x1024 x shapeCasts_S262144x128_S32768x1024 = X at hx ⊢
  pointwise
  simp only [hx, hg, Ideal.hostUnary_sqrt_def, Ideal.ofBits_def, alpha_eq]

/-- The whole reference. -/
theorem res_eq (m : (ℓ : Loc nD τ sig) → Buf (Elt Ideal) ℓ) (c : Dev nD) :
    Cert.Reference3Ideal.Value.res_out0 m c = normed (mixed (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4)) (m ((c.tc : Thread nD τ).loc main_arg5)) := by
  unfold Cert.Reference3Ideal.Value.res_out0 Cert.Reference3Ideal.Value.res_main_v45
  rfl

end Cert.Reference3Ideal.Hand

end
-- ==== Proof.Layer.lean ====
module

public import proofs.«01_k».proof.Proof.Collected
public import proofs.«01_k».proof.Proof.Normed
public import Idealize.ShloMosaic.PureOps.IdealRules

@[expose] public section

set_option maxRecDepth 65536

noncomputable section

namespace Cert.Kernel3Ideal.Hand

open Cert.Kernel3Ideal Cert.Kernel3Ideal.Gen
open Cert.Pre_routed (slotOf)
open Cert.Reference3Ideal.Hand (mean var scaled mix alpha)
open Idealize.ShloMosaic Idealize.ShloMosaic.TcCoe Idealize.SL.Sem

/-! ## A block's rows normalized -/

/-- The rows' means, as the kernel computes them. -/
def means (Z : FVec Ideal S1024x1024 .f32) : FVec Ideal S1024x1 .f32 :=
  divf (shapeCast S1024x1 (multiReduction .add [1] S1024 Z 0x00000000#32 reduces_S1024x1024_S1024 (.inl rfl) rfl) shapeCasts_S1024_S1024x1)
    (broadcast S1024x1 (Scalar.ofBits .f32 0x44800000#32))

/-- The rows less their means. -/
def centred (Z : FVec Ideal S1024x1024 .f32) : FVec Ideal S1024x1024 .f32 :=
  subf Z (broadcastTo S1024x1024 (means Z) broadcasts_S1024x1_S1024x1024)

/-- The rows normalized. -/
def normed (Z : FVec Ideal S1024x1024 .f32) (w b : FVec Ideal S1x1024 .f32) : FVec Ideal S1024x1024 .f32 :=
  addf (mulf (mulf (centred Z) (broadcastTo S1024x1024 (rsqrt (addf (means (mulf (centred Z) (centred Z))) (broadcast S1024x1 (Scalar.ofBits .f32 0x3727C5AC#32))))
      broadcasts_S1024x1_S1024x1024))
    (broadcastTo S1024x1024 (shapeCast S1x1024 w shapeCasts_S1x1024_S1x1024) broadcasts_S1x1024_S1024x1024))
    (broadcastTo S1024x1024 (shapeCast S1x1024 b shapeCasts_S1x1024_S1x1024) broadcasts_S1x1024_S1024x1024)

theorem means_apply (Z : FVec Ideal S1024x1024 .f32) (n : Fin 1024) : means Z (ix2 n (0 : Fin 1)) = mean fun l => Z (ix2 n l) := by
  pointwise [means, mean]

theorem centred_apply (Z : FVec Ideal S1024x1024 .f32) (n : Fin 1024) (j : Fin 1024) :
    centred Z (ix2 n j) = (Z (ix2 n j) : EReal) - mean fun l => Z (ix2 n l) := by
  have h := means_apply Z n
  unfold centred
  generalize means Z = M at h ⊢
  pointwise
  rw [h]

theorem normed_apply (Z : FVec Ideal S1024x1024 .f32) (w b : FVec Ideal S1x1024 .f32) (n : Fin 1024) (j : Fin 1024) :
    normed Z w b (ix2 n j) = scaled (fun l => Z (ix2 n l)) (w (ix2 (0 : Fin 1) j)) (b (ix2 (0 : Fin 1) j)) j := by
  have h := centred_apply Z n
  have h2 : means (mulf (centred Z) (centred Z)) (ix2 n (0 : Fin 1)) = var fun l => Z (ix2 n l) := by
    rw [means_apply]
    unfold var
    refine congrArg mean (funext fun l => ?_)
    pointwise
    rw [h l]
  unfold normed scaled
  generalize means (mulf (centred Z) (centred Z)) = M at h2 ⊢
  generalize centred Z = C at h ⊢
  pointwise
  rw [h, h2]

/-! ## What is normalized -/

/-- A block's tokens, one row each. -/
def toks (X : S8192x128.Idx → Ideal .f32) : FVec Ideal S1024x1024 .f32 :=
  concatenate S1024x1024 1 [⟨S1024x128, tok 0 X⟩, ⟨S1024x128, tok 1 X⟩, ⟨S1024x128, tok 2 X⟩, ⟨S1024x128, tok 3 X⟩, ⟨S1024x128, tok 4 X⟩, ⟨S1024x128, tok 5 X⟩,
    ⟨S1024x128, tok 6 X⟩, ⟨S1024x128, tok 7 X⟩] concatenates_S1024x128_S1024x128_S1024x128_S1024x128_S1024x128_S1024x128_S1024x128_S1024x128_S1024x1024_d1

/-- A block's tokens and their experts' outputs, weighted and added. -/
def mixed (T : FVec Ideal S1024x1024 .f32) (lo hi : S1x1024x1024.Idx → Ideal .f32) (M : S1024x128.Idx → Ideal .f32) : FVec Ideal S1024x1024 .f32 :=
  addf (addf (mulf (broadcast S1024x1024 (Named.named κ "alpha" 0x3F9837F0#32)) T)
      (mulf (broadcastTo S1024x1024 (extractStridedSlice S1024x1 ![0, 1] M slices_S1024x128_o0_1_S1024x1) broadcasts_S1024x1_S1024x1024)
        (shapeCast S1024x1024 lo shapeCasts_S1x1024x1024_S1024x1024)))
    (mulf (broadcastTo S1024x1024 (extractStridedSlice S1024x1 ![0, 2] M slices_S1024x128_o0_2_S1024x1) broadcasts_S1024x1_S1024x1024)
      (shapeCast S1024x1024 hi shapeCasts_S1x1024x1024_S1024x1024))

theorem block_eq (P : ℕ → ℕ) (y : S69120x2048.Idx → Ideal .f32) (b : ℕ) (X : S8192x128.Idx → Ideal .f32) (M : S1024x128.Idx → Ideal .f32) (W B : S1x1024.Idx → Ideal .f32) :
    block P y b X M W B = normed (mixed (toks X) (lo P y b) (hi P y b) M) W B := rfl

/-- A block read at one index spelt two ways. -/
theorem read_congr (X : S8192x128.Idx → Ideal .f32) (p : S8192x128.Idx) (a : Fin 8192) (b : Fin 128) (h0 : (p 0).val = a.val) (h1 : (p 1).val = b.val) :
    X p = X (ix2 a b) := by
  refine congrArg X (funext fun i => ?_)
  match i with
  | ⟨0, _⟩ => exact Fin.ext h0
  | ⟨1, _⟩ => exact Fin.ext h1

theorem toks_apply (X : S8192x128.Idx → Ideal .f32) (r l : Fin 1024) :
    toks X (ix2 r l) = X (ix2 ⟨8 * r.val + l.val / 128, by have := r.2; have := l.2; omega⟩ ⟨l.val % 128, Nat.mod_lt _ (by norm_num)⟩) := by
  pointwise [toks, tok]
  have hl := l.2
  split_ifs <;> refine read_congr X _ _ _ ?_ ?_
  all_goals (dsimp only; omega)

/-- The named factor is the fourth root of two. -/
theorem named_alpha : (Named.named (F := Ideal) κ "alpha" (φ := .f32) 0x3F9837F0#32) = alpha := IdealRules.named_const.ideal_named_scalar _ _ _ _ rfl

theorem mixed_apply (T : FVec Ideal S1024x1024 .f32) (lo hi : S1x1024x1024.Idx → Ideal .f32) (M : S1024x128.Idx → Ideal .f32) (r l : Fin 1024) :
    mixed T lo hi M (ix2 r l) = mix alpha (T (ix2 r l)) (M (ix2 r (1 : Fin 128))) (lo (ix3 (0 : Fin 1) r l))
      (M (ix2 r (2 : Fin 128))) (hi (ix3 (0 : Fin 1) r l)) := by
  pointwise [mixed, mix]
  rw [named_alpha]
  exact add_assoc _ _ _

/-! ## The result -/

variable {m : (ℓ : Loc nD τ sig) → Buf (Elt Ideal) ℓ}

theorem b0_at (c : Dev nD) (t : Fin grid0.N) (a : Fin 8192) (d : Fin 128) (z : Fin 262144) (h : z.val = 8192 * t.val + a.val) : b0 m c t (ix2 a d) = xs m c (ix2 z d) := by
  refine (show b0 m c t (ix2 a d) = V m c main_arg2 ((((cfgs m 0).win 0).blk t).view.emb (ix2 a d)) from rfl).trans
    ((congrFun (V_arg2 m c) _).trans (congrArg (xs m c) (funext fun k => Fin.ext ?_)))
  match k with
  | ⟨0, _⟩ =>
    show ((cfgs m 0).win 0).index t (0 : Fin 2) * 8192 + 1 * a.val = z.val
    rw [index0_0, h]; omega
  | ⟨1, _⟩ => show 0 * 128 + 1 * d.val = d.val; omega
theorem b1_at (c : Dev nD) (t : Fin grid0.N) (a : Fin 1024) (d : Fin 128) (z : Fin 32768) (h : z.val = 1024 * t.val + a.val) : b1 m c t (ix2 a d) = wt m c (ix2 z d) := by
  refine (show b1 m c t (ix2 a d) = V m c main_arg3 ((((cfgs m 0).win 1).blk t).view.emb (ix2 a d)) from rfl).trans
    ((congrFun (V_arg3 m c) _).trans (congrArg (wt m c) (funext fun k => Fin.ext ?_)))
  match k with
  | ⟨0, _⟩ =>
    show ((cfgs m 0).win 1).index t (0 : Fin 2) * 1024 + 1 * a.val = z.val
    rw [index1_0, h]; omega
  | ⟨1, _⟩ => show 0 * 128 + 1 * d.val = d.val; omega
theorem b2_at (c : Dev nD) (t : Fin grid0.N) (j : Fin 1024) : b2 m c t (ix2 (0 : Fin 1) j) = lw m c (ix1 j) := by
  refine (show b2 m c t (ix2 (0 : Fin 1) j) = V m c main_v0 ((((cfgs m 0).win 2).blk t).view.emb (ix2 (0 : Fin 1) j)) from rfl).trans
    ((congrFun (V_v0 m c) _).trans (congrArg (lw m c) (funext fun k => Fin.ext ?_)))
  match k with
  | ⟨0, _⟩ => show 0 * 1024 + 1 * j.val = j.val; omega
theorem b3_at (c : Dev nD) (t : Fin grid0.N) (j : Fin 1024) : b3 m c t (ix2 (0 : Fin 1) j) = lb m c (ix1 j) := by
  refine (show b3 m c t (ix2 (0 : Fin 1) j) = V m c main_v1 ((((cfgs m 0).win 3).blk t).view.emb (ix2 (0 : Fin 1) j)) from rfl).trans
    ((congrFun (V_v1 m c) _).trans (congrArg (lb m c) (funext fun k => Fin.ext ?_)))
  match k with
  | ⟨0, _⟩ => show 0 * 1024 + 1 * j.val = j.val; omega

/-- The call's result is the reference's. -/
theorem res_normed (hv : InSlots m) (c : Dev nD) :
    res m c = Cert.Reference3Ideal.Hand.normed (Cert.Reference3Ideal.Hand.mixed (pos m c) (ys m c) (xs m c) (wt m c)) (lw m c) (lb m c) := by
  have key : ∀ (n : Fin 32768) (j : Fin 1024), res m c (ix2 n j)
      = Cert.Reference3Ideal.Hand.normed (Cert.Reference3Ideal.Hand.mixed (pos m c) (ys m c) (xs m c) (wt m c)) (lw m c) (lb m c) (ix2 n j) := by
    intro n j
    have hn := n.2
    have hr : n.val % 1024 < 1024 := Nat.mod_lt _ (by norm_num)
    have ht : (blockOf (ix2 n j)).val = n.val / 1024 := rfl
    rw [Cert.Reference3Ideal.Hand.normed_apply]
    show b4 m c (blockOf (ix2 n j)) (ix2 ⟨n.val % 1024, hr⟩ j) = _
    generalize blockOf (ix2 n j) = t at ht ⊢
    unfold b4
    rw [block_eq, normed_apply, b2_at, b3_at]
    refine congrArg (fun z => scaled z (lw m c (ix1 j)) (lb m c (ix1 j)) j) (funext fun l => ?_)
    have hl := l.2
    rw [Cert.Reference3Ideal.Hand.mixed_apply _ _ _ _ _ _ (hv c n), mixed_apply, toks_apply,
      b0_at c t _ _ ⟨8 * n.val + l.val / 128, by omega⟩ (by show 8 * n.val + l.val / 128 = 8192 * t.val + (8 * (n.val % 1024) + l.val / 128); omega),
      b1_at c t _ _ n (by show n.val = 1024 * t.val + n.val % 1024; omega), b1_at c t _ _ n (by show n.val = 1024 * t.val + n.val % 1024; omega)]
    have hp : slotOf (pos m c) (1024 * t.val + n.val % 1024) % 69120 = (pos m c (ix1 n)).toNat := by
      have e : 1024 * t.val + n.val % 1024 = n.val := by omega
      unfold slotOf
      rw [e, dif_pos hn]
      exact Nat.mod_eq_of_lt (hv c n)
    have hlo : lo (slotOf (pos m c)) (ys m c) t.val (ix3 (0 : Fin 1) (⟨n.val % 1024, hr⟩ : Fin 1024) l) = ys m c (ix2 ⟨(pos m c (ix1 n)).toNat, hv c n⟩ ⟨l.val, by omega⟩) := by
      unfold lo
      refine congrArg (ys m c) (funext fun k => Fin.ext ?_)
      match k with
      | ⟨0, _⟩ => exact hp
      | ⟨1, _⟩ => rfl
    have hhi : hi (slotOf (pos m c)) (ys m c) t.val (ix3 (0 : Fin 1) (⟨n.val % 1024, hr⟩ : Fin 1024) l) = ys m c (ix2 ⟨(pos m c (ix1 n)).toNat, hv c n⟩ ⟨1024 + l.val, by omega⟩) := by
      unfold hi
      refine congrArg (ys m c) (funext fun k => Fin.ext ?_)
      match k with
      | ⟨0, _⟩ => exact hp
      | ⟨1, _⟩ => rfl
    rw [hlo, hhi]
  funext y
  have e : y = ix2 (y 0) (y 1) := by
    funext k
    match k with
    | ⟨0, _⟩ => rfl
    | ⟨1, _⟩ => rfl
  rw [e]
  exact key (y 0) (y 1)

end Cert.Kernel3Ideal.Hand

end
-- ==== Proof.Project.lean ====
module

public import proofs.«01_k».proof.Proof.Gen.Kernel4Ideal.Skeleton
public import proofs.«01_k».proof.Proof.Gen.Kernel4Ideal.Frame
public import Idealize.ShloMosaic.Lib.Pipeline.FrameValue
public import Idealize.ShloMosaic.Lib.Pipeline.ValueKit.Geometry
public import Idealize.ShloMosaic.Lib.Pointwise

@[expose] public section

set_option maxRecDepth 65536

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## What one grid point of the output projection computes -/

/-- The upper half of the projection's matrix. -/
def upper (W : S1024x1024.Idx → F .bf16) : S512x1024.Idx → F .bf16 := fun j =>
  W (ix2 ⟨(j 0).val, by have : (j 0).val < 512 := (j 0).2; omega⟩ (j 1))
/-- The lower half. -/
def lower (W : S1024x1024.Idx → F .bf16) : S512x1024.Idx → F .bf16 := fun j =>
  W (ix2 ⟨512 + (j 0).val, by have : (j 0).val < 512 := (j 0).2; omega⟩ (j 1))

/-- The tokens' new values, one row each. -/
def rows (X : S1024x1024.Idx → F .f32) (A B : S1024x512.Idx → F .bf16) (W : S1024x1024.Idx → F .bf16) (w b : S1x1024.Idx → F .f32) : FVec F S1024x1024 .f32 :=
  k0_pay10 (k0_pay6 w) (k0_pay7 b) (k0_pay8 A (upper W) B (lower W) X) (k0_pay9 A (upper W) B (lower W) X) (Scalar.ofBits .f32 0x44800000#32)

/-- Row `k` of every eight replaced. -/
def put (k : Fin 8) (w : S1024x128.Idx → F .f32) (X : S8192x128.Idx → F .f32) : S8192x128.Idx → F .f32 := fun j =>
  if (j 0).val % 8 = k.val then w (ix2 ⟨(j 0).val / 8, by have : (j 0).val < 8192 := (j 0).2; omega⟩ (j 1)) else X j

/-- A token's row in eight pieces of 128 values. -/
def tiled (R : S1024x1024.Idx → F .f32) : S8192x128.Idx → F .f32 := fun j =>
  R (ix2 ⟨(j 0).val / 8, by have : (j 0).val < 8192 := (j 0).2; omega⟩
    ⟨128 * ((j 0).val % 8) + (j 1).val, by have : (j 1).val < 128 := (j 1).2; omega⟩)

/-- The `k`-th piece of every row. -/
def piece (k : Fin 8) (R : S1024x1024.Idx → F .f32) : S1024x128.Idx → F .f32 := fun j =>
  R (ix2 (j 0) ⟨128 * k.val + (j 1).val, by have : (j 1).val < 128 := (j 1).2; have := k.2; omega⟩)

/-- Eight pieces put in place are the whole. -/
theorem put_all (R : S1024x1024.Idx → F .f32) (X : S8192x128.Idx → F .f32) :
    put 7 (piece 7 R) (put 6 (piece 6 R) (put 5 (piece 5 R) (put 4 (piece 4 R) (put 3 (piece 3 R) (put 2 (piece 2 R) (put 1 (piece 1 R) (put 0 (piece 0 R) X))))))) = tiled R := by
  funext j
  have h0 : (j 0).val % 8 < 8 := Nat.mod_lt _ (by norm_num)
  have key : ∀ k : Fin 8, (j 0).val % 8 = k.val → piece k R (ix2 ⟨(j 0).val / 8, by have : (j 0).val < 8192 := (j 0).2; omega⟩ (j 1)) = tiled R j := by
    intro k h
    unfold piece tiled
    refine congrArg R (funext fun a => Fin.ext ?_)
    match a with
    | ⟨0, _⟩ => rfl
    | ⟨1, _⟩ => show 128 * k.val + (j 1).val = 128 * ((j 0).val % 8) + (j 1).val; rw [h]
  unfold put
  split_ifs with h7 h6 h5 h4 h3 h2 h1 h
  · exact key 7 h7
  · exact key 6 h6
  · exact key 5 h5
  · exact key 4 h4
  · exact key 3 h3
  · exact key 2 h2
  · exact key 1 h1
  · exact key 0 h
  · exfalso
    have e7 : ¬ (j 0).val % 8 = 7 := h7
    have e6 : ¬ (j 0).val % 8 = 6 := h6
    have e5 : ¬ (j 0).val % 8 = 5 := h5
    have e4 : ¬ (j 0).val % 8 = 4 := h4
    have e3 : ¬ (j 0).val % 8 = 3 := h3
    have e2 : ¬ (j 0).val % 8 = 2 := h2
    have e1 : ¬ (j 0).val % 8 = 1 := h1
    have e0 : ¬ (j 0).val % 8 = 0 := h
    omega

theorem piece_at (k : Fin 8) (o : ℕ) (ho : o = 128 * k.val) (R : FVec F S1024x1024 .f32) (hs : S1024x1024.Slices ![0, o] S1024x128) :
    extractStridedSlice S1024x128 ![0, o] R hs = piece k R := by
  subst ho
  funext j
  unfold piece
  refine congrArg R (funext fun a => Fin.ext ?_)
  match a with
  | ⟨0, _⟩ => show 0 + (j 0).val = (j 0).val; omega
  | ⟨1, _⟩ => rfl

/-! ## Loads and stores -/

variable (c : Dev nD)

/-- A load of a whole buffer. -/
theorem ld {s : Shape} {e : EltTy} (M : Memref sig .tc .vmem s e) {o : Fin s.rank → ℕ} (ho : o = fun _ => 0) (inb : ∀ a, o a + s.size a ≤ s.size a)
    {X : s.Idx → Elt F e} {α : Type}
    {K : (s.Idx → Elt F e) → Prog (TpuEff nD τ sig (Elt F) Λ₀ .tc) α} {Q : α → sProp 𝕄} {hl} :
    owns (c : Thread nD τ) M fullShare X
      ⊢ iprop((owns (c : Thread nD τ) M fullShare X -∗ wp frame (wpE defs₀ Variants.none (c : Thread nD τ) none) Set.univ (K X) Q)
        -∗ wp frame (wpE defs₀ Variants.none (c : Thread nD τ) none) Set.univ (.op (.load M (Rect.unit (s := s) o s.size inb).toLoadRect hl) K) Q) := by
  subst ho
  unfold owns
  iintro ⟨%f, %hX, H⟩ Hk
  have e : M.view.readAt (Elt F) (Rect.unit (s := s) (fun _ => 0) s.size inb).toLoadRect f = X := by
    rw [← hX]; funext y
    rw [View.readAt_apply]
    refine congrArg (M.view.read (Elt F) f) (funext fun a => Fin.ext ?_)
    show 0 + 1 * (y a).val = (y a).val
    omega
  have h := wp_load (defs := defs₀ (F := F)) (Γ := ∅) Variants.none (c : Thread nD τ) none Set.univ (m := M) (r := (Rect.unit (s := s) (fun _ => 0) s.size inb).toLoadRect)
    (hl := hl) (k := K) (S := M.view.set) (q := fullShare) (f := f) (Q := Q) (Finset.map_subset_map.mpr (Finset.subset_univ _))
  rw [e] at h
  iapply h $$ H
  iintro H
  iapply Hk
  iexists f; isplitr; · ipureintro; exact hX
  iexact H

/-- A load of part of a buffer. -/
theorem ld_part {s : Shape} {e : EltTy} (M : Memref sig .tc .vmem s e) (r : LoadRect s) (P : r.shape.Idx → Elt F e)
    {X : s.Idx → Elt F e} (hP : ∀ y, X (r.idx y) = P y) {α : Type}
    {K : (r.shape.Idx → Elt F e) → Prog (TpuEff nD τ sig (Elt F) Λ₀ .tc) α} {Q : α → sProp 𝕄} {hl} :
    owns (c : Thread nD τ) M fullShare X
      ⊢ iprop((owns (c : Thread nD τ) M fullShare X -∗ wp frame (wpE defs₀ Variants.none (c : Thread nD τ) none) Set.univ (K P) Q)
        -∗ wp frame (wpE defs₀ Variants.none (c : Thread nD τ) none) Set.univ (.op (.load M r hl) K) Q) := by
  unfold owns
  iintro ⟨%f, %hX, H⟩ Hk
  have e : M.view.readAt (Elt F) r f = P := by
    funext y
    rw [View.readAt_apply, ← hP y, ← hX]
  have h := wp_load (defs := defs₀ (F := F)) (Γ := ∅) Variants.none (c : Thread nD τ) none Set.univ (m := M) (r := r)
    (hl := hl) (k := K) (S := M.view.set) (q := fullShare) (f := f) (Q := Q) (Finset.map_subset_map.mpr (Finset.subset_univ _))
  rw [e] at h
  iapply h $$ H
  iintro H
  iapply Hk
  iexists f; isplitr; · ipureintro; exact hX
  iexact H

/-- A load whose value is not used. -/
theorem ld_any {s : Shape} {e : EltTy} (M : Memref sig .tc .vmem s e) (r : LoadRect s)
    {X : s.Idx → Elt F e} {α : Type}
    {K : Prog (TpuEff nD τ sig (Elt F) Λ₀ .tc) α} {Q : α → sProp 𝕄} {hl} :
    owns (c : Thread nD τ) M fullShare X
      ⊢ iprop((owns (c : Thread nD τ) M fullShare X -∗ wp frame (wpE defs₀ Variants.none (c : Thread nD τ) none) Set.univ K Q)
        -∗ wp frame (wpE defs₀ Variants.none (c : Thread nD τ) none) Set.univ (.op (.load M r hl) fun _ => K) Q) :=
  ld_part c M r (fun y => X (r.idx y)) (fun _ => rfl) (K := fun _ => K)

/-- A store of a part of a buffer, whatever the buffer then holds. -/
theorem sto {s : Shape} {e : EltTy} (M : Memref sig .tc .vmem s e) (r : Rect s) (w : r.shape.Idx → Elt F e)
    {X : s.Idx → Elt F e} {α : Type}
    {K : Prog (TpuEff nD τ sig (Elt F) Λ₀ .tc) α} {Q : α → sProp 𝕄} {hx hm} :
    owns (c : Thread nD τ) M fullShare X
      ⊢ iprop((∀ Y, owns (c : Thread nD τ) M fullShare Y
          -∗ wp frame (wpE defs₀ Variants.none (c : Thread nD τ) none) Set.univ K Q)
        -∗ wp frame (wpE defs₀ Variants.none (c : Thread nD τ) none) Set.univ (.op (.store M r w Finset.univ hx hm) fun _ => K) Q) := by
  unfold owns
  iintro ⟨%f, %hX, H⟩ Hk
  iapply (wp_store (defs := defs₀ (F := F)) (Γ := ∅) Variants.none (c : Thread nD τ) none Set.univ (m := M) (r := r) (w := w) (Mk := Finset.univ)
    (hx := hx) (hm := hm) (k := fun _ => K) (S := M.view.set) (f := f) (Q := Q) (View.set_slice_subset M.view _)) $$ H
  iintro H
  iapply Hk
  iexists _; isplitr; swap; · iexact H
  ipureintro; rfl

/-- A load of every eighth row whose value is not used. -/
theorem ld_tok (M : Memref sig .tc .vmem S8192x128 .f32) (r : LoadRect S8192x128) (inb : ∀ a, (![0, 0] : Fin 2 → ℕ) a + S8192x128.size a ≤ S8192x128.size a)
    {X : S8192x128.Idx → F .f32} {α : Type} {K : Prog (TpuEff nD τ sig (Elt F) Λ₀ .tc) α} {Q : α → sProp 𝕄} {hs}
    {hl : (M.slice (Rect.unit (s := S8192x128) ![0, 0] S8192x128.size inb) hs).view.LoadsAt r} :
    owns (c : Thread nD τ) M fullShare X
      ⊢ iprop((owns (c : Thread nD τ) M fullShare X -∗ wp frame (wpE defs₀ Variants.none (c : Thread nD τ) none) Set.univ K Q)
        -∗ wp frame (wpE defs₀ Variants.none (c : Thread nD τ) none) Set.univ
          (.op (TpuEff.load (M.slice (Rect.unit (s := S8192x128) ![0, 0] S8192x128.size inb) hs) r hl) (fun _ => K)
            : Prog (TpuEff nD τ sig (Elt F) Λ₀ .tc) α) Q) := by
  unfold owns
  iintro ⟨%f, %hX, H⟩ Hk
  have h := wp_load (defs := defs₀ (F := F)) (Γ := ∅) Variants.none (c : Thread nD τ) none Set.univ (m := M.slice (Rect.unit (s := S8192x128) ![0, 0] S8192x128.size inb) hs)
    (r := r) (hl := hl) (k := fun _ => K) (S := M.view.set) (q := fullShare) (f := f) (Q := Q)
    ((Finset.map_subset_map.mpr (Finset.subset_univ _)).trans (View.set_slice_subset M.view _))
  iapply h $$ H
  iintro H
  iapply Hk
  iexists f; isplitr; · ipureintro; exact hX
  iexact H

/-- What a store of every eighth row leaves. -/
theorem put_read (M : Memref sig .tc .vmem S8192x128 .f32) (k : Fin 8) {o : ℕ} (ho : o = k.val) (inb : ∀ a, (![0, 0] : Fin 2 → ℕ) a + S8192x128.size a ≤ S8192x128.size a)
    (inb' : ∀ a, S1024x128.size a = 0 ∨ (![o, 0] : Fin 2 → ℕ) a + (![8, 1] : Fin 2 → ℕ) a * (S1024x128.size a - 1) < S8192x128.size a)
    (hp : ∀ a, 0 < (⟨![o, 0], S1024x128.size, ![8, 1], inb'⟩ : LoadRect S8192x128).stride a) (hs) (w : S1024x128.Idx → F .f32)
    (f : M.view.ty.Contents (Elt F)) :
    M.view.read (Elt F) (((M.slice (Rect.unit (s := S8192x128) ![0, 0] S8192x128.size inb) hs).view.slice
      (⟨(⟨![o, 0], S1024x128.size, ![8, 1], inb'⟩ : LoadRect S8192x128), hp⟩ : Rect S8192x128)).write (Elt F) f w Finset.univ) = put k w (M.view.read (Elt F) f) := by
  subst ho
  have same : ∀ g, M.view.read (Elt F) g = (M.slice (Rect.unit (s := S8192x128) ![0, 0] S8192x128.size inb) hs).view.read (Elt F) g := by
    intro g; funext j
    refine congrArg (M.view.read (Elt F) g) (funext fun a => Fin.ext ?_)
    match a with
    | ⟨0, _⟩ => show (j 0).val = 0 + 1 * (j 0).val; omega
    | ⟨1, _⟩ => show (j 1).val = 0 + 1 * (j 1).val; omega
  rw [same, same]
  funext j
  have h0 : (j 0).val < 8192 := (j 0).2
  unfold put
  by_cases h : (j 0).val % 8 = k.val
  · rw [if_pos h]
    have e : j = (⟨(⟨![k.val, 0], S1024x128.size, ![8, 1], inb'⟩ : LoadRect S8192x128), hp⟩ : Rect S8192x128).emb (ix2 ⟨(j 0).val / 8, by omega⟩ (j 1)) := by
      funext a; refine Fin.ext ?_
      match a with
      | ⟨0, _⟩ => show (j 0).val = k.val + 8 * ((j 0).val / 8); omega
      | ⟨1, _⟩ => show (j 1).val = 0 + 1 * (j 1).val; omega
    conv_lhs => rw [e]
    exact View.read_slice_write_emb _ _ _ (Finset.mem_univ _)
  · rw [if_neg h, View.read_slice_write_of_not_mem]
    intro hm
    obtain ⟨y, -, hy⟩ := Finset.mem_map.1 hm
    have : (j 0).val = k.val + 8 * (y 0).val := by rw [← hy]; rfl
    have := k.2
    omega

/-- A store of every eighth row. -/
theorem sto_tok (M : Memref sig .tc .vmem S8192x128 .f32) (k : Fin 8) {o : ℕ} (ho : o = k.val) (inb : ∀ a, (![0, 0] : Fin 2 → ℕ) a + S8192x128.size a ≤ S8192x128.size a)
    (inb' : ∀ a, S1024x128.size a = 0 ∨ (![o, 0] : Fin 2 → ℕ) a + (![8, 1] : Fin 2 → ℕ) a * (S1024x128.size a - 1) < S8192x128.size a)
    {hp : ∀ a, 0 < (⟨![o, 0], S1024x128.size, ![8, 1], inb'⟩ : LoadRect S8192x128).stride a} {hs} {w P : S1024x128.Idx → F .f32} (hw : w = P)
    {X : S8192x128.Idx → F .f32} {α : Type} {K : Prog (TpuEff nD τ sig (Elt F) Λ₀ .tc) α} {Q : α → sProp 𝕄} {hx hm} :
    owns (c : Thread nD τ) M fullShare X
      ⊢ iprop((owns (c : Thread nD τ) M fullShare (put k P X)
          -∗ wp frame (wpE defs₀ Variants.none (c : Thread nD τ) none) Set.univ K Q)
        -∗ wp frame (wpE defs₀ Variants.none (c : Thread nD τ) none) Set.univ
          (.op (TpuEff.store (M.slice (Rect.unit (s := S8192x128) ![0, 0] S8192x128.size inb) hs)
            ⟨(⟨![o, 0], S1024x128.size, ![8, 1], inb'⟩ : LoadRect S8192x128), hp⟩ w Finset.univ hx hm) (fun _ => K)
            : Prog (TpuEff nD τ sig (Elt F) Λ₀ .tc) α) Q) := by
  subst hw
  unfold owns
  iintro ⟨%f, %hX, H⟩ Hk
  iapply (wp_store (defs := defs₀ (F := F)) (Γ := ∅) Variants.none (c : Thread nD τ) none Set.univ (m := M.slice (Rect.unit (s := S8192x128) ![0, 0] S8192x128.size inb) hs)
    (r := ⟨(⟨![o, 0], S1024x128.size, ![8, 1], inb'⟩ : LoadRect S8192x128), hp⟩) (w := w) (Mk := Finset.univ)
    (hx := hx) (hm := hm) (k := fun _ => K) (S := M.view.set) (f := f) (Q := Q) ((View.set_slice_subset _ _).trans (View.set_slice_subset M.view _))) $$ H
  iintro H
  iapply Hk
  iexists _; isplitr; swap; · iexact H
  ipureintro; rw [put_read M k ho inb inb' hp hs w f, hX]

theorem up_at (W : S1024x1024.Idx → F .bf16) (inb) (y : S512x1024.Idx) : W ((Rect.unit (s := S1024x1024) ![0, 0] S512x1024.size inb).toLoadRect.idx y) = upper W y := by
  unfold upper
  refine congrArg W (funext fun a => Fin.ext ?_)
  match a with
  | ⟨0, _⟩ => show 0 + 1 * (y 0).val = (y 0).val; omega
  | ⟨1, _⟩ => show 0 + 1 * (y 1).val = (y 1).val; omega
theorem low_at (W : S1024x1024.Idx → F .bf16) (inb) (y : S512x1024.Idx) : W ((Rect.unit (s := S1024x1024) ![512, 0] S512x1024.size inb).toLoadRect.idx y) = lower W y := by
  unfold lower
  refine congrArg W (funext fun a => Fin.ext ?_)
  match a with
  | ⟨0, _⟩ => show 512 + 1 * (y 0).val = 512 + (y 0).val; omega
  | ⟨1, _⟩ => show 0 + 1 * (y 1).val = (y 1).val; omega

/-! ## One grid point -/

theorem zero2 : (![0, 0] : Fin 2 → ℕ) = fun _ => 0 := by funext a; fin_cases a <;> rfl

section
variable (i : grid0.Coords)
    (arg1 : Memref sig .tc .vmem S1024x1024 .f32) (harg1 : arg1.IsWhole)
    (arg2 : Memref sig .tc .vmem S1024x512 .bf16) (harg2 : arg2.IsWhole)
    (arg3 : Memref sig .tc .vmem S1024x512 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S96x1024 .bf16) (harg7 : arg7.IsWhole)
    (arg8 : Memref sig .tc .vmem S48x128 .f32) (harg8 : arg8.IsWhole)
    (arg9 : Memref sig .tc .vmem S8192x128 .f32) (harg9 : arg9.IsWhole)
    (arg10 : Memref sig .tc .vmem S1024x128 .f32) (harg10 : arg10.IsWhole)
    (arg11 : Memref sig .tc .vmem S8x128 .f32) (harg11 : arg11.IsWhole)

/-- The body's end: the router's table is written and the experts' counts are added up. -/
def endB (v1 : FVec F S8x1024 .f32) (v3 : FVec F S1024x128 .f32) (v7 : FVec F S1x128 .f32) (v83 : FVec F S48x1024 .f32) (v96 : FVec F S1x1024 .f32) (v99 : FVec F S8x1024 .f32) :
    Prog (TpuEff nD τ sig (Elt F) Λ₀ .tc) PUnit := do
  let ⟨v103, v130, v142, v144, v146⟩ : Σ' (v103 : FVec F S1x1024 .f32) (v130 : FVec F S1x1024 .f32) (v142 : FVec F S1x1024 .f32) (v144 : FVec F S1x1024 .f32), FVec F S1x1024 .f32 ← k0_part4 i arg1 harg1 arg2 harg2 arg3 harg3 arg4 harg4 arg5 harg5 arg6 harg6 arg7 harg7 arg8 harg8 arg9 harg9 arg10 harg10 arg11 harg11 v1 v83 v96 v99
  let v191 : FVec F S1024x128 .f32 ← k0_part5 i arg1 harg1 arg2 harg2 arg3 harg3 arg4 harg4 arg5 harg5 arg6 harg6 arg7 harg7 arg8 harg8 arg9 harg9 arg10 harg10 arg11 harg11 v1 v96 v103 v130 v142 v144 v146
  let v202 : Vec F S1x128 .f32 ← Prog.lift (.load arg11 (Rect.unit (s := S8x128) ![0, 0] S1x128.size inb_S8x128_S1x128_0_0).toLoadRect (View.loadsAt_vmem h_S1x128))
  let v205 : Vec F S1x128 .f32 ← Prog.lift (.load arg11 (Rect.unit (s := S8x128) ![0, 0] S1x128.size inb_S8x128_S1x128_0_0).toLoadRect (View.loadsAt_vmem h_S1x128))
  Prog.lift (.store arg11 (Rect.unit (s := S8x128) ![0, 0] S1x128.size inb_S8x128_S1x128_0_0) (k0_pay1 v3 v7 v191 v202) Finset.univ (View.stores_vmem_bits_univ h_S1x128 rfl) (.inl rfl))
  pure ⟨⟩

/-- The body's middle: the last pieces and the router's products. -/
def midB (v1 : FVec F S8x1024 .f32) (v3 : FVec F S1024x128 .f32) (v7 : FVec F S1x128 .f32) (v44 : FVec F S1024x1024 .f32) :
    Prog (TpuEff nD τ sig (Elt F) Λ₀ .tc) PUnit := do
  let ⟨v83, v96, v99⟩ : Σ' (v83 : FVec F S48x1024 .f32) (v96 : FVec F S1x1024 .f32), FVec F S8x1024 .f32 ← k0_part3 i arg1 harg1 arg2 harg2 arg3 harg3 arg4 harg4 arg5 harg5 arg6 harg6 arg7 harg7 arg8 harg8 arg9 harg9 arg10 harg10 arg11 harg11 v1 v44
  endB i arg1 harg1 arg2 harg2 arg3 harg3 arg4 harg4 arg5 harg5 arg6 harg6 arg7 harg7 arg8 harg8 arg9 harg9 arg10 harg10 arg11 harg11 v1 v3 v7 v83 v96 v99

/-- From the first pieces on. -/
def topB (v1 : FVec F S8x1024 .f32) (v3 : FVec F S1024x128 .f32) (v7 : FVec F S1x128 .f32) (v22 v24 : FVec F S1x1024 .f32) (v30 : FVec F S1024x1024 .f32) (v33 : FVec F S1024x1 .f32) (cst_19 : F .f32) :
    Prog (TpuEff nD τ sig (Elt F) Λ₀ .tc) PUnit := do
  let v44 : FVec F S1024x1024 .f32 ← k0_part2 i arg1 harg1 arg2 harg2 arg3 harg3 arg4 harg4 arg5 harg5 arg6 harg6 arg7 harg7 arg8 harg8 arg9 harg9 arg10 harg10 arg11 harg11 v22 v24 v30 v33 cst_19
  midB i arg1 harg1 arg2 harg2 arg3 harg3 arg4 harg4 arg5 harg5 arg6 harg6 arg7 harg7 arg8 harg8 arg9 harg9 arg10 harg10 arg11 harg11 v1 v3 v7 v44

theorem body_eq : cc0_outproj_skel (F := F) i arg1 harg1 arg2 harg2 arg3 harg3 arg4 harg4 arg5 harg5 arg6 harg6 arg7 harg7 arg8 harg8 arg9 harg9 arg10 harg10 arg11 harg11 = (do
    let ⟨v1, v3, v7, v22, v24, v30, v33, cst_19⟩ : Σ' (v1 : FVec F S8x1024 .f32) (v3 : FVec F S1024x128 .f32) (v7 : FVec F S1x128 .f32) (v22 : FVec F S1x1024 .f32) (v24 : FVec F S1x1024 .f32) (v30 : FVec F S1024x1024 .f32) (v33 : FVec F S1024x1 .f32), F .f32 ← k0_part1 i arg1 harg1 arg2 harg2 arg3 harg3 arg4 harg4 arg5 harg5 arg6 harg6 arg7 harg7 arg8 harg8 arg9 harg9 arg10 harg10 arg11 harg11
    topB i arg1 harg1 arg2 harg2 arg3 harg3 arg4 harg4 arg5 harg5 arg6 harg6 arg7 harg7 arg8 harg8 arg9 harg9 arg10 harg10 arg11 harg11 v1 v3 v7 v22 v24 v30 v33 cst_19) := rfl

theorem end_wp (v1 : FVec F S8x1024 .f32) (v3 : FVec F S1024x128 .f32) (v7 : FVec F S1x128 .f32) (v83 : FVec F S48x1024 .f32) (v96 : FVec F S1x1024 .f32) (v99 : FVec F S8x1024 .f32)
    (Y : S1024x128.Idx → F .f32) (C : S8x128.Idx → F .f32) (Q : Unit → sProp 𝕄) :
    iprop(owns (c : Thread nD τ) arg10 fullShare Y ∗ owns (c : Thread nD τ) arg11 fullShare C) ⊢ iprop((((∃ Y, owns (c : Thread nD τ) arg10 fullShare Y) ∗ (∃ C, owns (c : Thread nD τ) arg11 fullShare C)) -∗ Q ⟨⟩) -∗ wp frame (wpE defs₀ Variants.none (c : Thread nD τ) none) Set.univ (endB i arg1 harg1 arg2 harg2 arg3 harg3 arg4 harg4 arg5 harg5 arg6 harg6 arg7 harg7 arg8 harg8 arg9 harg9 arg10 harg10 arg11 harg11 v1 v3 v7 v83 v96 v99) Q) := by
  unfold endB
  rw [k0_part4_eq_skeleton, k0_part5_eq_skeleton]
  unfold k0_part4_skel k0_part5_skel
  simp only [Prog.lift, Prog.bind_op, Prog.bind_ret, Prog.pure_eq_ret, Prog.bind_assoc]
  iintro ⟨H10, H11⟩ Hk
  iapply (ld_any c arg10 _) $$ H10; iintro H10
  iapply (sto c arg10 _ _) $$ H10; iintro %Y1 H10
  iapply (ld_part c arg11 _ _ (fun _ => rfl)) $$ H11; iintro H11
  iapply (ld_any c arg11 _) $$ H11; iintro H11
  iapply (sto c arg11 _ _) $$ H11; iintro %C2 H11
  rw [wp_ret]
  imodintro
  iapply Hk
  isplitl [H10]; · iexists _; iexact H10
  iexists _; iexact H11

theorem mid_wp (v1 : FVec F S8x1024 .f32) (v3 : FVec F S1024x128 .f32) (v7 : FVec F S1x128 .f32) (v44 : FVec F S1024x1024 .f32)
    (R : S96x1024.Idx → F .bf16) (D : S48x128.Idx → F .f32) (Z : S8192x128.Idx → F .f32) (Y : S1024x128.Idx → F .f32) (C : S8x128.Idx → F .f32) (Q : Unit → sProp 𝕄) :
    iprop(owns (c : Thread nD τ) arg7 fullShare R ∗ owns (c : Thread nD τ) arg8 fullShare D ∗ owns (c : Thread nD τ) arg9 fullShare Z ∗ owns (c : Thread nD τ) arg10 fullShare Y ∗ owns (c : Thread nD τ) arg11 fullShare C)
      ⊢ iprop(((owns (c : Thread nD τ) arg7 fullShare R ∗ owns (c : Thread nD τ) arg8 fullShare D ∗ owns (c : Thread nD τ) arg9 fullShare (put 7 (piece 7 v44) (put 6 (piece 6 v44) Z)) ∗ (∃ Y, owns (c : Thread nD τ) arg10 fullShare Y) ∗ (∃ C, owns (c : Thread nD τ) arg11 fullShare C)) -∗ Q ⟨⟩)
        -∗ wp frame (wpE defs₀ Variants.none (c : Thread nD τ) none) Set.univ (midB i arg1 harg1 arg2 harg2 arg3 harg3 arg4 harg4 arg5 harg5 arg6 harg6 arg7 harg7 arg8 harg8 arg9 harg9 arg10 harg10 arg11 harg11 v1 v3 v7 v44) Q) := by
  unfold midB
  rw [k0_part3_eq_skeleton]
  unfold k0_part3_skel k0_pay17 k0_pay18
  simp only [Prog.lift, Prog.bind_op, Prog.bind_ret, Prog.pure_eq_ret, Prog.bind_assoc]
  iintro ⟨H7, H8, H9, H10, H11⟩ Hk
  iapply (ld_tok c arg9 _ _) $$ H9; iintro H9
  iapply (sto_tok c arg9 6 rfl _ _ (piece_at 6 768 rfl _ _)) $$ H9; iintro H9
  iapply (ld_tok c arg9 _ _) $$ H9; iintro H9
  iapply (sto_tok c arg9 7 rfl _ _ (piece_at 7 896 rfl _ _)) $$ H9; iintro H9
  iapply (ld c arg7 zero2 _) $$ H7; iintro H7
  iapply (ld_part c arg7 _ _ (fun _ => rfl)) $$ H7; iintro H7
  iapply (ld c arg8 zero2 _) $$ H8; iintro H8
  iapply (end_wp c i arg1 harg1 arg2 harg2 arg3 harg3 arg4 harg4 arg5 harg5 arg6 harg6 arg7 harg7 arg8 harg8 arg9 harg9 arg10 harg10 arg11 harg11 _ _ _ _ _ _ Y C Q) $$ [H10 H11]
  · isplitl [H10]; · iexact H10
    iexact H11
  iintro H
  iapply Hk
  isplitl [H7]; · iexact H7
  isplitl [H8]; · iexact H8
  isplitl [H9]; · iexact H9
  iexact H

theorem top_wp (v1 : FVec F S8x1024 .f32) (v3 : FVec F S1024x128 .f32) (v7 : FVec F S1x128 .f32) (v22 v24 : FVec F S1x1024 .f32) (v30 : FVec F S1024x1024 .f32) (v33 : FVec F S1024x1 .f32) (cst_19 : F .f32)
    (R : S96x1024.Idx → F .bf16) (D : S48x128.Idx → F .f32) (Z : S8192x128.Idx → F .f32) (Y : S1024x128.Idx → F .f32) (C : S8x128.Idx → F .f32) (Q : Unit → sProp 𝕄) :
    iprop(owns (c : Thread nD τ) arg7 fullShare R ∗ owns (c : Thread nD τ) arg8 fullShare D ∗ owns (c : Thread nD τ) arg9 fullShare Z ∗ owns (c : Thread nD τ) arg10 fullShare Y ∗ owns (c : Thread nD τ) arg11 fullShare C)
      ⊢ iprop(((owns (c : Thread nD τ) arg7 fullShare R ∗ owns (c : Thread nD τ) arg8 fullShare D ∗ owns (c : Thread nD τ) arg9 fullShare (tiled (k0_pay10 v22 v24 v30 v33 cst_19)) ∗ (∃ Y, owns (c : Thread nD τ) arg10 fullShare Y) ∗ (∃ C, owns (c : Thread nD τ) arg11 fullShare C)) -∗ Q ⟨⟩)
        -∗ wp frame (wpE defs₀ Variants.none (c : Thread nD τ) none) Set.univ (topB i arg1 harg1 arg2 harg2 arg3 harg3 arg4 harg4 arg5 harg5 arg6 harg6 arg7 harg7 arg8 harg8 arg9 harg9 arg10 harg10 arg11 harg11 v1 v3 v7 v22 v24 v30 v33 cst_19) Q) := by
  unfold topB
  rw [k0_part2_eq_skeleton]
  unfold k0_part2_skel k0_pay11 k0_pay12 k0_pay13 k0_pay14 k0_pay15 k0_pay16
  generalize k0_pay10 v22 v24 v30 v33 cst_19 = v44
  simp only [Prog.lift, Prog.bind_op, Prog.bind_ret, Prog.pure_eq_ret, Prog.bind_assoc]
  iintro ⟨H7, H8, H9, H10, H11⟩ Hk
  iapply (ld_tok c arg9 _ _) $$ H9; iintro H9
  iapply (sto_tok c arg9 0 rfl _ _ (piece_at 0 0 rfl _ _)) $$ H9; iintro H9
  iapply (ld_tok c arg9 _ _) $$ H9; iintro H9
  iapply (sto_tok c arg9 1 rfl _ _ (piece_at 1 128 rfl _ _)) $$ H9; iintro H9
  iapply (ld_tok c arg9 _ _) $$ H9; iintro H9
  iapply (sto_tok c arg9 2 rfl _ _ (piece_at 2 256 rfl _ _)) $$ H9; iintro H9
  iapply (ld_tok c arg9 _ _) $$ H9; iintro H9
  iapply (sto_tok c arg9 3 rfl _ _ (piece_at 3 384 rfl _ _)) $$ H9; iintro H9
  iapply (ld_tok c arg9 _ _) $$ H9; iintro H9
  iapply (sto_tok c arg9 4 rfl _ _ (piece_at 4 512 rfl _ _)) $$ H9; iintro H9
  iapply (ld_tok c arg9 _ _) $$ H9; iintro H9
  iapply (sto_tok c arg9 5 rfl _ _ (piece_at 5 640 rfl _ _)) $$ H9; iintro H9
  iapply (mid_wp c i arg1 harg1 arg2 harg2 arg3 harg3 arg4 harg4 arg5 harg5 arg6 harg6 arg7 harg7 arg8 harg8 arg9 harg9 arg10 harg10 arg11 harg11 _ _ _ _ R D _ Y C Q) $$ [H7 H8 H9 H10 H11]
  · isplitl [H7]; · iexact H7
    isplitl [H8]; · iexact H8
    isplitl [H9]; · iexact H9
    isplitl [H10]; · iexact H10
    iexact H11
  rw [put_all]
  iexact Hk

/-- A grid point leaves its inputs as they were, and the tokens' new values in pieces; its other two results hold anything. -/
theorem point
    (X : S1024x1024.Idx → F .f32) (A : S1024x512.Idx → F .bf16) (B : S1024x512.Idx → F .bf16) (W : S1024x1024.Idx → F .bf16) (w : S1x1024.Idx → F .f32) (b : S1x1024.Idx → F .f32) (R : S96x1024.Idx → F .bf16) (D : S48x128.Idx → F .f32)
    (Z : S8192x128.Idx → F .f32) (Y : S1024x128.Idx → F .f32) (C : S8x128.Idx → F .f32) (Q : Unit → sProp 𝕄) :
    iprop(owns (c : Thread nD τ) arg1 fullShare X ∗ owns (c : Thread nD τ) arg2 fullShare A ∗ owns (c : Thread nD τ) arg3 fullShare B ∗ owns (c : Thread nD τ) arg4 fullShare W ∗ owns (c : Thread nD τ) arg5 fullShare w ∗ owns (c : Thread nD τ) arg6 fullShare b ∗ owns (c : Thread nD τ) arg7 fullShare R ∗ owns (c : Thread nD τ) arg8 fullShare D
        ∗ owns (c : Thread nD τ) arg9 fullShare Z ∗ owns (c : Thread nD τ) arg10 fullShare Y ∗ owns (c : Thread nD τ) arg11 fullShare C)
      ⊢ iprop(((owns (c : Thread nD τ) arg1 fullShare X ∗ owns (c : Thread nD τ) arg2 fullShare A ∗ owns (c : Thread nD τ) arg3 fullShare B ∗ owns (c : Thread nD τ) arg4 fullShare W ∗ owns (c : Thread nD τ) arg5 fullShare w ∗ owns (c : Thread nD τ) arg6 fullShare b ∗ owns (c : Thread nD τ) arg7 fullShare R ∗ owns (c : Thread nD τ) arg8 fullShare D
        ∗ owns (c : Thread nD τ) arg9 fullShare (tiled (rows X A B W w b)) ∗ (∃ Y, owns (c : Thread nD τ) arg10 fullShare Y) ∗ (∃ C, owns (c : Thread nD τ) arg11 fullShare C)) -∗ Q ⟨⟩)
        -∗ wp frame (wpE defs₀ Variants.none (c : Thread nD τ) none) Set.univ
          (cc0_outproj (F := F) i arg1 harg1 arg2 harg2 arg3 harg3 arg4 harg4 arg5 harg5 arg6 harg6 arg7 harg7 arg8 harg8 arg9 harg9 arg10 harg10 arg11 harg11) Q) := by
  rw [cc0_outproj_eq_skeleton, body_eq, k0_part1_eq_skeleton]
  unfold k0_part1_skel
  iintro ⟨H1, H2, H3, H4, H5, H6, H7, H8, H9, H10, H11⟩ Hk
  by_cases h : Scalar.cmpi .ne (Scalar.extui (Scalar.cmpi .eq (BitVec.ofNat 32 (i 0).val) 0#32) : BitVec 32) 0#32 = 1#1
  all_goals
  first
    | (rw [dif_pos h]
       simp only [Prog.lift, Prog.bind_op, Prog.bind_ret, Prog.pure_eq_ret, Prog.bind_assoc]
       iapply (ld_any c arg11 _) $$ H11; iintro H11
       iapply (sto c arg11 _ _) $$ H11; iintro %C1 H11)
    | (rw [dif_neg h]
       simp only [Prog.lift, Prog.bind_op, Prog.bind_ret, Prog.pure_eq_ret, Prog.bind_assoc])
  all_goals
  iapply (ld c arg2 zero2 _) $$ H2; iintro H2
  iapply (ld_part c arg4 _ (upper W) (up_at W _)) $$ H4; iintro H4
  iapply (ld c arg3 zero2 _) $$ H3; iintro H3
  iapply (ld_part c arg4 _ (lower W) (low_at W _)) $$ H4; iintro H4
  iapply (ld c arg1 zero2 _) $$ H1; iintro H1
  iapply (ld c arg5 zero2 _) $$ H5; iintro H5
  iapply (ld c arg6 zero2 _) $$ H6; iintro H6
  iapply (top_wp c i arg1 harg1 arg2 harg2 arg3 harg3 arg4 harg4 arg5 harg5 arg6 harg6 arg7 harg7 arg8 harg8 arg9 harg9 arg10 harg10 arg11 harg11 _ _ _ _ _ _ _ _ R D Z Y _ Q) $$ [H7 H8 H9 H10 H11]
  · isplitl [H7]; · iexact H7
    isplitl [H8]; · iexact H8
    isplitl [H9]; · iexact H9
    isplitl [H10]; · iexact H10
    iexact H11
  iintro H
  iapply Hk
  isplitl [H1]; · iexact H1
  isplitl [H2]; · iexact H2
  isplitl [H3]; · iexact H3
  isplitl [H4]; · iexact H4
  isplitl [H5]; · iexact H5
  isplitl [H6]; · iexact H6
  iexact H
end

end Cert.Kernel4Ideal.Hand

end
-- ==== Proof.Projected.lean ====
module

public import proofs.«01_k».proof.Proof.Project

@[expose] public section

set_option maxRecDepth 65536

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The blocks of a grid point -/

def b0 (c : Dev nD) (t : Fin grid0.N) : S1024x1024.Idx → F .f32 := ((cfg0.win 0).blk t).view.read (Elt F) (V m c main_arg0)
def b1 (c : Dev nD) (t : Fin grid0.N) : S1024x512.Idx → F .bf16 := ((cfg0.win 1).blk t).view.read (Elt F) (V m c main_arg1)
def b2 (c : Dev nD) (t : Fin grid0.N) : S1024x512.Idx → F .bf16 := ((cfg0.win 2).blk t).view.read (Elt F) (V m c main_arg2)
def b3 (c : Dev nD) (t : Fin grid0.N) : S1024x1024.Idx → F .bf16 := ((cfg0.win 3).blk t).view.read (Elt F) (V m c main_v0)
def b4 (c : Dev nD) (t : Fin grid0.N) : S1x1024.Idx → F .f32 := ((cfg0.win 4).blk t).view.read (Elt F) (V m c main_v1)
def b5 (c : Dev nD) (t : Fin grid0.N) : S1x1024.Idx → F .f32 := ((cfg0.win 5).blk t).view.read (Elt F) (V m c main_v2)
def b6 (c : Dev nD) (t : Fin grid0.N) : S96x1024.Idx → F .bf16 := ((cfg0.win 6).blk t).view.read (Elt F) (V m c main_arg6)
def b7 (c : Dev nD) (t : Fin grid0.N) : S48x128.Idx → F .f32 := ((cfg0.win 7).blk t).view.read (Elt F) (V m c main_arg7)

/-- The tokens' new values that grid point `t` leaves. -/
def b8 (c : Dev nD) (t : Fin grid0.N) : S8192x128.Idx → F .f32 := tiled (rows (b0 m c t) (b1 m c t) (b2 m c t) (b3 m c t) (b4 m c t) (b5 m c t))

/-- The router's table and the experts' counts are left open. -/
def open9 : Fin 11 → Bool := fun w => decide (9 ≤ w.val)

/-- The proof data of the call. -/
def dats (p : Fin 1) (c : Dev nD) : Dat τ (Elt F) Unit ℕ (UR sig nD τ) ℕ (cfgs p) c where
  A w := V m c (Pipeline.arrRef spec0 w)
  after w t := match w with
    | ⟨0, _⟩ => b0 m c t
    | ⟨1, _⟩ => b1 m c t
    | ⟨2, _⟩ => b2 m c t
    | ⟨3, _⟩ => b3 m c t
    | ⟨4, _⟩ => b4 m c t
    | ⟨5, _⟩ => b5 m c t
    | ⟨6, _⟩ => b6 m c t
    | ⟨7, _⟩ => b7 m c t
    | ⟨8, _⟩ => b8 m c t
    | ⟨9, _⟩ => k0_pay3 (F := F)
    | ⟨10, _⟩ => k0_pay4 (F := F)
  Φ _ := Pipeline.ΦA spec0 c
  q _ := fullShare
  owed _ := 0

theorem A_eq (c : Dev nD) (w : Fin 11) : (dats m 0 c).A w = V m c (Pipeline.arrRef spec0 w) := by dsimp only [dats]

theorem before0 (c : Dev nD) (t : Fin grid0.N) (d) : (dats m 0 c).before 0 t d = b0 m c t :=
  (dats m 0 c).before_in_eq_fetched 0 rfl (fun _ => rfl) (fun _ _ _ => rfl) (fun _ => rfl) t d
theorem before1 (c : Dev nD) (t : Fin grid0.N) (d) : (dats m 0 c).before 1 t d = b1 m c t :=
  (dats m 0 c).before_in_eq_fetched 1 rfl (fun _ => rfl) (fun _ _ _ => rfl) (fun _ => rfl) t d
theorem before2 (c : Dev nD) (t : Fin grid0.N) (d) : (dats m 0 c).before 2 t d = b2 m c t :=
  (dats m 0 c).before_in_eq_fetched 2 rfl (fun _ => rfl) (fun _ _ _ => rfl) (fun _ => rfl) t d
theorem before3 (c : Dev nD) (t : Fin grid0.N) (d) : (dats m 0 c).before 3 t d = b3 m c t :=
  (dats m 0 c).before_in_eq_fetched 3 rfl (fun _ => rfl) (fun _ _ _ => rfl) (fun _ => rfl) t d
theorem before4 (c : Dev nD) (t : Fin grid0.N) (d) : (dats m 0 c).before 4 t d = b4 m c t :=
  (dats m 0 c).before_in_eq_fetched 4 rfl (fun _ => rfl) (fun _ _ _ => rfl) (fun _ => rfl) t d
theorem before5 (c : Dev nD) (t : Fin grid0.N) (d) : (dats m 0 c).before 5 t d = b5 m c t :=
  (dats m 0 c).before_in_eq_fetched 5 rfl (fun _ => rfl) (fun _ _ _ => rfl) (fun _ => rfl) t d
theorem before6 (c : Dev nD) (t : Fin grid0.N) (d) : (dats m 0 c).before 6 t d = b6 m c t :=
  (dats m 0 c).before_in_eq_fetched 6 rfl (fun _ => rfl) (fun _ _ _ => rfl) (fun _ => rfl) t d
theorem before7 (c : Dev nD) (t : Fin grid0.N) (d) : (dats m 0 c).before 7 t d = b7 m c t :=
  (dats m 0 c).before_in_eq_fetched 7 rfl (fun _ => rfl) (fun _ _ _ => rfl) (fun _ => rfl) t d

/-! ## The body at a grid point -/

abbrev st0 (t : Fin grid0.N) : Memref sig .tc .vmem S1024x1024 .f32 := (cfg0.win 0).stage (cfg0.slots t 0)
abbrev st1 (t : Fin grid0.N) : Memref sig .tc .vmem S1024x512 .bf16 := (cfg0.win 1).stage (cfg0.slots t 1)
abbrev st2 (t : Fin grid0.N) : Memref sig .tc .vmem S1024x512 .bf16 := (cfg0.win 2).stage (cfg0.slots t 2)
abbrev st3 (t : Fin grid0.N) : Memref sig .tc .vmem S1024x1024 .bf16 := (cfg0.win 3).stage (cfg0.slots t 3)
abbrev st4 (t : Fin grid0.N) : Memref sig .tc .vmem S1x1024 .f32 := (cfg0.win 4).stage (cfg0.slots t 4)
abbrev st5 (t : Fin grid0.N) : Memref sig .tc .vmem S1x1024 .f32 := (cfg0.win 5).stage (cfg0.slots t 5)
abbrev st6 (t : Fin grid0.N) : Memref sig .tc .vmem S96x1024 .bf16 := (cfg0.win 6).stage (cfg0.slots t 6)
abbrev st7 (t : Fin grid0.N) : Memref sig .tc .vmem S48x128 .f32 := (cfg0.win 7).stage (cfg0.slots t 7)
abbrev st8 (t : Fin grid0.N) : Memref sig .tc .vmem S8192x128 .f32 := (cfg0.win 8).stage (cfg0.slots t 8)
abbrev st9 (t : Fin grid0.N) : Memref sig .tc .vmem S1024x128 .f32 := (cfg0.win 9).stage (cfg0.slots t 9)
abbrev st10 (t : Fin grid0.N) : Memref sig .tc .vmem S8x128 .f32 := (cfg0.win 10).stage (cfg0.slots t 10)

def bodyPre (c : Dev nD) (t : Fin grid0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ X, owns (c : Thread nD τ) (st9 t) fullShare X)
    ∗ (∃ X, owns (c : Thread nD τ) (st10 t) fullShare X))
def bodyPost (c : Dev nD) (t : Fin grid0.N) : sProp 𝕄 :=
  iprop((dats m 0 c).Φ t.succ ∗ (dats m 0 c).owesAt () t.succ
    ∗ owns (c : Thread nD τ) (st0 t) fullShare (b0 m c t)
    ∗ owns (c : Thread nD τ) (st1 t) fullShare (b1 m c t)
    ∗ owns (c : Thread nD τ) (st2 t) fullShare (b2 m c t)
    ∗ owns (c : Thread nD τ) (st3 t) fullShare (b3 m c t)
    ∗ owns (c : Thread nD τ) (st4 t) fullShare (b4 m c t)
    ∗ owns (c : Thread nD τ) (st5 t) fullShare (b5 m c t)
    ∗ owns (c : Thread nD τ) (st6 t) fullShare (b6 m c t)
    ∗ owns (c : Thread nD τ) (st7 t) fullShare (b7 m c t)
    ∗ owns (c : Thread nD τ) (st8 t) fullShare (b8 m c t)
    ∗ (∃ X, owns (c : Thread nD τ) (st9 t) fullShare X)
    ∗ (∃ X, owns (c : Thread nD τ) (st10 t) fullShare X))

/-- One grid point. -/
theorem sound_body (c : Dev nD) (t : Fin grid0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl]
  simp only [before0, before1, before2, before3, before4, before5, before6, before7]
  rw [show (dats m 0 c).owesAt () t.succ = (dats m 0 c).owesAt () t.castSucc from rfl]
  iintro ⟨HA, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (point c (grid0.coords t) (st0 t) _ (st1 t) _ (st2 t) _ (st3 t) _ (st4 t) _ (st5 t) _ (st6 t) _ (st7 t) _ (st8 t) _ (st9 t) _ (st10 t) _
    (b0 m c t) (b1 m c t) (b2 m c t) (b3 m c t) (b4 m c t) (b5 m c t) (b6 m c t) (b7 m c t) ((dats m 0 c).before 8 t d8) d9 d10 _) $$ [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro H
  isplitl [HA]; · iexact HA
  isplitl [HO]; · iexact HO
  iexact H

theorem defs₀_row (t : Fin grid0.N) :
    defs₀ (F := F) .tc cfg0.body (cfg0.bodyArgs t (cfg0.slots t)) = bodyAt0 t := by
  unfold defs₀; rw [Defs.onTc_tc]

theorem body_obligation (c : Dev nD) : BodyObligationLoose (dats m 0 c) (defs₀ (F := F)) Variants.none () Set.univ open9 := fun t => by
  rw [bigSep_W0, bigSep_W0, defs₀_row]
  exact triple_restated (sound_body m c t) rfl .rfl fun _ => .rfl

set_option backward.isDefEq.respectTransparency.types false in
/-- The run of the program. -/
theorem run_main :
    θ_run defs (onTc (τ := τ) (main (F := F))) (s₀ m ρ)
      (fun r => RDat.FramePost cfg0 (fun c => (dats m 0 c).toRForget open9) (V m) r ∧ r.2.sem = fun _ => 0) :=
  Pipeline.θ_run_frame_track_forget (Q' := _) cfgs (dats m) (0 : Fin 1) launch0 defs₀ Variants.none open9 m ρ main
    (hbody := body_obligation m) (hshare := fun c => (dats m 0 c).share_full fun _ => rfl)
    (howed := fun _ _ => rfl) (V := V m) (hmain := hmain m Variants.none) (hA := A_eq m)
    (hin := fun _ => .rfl) (hout := fun _ => .rfl)

/-! ## The result's blocks -/

/-- The block a row of the result is in. -/
def blockOf (y : S262144x128.Idx) : Fin grid0.N := ⟨(y 0).val / 8192, by
  have : (y 0).val < 262144 := (y 0).2
  have : grid0.N = 32 := N_0
  omega⟩

/-- The result: every block as its grid point leaves it. -/
def res (c : Dev nD) : S262144x128.Idx → F .f32 := fun y =>
  b8 m c (blockOf y) (ix2 ⟨(y 0).val % 8192, Nat.mod_lt _ (by norm_num)⟩ (y 1))

theorem word_of (i : grid0.Coords) : (BitVec.ofNat 32 (i 0).val).toNat = (i 0).val := by
  have : (i 0).val < 32 := (i 0).2
  rw [BitVec.toNat_ofNat, Nat.mod_eq_of_lt (by omega)]

theorem coords0 : ∀ t : Fin grid0.N, (grid0.coords t 0).val = t.val := by decide +kernel

theorem index0_0 (t : Fin grid0.N) : (cfg0.win 0).index t (0 : Fin 2) = t.val := (word_of (grid0.coords t)).trans (coords0 t)
theorem index1_0 (t : Fin grid0.N) : (cfg0.win 1).index t (0 : Fin 2) = t.val := (word_of (grid0.coords t)).trans (coords0 t)
theorem index2_0 (t : Fin grid0.N) : (cfg0.win 2).index t (0 : Fin 2) = t.val := (word_of (grid0.coords t)).trans (coords0 t)
theorem index8_0 (t : Fin grid0.N) : (cfg0.win 8).index t (0 : Fin 2) = t.val := (word_of (grid0.coords t)).trans (coords0 t)
theorem index8_1 (t : Fin grid0.N) : (cfg0.win 8).index t (1 : Fin 2) = 0 := rfl
theorem nblk8_0 : (cfg0.win 8).nblk (0 : Fin 2) = (262144 + 8192 - 1) / 8192 := rfl
theorem nblk8_1 : (cfg0.win 8).nblk (1 : Fin 2) = (128 + 128 - 1) / 128 := rfl

theorem covers8 : (cfg0.win 8).Covers := by
  have hpos : ∀ a : Fin 2, 0 < S8192x128.size a := by decide
  refine ⟨hpos, fun β => ?_⟩
  have h0 : (β (0 : Fin 2)).val < 32 := (β (0 : Fin 2)).2.trans_eq (nblk8_0.trans (by norm_num))
  have h1 : (β (1 : Fin 2)).val = 0 := Nat.lt_one_iff.1 ((β (1 : Fin 2)).2.trans_eq (nblk8_1.trans (by norm_num)))
  refine ⟨⟨(β (0 : Fin 2)).val, h0.trans_eq N_0.symm⟩, flush0_8 _, fun a => ?_⟩
  match a with
  | ⟨0, _⟩ => exact ⟨index8_0 _, .inl rfl⟩
  | ⟨1, _⟩ => exact ⟨(index8_1 _).trans h1.symm, .inl rfl⟩

theorem emb8_0 (t : Fin grid0.N) (y : S8192x128.Idx) : (((cfg0.win 8).blk t).view.emb y (0 : Fin 2)).val = 8192 * t.val + (y 0).val := by
  show (cfg0.win 8).index t (0 : Fin 2) * 8192 + 1 * (y 0).val = _
  rw [index8_0]; omega
theorem emb8_1 (t : Fin grid0.N) (y : S8192x128.Idx) : (((cfg0.win 8).blk t).view.emb y (1 : Fin 2)).val = (y 1).val := by
  show (cfg0.win 8).index t (1 : Fin 2) * 128 + 1 * (y 1).val = _
  rw [index8_1]; omega

theorem res_at (c : Dev nD) (t : Fin grid0.N) (y : S8192x128.Idx) (z : S262144x128.Idx) (h0 : (z 0).val = 8192 * t.val + (y 0).val) (h1 : (z 1).val = (y 1).val) :
    b8 m c t y = res m c z := by
  have hy0 : (y 0).val < 8192 := (y 0).2
  have et : blockOf z = t := by
    refine Fin.ext ?_
    show (z 0).val / 8192 = _
    rw [h0]; omega
  unfold res
  rw [et]
  refine congrArg (b8 m c t) (funext fun a => Fin.ext ?_)
  match a with
  | ⟨0, _⟩ =>
    show (y 0).val = (z 0).val % 8192
    rw [h0]; omega
  | ⟨1, _⟩ => exact h1.symm

theorem out_eq (c : Dev nD) : (dats m 0 c).arrAt 8 cfg0.N = res m c :=
  (dats m 0 c).arrAt_eq_of_covers 8 _ covers8 fun t hf y => res_at m c t y _ (emb8_0 t y) (emb8_1 t y)

/-- Every run ends with the arguments as they were, the result at its blocks, and every counter at zero. -/
theorem run_post :
    θ_run defs (onTc (τ := τ) (main (F := F))) (s₀ m ρ)
      (fun r => (∀ c : Dev nD, r.2.mem ((c.tc : Thread nD τ).loc main_v3_0) = res m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
        ∧ r.2.sem = fun _ => 0) := by
  refine (θ_run defs _ _).mono (fun r h => ?_) (run_main m ρ)
  obtain ⟨hF, hs⟩ := h
  have hw : ∀ (c : Dev nD) (w : Fin 11), open9 w = false → r.2.mem ((spec0 w).arr.view.loc (c.tc : Thread nD τ)) = (dats m 0 c).arrAt w cfg0.N :=
    fun c w h => ((dats m 0 c).toRForget_arrAt_iff h _ _).1 ((hF c).1 w)
  refine ⟨fun c => ⟨?_, ?_, ?_, ?_, ?_, ?_, ?_, ?_, ?_⟩, hs⟩
  · exact (hw c 8 rfl).trans (out_eq m c)
  · exact ((hw c 0 rfl).trans ((dats m 0 c).arrAt_in (0 : Fin 11) rfl _)).trans (V_main_arg0 m c)
  · exact ((hw c 1 rfl).trans ((dats m 0 c).arrAt_in (1 : Fin 11) rfl _)).trans (V_main_arg1 m c)
  · exact ((hw c 2 rfl).trans ((dats m 0 c).arrAt_in (2 : Fin 11) rfl _)).trans (V_main_arg2 m c)
  · exact ((hF c).2 main_arg3 (show main_arg3 ∈ Pipeline.restRefs sig spec0 by decide)).trans (V_main_arg3 m c)
  · exact ((hF c).2 main_arg4 (show main_arg4 ∈ Pipeline.restRefs sig spec0 by decide)).trans (V_main_arg4 m c)
  · exact ((hF c).2 main_arg5 (show main_arg5 ∈ Pipeline.restRefs sig spec0 by decide)).trans (V_main_arg5 m c)
  · exact ((hw c 6 rfl).trans ((dats m 0 c).arrAt_in (6 : Fin 11) rfl _)).trans (V_main_arg6 m c)
  · exact ((hw c 7 rfl).trans ((dats m 0 c).arrAt_in (7 : Fin 11) rfl _)).trans (V_main_arg7 m c)

end Cert.Kernel4Ideal.Hand

end
-- ==== Proof.Sums.lean ====
module

public import proofs.«01_k».proof.Proof.Gen.Reference4Ideal.Run
public import proofs.«01_k».proof.Proof.Normed
public import Idealize.ShloMosaic.Lib.Pointwise

@[expose] public section

set_option maxRecDepth 16384

noncomputable section

namespace Cert.Reference4Ideal.Hand

open Cert.Reference4Ideal Cert.Reference4Ideal.Gen
open Cert.Reference3Ideal.Hand (normed scaled alpha alpha_eq)
open Idealize.ShloMosaic Idealize.ShloMosaic.TcCoe

/-! The output projection's reference, read at an entry. -/

/-- The two halves' rows side by side. -/
def beside (A B : FVec Ideal S32768x512 .bf16) : FVec Ideal S32768x1024 .bf16 :=
  concatenate S32768x1024 1 [⟨S32768x512, A⟩, ⟨S32768x512, B⟩] concatenates_S32768x512_S32768x512_S32768x1024_d1

/-- Those rows times the matrix. -/
def product (A B : FVec Ideal S32768x512 .bf16) (W : FVec Ideal S1024x1024 .f32) : FVec Ideal S32768x1024 .f32 :=
  Host.dotGeneral dot_S32768x1024_S1024x1024_S32768x1024_1_0_0_1_n_n none (extf .f32 (beside A B) bitsLt_bf16_f32) W

/-- A row of each half times the matrix's half, and the two added. -/
def halves (a b : Fin 512 → Ideal .f32) (w : Fin 1024 → Ideal .f32) : Ideal .f32 :=
  (∑ k : Fin 512, (a k : EReal) * w ⟨k.val, by have := k.2; omega⟩) + ∑ k : Fin 512, (b k : EReal) * w ⟨512 + k.val, by have := k.2; omega⟩

theorem product_apply (A B : FVec Ideal S32768x512 .bf16) (W : FVec Ideal S1024x1024 .f32) (n : Fin 32768) (j : Fin 1024) :
    product A B W (ix2 n j) = halves (fun k => A (ix2 n k)) (fun k => B (ix2 n k)) fun k => W (ix2 k j) := by
  have hl : ∀ k : Fin 512, beside A B (ix2 n (⟨k.val, by have := k.2; omega⟩ : Fin 1024)) = A (ix2 n k) := fun k => by
    pointwise [beside]
  have hr : ∀ k : Fin 512, beside A B (ix2 n (⟨512 + k.val, by have := k.2; omega⟩ : Fin 1024)) = B (ix2 n k) := fun k => by
    pointwise [beside]
  unfold product halves
  generalize beside A B = C at hl hr ⊢
  pointwise
  refine (Fin.sum_univ_add (a := 512) (b := 512) _).trans (congrArg₂ (· + ·) (Finset.sum_congr rfl fun k _ => ?_) (Finset.sum_congr rfl fun k _ => ?_))
  · rw [← hl]; rfl
  · rw [← hr]; rfl

/-- The tokens' values and their projection, weighted and added. -/
def mixed (x : FVec Ideal S32768x1024 .f32) (A B : FVec Ideal S32768x512 .bf16) (W : FVec Ideal S1024x1024 .f32) : FVec Ideal S32768x1024 .f32 :=
  addf (mulf (broadcastInDim S32768x1024 ![] bcast_S_S32768x1024 (Host.sqrt (Host.sqrt (constant S_ .f32 0x40000000#32)))) x) (product A B W)

/-- An entry of that. -/
def mix (a x y : Ideal .f32) : Ideal .f32 := (a : EReal) * x + y

theorem mixed_apply (x : FVec Ideal S32768x1024 .f32) (A B : FVec Ideal S32768x512 .bf16) (W : FVec Ideal S1024x1024 .f32) (n : Fin 32768) (l : Fin 1024) :
    mixed x A B W (ix2 n l) = mix alpha (x (ix2 n l)) (halves (fun k => A (ix2 n k)) (fun k => B (ix2 n k)) fun k => W (ix2 k l)) := by
  rw [← product_apply]
  unfold mixed mix
  generalize product A B W = P
  pointwise
  simp only [Ideal.hostUnary_sqrt_def, Ideal.ofBits_def, alpha_eq]

/-- The whole reference. -/
theorem res_eq (m : (ℓ : Loc nD τ sig) → Buf (Elt Ideal) ℓ) (c : Dev nD) :
    Cert.Reference4Ideal.Value.res_out0 m c = shapeCast S262144x128 (normed (mixed (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4)) (m ((c.tc : Thread nD τ).loc main_arg5)))
      shapeCasts_S32768x1024_S262144x128 := by
  unfold Cert.Reference4Ideal.Value.res_out0 Cert.Reference4Ideal.Value.res_main_v32
  rfl

/-- The result's pieces of 128 values, from the rows. -/
theorem pieces_apply (R : FVec Ideal S32768x1024 .f32) (z : Fin 262144) (d : Fin 128) :
    shapeCast S262144x128 R shapeCasts_S32768x1024_S262144x128 (ix2 z d)
      = R (ix2 ⟨z.val / 8, by have := z.2; omega⟩ ⟨128 * (z.val % 8) + d.val, by have := d.2; omega⟩) := by
  refine shapeCast_apply _ _ _ _ ?_
  rw [Shape.rowMajor_val_two, Shape.rowMajor_val_two]
  show z.val / 8 * 1024 + (128 * (z.val % 8) + d.val) = z.val * 128 + d.val
  omega

end Cert.Reference4Ideal.Hand

end
-- ==== Proof.First.lean ====
module

public import proofs.«01_k».proof.Proof.Projected
public import proofs.«01_k».proof.Proof.Sums
public import proofs.«01_k».proof.Proof.Layer

@[expose] public section

set_option maxRecDepth 65536

noncomputable section

namespace Cert.Kernel4Ideal.Hand

open Cert.Kernel4Ideal Cert.Kernel4Ideal.Gen
open Cert.Kernel3Ideal.Hand (normed normed_apply)
open Cert.Reference3Ideal.Hand (scaled alpha)
open Cert.Reference4Ideal.Hand (mix halves)
open Idealize.ShloMosaic Idealize.ShloMosaic.TcCoe Idealize.SL.Sem

/-- A block's tokens and their projection, weighted and added. -/
def mixed (X : FVec Ideal S1024x1024 .f32) (A B : FVec Ideal S1024x512 .bf16) (U L : FVec Ideal S512x1024 .bf16) : FVec Ideal S1024x1024 .f32 :=
  addf (mulf (broadcast S1024x1024 (Named.named κ "alpha" 0x3F9837F0#32)) X)
    (addf (matmul dot_S1024x512_S512x1024_S1024x1024_1_0_0_1_n_n none A (shapeCast S512x1024 U shapeCasts_S512x1024_S512x1024) (constant S1024x1024 .f32 0x00000000#32))
      (matmul dot_S1024x512_S512x1024_S1024x1024_1_0_0_1_n_n none B (shapeCast S512x1024 L shapeCasts_S512x1024_S512x1024) (constant S1024x1024 .f32 0x00000000#32)))

theorem rows_eq (X : S1024x1024.Idx → Ideal .f32) (A B : S1024x512.Idx → Ideal .bf16) (W : S1024x1024.Idx → Ideal .bf16) (w b : S1x1024.Idx → Ideal .f32) :
    rows X A B W w b = normed (mixed X A B (upper W) (lower W)) w b := rfl

/-- The named factor is the fourth root of two. -/
theorem named_alpha : (Named.named (F := Ideal) κ "alpha" (φ := .f32) 0x3F9837F0#32) = alpha := IdealRules.named_const.ideal_named_scalar _ _ _ _ rfl

theorem mixed_apply (X : FVec Ideal S1024x1024 .f32) (A B : FVec Ideal S1024x512 .bf16) (W : FVec Ideal S1024x1024 .bf16) (r l : Fin 1024) :
    mixed X A B (upper W) (lower W) (ix2 r l) = mix alpha (X (ix2 r l)) (halves (fun k => A (ix2 r k)) (fun k => B (ix2 r k)) fun k => W (ix2 k l)) := by
  have hu : ∀ k : Fin 512, upper W (ix2 k l) = W (ix2 ⟨k.val, by have := k.2; omega⟩ l) := fun _ => rfl
  have hl : ∀ k : Fin 512, lower W (ix2 k l) = W (ix2 ⟨512 + k.val, by have := k.2; omega⟩ l) := fun _ => rfl
  generalize upper W = U at hu ⊢
  generalize lower W = L at hl ⊢
  unfold mixed mix halves
  pointwise
  rw [named_alpha]
  simp only [hu, hl]

/-! ## The result -/

variable {m : (ℓ : Loc nD τ sig) → Buf (Elt Ideal) ℓ}

theorem V_v0 (c : Dev nD) : V m c main_v0 = (truncf .bf16 (m ((c.tc : Thread nD τ).loc main_arg3) : FVec Ideal S1024x1024 .f32) bitsLt_bf16_f32 : FVec Ideal S1024x1024 .bf16) := by unfold V; after_results_simp <;> rfl
theorem V_v1 (c : Dev nD) : V m c main_v1 = broadcastInDim S1x1024 ![1] bcast_S1024_S1x1024_1 (m ((c.tc : Thread nD τ).loc main_arg4)) := by unfold V; after_results_simp <;> rfl
theorem V_v2 (c : Dev nD) : V m c main_v2 = broadcastInDim S1x1024 ![1] bcast_S1024_S1x1024_1 (m ((c.tc : Thread nD τ).loc main_arg5)) := by unfold V; after_results_simp <;> rfl

theorem b0_at (c : Dev nD) (t : Fin grid0.N) (a : Fin 1024) (d : Fin 1024) (z : Fin 32768) (h : z.val = 1024 * t.val + a.val) :
    b0 m c t (ix2 a d) = m ((c.tc : Thread nD τ).loc main_arg0) (ix2 z d) := by
  refine (show b0 m c t (ix2 a d) = V m c main_arg0 (((cfg0.win 0).blk t).view.emb (ix2 a d)) from rfl).trans
    ((congrFun (V_main_arg0 m c) _).trans (congrArg (m ((c.tc : Thread nD τ).loc main_arg0)) (funext fun k => Fin.ext ?_)))
  match k with
  | ⟨0, _⟩ =>
    show (cfg0.win 0).index t (0 : Fin 2) * 1024 + 1 * a.val = z.val
    rw [index0_0, h]; omega
  | ⟨1, _⟩ => show 0 * 1024 + 1 * d.val = d.val; omega
theorem b1_at (c : Dev nD) (t : Fin grid0.N) (a : Fin 1024) (d : Fin 512) (z : Fin 32768) (h : z.val = 1024 * t.val + a.val) :
    b1 m c t (ix2 a d) = m ((c.tc : Thread nD τ).loc main_arg1) (ix2 z d) := by
  refine (show b1 m c t (ix2 a d) = V m c main_arg1 (((cfg0.win 1).blk t).view.emb (ix2 a d)) from rfl).trans
    ((congrFun (V_main_arg1 m c) _).trans (congrArg (m ((c.tc : Thread nD τ).loc main_arg1)) (funext fun k => Fin.ext ?_)))
  match k with
  | ⟨0, _⟩ =>
    show (cfg0.win 1).index t (0 : Fin 2) * 1024 + 1 * a.val = z.val
    rw [index1_0, h]; omega
  | ⟨1, _⟩ => show 0 * 512 + 1 * d.val = d.val; omega
theorem b2_at (c : Dev nD) (t : Fin grid0.N) (a : Fin 1024) (d : Fin 512) (z : Fin 32768) (h : z.val = 1024 * t.val + a.val) :
    b2 m c t (ix2 a d) = m ((c.tc : Thread nD τ).loc main_arg2) (ix2 z d) := by
  refine (show b2 m c t (ix2 a d) = V m c main_arg2 (((cfg0.win 2).blk t).view.emb (ix2 a d)) from rfl).trans
    ((congrFun (V_main_arg2 m c) _).trans (congrArg (m ((c.tc : Thread nD τ).loc main_arg2)) (funext fun k => Fin.ext ?_)))
  match k with
  | ⟨0, _⟩ =>
    show (cfg0.win 2).index t (0 : Fin 2) * 1024 + 1 * a.val = z.val
    rw [index2_0, h]; omega
  | ⟨1, _⟩ => show 0 * 512 + 1 * d.val = d.val; omega
theorem b3_at (c : Dev nD) (t : Fin grid0.N) (a d : Fin 1024) : b3 m c t (ix2 a d) = m ((c.tc : Thread nD τ).loc main_arg3) (ix2 a d) := by
  refine (show b3 m c t (ix2 a d) = V m c main_v0 (((cfg0.win 3).blk t).view.emb (ix2 a d)) from rfl).trans
    ((congrFun (V_v0 c) _).trans (congrArg (m ((c.tc : Thread nD τ).loc main_arg3)) (funext fun k => Fin.ext ?_)))
  match k with
  | ⟨0, _⟩ => show 0 * 1024 + 1 * a.val = a.val; omega
  | ⟨1, _⟩ => show 0 * 1024 + 1 * d.val = d.val; omega
theorem b4_at (c : Dev nD) (t : Fin grid0.N) (j : Fin 1024) : b4 m c t (ix2 (0 : Fin 1) j) = m ((c.tc : Thread nD τ).loc main_arg4) (ix1 j) := by
  refine (show b4 m c t (ix2 (0 : Fin 1) j) = V m c main_v1 (((cfg0.win 4).blk t).view.emb (ix2 (0 : Fin 1) j)) from rfl).trans
    ((congrFun (V_v1 c) _).trans (congrArg (m ((c.tc : Thread nD τ).loc main_arg4)) (funext fun k => Fin.ext ?_)))
  match k with
  | ⟨0, _⟩ => show 0 * 1024 + 1 * j.val = j.val; omega
theorem b5_at (c : Dev nD) (t : Fin grid0.N) (j : Fin 1024) : b5 m c t (ix2 (0 : Fin 1) j) = m ((c.tc : Thread nD τ).loc main_arg5) (ix1 j) := by
  refine (show b5 m c t (ix2 (0 : Fin 1) j) = V m c main_v2 (((cfg0.win 5).blk t).view.emb (ix2 (0 : Fin 1) j)) from rfl).trans
    ((congrFun (V_v2 c) _).trans (congrArg (m ((c.tc : Thread nD τ).loc main_arg5)) (funext fun k => Fin.ext ?_)))
  match k with
  | ⟨0, _⟩ => show 0 * 1024 + 1 * j.val = j.val; omega

/-- The call's first result is the reference's. -/
theorem res_normed (c : Dev nD) :
    res m c = shapeCast S262144x128 (Cert.Reference3Ideal.Hand.normed (Cert.Reference4Ideal.Hand.mixed (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4)) (m ((c.tc : Thread nD τ).loc main_arg5)))
      Cert.Reference4Ideal.Gen.shapeCasts_S32768x1024_S262144x128 := by
  have key : ∀ (z : Fin 262144) (d : Fin 128), res m c (ix2 z d)
      = shapeCast S262144x128 (Cert.Reference3Ideal.Hand.normed (Cert.Reference4Ideal.Hand.mixed (m ((c.tc : Thread nD τ).loc main_arg0)) (m ((c.tc : Thread nD τ).loc main_arg1))
        (m ((c.tc : Thread nD τ).loc main_arg2)) (m ((c.tc : Thread nD τ).loc main_arg3))) (m ((c.tc : Thread nD τ).loc main_arg4)) (m ((c.tc : Thread nD τ).loc main_arg5)))
        Cert.Reference4Ideal.Gen.shapeCasts_S32768x1024_S262144x128 (ix2 z d) := by
    intro z d
    have hz := z.2
    have hd := d.2
    rw [Cert.Reference4Ideal.Hand.pieces_apply, Cert.Reference3Ideal.Hand.normed_apply]
    have ht : (blockOf (ix2 z d)).val = z.val / 8192 := rfl
    show b8 m c (blockOf (ix2 z d)) (ix2 ⟨z.val % 8192, Nat.mod_lt _ (by norm_num)⟩ d) = _
    generalize blockOf (ix2 z d) = t at ht ⊢
    have hc : 128 * (z.val % 8) + d.val < 1024 := by omega
    have hn : z.val / 8 < 32768 := by omega
    have hr : z.val % 8192 / 8 < 1024 := by omega
    have e : z.val / 8 = 1024 * t.val + z.val % 8192 / 8 := by omega
    have e2 : b8 m c t (ix2 ⟨z.val % 8192, Nat.mod_lt _ (by norm_num)⟩ d)
        = rows (b0 m c t) (b1 m c t) (b2 m c t) (b3 m c t) (b4 m c t) (b5 m c t) (ix2 ⟨z.val % 8192 / 8, hr⟩ ⟨128 * (z.val % 8) + d.val, hc⟩) := by
      refine congrArg (rows (b0 m c t) (b1 m c t) (b2 m c t) (b3 m c t) (b4 m c t) (b5 m c t)) (funext fun a => Fin.ext ?_)
      match a with
      | ⟨0, _⟩ => rfl
      | ⟨1, _⟩ =>
        show 128 * (z.val % 8192 % 8) + d.val = 128 * (z.val % 8) + d.val
        omega
    rw [e2, rows_eq, normed_apply, b4_at, b5_at]
    refine congrArg (fun r => scaled r _ _ _) (funext fun l => ?_)
    rw [Cert.Reference4Ideal.Hand.mixed_apply, mixed_apply, b0_at c t _ _ ⟨z.val / 8, hn⟩ e]
    have h1 := fun k => b1_at (m := m) c t ⟨z.val % 8192 / 8, hr⟩ k ⟨z.val / 8, hn⟩ e
    have h2 := fun k => b2_at (m := m) c t ⟨z.val % 8192 / 8, hr⟩ k ⟨z.val / 8, hn⟩ e
    have h3 := fun k => b3_at (m := m) c t k l
    unfold halves
    simp only [h1, h2, h3]
  funext y
  have e : y = ix2 (y 0) (y 1) := by
    funext k
    match k with
    | ⟨0, _⟩ => rfl
    | ⟨1, _⟩ => rfl
  rw [e]
  exact key (y 0) (y 1)

end Cert.Kernel4Ideal.Hand

end
-- ==== Proof.Inproj.lean ====
module

public import proofs.«01_k».proof.Proof.Gen.Kernel5Ideal.Frame
public import Idealize.ShloMosaic.Lib.Pointwise
public import Idealize.ShloMosaic.Lib.VecWindow
public import Idealize.ShloMosaic.Lib.WritesUnit

@[expose] public section

set_option maxRecDepth 65536

noncomputable section

namespace Cert.Kernel5Ideal.Hand

open Cert.Kernel5Ideal Cert.Kernel5Ideal.Gen
open Idealize.ShloMosaic Idealize.ShloMosaic.TcCoe

/-! The input projection's values and gate, as one grid point leaves them. -/

variable {F : FTy → Type} [FloatOps F]

/-- 256 columns of the packed matrix, from `o` on. -/
def cols256 (o : ℕ) (ho : o + 256 ≤ 3328) (W : Vec F S1024x3328 .bf16) : Vec F S1024x256 .bf16 := fun y =>
  W (ix2 (y 0) ⟨o + (y 1).val, by have h : (y 1).val < 256 := (y 1).2; omega⟩)

/-- 512 columns of the packed matrix, from `o` on. -/
def cols512 (o : ℕ) (ho : o + 512 ≤ 3328) (W : Vec F S1024x3328 .bf16) : Vec F S1024x512 .bf16 := fun y =>
  W (ix2 (y 0) ⟨o + (y 1).val, by have h : (y 1).val < 512 := (y 1).2; omega⟩)

/-- The values' block: two halves side by side. -/
def valuesOf (X : Vec F S1024x1024 .f32) (W : Vec F S1024x3328 .bf16) : Vec F S1024x512 .bf16 := fun y =>
  if h : (y 1).val < 256 then k0_pay53 (k0_pay2 X) (cols256 1024 (by omega) W) (ix2 (y 0) ⟨(y 1).val, h⟩)
  else k0_pay71 (k0_pay2 X) (cols256 1280 (by omega) W) (ix2 (y 0) ⟨(y 1).val - 256, by have h : (y 1).val < 512 := (y 1).2; omega⟩)

/-- The gate's block. -/
def gateOf (X : Vec F S1024x1024 .f32) (W : Vec F S1024x3328 .bf16) : Vec F S1024x512 .bf16 :=
  k0_pay74 (k0_pay72 (k0_pay2 X) (cols512 1536 (by omega) W)) k0_pay73

theorem readAt256 (o : ℕ) (ho : o + 256 ≤ 3328) (v : View sig .tc .vmem S1024x3328 .bf16) (f : v.ty.Contents (Elt F)) (W : Vec F S1024x3328 .bf16) (hf : v.read (Elt F) f = W)
    (inb : ∀ a, (![0, o] : Fin 2 → ℕ) a + (![1024, 256] : Fin 2 → ℕ) a ≤ S1024x3328.size a) :
    View.readAt (Elt F) v (Rect.unit (s := S1024x3328) ![0, o] ![1024, 256] inb).toLoadRect f = cols256 o ho W := by
  subst hf
  funext y
  refine congrArg (v.read (Elt F) f) (funext fun a => Fin.ext ?_)
  match a with
  | ⟨0, _⟩ => show 0 + 1 * (y 0).val = (y 0).val; omega
  | ⟨1, _⟩ => show o + 1 * (y 1).val = o + (y 1).val; omega

theorem readAt512 (o : ℕ) (ho : o + 512 ≤ 3328) (v : View sig .tc .vmem S1024x3328 .bf16) (f : v.ty.Contents (Elt F)) (W : Vec F S1024x3328 .bf16) (hf : v.read (Elt F) f = W)
    (inb : ∀ a, (![0, o] : Fin 2 → ℕ) a + (![1024, 512] : Fin 2 → ℕ) a ≤ S1024x3328.size a) :
    View.readAt (Elt F) v (Rect.unit (s := S1024x3328) ![0, o] ![1024, 512] inb).toLoadRect f = cols512 o ho W := by
  subst hf
  funext y
  refine congrArg (v.read (Elt F) f) (funext fun a => Fin.ext ?_)
  match a with
  | ⟨0, _⟩ => show 0 + 1 * (y 0).val = (y 0).val; omega
  | ⟨1, _⟩ => show o + 1 * (y 1).val = o + (y 1).val; omega

/-- Two halves stored one after the other, read back. -/
theorem halves_read (v : View sig .tc .vmem S1024x512 .bf16) (f : v.ty.Contents (Elt F))
    (inb : ∀ a, (![0, 0] : Fin 2 → ℕ) a + (![1024, 256] : Fin 2 → ℕ) a ≤ S1024x512.size a)
    (inb' : ∀ a, (![0, 256] : Fin 2 → ℕ) a + (![1024, 256] : Fin 2 → ℕ) a ≤ S1024x512.size a) (l r : Vec F S1024x256 .bf16) :
    v.read (Elt F) (v.writes (Elt F) f [⟨Rect.unit (s := S1024x512) ![0, 256] ![1024, 256] inb', r⟩, ⟨Rect.unit (s := S1024x512) ![0, 0] ![1024, 256] inb, l⟩])
      = fun y => if h : (y 1).val < 256 then l (ix2 (y 0) ⟨(y 1).val, h⟩)
        else r (ix2 (y 0) ⟨(y 1).val - 256, by have h : (y 1).val < 512 := (y 1).2; omega⟩) := by
  funext y
  have hy : (y 1).val < 512 := (y 1).2
  split_ifs with h
  · refine (View.read_writes_cons_unit_of_not_mem v f inb' r _ y rfl (1 : Fin 2) (.inl h)).trans
      (View.read_writes_cons_unit_of_mem v f inb l [] y (ix2 (y 0) ⟨(y 1).val, h⟩) rfl fun a => ?_)
    match a with
    | ⟨0, _⟩ => show (y 0).val = 0 + (y 0).val; omega
    | ⟨1, _⟩ => show (y 1).val = 0 + (y 1).val; omega
  · refine View.read_writes_cons_unit_of_mem v f inb' r _ y (ix2 (y 0) ⟨(y 1).val - 256, by omega⟩) rfl fun a => ?_
    match a with
    | ⟨0, _⟩ => show (y 0).val = 0 + (y 0).val; omega
    | ⟨1, _⟩ => show (y 1).val = 256 + ((y 1).val - 256); omega

theorem rounded_first (c : Dev nD) (arg1 : Memref sig .tc .vmem S1024x1024 .f32) (harg1 : arg1.IsWhole) (arg17 : Memref sig .tc .vmem S1024x1024 .bf16) (x0 : Vec F S1024x1024 .f32) :
    kernelRun0_A.sl.v18 c arg1 harg1 arg17 x0 = k0_pay2 x0 := by
  unfold kernelRun0_A.sl.v18 kernelRun0_A.sl.HS4_1
  refine (View.readCov_full _ _ _ _ _).trans (congrArg k0_pay2 ?_)
  exact (View.readAt_full _ _ _).trans (harg1.read_unread x0)

theorem values_first (c : Dev nD) (i : grid0.Coords) (arg1 : Memref sig .tc .vmem S1024x1024 .f32) (harg1 : arg1.IsWhole) (arg2 : Memref sig .tc .vmem S1024x3328 .bf16) (harg2 : arg2.IsWhole) (arg3 : Memref sig .tc .vmem S4x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x256 .f32) (harg10 : arg10.IsWhole) (arg11 : Memref sig .tc .vmem S1024x256 .bf16) (harg11 : arg11.IsWhole) (arg12 : Memref sig .tc .vmem S1024x256 .f32) (harg12 : arg12.IsWhole) (arg13 : Memref sig .tc .vmem S1032x256 .f32) (harg13 : arg13.IsWhole) (arg14 : Memref sig .tc .vmem S1032x256 .f32) (harg14 : arg14.IsWhole) (arg15 : Memref sig .tc .vmem S1032x256 .f32) (harg15 : arg15.IsWhole) (arg16 : Memref sig .tc .vmem S1032x256 .f32) (harg16 : arg16.IsWhole) (arg17 : Memref sig .tc .vmem S1024x1024 .bf16) (harg17 : arg17.IsWhole) (hc0 : cond0_0 i)
    (x0 : Vec F S1024x1024 .f32) (x1 : Vec F S1024x3328 .bf16) (x2 : Vec F S4x1024 .f32) (x3 : Vec F S1x1024 .f32)  :
    out0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 = valuesOf x0 x1 := by
  unfold out0_A_6 kernelRun0_A
  dsimp only
  rw [halves_read, rounded_first]
  have e0 := readAt256 1024 (by omega) arg2.view (harg2.unread x1) x1 (harg2.read_unread x1) inb_S1024x3328_S1024x256_0_1024
  have e1 := readAt256 1280 (by omega) arg2.view (harg2.unread x1) x1 (harg2.read_unread x1) inb_S1024x3328_S1024x256_0_1280
  exact congrArg₂ (fun (l r : Vec F S1024x256 .bf16) => (fun y : S1024x512.Idx => if h : (y 1).val < 256 then k0_pay53 (k0_pay2 x0) l (ix2 (y 0) ⟨(y 1).val, h⟩)
        else k0_pay71 (k0_pay2 x0) r (ix2 (y 0) ⟨(y 1).val - 256, by have h : (y 1).val < 512 := (y 1).2; omega⟩))) e0 e1

theorem gate_first (c : Dev nD) (i : grid0.Coords) (arg1 : Memref sig .tc .vmem S1024x1024 .f32) (harg1 : arg1.IsWhole) (arg2 : Memref sig .tc .vmem S1024x3328 .bf16) (harg2 : arg2.IsWhole) (arg3 : Memref sig .tc .vmem S4x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x256 .f32) (harg10 : arg10.IsWhole) (arg11 : Memref sig .tc .vmem S1024x256 .bf16) (harg11 : arg11.IsWhole) (arg12 : Memref sig .tc .vmem S1024x256 .f32) (harg12 : arg12.IsWhole) (arg13 : Memref sig .tc .vmem S1032x256 .f32) (harg13 : arg13.IsWhole) (arg14 : Memref sig .tc .vmem S1032x256 .f32) (harg14 : arg14.IsWhole) (arg15 : Memref sig .tc .vmem S1032x256 .f32) (harg15 : arg15.IsWhole) (arg16 : Memref sig .tc .vmem S1032x256 .f32) (harg16 : arg16.IsWhole) (arg17 : Memref sig .tc .vmem S1024x1024 .bf16) (harg17 : arg17.IsWhole) (hc0 : cond0_0 i)
    (x0 : Vec F S1024x1024 .f32) (x1 : Vec F S1024x3328 .bf16) (x2 : Vec F S4x1024 .f32) (x3 : Vec F S1x1024 .f32)  :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 = gateOf x0 x1 := by
  unfold out0_A_7 kernelRun0_A
  dsimp only
  refine (View.read_writes_full _ _ inb_S1024x512_S1024x512_0_0 _ _).trans ?_
  unfold kernelRun0_A.sl.r_37
  rw [rounded_first]
  have e := readAt512 1536 (by omega) arg2.view (harg2.unread x1) x1 (harg2.read_unread x1) inb_S1024x3328_S1024x512_0_1536
  exact congrArg (fun l : Vec F S1024x512 .bf16 => k0_pay74 (k0_pay72 (k0_pay2 x0) l) k0_pay73) e

theorem rounded_later (c : Dev nD) (arg1 : Memref sig .tc .vmem S1024x1024 .f32) (harg1 : arg1.IsWhole) (arg17 : Memref sig .tc .vmem S1024x1024 .bf16) (x0 : Vec F S1024x1024 .f32) :
    kernelRun0_B.sl.v18 c arg1 harg1 arg17 x0 = k0_pay2 x0 := by
  unfold kernelRun0_B.sl.v18 kernelRun0_B.sl.HS4_1
  refine (View.readCov_full _ _ _ _ _).trans (congrArg k0_pay2 ?_)
  exact (View.readAt_full _ _ _).trans (harg1.read_unread x0)

theorem values_later (c : Dev nD) (i : grid0.Coords) (arg1 : Memref sig .tc .vmem S1024x1024 .f32) (harg1 : arg1.IsWhole) (arg2 : Memref sig .tc .vmem S1024x3328 .bf16) (harg2 : arg2.IsWhole) (arg3 : Memref sig .tc .vmem S4x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x256 .f32) (harg10 : arg10.IsWhole) (arg11 : Memref sig .tc .vmem S1024x256 .bf16) (harg11 : arg11.IsWhole) (arg12 : Memref sig .tc .vmem S1024x256 .f32) (harg12 : arg12.IsWhole) (arg13 : Memref sig .tc .vmem S1032x256 .f32) (harg13 : arg13.IsWhole) (arg14 : Memref sig .tc .vmem S1032x256 .f32) (harg14 : arg14.IsWhole) (arg15 : Memref sig .tc .vmem S1032x256 .f32) (harg15 : arg15.IsWhole) (arg16 : Memref sig .tc .vmem S1032x256 .f32) (harg16 : arg16.IsWhole) (arg17 : Memref sig .tc .vmem S1024x1024 .bf16) (harg17 : arg17.IsWhole) (hc0 : ¬cond0_0 i)
    (x0 : Vec F S1024x1024 .f32) (x1 : Vec F S1024x3328 .bf16) (x2 : Vec F S4x1024 .f32) (x3 : Vec F S1x1024 .f32) (xs0 : Vec F S1032x256 .f32) (xs1 : Vec F S1032x256 .f32) (xs2 : Vec F S1032x256 .f32) (xs3 : Vec F S1032x256 .f32)  :
    out0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 xs0 xs1 xs2 xs3 = valuesOf x0 x1 := by
  unfold out0_B_6 kernelRun0_B
  dsimp only
  rw [halves_read, rounded_later]
  have e0 := readAt256 1024 (by omega) arg2.view (harg2.unread x1) x1 (harg2.read_unread x1) inb_S1024x3328_S1024x256_0_1024
  have e1 := readAt256 1280 (by omega) arg2.view (harg2.unread x1) x1 (harg2.read_unread x1) inb_S1024x3328_S1024x256_0_1280
  exact congrArg₂ (fun (l r : Vec F S1024x256 .bf16) => (fun y : S1024x512.Idx => if h : (y 1).val < 256 then k0_pay53 (k0_pay2 x0) l (ix2 (y 0) ⟨(y 1).val, h⟩)
        else k0_pay71 (k0_pay2 x0) r (ix2 (y 0) ⟨(y 1).val - 256, by have h : (y 1).val < 512 := (y 1).2; omega⟩))) e0 e1

theorem gate_later (c : Dev nD) (i : grid0.Coords) (arg1 : Memref sig .tc .vmem S1024x1024 .f32) (harg1 : arg1.IsWhole) (arg2 : Memref sig .tc .vmem S1024x3328 .bf16) (harg2 : arg2.IsWhole) (arg3 : Memref sig .tc .vmem S4x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x256 .f32) (harg10 : arg10.IsWhole) (arg11 : Memref sig .tc .vmem S1024x256 .bf16) (harg11 : arg11.IsWhole) (arg12 : Memref sig .tc .vmem S1024x256 .f32) (harg12 : arg12.IsWhole) (arg13 : Memref sig .tc .vmem S1032x256 .f32) (harg13 : arg13.IsWhole) (arg14 : Memref sig .tc .vmem S1032x256 .f32) (harg14 : arg14.IsWhole) (arg15 : Memref sig .tc .vmem S1032x256 .f32) (harg15 : arg15.IsWhole) (arg16 : Memref sig .tc .vmem S1032x256 .f32) (harg16 : arg16.IsWhole) (arg17 : Memref sig .tc .vmem S1024x1024 .bf16) (harg17 : arg17.IsWhole) (hc0 : ¬cond0_0 i)
    (x0 : Vec F S1024x1024 .f32) (x1 : Vec F S1024x3328 .bf16) (x2 : Vec F S4x1024 .f32) (x3 : Vec F S1x1024 .f32) (xs0 : Vec F S1032x256 .f32) (xs1 : Vec F S1032x256 .f32) (xs2 : Vec F S1032x256 .f32) (xs3 : Vec F S1032x256 .f32)  :
    out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 xs0 xs1 xs2 xs3 = gateOf x0 x1 := by
  unfold out0_B_7 kernelRun0_B
  dsimp only
  refine (View.read_writes_full _ _ inb_S1024x512_S1024x512_0_0 _ _).trans ?_
  unfold kernelRun0_B.sl.r_40
  rw [rounded_later]
  have e := readAt512 1536 (by omega) arg2.view (harg2.unread x1) x1 (harg2.read_unread x1) inb_S1024x3328_S1024x512_0_1536
  exact congrArg (fun l : Vec F S1024x512 .bf16 => k0_pay74 (k0_pay72 (k0_pay2 x0) l) k0_pay73) e

end Cert.Kernel5Ideal.Hand

end
-- ==== Proof.Packed.lean ====
module

public import proofs.«01_k».proof.Proof.Gen.Kernel5Ideal.Frame.Runs
public import Idealize.ShloMosaic.Lib.Pointwise
public import Idealize.ShloMosaic.Lib.Pipeline.Value

@[expose] public section

set_option maxRecDepth 16384

noncomputable section

namespace Cert.Kernel5Ideal.Hand

open Cert.Kernel5Ideal Cert.Kernel5Ideal.Gen
open Idealize.ShloMosaic Idealize.ShloMosaic.TcCoe Idealize.SL.Sem

/-! The packed matrix of the input projection: which columns of the given matrix its columns are. -/

variable {F : FTy → Type} [FloatOps F]

def v0 (w : FVec F S1024x2824 .f32) : FVec F S1024x1024 .f32 := extractStridedSlice S1024x1024 ![0, 0] w slices_S1024x2824_S1024x1024_0_0
def v1 (w : FVec F S1024x2824 .f32) : FVec F S1024x512 .f32 := extractStridedSlice S1024x512 ![0, 1024] w slices_S1024x2824_S1024x512_0_1024
def v2 (w : FVec F S1024x2824 .f32) : FVec F S1024x512 .f32 := extractStridedSlice S1024x512 ![0, 1536] w slices_S1024x2824_S1024x512_0_1536
def v3 (w : FVec F S1024x2824 .f32) : FVec F S1024x4 .f32 := extractStridedSlice S1024x4 ![0, 2048] w slices_S1024x2824_S1024x4_0_2048
def v4 (w : FVec F S1024x2824 .f32) : FVec F S1024x4 .f32 := extractStridedSlice S1024x4 ![0, 2052] w slices_S1024x2824_S1024x4_0_2052
def v5 (w : FVec F S1024x2824 .f32) : FVec F S1024x512 .f32 := extractStridedSlice S1024x512 ![0, 2056] w slices_S1024x2824_S1024x512_0_2056
def v6 (w : FVec F S1024x2824 .f32) : FVec F S1024x128 .f32 := extractStridedSlice S1024x128 ![0, 2568] w slices_S1024x2824_S1024x128_0_2568
def v7 (w : FVec F S1024x2824 .f32) : FVec F S1024x128 .f32 := extractStridedSlice S1024x128 ![0, 2696] w slices_S1024x2824_S1024x128_0_2696
def v8 (w : FVec F S1024x2824 .f32) : FVec F S1024x64 .f32 := extractStridedSlice S1024x64 ![0, 0] (v5 w) slices_S1024x512_S1024x64_0_0
def v9 (w : FVec F S1024x2824 .f32) : FVec F S1024x64 .f32 := extractStridedSlice S1024x64 ![0, 64] (v5 w) slices_S1024x512_S1024x64_0_64
def v10 (w : FVec F S1024x2824 .f32) : FVec F S1024x32 .f32 := extractStridedSlice S1024x32 ![0, 0] (v8 w) slices_S1024x64_S1024x32_0_0
def v11 (w : FVec F S1024x2824 .f32) : FVec F S1024x32 .f32 := extractStridedSlice S1024x32 ![0, 0] (v9 w) slices_S1024x64_S1024x32_0_0
def v12 (w : FVec F S1024x2824 .f32) : FVec F S1024x32 .f32 := extractStridedSlice S1024x32 ![0, 32] (v8 w) slices_S1024x64_S1024x32_0_32
def v13 (w : FVec F S1024x2824 .f32) : FVec F S1024x32 .f32 := extractStridedSlice S1024x32 ![0, 32] (v9 w) slices_S1024x64_S1024x32_0_32
def v14 (w : FVec F S1024x2824 .f32) : FVec F S1024x64 .f32 := extractStridedSlice S1024x64 ![0, 128] (v5 w) slices_S1024x512_S1024x64_0_128
def v15 (w : FVec F S1024x2824 .f32) : FVec F S1024x64 .f32 := extractStridedSlice S1024x64 ![0, 192] (v5 w) slices_S1024x512_S1024x64_0_192
def v16 (w : FVec F S1024x2824 .f32) : FVec F S1024x32 .f32 := extractStridedSlice S1024x32 ![0, 0] (v14 w) slices_S1024x64_S1024x32_0_0
def v17 (w : FVec F S1024x2824 .f32) : FVec F S1024x32 .f32 := extractStridedSlice S1024x32 ![0, 0] (v15 w) slices_S1024x64_S1024x32_0_0
def v18 (w : FVec F S1024x2824 .f32) : FVec F S1024x32 .f32 := extractStridedSlice S1024x32 ![0, 32] (v14 w) slices_S1024x64_S1024x32_0_32
def v19 (w : FVec F S1024x2824 .f32) : FVec F S1024x32 .f32 := extractStridedSlice S1024x32 ![0, 32] (v15 w) slices_S1024x64_S1024x32_0_32
def v20 (w : FVec F S1024x2824 .f32) : FVec F S1024x64 .f32 := extractStridedSlice S1024x64 ![0, 256] (v5 w) slices_S1024x512_S1024x64_0_256
def v21 (w : FVec F S1024x2824 .f32) : FVec F S1024x64 .f32 := extractStridedSlice S1024x64 ![0, 320] (v5 w) slices_S1024x512_S1024x64_0_320
def v22 (w : FVec F S1024x2824 .f32) : FVec F S1024x32 .f32 := extractStridedSlice S1024x32 ![0, 0] (v20 w) slices_S1024x64_S1024x32_0_0
def v23 (w : FVec F S1024x2824 .f32) : FVec F S1024x32 .f32 := extractStridedSlice S1024x32 ![0, 0] (v21 w) slices_S1024x64_S1024x32_0_0
def v24 (w : FVec F S1024x2824 .f32) : FVec F S1024x32 .f32 := extractStridedSlice S1024x32 ![0, 32] (v20 w) slices_S1024x64_S1024x32_0_32
def v25 (w : FVec F S1024x2824 .f32) : FVec F S1024x32 .f32 := extractStridedSlice S1024x32 ![0, 32] (v21 w) slices_S1024x64_S1024x32_0_32
def v26 (w : FVec F S1024x2824 .f32) : FVec F S1024x64 .f32 := extractStridedSlice S1024x64 ![0, 384] (v5 w) slices_S1024x512_S1024x64_0_384
def v27 (w : FVec F S1024x2824 .f32) : FVec F S1024x64 .f32 := extractStridedSlice S1024x64 ![0, 448] (v5 w) slices_S1024x512_S1024x64_0_448
def v28 (w : FVec F S1024x2824 .f32) : FVec F S1024x32 .f32 := extractStridedSlice S1024x32 ![0, 0] (v26 w) slices_S1024x64_S1024x32_0_0
def v29 (w : FVec F S1024x2824 .f32) : FVec F S1024x32 .f32 := extractStridedSlice S1024x32 ![0, 0] (v27 w) slices_S1024x64_S1024x32_0_0
def v30 (w : FVec F S1024x2824 .f32) : FVec F S1024x32 .f32 := extractStridedSlice S1024x32 ![0, 32] (v26 w) slices_S1024x64_S1024x32_0_32
def v31 (w : FVec F S1024x2824 .f32) : FVec F S1024x32 .f32 := extractStridedSlice S1024x32 ![0, 32] (v27 w) slices_S1024x64_S1024x32_0_32
def v32 (w : FVec F S1024x2824 .f32) : FVec F S1024x64 .f32 := extractStridedSlice S1024x64 ![0, 0] (v6 w) slices_S1024x128_S1024x64_0_0
def v33 (w : FVec F S1024x2824 .f32) : FVec F S1024x64 .f32 := extractStridedSlice S1024x64 ![0, 0] (v6 w) slices_S1024x128_S1024x64_0_0
def v34 (w : FVec F S1024x2824 .f32) : FVec F S1024x32 .f32 := extractStridedSlice S1024x32 ![0, 0] (v32 w) slices_S1024x64_S1024x32_0_0
def v35 (w : FVec F S1024x2824 .f32) : FVec F S1024x32 .f32 := extractStridedSlice S1024x32 ![0, 0] (v33 w) slices_S1024x64_S1024x32_0_0
def v36 (w : FVec F S1024x2824 .f32) : FVec F S1024x32 .f32 := extractStridedSlice S1024x32 ![0, 32] (v32 w) slices_S1024x64_S1024x32_0_32
def v37 (w : FVec F S1024x2824 .f32) : FVec F S1024x32 .f32 := extractStridedSlice S1024x32 ![0, 32] (v33 w) slices_S1024x64_S1024x32_0_32
def v38 (w : FVec F S1024x2824 .f32) : FVec F S1024x64 .f32 := extractStridedSlice S1024x64 ![0, 64] (v6 w) slices_S1024x128_S1024x64_0_64
def v39 (w : FVec F S1024x2824 .f32) : FVec F S1024x64 .f32 := extractStridedSlice S1024x64 ![0, 64] (v6 w) slices_S1024x128_S1024x64_0_64
def v40 (w : FVec F S1024x2824 .f32) : FVec F S1024x32 .f32 := extractStridedSlice S1024x32 ![0, 0] (v38 w) slices_S1024x64_S1024x32_0_0
def v41 (w : FVec F S1024x2824 .f32) : FVec F S1024x32 .f32 := extractStridedSlice S1024x32 ![0, 0] (v39 w) slices_S1024x64_S1024x32_0_0
def v42 (w : FVec F S1024x2824 .f32) : FVec F S1024x32 .f32 := extractStridedSlice S1024x32 ![0, 32] (v38 w) slices_S1024x64_S1024x32_0_32
def v43 (w : FVec F S1024x2824 .f32) : FVec F S1024x32 .f32 := extractStridedSlice S1024x32 ![0, 32] (v39 w) slices_S1024x64_S1024x32_0_32
def v44 (w : FVec F S1024x2824 .f32) : FVec F S1024x64 .f32 := extractStridedSlice S1024x64 ![0, 0] (v7 w) slices_S1024x128_S1024x64_0_0
def v45 (w : FVec F S1024x2824 .f32) : FVec F S1024x64 .f32 := extractStridedSlice S1024x64 ![0, 0] (v7 w) slices_S1024x128_S1024x64_0_0
def v46 (w : FVec F S1024x2824 .f32) : FVec F S1024x64 .f32 := extractStridedSlice S1024x64 ![0, 64] (v7 w) slices_S1024x128_S1024x64_0_64
def v47 (w : FVec F S1024x2824 .f32) : FVec F S1024x64 .f32 := extractStridedSlice S1024x64 ![0, 64] (v7 w) slices_S1024x128_S1024x64_0_64
def v48 (w : FVec F S1024x2824 .f32) : FVec F S1024x124 .f32 := broadcastInDim S1024x124 ![] bcast_S_S1024x124 (constant S_ .f32 0x00000000#32)
def join49 (a0 : FVec F S1024x1024 .f32) (a1 : FVec F S1024x512 .f32) (a2 : FVec F S1024x512 .f32) (a3 : FVec F S1024x32 .f32) (a4 : FVec F S1024x32 .f32) (a5 : FVec F S1024x32 .f32) (a6 : FVec F S1024x32 .f32) (a7 : FVec F S1024x32 .f32) (a8 : FVec F S1024x32 .f32) (a9 : FVec F S1024x32 .f32) (a10 : FVec F S1024x32 .f32) (a11 : FVec F S1024x32 .f32) (a12 : FVec F S1024x32 .f32) (a13 : FVec F S1024x32 .f32) (a14 : FVec F S1024x32 .f32) (a15 : FVec F S1024x32 .f32) : FVec F S1024x2464 .f32 := concatenate S1024x2464 1 [⟨S1024x1024, a0⟩, ⟨S1024x512, a1⟩, ⟨S1024x512, a2⟩, ⟨S1024x32, a3⟩, ⟨S1024x32, a4⟩, ⟨S1024x32, a5⟩, ⟨S1024x32, a6⟩, ⟨S1024x32, a7⟩, ⟨S1024x32, a8⟩, ⟨S1024x32, a9⟩, ⟨S1024x32, a10⟩, ⟨S1024x32, a11⟩, ⟨S1024x32, a12⟩, ⟨S1024x32, a13⟩, ⟨S1024x32, a14⟩, ⟨S1024x32, a15⟩] concatenates_S1024x1024_S1024x512_S1024x512_S1024x32_S1024x32_S1024x32_S1024x32_S1024x32_S1024x32_S1024x32_S1024x32_S1024x32_S1024x32_S1024x32_S1024x32_S1024x32_S1024x2464_d1
def v49 (w : FVec F S1024x2824 .f32) : FVec F S1024x2464 .f32 := join49 (v0 w) (v1 w) (v2 w) (v10 w) (v11 w) (v12 w) (v13 w) (v16 w) (v17 w) (v18 w) (v19 w) (v22 w) (v23 w) (v24 w) (v25 w) (v28 w)
def join50 (a0 : FVec F S1024x32 .f32) (a1 : FVec F S1024x32 .f32) (a2 : FVec F S1024x32 .f32) (a3 : FVec F S1024x32 .f32) (a4 : FVec F S1024x32 .f32) (a5 : FVec F S1024x32 .f32) (a6 : FVec F S1024x32 .f32) (a7 : FVec F S1024x32 .f32) (a8 : FVec F S1024x32 .f32) (a9 : FVec F S1024x32 .f32) (a10 : FVec F S1024x32 .f32) (a11 : FVec F S1024x64 .f32) (a12 : FVec F S1024x64 .f32) (a13 : FVec F S1024x64 .f32) (a14 : FVec F S1024x64 .f32) (a15 : FVec F S1024x4 .f32) : FVec F S1024x612 .f32 := concatenate S1024x612 1 [⟨S1024x32, a0⟩, ⟨S1024x32, a1⟩, ⟨S1024x32, a2⟩, ⟨S1024x32, a3⟩, ⟨S1024x32, a4⟩, ⟨S1024x32, a5⟩, ⟨S1024x32, a6⟩, ⟨S1024x32, a7⟩, ⟨S1024x32, a8⟩, ⟨S1024x32, a9⟩, ⟨S1024x32, a10⟩, ⟨S1024x64, a11⟩, ⟨S1024x64, a12⟩, ⟨S1024x64, a13⟩, ⟨S1024x64, a14⟩, ⟨S1024x4, a15⟩] concatenates_S1024x32_S1024x32_S1024x32_S1024x32_S1024x32_S1024x32_S1024x32_S1024x32_S1024x32_S1024x32_S1024x32_S1024x64_S1024x64_S1024x64_S1024x64_S1024x4_S1024x612_d1
def v50 (w : FVec F S1024x2824 .f32) : FVec F S1024x612 .f32 := join50 (v29 w) (v30 w) (v31 w) (v34 w) (v35 w) (v36 w) (v37 w) (v40 w) (v41 w) (v42 w) (v43 w) (v44 w) (v45 w) (v46 w) (v47 w) (v3 w)
def join51 (a0 : FVec F S1024x124 .f32) (a1 : FVec F S1024x4 .f32) (a2 : FVec F S1024x124 .f32) : FVec F S1024x252 .f32 := concatenate S1024x252 1 [⟨S1024x124, a0⟩, ⟨S1024x4, a1⟩, ⟨S1024x124, a2⟩] concatenates_S1024x124_S1024x4_S1024x124_S1024x252_d1
def v51 (w : FVec F S1024x2824 .f32) : FVec F S1024x252 .f32 := join51 (v48 w) (v4 w) (v48 w)
def join52 (a0 : FVec F S1024x2464 .f32) (a1 : FVec F S1024x612 .f32) (a2 : FVec F S1024x252 .f32) : FVec F S1024x3328 .f32 := concatenate S1024x3328 1 [⟨S1024x2464, a0⟩, ⟨S1024x612, a1⟩, ⟨S1024x252, a2⟩] concatenates_S1024x2464_S1024x612_S1024x252_S1024x3328_d1
def v52 (w : FVec F S1024x2824 .f32) : FVec F S1024x3328 .f32 := join52 (v49 w) (v50 w) (v51 w)

/-- The packed matrix, rounded. -/
def packed (w : FVec F S1024x2824 .f32) : FVec F S1024x3328 .bf16 := truncf .bf16 (v52 w) bitsLt_bf16_f32

variable (m : (ℓ : Loc nD τ sig) → Buf (Elt F) ℓ)

theorem result_v49 (hxs hy) (E : Valuation τ sig (Elt F)) : (StableHlo.nary (τ := τ) ![main_v0, main_v1, main_v2, main_v10, main_v11, main_v12, main_v13, main_v16, main_v17, main_v18, main_v19, main_v22, main_v23, main_v24, main_v25, main_v28] main_v49 (fun u => (concatenate S1024x2464 1 [⟨S1024x1024, (u 0 : (⟨S1024x1024, .f32⟩ : BufTy).Contents (Elt F))⟩, ⟨S1024x512, (u 1 : (⟨S1024x512, .f32⟩ : BufTy).Contents (Elt F))⟩, ⟨S1024x512, (u 2 : (⟨S1024x512, .f32⟩ : BufTy).Contents (Elt F))⟩, ⟨S1024x32, (u 3 : (⟨S1024x32, .f32⟩ : BufTy).Contents (Elt F))⟩, ⟨S1024x32, (u 4 : (⟨S1024x32, .f32⟩ : BufTy).Contents (Elt F))⟩, ⟨S1024x32, (u 5 : (⟨S1024x32, .f32⟩ : BufTy).Contents (Elt F))⟩, ⟨S1024x32, (u 6 : (⟨S1024x32, .f32⟩ : BufTy).Contents (Elt F))⟩, ⟨S1024x32, (u 7 : (⟨S1024x32, .f32⟩ : BufTy).Contents (Elt F))⟩, ⟨S1024x32, (u 8 : (⟨S1024x32, .f32⟩ : BufTy).Contents (Elt F))⟩, ⟨S1024x32, (u 9 : (⟨S1024x32, .f32⟩ : BufTy).Contents (Elt F))⟩, ⟨S1024x32, (u 10 : (⟨S1024x32, .f32⟩ : BufTy).Contents (Elt F))⟩, ⟨S1024x32, (u 11 : (⟨S1024x32, .f32⟩ : BufTy).Contents (Elt F))⟩, ⟨S1024x32, (u 12 : (⟨S1024x32, .f32⟩ : BufTy).Contents (Elt F))⟩, ⟨S1024x32, (u 13 : (⟨S1024x32, .f32⟩ : BufTy).Contents (Elt F))⟩, ⟨S1024x32, (u 14 : (⟨S1024x32, .f32⟩ : BufTy).Contents (Elt F))⟩, ⟨S1024x32, (u 15 : (⟨S1024x32, .f32⟩ : BufTy).Contents (Elt F))⟩] concatenates_S1024x1024_S1024x512_S1024x512_S1024x32_S1024x32_S1024x32_S1024x32_S1024x32_S1024x32_S1024x32_S1024x32_S1024x32_S1024x32_S1024x32_S1024x32_S1024x32_S1024x2464_d1 : (⟨S1024x2464, .f32⟩ : BufTy).Contents (Elt F))) hxs hy).result E (no_index (Proc.devRef .tc main_v49)) = join49 (E (Proc.devRef .tc main_v0)) (E (Proc.devRef .tc main_v1)) (E (Proc.devRef .tc main_v2)) (E (Proc.devRef .tc main_v10)) (E (Proc.devRef .tc main_v11)) (E (Proc.devRef .tc main_v12)) (E (Proc.devRef .tc main_v13)) (E (Proc.devRef .tc main_v16)) (E (Proc.devRef .tc main_v17)) (E (Proc.devRef .tc main_v18)) (E (Proc.devRef .tc main_v19)) (E (Proc.devRef .tc main_v22)) (E (Proc.devRef .tc main_v23)) (E (Proc.devRef .tc main_v24)) (E (Proc.devRef .tc main_v25)) (E (Proc.devRef .tc main_v28)) := StableHlo.nary_result _ _ _ _ _ _
theorem result_v50 (hxs hy) (E : Valuation τ sig (Elt F)) : (StableHlo.nary (τ := τ) ![main_v29, main_v30, main_v31, main_v34, main_v35, main_v36, main_v37, main_v40, main_v41, main_v42, main_v43, main_v44, main_v45, main_v46, main_v47, main_v3] main_v50 (fun u => (concatenate S1024x612 1 [⟨S1024x32, (u 0 : (⟨S1024x32, .f32⟩ : BufTy).Contents (Elt F))⟩, ⟨S1024x32, (u 1 : (⟨S1024x32, .f32⟩ : BufTy).Contents (Elt F))⟩, ⟨S1024x32, (u 2 : (⟨S1024x32, .f32⟩ : BufTy).Contents (Elt F))⟩, ⟨S1024x32, (u 3 : (⟨S1024x32, .f32⟩ : BufTy).Contents (Elt F))⟩, ⟨S1024x32, (u 4 : (⟨S1024x32, .f32⟩ : BufTy).Contents (Elt F))⟩, ⟨S1024x32, (u 5 : (⟨S1024x32, .f32⟩ : BufTy).Contents (Elt F))⟩, ⟨S1024x32, (u 6 : (⟨S1024x32, .f32⟩ : BufTy).Contents (Elt F))⟩, ⟨S1024x32, (u 7 : (⟨S1024x32, .f32⟩ : BufTy).Contents (Elt F))⟩, ⟨S1024x32, (u 8 : (⟨S1024x32, .f32⟩ : BufTy).Contents (Elt F))⟩, ⟨S1024x32, (u 9 : (⟨S1024x32, .f32⟩ : BufTy).Contents (Elt F))⟩, ⟨S1024x32, (u 10 : (⟨S1024x32, .f32⟩ : BufTy).Contents (Elt F))⟩, ⟨S1024x64, (u 11 : (⟨S1024x64, .f32⟩ : BufTy).Contents (Elt F))⟩, ⟨S1024x64, (u 12 : (⟨S1024x64, .f32⟩ : BufTy).Contents (Elt F))⟩, ⟨S1024x64, (u 13 : (⟨S1024x64, .f32⟩ : BufTy).Contents (Elt F))⟩, ⟨S1024x64, (u 14 : (⟨S1024x64, .f32⟩ : BufTy).Contents (Elt F))⟩, ⟨S1024x4, (u 15 : (⟨S1024x4, .f32⟩ : BufTy).Contents (Elt F))⟩] concatenates_S1024x32_S1024x32_S1024x32_S1024x32_S1024x32_S1024x32_S1024x32_S1024x32_S1024x32_S1024x32_S1024x32_S1024x64_S1024x64_S1024x64_S1024x64_S1024x4_S1024x612_d1 : (⟨S1024x612, .f32⟩ : BufTy).Contents (Elt F))) hxs hy).result E (no_index (Proc.devRef .tc main_v50)) = join50 (E (Proc.devRef .tc main_v29)) (E (Proc.devRef .tc main_v30)) (E (Proc.devRef .tc main_v31)) (E (Proc.devRef .tc main_v34)) (E (Proc.devRef .tc main_v35)) (E (Proc.devRef .tc main_v36)) (E (Proc.devRef .tc main_v37)) (E (Proc.devRef .tc main_v40)) (E (Proc.devRef .tc main_v41)) (E (Proc.devRef .tc main_v42)) (E (Proc.devRef .tc main_v43)) (E (Proc.devRef .tc main_v44)) (E (Proc.devRef .tc main_v45)) (E (Proc.devRef .tc main_v46)) (E (Proc.devRef .tc main_v47)) (E (Proc.devRef .tc main_v3)) := StableHlo.nary_result _ _ _ _ _ _
theorem result_v51 (hxs hy) (E : Valuation τ sig (Elt F)) : (StableHlo.nary (τ := τ) ![main_v48, main_v4, main_v48] main_v51 (fun u => (concatenate S1024x252 1 [⟨S1024x124, (u 0 : (⟨S1024x124, .f32⟩ : BufTy).Contents (Elt F))⟩, ⟨S1024x4, (u 1 : (⟨S1024x4, .f32⟩ : BufTy).Contents (Elt F))⟩, ⟨S1024x124, (u 2 : (⟨S1024x124, .f32⟩ : BufTy).Contents (Elt F))⟩] concatenates_S1024x124_S1024x4_S1024x124_S1024x252_d1 : (⟨S1024x252, .f32⟩ : BufTy).Contents (Elt F))) hxs hy).result E (no_index (Proc.devRef .tc main_v51)) = join51 (E (Proc.devRef .tc main_v48)) (E (Proc.devRef .tc main_v4)) (E (Proc.devRef .tc main_v48)) := StableHlo.nary_result _ _ _ _ _ _
theorem result_v52 (hxs hy) (E : Valuation τ sig (Elt F)) : (StableHlo.nary (τ := τ) ![main_v49, main_v50, main_v51] main_v52 (fun u => (concatenate S1024x3328 1 [⟨S1024x2464, (u 0 : (⟨S1024x2464, .f32⟩ : BufTy).Contents (Elt F))⟩, ⟨S1024x612, (u 1 : (⟨S1024x612, .f32⟩ : BufTy).Contents (Elt F))⟩, ⟨S1024x252, (u 2 : (⟨S1024x252, .f32⟩ : BufTy).Contents (Elt F))⟩] concatenates_S1024x2464_S1024x612_S1024x252_S1024x3328_d1 : (⟨S1024x3328, .f32⟩ : BufTy).Contents (Elt F))) hxs hy).result E (no_index (Proc.devRef .tc main_v52)) = join52 (E (Proc.devRef .tc main_v49)) (E (Proc.devRef .tc main_v50)) (E (Proc.devRef .tc main_v51)) := StableHlo.nary_result _ _ _ _ _ _

theorem V_v53 (c : Dev nD) : V m c main_v53 = packed (m ((c.tc : Thread nD τ).loc main_arg1)) := by
  unfold V
  simp (disch := decide) only [StableHlo.after_cons, StableHlo.after_nil, StableHlo.nullary_result', StableHlo.unary_result', StableHlo.nullary_result_ne', StableHlo.unary_result_ne', StableHlo.nary_result_ne', result_v49, result_v50, result_v51, result_v52, packed, v0, v1, v2, v3, v4, v5, v6, v7, v8, v9, v10, v11, v12, v13, v14, v15, v16, v17, v18, v19, v20, v21, v22, v23, v24, v25, v26, v27, v28, v29, v30, v31, v32, v33, v34, v35, v36, v37, v38, v39, v40, v41, v42, v43, v44, v45, v46, v47, v48, v49, v50, v51, v52]

theorem join52_apply (a0 : FVec Ideal S1024x2464 .f32) (a1 : FVec Ideal S1024x612 .f32) (a2 : FVec Ideal S1024x252 .f32) (k : Fin 1024) (j : Fin 2464) :
    join52 a0 a1 a2 (ix2 k ⟨j.val, by have := j.2; omega⟩) = a0 (ix2 k j) := by
  unfold join52
  exact concatenate_apply_piece (t := S1024x3328) 1 [⟨S1024x2464, a0⟩, ⟨S1024x612, a1⟩, ⟨S1024x252, a2⟩] _ _ 0 (by show 0 < 3; omega) S1024x2464 a0 rfl rfl 0 rfl (ix2 k j) (fun b hb => by
    match b with
    | ⟨0, _⟩ => rfl
    | ⟨1, _⟩ => exact absurd rfl hb) (Nat.zero_add _)

theorem join49_values (a0 : FVec Ideal S1024x1024 .f32) (a1 a2 : FVec Ideal S1024x512 .f32) (a3 a4 a5 a6 a7 a8 a9 a10 a11 a12 a13 a14 a15 : FVec Ideal S1024x32 .f32) (k : Fin 1024) (j : Fin 512) :
    join49 a0 a1 a2 a3 a4 a5 a6 a7 a8 a9 a10 a11 a12 a13 a14 a15 (ix2 k ⟨1024 + j.val, by have := j.2; omega⟩) = a1 (ix2 k j) := by
  unfold join49
  exact concatenate_apply_piece (t := S1024x2464) 1 [⟨S1024x1024, a0⟩, ⟨S1024x512, a1⟩, ⟨S1024x512, a2⟩, ⟨S1024x32, a3⟩, ⟨S1024x32, a4⟩, ⟨S1024x32, a5⟩, ⟨S1024x32, a6⟩, ⟨S1024x32, a7⟩, ⟨S1024x32, a8⟩, ⟨S1024x32, a9⟩, ⟨S1024x32, a10⟩, ⟨S1024x32, a11⟩, ⟨S1024x32, a12⟩, ⟨S1024x32, a13⟩, ⟨S1024x32, a14⟩, ⟨S1024x32, a15⟩] _ _ 1 (by show 1 < 16; omega) S1024x512 a1 rfl rfl 1024 rfl (ix2 k j) (fun b hb => by
    match b with
    | ⟨0, _⟩ => rfl
    | ⟨1, _⟩ => exact absurd rfl hb) rfl

theorem join49_gate (a0 : FVec Ideal S1024x1024 .f32) (a1 a2 : FVec Ideal S1024x512 .f32) (a3 a4 a5 a6 a7 a8 a9 a10 a11 a12 a13 a14 a15 : FVec Ideal S1024x32 .f32) (k : Fin 1024) (j : Fin 512) :
    join49 a0 a1 a2 a3 a4 a5 a6 a7 a8 a9 a10 a11 a12 a13 a14 a15 (ix2 k ⟨1536 + j.val, by have := j.2; omega⟩) = a2 (ix2 k j) := by
  unfold join49
  exact concatenate_apply_piece (t := S1024x2464) 1 [⟨S1024x1024, a0⟩, ⟨S1024x512, a1⟩, ⟨S1024x512, a2⟩, ⟨S1024x32, a3⟩, ⟨S1024x32, a4⟩, ⟨S1024x32, a5⟩, ⟨S1024x32, a6⟩, ⟨S1024x32, a7⟩, ⟨S1024x32, a8⟩, ⟨S1024x32, a9⟩, ⟨S1024x32, a10⟩, ⟨S1024x32, a11⟩, ⟨S1024x32, a12⟩, ⟨S1024x32, a13⟩, ⟨S1024x32, a14⟩, ⟨S1024x32, a15⟩] _ _ 2 (by show 2 < 16; omega) S1024x512 a2 rfl rfl 1536 rfl (ix2 k j) (fun b hb => by
    match b with
    | ⟨0, _⟩ => rfl
    | ⟨1, _⟩ => exact absurd rfl hb) rfl

/-- A column of the memory's values is the given matrix's. -/
theorem packed_values (w : FVec Ideal S1024x2824 .f32) (k : Fin 1024) (j : Fin 512) :
    packed w (ix2 k ⟨1024 + j.val, by have := j.2; omega⟩) = w (ix2 k ⟨1024 + j.val, by have := j.2; omega⟩) :=
  (join52_apply _ _ _ k ⟨1024 + j.val, by have := j.2; omega⟩).trans ((join49_values _ _ _ _ _ _ _ _ _ _ _ _ _ _ _ _ k j).trans (by pointwise [v1]))

/-- A column of the gate is the given matrix's. -/
theorem packed_gate (w : FVec Ideal S1024x2824 .f32) (k : Fin 1024) (j : Fin 512) :
    packed w (ix2 k ⟨1536 + j.val, by have := j.2; omega⟩) = w (ix2 k ⟨1536 + j.val, by have := j.2; omega⟩) :=
  (join52_apply _ _ _ k ⟨1536 + j.val, by have := j.2; omega⟩).trans ((join49_gate _ _ _ _ _ _ _ _ _ _ _ _ _ _ _ _ k j).trans (by pointwise [v2]))

end Cert.Kernel5Ideal.Hand

end
-- ==== Proof.Inputs.lean ====
module

public import proofs.«01_k».proof.Proof.Gen.Reference5Ideal.Run
public import Idealize.ShloMosaic.Lib.Pointwise

@[expose] public section

set_option maxRecDepth 16384

noncomputable section

namespace Cert.Reference5Ideal.Hand

open Cert.Reference5Ideal Cert.Reference5Ideal.Gen
open Idealize.ShloMosaic Idealize.ShloMosaic.TcCoe

/-! The input projection's reference, read at an entry. -/

/-- The tokens times the matrix. -/
def product (x : FVec Ideal S32768x1024 .f32) (w : FVec Ideal S1024x2824 .f32) : FVec Ideal S32768x2824 .f32 :=
  Host.dotGeneral dot_S32768x1024_S1024x2824_S32768x2824_1_0_0_1_n_n none x w

/-- A row times a column. -/
def along (a b : Fin 1024 → Ideal .f32) : Ideal .f32 := ∑ k : Fin 1024, (a k : EReal) * b k

/-- The logistic function. -/
def squash (a : Ideal .f32) : Ideal .f32 := Ideal.div 1 (1 + Ideal.exp (-a))

theorem product_apply (x : FVec Ideal S32768x1024 .f32) (w : FVec Ideal S1024x2824 .f32) (n : Fin 32768) (j : Fin 2824) :
    product x w (ix2 n j) = along (fun k => x (ix2 n k)) fun k => w (ix2 k j) := by
  unfold product along
  pointwise

/-- The matrix memory's values. -/
def values (P : FVec Ideal S32768x2824 .f32) : FVec Ideal S32768x512 .bf16 :=
  truncf .bf16 (extractStridedSlice S32768x512 ![0, 1024] P slices_S32768x2824_S32768x512_0_1024) bitsLt_bf16_f32

/-- The output gate. -/
def gate (P : FVec Ideal S32768x2824 .f32) : FVec Ideal S32768x512 .bf16 :=
  truncf .bf16 (Host.divf (broadcastInDim S32768x512 ![] bcast_S_S32768x512 (constant S_ .f32 0x3F800000#32))
    (addf (broadcastInDim S32768x512 ![] bcast_S_S32768x512 (constant S_ .f32 0x3F800000#32))
      (Host.exp (Host.negf (extractStridedSlice S32768x512 ![0, 1536] P slices_S32768x2824_S32768x512_0_1536))))) bitsLt_bf16_f32

theorem values_apply (P : FVec Ideal S32768x2824 .f32) (n : Fin 32768) (j : Fin 512) :
    values P (ix2 n j) = P (ix2 n ⟨1024 + j.val, by have := j.2; omega⟩) := by
  pointwise [values]

theorem gate_apply (P : FVec Ideal S32768x2824 .f32) (n : Fin 32768) (j : Fin 512) :
    gate P (ix2 n j) = squash (P (ix2 n ⟨1536 + j.val, by have := j.2; omega⟩)) := by
  unfold squash
  pointwise [gate]

end Cert.Reference5Ideal.Hand

end
-- ==== Proof.Values.lean ====
module

public import proofs.«01_k».proof.Proof.Inproj
public import proofs.«01_k».proof.Proof.Packed
public import proofs.«01_k».proof.Proof.Inputs
public import Idealize.ShloMosaic.Lib.Pipeline.ValueKit.Geometry

@[expose] public section

set_option maxRecDepth 65536

noncomputable section

namespace Cert.Kernel5Ideal.Hand

open Cert.Kernel5Ideal Cert.Kernel5Ideal.Gen
open Idealize.ShloMosaic Idealize.ShloMosaic.TcCoe

/-! The input projection's values and gate, over the whole run. -/

section
variable {F : FTy → Type} [FloatOps F]
variable (m : (ℓ : Loc nD τ sig) → Buf (Elt F) ℓ) (ρ : Dev nD → PrngReg)

/-- The tokens of a grid point. -/
def tokens (c : Dev nD) (t : Fin grid0.N) : Vec F S1024x1024 .f32 := iblk m c 0 t

/-- The packed matrix, as every grid point sees it. -/
def matrix (c : Dev nD) (t : Fin grid0.N) : Vec F S1024x3328 .bf16 := iblk m c 1 t

theorem after_values (c : Dev nD) (t : Fin grid0.N) : (dats m 0 c).after 6 t = valuesOf (tokens m c t) (matrix m c t) := by
  refine (after0_6 m c t).trans ?_
  by_cases h0 : t.val % 8 = 0
  · rw [outsAt0_A m c t h0]
    dsimp only
    exact values_first ..
  · rw [outsAt0_B m c t h0]
    dsimp only
    exact values_later ..

theorem after_gate (c : Dev nD) (t : Fin grid0.N) : (dats m 0 c).after 7 t = gateOf (tokens m c t) (matrix m c t) := by
  refine (after0_7 m c t).trans ?_
  by_cases h0 : t.val % 8 = 0
  · rw [outsAt0_A m c t h0]
    dsimp only
    exact gate_first ..
  · rw [outsAt0_B m c t h0]
    dsimp only
    exact gate_later ..

/-- The block a row of a result is in. -/
def blockOf (y : S32768x512.Idx) : Fin grid0.N := ⟨(y 0).val / 1024, by
  have : (y 0).val < 32768 := (y 0).2
  have : grid0.N = 32 := N_0
  omega⟩

/-- The result whose blocks are given. -/
def whole (b : Fin grid0.N → Vec F S1024x512 .bf16) : S32768x512.Idx → F .bf16 := fun y =>
  b (blockOf y) (ix2 ⟨(y 0).val % 1024, Nat.mod_lt _ (by omega)⟩ (y 1))

theorem word_of (i : grid0.Coords) : (BitVec.ofNat 32 (i 0).val).toNat = (i 0).val := by
  have : (i 0).val < 32 := (i 0).2
  rw [BitVec.toNat_ofNat, Nat.mod_eq_of_lt (by omega)]

theorem coords0 : ∀ t : Fin grid0.N, (grid0.coords t 0).val = t.val := by decide +kernel

theorem index0_0 (t : Fin grid0.N) : (cfg0.win 0).index t (0 : Fin 2) = t.val := (word_of (grid0.coords t)).trans (coords0 t)
theorem index6_0 (t : Fin grid0.N) : (cfg0.win 6).index t (0 : Fin 2) = t.val := (word_of (grid0.coords t)).trans (coords0 t)
theorem index7_0 (t : Fin grid0.N) : (cfg0.win 7).index t (0 : Fin 2) = t.val := (word_of (grid0.coords t)).trans (coords0 t)
theorem index0_1 (t : Fin grid0.N) : (cfg0.win 0).index t (1 : Fin 2) = 0 := rfl
theorem index1_0 (t : Fin grid0.N) : (cfg0.win 1).index t (0 : Fin 2) = 0 := rfl
theorem index1_1 (t : Fin grid0.N) : (cfg0.win 1).index t (1 : Fin 2) = 0 := rfl
theorem index6_1 (t : Fin grid0.N) : (cfg0.win 6).index t (1 : Fin 2) = 0 := rfl
theorem index7_1 (t : Fin grid0.N) : (cfg0.win 7).index t (1 : Fin 2) = 0 := rfl
theorem nblk6_0 : (cfg0.win 6).nblk (0 : Fin 2) = 32 := rfl
theorem nblk6_1 : (cfg0.win 6).nblk (1 : Fin 2) = 1 := rfl
theorem nblk7_0 : (cfg0.win 7).nblk (0 : Fin 2) = 32 := rfl
theorem nblk7_1 : (cfg0.win 7).nblk (1 : Fin 2) = 1 := rfl

theorem covers6 : (cfg0.win 6).Covers := by
  have hpos : ∀ a : Fin 2, 0 < S1024x512.size a := by decide
  refine ⟨hpos, fun β => ?_⟩
  have h0 : (β (0 : Fin 2)).val < 32 := (β (0 : Fin 2)).2.trans_eq nblk6_0
  have h1 : (β (1 : Fin 2)).val = 0 := Nat.lt_one_iff.1 ((β (1 : Fin 2)).2.trans_eq nblk6_1)
  refine ⟨⟨(β (0 : Fin 2)).val, h0.trans_eq N_0.symm⟩, flush0_6 _, fun a => ?_⟩
  match a with
  | ⟨0, _⟩ => exact ⟨index6_0 _, .inl rfl⟩
  | ⟨1, _⟩ => exact ⟨(index6_1 _).trans h1.symm, .inl rfl⟩

theorem covers7 : (cfg0.win 7).Covers := by
  have hpos : ∀ a : Fin 2, 0 < S1024x512.size a := by decide
  refine ⟨hpos, fun β => ?_⟩
  have h0 : (β (0 : Fin 2)).val < 32 := (β (0 : Fin 2)).2.trans_eq nblk7_0
  have h1 : (β (1 : Fin 2)).val = 0 := Nat.lt_one_iff.1 ((β (1 : Fin 2)).2.trans_eq nblk7_1)
  refine ⟨⟨(β (0 : Fin 2)).val, h0.trans_eq N_0.symm⟩, flush0_7 _, fun a => ?_⟩
  match a with
  | ⟨0, _⟩ => exact ⟨index7_0 _, .inl rfl⟩
  | ⟨1, _⟩ => exact ⟨(index7_1 _).trans h1.symm, .inl rfl⟩

theorem emb6_0 (t : Fin grid0.N) (y : S1024x512.Idx) : (((cfg0.win 6).blk t).view.emb y (0 : Fin 2)).val = 1024 * t.val + (y 0).val := by
  show (cfg0.win 6).index t (0 : Fin 2) * 1024 + 1 * (y 0).val = _
  rw [index6_0]; omega
theorem emb6_1 (t : Fin grid0.N) (y : S1024x512.Idx) : (((cfg0.win 6).blk t).view.emb y (1 : Fin 2)).val = (y 1).val := by
  show (cfg0.win 6).index t (1 : Fin 2) * 512 + 1 * (y 1).val = _
  rw [index6_1]; omega
theorem emb7_0 (t : Fin grid0.N) (y : S1024x512.Idx) : (((cfg0.win 7).blk t).view.emb y (0 : Fin 2)).val = 1024 * t.val + (y 0).val := by
  show (cfg0.win 7).index t (0 : Fin 2) * 1024 + 1 * (y 0).val = _
  rw [index7_0]; omega
theorem emb7_1 (t : Fin grid0.N) (y : S1024x512.Idx) : (((cfg0.win 7).blk t).view.emb y (1 : Fin 2)).val = (y 1).val := by
  show (cfg0.win 7).index t (1 : Fin 2) * 512 + 1 * (y 1).val = _
  rw [index7_1]; omega

theorem whole_at (b : Fin grid0.N → Vec F S1024x512 .bf16) (t : Fin grid0.N) (y : S1024x512.Idx) (z : S32768x512.Idx) (h0 : (z 0).val = 1024 * t.val + (y 0).val) (h1 : (z 1).val = (y 1).val) :
    b t y = whole b z := by
  have hy0 : (y 0).val < 1024 := (y 0).2
  have et : blockOf z = t := by
    refine Fin.ext ?_
    show (z 0).val / 1024 = _
    rw [h0]; omega
  unfold whole
  rw [et]
  refine congrArg (b t) (funext fun a => Fin.ext ?_)
  match a with
  | ⟨0, _⟩ =>
    show (y 0).val = (z 0).val % 1024
    rw [h0]; omega
  | ⟨1, _⟩ => exact h1.symm

theorem out_values (c : Dev nD) : (dats m 0 c).arrAt 6 cfg0.N = whole fun t => valuesOf (tokens m c t) (matrix m c t) :=
  (dats m 0 c).arrAt_eq_of_covers 6 _ covers6 fun t hf y => (congrFun (after_values m c t) y).trans (whole_at (fun t => valuesOf (tokens m c t) (matrix m c t)) t y _ (emb6_0 t y) (emb6_1 t y))

theorem out_gate (c : Dev nD) : (dats m 0 c).arrAt 7 cfg0.N = whole fun t => gateOf (tokens m c t) (matrix m c t) :=
  (dats m 0 c).arrAt_eq_of_covers 7 _ covers7 fun t hf y => (congrFun (after_gate m c t) y).trans (whole_at (fun t => gateOf (tokens m c t) (matrix m c t)) t y _ (emb7_0 t y) (emb7_1 t y))

/-- Every run ends with the arguments as they were, the values and the gate at their blocks, and every counter at zero. -/
theorem run_post :
    θ_run defs (onTc (τ := τ) (main (F := F))) (s₀ m ρ)
      (fun r => (∀ c : Dev nD, r.2.mem ((c.tc : Thread nD τ).loc main_v55_2) = (whole fun t => valuesOf (tokens m c t) (matrix m c t))
        ∧ r.2.mem ((c.tc : Thread nD τ).loc main_v55_3) = (whole fun t => gateOf (tokens m c t) (matrix m c t))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) := by
  refine (θ_run defs _ _).mono (fun r h => ?_) (run_main_quiescent m ρ)
  obtain ⟨hF, hs⟩ := h
  refine ⟨fun c => ⟨?_, ?_, ?_, ?_, ?_, ?_⟩, hs⟩
  · exact ((hF c).1 6).trans (out_values m c)
  · exact ((hF c).1 7).trans (out_gate m c)
  · exact ((hF c).1 0).trans (((dats m 0 c).arrAt_in 0 rfl _).trans ((A_eq m c 0).trans (V_main_arg0 m c)))
  · exact ((hF c).2 main_arg1 (Pipeline.mem_restRefs_of main_arg1 (by decide) (by decide))).trans (V_main_arg1 m c)
  · exact ((hF c).1 2).trans (((dats m 0 c).arrAt_in 2 rfl _).trans ((A_eq m c 2).trans (V_main_arg2 m c)))
  · exact ((hF c).2 main_arg3 (Pipeline.mem_restRefs_of main_arg3 (by decide) (by decide))).trans (V_main_arg3 m c)

end

/-! ## Over the extended reals -/

open Cert.Reference5Ideal.Hand (product along squash values gate product_apply values_apply gate_apply)

theorem first_half_apply (X : FVec Ideal S1024x1024 .f32) (w : FVec Ideal S1024x256 .bf16) (a : Fin 1024) (d : Fin 256) :
    k0_pay53 (F := Ideal) (k0_pay2 (F := Ideal) X) w (ix2 a d) = along (fun k => X (ix2 a k)) fun k => w (ix2 k d) := by
  unfold along
  pointwise [k0_pay53, k0_pay2]

theorem second_half_apply (X : FVec Ideal S1024x1024 .f32) (w : FVec Ideal S1024x256 .bf16) (a : Fin 1024) (d : Fin 256) :
    k0_pay71 (F := Ideal) (k0_pay2 (F := Ideal) X) w (ix2 a d) = along (fun k => X (ix2 a k)) fun k => w (ix2 k d) := by
  unfold along
  pointwise [k0_pay71, k0_pay2]

theorem gate_product_apply (X : FVec Ideal S1024x1024 .f32) (w : FVec Ideal S1024x512 .bf16) (a : Fin 1024) (d : Fin 512) :
    k0_pay72 (F := Ideal) (k0_pay2 (F := Ideal) X) w (ix2 a d) = along (fun k => X (ix2 a k)) fun k => w (ix2 k d) := by
  unfold along
  pointwise [k0_pay72, k0_pay2]

theorem logistic_apply (p : FVec Ideal S1024x512 .f32) (a : Fin 1024) (d : Fin 512) :
    k0_pay74 (F := Ideal) p k0_pay73 (ix2 a d) = squash (p (ix2 a d)) := by
  unfold squash
  pointwise [k0_pay74, k0_pay73]
  exact congrArg (fun q : EReal => Ideal.div 1 (1 + Ideal.exp q)) (zero_sub (p (ix2 a d) : EReal))

theorem valuesOf_apply (X : FVec Ideal S1024x1024 .f32) (W : FVec Ideal S1024x3328 .bf16) (a : Fin 1024) (d : Fin 512) :
    valuesOf (F := Ideal) X W (ix2 a d) = along (fun k => X (ix2 a k)) fun k => W (ix2 k ⟨1024 + d.val, by have := d.2; omega⟩) := by
  have hd : d.val < 512 := d.2
  unfold valuesOf
  show (if h : d.val < 256 then k0_pay53 (F := Ideal) (k0_pay2 (F := Ideal) X) (cols256 (F := Ideal) 1024 _ W) (ix2 a ⟨d.val, h⟩)
    else k0_pay71 (F := Ideal) (k0_pay2 (F := Ideal) X) (cols256 (F := Ideal) 1280 _ W) (ix2 a ⟨d.val - 256, _⟩)) = _
  split_ifs with h
  · exact first_half_apply X _ a _
  · refine (second_half_apply X _ a _).trans (congrArg (along _) (funext fun k => congrArg (fun j => W (ix2 k j)) (Fin.ext ?_)))
    show 1280 + (d.val - 256) = 1024 + d.val
    omega

theorem gateOf_apply (X : FVec Ideal S1024x1024 .f32) (W : FVec Ideal S1024x3328 .bf16) (a : Fin 1024) (d : Fin 512) :
    gateOf (F := Ideal) X W (ix2 a d) = squash (along (fun k => X (ix2 a k)) fun k => W (ix2 k ⟨1536 + d.val, by have := d.2; omega⟩)) := by
  unfold gateOf
  rw [logistic_apply, gate_product_apply]
  rfl

variable (m : (ℓ : Loc nD τ sig) → Buf (Elt Ideal) ℓ)

theorem tokens_apply (c : Dev nD) (t : Fin grid0.N) (a k : Fin 1024) :
    tokens m c t (ix2 a k) = (m ((c.tc : Thread nD τ).loc main_arg0) : FVec Ideal S32768x1024 .f32)
      (ix2 ⟨1024 * t.val + a.val, by have := t.2; have := a.2; have : grid0.N = 32 := N_0; omega⟩ k) := by
  refine Eq.trans ?_ (congrFun (V_main_arg0 m c) _)
  refine congrArg (V m c main_arg0) (funext fun b => Fin.ext ?_)
  match b with
  | ⟨0, _⟩ =>
    show (cfg0.win 0).index t (0 : Fin 2) * 1024 + 1 * a.val = 1024 * t.val + a.val
    rw [index0_0]; omega
  | ⟨1, _⟩ =>
    show (cfg0.win 0).index t (1 : Fin 2) * 1024 + 1 * k.val = k.val
    rw [index0_1]; omega

theorem matrix_eq (c : Dev nD) (t : Fin grid0.N) :
    matrix m c t = packed (F := Ideal) (m ((c.tc : Thread nD τ).loc main_arg1)) := by
  refine Eq.trans ?_ (V_v53 m c)
  funext y
  refine congrArg (V m c main_v53) (funext fun b => Fin.ext ?_)
  match b with
  | ⟨0, _⟩ =>
    show (cfg0.win 1).index t (0 : Fin 2) * 1024 + 1 * (y 0).val = (y 0).val
    rw [index1_0]; omega
  | ⟨1, _⟩ =>
    show (cfg0.win 1).index t (1 : Fin 2) * 3328 + 1 * (y 1).val = (y 1).val
    rw [index1_1]; omega

theorem row_eq (c : Dev nD) (n : Fin 32768) (d : Fin 512) (k : Fin 1024) :
    tokens m c (blockOf (ix2 n d)) (ix2 ⟨n.val % 1024, Nat.mod_lt _ (by omega)⟩ k)
      = (m ((c.tc : Thread nD τ).loc main_arg0) : FVec Ideal S32768x1024 .f32) (ix2 n k) := by
  refine (tokens_apply m c _ _ k).trans (congrArg (fun i => (m ((c.tc : Thread nD τ).loc main_arg0) : FVec Ideal S32768x1024 .f32) (ix2 i k)) (Fin.ext ?_))
  show 1024 * (n.val / 1024) + n.val % 1024 = n.val
  omega

/-- The values left are the reference's. -/
theorem values_eq (c : Dev nD) :
    whole (F := Ideal) (fun t => valuesOf (tokens m c t) (matrix m c t))
      = values (product (m ((c.tc : Thread nD τ).loc main_arg0)) (m ((c.tc : Thread nD τ).loc main_arg1))) := by
  funext y
  obtain ⟨n, d, rfl⟩ : ∃ (n : Fin 32768) (d : Fin 512), y = ix2 n d := ⟨y 0, y 1, by
    funext b
    match b with
    | ⟨0, _⟩ => rfl
    | ⟨1, _⟩ => rfl⟩
  rw [values_apply, product_apply]
  refine (valuesOf_apply _ _ _ d).trans ?_
  refine congrArg₂ along (funext fun k => row_eq m c n d k) (funext fun k => ?_)
  rw [matrix_eq]
  exact packed_values _ k d

/-- The gate left is the reference's. -/
theorem gate_eq (c : Dev nD) :
    whole (F := Ideal) (fun t => gateOf (tokens m c t) (matrix m c t))
      = gate (product (m ((c.tc : Thread nD τ).loc main_arg0)) (m ((c.tc : Thread nD τ).loc main_arg1))) := by
  funext y
  obtain ⟨n, d, rfl⟩ : ∃ (n : Fin 32768) (d : Fin 512), y = ix2 n d := ⟨y 0, y 1, by
    funext b
    match b with
    | ⟨0, _⟩ => rfl
    | ⟨1, _⟩ => rfl⟩
  rw [gate_apply, product_apply]
  refine (gateOf_apply _ _ _ d).trans (congrArg squash ?_)
  refine congrArg₂ along (funext fun k => row_eq m c n d k) (funext fun k => ?_)
  rw [matrix_eq]
  exact packed_gate _ k d

end Cert.Kernel5Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Loops
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_routed
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_tiled
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Loops
public import proofs.«01_k».proof.Proof.Gen.Reference3Ideal
public import proofs.«01_k».proof.Proof.Gen.Reference3Ideal.Run
public import proofs.«01_k».proof.Proof.Gen.Pre_in_slots
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Frame
public import proofs.«01_k».proof.Proof.Gen.Reference5Ideal
public import proofs.«01_k».proof.Proof.Gen.Reference5Ideal.Run
public import proofs.«01_k».proof.Proof.Whole
public import proofs.«01_k».proof.Proof.Ref
public import proofs.«01_k».proof.Proof.Value
public import proofs.«01_k».proof.Proof.Slots
public import proofs.«01_k».proof.Proof.Layer
public import proofs.«01_k».proof.Proof.First
public import Idealize.ShloMosaic.Lib.Quiescent
public import Idealize.ShloMosaic.Adequacy
public import Idealize.ShloMosaic.Init
public import proofs.«01_k».proof.Proof.Values

@[expose] public section

noncomputable section

namespace Cert.Proof

open Idealize.ShloMosaic Idealize.ShloMosaic.TcCoe Idealize.SL.Sem
open Cert.Pre_routed (Routed slotOf rowsOf routed_of)
open Cert.KernelIdeal.Hand (pos rws xs run_post)
open Cert.KernelIdeal.Words (out)

/-- The precondition of the idealized call, decoded. -/
theorem routedI (m : (ℓ : Loc Cert.KernelIdeal.nD Cert.KernelIdeal.τ Cert.KernelIdeal.sig) → Buf (Elt Ideal) ℓ) (h : Cert.Pre_KernelIdeal m) (c : Dev Cert.KernelIdeal.nD) :
    Routed (slotOf (pos (F := Ideal) m c)) (rowsOf (rws (F := Ideal) m c)) :=
  routed_of (F := Ideal) _ _ (xs (F := Ideal) m c) (h c)

/-- The precondition of the call, decoded. -/
theorem routedB (m : (ℓ : Loc Cert.Kernel.nD Cert.Kernel.τ Cert.Kernel.sig) → Buf (Elt Bits) ℓ) (h : Cert.Pre_Kernel m) (c : Dev Cert.Kernel.nD) :
    Routed (slotOf (pos (F := Bits) m c)) (rowsOf (rws (F := Bits) m c)) :=
  routed_of (F := Bits) _ _ (xs (F := Bits) m c) (h c)

/-- The idealized call ends with its arguments as they were and every counter at zero. -/
theorem frame_kernel_ideal : Cert.quiescent_KernelIdeal := fun m ρ h =>
  (θ_run Cert.KernelIdeal.defs _ _).mono (fun _ r => ⟨fun c => (r.1 c).2, r.2⟩) (run_post (F := Ideal) m ρ (routedI m h))

/-- The call's run in the words' text of the program. -/
def RunB : Prop :=
  ∀ (m : (ℓ : Loc Cert.Kernel.nD Cert.Kernel.τ Cert.Kernel.sig) → Buf (Elt Bits) ℓ) (g : Dev Cert.Kernel.nD → PrngReg), Cert.Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_v0) = out (slotOf (pos (F := Bits) m c)) (xs (F := Bits) m c)
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

/-- The call's run, the same in the idealized program's text. -/
def RunB' : Prop :=
  ∀ (m : (ℓ : Loc Cert.KernelIdeal.nD Cert.KernelIdeal.τ Cert.KernelIdeal.sig) → Buf (Elt Bits) ℓ) (g : Dev Cert.KernelIdeal.nD → PrngReg), Cert.Pre_Kernel m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_v0) = out (slotOf (pos (F := Bits) m c)) (xs (F := Bits) m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The two texts are one program. -/
theorem runB_eq : RunB' = RunB := by sl_kernel_rfl

theorem run_bits : RunB := runB_eq ▸ (fun m ρ h => run_post (F := Bits) m ρ (routedB m h) : RunB')

/-- The call ends with its arguments as they were and every counter at zero. -/
theorem frame_kernel : Cert.quiescent_Kernel := fun m ρ h =>
  (θ_run Cert.Kernel.defs _ _).mono (fun _ r => ⟨fun c => (r.1 c).2, r.2⟩) (run_bits m ρ h)

/-- The idealized reference ends with its arguments as they were; it has no counters. -/
theorem frame_reference_ideal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The reference ends with its arguments as they were; it has no counters. -/
theorem frame_reference : Cert.quiescent_Reference := fun m ρ _ =>
  (θ_run Cert.Reference.defs _ _).mono (fun r h => ⟨fun c => (h c).2, sem_eq_zero_of_no_sems (by decide) r.2⟩) (Cert.Reference.Value.run (F := Bits) m ρ)

/-- The call and the reference end with the same words. -/
theorem same_bits : Cert.bitexact_Kernel_Reference := by
  intro m ρ m' ρ' h hag
  refine ⟨fun c => out (slotOf (pos (F := Bits) m c)) (xs (F := Bits) m c),
    (θ_run Cert.Kernel.defs _ _).mono (fun _ r => r.1) (run_bits m ρ h),
    (θ_run Cert.Reference.defs _ _).mono (fun r q c => ⟨(q c).1.trans ?_, (q c).2⟩) (Cert.Reference.Value.run (F := Bits) m' ρ')⟩
  obtain ⟨e0, _, e2⟩ := hag c
  rw [e0, e2]
  exact Cert.ReferenceIdeal.Hand.put_eq (F := Bits) (routedB m h c) _

/-- The idealized call and the idealized reference end with the same numbers. -/
theorem same_numbers : Cert.algebraic_KernelIdeal_ReferenceIdeal := by
  intro m ρ m' ρ' h hag
  refine ⟨fun c => out (slotOf (pos (F := Ideal) m c)) (xs (F := Ideal) m c),
    (θ_run Cert.KernelIdeal.defs _ _).mono (fun _ r => r.1) (run_post (F := Ideal) m ρ (routedI m h)),
    (θ_run Cert.ReferenceIdeal.defs _ _).mono (fun r q c => ⟨(q c).1.trans ?_, (q c).2⟩) (Cert.ReferenceIdeal.Value.run (F := Ideal) m' ρ')⟩
  obtain ⟨e0, _, e2⟩ := hag c
  rw [e0, e2]
  exact Cert.ReferenceIdeal.Hand.put_eq (F := Ideal) (routedI m h c) _

/-! The expert call. -/

/-- The precondition of the idealized expert call, decoded. -/
theorem tiledI (m : (ℓ : Loc Cert.Kernel2Ideal.nD Cert.Kernel2Ideal.τ Cert.Kernel2Ideal.sig) → Buf (Elt Ideal) ℓ) (h : Cert.Pre_Kernel2Ideal m) :
    Cert.Kernel2Ideal.Hand.Fine m := fun c => Cert.Pre_tiled.tiled_of (F := Ideal) _ _ _ _ _ _ _ _ (h c)

/-- The precondition of the expert call, decoded. -/
theorem tiledB (m : (ℓ : Loc Cert.Kernel2.nD Cert.Kernel2.τ Cert.Kernel2.sig) → Buf (Elt Bits) ℓ) (h : Cert.Pre_Kernel2 m) :
    Cert.Kernel2Ideal.Hand.Fine (F := Bits) m := fun c => Cert.Pre_tiled.tiled_of (F := Bits) _ _ _ _ _ _ _ _ (h c)

/-- The idealized expert call ends with its arguments as they were and every counter at zero. -/
theorem frame_experts_ideal : Cert.quiescent_Kernel2Ideal := fun m ρ h =>
  (θ_run Cert.Kernel2Ideal.defs _ _).mono (fun _ r => ⟨fun c => (r.1 c).2, r.2⟩)
    (Cert.Kernel2Ideal.Hand.run_post (F := Ideal) m ρ (Cert.Kernel2Ideal.Hand.fine_ok (tiledI m h)))

/-- The expert call's run in the words' text of the program. -/
def RunE : Prop :=
  ∀ (m : (ℓ : Loc Cert.Kernel2.nD Cert.Kernel2.τ Cert.Kernel2.sig) → Buf (Elt Bits) ℓ) (g : Dev Cert.Kernel2.nD → PrngReg), Cert.Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

/-- The expert call's run, the same in the idealized program's text. -/
def RunE' : Prop :=
  ∀ (m : (ℓ : Loc Cert.Kernel2Ideal.nD Cert.Kernel2Ideal.τ Cert.Kernel2Ideal.sig) → Buf (Elt Bits) ℓ) (g : Dev Cert.Kernel2Ideal.nD → PrngReg), Cert.Pre_Kernel2 m →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

/-- The two texts are one program. -/
theorem runE_eq : RunE' = RunE := by sl_kernel_rfl

/-- The expert call ends with its arguments as they were and every counter at zero. -/
theorem frame_experts : Cert.quiescent_Kernel2 :=
  (runE_eq ▸ (fun m ρ h => (θ_run Cert.Kernel2Ideal.defs _ _).mono (fun _ r => ⟨fun c => (r.1 c).2, r.2⟩)
    (Cert.Kernel2Ideal.Hand.run_post (F := Bits) m ρ (Cert.Kernel2Ideal.Hand.fine_ok (tiledB m h))) : RunE') : RunE)

/-- The expert call's idealized reference ends with its arguments as they were; it has no counters. -/
theorem frame_experts_reference : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- The idealized expert call and its reference end with the same numbers. -/
theorem same_experts : Cert.algebraic_Kernel2Ideal_Reference2Ideal := by
  intro m ρ m' ρ' h hag
  have hf := tiledI m h
  refine ⟨fun c => Cert.Kernel2Ideal.Hand.res m (Cert.Kernel2Ideal.Hand.fine_ok hf) c,
    (θ_run Cert.Kernel2Ideal.defs _ _).mono (fun _ r => r.1) (Cert.Kernel2Ideal.Hand.run_post (F := Ideal) m ρ (Cert.Kernel2Ideal.Hand.fine_ok hf)),
    (θ_run Cert.Reference2Ideal.defs _ _).mono (fun r q c => ⟨(q c).1.trans ?_, (q c).2⟩) (Cert.Reference2Ideal.Value.run (F := Ideal) m' ρ')⟩
  obtain ⟨e0, e1, e2, _, e4, e5, e6, e7⟩ := hag c
  refine (Cert.Reference2Ideal.Hand.res_eq m' c).trans ?_
  rw [e0, e1, e2, e4, e5, e6, e7]
  exact (Cert.Kernel2Ideal.Hand.res_both (Cert.Kernel2Ideal.Hand.fine_ok hf) hf c).symm

/-! The collect call. -/

/-- The precondition of the idealized collect call, decoded. -/
theorem slotsI (m : (ℓ : Loc Cert.Kernel3Ideal.nD Cert.Kernel3Ideal.τ Cert.Kernel3Ideal.sig) → Buf (Elt Ideal) ℓ) (h : Cert.Pre_Kernel3Ideal m) :
    Cert.Kernel3Ideal.Hand.InSlots m := fun c t => Cert.Pre_in_slots.slots_of (F := Ideal) _ _ _ _ _ _ (h c) t

/-- Over the words a named constant is the word it names. -/
local instance : Named Bits := ⟨fun _ _ {φ} b => FloatOps.ofBits φ b⟩

/-- The precondition of the collect call, decoded. -/
theorem slotsB (m : (ℓ : Loc Cert.Kernel3.nD Cert.Kernel3.τ Cert.Kernel3.sig) → Buf (Elt Bits) ℓ) (h : Cert.Pre_Kernel3 m) :
    Cert.Kernel3Ideal.Hand.InSlots (F := Bits) m := fun c t => Cert.Pre_in_slots.slots_of (F := Bits) _ _ _ _ _ _ (h c) t

/-- The idealized collect call ends with its arguments as they were and every counter at zero. -/
theorem frame_collect_ideal : Cert.quiescent_Kernel3Ideal := fun m ρ h =>
  (θ_run Cert.Kernel3Ideal.defs _ _).mono (fun _ r => ⟨fun c => (r.1 c).2, r.2⟩) (Cert.Kernel3Ideal.Hand.run_post (F := Ideal) m ρ (slotsI m h))

/-- The collect call's run in the words' text of the program. -/
def RunC : Prop :=
  ∀ (m : (ℓ : Loc Cert.Kernel3.nD Cert.Kernel3.τ Cert.Kernel3.sig) → Buf (Elt Bits) ℓ) (g : Dev Cert.Kernel3.nD → PrngReg), Cert.Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

/-- The collect call's run, the same in the idealized program's text. -/
def RunC' : Prop :=
  ∀ (m : (ℓ : Loc Cert.Kernel3Ideal.nD Cert.Kernel3Ideal.τ Cert.Kernel3Ideal.sig) → Buf (Elt Bits) ℓ) (g : Dev Cert.Kernel3Ideal.nD → PrngReg), Cert.Pre_Kernel3 m →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

/-- The two texts are one program. -/
theorem runC_eq : RunC' = RunC := by sl_kernel_rfl

/-- The collect call ends with its arguments as they were and every counter at zero. -/
theorem frame_collect : Cert.quiescent_Kernel3 :=
  (runC_eq ▸ (fun m ρ h => (θ_run Cert.Kernel3Ideal.defs _ _).mono (fun _ r => ⟨fun c => (r.1 c).2, r.2⟩)
    (Cert.Kernel3Ideal.Hand.run_post (F := Bits) m ρ (slotsB m h)) : RunC') : RunC)

/-- The collect call's idealized reference ends with its arguments as they were; it has no counters. -/
theorem frame_collect_reference : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The idealized collect call has one named constant, the fourth root of two. -/
theorem named_collect : Cert.preserves_Kernel3_Kernel3Ideal :=
  IdealRules.named_const.statement Cert.Kernel3Ideal.κ "alpha" .f32 0x3F9837F0#32 ((Real.sqrt (Real.sqrt 2) : ℝ) : EReal) rfl

/-- The idealized collect call and its reference end with the same numbers. -/
theorem same_collect : Cert.algebraic_Kernel3Ideal_Reference3Ideal := by
  intro m ρ m' ρ' h hag
  refine ⟨fun c => Cert.Kernel3Ideal.Hand.res m c,
    (θ_run Cert.Kernel3Ideal.defs _ _).mono (fun _ r => r.1) (Cert.Kernel3Ideal.Hand.run_post (F := Ideal) m ρ (slotsI m h)),
    (θ_run Cert.Reference3Ideal.defs _ _).mono (fun r q c => ⟨(q c).1.trans ?_, (q c).2⟩) (Cert.Reference3Ideal.Value.run (F := Ideal) m' ρ')⟩
  obtain ⟨e0, e1, e2, e3, e4, e5⟩ := hag c
  refine (Cert.Reference3Ideal.Hand.res_eq m' c).trans ?_
  rw [e0, e1, e2, e3, e4, e5]
  exact (Cert.Kernel3Ideal.Hand.res_normed (slotsI m h) c).symm

/-! The output projection's call. -/

/-- The idealized projection call ends with its arguments as they were and every counter at zero. -/
theorem frame_project_ideal : Cert.quiescent_Kernel4Ideal := fun m ρ _ =>
  (θ_run Cert.Kernel4Ideal.defs _ _).mono (fun _ r => ⟨fun c => (r.1 c).2, r.2⟩) (Cert.Kernel4Ideal.Hand.run_post (F := Ideal) m ρ)

/-- The projection call's run in the words' text of the program. -/
def RunP : Prop :=
  ∀ (m : (ℓ : Loc Cert.Kernel4.nD Cert.Kernel4.τ Cert.Kernel4.sig) → Buf (Elt Bits) ℓ) (g : Dev Cert.Kernel4.nD → PrngReg),
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

/-- The projection call's run, the same in the idealized program's text. -/
def RunP' : Prop :=
  ∀ (m : (ℓ : Loc Cert.Kernel4Ideal.nD Cert.Kernel4Ideal.τ Cert.Kernel4Ideal.sig) → Buf (Elt Bits) ℓ) (g : Dev Cert.Kernel4Ideal.nD → PrngReg),
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

/-- The two texts are one program. -/
theorem runP_eq : RunP' = RunP := by sl_kernel_rfl

/-- The projection call ends with its arguments as they were and every counter at zero. -/
theorem frame_project : Cert.quiescent_Kernel4 := fun m ρ _ =>
  (runP_eq ▸ (fun m ρ => (θ_run Cert.Kernel4Ideal.defs _ _).mono (fun _ r => ⟨fun c => (r.1 c).2, r.2⟩)
    (Cert.Kernel4Ideal.Hand.run_post (F := Bits) m ρ) : RunP') : RunP) m ρ

/-- The projection call's idealized reference ends with its arguments as they were; it has no counters. -/
theorem frame_project_reference : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

/-- The idealized projection call has one named constant, the fourth root of two. -/
theorem named_project : Cert.preserves_Kernel4_Kernel4Ideal :=
  IdealRules.named_const.statement Cert.Kernel4Ideal.κ "alpha" .f32 0x3F9837F0#32 ((Real.sqrt (Real.sqrt 2) : ℝ) : EReal) rfl

/-- The idealized projection call's first result and its reference are the same numbers. -/
theorem same_project : Cert.algebraic_Kernel4Ideal_Reference4Ideal := by
  intro m ρ m' ρ' _ hag
  refine ⟨fun c => Cert.Kernel4Ideal.Hand.res m c,
    (θ_run Cert.Kernel4Ideal.defs _ _).mono (fun _ r => r.1) (Cert.Kernel4Ideal.Hand.run_post (F := Ideal) m ρ),
    (θ_run Cert.Reference4Ideal.defs _ _).mono (fun r q c => ⟨(q c).1.trans ?_, (q c).2⟩) (Cert.Reference4Ideal.Value.run (F := Ideal) m' ρ')⟩
  obtain ⟨e0, e1, e2, e3, e4, e5, _⟩ := hag c
  refine (Cert.Reference4Ideal.Hand.res_eq m' c).trans ?_
  rw [e0, e1, e2, e3, e4, e5]
  exact (Cert.Kernel4Ideal.Hand.res_normed c).symm

/-! The input projection's call. -/

/-- The idealized input call ends with its arguments as they were and every counter at zero. -/
theorem frame_inputs_ideal : Cert.quiescent_Kernel5Ideal := fun m ρ _ =>
  (θ_run Cert.Kernel5Ideal.defs _ _).mono (fun _ r => ⟨fun c => (r.1 c).2.2, r.2⟩) (Cert.Kernel5Ideal.Hand.run_post (F := Ideal) m ρ)

/-- The input call's run in the words' text of the program. -/
def RunI : Prop :=
  ∀ (m : (ℓ : Loc Cert.Kernel5.nD Cert.Kernel5.τ Cert.Kernel5.sig) → Buf (Elt Bits) ℓ) (g : Dev Cert.Kernel5.nD → PrngReg),
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

/-- The input call's run, the same in the idealized program's text. -/
def RunI' : Prop :=
  ∀ (m : (ℓ : Loc Cert.Kernel5Ideal.nD Cert.Kernel5Ideal.τ Cert.Kernel5Ideal.sig) → Buf (Elt Bits) ℓ) (g : Dev Cert.Kernel5Ideal.nD → PrngReg),
    θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

/-- The two texts are one program. -/
theorem runI_eq : RunI' = RunI := by sl_kernel_rfl

/-- The input call ends with its arguments as they were and every counter at zero. -/
theorem frame_inputs : Cert.quiescent_Kernel5 := fun m ρ _ =>
  (runI_eq ▸ (fun m ρ => (θ_run Cert.Kernel5Ideal.defs _ _).mono (fun _ r => ⟨fun c => (r.1 c).2.2, r.2⟩)
    (Cert.Kernel5Ideal.Hand.run_post (F := Bits) m ρ) : RunI') : RunI) m ρ

/-- The input call's idealized reference ends with its arguments as they were; it has no counters. -/
theorem frame_inputs_reference : Cert.quiescent_Reference5Ideal := fun m ρ _ =>
  (θ_run Cert.Reference5Ideal.defs _ _).mono (fun r h => ⟨fun c => (h c).2.2, sem_eq_zero_of_no_sems (by decide) r.2⟩) (Cert.Reference5Ideal.Value.run (F := Ideal) m ρ)

/-- The idealized input call's values and gate and their reference are the same numbers. -/
theorem same_inputs : Cert.algebraic_Kernel5Ideal_Reference5Ideal := by
  intro m ρ m' ρ' _ hag
  refine ⟨fun c => Cert.Reference5Ideal.Hand.values (Cert.Reference5Ideal.Hand.product (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))),
    fun c => Cert.Reference5Ideal.Hand.gate (Cert.Reference5Ideal.Hand.product (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))),
    (θ_run Cert.Kernel5Ideal.defs _ _).mono (fun _ r c => ⟨(r.1 c).1.trans (Cert.Kernel5Ideal.Hand.values_eq m c),
      (r.1 c).2.1.trans (Cert.Kernel5Ideal.Hand.gate_eq m c), (r.1 c).2.2⟩) (Cert.Kernel5Ideal.Hand.run_post (F := Ideal) m ρ),
    (θ_run Cert.Reference5Ideal.defs _ _).mono (fun r q c => ⟨(q c).1.trans ?_, (q c).2.1.trans ?_, (q c).2.2⟩) (Cert.Reference5Ideal.Value.run (F := Ideal) m' ρ')⟩
  · obtain ⟨e0, e1, _⟩ := hag c
    show Cert.Reference5Ideal.Hand.values (Cert.Reference5Ideal.Hand.product _ _) = _
    rw [e0, e1]
  · obtain ⟨e0, e1, _⟩ := hag c
    show Cert.Reference5Ideal.Hand.gate (Cert.Reference5Ideal.Hand.product _ _) = _
    rw [e0, e1]

/-- Everything claimed. -/
theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_routed.Gen.facts, Cert.Pre_tiled.Gen.facts, Cert.Pre_in_slots.Gen.facts,
    frame_kernel, frame_kernel_ideal, frame_reference_ideal, fun m ρ _ => frame_reference_ideal m ρ trivial, frame_reference,
    frame_experts, frame_experts_ideal, frame_experts_reference, fun m ρ _ => frame_experts_reference m ρ trivial,
    frame_collect, frame_collect_ideal, frame_collect_reference, fun m ρ _ => frame_collect_reference m ρ trivial,
    frame_project, frame_project_ideal, frame_project_reference,
    frame_inputs, frame_inputs_ideal, frame_inputs_reference,
    trivial, same_bits, same_numbers, trivial, same_experts, named_collect, same_collect, named_project, same_project, trivial, same_inputs⟩

end Cert.Proof

end
